-- ==== Defs.lean ====
def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Conf (m : (ℓ : Loc Cert.Conf.nD Cert.Conf.τ Cert.Conf.sig) → Buf (Elt Bits) ℓ) : Prop :=
  True

def Pre_ConfIdeal (m : (ℓ : Loc Cert.ConfIdeal.nD Cert.ConfIdeal.τ Cert.ConfIdeal.sig) → Buf (Elt Ideal) ℓ) : Prop :=
  True

def Pre_ConfIdeal_finite_conf [hPre_finite_conf : Cert.Pre_finite_conf.Facts] (m : (ℓ : Loc Cert.ConfIdeal.nD Cert.ConfIdeal.τ Cert.ConfIdeal.sig) → Buf (Elt Ideal) ℓ) : Prop :=
  ∀ c : Dev Cert.ConfIdeal.nD,
    (Cert.Pre_finite_conf.fn (F := Ideal) (m ((c.tc : Thread Cert.ConfIdeal.nD Cert.ConfIdeal.τ).loc Cert.ConfIdeal.main_arg0)) (m ((c.tc : Thread Cert.ConfIdeal.nD Cert.ConfIdeal.τ).loc Cert.ConfIdeal.main_arg1)) (m ((c.tc : Thread Cert.ConfIdeal.nD Cert.ConfIdeal.τ).loc Cert.ConfIdeal.main_arg2)) (m ((c.tc : Thread Cert.ConfIdeal.nD Cert.ConfIdeal.τ).loc Cert.ConfIdeal.main_arg3)) (m ((c.tc : Thread Cert.ConfIdeal.nD Cert.ConfIdeal.τ).loc Cert.ConfIdeal.main_arg4)) (m ((c.tc : Thread Cert.ConfIdeal.nD Cert.ConfIdeal.τ).loc Cert.ConfIdeal.main_arg5))).1 = (fun _ => 1#1)
    ∧ (Cert.Pre_finite_conf.fn (F := Ideal) (m ((c.tc : Thread Cert.ConfIdeal.nD Cert.ConfIdeal.τ).loc Cert.ConfIdeal.main_arg0)) (m ((c.tc : Thread Cert.ConfIdeal.nD Cert.ConfIdeal.τ).loc Cert.ConfIdeal.main_arg1)) (m ((c.tc : Thread Cert.ConfIdeal.nD Cert.ConfIdeal.τ).loc Cert.ConfIdeal.main_arg2)) (m ((c.tc : Thread Cert.ConfIdeal.nD Cert.ConfIdeal.τ).loc Cert.ConfIdeal.main_arg3)) (m ((c.tc : Thread Cert.ConfIdeal.nD Cert.ConfIdeal.τ).loc Cert.ConfIdeal.main_arg4)) (m ((c.tc : Thread Cert.ConfIdeal.nD Cert.ConfIdeal.τ).loc Cert.ConfIdeal.main_arg5))).2.1 = (fun _ => 1#1)
    ∧ (Cert.Pre_finite_conf.fn (F := Ideal) (m ((c.tc : Thread Cert.ConfIdeal.nD Cert.ConfIdeal.τ).loc Cert.ConfIdeal.main_arg0)) (m ((c.tc : Thread Cert.ConfIdeal.nD Cert.ConfIdeal.τ).loc Cert.ConfIdeal.main_arg1)) (m ((c.tc : Thread Cert.ConfIdeal.nD Cert.ConfIdeal.τ).loc Cert.ConfIdeal.main_arg2)) (m ((c.tc : Thread Cert.ConfIdeal.nD Cert.ConfIdeal.τ).loc Cert.ConfIdeal.main_arg3)) (m ((c.tc : Thread Cert.ConfIdeal.nD Cert.ConfIdeal.τ).loc Cert.ConfIdeal.main_arg4)) (m ((c.tc : Thread Cert.ConfIdeal.nD Cert.ConfIdeal.τ).loc Cert.ConfIdeal.main_arg5))).2.2.1 = (fun _ => 1#1)
    ∧ (Cert.Pre_finite_conf.fn (F := Ideal) (m ((c.tc : Thread Cert.ConfIdeal.nD Cert.ConfIdeal.τ).loc Cert.ConfIdeal.main_arg0)) (m ((c.tc : Thread Cert.ConfIdeal.nD Cert.ConfIdeal.τ).loc Cert.ConfIdeal.main_arg1)) (m ((c.tc : Thread Cert.ConfIdeal.nD Cert.ConfIdeal.τ).loc Cert.ConfIdeal.main_arg2)) (m ((c.tc : Thread Cert.ConfIdeal.nD Cert.ConfIdeal.τ).loc Cert.ConfIdeal.main_arg3)) (m ((c.tc : Thread Cert.ConfIdeal.nD Cert.ConfIdeal.τ).loc Cert.ConfIdeal.main_arg4)) (m ((c.tc : Thread Cert.ConfIdeal.nD Cert.ConfIdeal.τ).loc Cert.ConfIdeal.main_arg5))).2.2.2.1 = (fun _ => 1#1)
    ∧ (Cert.Pre_finite_conf.fn (F := Ideal) (m ((c.tc : Thread Cert.ConfIdeal.nD Cert.ConfIdeal.τ).loc Cert.ConfIdeal.main_arg0)) (m ((c.tc : Thread Cert.ConfIdeal.nD Cert.ConfIdeal.τ).loc Cert.ConfIdeal.main_arg1)) (m ((c.tc : Thread Cert.ConfIdeal.nD Cert.ConfIdeal.τ).loc Cert.ConfIdeal.main_arg2)) (m ((c.tc : Thread Cert.ConfIdeal.nD Cert.ConfIdeal.τ).loc Cert.ConfIdeal.main_arg3)) (m ((c.tc : Thread Cert.ConfIdeal.nD Cert.ConfIdeal.τ).loc Cert.ConfIdeal.main_arg4)) (m ((c.tc : Thread Cert.ConfIdeal.nD Cert.ConfIdeal.τ).loc Cert.ConfIdeal.main_arg5))).2.2.2.2 = (fun _ => 1#1)

def Pre_ConfRefIdeal (m : (ℓ : Loc Cert.ConfRefIdeal.nD Cert.ConfRefIdeal.τ Cert.ConfRefIdeal.sig) → Buf (Elt Ideal) ℓ) : Prop :=
  True

def Pre_ConfRefIdeal_finite_conf [hPre_finite_conf : Cert.Pre_finite_conf.Facts] (m : (ℓ : Loc Cert.ConfRefIdeal.nD Cert.ConfRefIdeal.τ Cert.ConfRefIdeal.sig) → Buf (Elt Ideal) ℓ) : Prop :=
  ∀ c : Dev Cert.ConfRefIdeal.nD,
    (Cert.Pre_finite_conf.fn (F := Ideal) (m ((c.tc : Thread Cert.ConfRefIdeal.nD Cert.ConfRefIdeal.τ).loc Cert.ConfRefIdeal.main_arg0)) (m ((c.tc : Thread Cert.ConfRefIdeal.nD Cert.ConfRefIdeal.τ).loc Cert.ConfRefIdeal.main_arg1)) (m ((c.tc : Thread Cert.ConfRefIdeal.nD Cert.ConfRefIdeal.τ).loc Cert.ConfRefIdeal.main_arg2)) (m ((c.tc : Thread Cert.ConfRefIdeal.nD Cert.ConfRefIdeal.τ).loc Cert.ConfRefIdeal.main_arg3)) (m ((c.tc : Thread Cert.ConfRefIdeal.nD Cert.ConfRefIdeal.τ).loc Cert.ConfRefIdeal.main_arg4)) (m ((c.tc : Thread Cert.ConfRefIdeal.nD Cert.ConfRefIdeal.τ).loc Cert.ConfRefIdeal.main_arg5))).1 = (fun _ => 1#1)
    ∧ (Cert.Pre_finite_conf.fn (F := Ideal) (m ((c.tc : Thread Cert.ConfRefIdeal.nD Cert.ConfRefIdeal.τ).loc Cert.ConfRefIdeal.main_arg0)) (m ((c.tc : Thread Cert.ConfRefIdeal.nD Cert.ConfRefIdeal.τ).loc Cert.ConfRefIdeal.main_arg1)) (m ((c.tc : Thread Cert.ConfRefIdeal.nD Cert.ConfRefIdeal.τ).loc Cert.ConfRefIdeal.main_arg2)) (m ((c.tc : Thread Cert.ConfRefIdeal.nD Cert.ConfRefIdeal.τ).loc Cert.ConfRefIdeal.main_arg3)) (m ((c.tc : Thread Cert.ConfRefIdeal.nD Cert.ConfRefIdeal.τ).loc Cert.ConfRefIdeal.main_arg4)) (m ((c.tc : Thread Cert.ConfRefIdeal.nD Cert.ConfRefIdeal.τ).loc Cert.ConfRefIdeal.main_arg5))).2.1 = (fun _ => 1#1)
    ∧ (Cert.Pre_finite_conf.fn (F := Ideal) (m ((c.tc : Thread Cert.ConfRefIdeal.nD Cert.ConfRefIdeal.τ).loc Cert.ConfRefIdeal.main_arg0)) (m ((c.tc : Thread Cert.ConfRefIdeal.nD Cert.ConfRefIdeal.τ).loc Cert.ConfRefIdeal.main_arg1)) (m ((c.tc : Thread Cert.ConfRefIdeal.nD Cert.ConfRefIdeal.τ).loc Cert.ConfRefIdeal.main_arg2)) (m ((c.tc : Thread Cert.ConfRefIdeal.nD Cert.ConfRefIdeal.τ).loc Cert.ConfRefIdeal.main_arg3)) (m ((c.tc : Thread Cert.ConfRefIdeal.nD Cert.ConfRefIdeal.τ).loc Cert.ConfRefIdeal.main_arg4)) (m ((c.tc : Thread Cert.ConfRefIdeal.nD Cert.ConfRefIdeal.τ).loc Cert.ConfRefIdeal.main_arg5))).2.2.1 = (fun _ => 1#1)
    ∧ (Cert.Pre_finite_conf.fn (F := Ideal) (m ((c.tc : Thread Cert.ConfRefIdeal.nD Cert.ConfRefIdeal.τ).loc Cert.ConfRefIdeal.main_arg0)) (m ((c.tc : Thread Cert.ConfRefIdeal.nD Cert.ConfRefIdeal.τ).loc Cert.ConfRefIdeal.main_arg1)) (m ((c.tc : Thread Cert.ConfRefIdeal.nD Cert.ConfRefIdeal.τ).loc Cert.ConfRefIdeal.main_arg2)) (m ((c.tc : Thread Cert.ConfRefIdeal.nD Cert.ConfRefIdeal.τ).loc Cert.ConfRefIdeal.main_arg3)) (m ((c.tc : Thread Cert.ConfRefIdeal.nD Cert.ConfRefIdeal.τ).loc Cert.ConfRefIdeal.main_arg4)) (m ((c.tc : Thread Cert.ConfRefIdeal.nD Cert.ConfRefIdeal.τ).loc Cert.ConfRefIdeal.main_arg5))).2.2.2.1 = (fun _ => 1#1)
    ∧ (Cert.Pre_finite_conf.fn (F := Ideal) (m ((c.tc : Thread Cert.ConfRefIdeal.nD Cert.ConfRefIdeal.τ).loc Cert.ConfRefIdeal.main_arg0)) (m ((c.tc : Thread Cert.ConfRefIdeal.nD Cert.ConfRefIdeal.τ).loc Cert.ConfRefIdeal.main_arg1)) (m ((c.tc : Thread Cert.ConfRefIdeal.nD Cert.ConfRefIdeal.τ).loc Cert.ConfRefIdeal.main_arg2)) (m ((c.tc : Thread Cert.ConfRefIdeal.nD Cert.ConfRefIdeal.τ).loc Cert.ConfRefIdeal.main_arg3)) (m ((c.tc : Thread Cert.ConfRefIdeal.nD Cert.ConfRefIdeal.τ).loc Cert.ConfRefIdeal.main_arg4)) (m ((c.tc : Thread Cert.ConfRefIdeal.nD Cert.ConfRefIdeal.τ).loc Cert.ConfRefIdeal.main_arg5))).2.2.2.2 = (fun _ => 1#1)

def Pre_FwdOut (m : (ℓ : Loc Cert.FwdOut.nD Cert.FwdOut.τ Cert.FwdOut.sig) → Buf (Elt Bits) ℓ) : Prop :=
  True

def Pre_FwdOutIdeal (m : (ℓ : Loc Cert.FwdOutIdeal.nD Cert.FwdOutIdeal.τ Cert.FwdOutIdeal.sig) → Buf (Elt Ideal) ℓ) : Prop :=
  True

def Pre_FwdOutRefIdeal (m : (ℓ : Loc Cert.FwdOutRefIdeal.nD Cert.FwdOutRefIdeal.τ Cert.FwdOutRefIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_ConfFwd (m : (ℓ : Loc Cert.ConfFwd.nD Cert.ConfFwd.τ Cert.ConfFwd.sig) → Buf (Elt Bits) ℓ) : Prop :=
  True

def Pre_ConfFwdIdeal (m : (ℓ : Loc Cert.ConfFwdIdeal.nD Cert.ConfFwdIdeal.τ Cert.ConfFwdIdeal.sig) → Buf (Elt Ideal) ℓ) : Prop :=
  True

def Pre_ConfFwdIdeal_finite_conf_fwd [hPre_finite_conf_fwd : Cert.Pre_finite_conf_fwd.Facts] (m : (ℓ : Loc Cert.ConfFwdIdeal.nD Cert.ConfFwdIdeal.τ Cert.ConfFwdIdeal.sig) → Buf (Elt Ideal) ℓ) : Prop :=
  ∀ c : Dev Cert.ConfFwdIdeal.nD,
    (Cert.Pre_finite_conf_fwd.fn (F := Ideal) (m ((c.tc : Thread Cert.ConfFwdIdeal.nD Cert.ConfFwdIdeal.τ).loc Cert.ConfFwdIdeal.main_arg0)) (m ((c.tc : Thread Cert.ConfFwdIdeal.nD Cert.ConfFwdIdeal.τ).loc Cert.ConfFwdIdeal.main_arg1)) (m ((c.tc : Thread Cert.ConfFwdIdeal.nD Cert.ConfFwdIdeal.τ).loc Cert.ConfFwdIdeal.main_arg2)) (m ((c.tc : Thread Cert.ConfFwdIdeal.nD Cert.ConfFwdIdeal.τ).loc Cert.ConfFwdIdeal.main_arg3)) (m ((c.tc : Thread Cert.ConfFwdIdeal.nD Cert.ConfFwdIdeal.τ).loc Cert.ConfFwdIdeal.main_arg4))).1 = (fun _ => 1#1)
    ∧ (Cert.Pre_finite_conf_fwd.fn (F := Ideal) (m ((c.tc : Thread Cert.ConfFwdIdeal.nD Cert.ConfFwdIdeal.τ).loc Cert.ConfFwdIdeal.main_arg0)) (m ((c.tc : Thread Cert.ConfFwdIdeal.nD Cert.ConfFwdIdeal.τ).loc Cert.ConfFwdIdeal.main_arg1)) (m ((c.tc : Thread Cert.ConfFwdIdeal.nD Cert.ConfFwdIdeal.τ).loc Cert.ConfFwdIdeal.main_arg2)) (m ((c.tc : Thread Cert.ConfFwdIdeal.nD Cert.ConfFwdIdeal.τ).loc Cert.ConfFwdIdeal.main_arg3)) (m ((c.tc : Thread Cert.ConfFwdIdeal.nD Cert.ConfFwdIdeal.τ).loc Cert.ConfFwdIdeal.main_arg4))).2.1 = (fun _ => 1#1)
    ∧ (Cert.Pre_finite_conf_fwd.fn (F := Ideal) (m ((c.tc : Thread Cert.ConfFwdIdeal.nD Cert.ConfFwdIdeal.τ).loc Cert.ConfFwdIdeal.main_arg0)) (m ((c.tc : Thread Cert.ConfFwdIdeal.nD Cert.ConfFwdIdeal.τ).loc Cert.ConfFwdIdeal.main_arg1)) (m ((c.tc : Thread Cert.ConfFwdIdeal.nD Cert.ConfFwdIdeal.τ).loc Cert.ConfFwdIdeal.main_arg2)) (m ((c.tc : Thread Cert.ConfFwdIdeal.nD Cert.ConfFwdIdeal.τ).loc Cert.ConfFwdIdeal.main_arg3)) (m ((c.tc : Thread Cert.ConfFwdIdeal.nD Cert.ConfFwdIdeal.τ).loc Cert.ConfFwdIdeal.main_arg4))).2.2 = (fun _ => 1#1)

def Pre_ConfFwdRefIdeal (m : (ℓ : Loc Cert.ConfFwdRefIdeal.nD Cert.ConfFwdRefIdeal.τ Cert.ConfFwdRefIdeal.sig) → Buf (Elt Ideal) ℓ) : Prop :=
  True

def Pre_ConfFwdRefIdeal_finite_conf_fwd [hPre_finite_conf_fwd : Cert.Pre_finite_conf_fwd.Facts] (m : (ℓ : Loc Cert.ConfFwdRefIdeal.nD Cert.ConfFwdRefIdeal.τ Cert.ConfFwdRefIdeal.sig) → Buf (Elt Ideal) ℓ) : Prop :=
  ∀ c : Dev Cert.ConfFwdRefIdeal.nD,
    (Cert.Pre_finite_conf_fwd.fn (F := Ideal) (m ((c.tc : Thread Cert.ConfFwdRefIdeal.nD Cert.ConfFwdRefIdeal.τ).loc Cert.ConfFwdRefIdeal.main_arg0)) (m ((c.tc : Thread Cert.ConfFwdRefIdeal.nD Cert.ConfFwdRefIdeal.τ).loc Cert.ConfFwdRefIdeal.main_arg1)) (m ((c.tc : Thread Cert.ConfFwdRefIdeal.nD Cert.ConfFwdRefIdeal.τ).loc Cert.ConfFwdRefIdeal.main_arg2)) (m ((c.tc : Thread Cert.ConfFwdRefIdeal.nD Cert.ConfFwdRefIdeal.τ).loc Cert.ConfFwdRefIdeal.main_arg3)) (m ((c.tc : Thread Cert.ConfFwdRefIdeal.nD Cert.ConfFwdRefIdeal.τ).loc Cert.ConfFwdRefIdeal.main_arg4))).1 = (fun _ => 1#1)
    ∧ (Cert.Pre_finite_conf_fwd.fn (F := Ideal) (m ((c.tc : Thread Cert.ConfFwdRefIdeal.nD Cert.ConfFwdRefIdeal.τ).loc Cert.ConfFwdRefIdeal.main_arg0)) (m ((c.tc : Thread Cert.ConfFwdRefIdeal.nD Cert.ConfFwdRefIdeal.τ).loc Cert.ConfFwdRefIdeal.main_arg1)) (m ((c.tc : Thread Cert.ConfFwdRefIdeal.nD Cert.ConfFwdRefIdeal.τ).loc Cert.ConfFwdRefIdeal.main_arg2)) (m ((c.tc : Thread Cert.ConfFwdRefIdeal.nD Cert.ConfFwdRefIdeal.τ).loc Cert.ConfFwdRefIdeal.main_arg3)) (m ((c.tc : Thread Cert.ConfFwdRefIdeal.nD Cert.ConfFwdRefIdeal.τ).loc Cert.ConfFwdRefIdeal.main_arg4))).2.1 = (fun _ => 1#1)
    ∧ (Cert.Pre_finite_conf_fwd.fn (F := Ideal) (m ((c.tc : Thread Cert.ConfFwdRefIdeal.nD Cert.ConfFwdRefIdeal.τ).loc Cert.ConfFwdRefIdeal.main_arg0)) (m ((c.tc : Thread Cert.ConfFwdRefIdeal.nD Cert.ConfFwdRefIdeal.τ).loc Cert.ConfFwdRefIdeal.main_arg1)) (m ((c.tc : Thread Cert.ConfFwdRefIdeal.nD Cert.ConfFwdRefIdeal.τ).loc Cert.ConfFwdRefIdeal.main_arg2)) (m ((c.tc : Thread Cert.ConfFwdRefIdeal.nD Cert.ConfFwdRefIdeal.τ).loc Cert.ConfFwdRefIdeal.main_arg3)) (m ((c.tc : Thread Cert.ConfFwdRefIdeal.nD Cert.ConfFwdRefIdeal.τ).loc Cert.ConfFwdRefIdeal.main_arg4))).2.2 = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_GradFfnIn (m : (ℓ : Loc Cert.GradFfnIn.nD Cert.GradFfnIn.τ Cert.GradFfnIn.sig) → Buf (Elt Bits) ℓ) : Prop :=
  True

def Pre_GradFfnInIdeal (m : (ℓ : Loc Cert.GradFfnInIdeal.nD Cert.GradFfnInIdeal.τ Cert.GradFfnInIdeal.sig) → Buf (Elt Ideal) ℓ) : Prop :=
  True

def Pre_GradFfnInRefIdeal (m : (ℓ : Loc Cert.GradFfnInRefIdeal.nD Cert.GradFfnInRefIdeal.τ Cert.GradFfnInRefIdeal.sig) → Buf (Elt Ideal) ℓ) : Prop :=
  True

def Pre_GradFfnOut (m : (ℓ : Loc Cert.GradFfnOut.nD Cert.GradFfnOut.τ Cert.GradFfnOut.sig) → Buf (Elt Bits) ℓ) : Prop :=
  True

def Pre_GradFfnOutIdeal (m : (ℓ : Loc Cert.GradFfnOutIdeal.nD Cert.GradFfnOutIdeal.τ Cert.GradFfnOutIdeal.sig) → Buf (Elt Ideal) ℓ) : Prop :=
  True

def Pre_GradFfnOutRefIdeal (m : (ℓ : Loc Cert.GradFfnOutRefIdeal.nD Cert.GradFfnOutRefIdeal.τ Cert.GradFfnOutRefIdeal.sig) → Buf (Elt Ideal) ℓ) : Prop :=
  True

def Pre_AdaAdam (m : (ℓ : Loc Cert.AdaAdam.nD Cert.AdaAdam.τ Cert.AdaAdam.sig) → Buf (Elt Bits) ℓ) : Prop :=
  True

def Pre_AdaAdamIdeal (m : (ℓ : Loc Cert.AdaAdamIdeal.nD Cert.AdaAdamIdeal.τ Cert.AdaAdamIdeal.sig) → Buf (Elt Ideal) ℓ) : Prop :=
  True

def Pre_AdaAdamRefIdeal (m : (ℓ : Loc Cert.AdaAdamRefIdeal.nD Cert.AdaAdamRefIdeal.τ Cert.AdaAdamRefIdeal.sig) → Buf (Elt Ideal) ℓ) : Prop :=
  True

def Pre_RedAdam (m : (ℓ : Loc Cert.RedAdam.nD Cert.RedAdam.τ Cert.RedAdam.sig) → Buf (Elt Bits) ℓ) : Prop :=
  True

def Pre_RedAdamIdeal (m : (ℓ : Loc Cert.RedAdamIdeal.nD Cert.RedAdamIdeal.τ Cert.RedAdamIdeal.sig) → Buf (Elt Ideal) ℓ) : Prop :=
  True

def Pre_RedAdamRefIdeal (m : (ℓ : Loc Cert.RedAdamRefIdeal.nD Cert.RedAdamRefIdeal.τ Cert.RedAdamRefIdeal.sig) → Buf (Elt Ideal) ℓ) : Prop :=
  True

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_Conf [hConf : Cert.Conf.Facts] : Prop :=
  ∀ (m : (ℓ : Loc Cert.Conf.nD Cert.Conf.τ Cert.Conf.sig) → Buf (Elt Bits) ℓ) (g : Dev Cert.Conf.nD → PrngReg), Pre_Conf m →
    θ_run (Cert.Conf.defs (F := Bits)) (onTc (τ := Cert.Conf.τ) (Cert.Conf.main (F := Bits))) ⟨m, fun _ => 0, g⟩ (fun r => (∀ c : Dev Cert.Conf.nD,
      r.2.mem ((c.tc : Thread Cert.Conf.nD Cert.Conf.τ).loc Cert.Conf.main_arg0) = m ((c.tc : Thread Cert.Conf.nD Cert.Conf.τ).loc Cert.Conf.main_arg0)
      ∧ r.2.mem ((c.tc : Thread Cert.Conf.nD Cert.Conf.τ).loc Cert.Conf.main_arg1) = m ((c.tc : Thread Cert.Conf.nD Cert.Conf.τ).loc Cert.Conf.main_arg1)
      ∧ r.2.mem ((c.tc : Thread Cert.Conf.nD Cert.Conf.τ).loc Cert.Conf.main_arg2) = m ((c.tc : Thread Cert.Conf.nD Cert.Conf.τ).loc Cert.Conf.main_arg2)
      ∧ r.2.mem ((c.tc : Thread Cert.Conf.nD Cert.Conf.τ).loc Cert.Conf.main_arg3) = m ((c.tc : Thread Cert.Conf.nD Cert.Conf.τ).loc Cert.Conf.main_arg3)
      ∧ r.2.mem ((c.tc : Thread Cert.Conf.nD Cert.Conf.τ).loc Cert.Conf.main_arg4) = m ((c.tc : Thread Cert.Conf.nD Cert.Conf.τ).loc Cert.Conf.main_arg4)
      ∧ r.2.mem ((c.tc : Thread Cert.Conf.nD Cert.Conf.τ).loc Cert.Conf.main_arg5) = m ((c.tc : Thread Cert.Conf.nD Cert.Conf.τ).loc Cert.Conf.main_arg5))
      ∧ r.2.sem = fun _ => 0)

def quiescent_ConfIdeal [hConfIdeal : Cert.ConfIdeal.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
      ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
      ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
      ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
      ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5))
      ∧ r.2.sem = fun _ => 0)

def quiescent_ConfIdeal_pre_finite_conf [hConfIdeal : Cert.ConfIdeal.Facts] [hPre_finite_conf : Cert.Pre_finite_conf.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal_finite_conf m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
      ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
      ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
      ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
      ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5))
      ∧ r.2.sem = fun _ => 0)

def quiescent_ConfRefIdeal [hConfRefIdeal : Cert.ConfRefIdeal.Facts] : Prop :=
  ∀ (m : (ℓ : Loc Cert.ConfRefIdeal.nD Cert.ConfRefIdeal.τ Cert.ConfRefIdeal.sig) → Buf (Elt Ideal) ℓ) (g : Dev Cert.ConfRefIdeal.nD → PrngReg), Pre_ConfRefIdeal m →
    θ_run (Cert.ConfRefIdeal.defs (F := Ideal)) (onTc (τ := Cert.ConfRefIdeal.τ) (Cert.ConfRefIdeal.main (F := Ideal))) ⟨m, fun _ => 0, g⟩ (fun r => (∀ c : Dev Cert.ConfRefIdeal.nD,
      r.2.mem ((c.tc : Thread Cert.ConfRefIdeal.nD Cert.ConfRefIdeal.τ).loc Cert.ConfRefIdeal.main_arg0) = m ((c.tc : Thread Cert.ConfRefIdeal.nD Cert.ConfRefIdeal.τ).loc Cert.ConfRefIdeal.main_arg0)
      ∧ r.2.mem ((c.tc : Thread Cert.ConfRefIdeal.nD Cert.ConfRefIdeal.τ).loc Cert.ConfRefIdeal.main_arg1) = m ((c.tc : Thread Cert.ConfRefIdeal.nD Cert.ConfRefIdeal.τ).loc Cert.ConfRefIdeal.main_arg1)
      ∧ r.2.mem ((c.tc : Thread Cert.ConfRefIdeal.nD Cert.ConfRefIdeal.τ).loc Cert.ConfRefIdeal.main_arg2) = m ((c.tc : Thread Cert.ConfRefIdeal.nD Cert.ConfRefIdeal.τ).loc Cert.ConfRefIdeal.main_arg2)
      ∧ r.2.mem ((c.tc : Thread Cert.ConfRefIdeal.nD Cert.ConfRefIdeal.τ).loc Cert.ConfRefIdeal.main_arg3) = m ((c.tc : Thread Cert.ConfRefIdeal.nD Cert.ConfRefIdeal.τ).loc Cert.ConfRefIdeal.main_arg3)
      ∧ r.2.mem ((c.tc : Thread Cert.ConfRefIdeal.nD Cert.ConfRefIdeal.τ).loc Cert.ConfRefIdeal.main_arg4) = m ((c.tc : Thread Cert.ConfRefIdeal.nD Cert.ConfRefIdeal.τ).loc Cert.ConfRefIdeal.main_arg4)
      ∧ r.2.mem ((c.tc : Thread Cert.ConfRefIdeal.nD Cert.ConfRefIdeal.τ).loc Cert.ConfRefIdeal.main_arg5) = m ((c.tc : Thread Cert.ConfRefIdeal.nD Cert.ConfRefIdeal.τ).loc Cert.ConfRefIdeal.main_arg5))
      ∧ r.2.sem = fun _ => 0)

def quiescent_ConfRefIdeal_pre_finite_conf [hConfRefIdeal : Cert.ConfRefIdeal.Facts] [hPre_finite_conf : Cert.Pre_finite_conf.Facts] : Prop :=
  ∀ (m : (ℓ : Loc Cert.ConfRefIdeal.nD Cert.ConfRefIdeal.τ Cert.ConfRefIdeal.sig) → Buf (Elt Ideal) ℓ) (g : Dev Cert.ConfRefIdeal.nD → PrngReg), Pre_ConfRefIdeal_finite_conf m →
    θ_run (Cert.ConfRefIdeal.defs (F := Ideal)) (onTc (τ := Cert.ConfRefIdeal.τ) (Cert.ConfRefIdeal.main (F := Ideal))) ⟨m, fun _ => 0, g⟩ (fun r => (∀ c : Dev Cert.ConfRefIdeal.nD,
      r.2.mem ((c.tc : Thread Cert.ConfRefIdeal.nD Cert.ConfRefIdeal.τ).loc Cert.ConfRefIdeal.main_arg0) = m ((c.tc : Thread Cert.ConfRefIdeal.nD Cert.ConfRefIdeal.τ).loc Cert.ConfRefIdeal.main_arg0)
      ∧ r.2.mem ((c.tc : Thread Cert.ConfRefIdeal.nD Cert.ConfRefIdeal.τ).loc Cert.ConfRefIdeal.main_arg1) = m ((c.tc : Thread Cert.ConfRefIdeal.nD Cert.ConfRefIdeal.τ).loc Cert.ConfRefIdeal.main_arg1)
      ∧ r.2.mem ((c.tc : Thread Cert.ConfRefIdeal.nD Cert.ConfRefIdeal.τ).loc Cert.ConfRefIdeal.main_arg2) = m ((c.tc : Thread Cert.ConfRefIdeal.nD Cert.ConfRefIdeal.τ).loc Cert.ConfRefIdeal.main_arg2)
      ∧ r.2.mem ((c.tc : Thread Cert.ConfRefIdeal.nD Cert.ConfRefIdeal.τ).loc Cert.ConfRefIdeal.main_arg3) = m ((c.tc : Thread Cert.ConfRefIdeal.nD Cert.ConfRefIdeal.τ).loc Cert.ConfRefIdeal.main_arg3)
      ∧ r.2.mem ((c.tc : Thread Cert.ConfRefIdeal.nD Cert.ConfRefIdeal.τ).loc Cert.ConfRefIdeal.main_arg4) = m ((c.tc : Thread Cert.ConfRefIdeal.nD Cert.ConfRefIdeal.τ).loc Cert.ConfRefIdeal.main_arg4)
      ∧ r.2.mem ((c.tc : Thread Cert.ConfRefIdeal.nD Cert.ConfRefIdeal.τ).loc Cert.ConfRefIdeal.main_arg5) = m ((c.tc : Thread Cert.ConfRefIdeal.nD Cert.ConfRefIdeal.τ).loc Cert.ConfRefIdeal.main_arg5))
      ∧ r.2.sem = fun _ => 0)

def quiescent_FwdOut [hFwdOut : Cert.FwdOut.Facts] : Prop :=
  ∀ (m : (ℓ : Loc Cert.FwdOut.nD Cert.FwdOut.τ Cert.FwdOut.sig) → Buf (Elt Bits) ℓ) (g : Dev Cert.FwdOut.nD → PrngReg), Pre_FwdOut m →
    θ_run (Cert.FwdOut.defs (F := Bits)) (onTc (τ := Cert.FwdOut.τ) (Cert.FwdOut.main (F := Bits))) ⟨m, fun _ => 0, g⟩ (fun r => (∀ c : Dev Cert.FwdOut.nD,
      r.2.mem ((c.tc : Thread Cert.FwdOut.nD Cert.FwdOut.τ).loc Cert.FwdOut.main_arg0) = m ((c.tc : Thread Cert.FwdOut.nD Cert.FwdOut.τ).loc Cert.FwdOut.main_arg0)
      ∧ r.2.mem ((c.tc : Thread Cert.FwdOut.nD Cert.FwdOut.τ).loc Cert.FwdOut.main_arg1) = m ((c.tc : Thread Cert.FwdOut.nD Cert.FwdOut.τ).loc Cert.FwdOut.main_arg1)
      ∧ r.2.mem ((c.tc : Thread Cert.FwdOut.nD Cert.FwdOut.τ).loc Cert.FwdOut.main_arg2) = m ((c.tc : Thread Cert.FwdOut.nD Cert.FwdOut.τ).loc Cert.FwdOut.main_arg2)
      ∧ r.2.mem ((c.tc : Thread Cert.FwdOut.nD Cert.FwdOut.τ).loc Cert.FwdOut.main_arg3) = m ((c.tc : Thread Cert.FwdOut.nD Cert.FwdOut.τ).loc Cert.FwdOut.main_arg3)
      ∧ r.2.mem ((c.tc : Thread Cert.FwdOut.nD Cert.FwdOut.τ).loc Cert.FwdOut.main_arg4) = m ((c.tc : Thread Cert.FwdOut.nD Cert.FwdOut.τ).loc Cert.FwdOut.main_arg4)
      ∧ r.2.mem ((c.tc : Thread Cert.FwdOut.nD Cert.FwdOut.τ).loc Cert.FwdOut.main_arg5) = m ((c.tc : Thread Cert.FwdOut.nD Cert.FwdOut.τ).loc Cert.FwdOut.main_arg5))
      ∧ r.2.sem = fun _ => 0)

def quiescent_FwdOutIdeal [hFwdOutIdeal : Cert.FwdOutIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg), Pre_FwdOutIdeal m →
    θ_run (Cert.FwdOutIdeal.defs (F := Ideal)) (onTc (τ := Cert.FwdOutIdeal.τ) (Cert.FwdOutIdeal.main (F := Ideal))) ⟨m, fun _ => 0, g⟩ (fun r => (∀ c : Dev Cert.FwdOutIdeal.nD,
      r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
      ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
      ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2)
      ∧ r.2.mem ((c.tc : Thread Cert.FwdOutIdeal.nD Cert.FwdOutIdeal.τ).loc Cert.FwdOutIdeal.main_arg3) = m ((c.tc : Thread Cert.FwdOutIdeal.nD Cert.FwdOutIdeal.τ).loc Cert.FwdOutIdeal.main_arg3)
      ∧ r.2.mem ((c.tc : Thread Cert.FwdOutIdeal.nD Cert.FwdOutIdeal.τ).loc Cert.FwdOutIdeal.main_arg4) = m ((c.tc : Thread Cert.FwdOutIdeal.nD Cert.FwdOutIdeal.τ).loc Cert.FwdOutIdeal.main_arg4)
      ∧ r.2.mem ((c.tc : Thread Cert.FwdOutIdeal.nD Cert.FwdOutIdeal.τ).loc Cert.FwdOutIdeal.main_arg5) = m ((c.tc : Thread Cert.FwdOutIdeal.nD Cert.FwdOutIdeal.τ).loc Cert.FwdOutIdeal.main_arg5))
      ∧ r.2.sem = fun _ => 0)

def quiescent_FwdOutRefIdeal [hFwdOutRefIdeal : Cert.FwdOutRefIdeal.Facts] : Prop :=
  ∀ (m : (ℓ : Loc Cert.FwdOutRefIdeal.nD Cert.FwdOutRefIdeal.τ Cert.FwdOutRefIdeal.sig) → Buf (Elt Ideal) ℓ) (g : Dev Cert.FwdOutRefIdeal.nD → PrngReg), Pre_FwdOutRefIdeal m →
    θ_run (Cert.FwdOutRefIdeal.defs (F := Ideal)) (onTc (τ := Cert.FwdOutRefIdeal.τ) (Cert.FwdOutRefIdeal.main (F := Ideal))) ⟨m, fun _ => 0, g⟩ (fun r => (∀ c : Dev Cert.FwdOutRefIdeal.nD,
      r.2.mem ((c.tc : Thread Cert.FwdOutRefIdeal.nD Cert.FwdOutRefIdeal.τ).loc Cert.FwdOutRefIdeal.main_arg0) = m ((c.tc : Thread Cert.FwdOutRefIdeal.nD Cert.FwdOutRefIdeal.τ).loc Cert.FwdOutRefIdeal.main_arg0)
      ∧ r.2.mem ((c.tc : Thread Cert.FwdOutRefIdeal.nD Cert.FwdOutRefIdeal.τ).loc Cert.FwdOutRefIdeal.main_arg1) = m ((c.tc : Thread Cert.FwdOutRefIdeal.nD Cert.FwdOutRefIdeal.τ).loc Cert.FwdOutRefIdeal.main_arg1)
      ∧ r.2.mem ((c.tc : Thread Cert.FwdOutRefIdeal.nD Cert.FwdOutRefIdeal.τ).loc Cert.FwdOutRefIdeal.main_arg2) = m ((c.tc : Thread Cert.FwdOutRefIdeal.nD Cert.FwdOutRefIdeal.τ).loc Cert.FwdOutRefIdeal.main_arg2)
      ∧ r.2.mem ((c.tc : Thread Cert.FwdOutRefIdeal.nD Cert.FwdOutRefIdeal.τ).loc Cert.FwdOutRefIdeal.main_arg3) = m ((c.tc : Thread Cert.FwdOutRefIdeal.nD Cert.FwdOutRefIdeal.τ).loc Cert.FwdOutRefIdeal.main_arg3)
      ∧ r.2.mem ((c.tc : Thread Cert.FwdOutRefIdeal.nD Cert.FwdOutRefIdeal.τ).loc Cert.FwdOutRefIdeal.main_arg4) = m ((c.tc : Thread Cert.FwdOutRefIdeal.nD Cert.FwdOutRefIdeal.τ).loc Cert.FwdOutRefIdeal.main_arg4)
      ∧ r.2.mem ((c.tc : Thread Cert.FwdOutRefIdeal.nD Cert.FwdOutRefIdeal.τ).loc Cert.FwdOutRefIdeal.main_arg5) = m ((c.tc : Thread Cert.FwdOutRefIdeal.nD Cert.FwdOutRefIdeal.τ).loc Cert.FwdOutRefIdeal.main_arg5))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2)
      ∧ r.2.mem ((c.tc : Thread Cert.FwdIn.nD Cert.FwdIn.τ).loc Cert.FwdIn.main_arg3) = m ((c.tc : Thread Cert.FwdIn.nD Cert.FwdIn.τ).loc Cert.FwdIn.main_arg3)
      ∧ r.2.mem ((c.tc : Thread Cert.FwdIn.nD Cert.FwdIn.τ).loc Cert.FwdIn.main_arg4) = m ((c.tc : Thread Cert.FwdIn.nD Cert.FwdIn.τ).loc Cert.FwdIn.main_arg4))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
      ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3)
      ∧ r.2.mem ((c.tc : Thread Cert.FwdInIdeal.nD Cert.FwdInIdeal.τ).loc Cert.FwdInIdeal.main_arg4) = m ((c.tc : Thread Cert.FwdInIdeal.nD Cert.FwdInIdeal.τ).loc Cert.FwdInIdeal.main_arg4))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1)
      ∧ r.2.mem ((c.tc : Thread Cert.FwdInRefIdeal.nD Cert.FwdInRefIdeal.τ).loc Cert.FwdInRefIdeal.main_arg2) = m ((c.tc : Thread Cert.FwdInRefIdeal.nD Cert.FwdInRefIdeal.τ).loc Cert.FwdInRefIdeal.main_arg2)
      ∧ r.2.mem ((c.tc : Thread Cert.FwdInRefIdeal.nD Cert.FwdInRefIdeal.τ).loc Cert.FwdInRefIdeal.main_arg3) = m ((c.tc : Thread Cert.FwdInRefIdeal.nD Cert.FwdInRefIdeal.τ).loc Cert.FwdInRefIdeal.main_arg3)
      ∧ r.2.mem ((c.tc : Thread Cert.FwdInRefIdeal.nD Cert.FwdInRefIdeal.τ).loc Cert.FwdInRefIdeal.main_arg4) = m ((c.tc : Thread Cert.FwdInRefIdeal.nD Cert.FwdInRefIdeal.τ).loc Cert.FwdInRefIdeal.main_arg4))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7))
      ∧ r.2.sem = fun _ => 0)

def quiescent_ConfFwd [hConfFwd : Cert.ConfFwd.Facts] : Prop :=
  ∀ (m : (ℓ : Loc Cert.ConfFwd.nD Cert.ConfFwd.τ Cert.ConfFwd.sig) → Buf (Elt Bits) ℓ) (g : Dev Cert.ConfFwd.nD → PrngReg), Pre_ConfFwd m →
    θ_run (Cert.ConfFwd.defs (F := Bits)) (onTc (τ := Cert.ConfFwd.τ) (Cert.ConfFwd.main (F := Bits))) ⟨m, fun _ => 0, g⟩ (fun r => (∀ c : Dev Cert.ConfFwd.nD,
      r.2.mem ((c.tc : Thread Cert.ConfFwd.nD Cert.ConfFwd.τ).loc Cert.ConfFwd.main_arg0) = m ((c.tc : Thread Cert.ConfFwd.nD Cert.ConfFwd.τ).loc Cert.ConfFwd.main_arg0)
      ∧ r.2.mem ((c.tc : Thread Cert.ConfFwd.nD Cert.ConfFwd.τ).loc Cert.ConfFwd.main_arg1) = m ((c.tc : Thread Cert.ConfFwd.nD Cert.ConfFwd.τ).loc Cert.ConfFwd.main_arg1)
      ∧ r.2.mem ((c.tc : Thread Cert.ConfFwd.nD Cert.ConfFwd.τ).loc Cert.ConfFwd.main_arg2) = m ((c.tc : Thread Cert.ConfFwd.nD Cert.ConfFwd.τ).loc Cert.ConfFwd.main_arg2)
      ∧ r.2.mem ((c.tc : Thread Cert.ConfFwd.nD Cert.ConfFwd.τ).loc Cert.ConfFwd.main_arg3) = m ((c.tc : Thread Cert.ConfFwd.nD Cert.ConfFwd.τ).loc Cert.ConfFwd.main_arg3)
      ∧ r.2.mem ((c.tc : Thread Cert.ConfFwd.nD Cert.ConfFwd.τ).loc Cert.ConfFwd.main_arg4) = m ((c.tc : Thread Cert.ConfFwd.nD Cert.ConfFwd.τ).loc Cert.ConfFwd.main_arg4))
      ∧ r.2.sem = fun _ => 0)

def quiescent_ConfFwdIdeal [hConfFwdIdeal : Cert.ConfFwdIdeal.Facts] : Prop :=
  ∀ (m : (ℓ : Loc Cert.ConfFwdIdeal.nD Cert.ConfFwdIdeal.τ Cert.ConfFwdIdeal.sig) → Buf (Elt Ideal) ℓ) (g : Dev Cert.ConfFwdIdeal.nD → PrngReg), Pre_ConfFwdIdeal m →
    θ_run (Cert.ConfFwdIdeal.defs (F := Ideal)) (onTc (τ := Cert.ConfFwdIdeal.τ) (Cert.ConfFwdIdeal.main (F := Ideal))) ⟨m, fun _ => 0, g⟩ (fun r => (∀ c : Dev Cert.ConfFwdIdeal.nD,
      r.2.mem ((c.tc : Thread Cert.ConfFwdIdeal.nD Cert.ConfFwdIdeal.τ).loc Cert.ConfFwdIdeal.main_arg0) = m ((c.tc : Thread Cert.ConfFwdIdeal.nD Cert.ConfFwdIdeal.τ).loc Cert.ConfFwdIdeal.main_arg0)
      ∧ r.2.mem ((c.tc : Thread Cert.ConfFwdIdeal.nD Cert.ConfFwdIdeal.τ).loc Cert.ConfFwdIdeal.main_arg1) = m ((c.tc : Thread Cert.ConfFwdIdeal.nD Cert.ConfFwdIdeal.τ).loc Cert.ConfFwdIdeal.main_arg1)
      ∧ r.2.mem ((c.tc : Thread Cert.ConfFwdIdeal.nD Cert.ConfFwdIdeal.τ).loc Cert.ConfFwdIdeal.main_arg2) = m ((c.tc : Thread Cert.ConfFwdIdeal.nD Cert.ConfFwdIdeal.τ).loc Cert.ConfFwdIdeal.main_arg2)
      ∧ r.2.mem ((c.tc : Thread Cert.ConfFwdIdeal.nD Cert.ConfFwdIdeal.τ).loc Cert.ConfFwdIdeal.main_arg3) = m ((c.tc : Thread Cert.ConfFwdIdeal.nD Cert.ConfFwdIdeal.τ).loc Cert.ConfFwdIdeal.main_arg3)
      ∧ r.2.mem ((c.tc : Thread Cert.ConfFwdIdeal.nD Cert.ConfFwdIdeal.τ).loc Cert.ConfFwdIdeal.main_arg4) = m ((c.tc : Thread Cert.ConfFwdIdeal.nD Cert.ConfFwdIdeal.τ).loc Cert.ConfFwdIdeal.main_arg4))
      ∧ r.2.sem = fun _ => 0)

def quiescent_ConfFwdIdeal_pre_finite_conf_fwd [hConfFwdIdeal : Cert.ConfFwdIdeal.Facts] [hPre_finite_conf_fwd : Cert.Pre_finite_conf_fwd.Facts] : Prop :=
  ∀ (m : (ℓ : Loc Cert.ConfFwdIdeal.nD Cert.ConfFwdIdeal.τ Cert.ConfFwdIdeal.sig) → Buf (Elt Ideal) ℓ) (g : Dev Cert.ConfFwdIdeal.nD → PrngReg), Pre_ConfFwdIdeal_finite_conf_fwd m →
    θ_run (Cert.ConfFwdIdeal.defs (F := Ideal)) (onTc (τ := Cert.ConfFwdIdeal.τ) (Cert.ConfFwdIdeal.main (F := Ideal))) ⟨m, fun _ => 0, g⟩ (fun r => (∀ c : Dev Cert.ConfFwdIdeal.nD,
      r.2.mem ((c.tc : Thread Cert.ConfFwdIdeal.nD Cert.ConfFwdIdeal.τ).loc Cert.ConfFwdIdeal.main_arg0) = m ((c.tc : Thread Cert.ConfFwdIdeal.nD Cert.ConfFwdIdeal.τ).loc Cert.ConfFwdIdeal.main_arg0)
      ∧ r.2.mem ((c.tc : Thread Cert.ConfFwdIdeal.nD Cert.ConfFwdIdeal.τ).loc Cert.ConfFwdIdeal.main_arg1) = m ((c.tc : Thread Cert.ConfFwdIdeal.nD Cert.ConfFwdIdeal.τ).loc Cert.ConfFwdIdeal.main_arg1)
      ∧ r.2.mem ((c.tc : Thread Cert.ConfFwdIdeal.nD Cert.ConfFwdIdeal.τ).loc Cert.ConfFwdIdeal.main_arg2) = m ((c.tc : Thread Cert.ConfFwdIdeal.nD Cert.ConfFwdIdeal.τ).loc Cert.ConfFwdIdeal.main_arg2)
      ∧ r.2.mem ((c.tc : Thread Cert.ConfFwdIdeal.nD Cert.ConfFwdIdeal.τ).loc Cert.ConfFwdIdeal.main_arg3) = m ((c.tc : Thread Cert.ConfFwdIdeal.nD Cert.ConfFwdIdeal.τ).loc Cert.ConfFwdIdeal.main_arg3)
      ∧ r.2.mem ((c.tc : Thread Cert.ConfFwdIdeal.nD Cert.ConfFwdIdeal.τ).loc Cert.ConfFwdIdeal.main_arg4) = m ((c.tc : Thread Cert.ConfFwdIdeal.nD Cert.ConfFwdIdeal.τ).loc Cert.ConfFwdIdeal.main_arg4))
      ∧ r.2.sem = fun _ => 0)

def quiescent_ConfFwdRefIdeal [hConfFwdRefIdeal : Cert.ConfFwdRefIdeal.Facts] : Prop :=
  ∀ (m : (ℓ : Loc Cert.ConfFwdRefIdeal.nD Cert.ConfFwdRefIdeal.τ Cert.ConfFwdRefIdeal.sig) → Buf (Elt Ideal) ℓ) (g : Dev Cert.ConfFwdRefIdeal.nD → PrngReg), Pre_ConfFwdRefIdeal m →
    θ_run (Cert.ConfFwdRefIdeal.defs (F := Ideal)) (onTc (τ := Cert.ConfFwdRefIdeal.τ) (Cert.ConfFwdRefIdeal.main (F := Ideal))) ⟨m, fun _ => 0, g⟩ (fun r => (∀ c : Dev Cert.ConfFwdRefIdeal.nD,
      r.2.mem ((c.tc : Thread Cert.ConfFwdRefIdeal.nD Cert.ConfFwdRefIdeal.τ).loc Cert.ConfFwdRefIdeal.main_arg0) = m ((c.tc : Thread Cert.ConfFwdRefIdeal.nD Cert.ConfFwdRefIdeal.τ).loc Cert.ConfFwdRefIdeal.main_arg0)
      ∧ r.2.mem ((c.tc : Thread Cert.ConfFwdRefIdeal.nD Cert.ConfFwdRefIdeal.τ).loc Cert.ConfFwdRefIdeal.main_arg1) = m ((c.tc : Thread Cert.ConfFwdRefIdeal.nD Cert.ConfFwdRefIdeal.τ).loc Cert.ConfFwdRefIdeal.main_arg1)
      ∧ r.2.mem ((c.tc : Thread Cert.ConfFwdRefIdeal.nD Cert.ConfFwdRefIdeal.τ).loc Cert.ConfFwdRefIdeal.main_arg2) = m ((c.tc : Thread Cert.ConfFwdRefIdeal.nD Cert.ConfFwdRefIdeal.τ).loc Cert.ConfFwdRefIdeal.main_arg2)
      ∧ r.2.mem ((c.tc : Thread Cert.ConfFwdRefIdeal.nD Cert.ConfFwdRefIdeal.τ).loc Cert.ConfFwdRefIdeal.main_arg3) = m ((c.tc : Thread Cert.ConfFwdRefIdeal.nD Cert.ConfFwdRefIdeal.τ).loc Cert.ConfFwdRefIdeal.main_arg3)
      ∧ r.2.mem ((c.tc : Thread Cert.ConfFwdRefIdeal.nD Cert.ConfFwdRefIdeal.τ).loc Cert.ConfFwdRefIdeal.main_arg4) = m ((c.tc : Thread Cert.ConfFwdRefIdeal.nD Cert.ConfFwdRefIdeal.τ).loc Cert.ConfFwdRefIdeal.main_arg4))
      ∧ r.2.sem = fun _ => 0)

def quiescent_ConfFwdRefIdeal_pre_finite_conf_fwd [hConfFwdRefIdeal : Cert.ConfFwdRefIdeal.Facts] [hPre_finite_conf_fwd : Cert.Pre_finite_conf_fwd.Facts] : Prop :=
  ∀ (m : (ℓ : Loc Cert.ConfFwdRefIdeal.nD Cert.ConfFwdRefIdeal.τ Cert.ConfFwdRefIdeal.sig) → Buf (Elt Ideal) ℓ) (g : Dev Cert.ConfFwdRefIdeal.nD → PrngReg), Pre_ConfFwdRefIdeal_finite_conf_fwd m →
    θ_run (Cert.ConfFwdRefIdeal.defs (F := Ideal)) (onTc (τ := Cert.ConfFwdRefIdeal.τ) (Cert.ConfFwdRefIdeal.main (F := Ideal))) ⟨m, fun _ => 0, g⟩ (fun r => (∀ c : Dev Cert.ConfFwdRefIdeal.nD,
      r.2.mem ((c.tc : Thread Cert.ConfFwdRefIdeal.nD Cert.ConfFwdRefIdeal.τ).loc Cert.ConfFwdRefIdeal.main_arg0) = m ((c.tc : Thread Cert.ConfFwdRefIdeal.nD Cert.ConfFwdRefIdeal.τ).loc Cert.ConfFwdRefIdeal.main_arg0)
      ∧ r.2.mem ((c.tc : Thread Cert.ConfFwdRefIdeal.nD Cert.ConfFwdRefIdeal.τ).loc Cert.ConfFwdRefIdeal.main_arg1) = m ((c.tc : Thread Cert.ConfFwdRefIdeal.nD Cert.ConfFwdRefIdeal.τ).loc Cert.ConfFwdRefIdeal.main_arg1)
      ∧ r.2.mem ((c.tc : Thread Cert.ConfFwdRefIdeal.nD Cert.ConfFwdRefIdeal.τ).loc Cert.ConfFwdRefIdeal.main_arg2) = m ((c.tc : Thread Cert.ConfFwdRefIdeal.nD Cert.ConfFwdRefIdeal.τ).loc Cert.ConfFwdRefIdeal.main_arg2)
      ∧ r.2.mem ((c.tc : Thread Cert.ConfFwdRefIdeal.nD Cert.ConfFwdRefIdeal.τ).loc Cert.ConfFwdRefIdeal.main_arg3) = m ((c.tc : Thread Cert.ConfFwdRefIdeal.nD Cert.ConfFwdRefIdeal.τ).loc Cert.ConfFwdRefIdeal.main_arg3)
      ∧ r.2.mem ((c.tc : Thread Cert.ConfFwdRefIdeal.nD Cert.ConfFwdRefIdeal.τ).loc Cert.ConfFwdRefIdeal.main_arg4) = m ((c.tc : Thread Cert.ConfFwdRefIdeal.nD Cert.ConfFwdRefIdeal.τ).loc Cert.ConfFwdRefIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1))
      ∧ r.2.sem = fun _ => 0)

def quiescent_GradFfnIn [hGradFfnIn : Cert.GradFfnIn.Facts] : Prop :=
  ∀ (m : (ℓ : Loc Cert.GradFfnIn.nD Cert.GradFfnIn.τ Cert.GradFfnIn.sig) → Buf (Elt Bits) ℓ) (g : Dev Cert.GradFfnIn.nD → PrngReg), Pre_GradFfnIn m →
    θ_run (Cert.GradFfnIn.defs (F := Bits)) (onTc (τ := Cert.GradFfnIn.τ) (Cert.GradFfnIn.main (F := Bits))) ⟨m, fun _ => 0, g⟩ (fun r => (∀ c : Dev Cert.GradFfnIn.nD,
      r.2.mem ((c.tc : Thread Cert.GradFfnIn.nD Cert.GradFfnIn.τ).loc Cert.GradFfnIn.main_arg0) = m ((c.tc : Thread Cert.GradFfnIn.nD Cert.GradFfnIn.τ).loc Cert.GradFfnIn.main_arg0)
      ∧ r.2.mem ((c.tc : Thread Cert.GradFfnIn.nD Cert.GradFfnIn.τ).loc Cert.GradFfnIn.main_arg1) = m ((c.tc : Thread Cert.GradFfnIn.nD Cert.GradFfnIn.τ).loc Cert.GradFfnIn.main_arg1)
      ∧ r.2.mem ((c.tc : Thread Cert.GradFfnIn.nD Cert.GradFfnIn.τ).loc Cert.GradFfnIn.main_arg2) = m ((c.tc : Thread Cert.GradFfnIn.nD Cert.GradFfnIn.τ).loc Cert.GradFfnIn.main_arg2)
      ∧ r.2.mem ((c.tc : Thread Cert.GradFfnIn.nD Cert.GradFfnIn.τ).loc Cert.GradFfnIn.main_arg3) = m ((c.tc : Thread Cert.GradFfnIn.nD Cert.GradFfnIn.τ).loc Cert.GradFfnIn.main_arg3)
      ∧ r.2.mem ((c.tc : Thread Cert.GradFfnIn.nD Cert.GradFfnIn.τ).loc Cert.GradFfnIn.main_arg4) = m ((c.tc : Thread Cert.GradFfnIn.nD Cert.GradFfnIn.τ).loc Cert.GradFfnIn.main_arg4)
      ∧ r.2.mem ((c.tc : Thread Cert.GradFfnIn.nD Cert.GradFfnIn.τ).loc Cert.GradFfnIn.main_arg5) = m ((c.tc : Thread Cert.GradFfnIn.nD Cert.GradFfnIn.τ).loc Cert.GradFfnIn.main_arg5))
      ∧ r.2.sem = fun _ => 0)

def quiescent_GradFfnInIdeal [hGradFfnInIdeal : Cert.GradFfnInIdeal.Facts] : Prop :=
  ∀ (m : (ℓ : Loc Cert.GradFfnInIdeal.nD Cert.GradFfnInIdeal.τ Cert.GradFfnInIdeal.sig) → Buf (Elt Ideal) ℓ) (g : Dev Cert.GradFfnInIdeal.nD → PrngReg), Pre_GradFfnInIdeal m →
    θ_run (Cert.GradFfnInIdeal.defs (F := Ideal)) (onTc (τ := Cert.GradFfnInIdeal.τ) (Cert.GradFfnInIdeal.main (F := Ideal))) ⟨m, fun _ => 0, g⟩ (fun r => (∀ c : Dev Cert.GradFfnInIdeal.nD,
      r.2.mem ((c.tc : Thread Cert.GradFfnInIdeal.nD Cert.GradFfnInIdeal.τ).loc Cert.GradFfnInIdeal.main_arg0) = m ((c.tc : Thread Cert.GradFfnInIdeal.nD Cert.GradFfnInIdeal.τ).loc Cert.GradFfnInIdeal.main_arg0)
      ∧ r.2.mem ((c.tc : Thread Cert.GradFfnInIdeal.nD Cert.GradFfnInIdeal.τ).loc Cert.GradFfnInIdeal.main_arg1) = m ((c.tc : Thread Cert.GradFfnInIdeal.nD Cert.GradFfnInIdeal.τ).loc Cert.GradFfnInIdeal.main_arg1)
      ∧ r.2.mem ((c.tc : Thread Cert.GradFfnInIdeal.nD Cert.GradFfnInIdeal.τ).loc Cert.GradFfnInIdeal.main_arg2) = m ((c.tc : Thread Cert.GradFfnInIdeal.nD Cert.GradFfnInIdeal.τ).loc Cert.GradFfnInIdeal.main_arg2)
      ∧ r.2.mem ((c.tc : Thread Cert.GradFfnInIdeal.nD Cert.GradFfnInIdeal.τ).loc Cert.GradFfnInIdeal.main_arg3) = m ((c.tc : Thread Cert.GradFfnInIdeal.nD Cert.GradFfnInIdeal.τ).loc Cert.GradFfnInIdeal.main_arg3)
      ∧ r.2.mem ((c.tc : Thread Cert.GradFfnInIdeal.nD Cert.GradFfnInIdeal.τ).loc Cert.GradFfnInIdeal.main_arg4) = m ((c.tc : Thread Cert.GradFfnInIdeal.nD Cert.GradFfnInIdeal.τ).loc Cert.GradFfnInIdeal.main_arg4)
      ∧ r.2.mem ((c.tc : Thread Cert.GradFfnInIdeal.nD Cert.GradFfnInIdeal.τ).loc Cert.GradFfnInIdeal.main_arg5) = m ((c.tc : Thread Cert.GradFfnInIdeal.nD Cert.GradFfnInIdeal.τ).loc Cert.GradFfnInIdeal.main_arg5))
      ∧ r.2.sem = fun _ => 0)

def quiescent_GradFfnInRefIdeal [hGradFfnInRefIdeal : Cert.GradFfnInRefIdeal.Facts] : Prop :=
  ∀ (m : (ℓ : Loc Cert.GradFfnInRefIdeal.nD Cert.GradFfnInRefIdeal.τ Cert.GradFfnInRefIdeal.sig) → Buf (Elt Ideal) ℓ) (g : Dev Cert.GradFfnInRefIdeal.nD → PrngReg), Pre_GradFfnInRefIdeal m →
    θ_run (Cert.GradFfnInRefIdeal.defs (F := Ideal)) (onTc (τ := Cert.GradFfnInRefIdeal.τ) (Cert.GradFfnInRefIdeal.main (F := Ideal))) ⟨m, fun _ => 0, g⟩ (fun r => (∀ c : Dev Cert.GradFfnInRefIdeal.nD,
      r.2.mem ((c.tc : Thread Cert.GradFfnInRefIdeal.nD Cert.GradFfnInRefIdeal.τ).loc Cert.GradFfnInRefIdeal.main_arg0) = m ((c.tc : Thread Cert.GradFfnInRefIdeal.nD Cert.GradFfnInRefIdeal.τ).loc Cert.GradFfnInRefIdeal.main_arg0)
      ∧ r.2.mem ((c.tc : Thread Cert.GradFfnInRefIdeal.nD Cert.GradFfnInRefIdeal.τ).loc Cert.GradFfnInRefIdeal.main_arg1) = m ((c.tc : Thread Cert.GradFfnInRefIdeal.nD Cert.GradFfnInRefIdeal.τ).loc Cert.GradFfnInRefIdeal.main_arg1)
      ∧ r.2.mem ((c.tc : Thread Cert.GradFfnInRefIdeal.nD Cert.GradFfnInRefIdeal.τ).loc Cert.GradFfnInRefIdeal.main_arg2) = m ((c.tc : Thread Cert.GradFfnInRefIdeal.nD Cert.GradFfnInRefIdeal.τ).loc Cert.GradFfnInRefIdeal.main_arg2)
      ∧ r.2.mem ((c.tc : Thread Cert.GradFfnInRefIdeal.nD Cert.GradFfnInRefIdeal.τ).loc Cert.GradFfnInRefIdeal.main_arg3) = m ((c.tc : Thread Cert.GradFfnInRefIdeal.nD Cert.GradFfnInRefIdeal.τ).loc Cert.GradFfnInRefIdeal.main_arg3)
      ∧ r.2.mem ((c.tc : Thread Cert.GradFfnInRefIdeal.nD Cert.GradFfnInRefIdeal.τ).loc Cert.GradFfnInRefIdeal.main_arg4) = m ((c.tc : Thread Cert.GradFfnInRefIdeal.nD Cert.GradFfnInRefIdeal.τ).loc Cert.GradFfnInRefIdeal.main_arg4)
      ∧ r.2.mem ((c.tc : Thread Cert.GradFfnInRefIdeal.nD Cert.GradFfnInRefIdeal.τ).loc Cert.GradFfnInRefIdeal.main_arg5) = m ((c.tc : Thread Cert.GradFfnInRefIdeal.nD Cert.GradFfnInRefIdeal.τ).loc Cert.GradFfnInRefIdeal.main_arg5))
      ∧ r.2.sem = fun _ => 0)

def quiescent_GradFfnOut [hGradFfnOut : Cert.GradFfnOut.Facts] : Prop :=
  ∀ (m : (ℓ : Loc Cert.GradFfnOut.nD Cert.GradFfnOut.τ Cert.GradFfnOut.sig) → Buf (Elt Bits) ℓ) (g : Dev Cert.GradFfnOut.nD → PrngReg), Pre_GradFfnOut m →
    θ_run (Cert.GradFfnOut.defs (F := Bits)) (onTc (τ := Cert.GradFfnOut.τ) (Cert.GradFfnOut.main (F := Bits))) ⟨m, fun _ => 0, g⟩ (fun r => (∀ c : Dev Cert.GradFfnOut.nD,
      r.2.mem ((c.tc : Thread Cert.GradFfnOut.nD Cert.GradFfnOut.τ).loc Cert.GradFfnOut.main_arg0) = m ((c.tc : Thread Cert.GradFfnOut.nD Cert.GradFfnOut.τ).loc Cert.GradFfnOut.main_arg0)
      ∧ r.2.mem ((c.tc : Thread Cert.GradFfnOut.nD Cert.GradFfnOut.τ).loc Cert.GradFfnOut.main_arg1) = m ((c.tc : Thread Cert.GradFfnOut.nD Cert.GradFfnOut.τ).loc Cert.GradFfnOut.main_arg1)
      ∧ r.2.mem ((c.tc : Thread Cert.GradFfnOut.nD Cert.GradFfnOut.τ).loc Cert.GradFfnOut.main_arg2) = m ((c.tc : Thread Cert.GradFfnOut.nD Cert.GradFfnOut.τ).loc Cert.GradFfnOut.main_arg2)
      ∧ r.2.mem ((c.tc : Thread Cert.GradFfnOut.nD Cert.GradFfnOut.τ).loc Cert.GradFfnOut.main_arg3) = m ((c.tc : Thread Cert.GradFfnOut.nD Cert.GradFfnOut.τ).loc Cert.GradFfnOut.main_arg3)
      ∧ r.2.mem ((c.tc : Thread Cert.GradFfnOut.nD Cert.GradFfnOut.τ).loc Cert.GradFfnOut.main_arg4) = m ((c.tc : Thread Cert.GradFfnOut.nD Cert.GradFfnOut.τ).loc Cert.GradFfnOut.main_arg4)
      ∧ r.2.mem ((c.tc : Thread Cert.GradFfnOut.nD Cert.GradFfnOut.τ).loc Cert.GradFfnOut.main_arg5) = m ((c.tc : Thread Cert.GradFfnOut.nD Cert.GradFfnOut.τ).loc Cert.GradFfnOut.main_arg5)
      ∧ r.2.mem ((c.tc : Thread Cert.GradFfnOut.nD Cert.GradFfnOut.τ).loc Cert.GradFfnOut.main_arg6) = m ((c.tc : Thread Cert.GradFfnOut.nD Cert.GradFfnOut.τ).loc Cert.GradFfnOut.main_arg6))
      ∧ r.2.sem = fun _ => 0)

def quiescent_GradFfnOutIdeal [hGradFfnOutIdeal : Cert.GradFfnOutIdeal.Facts] : Prop :=
  ∀ (m : (ℓ : Loc Cert.GradFfnOutIdeal.nD Cert.GradFfnOutIdeal.τ Cert.GradFfnOutIdeal.sig) → Buf (Elt Ideal) ℓ) (g : Dev Cert.GradFfnOutIdeal.nD → PrngReg), Pre_GradFfnOutIdeal m →
    θ_run (Cert.GradFfnOutIdeal.defs (F := Ideal)) (onTc (τ := Cert.GradFfnOutIdeal.τ) (Cert.GradFfnOutIdeal.main (F := Ideal))) ⟨m, fun _ => 0, g⟩ (fun r => (∀ c : Dev Cert.GradFfnOutIdeal.nD,
      r.2.mem ((c.tc : Thread Cert.GradFfnOutIdeal.nD Cert.GradFfnOutIdeal.τ).loc Cert.GradFfnOutIdeal.main_arg0) = m ((c.tc : Thread Cert.GradFfnOutIdeal.nD Cert.GradFfnOutIdeal.τ).loc Cert.GradFfnOutIdeal.main_arg0)
      ∧ r.2.mem ((c.tc : Thread Cert.GradFfnOutIdeal.nD Cert.GradFfnOutIdeal.τ).loc Cert.GradFfnOutIdeal.main_arg1) = m ((c.tc : Thread Cert.GradFfnOutIdeal.nD Cert.GradFfnOutIdeal.τ).loc Cert.GradFfnOutIdeal.main_arg1)
      ∧ r.2.mem ((c.tc : Thread Cert.GradFfnOutIdeal.nD Cert.GradFfnOutIdeal.τ).loc Cert.GradFfnOutIdeal.main_arg2) = m ((c.tc : Thread Cert.GradFfnOutIdeal.nD Cert.GradFfnOutIdeal.τ).loc Cert.GradFfnOutIdeal.main_arg2)
      ∧ r.2.mem ((c.tc : Thread Cert.GradFfnOutIdeal.nD Cert.GradFfnOutIdeal.τ).loc Cert.GradFfnOutIdeal.main_arg3) = m ((c.tc : Thread Cert.GradFfnOutIdeal.nD Cert.GradFfnOutIdeal.τ).loc Cert.GradFfnOutIdeal.main_arg3)
      ∧ r.2.mem ((c.tc : Thread Cert.GradFfnOutIdeal.nD Cert.GradFfnOutIdeal.τ).loc Cert.GradFfnOutIdeal.main_arg4) = m ((c.tc : Thread Cert.GradFfnOutIdeal.nD Cert.GradFfnOutIdeal.τ).loc Cert.GradFfnOutIdeal.main_arg4)
      ∧ r.2.mem ((c.tc : Thread Cert.GradFfnOutIdeal.nD Cert.GradFfnOutIdeal.τ).loc Cert.GradFfnOutIdeal.main_arg5) = m ((c.tc : Thread Cert.GradFfnOutIdeal.nD Cert.GradFfnOutIdeal.τ).loc Cert.GradFfnOutIdeal.main_arg5)
      ∧ r.2.mem ((c.tc : Thread Cert.GradFfnOutIdeal.nD Cert.GradFfnOutIdeal.τ).loc Cert.GradFfnOutIdeal.main_arg6) = m ((c.tc : Thread Cert.GradFfnOutIdeal.nD Cert.GradFfnOutIdeal.τ).loc Cert.GradFfnOutIdeal.main_arg6))
      ∧ r.2.sem = fun _ => 0)

def quiescent_GradFfnOutRefIdeal [hGradFfnOutRefIdeal : Cert.GradFfnOutRefIdeal.Facts] : Prop :=
  ∀ (m : (ℓ : Loc Cert.GradFfnOutRefIdeal.nD Cert.GradFfnOutRefIdeal.τ Cert.GradFfnOutRefIdeal.sig) → Buf (Elt Ideal) ℓ) (g : Dev Cert.GradFfnOutRefIdeal.nD → PrngReg), Pre_GradFfnOutRefIdeal m →
    θ_run (Cert.GradFfnOutRefIdeal.defs (F := Ideal)) (onTc (τ := Cert.GradFfnOutRefIdeal.τ) (Cert.GradFfnOutRefIdeal.main (F := Ideal))) ⟨m, fun _ => 0, g⟩ (fun r => (∀ c : Dev Cert.GradFfnOutRefIdeal.nD,
      r.2.mem ((c.tc : Thread Cert.GradFfnOutRefIdeal.nD Cert.GradFfnOutRefIdeal.τ).loc Cert.GradFfnOutRefIdeal.main_arg0) = m ((c.tc : Thread Cert.GradFfnOutRefIdeal.nD Cert.GradFfnOutRefIdeal.τ).loc Cert.GradFfnOutRefIdeal.main_arg0)
      ∧ r.2.mem ((c.tc : Thread Cert.GradFfnOutRefIdeal.nD Cert.GradFfnOutRefIdeal.τ).loc Cert.GradFfnOutRefIdeal.main_arg1) = m ((c.tc : Thread Cert.GradFfnOutRefIdeal.nD Cert.GradFfnOutRefIdeal.τ).loc Cert.GradFfnOutRefIdeal.main_arg1)
      ∧ r.2.mem ((c.tc : Thread Cert.GradFfnOutRefIdeal.nD Cert.GradFfnOutRefIdeal.τ).loc Cert.GradFfnOutRefIdeal.main_arg2) = m ((c.tc : Thread Cert.GradFfnOutRefIdeal.nD Cert.GradFfnOutRefIdeal.τ).loc Cert.GradFfnOutRefIdeal.main_arg2)
      ∧ r.2.mem ((c.tc : Thread Cert.GradFfnOutRefIdeal.nD Cert.GradFfnOutRefIdeal.τ).loc Cert.GradFfnOutRefIdeal.main_arg3) = m ((c.tc : Thread Cert.GradFfnOutRefIdeal.nD Cert.GradFfnOutRefIdeal.τ).loc Cert.GradFfnOutRefIdeal.main_arg3)
      ∧ r.2.mem ((c.tc : Thread Cert.GradFfnOutRefIdeal.nD Cert.GradFfnOutRefIdeal.τ).loc Cert.GradFfnOutRefIdeal.main_arg4) = m ((c.tc : Thread Cert.GradFfnOutRefIdeal.nD Cert.GradFfnOutRefIdeal.τ).loc Cert.GradFfnOutRefIdeal.main_arg4)
      ∧ r.2.mem ((c.tc : Thread Cert.GradFfnOutRefIdeal.nD Cert.GradFfnOutRefIdeal.τ).loc Cert.GradFfnOutRefIdeal.main_arg5) = m ((c.tc : Thread Cert.GradFfnOutRefIdeal.nD Cert.GradFfnOutRefIdeal.τ).loc Cert.GradFfnOutRefIdeal.main_arg5)
      ∧ r.2.mem ((c.tc : Thread Cert.GradFfnOutRefIdeal.nD Cert.GradFfnOutRefIdeal.τ).loc Cert.GradFfnOutRefIdeal.main_arg6) = m ((c.tc : Thread Cert.GradFfnOutRefIdeal.nD Cert.GradFfnOutRefIdeal.τ).loc Cert.GradFfnOutRefIdeal.main_arg6))
      ∧ r.2.sem = fun _ => 0)

def quiescent_AdaAdam [hAdaAdam : Cert.AdaAdam.Facts] : Prop :=
  ∀ (m : (ℓ : Loc Cert.AdaAdam.nD Cert.AdaAdam.τ Cert.AdaAdam.sig) → Buf (Elt Bits) ℓ) (g : Dev Cert.AdaAdam.nD → PrngReg), Pre_AdaAdam m →
    θ_run (Cert.AdaAdam.defs (F := Bits)) (onTc (τ := Cert.AdaAdam.τ) (Cert.AdaAdam.main (F := Bits))) ⟨m, fun _ => 0, g⟩ (fun r => (∀ c : Dev Cert.AdaAdam.nD,
      r.2.mem ((c.tc : Thread Cert.AdaAdam.nD Cert.AdaAdam.τ).loc Cert.AdaAdam.main_arg0) = m ((c.tc : Thread Cert.AdaAdam.nD Cert.AdaAdam.τ).loc Cert.AdaAdam.main_arg0)
      ∧ r.2.mem ((c.tc : Thread Cert.AdaAdam.nD Cert.AdaAdam.τ).loc Cert.AdaAdam.main_arg1) = m ((c.tc : Thread Cert.AdaAdam.nD Cert.AdaAdam.τ).loc Cert.AdaAdam.main_arg1)
      ∧ r.2.mem ((c.tc : Thread Cert.AdaAdam.nD Cert.AdaAdam.τ).loc Cert.AdaAdam.main_arg2) = m ((c.tc : Thread Cert.AdaAdam.nD Cert.AdaAdam.τ).loc Cert.AdaAdam.main_arg2)
      ∧ r.2.mem ((c.tc : Thread Cert.AdaAdam.nD Cert.AdaAdam.τ).loc Cert.AdaAdam.main_arg3) = m ((c.tc : Thread Cert.AdaAdam.nD Cert.AdaAdam.τ).loc Cert.AdaAdam.main_arg3)
      ∧ r.2.mem ((c.tc : Thread Cert.AdaAdam.nD Cert.AdaAdam.τ).loc Cert.AdaAdam.main_arg4) = m ((c.tc : Thread Cert.AdaAdam.nD Cert.AdaAdam.τ).loc Cert.AdaAdam.main_arg4))
      ∧ r.2.sem = fun _ => 0)

def quiescent_AdaAdamIdeal [hAdaAdamIdeal : Cert.AdaAdamIdeal.Facts] : Prop :=
  ∀ (m : (ℓ : Loc Cert.AdaAdamIdeal.nD Cert.AdaAdamIdeal.τ Cert.AdaAdamIdeal.sig) → Buf (Elt Ideal) ℓ) (g : Dev Cert.AdaAdamIdeal.nD → PrngReg), Pre_AdaAdamIdeal m →
    θ_run (Cert.AdaAdamIdeal.defs (F := Ideal)) (onTc (τ := Cert.AdaAdamIdeal.τ) (Cert.AdaAdamIdeal.main (F := Ideal))) ⟨m, fun _ => 0, g⟩ (fun r => (∀ c : Dev Cert.AdaAdamIdeal.nD,
      r.2.mem ((c.tc : Thread Cert.AdaAdamIdeal.nD Cert.AdaAdamIdeal.τ).loc Cert.AdaAdamIdeal.main_arg0) = m ((c.tc : Thread Cert.AdaAdamIdeal.nD Cert.AdaAdamIdeal.τ).loc Cert.AdaAdamIdeal.main_arg0)
      ∧ r.2.mem ((c.tc : Thread Cert.AdaAdamIdeal.nD Cert.AdaAdamIdeal.τ).loc Cert.AdaAdamIdeal.main_arg1) = m ((c.tc : Thread Cert.AdaAdamIdeal.nD Cert.AdaAdamIdeal.τ).loc Cert.AdaAdamIdeal.main_arg1)
      ∧ r.2.mem ((c.tc : Thread Cert.AdaAdamIdeal.nD Cert.AdaAdamIdeal.τ).loc Cert.AdaAdamIdeal.main_arg2) = m ((c.tc : Thread Cert.AdaAdamIdeal.nD Cert.AdaAdamIdeal.τ).loc Cert.AdaAdamIdeal.main_arg2)
      ∧ r.2.mem ((c.tc : Thread Cert.AdaAdamIdeal.nD Cert.AdaAdamIdeal.τ).loc Cert.AdaAdamIdeal.main_arg3) = m ((c.tc : Thread Cert.AdaAdamIdeal.nD Cert.AdaAdamIdeal.τ).loc Cert.AdaAdamIdeal.main_arg3)
      ∧ r.2.mem ((c.tc : Thread Cert.AdaAdamIdeal.nD Cert.AdaAdamIdeal.τ).loc Cert.AdaAdamIdeal.main_arg4) = m ((c.tc : Thread Cert.AdaAdamIdeal.nD Cert.AdaAdamIdeal.τ).loc Cert.AdaAdamIdeal.main_arg4))
      ∧ r.2.sem = fun _ => 0)

def quiescent_AdaAdamRefIdeal [hAdaAdamRefIdeal : Cert.AdaAdamRefIdeal.Facts] : Prop :=
  ∀ (m : (ℓ : Loc Cert.AdaAdamRefIdeal.nD Cert.AdaAdamRefIdeal.τ Cert.AdaAdamRefIdeal.sig) → Buf (Elt Ideal) ℓ) (g : Dev Cert.AdaAdamRefIdeal.nD → PrngReg), Pre_AdaAdamRefIdeal m →
    θ_run (Cert.AdaAdamRefIdeal.defs (F := Ideal)) (onTc (τ := Cert.AdaAdamRefIdeal.τ) (Cert.AdaAdamRefIdeal.main (F := Ideal))) ⟨m, fun _ => 0, g⟩ (fun r => (∀ c : Dev Cert.AdaAdamRefIdeal.nD,
      r.2.mem ((c.tc : Thread Cert.AdaAdamRefIdeal.nD Cert.AdaAdamRefIdeal.τ).loc Cert.AdaAdamRefIdeal.main_arg0) = m ((c.tc : Thread Cert.AdaAdamRefIdeal.nD Cert.AdaAdamRefIdeal.τ).loc Cert.AdaAdamRefIdeal.main_arg0)
      ∧ r.2.mem ((c.tc : Thread Cert.AdaAdamRefIdeal.nD Cert.AdaAdamRefIdeal.τ).loc Cert.AdaAdamRefIdeal.main_arg1) = m ((c.tc : Thread Cert.AdaAdamRefIdeal.nD Cert.AdaAdamRefIdeal.τ).loc Cert.AdaAdamRefIdeal.main_arg1)
      ∧ r.2.mem ((c.tc : Thread Cert.AdaAdamRefIdeal.nD Cert.AdaAdamRefIdeal.τ).loc Cert.AdaAdamRefIdeal.main_arg2) = m ((c.tc : Thread Cert.AdaAdamRefIdeal.nD Cert.AdaAdamRefIdeal.τ).loc Cert.AdaAdamRefIdeal.main_arg2)
      ∧ r.2.mem ((c.tc : Thread Cert.AdaAdamRefIdeal.nD Cert.AdaAdamRefIdeal.τ).loc Cert.AdaAdamRefIdeal.main_arg3) = m ((c.tc : Thread Cert.AdaAdamRefIdeal.nD Cert.AdaAdamRefIdeal.τ).loc Cert.AdaAdamRefIdeal.main_arg3)
      ∧ r.2.mem ((c.tc : Thread Cert.AdaAdamRefIdeal.nD Cert.AdaAdamRefIdeal.τ).loc Cert.AdaAdamRefIdeal.main_arg4) = m ((c.tc : Thread Cert.AdaAdamRefIdeal.nD Cert.AdaAdamRefIdeal.τ).loc Cert.AdaAdamRefIdeal.main_arg4))
      ∧ r.2.sem = fun _ => 0)

def quiescent_RedAdam [hRedAdam : Cert.RedAdam.Facts] : Prop :=
  ∀ (m : (ℓ : Loc Cert.RedAdam.nD Cert.RedAdam.τ Cert.RedAdam.sig) → Buf (Elt Bits) ℓ) (g : Dev Cert.RedAdam.nD → PrngReg), Pre_RedAdam m →
    θ_run (Cert.RedAdam.defs (F := Bits)) (onTc (τ := Cert.RedAdam.τ) (Cert.RedAdam.main (F := Bits))) ⟨m, fun _ => 0, g⟩ (fun r => (∀ c : Dev Cert.RedAdam.nD,
      r.2.mem ((c.tc : Thread Cert.RedAdam.nD Cert.RedAdam.τ).loc Cert.RedAdam.main_arg0) = m ((c.tc : Thread Cert.RedAdam.nD Cert.RedAdam.τ).loc Cert.RedAdam.main_arg0)
      ∧ r.2.mem ((c.tc : Thread Cert.RedAdam.nD Cert.RedAdam.τ).loc Cert.RedAdam.main_arg1) = m ((c.tc : Thread Cert.RedAdam.nD Cert.RedAdam.τ).loc Cert.RedAdam.main_arg1)
      ∧ r.2.mem ((c.tc : Thread Cert.RedAdam.nD Cert.RedAdam.τ).loc Cert.RedAdam.main_arg2) = m ((c.tc : Thread Cert.RedAdam.nD Cert.RedAdam.τ).loc Cert.RedAdam.main_arg2)
      ∧ r.2.mem ((c.tc : Thread Cert.RedAdam.nD Cert.RedAdam.τ).loc Cert.RedAdam.main_arg3) = m ((c.tc : Thread Cert.RedAdam.nD Cert.RedAdam.τ).loc Cert.RedAdam.main_arg3)
      ∧ r.2.mem ((c.tc : Thread Cert.RedAdam.nD Cert.RedAdam.τ).loc Cert.RedAdam.main_arg4) = m ((c.tc : Thread Cert.RedAdam.nD Cert.RedAdam.τ).loc Cert.RedAdam.main_arg4))
      ∧ r.2.sem = fun _ => 0)

def quiescent_RedAdamIdeal [hRedAdamIdeal : Cert.RedAdamIdeal.Facts] : Prop :=
  ∀ (m : (ℓ : Loc Cert.RedAdamIdeal.nD Cert.RedAdamIdeal.τ Cert.RedAdamIdeal.sig) → Buf (Elt Ideal) ℓ) (g : Dev Cert.RedAdamIdeal.nD → PrngReg), Pre_RedAdamIdeal m →
    θ_run (Cert.RedAdamIdeal.defs (F := Ideal)) (onTc (τ := Cert.RedAdamIdeal.τ) (Cert.RedAdamIdeal.main (F := Ideal))) ⟨m, fun _ => 0, g⟩ (fun r => (∀ c : Dev Cert.RedAdamIdeal.nD,
      r.2.mem ((c.tc : Thread Cert.RedAdamIdeal.nD Cert.RedAdamIdeal.τ).loc Cert.RedAdamIdeal.main_arg0) = m ((c.tc : Thread Cert.RedAdamIdeal.nD Cert.RedAdamIdeal.τ).loc Cert.RedAdamIdeal.main_arg0)
      ∧ r.2.mem ((c.tc : Thread Cert.RedAdamIdeal.nD Cert.RedAdamIdeal.τ).loc Cert.RedAdamIdeal.main_arg1) = m ((c.tc : Thread Cert.RedAdamIdeal.nD Cert.RedAdamIdeal.τ).loc Cert.RedAdamIdeal.main_arg1)
      ∧ r.2.mem ((c.tc : Thread Cert.RedAdamIdeal.nD Cert.RedAdamIdeal.τ).loc Cert.RedAdamIdeal.main_arg2) = m ((c.tc : Thread Cert.RedAdamIdeal.nD Cert.RedAdamIdeal.τ).loc Cert.RedAdamIdeal.main_arg2)
      ∧ r.2.mem ((c.tc : Thread Cert.RedAdamIdeal.nD Cert.RedAdamIdeal.τ).loc Cert.RedAdamIdeal.main_arg3) = m ((c.tc : Thread Cert.RedAdamIdeal.nD Cert.RedAdamIdeal.τ).loc Cert.RedAdamIdeal.main_arg3)
      ∧ r.2.mem ((c.tc : Thread Cert.RedAdamIdeal.nD Cert.RedAdamIdeal.τ).loc Cert.RedAdamIdeal.main_arg4) = m ((c.tc : Thread Cert.RedAdamIdeal.nD Cert.RedAdamIdeal.τ).loc Cert.RedAdamIdeal.main_arg4))
      ∧ r.2.sem = fun _ => 0)

def quiescent_RedAdamRefIdeal [hRedAdamRefIdeal : Cert.RedAdamRefIdeal.Facts] : Prop :=
  ∀ (m : (ℓ : Loc Cert.RedAdamRefIdeal.nD Cert.RedAdamRefIdeal.τ Cert.RedAdamRefIdeal.sig) → Buf (Elt Ideal) ℓ) (g : Dev Cert.RedAdamRefIdeal.nD → PrngReg), Pre_RedAdamRefIdeal m →
    θ_run (Cert.RedAdamRefIdeal.defs (F := Ideal)) (onTc (τ := Cert.RedAdamRefIdeal.τ) (Cert.RedAdamRefIdeal.main (F := Ideal))) ⟨m, fun _ => 0, g⟩ (fun r => (∀ c : Dev Cert.RedAdamRefIdeal.nD,
      r.2.mem ((c.tc : Thread Cert.RedAdamRefIdeal.nD Cert.RedAdamRefIdeal.τ).loc Cert.RedAdamRefIdeal.main_arg0) = m ((c.tc : Thread Cert.RedAdamRefIdeal.nD Cert.RedAdamRefIdeal.τ).loc Cert.RedAdamRefIdeal.main_arg0)
      ∧ r.2.mem ((c.tc : Thread Cert.RedAdamRefIdeal.nD Cert.RedAdamRefIdeal.τ).loc Cert.RedAdamRefIdeal.main_arg1) = m ((c.tc : Thread Cert.RedAdamRefIdeal.nD Cert.RedAdamRefIdeal.τ).loc Cert.RedAdamRefIdeal.main_arg1)
      ∧ r.2.mem ((c.tc : Thread Cert.RedAdamRefIdeal.nD Cert.RedAdamRefIdeal.τ).loc Cert.RedAdamRefIdeal.main_arg2) = m ((c.tc : Thread Cert.RedAdamRefIdeal.nD Cert.RedAdamRefIdeal.τ).loc Cert.RedAdamRefIdeal.main_arg2)
      ∧ r.2.mem ((c.tc : Thread Cert.RedAdamRefIdeal.nD Cert.RedAdamRefIdeal.τ).loc Cert.RedAdamRefIdeal.main_arg3) = m ((c.tc : Thread Cert.RedAdamRefIdeal.nD Cert.RedAdamRefIdeal.τ).loc Cert.RedAdamRefIdeal.main_arg3)
      ∧ r.2.mem ((c.tc : Thread Cert.RedAdamRefIdeal.nD Cert.RedAdamRefIdeal.τ).loc Cert.RedAdamRefIdeal.main_arg4) = m ((c.tc : Thread Cert.RedAdamRefIdeal.nD Cert.RedAdamRefIdeal.τ).loc Cert.RedAdamRefIdeal.main_arg4))
      ∧ r.2.sem = fun _ => 0)

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v10_0)) (v1 : (c : Dev Cert.OutIdeal.nD) → Buf (Elt Ideal) ((c.tc : Thread Cert.OutIdeal.nD Cert.OutIdeal.τ).loc Cert.OutIdeal.main_v10_1)) (v2 : (c : Dev Cert.OutIdeal.nD) → Buf (Elt Ideal) ((c.tc : Thread Cert.OutIdeal.nD Cert.OutIdeal.τ).loc Cert.OutIdeal.main_v10_2)) (v3 : (c : Dev Cert.OutIdeal.nD) → Buf (Elt Ideal) ((c.tc : Thread Cert.OutIdeal.nD Cert.OutIdeal.τ).loc Cert.OutIdeal.main_v10_3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v10_0) = v0 c
          ∧ r.2.mem ((c.tc : Thread Cert.OutIdeal.nD Cert.OutIdeal.τ).loc Cert.OutIdeal.main_v10_1) = v1 c
          ∧ r.2.mem ((c.tc : Thread Cert.OutIdeal.nD Cert.OutIdeal.τ).loc Cert.OutIdeal.main_v10_2) = v2 c
          ∧ r.2.mem ((c.tc : Thread Cert.OutIdeal.nD Cert.OutIdeal.τ).loc Cert.OutIdeal.main_v10_3) = v3 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v30) = v0 c
          ∧ r.2.mem ((c.tc : Thread Cert.OutRefIdeal.nD Cert.OutRefIdeal.τ).loc Cert.OutRefIdeal.main_v31) = v1 c
          ∧ r.2.mem ((c.tc : Thread Cert.OutRefIdeal.nD Cert.OutRefIdeal.τ).loc Cert.OutRefIdeal.main_v29) = v2 c
          ∧ r.2.mem ((c.tc : Thread Cert.OutRefIdeal.nD Cert.OutRefIdeal.τ).loc Cert.OutRefIdeal.main_v32) = v3 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)) →
    ∃ (v0 : (c : Dev Cert.InIdeal.nD) → Buf (Elt Ideal) ((c.tc : Thread Cert.InIdeal.nD Cert.InIdeal.τ).loc Cert.InIdeal.main_v13_0)) (v1 : (c : Dev Cert.InIdeal.nD) → Buf (Elt Ideal) ((c.tc : Thread Cert.InIdeal.nD Cert.InIdeal.τ).loc Cert.InIdeal.main_v13_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v13_0) = v0 c
          ∧ r.2.mem ((c.tc : Thread Cert.InIdeal.nD Cert.InIdeal.τ).loc Cert.InIdeal.main_v13_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v73) = v0 c
          ∧ r.2.mem ((c.tc : Thread Cert.InRefIdeal.nD Cert.InRefIdeal.τ).loc Cert.InRefIdeal.main_v72) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v45_0)) (v1 : (c : Dev Cert.FfnIdeal.nD) → Buf (Elt Ideal) ((c.tc : Thread Cert.FfnIdeal.nD Cert.FfnIdeal.τ).loc Cert.FfnIdeal.main_v45_1)) (v2 : (c : Dev Cert.FfnIdeal.nD) → Buf (Elt Ideal) ((c.tc : Thread Cert.FfnIdeal.nD Cert.FfnIdeal.τ).loc Cert.FfnIdeal.main_v45_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v45_0) = v0 c
          ∧ r.2.mem ((c.tc : Thread Cert.FfnIdeal.nD Cert.FfnIdeal.τ).loc Cert.FfnIdeal.main_v45_1) = v1 c
          ∧ r.2.mem ((c.tc : Thread Cert.FfnIdeal.nD Cert.FfnIdeal.τ).loc Cert.FfnIdeal.main_v45_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v90) = v0 c
          ∧ r.2.mem ((c.tc : Thread Cert.FfnRefIdeal.nD Cert.FfnRefIdeal.τ).loc Cert.FfnRefIdeal.main_v96) = v1 c
          ∧ r.2.mem ((c.tc : Thread Cert.FfnRefIdeal.nD Cert.FfnRefIdeal.τ).loc Cert.FfnRefIdeal.main_v94) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)) →
    ∃ (v0 : (c : Dev Cert.LossIdeal.nD) → Buf (Elt Ideal) ((c.tc : Thread Cert.LossIdeal.nD Cert.LossIdeal.τ).loc Cert.LossIdeal.main_v10_0)) (v1 : (c : Dev Cert.LossIdeal.nD) → Buf (Elt Ideal) ((c.tc : Thread Cert.LossIdeal.nD Cert.LossIdeal.τ).loc Cert.LossIdeal.main_v10_1)) (v2 : (c : Dev Cert.LossIdeal.nD) → Buf (Elt Ideal) ((c.tc : Thread Cert.LossIdeal.nD Cert.LossIdeal.τ).loc Cert.LossIdeal.main_v10_2)) (v3 : (c : Dev Cert.LossIdeal.nD) → Buf (Elt Ideal) ((c.tc : Thread Cert.LossIdeal.nD Cert.LossIdeal.τ).loc Cert.LossIdeal.main_v10_3)) (v4 : (c : Dev Cert.LossIdeal.nD) → Buf (Elt Ideal) ((c.tc : Thread Cert.LossIdeal.nD Cert.LossIdeal.τ).loc Cert.LossIdeal.main_v10_4)) (v5 : (c : Dev Cert.LossIdeal.nD) → Buf (Elt Ideal) ((c.tc : Thread Cert.LossIdeal.nD Cert.LossIdeal.τ).loc Cert.LossIdeal.main_v10_5)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v10_0) = v0 c
          ∧ r.2.mem ((c.tc : Thread Cert.LossIdeal.nD Cert.LossIdeal.τ).loc Cert.LossIdeal.main_v10_1) = v1 c
          ∧ r.2.mem ((c.tc : Thread Cert.LossIdeal.nD Cert.LossIdeal.τ).loc Cert.LossIdeal.main_v10_2) = v2 c
          ∧ r.2.mem ((c.tc : Thread Cert.LossIdeal.nD Cert.LossIdeal.τ).loc Cert.LossIdeal.main_v10_3) = v3 c
          ∧ r.2.mem ((c.tc : Thread Cert.LossIdeal.nD Cert.LossIdeal.τ).loc Cert.LossIdeal.main_v10_4) = v4 c
          ∧ r.2.mem ((c.tc : Thread Cert.LossIdeal.nD Cert.LossIdeal.τ).loc Cert.LossIdeal.main_v10_5) = v5 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v108) = v0 c
          ∧ r.2.mem ((c.tc : Thread Cert.LossRefIdeal.nD Cert.LossRefIdeal.τ).loc Cert.LossRefIdeal.main_v112) = v1 c
          ∧ r.2.mem ((c.tc : Thread Cert.LossRefIdeal.nD Cert.LossRefIdeal.τ).loc Cert.LossRefIdeal.main_v116) = v2 c
          ∧ r.2.mem ((c.tc : Thread Cert.LossRefIdeal.nD Cert.LossRefIdeal.τ).loc Cert.LossRefIdeal.main_v117) = v3 c
          ∧ r.2.mem ((c.tc : Thread Cert.LossRefIdeal.nD Cert.LossRefIdeal.τ).loc Cert.LossRefIdeal.main_v119) = v4 c
          ∧ r.2.mem ((c.tc : Thread Cert.LossRefIdeal.nD Cert.LossRefIdeal.τ).loc Cert.LossRefIdeal.main_v106) = v5 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7))

def preserves_Conf_ConfIdeal : Prop :=
  True

def algebraic_ConfIdeal_ConfRefIdeal_pre_finite_conf [hConfIdeal : Cert.ConfIdeal.Facts] [hConfRefIdeal : Cert.ConfRefIdeal.Facts] [hPre_finite_conf : Cert.Pre_finite_conf.Facts] : Prop :=
  ∀ (m : (ℓ : Loc Cert.ConfIdeal.nD Cert.ConfIdeal.τ Cert.ConfIdeal.sig) → Buf (Elt Ideal) ℓ) (g : Dev Cert.ConfIdeal.nD → PrngReg)
    (m' : (ℓ : Loc Cert.ConfRefIdeal.nD Cert.ConfRefIdeal.τ Cert.ConfRefIdeal.sig) → Buf (Elt Ideal) ℓ) (g' : Dev Cert.ConfRefIdeal.nD → PrngReg), Pre_ConfIdeal_finite_conf m →
    (∀ c : Dev Cert.ConfIdeal.nD,
      m' ((c.tc : Thread Cert.ConfRefIdeal.nD Cert.ConfRefIdeal.τ).loc Cert.ConfRefIdeal.main_arg0) = m ((c.tc : Thread Cert.ConfIdeal.nD Cert.ConfIdeal.τ).loc Cert.ConfIdeal.main_arg0)
      ∧ m' ((c.tc : Thread Cert.ConfRefIdeal.nD Cert.ConfRefIdeal.τ).loc Cert.ConfRefIdeal.main_arg1) = m ((c.tc : Thread Cert.ConfIdeal.nD Cert.ConfIdeal.τ).loc Cert.ConfIdeal.main_arg1)
      ∧ m' ((c.tc : Thread Cert.ConfRefIdeal.nD Cert.ConfRefIdeal.τ).loc Cert.ConfRefIdeal.main_arg2) = m ((c.tc : Thread Cert.ConfIdeal.nD Cert.ConfIdeal.τ).loc Cert.ConfIdeal.main_arg2)
      ∧ m' ((c.tc : Thread Cert.ConfRefIdeal.nD Cert.ConfRefIdeal.τ).loc Cert.ConfRefIdeal.main_arg3) = m ((c.tc : Thread Cert.ConfIdeal.nD Cert.ConfIdeal.τ).loc Cert.ConfIdeal.main_arg3)
      ∧ m' ((c.tc : Thread Cert.ConfRefIdeal.nD Cert.ConfRefIdeal.τ).loc Cert.ConfRefIdeal.main_arg4) = m ((c.tc : Thread Cert.ConfIdeal.nD Cert.ConfIdeal.τ).loc Cert.ConfIdeal.main_arg4)
      ∧ m' ((c.tc : Thread Cert.ConfRefIdeal.nD Cert.ConfRefIdeal.τ).loc Cert.ConfRefIdeal.main_arg5) = m ((c.tc : Thread Cert.ConfIdeal.nD Cert.ConfIdeal.τ).loc Cert.ConfIdeal.main_arg5)) →
    ∃ (v0 : (c : Dev Cert.ConfIdeal.nD) → Buf (Elt Ideal) ((c.tc : Thread Cert.ConfIdeal.nD Cert.ConfIdeal.τ).loc Cert.ConfIdeal.main_v238_0)) (v1 : (c : Dev Cert.ConfIdeal.nD) → Buf (Elt Ideal) ((c.tc : Thread Cert.ConfIdeal.nD Cert.ConfIdeal.τ).loc Cert.ConfIdeal.main_v238_1)),
      θ_run (Cert.ConfIdeal.defs (F := Ideal)) (onTc (τ := Cert.ConfIdeal.τ) (Cert.ConfIdeal.main (F := Ideal))) ⟨m, fun _ => 0, g⟩ (fun r => ∀ c : Dev Cert.ConfIdeal.nD,
          r.2.mem ((c.tc : Thread Cert.ConfIdeal.nD Cert.ConfIdeal.τ).loc Cert.ConfIdeal.main_v238_0) = v0 c
          ∧ r.2.mem ((c.tc : Thread Cert.ConfIdeal.nD Cert.ConfIdeal.τ).loc Cert.ConfIdeal.main_v238_1) = v1 c
          ∧ r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
          ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
          ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
          ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
          ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
          ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5))
      ∧ θ_run (Cert.ConfRefIdeal.defs (F := Ideal)) (onTc (τ := Cert.ConfRefIdeal.τ) (Cert.ConfRefIdeal.main (F := Ideal))) ⟨m', fun _ => 0, g'⟩ (fun r => ∀ c : Dev Cert.ConfRefIdeal.nD,
          r.2.mem ((c.tc : Thread Cert.ConfRefIdeal.nD Cert.ConfRefIdeal.τ).loc Cert.ConfRefIdeal.main_v128) = v0 c
          ∧ r.2.mem ((c.tc : Thread Cert.ConfRefIdeal.nD Cert.ConfRefIdeal.τ).loc Cert.ConfRefIdeal.main_v125) = v1 c
          ∧ r.2.mem ((c.tc : Thread Cert.ConfRefIdeal.nD Cert.ConfRefIdeal.τ).loc Cert.ConfRefIdeal.main_arg0) = m' ((c.tc : Thread Cert.ConfRefIdeal.nD Cert.ConfRefIdeal.τ).loc Cert.ConfRefIdeal.main_arg0)
          ∧ r.2.mem ((c.tc : Thread Cert.ConfRefIdeal.nD Cert.ConfRefIdeal.τ).loc Cert.ConfRefIdeal.main_arg1) = m' ((c.tc : Thread Cert.ConfRefIdeal.nD Cert.ConfRefIdeal.τ).loc Cert.ConfRefIdeal.main_arg1)
          ∧ r.2.mem ((c.tc : Thread Cert.ConfRefIdeal.nD Cert.ConfRefIdeal.τ).loc Cert.ConfRefIdeal.main_arg2) = m' ((c.tc : Thread Cert.ConfRefIdeal.nD Cert.ConfRefIdeal.τ).loc Cert.ConfRefIdeal.main_arg2)
          ∧ r.2.mem ((c.tc : Thread Cert.ConfRefIdeal.nD Cert.ConfRefIdeal.τ).loc Cert.ConfRefIdeal.main_arg3) = m' ((c.tc : Thread Cert.ConfRefIdeal.nD Cert.ConfRefIdeal.τ).loc Cert.ConfRefIdeal.main_arg3)
          ∧ r.2.mem ((c.tc : Thread Cert.ConfRefIdeal.nD Cert.ConfRefIdeal.τ).loc Cert.ConfRefIdeal.main_arg4) = m' ((c.tc : Thread Cert.ConfRefIdeal.nD Cert.ConfRefIdeal.τ).loc Cert.ConfRefIdeal.main_arg4)
          ∧ r.2.mem ((c.tc : Thread Cert.ConfRefIdeal.nD Cert.ConfRefIdeal.τ).loc Cert.ConfRefIdeal.main_arg5) = m' ((c.tc : Thread Cert.ConfRefIdeal.nD Cert.ConfRefIdeal.τ).loc Cert.ConfRefIdeal.main_arg5))

def preserves_FwdOut_FwdOutIdeal : Prop :=
  True

def algebraic_FwdOutIdeal_FwdOutRefIdeal [hFwdOutIdeal : Cert.FwdOutIdeal.Facts] [hFwdOutRefIdeal : Cert.FwdOutRefIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg)
    (m' : (ℓ : Loc Cert.FwdOutRefIdeal.nD Cert.FwdOutRefIdeal.τ Cert.FwdOutRefIdeal.sig) → Buf (Elt Ideal) ℓ) (g' : Dev Cert.FwdOutRefIdeal.nD → PrngReg), Pre_FwdOutIdeal m →
    (∀ c : Dev Cert.FwdOutIdeal.nD,
      m' ((c.tc : Thread Cert.FwdOutRefIdeal.nD Cert.FwdOutRefIdeal.τ).loc Cert.FwdOutRefIdeal.main_arg0) = m ((c.tc : Thread Cert.FwdOutIdeal.nD Cert.FwdOutIdeal.τ).loc Cert.FwdOutIdeal.main_arg0)
      ∧ m' ((c.tc : Thread Cert.FwdOutRefIdeal.nD Cert.FwdOutRefIdeal.τ).loc Cert.FwdOutRefIdeal.main_arg1) = m ((c.tc : Thread Cert.FwdOutIdeal.nD Cert.FwdOutIdeal.τ).loc Cert.FwdOutIdeal.main_arg1)
      ∧ m' ((c.tc : Thread Cert.FwdOutRefIdeal.nD Cert.FwdOutRefIdeal.τ).loc Cert.FwdOutRefIdeal.main_arg2) = m ((c.tc : Thread Cert.FwdOutIdeal.nD Cert.FwdOutIdeal.τ).loc Cert.FwdOutIdeal.main_arg2)
      ∧ m' ((c.tc : Thread Cert.FwdOutRefIdeal.nD Cert.FwdOutRefIdeal.τ).loc Cert.FwdOutRefIdeal.main_arg3) = m ((c.tc : Thread Cert.FwdOutIdeal.nD Cert.FwdOutIdeal.τ).loc Cert.FwdOutIdeal.main_arg3)
      ∧ m' ((c.tc : Thread Cert.FwdOutRefIdeal.nD Cert.FwdOutRefIdeal.τ).loc Cert.FwdOutRefIdeal.main_arg4) = m ((c.tc : Thread Cert.FwdOutIdeal.nD Cert.FwdOutIdeal.τ).loc Cert.FwdOutIdeal.main_arg4)
      ∧ m' ((c.tc : Thread Cert.FwdOutRefIdeal.nD Cert.FwdOutRefIdeal.τ).loc Cert.FwdOutRefIdeal.main_arg5) = m ((c.tc : Thread Cert.FwdOutIdeal.nD Cert.FwdOutIdeal.τ).loc Cert.FwdOutIdeal.main_arg5)) →
    ∃ (v0 : (c : Dev Cert.FwdOutIdeal.nD) → Buf (Elt Ideal) ((c.tc : Thread Cert.FwdOutIdeal.nD Cert.FwdOutIdeal.τ).loc Cert.FwdOutIdeal.main_v5_0)) (v1 : (c : Dev Cert.FwdOutIdeal.nD) → Buf (Elt Ideal) ((c.tc : Thread Cert.FwdOutIdeal.nD Cert.FwdOutIdeal.τ).loc Cert.FwdOutIdeal.main_v5_1)) (v2 : (c : Dev Cert.FwdOutIdeal.nD) → Buf (Elt Ideal) ((c.tc : Thread Cert.FwdOutIdeal.nD Cert.FwdOutIdeal.τ).loc Cert.FwdOutIdeal.main_v5_2)),
      θ_run (Cert.FwdOutIdeal.defs (F := Ideal)) (onTc (τ := Cert.FwdOutIdeal.τ) (Cert.FwdOutIdeal.main (F := Ideal))) ⟨m, fun _ => 0, g⟩ (fun r => ∀ c : Dev Cert.FwdOutIdeal.nD,
          r.2.mem ((c.tc : Thread Cert.FwdOutIdeal.nD Cert.FwdOutIdeal.τ).loc Cert.FwdOutIdeal.main_v5_0) = v0 c
          ∧ r.2.mem ((c.tc : Thread Cert.FwdOutIdeal.nD Cert.FwdOutIdeal.τ).loc Cert.FwdOutIdeal.main_v5_1) = v1 c
          ∧ r.2.mem ((c.tc : Thread Cert.FwdOutIdeal.nD Cert.FwdOutIdeal.τ).loc Cert.FwdOutIdeal.main_v5_2) = v2 c
          ∧ r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
          ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
          ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2)
          ∧ r.2.mem ((c.tc : Thread Cert.FwdOutIdeal.nD Cert.FwdOutIdeal.τ).loc Cert.FwdOutIdeal.main_arg3) = m ((c.tc : Thread Cert.FwdOutIdeal.nD Cert.FwdOutIdeal.τ).loc Cert.FwdOutIdeal.main_arg3)
          ∧ r.2.mem ((c.tc : Thread Cert.FwdOutIdeal.nD Cert.FwdOutIdeal.τ).loc Cert.FwdOutIdeal.main_arg4) = m ((c.tc : Thread Cert.FwdOutIdeal.nD Cert.FwdOutIdeal.τ).loc Cert.FwdOutIdeal.main_arg4)
          ∧ r.2.mem ((c.tc : Thread Cert.FwdOutIdeal.nD Cert.FwdOutIdeal.τ).loc Cert.FwdOutIdeal.main_arg5) = m ((c.tc : Thread Cert.FwdOutIdeal.nD Cert.FwdOutIdeal.τ).loc Cert.FwdOutIdeal.main_arg5))
      ∧ θ_run (Cert.FwdOutRefIdeal.defs (F := Ideal)) (onTc (τ := Cert.FwdOutRefIdeal.τ) (Cert.FwdOutRefIdeal.main (F := Ideal))) ⟨m', fun _ => 0, g'⟩ (fun r => ∀ c : Dev Cert.FwdOutRefIdeal.nD,
          r.2.mem ((c.tc : Thread Cert.FwdOutRefIdeal.nD Cert.FwdOutRefIdeal.τ).loc Cert.FwdOutRefIdeal.main_v16) = v0 c
          ∧ r.2.mem ((c.tc : Thread Cert.FwdOutRefIdeal.nD Cert.FwdOutRefIdeal.τ).loc Cert.FwdOutRefIdeal.main_v17) = v1 c
          ∧ r.2.mem ((c.tc : Thread Cert.FwdOutRefIdeal.nD Cert.FwdOutRefIdeal.τ).loc Cert.FwdOutRefIdeal.main_v19) = v2 c
          ∧ r.2.mem ((c.tc : Thread Cert.FwdOutRefIdeal.nD Cert.FwdOutRefIdeal.τ).loc Cert.FwdOutRefIdeal.main_arg0) = m' ((c.tc : Thread Cert.FwdOutRefIdeal.nD Cert.FwdOutRefIdeal.τ).loc Cert.FwdOutRefIdeal.main_arg0)
          ∧ r.2.mem ((c.tc : Thread Cert.FwdOutRefIdeal.nD Cert.FwdOutRefIdeal.τ).loc Cert.FwdOutRefIdeal.main_arg1) = m' ((c.tc : Thread Cert.FwdOutRefIdeal.nD Cert.FwdOutRefIdeal.τ).loc Cert.FwdOutRefIdeal.main_arg1)
          ∧ r.2.mem ((c.tc : Thread Cert.FwdOutRefIdeal.nD Cert.FwdOutRefIdeal.τ).loc Cert.FwdOutRefIdeal.main_arg2) = m' ((c.tc : Thread Cert.FwdOutRefIdeal.nD Cert.FwdOutRefIdeal.τ).loc Cert.FwdOutRefIdeal.main_arg2)
          ∧ r.2.mem ((c.tc : Thread Cert.FwdOutRefIdeal.nD Cert.FwdOutRefIdeal.τ).loc Cert.FwdOutRefIdeal.main_arg3) = m' ((c.tc : Thread Cert.FwdOutRefIdeal.nD Cert.FwdOutRefIdeal.τ).loc Cert.FwdOutRefIdeal.main_arg3)
          ∧ r.2.mem ((c.tc : Thread Cert.FwdOutRefIdeal.nD Cert.FwdOutRefIdeal.τ).loc Cert.FwdOutRefIdeal.main_arg4) = m' ((c.tc : Thread Cert.FwdOutRefIdeal.nD Cert.FwdOutRefIdeal.τ).loc Cert.FwdOutRefIdeal.main_arg4)
          ∧ r.2.mem ((c.tc : Thread Cert.FwdOutRefIdeal.nD Cert.FwdOutRefIdeal.τ).loc Cert.FwdOutRefIdeal.main_arg5) = m' ((c.tc : Thread Cert.FwdOutRefIdeal.nD Cert.FwdOutRefIdeal.τ).loc Cert.FwdOutRefIdeal.main_arg5))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)
      ∧ m' ((c.tc : Thread Cert.FwdInRefIdeal.nD Cert.FwdInRefIdeal.τ).loc Cert.FwdInRefIdeal.main_arg2) = m ((c.tc : Thread Cert.FwdInIdeal.nD Cert.FwdInIdeal.τ).loc Cert.FwdInIdeal.main_arg2)
      ∧ m' ((c.tc : Thread Cert.FwdInRefIdeal.nD Cert.FwdInRefIdeal.τ).loc Cert.FwdInRefIdeal.main_arg3) = m ((c.tc : Thread Cert.FwdInIdeal.nD Cert.FwdInIdeal.τ).loc Cert.FwdInIdeal.main_arg3)
      ∧ m' ((c.tc : Thread Cert.FwdInRefIdeal.nD Cert.FwdInRefIdeal.τ).loc Cert.FwdInRefIdeal.main_arg4) = m ((c.tc : Thread Cert.FwdInIdeal.nD Cert.FwdInIdeal.τ).loc Cert.FwdInIdeal.main_arg4)) →
    ∃ (v0 : (c : Dev Cert.FwdInIdeal.nD) → Buf (Elt Ideal) ((c.tc : Thread Cert.FwdInIdeal.nD Cert.FwdInIdeal.τ).loc Cert.FwdInIdeal.main_v6_0)) (v1 : (c : Dev Cert.FwdInIdeal.nD) → Buf (Elt Ideal) ((c.tc : Thread Cert.FwdInIdeal.nD Cert.FwdInIdeal.τ).loc Cert.FwdInIdeal.main_v6_1)) (v2 : (c : Dev Cert.FwdInIdeal.nD) → Buf (Elt Ideal) ((c.tc : Thread Cert.FwdInIdeal.nD Cert.FwdInIdeal.τ).loc Cert.FwdInIdeal.main_v6_2)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v6_0) = v0 c
          ∧ r.2.mem ((c.tc : Thread Cert.FwdInIdeal.nD Cert.FwdInIdeal.τ).loc Cert.FwdInIdeal.main_v6_1) = v1 c
          ∧ r.2.mem ((c.tc : Thread Cert.FwdInIdeal.nD Cert.FwdInIdeal.τ).loc Cert.FwdInIdeal.main_v6_2) = v2 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
          ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3)
          ∧ r.2.mem ((c.tc : Thread Cert.FwdInIdeal.nD Cert.FwdInIdeal.τ).loc Cert.FwdInIdeal.main_arg4) = m ((c.tc : Thread Cert.FwdInIdeal.nD Cert.FwdInIdeal.τ).loc Cert.FwdInIdeal.main_arg4))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v37) = v0 c
          ∧ r.2.mem ((c.tc : Thread Cert.FwdInRefIdeal.nD Cert.FwdInRefIdeal.τ).loc Cert.FwdInRefIdeal.main_v36) = v1 c
          ∧ r.2.mem ((c.tc : Thread Cert.FwdInRefIdeal.nD Cert.FwdInRefIdeal.τ).loc Cert.FwdInRefIdeal.main_v39) = v2 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1)
          ∧ r.2.mem ((c.tc : Thread Cert.FwdInRefIdeal.nD Cert.FwdInRefIdeal.τ).loc Cert.FwdInRefIdeal.main_arg2) = m' ((c.tc : Thread Cert.FwdInRefIdeal.nD Cert.FwdInRefIdeal.τ).loc Cert.FwdInRefIdeal.main_arg2)
          ∧ r.2.mem ((c.tc : Thread Cert.FwdInRefIdeal.nD Cert.FwdInRefIdeal.τ).loc Cert.FwdInRefIdeal.main_arg3) = m' ((c.tc : Thread Cert.FwdInRefIdeal.nD Cert.FwdInRefIdeal.τ).loc Cert.FwdInRefIdeal.main_arg3)
          ∧ r.2.mem ((c.tc : Thread Cert.FwdInRefIdeal.nD Cert.FwdInRefIdeal.τ).loc Cert.FwdInRefIdeal.main_arg4) = m' ((c.tc : Thread Cert.FwdInRefIdeal.nD Cert.FwdInRefIdeal.τ).loc Cert.FwdInRefIdeal.main_arg4))

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)) →
    ∃ (v0 : (c : Dev Cert.ScanIdeal.nD) → Buf (Elt Ideal) ((c.tc : Thread Cert.ScanIdeal.nD Cert.ScanIdeal.τ).loc Cert.ScanIdeal.main_v21_0)) (v1 : (c : Dev Cert.ScanIdeal.nD) → Buf (Elt Ideal) ((c.tc : Thread Cert.ScanIdeal.nD Cert.ScanIdeal.τ).loc Cert.ScanIdeal.main_v21_1)) (v2 : (c : Dev Cert.ScanIdeal.nD) → Buf (Elt Ideal) ((c.tc : Thread Cert.ScanIdeal.nD Cert.ScanIdeal.τ).loc Cert.ScanIdeal.main_v21_2)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v21_0) = v0 c
          ∧ r.2.mem ((c.tc : Thread Cert.ScanIdeal.nD Cert.ScanIdeal.τ).loc Cert.ScanIdeal.main_v21_1) = v1 c
          ∧ r.2.mem ((c.tc : Thread Cert.ScanIdeal.nD Cert.ScanIdeal.τ).loc Cert.ScanIdeal.main_v21_2) = v2 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v24) = v0 c
          ∧ r.2.mem ((c.tc : Thread Cert.ScanRefIdeal.nD Cert.ScanRefIdeal.τ).loc Cert.ScanRefIdeal.main_v25) = v1 c
          ∧ r.2.mem ((c.tc : Thread Cert.ScanRefIdeal.nD Cert.ScanRefIdeal.τ).loc Cert.ScanRefIdeal.main_v26) = v2 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6)
          ∧ r.2.mem ((c.tc : Thread Cert.ScanRefIdeal.nD Cert.ScanRefIdeal.τ).loc Cert.ScanRefIdeal.main_arg7) = m' ((c.tc : Thread Cert.ScanRefIdeal.nD Cert.ScanRefIdeal.τ).loc Cert.ScanRefIdeal.main_arg7))

def preserves_ConfFwd_ConfFwdIdeal : Prop :=
  True

def algebraic_ConfFwdIdeal_ConfFwdRefIdeal_pre_finite_conf_fwd [hConfFwdIdeal : Cert.ConfFwdIdeal.Facts] [hConfFwdRefIdeal : Cert.ConfFwdRefIdeal.Facts] [hPre_finite_conf_fwd : Cert.Pre_finite_conf_fwd.Facts] : Prop :=
  ∀ (m : (ℓ : Loc Cert.ConfFwdIdeal.nD Cert.ConfFwdIdeal.τ Cert.ConfFwdIdeal.sig) → Buf (Elt Ideal) ℓ) (g : Dev Cert.ConfFwdIdeal.nD → PrngReg)
    (m' : (ℓ : Loc Cert.ConfFwdRefIdeal.nD Cert.ConfFwdRefIdeal.τ Cert.ConfFwdRefIdeal.sig) → Buf (Elt Ideal) ℓ) (g' : Dev Cert.ConfFwdRefIdeal.nD → PrngReg), Pre_ConfFwdIdeal_finite_conf_fwd m →
    (∀ c : Dev Cert.ConfFwdIdeal.nD,
      m' ((c.tc : Thread Cert.ConfFwdRefIdeal.nD Cert.ConfFwdRefIdeal.τ).loc Cert.ConfFwdRefIdeal.main_arg0) = m ((c.tc : Thread Cert.ConfFwdIdeal.nD Cert.ConfFwdIdeal.τ).loc Cert.ConfFwdIdeal.main_arg0)
      ∧ m' ((c.tc : Thread Cert.ConfFwdRefIdeal.nD Cert.ConfFwdRefIdeal.τ).loc Cert.ConfFwdRefIdeal.main_arg1) = m ((c.tc : Thread Cert.ConfFwdIdeal.nD Cert.ConfFwdIdeal.τ).loc Cert.ConfFwdIdeal.main_arg1)
      ∧ m' ((c.tc : Thread Cert.ConfFwdRefIdeal.nD Cert.ConfFwdRefIdeal.τ).loc Cert.ConfFwdRefIdeal.main_arg2) = m ((c.tc : Thread Cert.ConfFwdIdeal.nD Cert.ConfFwdIdeal.τ).loc Cert.ConfFwdIdeal.main_arg2)
      ∧ m' ((c.tc : Thread Cert.ConfFwdRefIdeal.nD Cert.ConfFwdRefIdeal.τ).loc Cert.ConfFwdRefIdeal.main_arg3) = m ((c.tc : Thread Cert.ConfFwdIdeal.nD Cert.ConfFwdIdeal.τ).loc Cert.ConfFwdIdeal.main_arg3)
      ∧ m' ((c.tc : Thread Cert.ConfFwdRefIdeal.nD Cert.ConfFwdRefIdeal.τ).loc Cert.ConfFwdRefIdeal.main_arg4) = m ((c.tc : Thread Cert.ConfFwdIdeal.nD Cert.ConfFwdIdeal.τ).loc Cert.ConfFwdIdeal.main_arg4)) →
    ∃ (v0 : (c : Dev Cert.ConfFwdIdeal.nD) → Buf (Elt Ideal) ((c.tc : Thread Cert.ConfFwdIdeal.nD Cert.ConfFwdIdeal.τ).loc Cert.ConfFwdIdeal.main_v3_0)) (v1 : (c : Dev Cert.ConfFwdIdeal.nD) → Buf (Elt Ideal) ((c.tc : Thread Cert.ConfFwdIdeal.nD Cert.ConfFwdIdeal.τ).loc Cert.ConfFwdIdeal.main_v3_1)),
      θ_run (Cert.ConfFwdIdeal.defs (F := Ideal)) (onTc (τ := Cert.ConfFwdIdeal.τ) (Cert.ConfFwdIdeal.main (F := Ideal))) ⟨m, fun _ => 0, g⟩ (fun r => ∀ c : Dev Cert.ConfFwdIdeal.nD,
          r.2.mem ((c.tc : Thread Cert.ConfFwdIdeal.nD Cert.ConfFwdIdeal.τ).loc Cert.ConfFwdIdeal.main_v3_0) = v0 c
          ∧ r.2.mem ((c.tc : Thread Cert.ConfFwdIdeal.nD Cert.ConfFwdIdeal.τ).loc Cert.ConfFwdIdeal.main_v3_1) = v1 c
          ∧ r.2.mem ((c.tc : Thread Cert.ConfFwdIdeal.nD Cert.ConfFwdIdeal.τ).loc Cert.ConfFwdIdeal.main_arg0) = m ((c.tc : Thread Cert.ConfFwdIdeal.nD Cert.ConfFwdIdeal.τ).loc Cert.ConfFwdIdeal.main_arg0)
          ∧ r.2.mem ((c.tc : Thread Cert.ConfFwdIdeal.nD Cert.ConfFwdIdeal.τ).loc Cert.ConfFwdIdeal.main_arg1) = m ((c.tc : Thread Cert.ConfFwdIdeal.nD Cert.ConfFwdIdeal.τ).loc Cert.ConfFwdIdeal.main_arg1)
          ∧ r.2.mem ((c.tc : Thread Cert.ConfFwdIdeal.nD Cert.ConfFwdIdeal.τ).loc Cert.ConfFwdIdeal.main_arg2) = m ((c.tc : Thread Cert.ConfFwdIdeal.nD Cert.ConfFwdIdeal.τ).loc Cert.ConfFwdIdeal.main_arg2)
          ∧ r.2.mem ((c.tc : Thread Cert.ConfFwdIdeal.nD Cert.ConfFwdIdeal.τ).loc Cert.ConfFwdIdeal.main_arg3) = m ((c.tc : Thread Cert.ConfFwdIdeal.nD Cert.ConfFwdIdeal.τ).loc Cert.ConfFwdIdeal.main_arg3)
          ∧ r.2.mem ((c.tc : Thread Cert.ConfFwdIdeal.nD Cert.ConfFwdIdeal.τ).loc Cert.ConfFwdIdeal.main_arg4) = m ((c.tc : Thread Cert.ConfFwdIdeal.nD Cert.ConfFwdIdeal.τ).loc Cert.ConfFwdIdeal.main_arg4))
      ∧ θ_run (Cert.ConfFwdRefIdeal.defs (F := Ideal)) (onTc (τ := Cert.ConfFwdRefIdeal.τ) (Cert.ConfFwdRefIdeal.main (F := Ideal))) ⟨m', fun _ => 0, g'⟩ (fun r => ∀ c : Dev Cert.ConfFwdRefIdeal.nD,
          r.2.mem ((c.tc : Thread Cert.ConfFwdRefIdeal.nD Cert.ConfFwdRefIdeal.τ).loc Cert.ConfFwdRefIdeal.main_v29) = v0 c
          ∧ r.2.mem ((c.tc : Thread Cert.ConfFwdRefIdeal.nD Cert.ConfFwdRefIdeal.τ).loc Cert.ConfFwdRefIdeal.main_v86) = v1 c
          ∧ r.2.mem ((c.tc : Thread Cert.ConfFwdRefIdeal.nD Cert.ConfFwdRefIdeal.τ).loc Cert.ConfFwdRefIdeal.main_arg0) = m' ((c.tc : Thread Cert.ConfFwdRefIdeal.nD Cert.ConfFwdRefIdeal.τ).loc Cert.ConfFwdRefIdeal.main_arg0)
          ∧ r.2.mem ((c.tc : Thread Cert.ConfFwdRefIdeal.nD Cert.ConfFwdRefIdeal.τ).loc Cert.ConfFwdRefIdeal.main_arg1) = m' ((c.tc : Thread Cert.ConfFwdRefIdeal.nD Cert.ConfFwdRefIdeal.τ).loc Cert.ConfFwdRefIdeal.main_arg1)
          ∧ r.2.mem ((c.tc : Thread Cert.ConfFwdRefIdeal.nD Cert.ConfFwdRefIdeal.τ).loc Cert.ConfFwdRefIdeal.main_arg2) = m' ((c.tc : Thread Cert.ConfFwdRefIdeal.nD Cert.ConfFwdRefIdeal.τ).loc Cert.ConfFwdRefIdeal.main_arg2)
          ∧ r.2.mem ((c.tc : Thread Cert.ConfFwdRefIdeal.nD Cert.ConfFwdRefIdeal.τ).loc Cert.ConfFwdRefIdeal.main_arg3) = m' ((c.tc : Thread Cert.ConfFwdRefIdeal.nD Cert.ConfFwdRefIdeal.τ).loc Cert.ConfFwdRefIdeal.main_arg3)
          ∧ r.2.mem ((c.tc : Thread Cert.ConfFwdRefIdeal.nD Cert.ConfFwdRefIdeal.τ).loc Cert.ConfFwdRefIdeal.main_arg4) = m' ((c.tc : Thread Cert.ConfFwdRefIdeal.nD Cert.ConfFwdRefIdeal.τ).loc Cert.ConfFwdRefIdeal.main_arg4))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v2) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1))

def preserves_GradFfnIn_GradFfnInIdeal : Prop :=
  True

def algebraic_GradFfnInIdeal_GradFfnInRefIdeal [hGradFfnInIdeal : Cert.GradFfnInIdeal.Facts] [hGradFfnInRefIdeal : Cert.GradFfnInRefIdeal.Facts] : Prop :=
  ∀ (m : (ℓ : Loc Cert.GradFfnInIdeal.nD Cert.GradFfnInIdeal.τ Cert.GradFfnInIdeal.sig) → Buf (Elt Ideal) ℓ) (g : Dev Cert.GradFfnInIdeal.nD → PrngReg)
    (m' : (ℓ : Loc Cert.GradFfnInRefIdeal.nD Cert.GradFfnInRefIdeal.τ Cert.GradFfnInRefIdeal.sig) → Buf (Elt Ideal) ℓ) (g' : Dev Cert.GradFfnInRefIdeal.nD → PrngReg), Pre_GradFfnInIdeal m →
    (∀ c : Dev Cert.GradFfnInIdeal.nD,
      m' ((c.tc : Thread Cert.GradFfnInRefIdeal.nD Cert.GradFfnInRefIdeal.τ).loc Cert.GradFfnInRefIdeal.main_arg0) = m ((c.tc : Thread Cert.GradFfnInIdeal.nD Cert.GradFfnInIdeal.τ).loc Cert.GradFfnInIdeal.main_arg0)
      ∧ m' ((c.tc : Thread Cert.GradFfnInRefIdeal.nD Cert.GradFfnInRefIdeal.τ).loc Cert.GradFfnInRefIdeal.main_arg1) = m ((c.tc : Thread Cert.GradFfnInIdeal.nD Cert.GradFfnInIdeal.τ).loc Cert.GradFfnInIdeal.main_arg1)
      ∧ m' ((c.tc : Thread Cert.GradFfnInRefIdeal.nD Cert.GradFfnInRefIdeal.τ).loc Cert.GradFfnInRefIdeal.main_arg2) = m ((c.tc : Thread Cert.GradFfnInIdeal.nD Cert.GradFfnInIdeal.τ).loc Cert.GradFfnInIdeal.main_arg2)
      ∧ m' ((c.tc : Thread Cert.GradFfnInRefIdeal.nD Cert.GradFfnInRefIdeal.τ).loc Cert.GradFfnInRefIdeal.main_arg3) = m ((c.tc : Thread Cert.GradFfnInIdeal.nD Cert.GradFfnInIdeal.τ).loc Cert.GradFfnInIdeal.main_arg3)
      ∧ m' ((c.tc : Thread Cert.GradFfnInRefIdeal.nD Cert.GradFfnInRefIdeal.τ).loc Cert.GradFfnInRefIdeal.main_arg4) = m ((c.tc : Thread Cert.GradFfnInIdeal.nD Cert.GradFfnInIdeal.τ).loc Cert.GradFfnInIdeal.main_arg4)
      ∧ m' ((c.tc : Thread Cert.GradFfnInRefIdeal.nD Cert.GradFfnInRefIdeal.τ).loc Cert.GradFfnInRefIdeal.main_arg5) = m ((c.tc : Thread Cert.GradFfnInIdeal.nD Cert.GradFfnInIdeal.τ).loc Cert.GradFfnInIdeal.main_arg5)) →
    ∃ (v0 : (c : Dev Cert.GradFfnInIdeal.nD) → Buf (Elt Ideal) ((c.tc : Thread Cert.GradFfnInIdeal.nD Cert.GradFfnInIdeal.τ).loc Cert.GradFfnInIdeal.main_v30)),
      θ_run (Cert.GradFfnInIdeal.defs (F := Ideal)) (onTc (τ := Cert.GradFfnInIdeal.τ) (Cert.GradFfnInIdeal.main (F := Ideal))) ⟨m, fun _ => 0, g⟩ (fun r => ∀ c : Dev Cert.GradFfnInIdeal.nD,
          r.2.mem ((c.tc : Thread Cert.GradFfnInIdeal.nD Cert.GradFfnInIdeal.τ).loc Cert.GradFfnInIdeal.main_v30) = v0 c
          ∧ r.2.mem ((c.tc : Thread Cert.GradFfnInIdeal.nD Cert.GradFfnInIdeal.τ).loc Cert.GradFfnInIdeal.main_arg0) = m ((c.tc : Thread Cert.GradFfnInIdeal.nD Cert.GradFfnInIdeal.τ).loc Cert.GradFfnInIdeal.main_arg0)
          ∧ r.2.mem ((c.tc : Thread Cert.GradFfnInIdeal.nD Cert.GradFfnInIdeal.τ).loc Cert.GradFfnInIdeal.main_arg1) = m ((c.tc : Thread Cert.GradFfnInIdeal.nD Cert.GradFfnInIdeal.τ).loc Cert.GradFfnInIdeal.main_arg1)
          ∧ r.2.mem ((c.tc : Thread Cert.GradFfnInIdeal.nD Cert.GradFfnInIdeal.τ).loc Cert.GradFfnInIdeal.main_arg2) = m ((c.tc : Thread Cert.GradFfnInIdeal.nD Cert.GradFfnInIdeal.τ).loc Cert.GradFfnInIdeal.main_arg2)
          ∧ r.2.mem ((c.tc : Thread Cert.GradFfnInIdeal.nD Cert.GradFfnInIdeal.τ).loc Cert.GradFfnInIdeal.main_arg3) = m ((c.tc : Thread Cert.GradFfnInIdeal.nD Cert.GradFfnInIdeal.τ).loc Cert.GradFfnInIdeal.main_arg3)
          ∧ r.2.mem ((c.tc : Thread Cert.GradFfnInIdeal.nD Cert.GradFfnInIdeal.τ).loc Cert.GradFfnInIdeal.main_arg4) = m ((c.tc : Thread Cert.GradFfnInIdeal.nD Cert.GradFfnInIdeal.τ).loc Cert.GradFfnInIdeal.main_arg4)
          ∧ r.2.mem ((c.tc : Thread Cert.GradFfnInIdeal.nD Cert.GradFfnInIdeal.τ).loc Cert.GradFfnInIdeal.main_arg5) = m ((c.tc : Thread Cert.GradFfnInIdeal.nD Cert.GradFfnInIdeal.τ).loc Cert.GradFfnInIdeal.main_arg5))
      ∧ θ_run (Cert.GradFfnInRefIdeal.defs (F := Ideal)) (onTc (τ := Cert.GradFfnInRefIdeal.τ) (Cert.GradFfnInRefIdeal.main (F := Ideal))) ⟨m', fun _ => 0, g'⟩ (fun r => ∀ c : Dev Cert.GradFfnInRefIdeal.nD,
          r.2.mem ((c.tc : Thread Cert.GradFfnInRefIdeal.nD Cert.GradFfnInRefIdeal.τ).loc Cert.GradFfnInRefIdeal.main_v39) = v0 c
          ∧ r.2.mem ((c.tc : Thread Cert.GradFfnInRefIdeal.nD Cert.GradFfnInRefIdeal.τ).loc Cert.GradFfnInRefIdeal.main_arg0) = m' ((c.tc : Thread Cert.GradFfnInRefIdeal.nD Cert.GradFfnInRefIdeal.τ).loc Cert.GradFfnInRefIdeal.main_arg0)
          ∧ r.2.mem ((c.tc : Thread Cert.GradFfnInRefIdeal.nD Cert.GradFfnInRefIdeal.τ).loc Cert.GradFfnInRefIdeal.main_arg1) = m' ((c.tc : Thread Cert.GradFfnInRefIdeal.nD Cert.GradFfnInRefIdeal.τ).loc Cert.GradFfnInRefIdeal.main_arg1)
          ∧ r.2.mem ((c.tc : Thread Cert.GradFfnInRefIdeal.nD Cert.GradFfnInRefIdeal.τ).loc Cert.GradFfnInRefIdeal.main_arg2) = m' ((c.tc : Thread Cert.GradFfnInRefIdeal.nD Cert.GradFfnInRefIdeal.τ).loc Cert.GradFfnInRefIdeal.main_arg2)
          ∧ r.2.mem ((c.tc : Thread Cert.GradFfnInRefIdeal.nD Cert.GradFfnInRefIdeal.τ).loc Cert.GradFfnInRefIdeal.main_arg3) = m' ((c.tc : Thread Cert.GradFfnInRefIdeal.nD Cert.GradFfnInRefIdeal.τ).loc Cert.GradFfnInRefIdeal.main_arg3)
          ∧ r.2.mem ((c.tc : Thread Cert.GradFfnInRefIdeal.nD Cert.GradFfnInRefIdeal.τ).loc Cert.GradFfnInRefIdeal.main_arg4) = m' ((c.tc : Thread Cert.GradFfnInRefIdeal.nD Cert.GradFfnInRefIdeal.τ).loc Cert.GradFfnInRefIdeal.main_arg4)
          ∧ r.2.mem ((c.tc : Thread Cert.GradFfnInRefIdeal.nD Cert.GradFfnInRefIdeal.τ).loc Cert.GradFfnInRefIdeal.main_arg5) = m' ((c.tc : Thread Cert.GradFfnInRefIdeal.nD Cert.GradFfnInRefIdeal.τ).loc Cert.GradFfnInRefIdeal.main_arg5))

def preserves_GradFfnOut_GradFfnOutIdeal : Prop :=
  True

def algebraic_GradFfnOutIdeal_GradFfnOutRefIdeal [hGradFfnOutIdeal : Cert.GradFfnOutIdeal.Facts] [hGradFfnOutRefIdeal : Cert.GradFfnOutRefIdeal.Facts] : Prop :=
  ∀ (m : (ℓ : Loc Cert.GradFfnOutIdeal.nD Cert.GradFfnOutIdeal.τ Cert.GradFfnOutIdeal.sig) → Buf (Elt Ideal) ℓ) (g : Dev Cert.GradFfnOutIdeal.nD → PrngReg)
    (m' : (ℓ : Loc Cert.GradFfnOutRefIdeal.nD Cert.GradFfnOutRefIdeal.τ Cert.GradFfnOutRefIdeal.sig) → Buf (Elt Ideal) ℓ) (g' : Dev Cert.GradFfnOutRefIdeal.nD → PrngReg), Pre_GradFfnOutIdeal m →
    (∀ c : Dev Cert.GradFfnOutIdeal.nD,
      m' ((c.tc : Thread Cert.GradFfnOutRefIdeal.nD Cert.GradFfnOutRefIdeal.τ).loc Cert.GradFfnOutRefIdeal.main_arg0) = m ((c.tc : Thread Cert.GradFfnOutIdeal.nD Cert.GradFfnOutIdeal.τ).loc Cert.GradFfnOutIdeal.main_arg0)
      ∧ m' ((c.tc : Thread Cert.GradFfnOutRefIdeal.nD Cert.GradFfnOutRefIdeal.τ).loc Cert.GradFfnOutRefIdeal.main_arg1) = m ((c.tc : Thread Cert.GradFfnOutIdeal.nD Cert.GradFfnOutIdeal.τ).loc Cert.GradFfnOutIdeal.main_arg1)
      ∧ m' ((c.tc : Thread Cert.GradFfnOutRefIdeal.nD Cert.GradFfnOutRefIdeal.τ).loc Cert.GradFfnOutRefIdeal.main_arg2) = m ((c.tc : Thread Cert.GradFfnOutIdeal.nD Cert.GradFfnOutIdeal.τ).loc Cert.GradFfnOutIdeal.main_arg2)
      ∧ m' ((c.tc : Thread Cert.GradFfnOutRefIdeal.nD Cert.GradFfnOutRefIdeal.τ).loc Cert.GradFfnOutRefIdeal.main_arg3) = m ((c.tc : Thread Cert.GradFfnOutIdeal.nD Cert.GradFfnOutIdeal.τ).loc Cert.GradFfnOutIdeal.main_arg3)
      ∧ m' ((c.tc : Thread Cert.GradFfnOutRefIdeal.nD Cert.GradFfnOutRefIdeal.τ).loc Cert.GradFfnOutRefIdeal.main_arg4) = m ((c.tc : Thread Cert.GradFfnOutIdeal.nD Cert.GradFfnOutIdeal.τ).loc Cert.GradFfnOutIdeal.main_arg4)
      ∧ m' ((c.tc : Thread Cert.GradFfnOutRefIdeal.nD Cert.GradFfnOutRefIdeal.τ).loc Cert.GradFfnOutRefIdeal.main_arg5) = m ((c.tc : Thread Cert.GradFfnOutIdeal.nD Cert.GradFfnOutIdeal.τ).loc Cert.GradFfnOutIdeal.main_arg5)
      ∧ m' ((c.tc : Thread Cert.GradFfnOutRefIdeal.nD Cert.GradFfnOutRefIdeal.τ).loc Cert.GradFfnOutRefIdeal.main_arg6) = m ((c.tc : Thread Cert.GradFfnOutIdeal.nD Cert.GradFfnOutIdeal.τ).loc Cert.GradFfnOutIdeal.main_arg6)) →
    ∃ (v0 : (c : Dev Cert.GradFfnOutIdeal.nD) → Buf (Elt Ideal) ((c.tc : Thread Cert.GradFfnOutIdeal.nD Cert.GradFfnOutIdeal.τ).loc Cert.GradFfnOutIdeal.main_v43)),
      θ_run (Cert.GradFfnOutIdeal.defs (F := Ideal)) (onTc (τ := Cert.GradFfnOutIdeal.τ) (Cert.GradFfnOutIdeal.main (F := Ideal))) ⟨m, fun _ => 0, g⟩ (fun r => ∀ c : Dev Cert.GradFfnOutIdeal.nD,
          r.2.mem ((c.tc : Thread Cert.GradFfnOutIdeal.nD Cert.GradFfnOutIdeal.τ).loc Cert.GradFfnOutIdeal.main_v43) = v0 c
          ∧ r.2.mem ((c.tc : Thread Cert.GradFfnOutIdeal.nD Cert.GradFfnOutIdeal.τ).loc Cert.GradFfnOutIdeal.main_arg0) = m ((c.tc : Thread Cert.GradFfnOutIdeal.nD Cert.GradFfnOutIdeal.τ).loc Cert.GradFfnOutIdeal.main_arg0)
          ∧ r.2.mem ((c.tc : Thread Cert.GradFfnOutIdeal.nD Cert.GradFfnOutIdeal.τ).loc Cert.GradFfnOutIdeal.main_arg1) = m ((c.tc : Thread Cert.GradFfnOutIdeal.nD Cert.GradFfnOutIdeal.τ).loc Cert.GradFfnOutIdeal.main_arg1)
          ∧ r.2.mem ((c.tc : Thread Cert.GradFfnOutIdeal.nD Cert.GradFfnOutIdeal.τ).loc Cert.GradFfnOutIdeal.main_arg2) = m ((c.tc : Thread Cert.GradFfnOutIdeal.nD Cert.GradFfnOutIdeal.τ).loc Cert.GradFfnOutIdeal.main_arg2)
          ∧ r.2.mem ((c.tc : Thread Cert.GradFfnOutIdeal.nD Cert.GradFfnOutIdeal.τ).loc Cert.GradFfnOutIdeal.main_arg3) = m ((c.tc : Thread Cert.GradFfnOutIdeal.nD Cert.GradFfnOutIdeal.τ).loc Cert.GradFfnOutIdeal.main_arg3)
          ∧ r.2.mem ((c.tc : Thread Cert.GradFfnOutIdeal.nD Cert.GradFfnOutIdeal.τ).loc Cert.GradFfnOutIdeal.main_arg4) = m ((c.tc : Thread Cert.GradFfnOutIdeal.nD Cert.GradFfnOutIdeal.τ).loc Cert.GradFfnOutIdeal.main_arg4)
          ∧ r.2.mem ((c.tc : Thread Cert.GradFfnOutIdeal.nD Cert.GradFfnOutIdeal.τ).loc Cert.GradFfnOutIdeal.main_arg5) = m ((c.tc : Thread Cert.GradFfnOutIdeal.nD Cert.GradFfnOutIdeal.τ).loc Cert.GradFfnOutIdeal.main_arg5)
          ∧ r.2.mem ((c.tc : Thread Cert.GradFfnOutIdeal.nD Cert.GradFfnOutIdeal.τ).loc Cert.GradFfnOutIdeal.main_arg6) = m ((c.tc : Thread Cert.GradFfnOutIdeal.nD Cert.GradFfnOutIdeal.τ).loc Cert.GradFfnOutIdeal.main_arg6))
      ∧ θ_run (Cert.GradFfnOutRefIdeal.defs (F := Ideal)) (onTc (τ := Cert.GradFfnOutRefIdeal.τ) (Cert.GradFfnOutRefIdeal.main (F := Ideal))) ⟨m', fun _ => 0, g'⟩ (fun r => ∀ c : Dev Cert.GradFfnOutRefIdeal.nD,
          r.2.mem ((c.tc : Thread Cert.GradFfnOutRefIdeal.nD Cert.GradFfnOutRefIdeal.τ).loc Cert.GradFfnOutRefIdeal.main_v44) = v0 c
          ∧ r.2.mem ((c.tc : Thread Cert.GradFfnOutRefIdeal.nD Cert.GradFfnOutRefIdeal.τ).loc Cert.GradFfnOutRefIdeal.main_arg0) = m' ((c.tc : Thread Cert.GradFfnOutRefIdeal.nD Cert.GradFfnOutRefIdeal.τ).loc Cert.GradFfnOutRefIdeal.main_arg0)
          ∧ r.2.mem ((c.tc : Thread Cert.GradFfnOutRefIdeal.nD Cert.GradFfnOutRefIdeal.τ).loc Cert.GradFfnOutRefIdeal.main_arg1) = m' ((c.tc : Thread Cert.GradFfnOutRefIdeal.nD Cert.GradFfnOutRefIdeal.τ).loc Cert.GradFfnOutRefIdeal.main_arg1)
          ∧ r.2.mem ((c.tc : Thread Cert.GradFfnOutRefIdeal.nD Cert.GradFfnOutRefIdeal.τ).loc Cert.GradFfnOutRefIdeal.main_arg2) = m' ((c.tc : Thread Cert.GradFfnOutRefIdeal.nD Cert.GradFfnOutRefIdeal.τ).loc Cert.GradFfnOutRefIdeal.main_arg2)
          ∧ r.2.mem ((c.tc : Thread Cert.GradFfnOutRefIdeal.nD Cert.GradFfnOutRefIdeal.τ).loc Cert.GradFfnOutRefIdeal.main_arg3) = m' ((c.tc : Thread Cert.GradFfnOutRefIdeal.nD Cert.GradFfnOutRefIdeal.τ).loc Cert.GradFfnOutRefIdeal.main_arg3)
          ∧ r.2.mem ((c.tc : Thread Cert.GradFfnOutRefIdeal.nD Cert.GradFfnOutRefIdeal.τ).loc Cert.GradFfnOutRefIdeal.main_arg4) = m' ((c.tc : Thread Cert.GradFfnOutRefIdeal.nD Cert.GradFfnOutRefIdeal.τ).loc Cert.GradFfnOutRefIdeal.main_arg4)
          ∧ r.2.mem ((c.tc : Thread Cert.GradFfnOutRefIdeal.nD Cert.GradFfnOutRefIdeal.τ).loc Cert.GradFfnOutRefIdeal.main_arg5) = m' ((c.tc : Thread Cert.GradFfnOutRefIdeal.nD Cert.GradFfnOutRefIdeal.τ).loc Cert.GradFfnOutRefIdeal.main_arg5)
          ∧ r.2.mem ((c.tc : Thread Cert.GradFfnOutRefIdeal.nD Cert.GradFfnOutRefIdeal.τ).loc Cert.GradFfnOutRefIdeal.main_arg6) = m' ((c.tc : Thread Cert.GradFfnOutRefIdeal.nD Cert.GradFfnOutRefIdeal.τ).loc Cert.GradFfnOutRefIdeal.main_arg6))

def preserves_AdaAdam_AdaAdamIdeal : Prop :=
  True

def algebraic_AdaAdamIdeal_AdaAdamRefIdeal [hAdaAdamIdeal : Cert.AdaAdamIdeal.Facts] [hAdaAdamRefIdeal : Cert.AdaAdamRefIdeal.Facts] : Prop :=
  ∀ (m : (ℓ : Loc Cert.AdaAdamIdeal.nD Cert.AdaAdamIdeal.τ Cert.AdaAdamIdeal.sig) → Buf (Elt Ideal) ℓ) (g : Dev Cert.AdaAdamIdeal.nD → PrngReg)
    (m' : (ℓ : Loc Cert.AdaAdamRefIdeal.nD Cert.AdaAdamRefIdeal.τ Cert.AdaAdamRefIdeal.sig) → Buf (Elt Ideal) ℓ) (g' : Dev Cert.AdaAdamRefIdeal.nD → PrngReg), Pre_AdaAdamIdeal m →
    (∀ c : Dev Cert.AdaAdamIdeal.nD,
      m' ((c.tc : Thread Cert.AdaAdamRefIdeal.nD Cert.AdaAdamRefIdeal.τ).loc Cert.AdaAdamRefIdeal.main_arg0) = m ((c.tc : Thread Cert.AdaAdamIdeal.nD Cert.AdaAdamIdeal.τ).loc Cert.AdaAdamIdeal.main_arg0)
      ∧ m' ((c.tc : Thread Cert.AdaAdamRefIdeal.nD Cert.AdaAdamRefIdeal.τ).loc Cert.AdaAdamRefIdeal.main_arg1) = m ((c.tc : Thread Cert.AdaAdamIdeal.nD Cert.AdaAdamIdeal.τ).loc Cert.AdaAdamIdeal.main_arg1)
      ∧ m' ((c.tc : Thread Cert.AdaAdamRefIdeal.nD Cert.AdaAdamRefIdeal.τ).loc Cert.AdaAdamRefIdeal.main_arg2) = m ((c.tc : Thread Cert.AdaAdamIdeal.nD Cert.AdaAdamIdeal.τ).loc Cert.AdaAdamIdeal.main_arg2)
      ∧ m' ((c.tc : Thread Cert.AdaAdamRefIdeal.nD Cert.AdaAdamRefIdeal.τ).loc Cert.AdaAdamRefIdeal.main_arg3) = m ((c.tc : Thread Cert.AdaAdamIdeal.nD Cert.AdaAdamIdeal.τ).loc Cert.AdaAdamIdeal.main_arg3)
      ∧ m' ((c.tc : Thread Cert.AdaAdamRefIdeal.nD Cert.AdaAdamRefIdeal.τ).loc Cert.AdaAdamRefIdeal.main_arg4) = m ((c.tc : Thread Cert.AdaAdamIdeal.nD Cert.AdaAdamIdeal.τ).loc Cert.AdaAdamIdeal.main_arg4)) →
    ∃ (v0 : (c : Dev Cert.AdaAdamIdeal.nD) → Buf (Elt Ideal) ((c.tc : Thread Cert.AdaAdamIdeal.nD Cert.AdaAdamIdeal.τ).loc Cert.AdaAdamIdeal.main_v3_0)) (v1 : (c : Dev Cert.AdaAdamIdeal.nD) → Buf (Elt Ideal) ((c.tc : Thread Cert.AdaAdamIdeal.nD Cert.AdaAdamIdeal.τ).loc Cert.AdaAdamIdeal.main_v3_1)) (v2 : (c : Dev Cert.AdaAdamIdeal.nD) → Buf (Elt Ideal) ((c.tc : Thread Cert.AdaAdamIdeal.nD Cert.AdaAdamIdeal.τ).loc Cert.AdaAdamIdeal.main_v3_2)) (v3 : (c : Dev Cert.AdaAdamIdeal.nD) → Buf (Elt Ideal) ((c.tc : Thread Cert.AdaAdamIdeal.nD Cert.AdaAdamIdeal.τ).loc Cert.AdaAdamIdeal.main_v3_3)),
      θ_run (Cert.AdaAdamIdeal.defs (F := Ideal)) (onTc (τ := Cert.AdaAdamIdeal.τ) (Cert.AdaAdamIdeal.main (F := Ideal))) ⟨m, fun _ => 0, g⟩ (fun r => ∀ c : Dev Cert.AdaAdamIdeal.nD,
          r.2.mem ((c.tc : Thread Cert.AdaAdamIdeal.nD Cert.AdaAdamIdeal.τ).loc Cert.AdaAdamIdeal.main_v3_0) = v0 c
          ∧ r.2.mem ((c.tc : Thread Cert.AdaAdamIdeal.nD Cert.AdaAdamIdeal.τ).loc Cert.AdaAdamIdeal.main_v3_1) = v1 c
          ∧ r.2.mem ((c.tc : Thread Cert.AdaAdamIdeal.nD Cert.AdaAdamIdeal.τ).loc Cert.AdaAdamIdeal.main_v3_2) = v2 c
          ∧ r.2.mem ((c.tc : Thread Cert.AdaAdamIdeal.nD Cert.AdaAdamIdeal.τ).loc Cert.AdaAdamIdeal.main_v3_3) = v3 c
          ∧ r.2.mem ((c.tc : Thread Cert.AdaAdamIdeal.nD Cert.AdaAdamIdeal.τ).loc Cert.AdaAdamIdeal.main_arg0) = m ((c.tc : Thread Cert.AdaAdamIdeal.nD Cert.AdaAdamIdeal.τ).loc Cert.AdaAdamIdeal.main_arg0)
          ∧ r.2.mem ((c.tc : Thread Cert.AdaAdamIdeal.nD Cert.AdaAdamIdeal.τ).loc Cert.AdaAdamIdeal.main_arg1) = m ((c.tc : Thread Cert.AdaAdamIdeal.nD Cert.AdaAdamIdeal.τ).loc Cert.AdaAdamIdeal.main_arg1)
          ∧ r.2.mem ((c.tc : Thread Cert.AdaAdamIdeal.nD Cert.AdaAdamIdeal.τ).loc Cert.AdaAdamIdeal.main_arg2) = m ((c.tc : Thread Cert.AdaAdamIdeal.nD Cert.AdaAdamIdeal.τ).loc Cert.AdaAdamIdeal.main_arg2)
          ∧ r.2.mem ((c.tc : Thread Cert.AdaAdamIdeal.nD Cert.AdaAdamIdeal.τ).loc Cert.AdaAdamIdeal.main_arg3) = m ((c.tc : Thread Cert.AdaAdamIdeal.nD Cert.AdaAdamIdeal.τ).loc Cert.AdaAdamIdeal.main_arg3)
          ∧ r.2.mem ((c.tc : Thread Cert.AdaAdamIdeal.nD Cert.AdaAdamIdeal.τ).loc Cert.AdaAdamIdeal.main_arg4) = m ((c.tc : Thread Cert.AdaAdamIdeal.nD Cert.AdaAdamIdeal.τ).loc Cert.AdaAdamIdeal.main_arg4))
      ∧ θ_run (Cert.AdaAdamRefIdeal.defs (F := Ideal)) (onTc (τ := Cert.AdaAdamRefIdeal.τ) (Cert.AdaAdamRefIdeal.main (F := Ideal))) ⟨m', fun _ => 0, g'⟩ (fun r => ∀ c : Dev Cert.AdaAdamRefIdeal.nD,
          r.2.mem ((c.tc : Thread Cert.AdaAdamRefIdeal.nD Cert.AdaAdamRefIdeal.τ).loc Cert.AdaAdamRefIdeal.main_v4) = v0 c
          ∧ r.2.mem ((c.tc : Thread Cert.AdaAdamRefIdeal.nD Cert.AdaAdamRefIdeal.τ).loc Cert.AdaAdamRefIdeal.main_v31) = v1 c
          ∧ r.2.mem ((c.tc : Thread Cert.AdaAdamRefIdeal.nD Cert.AdaAdamRefIdeal.τ).loc Cert.AdaAdamRefIdeal.main_v12) = v2 c
          ∧ r.2.mem ((c.tc : Thread Cert.AdaAdamRefIdeal.nD Cert.AdaAdamRefIdeal.τ).loc Cert.AdaAdamRefIdeal.main_v18) = v3 c
          ∧ r.2.mem ((c.tc : Thread Cert.AdaAdamRefIdeal.nD Cert.AdaAdamRefIdeal.τ).loc Cert.AdaAdamRefIdeal.main_arg0) = m' ((c.tc : Thread Cert.AdaAdamRefIdeal.nD Cert.AdaAdamRefIdeal.τ).loc Cert.AdaAdamRefIdeal.main_arg0)
          ∧ r.2.mem ((c.tc : Thread Cert.AdaAdamRefIdeal.nD Cert.AdaAdamRefIdeal.τ).loc Cert.AdaAdamRefIdeal.main_arg1) = m' ((c.tc : Thread Cert.AdaAdamRefIdeal.nD Cert.AdaAdamRefIdeal.τ).loc Cert.AdaAdamRefIdeal.main_arg1)
          ∧ r.2.mem ((c.tc : Thread Cert.AdaAdamRefIdeal.nD Cert.AdaAdamRefIdeal.τ).loc Cert.AdaAdamRefIdeal.main_arg2) = m' ((c.tc : Thread Cert.AdaAdamRefIdeal.nD Cert.AdaAdamRefIdeal.τ).loc Cert.AdaAdamRefIdeal.main_arg2)
          ∧ r.2.mem ((c.tc : Thread Cert.AdaAdamRefIdeal.nD Cert.AdaAdamRefIdeal.τ).loc Cert.AdaAdamRefIdeal.main_arg3) = m' ((c.tc : Thread Cert.AdaAdamRefIdeal.nD Cert.AdaAdamRefIdeal.τ).loc Cert.AdaAdamRefIdeal.main_arg3)
          ∧ r.2.mem ((c.tc : Thread Cert.AdaAdamRefIdeal.nD Cert.AdaAdamRefIdeal.τ).loc Cert.AdaAdamRefIdeal.main_arg4) = m' ((c.tc : Thread Cert.AdaAdamRefIdeal.nD Cert.AdaAdamRefIdeal.τ).loc Cert.AdaAdamRefIdeal.main_arg4))

def preserves_RedAdam_RedAdamIdeal : Prop :=
  True

def algebraic_RedAdamIdeal_RedAdamRefIdeal [hRedAdamIdeal : Cert.RedAdamIdeal.Facts] [hRedAdamRefIdeal : Cert.RedAdamRefIdeal.Facts] : Prop :=
  ∀ (m : (ℓ : Loc Cert.RedAdamIdeal.nD Cert.RedAdamIdeal.τ Cert.RedAdamIdeal.sig) → Buf (Elt Ideal) ℓ) (g : Dev Cert.RedAdamIdeal.nD → PrngReg)
    (m' : (ℓ : Loc Cert.RedAdamRefIdeal.nD Cert.RedAdamRefIdeal.τ Cert.RedAdamRefIdeal.sig) → Buf (Elt Ideal) ℓ) (g' : Dev Cert.RedAdamRefIdeal.nD → PrngReg), Pre_RedAdamIdeal m →
    (∀ c : Dev Cert.RedAdamIdeal.nD,
      m' ((c.tc : Thread Cert.RedAdamRefIdeal.nD Cert.RedAdamRefIdeal.τ).loc Cert.RedAdamRefIdeal.main_arg0) = m ((c.tc : Thread Cert.RedAdamIdeal.nD Cert.RedAdamIdeal.τ).loc Cert.RedAdamIdeal.main_arg0)
      ∧ m' ((c.tc : Thread Cert.RedAdamRefIdeal.nD Cert.RedAdamRefIdeal.τ).loc Cert.RedAdamRefIdeal.main_arg1) = m ((c.tc : Thread Cert.RedAdamIdeal.nD Cert.RedAdamIdeal.τ).loc Cert.RedAdamIdeal.main_arg1)
      ∧ m' ((c.tc : Thread Cert.RedAdamRefIdeal.nD Cert.RedAdamRefIdeal.τ).loc Cert.RedAdamRefIdeal.main_arg2) = m ((c.tc : Thread Cert.RedAdamIdeal.nD Cert.RedAdamIdeal.τ).loc Cert.RedAdamIdeal.main_arg2)
      ∧ m' ((c.tc : Thread Cert.RedAdamRefIdeal.nD Cert.RedAdamRefIdeal.τ).loc Cert.RedAdamRefIdeal.main_arg3) = m ((c.tc : Thread Cert.RedAdamIdeal.nD Cert.RedAdamIdeal.τ).loc Cert.RedAdamIdeal.main_arg3)
      ∧ m' ((c.tc : Thread Cert.RedAdamRefIdeal.nD Cert.RedAdamRefIdeal.τ).loc Cert.RedAdamRefIdeal.main_arg4) = m ((c.tc : Thread Cert.RedAdamIdeal.nD Cert.RedAdamIdeal.τ).loc Cert.RedAdamIdeal.main_arg4)) →
    ∃ (v0 : (c : Dev Cert.RedAdamIdeal.nD) → Buf (Elt Ideal) ((c.tc : Thread Cert.RedAdamIdeal.nD Cert.RedAdamIdeal.τ).loc Cert.RedAdamIdeal.main_v1_0)) (v1 : (c : Dev Cert.RedAdamIdeal.nD) → Buf (Elt Ideal) ((c.tc : Thread Cert.RedAdamIdeal.nD Cert.RedAdamIdeal.τ).loc Cert.RedAdamIdeal.main_v1_1)) (v2 : (c : Dev Cert.RedAdamIdeal.nD) → Buf (Elt Ideal) ((c.tc : Thread Cert.RedAdamIdeal.nD Cert.RedAdamIdeal.τ).loc Cert.RedAdamIdeal.main_v1_2)) (v3 : (c : Dev Cert.RedAdamIdeal.nD) → Buf (Elt Ideal) ((c.tc : Thread Cert.RedAdamIdeal.nD Cert.RedAdamIdeal.τ).loc Cert.RedAdamIdeal.main_v1_3)),
      θ_run (Cert.RedAdamIdeal.defs (F := Ideal)) (onTc (τ := Cert.RedAdamIdeal.τ) (Cert.RedAdamIdeal.main (F := Ideal))) ⟨m, fun _ => 0, g⟩ (fun r => ∀ c : Dev Cert.RedAdamIdeal.nD,
          r.2.mem ((c.tc : Thread Cert.RedAdamIdeal.nD Cert.RedAdamIdeal.τ).loc Cert.RedAdamIdeal.main_v1_0) = v0 c
          ∧ r.2.mem ((c.tc : Thread Cert.RedAdamIdeal.nD Cert.RedAdamIdeal.τ).loc Cert.RedAdamIdeal.main_v1_1) = v1 c
          ∧ r.2.mem ((c.tc : Thread Cert.RedAdamIdeal.nD Cert.RedAdamIdeal.τ).loc Cert.RedAdamIdeal.main_v1_2) = v2 c
          ∧ r.2.mem ((c.tc : Thread Cert.RedAdamIdeal.nD Cert.RedAdamIdeal.τ).loc Cert.RedAdamIdeal.main_v1_3) = v3 c
          ∧ r.2.mem ((c.tc : Thread Cert.RedAdamIdeal.nD Cert.RedAdamIdeal.τ).loc Cert.RedAdamIdeal.main_arg0) = m ((c.tc : Thread Cert.RedAdamIdeal.nD Cert.RedAdamIdeal.τ).loc Cert.RedAdamIdeal.main_arg0)
          ∧ r.2.mem ((c.tc : Thread Cert.RedAdamIdeal.nD Cert.RedAdamIdeal.τ).loc Cert.RedAdamIdeal.main_arg1) = m ((c.tc : Thread Cert.RedAdamIdeal.nD Cert.RedAdamIdeal.τ).loc Cert.RedAdamIdeal.main_arg1)
          ∧ r.2.mem ((c.tc : Thread Cert.RedAdamIdeal.nD Cert.RedAdamIdeal.τ).loc Cert.RedAdamIdeal.main_arg2) = m ((c.tc : Thread Cert.RedAdamIdeal.nD Cert.RedAdamIdeal.τ).loc Cert.RedAdamIdeal.main_arg2)
          ∧ r.2.mem ((c.tc : Thread Cert.RedAdamIdeal.nD Cert.RedAdamIdeal.τ).loc Cert.RedAdamIdeal.main_arg3) = m ((c.tc : Thread Cert.RedAdamIdeal.nD Cert.RedAdamIdeal.τ).loc Cert.RedAdamIdeal.main_arg3)
          ∧ r.2.mem ((c.tc : Thread Cert.RedAdamIdeal.nD Cert.RedAdamIdeal.τ).loc Cert.RedAdamIdeal.main_arg4) = m ((c.tc : Thread Cert.RedAdamIdeal.nD Cert.RedAdamIdeal.τ).loc Cert.RedAdamIdeal.main_arg4))
      ∧ θ_run (Cert.RedAdamRefIdeal.defs (F := Ideal)) (onTc (τ := Cert.RedAdamRefIdeal.τ) (Cert.RedAdamRefIdeal.main (F := Ideal))) ⟨m', fun _ => 0, g'⟩ (fun r => ∀ c : Dev Cert.RedAdamRefIdeal.nD,
          r.2.mem ((c.tc : Thread Cert.RedAdamRefIdeal.nD Cert.RedAdamRefIdeal.τ).loc Cert.RedAdamRefIdeal.main_v24) = v0 c
          ∧ r.2.mem ((c.tc : Thread Cert.RedAdamRefIdeal.nD Cert.RedAdamRefIdeal.τ).loc Cert.RedAdamRefIdeal.main_v48) = v1 c
          ∧ r.2.mem ((c.tc : Thread Cert.RedAdamRefIdeal.nD Cert.RedAdamRefIdeal.τ).loc Cert.RedAdamRefIdeal.main_v29) = v2 c
          ∧ r.2.mem ((c.tc : Thread Cert.RedAdamRefIdeal.nD Cert.RedAdamRefIdeal.τ).loc Cert.RedAdamRefIdeal.main_v35) = v3 c
          ∧ r.2.mem ((c.tc : Thread Cert.RedAdamRefIdeal.nD Cert.RedAdamRefIdeal.τ).loc Cert.RedAdamRefIdeal.main_arg0) = m' ((c.tc : Thread Cert.RedAdamRefIdeal.nD Cert.RedAdamRefIdeal.τ).loc Cert.RedAdamRefIdeal.main_arg0)
          ∧ r.2.mem ((c.tc : Thread Cert.RedAdamRefIdeal.nD Cert.RedAdamRefIdeal.τ).loc Cert.RedAdamRefIdeal.main_arg1) = m' ((c.tc : Thread Cert.RedAdamRefIdeal.nD Cert.RedAdamRefIdeal.τ).loc Cert.RedAdamRefIdeal.main_arg1)
          ∧ r.2.mem ((c.tc : Thread Cert.RedAdamRefIdeal.nD Cert.RedAdamRefIdeal.τ).loc Cert.RedAdamRefIdeal.main_arg2) = m' ((c.tc : Thread Cert.RedAdamRefIdeal.nD Cert.RedAdamRefIdeal.τ).loc Cert.RedAdamRefIdeal.main_arg2)
          ∧ r.2.mem ((c.tc : Thread Cert.RedAdamRefIdeal.nD Cert.RedAdamRefIdeal.τ).loc Cert.RedAdamRefIdeal.main_arg3) = m' ((c.tc : Thread Cert.RedAdamRefIdeal.nD Cert.RedAdamRefIdeal.τ).loc Cert.RedAdamRefIdeal.main_arg3)
          ∧ r.2.mem ((c.tc : Thread Cert.RedAdamRefIdeal.nD Cert.RedAdamRefIdeal.τ).loc Cert.RedAdamRefIdeal.main_arg4) = m' ((c.tc : Thread Cert.RedAdamRefIdeal.nD Cert.RedAdamRefIdeal.τ).loc Cert.RedAdamRefIdeal.main_arg4))

def Claim : Prop :=
  ∃ (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hFfn : Cert.Ffn.Facts) (hFfnIdeal : Cert.FfnIdeal.Facts) (hFfnRefIdeal : Cert.FfnRefIdeal.Facts) (hLoss : Cert.Loss.Facts) (hLossIdeal : Cert.LossIdeal.Facts) (hLossRefIdeal : Cert.LossRefIdeal.Facts) (hConf : Cert.Conf.Facts) (hConfIdeal : Cert.ConfIdeal.Facts) (hConfRefIdeal : Cert.ConfRefIdeal.Facts) (hFwdOut : Cert.FwdOut.Facts) (hFwdOutIdeal : Cert.FwdOutIdeal.Facts) (hFwdOutRefIdeal : Cert.FwdOutRefIdeal.Facts) (hFwdIn : Cert.FwdIn.Facts) (hFwdInIdeal : Cert.FwdInIdeal.Facts) (hFwdInRefIdeal : Cert.FwdInRefIdeal.Facts) (hScan : Cert.Scan.Facts) (hScanIdeal : Cert.ScanIdeal.Facts) (hScanRefIdeal : Cert.ScanRefIdeal.Facts) (hConfFwd : Cert.ConfFwd.Facts) (hConfFwdIdeal : Cert.ConfFwdIdeal.Facts) (hConfFwdRefIdeal : Cert.ConfFwdRefIdeal.Facts) (hMod : Cert.Mod.Facts) (hModIdeal : Cert.ModIdeal.Facts) (hModRefIdeal : Cert.ModRefIdeal.Facts) (hGradFfnIn : Cert.GradFfnIn.Facts) (hGradFfnInIdeal : Cert.GradFfnInIdeal.Facts) (hGradFfnInRefIdeal : Cert.GradFfnInRefIdeal.Facts) (hGradFfnOut : Cert.GradFfnOut.Facts) (hGradFfnOutIdeal : Cert.GradFfnOutIdeal.Facts) (hGradFfnOutRefIdeal : Cert.GradFfnOutRefIdeal.Facts) (hAdaAdam : Cert.AdaAdam.Facts) (hAdaAdamIdeal : Cert.AdaAdamIdeal.Facts) (hAdaAdamRefIdeal : Cert.AdaAdamRefIdeal.Facts) (hRedAdam : Cert.RedAdam.Facts) (hRedAdamIdeal : Cert.RedAdamIdeal.Facts) (hRedAdamRefIdeal : Cert.RedAdamRefIdeal.Facts) (hPre_finite_ffn : Cert.Pre_finite_ffn.Facts) (hPre_finite_conf : Cert.Pre_finite_conf.Facts) (hPre_finite_conf_fwd : Cert.Pre_finite_conf_fwd.Facts),
    quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Loss (hLoss := hLoss)
    ∧ quiescent_LossIdeal (hLossIdeal := hLossIdeal)
    ∧ quiescent_LossRefIdeal (hLossRefIdeal := hLossRefIdeal)
    ∧ quiescent_Conf (hConf := hConf)
    ∧ quiescent_ConfIdeal (hConfIdeal := hConfIdeal)
    ∧ quiescent_ConfIdeal_pre_finite_conf (hConfIdeal := hConfIdeal) (hPre_finite_conf := hPre_finite_conf)
    ∧ quiescent_ConfRefIdeal (hConfRefIdeal := hConfRefIdeal)
    ∧ quiescent_ConfRefIdeal_pre_finite_conf (hConfRefIdeal := hConfRefIdeal) (hPre_finite_conf := hPre_finite_conf)
    ∧ quiescent_FwdOut (hFwdOut := hFwdOut)
    ∧ quiescent_FwdOutIdeal (hFwdOutIdeal := hFwdOutIdeal)
    ∧ quiescent_FwdOutRefIdeal (hFwdOutRefIdeal := hFwdOutRefIdeal)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_Scan (hScan := hScan)
    ∧ quiescent_ScanIdeal (hScanIdeal := hScanIdeal)
    ∧ quiescent_ScanRefIdeal (hScanRefIdeal := hScanRefIdeal)
    ∧ quiescent_ConfFwd (hConfFwd := hConfFwd)
    ∧ quiescent_ConfFwdIdeal (hConfFwdIdeal := hConfFwdIdeal)
    ∧ quiescent_ConfFwdIdeal_pre_finite_conf_fwd (hConfFwdIdeal := hConfFwdIdeal) (hPre_finite_conf_fwd := hPre_finite_conf_fwd)
    ∧ quiescent_ConfFwdRefIdeal (hConfFwdRefIdeal := hConfFwdRefIdeal)
    ∧ quiescent_ConfFwdRefIdeal_pre_finite_conf_fwd (hConfFwdRefIdeal := hConfFwdRefIdeal) (hPre_finite_conf_fwd := hPre_finite_conf_fwd)
    ∧ quiescent_Mod (hMod := hMod)
    ∧ quiescent_ModIdeal (hModIdeal := hModIdeal)
    ∧ quiescent_ModRefIdeal (hModRefIdeal := hModRefIdeal)
    ∧ quiescent_GradFfnIn (hGradFfnIn := hGradFfnIn)
    ∧ quiescent_GradFfnInIdeal (hGradFfnInIdeal := hGradFfnInIdeal)
    ∧ quiescent_GradFfnInRefIdeal (hGradFfnInRefIdeal := hGradFfnInRefIdeal)
    ∧ quiescent_GradFfnOut (hGradFfnOut := hGradFfnOut)
    ∧ quiescent_GradFfnOutIdeal (hGradFfnOutIdeal := hGradFfnOutIdeal)
    ∧ quiescent_GradFfnOutRefIdeal (hGradFfnOutRefIdeal := hGradFfnOutRefIdeal)
    ∧ quiescent_AdaAdam (hAdaAdam := hAdaAdam)
    ∧ quiescent_AdaAdamIdeal (hAdaAdamIdeal := hAdaAdamIdeal)
    ∧ quiescent_AdaAdamRefIdeal (hAdaAdamRefIdeal := hAdaAdamRefIdeal)
    ∧ quiescent_RedAdam (hRedAdam := hRedAdam)
    ∧ quiescent_RedAdamIdeal (hRedAdamIdeal := hRedAdamIdeal)
    ∧ quiescent_RedAdamRefIdeal (hRedAdamRefIdeal := hRedAdamRefIdeal)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Loss_LossIdeal
    ∧ algebraic_LossIdeal_LossRefIdeal (hLossIdeal := hLossIdeal) (hLossRefIdeal := hLossRefIdeal)
    ∧ preserves_Conf_ConfIdeal
    ∧ algebraic_ConfIdeal_ConfRefIdeal_pre_finite_conf (hConfIdeal := hConfIdeal) (hConfRefIdeal := hConfRefIdeal) (hPre_finite_conf := hPre_finite_conf)
    ∧ preserves_FwdOut_FwdOutIdeal
    ∧ algebraic_FwdOutIdeal_FwdOutRefIdeal (hFwdOutIdeal := hFwdOutIdeal) (hFwdOutRefIdeal := hFwdOutRefIdeal)
    ∧ preserves_FwdIn_FwdInIdeal
    ∧ algebraic_FwdInIdeal_FwdInRefIdeal (hFwdInIdeal := hFwdInIdeal) (hFwdInRefIdeal := hFwdInRefIdeal)
    ∧ preserves_Scan_ScanIdeal
    ∧ algebraic_ScanIdeal_ScanRefIdeal (hScanIdeal := hScanIdeal) (hScanRefIdeal := hScanRefIdeal)
    ∧ preserves_ConfFwd_ConfFwdIdeal
    ∧ algebraic_ConfFwdIdeal_ConfFwdRefIdeal_pre_finite_conf_fwd (hConfFwdIdeal := hConfFwdIdeal) (hConfFwdRefIdeal := hConfFwdRefIdeal) (hPre_finite_conf_fwd := hPre_finite_conf_fwd)
    ∧ preserves_Mod_ModIdeal
    ∧ algebraic_ModIdeal_ModRefIdeal (hModIdeal := hModIdeal) (hModRefIdeal := hModRefIdeal)
    ∧ preserves_GradFfnIn_GradFfnInIdeal
    ∧ algebraic_GradFfnInIdeal_GradFfnInRefIdeal (hGradFfnInIdeal := hGradFfnInIdeal) (hGradFfnInRefIdeal := hGradFfnInRefIdeal)
    ∧ preserves_GradFfnOut_GradFfnOutIdeal
    ∧ algebraic_GradFfnOutIdeal_GradFfnOutRefIdeal (hGradFfnOutIdeal := hGradFfnOutIdeal) (hGradFfnOutRefIdeal := hGradFfnOutRefIdeal)
    ∧ preserves_AdaAdam_AdaAdamIdeal
    ∧ algebraic_AdaAdamIdeal_AdaAdamRefIdeal (hAdaAdamIdeal := hAdaAdamIdeal) (hAdaAdamRefIdeal := hAdaAdamRefIdeal)
    ∧ preserves_RedAdam_RedAdamIdeal
    ∧ algebraic_RedAdamIdeal_RedAdamRefIdeal (hRedAdamIdeal := hRedAdamIdeal) (hRedAdamRefIdeal := hRedAdamRefIdeal)
-- ==== Pre_finite_conf.lean ====
abbrev S1x2048x3080 : Shape := ⟨3, ![1, 2048, 3080]⟩
abbrev S1x31x512 : Shape := ⟨3, ![1, 31, 512]⟩
abbrev S1x512 : Shape := ⟨2, ![1, 512]⟩
abbrev S1x2048x512 : Shape := ⟨3, ![1, 2048, 512]⟩
abbrev S_ : Shape := ⟨0, ![]⟩

class Facts : Prop where
  bcast_S_S1x2048x3080 : S_.BroadcastsInDim S1x2048x3080 (![] : Fin 0 → Fin S1x2048x3080.rank)
  bcast_S_S1x31x512 : S_.BroadcastsInDim S1x31x512 (![] : Fin 0 → Fin S1x31x512.rank)
  bcast_S_S1x512 : S_.BroadcastsInDim S1x512 (![] : Fin 0 → Fin S1x512.rank)
  bcast_S_S1x2048x512 : S_.BroadcastsInDim S1x2048x512 (![] : Fin 0 → Fin S1x2048x512.rank)

variable [Facts]

def fn {F : FTy → Type} [FloatOps F] (main_arg0 : FVec F S1x2048x3080 .f32) (main_arg1 : FVec F S1x31x512 .f32) (main_arg2 : FVec F S1x512 .f32) (main_arg3 : FVec F S1x512 .f32) (main_arg4 : FVec F S1x512 .f32) (main_arg5 : FVec F S1x2048x512 .f32) : IVec S1x2048x3080 1 × IVec S1x31x512 1 × IVec S1x512 1 × IVec S1x512 1 × IVec S1x2048x512 1 :=
  let main_v0 : FVec F S1x2048x3080 .f32 := Host.absf main_arg0
  let main_cst : FVec F S_ .f32 := constant S_ .f32 0x7F800000#32
  let main_v1 : FVec F S1x2048x3080 .f32 := broadcastInDim S1x2048x3080 ![] bcast_S_S1x2048x3080 main_cst
  let main_v2 : IVec S1x2048x3080 1 := cmpf .olt main_v0 main_v1
  let main_v3 : FVec F S1x31x512 .f32 := Host.absf main_arg1
  let main_cst_0 : FVec F S_ .f32 := constant S_ .f32 0x7F800000#32
  let main_v4 : FVec F S1x31x512 .f32 := broadcastInDim S1x31x512 ![] bcast_S_S1x31x512 main_cst_0
  let main_v5 : IVec S1x31x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x2048x512 .f32 := Host.absf main_arg5
  let main_cst_3 : FVec F S_ .f32 := constant S_ .f32 0x7F800000#32
  let main_v13 : FVec F S1x2048x512 .f32 := broadcastInDim S1x2048x512 ![] bcast_S_S1x2048x512 main_cst_3
  let main_v14 : IVec S1x2048x512 1 := cmpf .olt main_v12 main_v13
  (main_v2, main_v5, main_v8, main_v11, main_v14)
-- ==== Pre_finite_conf_fwd.lean ====
abbrev S1x2048x3080 : Shape := ⟨3, ![1, 2048, 3080]⟩
abbrev S1x31x512 : Shape := ⟨3, ![1, 31, 512]⟩
abbrev S1x512 : Shape := ⟨2, ![1, 512]⟩
abbrev S_ : Shape := ⟨0, ![]⟩

class Facts : Prop where
  bcast_S_S1x2048x3080 : S_.BroadcastsInDim S1x2048x3080 (![] : Fin 0 → Fin S1x2048x3080.rank)
  bcast_S_S1x31x512 : S_.BroadcastsInDim S1x31x512 (![] : Fin 0 → Fin S1x31x512.rank)
  bcast_S_S1x512 : S_.BroadcastsInDim S1x512 (![] : Fin 0 → Fin S1x512.rank)

variable [Facts]

def fn {F : FTy → Type} [FloatOps F] (main_arg0 : FVec F S1x2048x3080 .f32) (main_arg1 : FVec F S1x31x512 .f32) (main_arg2 : FVec F S1x512 .f32) (main_arg3 : FVec F S1x512 .f32) (main_arg4 : FVec F S1x512 .f32) : IVec S1x2048x3080 1 × IVec S1x31x512 1 × IVec S1x512 1 :=
  let main_v0 : FVec F S1x2048x3080 .f32 := Host.absf main_arg0
  let main_cst : FVec F S_ .f32 := constant S_ .f32 0x7F800000#32
  let main_v1 : FVec F S1x2048x3080 .f32 := broadcastInDim S1x2048x3080 ![] bcast_S_S1x2048x3080 main_cst
  let main_v2 : IVec S1x2048x3080 1 := cmpf .olt main_v0 main_v1
  let main_v3 : FVec F S1x31x512 .f32 := Host.absf main_arg1
  let main_cst_0 : FVec F S_ .f32 := constant S_ .f32 0x7F800000#32
  let main_v4 : FVec F S1x31x512 .f32 := broadcastInDim S1x31x512 ![] bcast_S_S1x31x512 main_cst_0
  let main_v5 : IVec S1x31x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  (main_v2, main_v5, main_v8)
-- ==== Pre_finite_ffn.lean ====
abbrev S1x2048x1024 : Shape := ⟨3, ![1, 2048, 1024]⟩
abbrev S1x6144 : Shape := ⟨2, ![1, 6144]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S1x6144 : S_.BroadcastsInDim S1x6144 (![] : Fin 0 → Fin S1x6144.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)
  bcast_S_S1x2048x1024 : S_.BroadcastsInDim S1x2048x1024 (![] : Fin 0 → Fin S1x2048x1024.rank)

variable [Facts]

def fn {F : FTy → Type} [FloatOps F] (main_arg0 : FVec F S1x2048x1024 .f32) (main_arg1 : FVec F S1x6144 .f32) (main_arg2 : FVec F S1x6144 .f32) (main_arg3 : FVec F S1x1024 .f32) (main_arg4 : FVec F S1x1024x5632 .f32) (main_arg5 : FVec F S1x2816x1024 .f32) (main_arg6 : FVec F S1x2048x1024 .f32) : IVec S1x6144 1 × IVec S1x6144 1 × IVec S1x1024 1 × IVec S1x1024x5632 1 × IVec S1x2816x1024 1 × IVec S1x2048x1024 1 :=
  let main_v0 : FVec F S1x6144 .f32 := Host.absf main_arg1
  let main_cst : FVec F S_ .f32 := constant S_ .f32 0x7F800000#32
  let main_v1 : FVec F S1x6144 .f32 := broadcastInDim S1x6144 ![] bcast_S_S1x6144 main_cst
  let main_v2 : IVec S1x6144 1 := cmpf .olt main_v0 main_v1
  let main_v3 : FVec F S1x6144 .f32 := Host.absf main_arg2
  let main_cst_0 : FVec F S_ .f32 := constant S_ .f32 0x7F800000#32
  let main_v4 : FVec F S1x6144 .f32 := broadcastInDim S1x6144 ![] bcast_S_S1x6144 main_cst_0
  let main_v5 : IVec S1x6144 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x5632 .f32 := Host.absf main_arg4
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_v12 : FVec F S1x2816x1024 .f32 := Host.absf main_arg5
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  let main_v15 : FVec F S1x2048x1024 .f32 := Host.absf main_arg6
  let main_cst_4 : FVec F S_ .f32 := constant S_ .f32 0x7F800000#32
  let main_v16 : FVec F S1x2048x1024 .f32 := broadcastInDim S1x2048x1024 ![] bcast_S_S1x2048x1024 main_cst_4
  let main_v17 : IVec S1x2048x1024 1 := cmpf .olt main_v15 main_v16
  (main_v2, main_v5, main_v8, main_v11, main_v14, main_v17)
-- ==== Out.lean ====
abbrev S1x2048x512 : Shape := ⟨3, ![1, 2048, 512]⟩
abbrev S1x2048x1024 : Shape := ⟨3, ![1, 2048, 1024]⟩
abbrev S1x6144 : Shape := ⟨2, ![1, 6144]⟩
abbrev S1x1024x1024 : Shape := ⟨3, ![1, 1024, 1024]⟩
abbrev S2048x1024 : Shape := ⟨2, ![2048, 1024]⟩
abbrev S1024x1024 : Shape := ⟨2, ![1024, 1024]⟩
abbrev S2048x512 : Shape := ⟨2, ![2048, 512]⟩
abbrev S8x1024 : Shape := ⟨2, ![8, 1024]⟩
abbrev S256x1024 : Shape := ⟨2, ![256, 1024]⟩
abbrev S256x512 : Shape := ⟨2, ![256, 512]⟩
abbrev S1x1024 : Shape := ⟨2, ![1, 1024]⟩
abbrev S1024 : Shape := ⟨1, ![1024]⟩
abbrev S512x1024 : Shape := ⟨2, ![512, 1024]⟩

abbrev nBuf : Space → Nat
  | .hbm => 21
  | .vmem => 16
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x1024, .f32⟩
  | .hbm, ⟨3, _⟩ => ⟨S1x6144, .f32⟩
  | .hbm, ⟨4, _⟩ => ⟨S1x6144, .f32⟩
  | .hbm, ⟨5, _⟩ => ⟨S1x1024x1024, .f32⟩
  | .hbm, ⟨6, _⟩ => ⟨S1x2048x1024, .f32⟩
  | .hbm, ⟨7, _⟩ => ⟨S1x2048x1024, .f32⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S1x2048x1024, .f32⟩
  | .hbm, ⟨12, _⟩ => ⟨S2048x1024, .f32⟩
  | .hbm, ⟨13, _⟩ => ⟨S2048x1024, .bf16⟩
  | .hbm, ⟨14, _⟩ => ⟨S2048x1024, .f32⟩
  | .hbm, ⟨15, _⟩ => ⟨S1024x1024, .f32⟩
  | .hbm, ⟨16, _⟩ => ⟨S1024x1024, .bf16⟩
  | .hbm, ⟨17, _⟩ => ⟨S2048x512, .f32⟩
  | .hbm, ⟨18, _⟩ => ⟨S2048x512, .f32⟩
  | .hbm, ⟨19, _⟩ => ⟨S8x1024, .f32⟩
  | .hbm, ⟨20, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S1x6144, .f32⟩
  | .local _ .vmem, ⟨7, _⟩ => ⟨S1x6144, .f32⟩
  | .local _ .vmem, ⟨8, _⟩ => ⟨S1024x1024, .bf16⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S8x1024, .f32⟩
  | .local _ .vmem, ⟨14, _⟩ => ⟨S1024x1024, .bf16⟩
  | .local _ .vmem, ⟨15, _⟩ => ⟨S1024x1024, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v36 : BitVec 1 := Scalar.cmpi .eq arg0 c7_i32
  let v37 : BitVec 32 := Scalar.extui v36
  let c0_i32_27 : BitVec 32 := 0#32
  let v38 : BitVec 1 := Scalar.cmpi .ne v37 c0_i32_27
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutRefIdeal.lean ====
abbrev S1x2048x512 : Shape := ⟨3, ![1, 2048, 512]⟩
abbrev S1x2048x1024 : Shape := ⟨3, ![1, 2048, 1024]⟩
abbrev S1x6144 : Shape := ⟨2, ![1, 6144]⟩
abbrev S1x1024x1024 : Shape := ⟨3, ![1, 1024, 1024]⟩
abbrev S6144 : Shape := ⟨1, ![6144]⟩
abbrev S1x1024 : Shape := ⟨2, ![1, 1024]⟩
abbrev S1024x1024 : Shape := ⟨2, ![1024, 1024]⟩
abbrev S1x1x1024 : Shape := ⟨3, ![1, 1, 1024]⟩
abbrev S_ : Shape := ⟨0, ![]⟩
abbrev S1024 : Shape := ⟨1, ![1024]⟩
abbrev S7x1024 : Shape := ⟨2, ![7, 1024]⟩
abbrev S8x1024 : Shape := ⟨2, ![8, 1024]⟩
abbrev S2048x512 : Shape := ⟨2, ![2048, 512]⟩

abbrev nBuf : Space → Nat
  | .hbm => 43
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x1024, .f32⟩
  | .hbm, ⟨3, _⟩ => ⟨S1x6144, .f32⟩
  | .hbm, ⟨4, _⟩ => ⟨S1x6144, .f32⟩
  | .hbm, ⟨5, _⟩ => ⟨S1x1024x1024, .f32⟩
  | .hbm, ⟨6, _⟩ => ⟨S1x2048x1024, .f32⟩
  | .hbm, ⟨7, _⟩ => ⟨S6144, .f32⟩
  | .hbm, ⟨8, _⟩ => ⟨S1x6144, .f32⟩
  | .hbm, ⟨9, _⟩ => ⟨S1x6144, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024x1024, .f32⟩
  | .hbm, ⟨17, _⟩ => ⟨S1x2048x1024, .f32⟩
  | .hbm, ⟨18, _⟩ => ⟨S1x2048x1024, .f32⟩
  | .hbm, ⟨19, _⟩ => ⟨S1x1x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S_, .f32⟩
  | .hbm, ⟨27, _⟩ => ⟨S1x1024, .f32⟩
  | .hbm, ⟨28, _⟩ => ⟨S1x1x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S1024x1024, .f32⟩
  | .hbm, ⟨33, _⟩ => ⟨S1024x1024, .f32⟩
  | .hbm, ⟨34, _⟩ => ⟨S1x2048x1024, .f32⟩
  | .hbm, ⟨35, _⟩ => ⟨S1x2048x512, .f32⟩
  | .hbm, ⟨36, _⟩ => ⟨S1x2048x512, .f32⟩
  | .hbm, ⟨37, _⟩ => ⟨S_, .f32⟩
  | .hbm, ⟨38, _⟩ => ⟨S7x1024, .f32⟩
  | .hbm, ⟨39, _⟩ => ⟨S8x1024, .f32⟩
  | .hbm, ⟨40, _⟩ => ⟨S2048x512, .f32⟩
  | .hbm, ⟨41, _⟩ => ⟨S2048x512, .f32⟩
  | .hbm, ⟨42, _⟩ => ⟨S1024x1024, .bf16⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== In.lean ====
abbrev S1x2048x1024 : Shape := ⟨3, ![1, 2048, 1024]⟩
abbrev S1x6144 : Shape := ⟨2, ![1, 6144]⟩
abbrev S1x1024 : Shape := ⟨2, ![1, 1024]⟩
abbrev S1x1024x3080 : Shape := ⟨3, ![1, 1024, 3080]⟩
abbrev S1x2048x3080 : Shape := ⟨3, ![1, 2048, 3080]⟩
abbrev S2048x3080 : Shape := ⟨2, ![2048, 3080]⟩
abbrev S2048x1024 : Shape := ⟨2, ![2048, 1024]⟩
abbrev S2048x2048 : Shape := ⟨2, ![2048, 2048]⟩
abbrev S2048x8 : Shape := ⟨2, ![2048, 8]⟩
abbrev S_ : Shape := ⟨0, ![]⟩
abbrev S2048x128 : Shape := ⟨2, ![2048, 128]⟩
abbrev S1024x3080 : Shape := ⟨2, ![1024, 3080]⟩
abbrev S3080x1024 : Shape := ⟨2, ![3080, 1024]⟩
abbrev S8x1024 : Shape := ⟨2, ![8, 1024]⟩
abbrev S128x1024 : Shape := ⟨2, ![128, 1024]⟩
abbrev S512x1024 : Shape := ⟨2, ![512, 1024]⟩
abbrev S512x2048 : Shape := ⟨2, ![512, 2048]⟩
abbrev S512x128 : Shape := ⟨2, ![512, 128]⟩
abbrev S3072x1024 : Shape := ⟨2, ![3072, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 26
  | .vmem => 18
  | .smem => 0
  | _ => 0

abbrev bufTy : (tb : Table) → Fin (tcTables nBuf tb) → BufTy
  | .hbm, ⟨0, _⟩ => ⟨S1x2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S1x1024x3080, .f32⟩
  | .hbm, ⟨5, _⟩ => ⟨S1x2048x3080, .f32⟩
  | .hbm, ⟨6, _⟩ => ⟨S1x2048x1024, .f32⟩
  | .hbm, ⟨7, _⟩ => ⟨S1x2048x3080, .bf16⟩
  | .hbm, ⟨8, _⟩ => ⟨S2048x3080, .bf16⟩
  | .hbm, ⟨9, _⟩ => ⟨S2048x1024, .bf16⟩
  | .hbm, ⟨10, _⟩ => ⟨S2048x2048, .bf16⟩
  | .hbm, ⟨11, _⟩ => ⟨S2048x8, .bf16⟩
  | .hbm, ⟨12, _⟩ => ⟨S_, .i32⟩
  | .hbm, ⟨13, _⟩ => ⟨S_, .bf16⟩
  | .hbm, ⟨14, _⟩ => ⟨S2048x128, .bf16⟩
  | .hbm, ⟨15, _⟩ => ⟨S1024x3080, .f32⟩
  | .hbm, ⟨16, _⟩ => ⟨S3080x1024, .f32⟩
  | .hbm, ⟨17, _⟩ => ⟨S3080x1024, .bf16⟩
  | .hbm, ⟨18, _⟩ => ⟨S8x1024, .bf16⟩
  | .hbm, ⟨19, _⟩ => ⟨S_, .i32⟩
  | .hbm, ⟨20, _⟩ => ⟨S_, .bf16⟩
  | .hbm, ⟨21, _⟩ => ⟨S128x1024, .bf16⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x128, .bf16⟩
  | .local _ .vmem, ⟨5, _⟩ => ⟨S512x128, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x6144, .f32⟩
  | .local _ .vmem, ⟨12, _⟩ => ⟨S1x6144, .f32⟩
  | .local _ .vmem, ⟨13, _⟩ => ⟨S3072x1024, .bf16⟩
  | .local _ .vmem, ⟨14, _⟩ => ⟨S128x1024, .bf16⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3072x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InRefIdeal.lean ====
abbrev S1x2048x1024 : Shape := ⟨3, ![1, 2048, 1024]⟩
abbrev S1x6144 : Shape := ⟨2, ![1, 6144]⟩
abbrev S1x1024 : Shape := ⟨2, ![1, 1024]⟩
abbrev S1x1024x3080 : Shape := ⟨3, ![1, 1024, 3080]⟩
abbrev S1x2048x3080 : Shape := ⟨3, ![1, 2048, 3080]⟩
abbrev S6144 : Shape := ⟨1, ![6144]⟩
abbrev S1024 : Shape := ⟨1, ![1024]⟩
abbrev S1024x3080 : Shape := ⟨2, ![1024, 3080]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S5x1024 : Shape := ⟨2, ![5, 1024]⟩
abbrev S8x1024 : Shape := ⟨2, ![8, 1024]⟩
abbrev S2048x1024 : Shape := ⟨2, ![2048, 1024]⟩

abbrev nBuf : Space → Nat
  | .hbm => 96
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S1x1024x3080, .f32⟩
  | .hbm, ⟨5, _⟩ => ⟨S1x2048x3080, .f32⟩
  | .hbm, ⟨6, _⟩ => ⟨S1x2048x1024, .f32⟩
  | .hbm, ⟨7, _⟩ => ⟨S6144, .f32⟩
  | .hbm, ⟨8, _⟩ => ⟨S1x6144, .f32⟩
  | .hbm, ⟨9, _⟩ => ⟨S1x6144, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024, .f32⟩
  | .hbm, ⟨17, _⟩ => ⟨S1024x3080, .f32⟩
  | .hbm, ⟨18, _⟩ => ⟨S1x2048x1024, .f32⟩
  | .hbm, ⟨19, _⟩ => ⟨S_, .f32⟩
  | .hbm, ⟨20, _⟩ => ⟨S1x2048, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S_, .f32⟩
  | .hbm, ⟨26, _⟩ => ⟨S1x2048x1, .f32⟩
  | .hbm, ⟨27, _⟩ => ⟨S1x2048x1, .f32⟩
  | .hbm, ⟨28, _⟩ => ⟨S1x2048x1, .f32⟩
  | .hbm, ⟨29, _⟩ => ⟨S1x2048x1, .f32⟩
  | .hbm, ⟨30, _⟩ => ⟨S_, .f32⟩
  | .hbm, ⟨31, _⟩ => ⟨S1x2048x1, .f32⟩
  | .hbm, ⟨32, _⟩ => ⟨S1x2048x1, .f32⟩
  | .hbm, ⟨33, _⟩ => ⟨S1x2048x1024, .f32⟩
  | .hbm, ⟨34, _⟩ => ⟨S1x2048x1024, .f32⟩
  | .hbm, ⟨35, _⟩ => ⟨S1x1x1024, .f32⟩
  | .hbm, ⟨36, _⟩ => ⟨S1x2048x1024, .f32⟩
  | .hbm, ⟨37, _⟩ => ⟨S1x2048x1024, .f32⟩
  | .hbm, ⟨38, _⟩ => ⟨S1x1x1024, .f32⟩
  | .hbm, ⟨39, _⟩ => ⟨S_, .f32⟩
  | .hbm, ⟨40, _⟩ => ⟨S1x1x1024, .f32⟩
  | .hbm, ⟨41, _⟩ => ⟨S1x1x1024, .f32⟩
  | .hbm, ⟨42, _⟩ => ⟨S1x2048x1024, .f32⟩
  | .hbm, ⟨43, _⟩ => ⟨S1x2048x1024, .f32⟩
  | .hbm, ⟨44, _⟩ => ⟨S1x1x1024, .f32⟩
  | .hbm, ⟨45, _⟩ => ⟨S1x2048x1024, .f32⟩
  | .hbm, ⟨46, _⟩ => ⟨S1x2048x1024, .f32⟩
  | .hbm, ⟨47, _⟩ => ⟨S1x2048x3080, .f32⟩
  | .hbm, ⟨48, _⟩ => ⟨S1x2048x1024, .f32⟩
  | .hbm, ⟨49, _⟩ => ⟨S_, .f32⟩
  | .hbm, ⟨50, _⟩ => ⟨S1x1024, .f32⟩
  | .hbm, ⟨51, _⟩ => ⟨S1x1x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1x2048x1024, .f32⟩
  | .hbm, ⟨56, _⟩ => ⟨S_, .f32⟩
  | .hbm, ⟨57, _⟩ => ⟨S1x1024, .f32⟩
  | .hbm, ⟨58, _⟩ => ⟨S1x1x1024, .f32⟩
  | .hbm, ⟨59, _⟩ => ⟨S1x2048x1024, .f32⟩
  | .hbm, ⟨60, _⟩ => ⟨S1x2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S1x2048x1024, .f32⟩
  | .hbm, ⟨65, _⟩ => ⟨S_, .f32⟩
  | .hbm, ⟨66, _⟩ => ⟨S1x1024, .f32⟩
  | .hbm, ⟨67, _⟩ => ⟨S1x1x1024, .f32⟩
  | .hbm, ⟨68, _⟩ => ⟨S1x2048x1024, .f32⟩
  | .hbm, ⟨69, _⟩ => ⟨S1x2048x1024, .f32⟩
  | .hbm, ⟨70, _⟩ => ⟨S_, .f32⟩
  | .hbm, ⟨71, _⟩ => ⟨S1024, .f32⟩
  | .hbm, ⟨72, _⟩ => ⟨S1x2048x1024, .f32⟩
  | .hbm, ⟨73, _⟩ => ⟨S_, .f32⟩
  | .hbm, ⟨74, _⟩ => ⟨S1x2048, .f32⟩
  | .hbm, ⟨75, _⟩ => ⟨S1x2048x1, .f32⟩
  | .hbm, ⟨76, _⟩ => ⟨S1x2048x1024, .f32⟩
  | .hbm, ⟨77, _⟩ => ⟨S1x2048x1024, .f32⟩
  | .hbm, ⟨78, _⟩ => ⟨S1x2048x1024, .f32⟩
  | .hbm, ⟨79, _⟩ => ⟨S1x2048x1, .f32⟩
  | .hbm, ⟨80, _⟩ => ⟨S_, .f32⟩
  | .hbm, ⟨81, _⟩ => ⟨S1x2048x1, .f32⟩
  | .hbm, ⟨82, _⟩ => ⟨S1x2048x1, .f32⟩
  | .hbm, ⟨83, _⟩ => ⟨S_, .f32⟩
  | .hbm, ⟨84, _⟩ => ⟨S2048, .f32⟩
  | .hbm, ⟨85, _⟩ => ⟨S1x2048, .f32⟩
  | .hbm, ⟨86, _⟩ => ⟨S1x2048x1024, .f32⟩
  | .hbm, ⟨87, _⟩ => ⟨S1x2048x1024, .f32⟩
  | .hbm, ⟨88, _⟩ => ⟨S1x2048x1024, .f32⟩
  | .hbm, ⟨89, _⟩ => ⟨S1x2048x1024, .f32⟩
  | .hbm, ⟨90, _⟩ => ⟨S1x2048x1024, .f32⟩
  | .hbm, ⟨91, _⟩ => ⟨S1x1024, .f32⟩
  | .hbm, ⟨92, _⟩ => ⟨S_, .f32⟩
  | .hbm, ⟨93, _⟩ => ⟨S5x1024, .f32⟩
  | .hbm, ⟨94, _⟩ => ⟨S8x1024, .f32⟩
  | .hbm, ⟨95, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_13 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== Ffn.lean ====
abbrev S1x2048x1024 : Shape := ⟨3, ![1, 2048, 1024]⟩
abbrev S1x6144 : Shape := ⟨2, ![1, 6144]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048x1024 : Shape := ⟨2, ![2048, 1024]⟩
abbrev S1024x5632 : Shape := ⟨2, ![1024, 5632]⟩
abbrev S2048x5632 : Shape := ⟨2, ![2048, 5632]⟩
abbrev S2048x8x704 : Shape := ⟨3, ![2048, 8, 704]⟩
abbrev S8x2048x704 : Shape := ⟨3, ![8, 2048, 704]⟩
abbrev S5632x1024 : Shape := ⟨2, ![5632, 1024]⟩
abbrev S8x704x1024 : Shape := ⟨3, ![8, 704, 1024]⟩
abbrev S2816x1024 : Shape := ⟨2, ![2816, 1024]⟩
abbrev S4x704x1024 : Shape := ⟨3, ![4, 704, 1024]⟩
abbrev S8x1024 : Shape := ⟨2, ![8, 1024]⟩
abbrev S256x1024 : Shape := ⟨2, ![256, 1024]⟩
abbrev S8x256x704 : Shape := ⟨3, ![8, 256, 704]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256 : Shape := ⟨1, ![256]⟩
abbrev S256x1 : Shape := ⟨2, ![256, 1]⟩

abbrev nBuf : Space → Nat
  | .hbm => 59
  | .vmem => 18
  | .smem => 0
  | _ => 0

abbrev bufTy : (tb : Table) → Fin (tcTables nBuf tb) → BufTy
  | .hbm, ⟨0, _⟩ => ⟨S1x2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S1x1024x5632, .f32⟩
  | .hbm, ⟨5, _⟩ => ⟨S1x2816x1024, .f32⟩
  | .hbm, ⟨6, _⟩ => ⟨S1x2048x1024, .f32⟩
  | .hbm, ⟨7, _⟩ => ⟨S1x6144, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1x2048x1024, .f32⟩
  | .hbm, ⟨13, _⟩ => ⟨S_, .f32⟩
  | .hbm, ⟨14, _⟩ => ⟨S1x2048, .f32⟩
  | .hbm, ⟨15, _⟩ => ⟨S1x2048x1, .f32⟩
  | .hbm, ⟨16, _⟩ => ⟨S_, .f32⟩
  | .hbm, ⟨17, _⟩ => ⟨S1x2048x1, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S1x2048x1, .f32⟩
  | .hbm, ⟨23, _⟩ => ⟨S1x2048x1024, .f32⟩
  | .hbm, ⟨24, _⟩ => ⟨S1x2048x1024, .f32⟩
  | .hbm, ⟨25, _⟩ => ⟨S1x1x1024, .f32⟩
  | .hbm, ⟨26, _⟩ => ⟨S1x2048x1024, .f32⟩
  | .hbm, ⟨27, _⟩ => ⟨S1x2048x1024, .f32⟩
  | .hbm, ⟨28, _⟩ => ⟨S1x1x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S1x2048x1024, .f32⟩
  | .hbm, ⟨33, _⟩ => ⟨S1x2048x1024, .f32⟩
  | .hbm, ⟨34, _⟩ => ⟨S1x1x1024, .f32⟩
  | .hbm, ⟨35, _⟩ => ⟨S1x2048x1024, .f32⟩
  | .hbm, ⟨36, _⟩ => ⟨S1x2048x1024, .f32⟩
  | .hbm, ⟨37, _⟩ => ⟨S2048x1024, .f32⟩
  | .hbm, ⟨38, _⟩ => ⟨S1024x5632, .f32⟩
  | .hbm, ⟨39, _⟩ => ⟨S2048x5632, .f32⟩
  | .hbm, ⟨40, _⟩ => ⟨S2048x8x704, .f32⟩
  | .hbm, ⟨41, _⟩ => ⟨S8x2048x704, .f32⟩
  | .hbm, ⟨42, _⟩ => ⟨S8x2048x704, .bf16⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .bf16⟩
  | .hbm, ⟨47, _⟩ => ⟨S1024x5632, .f32⟩
  | .hbm, ⟨48, _⟩ => ⟨S5632x1024, .f32⟩
  | .hbm, ⟨49, _⟩ => ⟨S5632x1024, .bf16⟩
  | .hbm, ⟨50, _⟩ => ⟨S8x704x1024, .bf16⟩
  | .hbm, ⟨51, _⟩ => ⟨S2816x1024, .f32⟩
  | .hbm, ⟨52, _⟩ => ⟨S2816x1024, .bf16⟩
  | .hbm, ⟨53, _⟩ => ⟨S4x704x1024, .bf16⟩
  | .hbm, ⟨54, _⟩ => ⟨S2048x1024, .f32⟩
  | .hbm, ⟨55, _⟩ => ⟨S2048x1024, .f32⟩
  | .hbm, ⟨56, _⟩ => ⟨S8x2048x704, .bf16⟩
  | .hbm, ⟨57, _⟩ => ⟨S2048x1024, .f32⟩
  | .hbm, ⟨58, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S8x256x704, .bf16⟩
  | .local _ .vmem, ⟨3, _⟩ => ⟨S8x256x704, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x6144, .f32⟩
  | .local _ .vmem, ⟨9, _⟩ => ⟨S1x6144, .f32⟩
  | .local _ .vmem, ⟨10, _⟩ => ⟨S1x1024, .f32⟩
  | .local _ .vmem, ⟨11, _⟩ => ⟨S8x704x1024, .bf16⟩
  | .local _ .vmem, ⟨12, _⟩ => ⟨S4x704x1024, .bf16⟩
  | .local _ .vmem, ⟨13, _⟩ => ⟨S8x256x704, .bf16⟩
  | .local _ .vmem, ⟨14, _⟩ => ⟨S8x256x704, .bf16⟩
  | .local _ .vmem, ⟨15, _⟩ => ⟨S256x1024, .f32⟩
  | .local _ .vmem, ⟨16, _⟩ => ⟨S256x1024, .f32⟩
  | .local _ .vmem, ⟨17, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev main_v45_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S1x2048x1024 : Shape := ⟨3, ![1, 2048, 1024]⟩
abbrev S1x6144 : Shape := ⟨2, ![1, 6144]⟩
abbrev S1x1024 : Shape := ⟨2, ![1, 1024]⟩
abbrev S1x1024x5632 : Shape := ⟨3, ![1, 1024, 5632]⟩
abbrev S1x2816x1024 : Shape := ⟨3, ![1, 2816, 1024]⟩
abbrev S6144 : Shape := ⟨1, ![6144]⟩
abbrev S1024 : Shape := ⟨1, ![1024]⟩
abbrev S1024x5632 : Shape := ⟨2, ![1024, 5632]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x5632 : Shape := ⟨3, ![1, 2048, 5632]⟩
abbrev S2816x1024 : Shape := ⟨2, ![2816, 1024]⟩
abbrev S1x2048x2816 : Shape := ⟨3, ![1, 2048, 2816]⟩
abbrev S2048 : Shape := ⟨1, ![2048]⟩
abbrev S2048x5632 : Shape := ⟨2, ![2048, 5632]⟩
abbrev S2048x8x704 : Shape := ⟨3, ![2048, 8, 704]⟩
abbrev S8x2048x704 : Shape := ⟨3, ![8, 2048, 704]⟩
abbrev S2x1024 : Shape := ⟨2, ![2, 1024]⟩
abbrev S3x1024 : Shape := ⟨2, ![3, 1024]⟩
abbrev S8x1024 : Shape := ⟨2, ![8, 1024]⟩
abbrev S2048x1024 : Shape := ⟨2, ![2048, 1024]⟩

abbrev nBuf : Space → Nat
  | .hbm => 135
  | .vmem => 0
  | .smem => 0
  | _ => 0

abbrev hbmTy0_0 (i : Nat) : BufTy := match i % 128 with
  | 0 => ⟨S1x2048x1024, .f32⟩
  | 1 => ⟨S1x6144, .f32⟩
  | 2 => ⟨S1x6144, .f32⟩
  | 3 => ⟨S1x1024, .f32⟩
  | 4 => ⟨S1x1024x5632, .f32⟩
  | 5 => ⟨S1x2816x1024, .f32⟩
  | 6 => ⟨S1x2048x1024, .f32⟩
  | 7 => ⟨S6144, .f32⟩
  | 8 => ⟨S1x6144, .f32⟩
  | 9 => ⟨S1x6144, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1024, .f32⟩
  | 17 => ⟨S1024x5632, .f32⟩
  | 18 => ⟨S1x2048x1024, .f32⟩
  | 19 => ⟨S_, .f32⟩
  | 20 => ⟨S1x2048, .f32⟩
  | 21 => ⟨S1x2048x1, .f32⟩
  | 22 => ⟨S_, .f32⟩
  | 23 => ⟨S1x2048x1, .f32⟩
  | 24 => ⟨S1x2048x1, .f32⟩
  | 25 => ⟨S_, .f32⟩
  | 26 => ⟨S1x2048x1, .f32⟩
  | 27 => ⟨S1x2048x1, .f32⟩
  | 28 => ⟨S1x2048x1, .f32⟩
  | 29 => ⟨S1x2048x1, .f32⟩
  | 30 => ⟨S_, .f32⟩
  | 31 => ⟨S1x2048x1, .f32⟩
  | 32 => ⟨S1x2048x1, .f32⟩
  | 33 => ⟨S1x2048x1024, .f32⟩
  | 34 => ⟨S1x2048x1024, .f32⟩
  | 35 => ⟨S1x1x1024, .f32⟩
  | 36 => ⟨S1x2048x1024, .f32⟩
  | 37 => ⟨S1x2048x1024, .f32⟩
  | 38 => ⟨S1x1x1024, .f32⟩
  | 39 => ⟨S_, .f32⟩
  | 40 => ⟨S1x1x1024, .f32⟩
  | 41 => ⟨S1x1x1024, .f32⟩
  | 42 => ⟨S1x2048x1024, .f32⟩
  | 43 => ⟨S1x2048x1024, .f32⟩
  | 44 => ⟨S1x1x1024, .f32⟩
  | 45 => ⟨S1x2048x1024, .f32⟩
  | 46 => ⟨S1x2048x1024, .f32⟩
  | 47 => ⟨S1x2048x5632, .f32⟩
  | 48 => ⟨S2816x1024, .f32⟩
  | 49 => ⟨S1x2048x2816, .f32⟩
  | 50 => ⟨S1x2048x2816, .f32⟩
  | 51 => ⟨S1x2048x2816, .f32⟩
  | 52 => ⟨S1x2048x2816, .f32⟩
  | 53 => ⟨S_, .f32⟩
  | 54 => ⟨S1x2048x2816, .f32⟩
  | 55 => ⟨S1x2048x2816, .f32⟩
  | 56 => ⟨S_, .f32⟩
  | 57 => ⟨S1x2048x2816, .f32⟩
  | 58 => ⟨S1x2048x2816, .f32⟩
  | 59 => ⟨S_, .f32⟩
  | 60 => ⟨S1x2048x2816, .f32⟩
  | 61 => ⟨S1x2048x2816, .f32⟩
  | 62 => ⟨S1x2048x2816, .f32⟩
  | 63 => ⟨S1x2048x2816, .f32⟩
  | 64 => ⟨S1x2048x2816, .f32⟩
  | 65 => ⟨S1x2048x1024, .f32⟩
  | 66 => ⟨S1x1x1024, .f32⟩
  | 67 => ⟨S1x2048x1024, .f32⟩
  | 68 => ⟨S1x2048x1024, .f32⟩
  | 69 => ⟨S1x2048x1024, .f32⟩
  | 70 => ⟨S1x2048x1024, .f32⟩
  | 71 => ⟨S1x2048x1024, .f32⟩
  | 72 => ⟨S1x2048x1024, .f32⟩
  | 73 => ⟨S1x2048x2816, .f32⟩
  | 74 => ⟨S1x2048x2816, .f32⟩
  | 75 => ⟨S1x2048x2816, .f32⟩
  | 76 => ⟨S1x2048x2816, .f32⟩
  | 77 => ⟨S1x2048x2816, .f32⟩
  | 78 => ⟨S1x2048x2816, .f32⟩
  | 79 => ⟨S1x2048x2816, .f32⟩
  | 80 => ⟨S1x2048x5632, .f32⟩
  | 81 => ⟨S1x2048x1024, .f32⟩
  | 82 => ⟨S_, .f32⟩
  | 83 => ⟨S1x1024, .f32⟩
  | 84 => ⟨S1x1x1024, .f32⟩
  | 85 => ⟨S_, .f32⟩
  | 86 => ⟨S1024, .f32⟩
  | 87 => ⟨S1x1024, .f32⟩
  | 88 => ⟨S1x2048x1024, .f32⟩
  | 89 => ⟨S_, .f32⟩
  | 90 => ⟨S1x1024, .f32⟩
  | 91 => ⟨S1x1x1024, .f32⟩
  | 92 => ⟨S1x2048x1024, .f32⟩
  | 93 => ⟨S1x2048x1024, .f32⟩
  | 94 => ⟨S_, .f32⟩
  | 95 => ⟨S1024, .f32⟩
  | 96 => ⟨S1x1024, .f32⟩
  | 97 => ⟨S1x2048x1024, .f32⟩
  | 98 => ⟨S_, .f32⟩
  | 99 => ⟨S1x1024, .f32⟩
  | 100 => ⟨S1x1x1024, .f32⟩
  | 101 => ⟨S1x2048x1024, .f32⟩
  | 102 => ⟨S1x2048x1024, .f32⟩
  | 103 => ⟨S_, .f32⟩
  | 104 => ⟨S1024, .f32⟩
  | 105 => ⟨S1x2048x1024, .f32⟩
  | 106 => ⟨S_, .f32⟩
  | 107 => ⟨S1x2048, .f32⟩
  | 108 => ⟨S1x2048x1, .f32⟩
  | 109 => ⟨S1x2048x1024, .f32⟩
  | 110 => ⟨S1x2048x1024, .f32⟩
  | 111 => ⟨S1x2048x1, .f32⟩
  | 112 => ⟨S_, .f32⟩
  | 113 => ⟨S1x2048x1, .f32⟩
  | 114 => ⟨S1x2048x1, .f32⟩
  | 115 => ⟨S_, .f32⟩
  | 116 => ⟨S2048, .f32⟩
  | 117 => ⟨S1x2048, .f32⟩
  | 118 => ⟨S1x2048x1024, .f32⟩
  | 119 => ⟨S1x2048x1024, .f32⟩
  | 120 => ⟨S1x2048x1024, .f32⟩
  | 121 => ⟨S1x2048x1024, .f32⟩
  | 122 => ⟨S1x2048x1024, .f32⟩
  | 123 => ⟨S2048x5632, .f32⟩
  | 124 => ⟨S2048x8x704, .f32⟩
  | 125 => ⟨S8x2048x704, .f32⟩
  | 126 => ⟨S8x2048x704, .bf16⟩
  | 127 => ⟨S_, .f32⟩
  | _ => ⟨S1x2048x1024, .f32⟩

abbrev hbmTy0_1 (i : Nat) : BufTy := match i % 128 with
  | 0 => ⟨S2x1024, .f32⟩
  | 1 => ⟨S1x1024, .f32⟩
  | 2 => ⟨S_, .f32⟩
  | 3 => ⟨S3x1024, .f32⟩
  | 4 => ⟨S8x1024, .f32⟩
  | 5 => ⟨S1x2048x1024, .f32⟩
  | 6 => ⟨S2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v39_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v39_1 : Ref sig .tc := ⟨.hbm, 62, rfl⟩
abbrev main_v39_0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_4 : Ref sig .tc := ⟨.hbm, 82, rfl⟩
abbrev main_v55 : Ref sig .tc := ⟨.hbm, 83, rfl⟩
abbrev main_v56 : Ref sig .tc := ⟨.hbm, 84, rfl⟩
abbrev main_cst_5 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_6 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_7 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_9 : Ref sig .tc := ⟨.hbm, 103, rfl⟩
abbrev main_v71 : Ref sig .tc := ⟨.hbm, 104, rfl⟩
abbrev main_v72 : Ref sig .tc := ⟨.hbm, 105, rfl⟩
abbrev main_cst_10 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_11 : Ref sig .tc := ⟨.hbm, 112, rfl⟩
abbrev main_v78 : Ref sig .tc := ⟨.hbm, 113, rfl⟩
abbrev main_v79 : Ref sig .tc := ⟨.hbm, 114, rfl⟩
abbrev main_cst_12 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_13 : Ref sig .tc := ⟨.hbm, 127, rfl⟩
abbrev main_v91 : Ref sig .tc := ⟨.hbm, 128, rfl⟩
abbrev main_v92 : Ref sig .tc := ⟨.hbm, 129, rfl⟩
abbrev main_cst_14 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]
-- ==== Loss.lean ====
abbrev S1x2048x1024 : Shape := ⟨3, ![1, 2048, 1024]⟩
abbrev S1x6144 : Shape := ⟨2, ![1, 6144]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S5632x1024 : Shape := ⟨2, ![5632, 1024]⟩
abbrev S8x704x1024 : Shape := ⟨3, ![8, 704, 1024]⟩
abbrev S2816x1024 : Shape := ⟨2, ![2816, 1024]⟩
abbrev S4x704x1024 : Shape := ⟨3, ![4, 704, 1024]⟩
abbrev S2048x1024 : Shape := ⟨2, ![2048, 1024]⟩
abbrev S4x2048x704 : Shape := ⟨3, ![4, 2048, 704]⟩
abbrev S8x2048x704 : Shape := ⟨3, ![8, 2048, 704]⟩
abbrev S8x1024 : Shape := ⟨2, ![8, 1024]⟩
abbrev S256x1024 : Shape := ⟨2, ![256, 1024]⟩
abbrev S4x256x704 : Shape := ⟨3, ![4, 256, 704]⟩
abbrev S8x256x704 : Shape := ⟨3, ![8, 256, 704]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1 : Shape := ⟨1, ![1]⟩
abbrev S1x1 : Shape := ⟨2, ![1, 1]⟩

abbrev nBuf : Space → Nat
  | .hbm => 24
  | .vmem => 21
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x6144, .f32⟩
  | .hbm, ⟨3, _⟩ => ⟨S1x6144, .f32⟩
  | .hbm, ⟨4, _⟩ => ⟨S1x1024, .f32⟩
  | .hbm, ⟨5, _⟩ => ⟨S1024, .f32⟩
  | .hbm, ⟨6, _⟩ => ⟨S1x1024x5632, .f32⟩
  | .hbm, ⟨7, _⟩ => ⟨S1x2816x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | .hbm, ⟨11, _⟩ => ⟨S8x704x1024, .bf16⟩
  | .hbm, ⟨12, _⟩ => ⟨S2816x1024, .f32⟩
  | .hbm, ⟨13, _⟩ => ⟨S2816x1024, .bf16⟩
  | .hbm, ⟨14, _⟩ => ⟨S4x704x1024, .bf16⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .bf16⟩
  | .hbm, ⟨19, _⟩ => ⟨S4x2048x704, .bf16⟩
  | .hbm, ⟨20, _⟩ => ⟨S8x2048x704, .bf16⟩
  | .hbm, ⟨21, _⟩ => ⟨S2048x1024, .f32⟩
  | .hbm, ⟨22, _⟩ => ⟨S2048x1024, .bf16⟩
  | .hbm, ⟨23, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x6144, .f32⟩
  | .local _ .vmem, ⟨5, _⟩ => ⟨S1x6144, .f32⟩
  | .local _ .vmem, ⟨6, _⟩ => ⟨S1x1024, .f32⟩
  | .local _ .vmem, ⟨7, _⟩ => ⟨S1x1024, .f32⟩
  | .local _ .vmem, ⟨8, _⟩ => ⟨S8x704x1024, .bf16⟩
  | .local _ .vmem, ⟨9, _⟩ => ⟨S4x704x1024, .bf16⟩
  | .local _ .vmem, ⟨10, _⟩ => ⟨S256x1024, .bf16⟩
  | .local _ .vmem, ⟨11, _⟩ => ⟨S256x1024, .bf16⟩
  | .local _ .vmem, ⟨12, _⟩ => ⟨S4x256x704, .bf16⟩
  | .local _ .vmem, ⟨13, _⟩ => ⟨S4x256x704, .bf16⟩
  | .local _ .vmem, ⟨14, _⟩ => ⟨S8x256x704, .bf16⟩
  | .local _ .vmem, ⟨15, _⟩ => ⟨S8x256x704, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LossRefIdeal.lean ====
abbrev S1x2048x1024 : Shape := ⟨3, ![1, 2048, 1024]⟩
abbrev S1x6144 : Shape := ⟨2, ![1, 6144]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S6144 : Shape := ⟨1, ![6144]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x5632 : Shape := ⟨2, ![1024, 5632]⟩
abbrev S1x2048x5632 : Shape := ⟨3, ![1, 2048, 5632]⟩
abbrev S1x2048x2816 : Shape := ⟨3, ![1, 2048, 2816]⟩
abbrev S2816x1024 : Shape := ⟨2, ![2816, 1024]⟩
abbrev S2048 : Shape := ⟨1, ![2048]⟩
abbrev S3x1024 : Shape := ⟨2, ![3, 1024]⟩
abbrev S2x1024 : Shape := ⟨2, ![2, 1024]⟩
abbrev S8x1024 : Shape := ⟨2, ![8, 1024]⟩
abbrev S2048x1024 : Shape := ⟨2, ![2048, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S2048x5632 : Shape := ⟨2, ![2048, 5632]⟩
abbrev S2048x8x704 : Shape := ⟨3, ![2048, 8, 704]⟩
abbrev S8x2048x704 : Shape := ⟨3, ![8, 2048, 704]⟩

abbrev nBuf : Space → Nat
  | .hbm => 161
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x6144, .f32⟩
  | 3 => ⟨S1x6144, .f32⟩
  | 4 => ⟨S1x1024, .f32⟩
  | 5 => ⟨S1024, .f32⟩
  | 6 => ⟨S1x1024x5632, .f32⟩
  | 7 => ⟨S1x2816x1024, .f32⟩
  | 8 => ⟨S6144, .f32⟩
  | 9 => ⟨S1x6144, .f32⟩
  | 10 => ⟨S1x6144, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1024, .f32⟩
  | 18 => ⟨S1x2048x1024, .f32⟩
  | 19 => ⟨S_, .f32⟩
  | 20 => ⟨S1x2048, .f32⟩
  | 21 => ⟨S1x2048x1, .f32⟩
  | 22 => ⟨S_, .f32⟩
  | 23 => ⟨S1x2048x1, .f32⟩
  | 24 => ⟨S1x2048x1, .f32⟩
  | 25 => ⟨S_, .f32⟩
  | 26 => ⟨S1x2048x1, .f32⟩
  | 27 => ⟨S1x2048x1, .f32⟩
  | 28 => ⟨S1x2048x1, .f32⟩
  | 29 => ⟨S1x2048x1024, .f32⟩
  | 30 => ⟨S1x2048x1024, .f32⟩
  | 31 => ⟨S1x1x1024, .f32⟩
  | 32 => ⟨S1x2048x1024, .f32⟩
  | 33 => ⟨S1x2048x1024, .f32⟩
  | 34 => ⟨S1x1x1024, .f32⟩
  | 35 => ⟨S_, .f32⟩
  | 36 => ⟨S1x1x1024, .f32⟩
  | 37 => ⟨S1x1x1024, .f32⟩
  | 38 => ⟨S1x2048x1024, .f32⟩
  | 39 => ⟨S1x2048x1024, .f32⟩
  | 40 => ⟨S1x1x1024, .f32⟩
  | 41 => ⟨S1x2048x1024, .f32⟩
  | 42 => ⟨S1x2048x1024, .f32⟩
  | 43 => ⟨S1024x5632, .f32⟩
  | 44 => ⟨S1x2048x5632, .f32⟩
  | 45 => ⟨S1x2048x2816, .f32⟩
  | 46 => ⟨S1x2048x2816, .f32⟩
  | 47 => ⟨S1x2048x2816, .f32⟩
  | 48 => ⟨S1x2048x2816, .f32⟩
  | 49 => ⟨S_, .f32⟩
  | 50 => ⟨S1x2048x2816, .f32⟩
  | 51 => ⟨S1x2048x2816, .f32⟩
  | 52 => ⟨S_, .f32⟩
  | 53 => ⟨S1x2048x2816, .f32⟩
  | 54 => ⟨S1x2048x2816, .f32⟩
  | 55 => ⟨S1x2048x2816, .f32⟩
  | 56 => ⟨S1x2048x2816, .f32⟩
  | 57 => ⟨S2816x1024, .f32⟩
  | 58 => ⟨S1x2048x1024, .f32⟩
  | 59 => ⟨S1x1x1024, .f32⟩
  | 60 => ⟨S1x2048x1024, .f32⟩
  | 61 => ⟨S1x2048x1024, .f32⟩
  | 62 => ⟨S1x2048x1024, .f32⟩
  | 63 => ⟨S1x2048x1024, .f32⟩
  | 64 => ⟨S_, .f32⟩
  | 65 => ⟨S1x2048, .f32⟩
  | 66 => ⟨S1x2048x1, .f32⟩
  | 67 => ⟨S_, .f32⟩
  | 68 => ⟨S1x2048x1, .f32⟩
  | 69 => ⟨S1x2048x1, .f32⟩
  | 70 => ⟨S_, .f32⟩
  | 71 => ⟨S1x2048x1, .f32⟩
  | 72 => ⟨S1x2048x1, .f32⟩
  | 73 => ⟨S1x2048x1, .f32⟩
  | 74 => ⟨S1x2048x1, .f32⟩
  | 75 => ⟨S_, .f32⟩
  | 76 => ⟨S1x2048x1, .f32⟩
  | 77 => ⟨S1x2048x1, .f32⟩
  | 78 => ⟨S1x2048x1024, .f32⟩
  | 79 => ⟨S1x2048x1024, .f32⟩
  | 80 => ⟨S1x1x1024, .f32⟩
  | 81 => ⟨S1x2048x1024, .f32⟩
  | 82 => ⟨S1x2048x1024, .f32⟩
  | 83 => ⟨S1x2048x1024, .f32⟩
  | 84 => ⟨S1x2048x1024, .f32⟩
  | 85 => ⟨S_, .f32⟩
  | 86 => ⟨S1x2048x1024, .f32⟩
  | 87 => ⟨S1x2048x1024, .f32⟩
  | 88 => ⟨S_, .f32⟩
  | 89 => ⟨S1x2048, .f32⟩
  | 90 => ⟨S_, .f32⟩
  | 91 => ⟨S1x2048, .f32⟩
  | 92 => ⟨S1x2048, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S1x2048, .f32⟩
  | 101 => ⟨S_, .f32⟩
  | 102 => ⟨S1x2048, .f32⟩
  | 103 => ⟨S1x2048, .f32⟩
  | 104 => ⟨S1x2048x1024, .f32⟩
  | 105 => ⟨S1x2048x1024, .f32⟩
  | 106 => ⟨S1x2048x1024, .f32⟩
  | 107 => ⟨S_, .f32⟩
  | 108 => ⟨S1x1024, .f32⟩
  | 109 => ⟨S1x1x1024, .f32⟩
  | 110 => ⟨S1x2048x1024, .f32⟩
  | 111 => ⟨S1x2048x1024, .f32⟩
  | 112 => ⟨S_, .f32⟩
  | 113 => ⟨S1024, .f32⟩
  | 114 => ⟨S1x2048x1024, .f32⟩
  | 115 => ⟨S_, .f32⟩
  | 116 => ⟨S1x2048, .f32⟩
  | 117 => ⟨S1x2048x1, .f32⟩
  | 118 => ⟨S1x2048x1024, .f32⟩
  | 119 => ⟨S1x2048x1024, .f32⟩
  | 120 => ⟨S1x2048x1, .f32⟩
  | 121 => ⟨S_, .f32⟩
  | 122 => ⟨S1x2048x1, .f32⟩
  | 123 => ⟨S1x2048x1, .f32⟩
  | 124 => ⟨S_, .f32⟩
  | 125 => ⟨S2048, .f32⟩
  | 126 => ⟨S1x2048, .f32⟩
  | 127 => ⟨S1x2048x1024, .f32⟩
  | _ => ⟨S1x2048x1024, .f32⟩

abbrev hbmTy0_1 (i : Nat) : BufTy := match i % 128 with
  | 0 => ⟨S1x2048x1024, .f32⟩
  | 1 => ⟨S1x2048x1024, .f32⟩
  | 2 => ⟨S1x2048x1024, .f32⟩
  | 3 => ⟨S1x2048x1024, .f32⟩
  | 4 => ⟨S1x2048x1024, .f32⟩
  | 5 => ⟨S1x2048x1024, .f32⟩
  | 6 => ⟨S1x2048x1024, .f32⟩
  | 7 => ⟨S_, .f32⟩
  | 8 => ⟨S1x1024, .f32⟩
  | 9 => ⟨S1x1x1024, .f32⟩
  | 10 => ⟨S_, .f32⟩
  | 11 => ⟨S1024, .f32⟩
  | 12 => ⟨S1x1024, .f32⟩
  | 13 => ⟨S1x1024, .f32⟩
  | 14 => ⟨S_, .f32⟩
  | 15 => ⟨S3x1024, .f32⟩
  | 16 => ⟨S1x1024, .f32⟩
  | 17 => ⟨S_, .f32⟩
  | 18 => ⟨S2x1024, .f32⟩
  | 19 => ⟨S8x1024, .f32⟩
  | 20 => ⟨S2048x1024, .f32⟩
  | 21 => ⟨S2048x1024, .bf16⟩
  | 22 => ⟨S2048x2816, .f32⟩
  | 23 => ⟨S2048x4x704, .f32⟩
  | 24 => ⟨S4x2048x704, .f32⟩
  | 25 => ⟨S4x2048x704, .bf16⟩
  | 26 => ⟨S2048x5632, .f32⟩
  | 27 => ⟨S2048x8x704, .f32⟩
  | 28 => ⟨S8x2048x704, .f32⟩
  | 29 => ⟨S8x2048x704, .bf16⟩
  | 30 => ⟨S2048x1024, .f32⟩
  | 31 => ⟨S2048x1024, .f32⟩
  | 32 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_v61 : Ref sig .tc := ⟨.hbm, 86, rfl⟩
abbrev main_v62 : Ref sig .tc := ⟨.hbm, 87, rfl⟩
abbrev main_cst_8 : Ref sig .tc := ⟨.hbm, 88, rfl⟩
abbrev main_v63 : Ref sig .tc := ⟨.hbm, 89, rfl⟩
abbrev main_cst_9 : Ref sig .tc := ⟨.hbm, 90, rfl⟩
abbrev main_v64 : Ref sig .tc := ⟨.hbm, 91, rfl⟩
abbrev main_v65 : Ref sig .tc := ⟨.hbm, 92, rfl⟩
abbrev main_cst_10 : Ref sig .tc := ⟨.hbm, 93, rfl⟩
abbrev main_v66 : Ref sig .tc := ⟨.hbm, 94, rfl⟩
abbrev main_cst_11 : Ref sig .tc := ⟨.hbm, 95, rfl⟩
abbrev main_v67 : Ref sig .tc := ⟨.hbm, 96, rfl⟩
abbrev main_cst_12 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_16 : Ref sig .tc := ⟨.hbm, 112, rfl⟩
abbrev main_v79 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_18 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_20 : Ref sig .tc := ⟨.hbm, 135, rfl⟩
abbrev main_v98 : Ref sig .tc := ⟨.hbm, 136, rfl⟩
abbrev main_v99 : Ref sig .tc := ⟨.hbm, 137, rfl⟩
abbrev main_cst_21 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_22 : Ref sig .tc := ⟨.hbm, 142, rfl⟩
abbrev main_v103 : Ref sig .tc := ⟨.hbm, 143, rfl⟩
abbrev main_v104 : Ref sig .tc := ⟨.hbm, 144, rfl⟩
abbrev main_cst_23 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩

abbrev nD : Nat := 1
abbrev τ : Topo := Topo.v7x

variable {F : FTy → Type} [FloatOps F]
-- ==== Conf.lean ====
abbrev S1x2048x3080 : Shape := ⟨3, ![1, 2048, 3080]⟩
abbrev S1x31x512 : Shape := ⟨3, ![1, 31, 512]⟩
abbrev S1x512 : Shape := ⟨2, ![1, 512]⟩
abbrev S1x2048x512 : Shape := ⟨3, ![1, 2048, 512]⟩
abbrev S1x2048x3072 : Shape := ⟨3, ![1, 2048, 3072]⟩
abbrev S2048x3072 : Shape := ⟨2, ![2048, 3072]⟩
abbrev S31x512 : Shape := ⟨2, ![31, 512]⟩
abbrev S512 : Shape := ⟨1, ![512]⟩
abbrev S_ : Shape := ⟨0, ![]⟩
abbrev S1x2078x512 : Shape := ⟨3, ![1, 2078, 512]⟩
abbrev S2078x512 : Shape := ⟨2, ![2078, 512]⟩
abbrev S2048x512 : Shape := ⟨2, ![2048, 512]⟩
abbrev S2048x1024 : Shape := ⟨2, ![2048, 1024]⟩
abbrev S40x512 : Shape := ⟨2, ![40, 512]⟩
abbrev S256x512 : Shape := ⟨2, ![256, 512]⟩
abbrev S32x512 : Shape := ⟨2, ![32, 512]⟩
abbrev S256x1024 : Shape := ⟨2, ![256, 1024]⟩
abbrev S288x512 : Shape := ⟨2, ![288, 512]⟩
abbrev S7x280x512 : Shape := ⟨3, ![7, 280, 512]⟩
abbrev S512x512 : Shape := ⟨2, ![512, 512]⟩
abbrev S280x512 : Shape := ⟨2, ![280, 512]⟩
abbrev S1x280x512 : Shape := ⟨3, ![1, 280, 512]⟩
abbrev S1x256x512 : Shape := ⟨3, ![1, 256, 512]⟩

abbrev nBuf : Space → Nat
  | .hbm => 250
  | .vmem => 22
  | .smem => 0
  | _ => 0

abbrev hbmTy0_0 (i : Nat) : BufTy := match i % 128 with
  | 0 => ⟨S1x2048x3080, .f32⟩
  | 1 => ⟨S1x31x512, .f32⟩
  | 2 => ⟨S1x512, .f32⟩
  | 3 => ⟨S1x512, .f32⟩
  | 4 => ⟨S1x512, .f32⟩
  | 5 => ⟨S1x2048x512, .f32⟩
  | 6 => ⟨S1x2048x3072, .f32⟩
  | 7 => ⟨S2048x3072, .f32⟩
  | 8 => ⟨S1x2048x512, .f32⟩
  | 9 => ⟨S1x2048x512, .f32⟩
  | 10 => ⟨S31x512, .f32⟩
  | 11 => ⟨S512, .f32⟩
  | 12 => ⟨S1x2048x512, .f32⟩
  | 13 => ⟨S1x2048x512, .f32⟩
  | 14 => ⟨S_, .f32⟩
  | 15 => ⟨S1x2048x512, .f32⟩
  | 16 => ⟨S1x2048x512, .f32⟩
  | 17 => ⟨S_, .f32⟩
  | 18 => ⟨S1x2048x512, .f32⟩
  | 19 => ⟨S1x2048x512, .f32⟩
  | 20 => ⟨S1x2048x512, .f32⟩
  | 21 => ⟨S_, .i32⟩
  | 22 => ⟨S_, .f32⟩
  | 23 => ⟨S1x2078x512, .f32⟩
  | 24 => ⟨S2078x512, .f32⟩
  | 25 => ⟨S2048x512, .f32⟩
  | 26 => ⟨S1x512, .f32⟩
  | 27 => ⟨S512, .f32⟩
  | 28 => ⟨S1x512, .f32⟩
  | 29 => ⟨S2048x512, .f32⟩
  | 30 => ⟨S2048x512, .f32⟩
  | 31 => ⟨S2048x512, .f32⟩
  | 32 => ⟨S1x512, .f32⟩
  | 33 => ⟨S512, .f32⟩
  | 34 => ⟨S1x512, .f32⟩
  | 35 => ⟨S2048x512, .f32⟩
  | 36 => ⟨S2048x512, .f32⟩
  | 37 => ⟨S2048x512, .f32⟩
  | 38 => ⟨S2048x512, .f32⟩
  | 39 => ⟨S1x512, .f32⟩
  | 40 => ⟨S512, .f32⟩
  | 41 => ⟨S1x512, .f32⟩
  | 42 => ⟨S2048x512, .f32⟩
  | 43 => ⟨S2048x512, .f32⟩
  | 44 => ⟨S2048x512, .f32⟩
  | 45 => ⟨S2048x512, .f32⟩
  | 46 => ⟨S1x512, .f32⟩
  | 47 => ⟨S512, .f32⟩
  | 48 => ⟨S1x512, .f32⟩
  | 49 => ⟨S2048x512, .f32⟩
  | 50 => ⟨S2048x512, .f32⟩
  | 51 => ⟨S2048x512, .f32⟩
  | 52 => ⟨S2048x512, .f32⟩
  | 53 => ⟨S1x512, .f32⟩
  | 54 => ⟨S512, .f32⟩
  | 55 => ⟨S1x512, .f32⟩
  | 56 => ⟨S2048x512, .f32⟩
  | 57 => ⟨S2048x512, .f32⟩
  | 58 => ⟨S2048x512, .f32⟩
  | 59 => ⟨S2048x512, .f32⟩
  | 60 => ⟨S1x512, .f32⟩
  | 61 => ⟨S512, .f32⟩
  | 62 => ⟨S1x512, .f32⟩
  | 63 => ⟨S2048x512, .f32⟩
  | 64 => ⟨S2048x512, .f32⟩
  | 65 => ⟨S2048x512, .f32⟩
  | 66 => ⟨S2048x512, .f32⟩
  | 67 => ⟨S1x512, .f32⟩
  | 68 => ⟨S512, .f32⟩
  | 69 => ⟨S1x512, .f32⟩
  | 70 => ⟨S2048x512, .f32⟩
  | 71 => ⟨S2048x512, .f32⟩
  | 72 => ⟨S2048x512, .f32⟩
  | 73 => ⟨S2048x512, .f32⟩
  | 74 => ⟨S1x512, .f32⟩
  | 75 => ⟨S512, .f32⟩
  | 76 => ⟨S1x512, .f32⟩
  | 77 => ⟨S2048x512, .f32⟩
  | 78 => ⟨S2048x512, .f32⟩
  | 79 => ⟨S2048x512, .f32⟩
  | 80 => ⟨S2048x512, .f32⟩
  | 81 => ⟨S1x512, .f32⟩
  | 82 => ⟨S512, .f32⟩
  | 83 => ⟨S1x512, .f32⟩
  | 84 => ⟨S2048x512, .f32⟩
  | 85 => ⟨S2048x512, .f32⟩
  | 86 => ⟨S2048x512, .f32⟩
  | 87 => ⟨S2048x512, .f32⟩
  | 88 => ⟨S1x512, .f32⟩
  | 89 => ⟨S512, .f32⟩
  | 90 => ⟨S1x512, .f32⟩
  | 91 => ⟨S2048x512, .f32⟩
  | 92 => ⟨S2048x512, .f32⟩
  | 93 => ⟨S2048x512, .f32⟩
  | 94 => ⟨S2048x512, .f32⟩
  | 95 => ⟨S1x512, .f32⟩
  | 96 => ⟨S512, .f32⟩
  | 97 => ⟨S1x512, .f32⟩
  | 98 => ⟨S2048x512, .f32⟩
  | 99 => ⟨S2048x512, .f32⟩
  | 100 => ⟨S2048x512, .f32⟩
  | 101 => ⟨S2048x512, .f32⟩
  | 102 => ⟨S1x512, .f32⟩
  | 103 => ⟨S512, .f32⟩
  | 104 => ⟨S1x512, .f32⟩
  | 105 => ⟨S2048x512, .f32⟩
  | 106 => ⟨S2048x512, .f32⟩
  | 107 => ⟨S2048x512, .f32⟩
  | 108 => ⟨S2048x512, .f32⟩
  | 109 => ⟨S1x512, .f32⟩
  | 110 => ⟨S512, .f32⟩
  | 111 => ⟨S1x512, .f32⟩
  | 112 => ⟨S2048x512, .f32⟩
  | 113 => ⟨S2048x512, .f32⟩
  | 114 => ⟨S2048x512, .f32⟩
  | 115 => ⟨S2048x512, .f32⟩
  | 116 => ⟨S1x512, .f32⟩
  | 117 => ⟨S512, .f32⟩
  | 118 => ⟨S1x512, .f32⟩
  | 119 => ⟨S2048x512, .f32⟩
  | 120 => ⟨S2048x512, .f32⟩
  | 121 => ⟨S2048x512, .f32⟩
  | 122 => ⟨S2048x512, .f32⟩
  | 123 => ⟨S1x512, .f32⟩
  | 124 => ⟨S512, .f32⟩
  | 125 => ⟨S1x512, .f32⟩
  | 126 => ⟨S2048x512, .f32⟩
  | 127 => ⟨S2048x512, .f32⟩
  | _ => ⟨S1x2048x3080, .f32⟩

abbrev hbmTy0_1 (i : Nat) : BufTy := match i % 128 with
  | 0 => ⟨S2048x512, .f32⟩
  | 1 => ⟨S2048x512, .f32⟩
  | 2 => ⟨S1x512, .f32⟩
  | 3 => ⟨S512, .f32⟩
  | 4 => ⟨S1x512, .f32⟩
  | 5 => ⟨S2048x512, .f32⟩
  | 6 => ⟨S2048x512, .f32⟩
  | 7 => ⟨S2048x512, .f32⟩
  | 8 => ⟨S2048x512, .f32⟩
  | 9 => ⟨S1x512, .f32⟩
  | 10 => ⟨S512, .f32⟩
  | 11 => ⟨S1x512, .f32⟩
  | 12 => ⟨S2048x512, .f32⟩
  | 13 => ⟨S2048x512, .f32⟩
  | 14 => ⟨S2048x512, .f32⟩
  | 15 => ⟨S2048x512, .f32⟩
  | 16 => ⟨S1x512, .f32⟩
  | 17 => ⟨S512, .f32⟩
  | 18 => ⟨S1x512, .f32⟩
  | 19 => ⟨S2048x512, .f32⟩
  | 20 => ⟨S2048x512, .f32⟩
  | 21 => ⟨S2048x512, .f32⟩
  | 22 => ⟨S2048x512, .f32⟩
  | 23 => ⟨S1x512, .f32⟩
  | 24 => ⟨S512, .f32⟩
  | 25 => ⟨S1x512, .f32⟩
  | 26 => ⟨S2048x512, .f32⟩
  | 27 => ⟨S2048x512, .f32⟩
  | 28 => ⟨S2048x512, .f32⟩
  | 29 => ⟨S2048x512, .f32⟩
  | 30 => ⟨S1x512, .f32⟩
  | 31 => ⟨S512, .f32⟩
  | 32 => ⟨S1x512, .f32⟩
  | 33 => ⟨S2048x512, .f32⟩
  | 34 => ⟨S2048x512, .f32⟩
  | 35 => ⟨S2048x512, .f32⟩
  | 36 => ⟨S2048x512, .f32⟩
  | 37 => ⟨S1x512, .f32⟩
  | 38 => ⟨S512, .f32⟩
  | 39 => ⟨S1x512, .f32⟩
  | 40 => ⟨S2048x512, .f32⟩
  | 41 => ⟨S2048x512, .f32⟩
  | 42 => ⟨S2048x512, .f32⟩
  | 43 => ⟨S2048x512, .f32⟩
  | 44 => ⟨S1x512, .f32⟩
  | 45 => ⟨S512, .f32⟩
  | 46 => ⟨S1x512, .f32⟩
  | 47 => ⟨S2048x512, .f32⟩
  | 48 => ⟨S2048x512, .f32⟩
  | 49 => ⟨S2048x512, .f32⟩
  | 50 => ⟨S2048x512, .f32⟩
  | 51 => ⟨S1x512, .f32⟩
  | 52 => ⟨S512, .f32⟩
  | 53 => ⟨S1x512, .f32⟩
  | 54 => ⟨S2048x512, .f32⟩
  | 55 => ⟨S2048x512, .f32⟩
  | 56 => ⟨S2048x512, .f32⟩
  | 57 => ⟨S2048x512, .f32⟩
  | 58 => ⟨S1x512, .f32⟩
  | 59 => ⟨S512, .f32⟩
  | 60 => ⟨S1x512, .f32⟩
  | 61 => ⟨S2048x512, .f32⟩
  | 62 => ⟨S2048x512, .f32⟩
  | 63 => ⟨S2048x512, .f32⟩
  | 64 => ⟨S2048x512, .f32⟩
  | 65 => ⟨S1x512, .f32⟩
  | 66 => ⟨S512, .f32⟩
  | 67 => ⟨S1x512, .f32⟩
  | 68 => ⟨S2048x512, .f32⟩
  | 69 => ⟨S2048x512, .f32⟩
  | 70 => ⟨S2048x512, .f32⟩
  | 71 => ⟨S2048x512, .f32⟩
  | 72 => ⟨S1x512, .f32⟩
  | 73 => ⟨S512, .f32⟩
  | 74 => ⟨S1x512, .f32⟩
  | 75 => ⟨S2048x512, .f32⟩
  | 76 => ⟨S2048x512, .f32⟩
  | 77 => ⟨S2048x512, .f32⟩
  | 78 => ⟨S2048x512, .f32⟩
  | 79 => ⟨S1x512, .f32⟩
  | 80 => ⟨S512, .f32⟩
  | 81 => ⟨S1x512, .f32⟩
  | 82 => ⟨S2048x512, .f32⟩
  | 83 => ⟨S2048x512, .f32⟩
  | 84 => ⟨S2048x512, .f32⟩
  | 85 => ⟨S2048x512, .f32⟩
  | 86 => ⟨S1x512, .f32⟩
  | 87 => ⟨S512, .f32⟩
  | 88 => ⟨S1x512, .f32⟩
  | 89 => ⟨S2048x512, .f32⟩
  | 90 => ⟨S2048x512, .f32⟩
  | 91 => ⟨S2048x512, .f32⟩
  | 92 => ⟨S2048x512, .f32⟩
  | 93 => ⟨S1x512, .f32⟩
  | 94 => ⟨S512, .f32⟩
  | 95 => ⟨S1x512, .f32⟩
  | 96 => ⟨S2048x512, .f32⟩
  | 97 => ⟨S2048x512, .f32⟩
  | 98 => ⟨S2048x512, .f32⟩
  | 99 => ⟨S2048x512, .f32⟩
  | 100 => ⟨S1x512, .f32⟩
  | 101 => ⟨S512, .f32⟩
  | 102 => ⟨S1x512, .f32⟩
  | 103 => ⟨S2048x512, .f32⟩
  | 104 => ⟨S2048x512, .f32⟩
  | 105 => ⟨S2048x512, .f32⟩
  | 106 => ⟨S2048x512, .f32⟩
  | 107 => ⟨S1x512, .f32⟩
  | 108 => ⟨S512, .f32⟩
  | 109 => ⟨S1x512, .f32⟩
  | 110 => ⟨S2048x512, .f32⟩
  | 111 => ⟨S2048x512, .f32⟩
  | 112 => ⟨S2048x512, .f32⟩
  | 113 => ⟨S1x512, .f32⟩
  | 114 => ⟨S2048x512, .f32⟩
  | 115 => ⟨S2048x512, .f32⟩
  | 116 => ⟨S1x2048x512, .f32⟩
  | 117 => ⟨S2048x512, .f32⟩
  | 118 => ⟨S2048x512, .f32⟩
  | 119 => ⟨S31x512, .f32⟩
  | 120 => ⟨S2048x1024, .bf16⟩
  | 121 => ⟨S40x512, .f32⟩
  | _ => ⟨S1x2048x3080, .f32⟩

abbrev hbmTy (i : Nat) : BufTy := match i / 128 with
  | 0 => hbmTy0_0 i
  | 1 => hbmTy0_1 i
  | _ => ⟨S1x2048x3080, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S31x512, .f32⟩
  | .local _ .vmem, ⟨13, _⟩ => ⟨S1x512, .f32⟩
  | .local _ .vmem, ⟨14, _⟩ => ⟨S1x512, .f32⟩
  | .local _ .vmem, ⟨15, _⟩ => ⟨S256x1024, .bf16⟩
  | .local _ .vmem, ⟨16, _⟩ => ⟨S256x1024, .bf16⟩
  | .local _ .vmem, ⟨17, _⟩ => ⟨S40x512, .f32⟩
  | .local _ .vmem, ⟨18, _⟩ => ⟨S288x512, .f32⟩
  | .local _ .vmem, ⟨19, _⟩ => ⟨S288x512, .f32⟩
  | .local _ .vmem, ⟨20, _⟩ => ⟨S7x280x512, .f32⟩
  | .local _ .vmem, ⟨21, _⟩ => ⟨S7x280x512, .f32⟩
  | _, _ => ⟨S1x2048x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238_0 : Ref sig .tc := ⟨.hbm, 248, rfl⟩
abbrev main_v238_1 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S40x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConfRefIdeal.lean ====
abbrev S1x2048x3080 : Shape := ⟨3, ![1, 2048, 3080]⟩
abbrev S1x31x512 : Shape := ⟨3, ![1, 31, 512]⟩
abbrev S1x512 : Shape := ⟨2, ![1, 512]⟩
abbrev S1x2048x512 : Shape := ⟨3, ![1, 2048, 512]⟩
abbrev S31x512 : Shape := ⟨2, ![31, 512]⟩
abbrev S512 : Shape := ⟨1, ![512]⟩
abbrev S_ : Shape := ⟨0, ![]⟩
abbrev S31x2048x2048 : Shape := ⟨3, ![31, 2048, 2048]⟩
abbrev S2048x512 : Shape := ⟨2, ![2048, 512]⟩
abbrev S31x2048x512 : Shape := ⟨3, ![31, 2048, 512]⟩
abbrev S31x1x512 : Shape := ⟨3, ![31, 1, 512]⟩
abbrev S1x1x512 : Shape := ⟨3, ![1, 1, 512]⟩
abbrev S1x2048x8x64 : Shape := ⟨4, ![1, 2048, 8, 64]⟩
abbrev S1x2048x8 : Shape := ⟨3, ![1, 2048, 8]⟩
abbrev S1x2048x8x1 : Shape := ⟨4, ![1, 2048, 8, 1]⟩
abbrev S2048x8 : Shape := ⟨2, ![2048, 8]⟩
abbrev S512x2048 : Shape := ⟨2, ![512, 2048]⟩
abbrev S6x512 : Shape := ⟨2, ![6, 512]⟩
abbrev S40x512 : Shape := ⟨2, ![40, 512]⟩
abbrev S1x2048x1024 : Shape := ⟨3, ![1, 2048, 1024]⟩
abbrev S2048x1024 : Shape := ⟨2, ![2048, 1024]⟩

abbrev nBuf : Space → Nat
  | .hbm => 183
  | .vmem => 0
  | .smem => 0
  | _ => 0

abbrev hbmTy0_0 (i : Nat) : BufTy := match i % 128 with
  | 0 => ⟨S1x2048x3080, .f32⟩
  | 1 => ⟨S1x31x512, .f32⟩
  | 2 => ⟨S1x512, .f32⟩
  | 3 => ⟨S1x512, .f32⟩
  | 4 => ⟨S1x512, .f32⟩
  | 5 => ⟨S1x2048x512, .f32⟩
  | 6 => ⟨S1x2048x512, .f32⟩
  | 7 => ⟨S1x2048x512, .f32⟩
  | 8 => ⟨S31x512, .f32⟩
  | 9 => ⟨S512, .f32⟩
  | 10 => ⟨S512, .f32⟩
  | 11 => ⟨S512, .f32⟩
  | 12 => ⟨S1x2048x512, .f32⟩
  | 13 => ⟨S1x2048x512, .f32⟩
  | 14 => ⟨S_, .f32⟩
  | 15 => ⟨S1x2048x512, .f32⟩
  | 16 => ⟨S1x2048x512, .f32⟩
  | 17 => ⟨S_, .f32⟩
  | 18 => ⟨S1x2048x512, .f32⟩
  | 19 => ⟨S1x2048x512, .f32⟩
  | 20 => ⟨S_, .f32⟩
  | 21 => ⟨S1x2048x512, .f32⟩
  | 22 => ⟨S1x2048x512, .f32⟩
  | 23 => ⟨S1x2048x512, .f32⟩
  | 24 => ⟨S1x2048x512, .f32⟩
  | 25 => ⟨S31x2048x2048, .i32⟩
  | 26 => ⟨S31x2048x2048, .i32⟩
  | 27 => ⟨S31x2048x2048, .i32⟩
  | 28 => ⟨S_, .i32⟩
  | 29 => ⟨S31x2048x2048, .i32⟩
  | 30 => ⟨S31x2048x2048, .i32⟩
  | 31 => ⟨S31x2048x2048, .i32⟩
  | 32 => ⟨S31x2048x2048, .i1⟩
  | 33 => ⟨S_, .f32⟩
  | 34 => ⟨S_, .f32⟩
  | 35 => ⟨S31x2048x2048, .f32⟩
  | 36 => ⟨S31x2048x2048, .f32⟩
  | 37 => ⟨S31x2048x2048, .f32⟩
  | 38 => ⟨S2048x512, .f32⟩
  | 39 => ⟨S31x2048x512, .f32⟩
  | 40 => ⟨S31x1x512, .f32⟩
  | 41 => ⟨S31x2048x512, .f32⟩
  | 42 => ⟨S31x2048x512, .f32⟩
  | 43 => ⟨S_, .f32⟩
  | 44 => ⟨S2048x512, .f32⟩
  | 45 => ⟨S1x2048x512, .f32⟩
  | 46 => ⟨S1x1x512, .f32⟩
  | 47 => ⟨S1x2048x512, .f32⟩
  | 48 => ⟨S1x2048x512, .f32⟩
  | 49 => ⟨S1x2048x8x64, .f32⟩
  | 50 => ⟨S_, .f32⟩
  | 51 => ⟨S1x2048x8, .f32⟩
  | 52 => ⟨S1x2048x8x1, .f32⟩
  | 53 => ⟨S_, .f32⟩
  | 54 => ⟨S1x2048x8x1, .f32⟩
  | 55 => ⟨S1x2048x8x1, .f32⟩
  | 56 => ⟨S1x2048x8x64, .f32⟩
  | 57 => ⟨S1x2048x8x64, .f32⟩
  | 58 => ⟨S1x2048x8x64, .f32⟩
  | 59 => ⟨S_, .f32⟩
  | 60 => ⟨S1x2048x8x64, .f32⟩
  | 61 => ⟨S1x2048x8x64, .f32⟩
  | 62 => ⟨S_, .f32⟩
  | 63 => ⟨S1x2048x8, .f32⟩
  | 64 => ⟨S1x2048x8x1, .f32⟩
  | 65 => ⟨S_, .f32⟩
  | 66 => ⟨S1x2048x8x1, .f32⟩
  | 67 => ⟨S1x2048x8x1, .f32⟩
  | 68 => ⟨S1x2048x8x64, .f32⟩
  | 69 => ⟨S1x2048x8x64, .f32⟩
  | 70 => ⟨S_, .f32⟩
  | 71 => ⟨S1x2048x8x1, .f32⟩
  | 72 => ⟨S1x2048x8x1, .f32⟩
  | 73 => ⟨S1x2048x8x1, .f32⟩
  | 74 => ⟨S1x2048x8x1, .f32⟩
  | 75 => ⟨S_, .f32⟩
  | 76 => ⟨S1x2048x8x1, .f32⟩
  | 77 => ⟨S1x2048x8x1, .f32⟩
  | 78 => ⟨S1x2048x8x64, .f32⟩
  | 79 => ⟨S1x2048x8x64, .f32⟩
  | 80 => ⟨S1x2048x512, .f32⟩
  | 81 => ⟨S1x1x512, .f32⟩
  | 82 => ⟨S1x2048x512, .f32⟩
  | 83 => ⟨S1x2048x512, .f32⟩
  | 84 => ⟨S1x1x512, .f32⟩
  | 85 => ⟨S1x2048x512, .f32⟩
  | 86 => ⟨S1x2048x512, .f32⟩
  | 87 => ⟨S1x2048x512, .f32⟩
  | 88 => ⟨S1x2048x512, .f32⟩
  | 89 => ⟨S_, .f32⟩
  | 90 => ⟨S1x2048x512, .f32⟩
  | 91 => ⟨S1x2048x512, .f32⟩
  | 92 => ⟨S_, .f32⟩
  | 93 => ⟨S1x2048x512, .f32⟩
  | 94 => ⟨S1x2048x512, .f32⟩
  | 95 => ⟨S_, .f32⟩
  | 96 => ⟨S1x2048x512, .f32⟩
  | 97 => ⟨S1x2048x512, .f32⟩
  | 98 => ⟨S1x2048x512, .f32⟩
  | 99 => ⟨S1x2048x512, .f32⟩
  | 100 => ⟨S1x2048x512, .f32⟩
  | 101 => ⟨S1x2048x512, .f32⟩
  | 102 => ⟨S1x2048x512, .f32⟩
  | 103 => ⟨S1x2048x512, .f32⟩
  | 104 => ⟨S_, .f32⟩
  | 105 => ⟨S1x512, .f32⟩
  | 106 => ⟨S1x1x512, .f32⟩
  | 107 => ⟨S_, .f32⟩
  | 108 => ⟨S512, .f32⟩
  | 109 => ⟨S1x2048x512, .f32⟩
  | 110 => ⟨S_, .f32⟩
  | 111 => ⟨S1x512, .f32⟩
  | 112 => ⟨S1x1x512, .f32⟩
  | 113 => ⟨S1x2048x512, .f32⟩
  | 114 => ⟨S1x2048x512, .f32⟩
  | 115 => ⟨S_, .f32⟩
  | 116 => ⟨S512, .f32⟩
  | 117 => ⟨S1x2048x8x64, .f32⟩
  | 118 => ⟨S1x2048x8x64, .f32⟩
  | 119 => ⟨S_, .f32⟩
  | 120 => ⟨S1x2048x8, .f32⟩
  | 121 => ⟨S1x2048x8x1, .f32⟩
  | 122 => ⟨S1x2048x8x64, .f32⟩
  | 123 => ⟨S1x2048x8x64, .f32⟩
  | 124 => ⟨S1x2048x8x1, .f32⟩
  | 125 => ⟨S1x2048x8x64, .f32⟩
  | 126 => ⟨S_, .f32⟩
  | 127 => ⟨S1x2048x8, .f32⟩
  | _ => ⟨S1x2048x3080, .f32⟩

abbrev hbmTy0_1 (i : Nat) : BufTy := match i % 128 with
  | 0 => ⟨S1x2048x8x1, .f32⟩
  | 1 => ⟨S_, .f32⟩
  | 2 => ⟨S1x2048x8x1, .f32⟩
  | 3 => ⟨S1x2048x8x1, .f32⟩
  | 4 => ⟨S_, .f32⟩
  | 5 => ⟨S2048x8, .f32⟩
  | 6 => ⟨S1x2048x8, .f32⟩
  | 7 => ⟨S1x2048x8x64, .f32⟩
  | 8 => ⟨S1x2048x8x64, .f32⟩
  | 9 => ⟨S1x2048x8x64, .f32⟩
  | 10 => ⟨S_, .f32⟩
  | 11 => ⟨S1x2048x8, .f32⟩
  | 12 => ⟨S1x2048x8x1, .f32⟩
  | 13 => ⟨S1x2048x8x64, .f32⟩
  | 14 => ⟨S1x2048x8x1, .f32⟩
  | 15 => ⟨S_, .f32⟩
  | 16 => ⟨S1x2048x8x1, .f32⟩
  | 17 => ⟨S1x2048x8x1, .f32⟩
  | 18 => ⟨S_, .f32⟩
  | 19 => ⟨S2048x8, .f32⟩
  | 20 => ⟨S1x2048x8, .f32⟩
  | 21 => ⟨S1x2048x8x64, .f32⟩
  | 22 => ⟨S1x2048x8x64, .f32⟩
  | 23 => ⟨S1x2048x512, .f32⟩
  | 24 => ⟨S_, .f32⟩
  | 25 => ⟨S1x512, .f32⟩
  | 26 => ⟨S1x1x512, .f32⟩
  | 27 => ⟨S_, .f32⟩
  | 28 => ⟨S512, .f32⟩
  | 29 => ⟨S_, .f32⟩
  | 30 => ⟨S2048x512, .f32⟩
  | 31 => ⟨S31x2048x512, .f32⟩
  | 32 => ⟨S31x2048x512, .f32⟩
  | 33 => ⟨S_, .f32⟩
  | 34 => ⟨S31x512, .f32⟩
  | 35 => ⟨S31x1x512, .f32⟩
  | 36 => ⟨S31x2048x512, .f32⟩
  | 37 => ⟨S31x2048x512, .f32⟩
  | 38 => ⟨S_, .f32⟩
  | 39 => ⟨S31x512, .f32⟩
  | 40 => ⟨S512x2048, .f32⟩
  | 41 => ⟨S2048x512, .f32⟩
  | 42 => ⟨S1x2048x512, .f32⟩
  | 43 => ⟨S1x2048x512, .f32⟩
  | 44 => ⟨S1x2048x512, .f32⟩
  | 45 => ⟨S1x2048x512, .f32⟩
  | 46 => ⟨S1x512, .f32⟩
  | 47 => ⟨S1x512, .f32⟩
  | 48 => ⟨S1x512, .f32⟩
  | 49 => ⟨S_, .f32⟩
  | 50 => ⟨S6x512, .f32⟩
  | 51 => ⟨S40x512, .f32⟩
  | 52 => ⟨S1x2048x1024, .f32⟩
  | 53 => ⟨S2048x1024, .f32⟩
  | 54 => ⟨S2048x1024, .bf16⟩
  | _ => ⟨S1x2048x3080, .f32⟩

abbrev hbmTy (i : Nat) : BufTy := match i / 128 with
  | 0 => hbmTy0_0 i
  | 1 => hbmTy0_1 i
  | _ => ⟨S1x2048x3080, .f32⟩

abbrev bufTy : (tb : Table) → Fin (tcTables nBuf tb) → BufTy
  | .hbm, ⟨i, _⟩ => hbmTy i
  | _, _ => ⟨S1x2048x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_v65_2 : Ref sig .tc := ⟨.hbm, 94, rfl⟩
abbrev main_call1_cst_1 : Ref sig .tc := ⟨.hbm, 95, rfl⟩
abbrev main_call1_v6 : Ref sig .tc := ⟨.hbm, 96, rfl⟩
abbrev main_call1_v7 : Ref sig .tc := ⟨.hbm, 97, rfl⟩
abbrev main_v65_1 : Ref sig .tc := ⟨.hbm, 98, rfl⟩
abbrev main_v65_0 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v66 : Ref sig .tc := ⟨.hbm, 103, rfl⟩
abbrev main_cst_12 : Ref sig .tc := ⟨.hbm, 104, rfl⟩
abbrev main_v67 : Ref sig .tc := ⟨.hbm, 105, rfl⟩
abbrev main_v68 : Ref sig .tc := ⟨.hbm, 106, rfl⟩
abbrev main_cst_13 : Ref sig .tc := ⟨.hbm, 107, rfl⟩
abbrev main_v69 : Ref sig .tc := ⟨.hbm, 108, rfl⟩
abbrev main_v70 : Ref sig .tc := ⟨.hbm, 109, rfl⟩
abbrev main_cst_14 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_15 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_16 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_17 : Ref sig .tc := ⟨.hbm, 126, rfl⟩
abbrev main_v84 : Ref sig .tc := ⟨.hbm, 127, rfl⟩
abbrev main_v85 : Ref sig .tc := ⟨.hbm, 128, rfl⟩
abbrev main_cst_18 : Ref sig .tc := ⟨.hbm, 129, rfl⟩
abbrev main_v86 : Ref sig .tc := ⟨.hbm, 130, rfl⟩
abbrev main_v87 : Ref sig .tc := ⟨.hbm, 131, rfl⟩
abbrev main_cst_19 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_20 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_21 : Ref sig .tc := ⟨.hbm, 143, rfl⟩
abbrev main_v97 : Ref sig .tc := ⟨.hbm, 144, rfl⟩
abbrev main_v98 : Ref sig .tc := ⟨.hbm, 145, rfl⟩
abbrev main_cst_22 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_23 : Ref sig .tc := ⟨.hbm, 152, rfl⟩
abbrev main_v104 : Ref sig .tc := ⟨.hbm, 153, rfl⟩
abbrev main_v105 : Ref sig .tc := ⟨.hbm, 154, rfl⟩
abbrev main_cst_24 : Ref sig .tc := ⟨.hbm, 155, rfl⟩
abbrev main_v106 : Ref sig .tc := ⟨.hbm, 156, rfl⟩
abbrev main_cst_25 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_26 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_27 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_28 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩

abbrev nD : Nat := 1
abbrev τ : Topo := Topo.v7x

variable {F : FTy → Type} [FloatOps F]
-- ==== FwdOut.lean ====
abbrev S1x2048x512 : Shape := ⟨3, ![1, 2048, 512]⟩
abbrev S1x2048x1024 : Shape := ⟨3, ![1, 2048, 1024]⟩
abbrev S1x6144 : Shape := ⟨2, ![1, 6144]⟩
abbrev S1x1024x1024 : Shape := ⟨3, ![1, 1024, 1024]⟩
abbrev S2048x512 : Shape := ⟨2, ![2048, 512]⟩
abbrev S2048x1024 : Shape := ⟨2, ![2048, 1024]⟩
abbrev S1024x1024 : Shape := ⟨2, ![1024, 1024]⟩
abbrev S256x512 : Shape := ⟨2, ![256, 512]⟩
abbrev S256x1024 : Shape := ⟨2, ![256, 1024]⟩
abbrev S512x1024 : Shape := ⟨2, ![512, 1024]⟩
abbrev S1x1024 : Shape := ⟨2, ![1, 1024]⟩

abbrev nBuf : Space → Nat
  | .hbm => 14
  | .vmem => 15
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x1024, .f32⟩
  | .hbm, ⟨3, _⟩ => ⟨S1x6144, .f32⟩
  | .hbm, ⟨4, _⟩ => ⟨S1x6144, .f32⟩
  | .hbm, ⟨5, _⟩ => ⟨S1x1024x1024, .f32⟩
  | .hbm, ⟨6, _⟩ => ⟨S2048x512, .f32⟩
  | .hbm, ⟨7, _⟩ => ⟨S2048x512, .f32⟩
  | .hbm, ⟨8, _⟩ => ⟨S2048x1024, .f32⟩
  | .hbm, ⟨9, _⟩ => ⟨S1024x1024, .f32⟩
  | .hbm, ⟨10, _⟩ => ⟨S1024x1024, .bf16⟩
  | .hbm, ⟨11, _⟩ => ⟨S2048x1024, .f32⟩
  | .hbm, ⟨12, _⟩ => ⟨S2048x1024, .f32⟩
  | .hbm, ⟨13, _⟩ => ⟨S2048x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1x6144, .f32⟩
  | .local _ .vmem, ⟨7, _⟩ => ⟨S1x6144, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdOutRefIdeal.lean ====
abbrev S1x2048x512 : Shape := ⟨3, ![1, 2048, 512]⟩
abbrev S1x2048x1024 : Shape := ⟨3, ![1, 2048, 1024]⟩
abbrev S1x6144 : Shape := ⟨2, ![1, 6144]⟩
abbrev S1x1024x1024 : Shape := ⟨3, ![1, 1024, 1024]⟩
abbrev S6144 : Shape := ⟨1, ![6144]⟩
abbrev S1x1024 : Shape := ⟨2, ![1, 1024]⟩
abbrev S1024x1024 : Shape := ⟨2, ![1024, 1024]⟩
abbrev S1x1x1024 : Shape := ⟨3, ![1, 1, 1024]⟩
abbrev S2048x1024 : Shape := ⟨2, ![2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x1024, .f32⟩
  | .hbm, ⟨3, _⟩ => ⟨S1x6144, .f32⟩
  | .hbm, ⟨4, _⟩ => ⟨S1x6144, .f32⟩
  | .hbm, ⟨5, _⟩ => ⟨S1x1024x1024, .f32⟩
  | .hbm, ⟨6, _⟩ => ⟨S6144, .f32⟩
  | .hbm, ⟨7, _⟩ => ⟨S1x6144, .f32⟩
  | .hbm, ⟨8, _⟩ => ⟨S1x6144, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x2048x1024, .f32⟩
  | .hbm, ⟨16, _⟩ => ⟨S1024x1024, .f32⟩
  | .hbm, ⟨17, _⟩ => ⟨S1x2048x1024, .f32⟩
  | .hbm, ⟨18, _⟩ => ⟨S1x1x1024, .f32⟩
  | .hbm, ⟨19, _⟩ => ⟨S1x2048x1024, .f32⟩
  | .hbm, ⟨20, _⟩ => ⟨S1x2048x1024, .f32⟩
  | .hbm, ⟨21, _⟩ => ⟨S1x2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== FwdIn.lean ====
abbrev S1x2048x1024 : Shape := ⟨3, ![1, 2048, 1024]⟩
abbrev S1x6144 : Shape := ⟨2, ![1, 6144]⟩
abbrev S1x1024 : Shape := ⟨2, ![1, 1024]⟩
abbrev S1x1024x3080 : Shape := ⟨3, ![1, 1024, 3080]⟩
abbrev S1024x3080 : Shape := ⟨2, ![1024, 3080]⟩
abbrev S3080x1024 : Shape := ⟨2, ![3080, 1024]⟩
abbrev S8x1024 : Shape := ⟨2, ![8, 1024]⟩
abbrev S_ : Shape := ⟨0, ![]⟩
abbrev S128x1024 : Shape := ⟨2, ![128, 1024]⟩
abbrev S2048x1024 : Shape := ⟨2, ![2048, 1024]⟩
abbrev S2048x3072 : Shape := ⟨2, ![2048, 3072]⟩
abbrev S2048x128 : Shape := ⟨2, ![2048, 128]⟩
abbrev S512x1024 : Shape := ⟨2, ![512, 1024]⟩
abbrev S3072x1024 : Shape := ⟨2, ![3072, 1024]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S1x2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S1x1024x3080, .f32⟩
  | .hbm, ⟨5, _⟩ => ⟨S1024x3080, .f32⟩
  | .hbm, ⟨6, _⟩ => ⟨S3080x1024, .f32⟩
  | .hbm, ⟨7, _⟩ => ⟨S3080x1024, .bf16⟩
  | .hbm, ⟨8, _⟩ => ⟨S8x1024, .bf16⟩
  | .hbm, ⟨9, _⟩ => ⟨S_, .i32⟩
  | .hbm, ⟨10, _⟩ => ⟨S_, .bf16⟩
  | .hbm, ⟨11, _⟩ => ⟨S128x1024, .bf16⟩
  | .hbm, ⟨12, _⟩ => ⟨S2048x1024, .f32⟩
  | .hbm, ⟨13, _⟩ => ⟨S2048x3072, .f32⟩
  | .hbm, ⟨14, _⟩ => ⟨S2048x128, .f32⟩
  | .hbm, ⟨15, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6144, .f32⟩
  | .local _ .vmem, ⟨4, _⟩ => ⟨S1x6144, .f32⟩
  | .local _ .vmem, ⟨5, _⟩ => ⟨S3072x1024, .bf16⟩
  | .local _ .vmem, ⟨6, _⟩ => ⟨S128x1024, .bf16⟩
  | .local _ .vmem, ⟨7, _⟩ => ⟨S512x3072, .f32⟩
  | .local _ .vmem, ⟨8, _⟩ => ⟨S512x3072, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdInRefIdeal.lean ====
abbrev S1x2048x1024 : Shape := ⟨3, ![1, 2048, 1024]⟩
abbrev S1x6144 : Shape := ⟨2, ![1, 6144]⟩
abbrev S1x1024 : Shape := ⟨2, ![1, 1024]⟩
abbrev S1x1024x3080 : Shape := ⟨3, ![1, 1024, 3080]⟩
abbrev S6144 : Shape := ⟨1, ![6144]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x3080 : Shape := ⟨2, ![1024, 3080]⟩
abbrev S1x2048x3080 : Shape := ⟨3, ![1, 2048, 3080]⟩
abbrev S2048x3080 : Shape := ⟨2, ![2048, 3080]⟩
abbrev S2048x8 : Shape := ⟨2, ![2048, 8]⟩
abbrev S2048x120 : Shape := ⟨2, ![2048, 120]⟩
abbrev S2048x128 : Shape := ⟨2, ![2048, 128]⟩
abbrev S2048x3072 : Shape := ⟨2, ![2048, 3072]⟩
abbrev S2048x1024 : Shape := ⟨2, ![2048, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S1x1024x3080, .f32⟩
  | .hbm, ⟨5, _⟩ => ⟨S6144, .f32⟩
  | .hbm, ⟨6, _⟩ => ⟨S1x6144, .f32⟩
  | .hbm, ⟨7, _⟩ => ⟨S1x6144, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1x2048x1024, .f32⟩
  | .hbm, ⟨16, _⟩ => ⟨S_, .f32⟩
  | .hbm, ⟨17, _⟩ => ⟨S1x2048, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x1, .f32⟩
  | .hbm, ⟨26, _⟩ => ⟨S1x2048x1024, .f32⟩
  | .hbm, ⟨27, _⟩ => ⟨S1x2048x1024, .f32⟩
  | .hbm, ⟨28, _⟩ => ⟨S1x1x1024, .f32⟩
  | .hbm, ⟨29, _⟩ => ⟨S1x2048x1024, .f32⟩
  | .hbm, ⟨30, _⟩ => ⟨S1x2048x1024, .f32⟩
  | .hbm, ⟨31, _⟩ => ⟨S1x1x1024, .f32⟩
  | .hbm, ⟨32, _⟩ => ⟨S_, .f32⟩
  | .hbm, ⟨33, _⟩ => ⟨S1x1x1024, .f32⟩
  | .hbm, ⟨34, _⟩ => ⟨S1x1x1024, .f32⟩
  | .hbm, ⟨35, _⟩ => ⟨S1x2048x1024, .f32⟩
  | .hbm, ⟨36, _⟩ => ⟨S1x2048x1024, .f32⟩
  | .hbm, ⟨37, _⟩ => ⟨S1x1x1024, .f32⟩
  | .hbm, ⟨38, _⟩ => ⟨S1x2048x1024, .f32⟩
  | .hbm, ⟨39, _⟩ => ⟨S1x2048x1024, .f32⟩
  | .hbm, ⟨40, _⟩ => ⟨S1024x3080, .f32⟩
  | .hbm, ⟨41, _⟩ => ⟨S1x2048x3080, .f32⟩
  | .hbm, ⟨42, _⟩ => ⟨S2048x3080, .f32⟩
  | .hbm, ⟨43, _⟩ => ⟨S2048x8, .f32⟩
  | .hbm, ⟨44, _⟩ => ⟨S_, .f32⟩
  | .hbm, ⟨45, _⟩ => ⟨S2048x120, .f32⟩
  | .hbm, ⟨46, _⟩ => ⟨S2048x128, .f32⟩
  | .hbm, ⟨47, _⟩ => ⟨S2048x3072, .f32⟩
  | .hbm, ⟨48, _⟩ => ⟨S2048x1024, .f32⟩
  | .hbm, ⟨49, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Scan.lean ====
abbrev S32x1x4x64x128 : Shape := ⟨5, ![32, 1, 4, 64, 128]⟩
abbrev S32x1x4x64x64 : Shape := ⟨5, ![32, 1, 4, 64, 64]⟩
abbrev S32x1x4 : Shape := ⟨3, ![32, 1, 4]⟩
abbrev S1x2048x3080 : Shape := ⟨3, ![1, 2048, 3080]⟩
abbrev S1x128 : Shape := ⟨2, ![1, 128]⟩
abbrev S32x8x4 : Shape := ⟨3, ![32, 8, 4]⟩
abbrev S_ : Shape := ⟨0, ![]⟩
abbrev S32x8x128 : Shape := ⟨3, ![32, 8, 128]⟩
abbrev S32x4x64x128 : Shape := ⟨4, ![32, 4, 64, 128]⟩
abbrev S32x64x4x128 : Shape := ⟨4, ![32, 64, 4, 128]⟩
abbrev S2048x512 : Shape := ⟨2, ![2048, 512]⟩
abbrev S32x4x64x64 : Shape := ⟨4, ![32, 4, 64, 64]⟩
abbrev S1x2048x3072 : Shape := ⟨3, ![1, 2048, 3072]⟩
abbrev S2048x3072 : Shape := ⟨2, ![2048, 3072]⟩
abbrev S32x4x128x128 : Shape := ⟨4, ![32, 4, 128, 128]⟩
abbrev S256x512 : Shape := ⟨2, ![256, 512]⟩
abbrev S4x4x64x64 : Shape := ⟨4, ![4, 4, 64, 64]⟩
abbrev S4x8x128 : Shape := ⟨3, ![4, 8, 128]⟩
abbrev S4x4x128x128 : Shape := ⟨4, ![4, 4, 128, 128]⟩
abbrev S4x128x128 : Shape := ⟨3, ![4, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x1x64x64 : Shape := ⟨4, ![1, 1, 64, 64]⟩
abbrev S64x64 : Shape := ⟨2, ![64, 64]⟩
abbrev S1x1x1 : Shape := ⟨3, ![1, 1, 1]⟩
abbrev S1x1 : Shape := ⟨2, ![1, 1]⟩
abbrev S64 : Shape := ⟨1, ![64]⟩
abbrev S64x1 : Shape := ⟨2, ![64, 1]⟩

abbrev nBuf : Space → Nat
  | .hbm => 34
  | .vmem => 22
  | .smem => 0
  | _ => 0

abbrev bufTy : (tb : Table) → Fin (tcTables nBuf tb) → BufTy
  | .hbm, ⟨0, _⟩ => ⟨S32x1x4x64x128, .f32⟩
  | .hbm, ⟨1, _⟩ => ⟨S32x1x4x64x128, .f32⟩
  | .hbm, ⟨2, _⟩ => ⟨S32x1x4x64x128, .f32⟩
  | .hbm, ⟨3, _⟩ => ⟨S32x1x4x64x128, .f32⟩
  | .hbm, ⟨4, _⟩ => ⟨S32x1x4x64x64, .f32⟩
  | .hbm, ⟨5, _⟩ => ⟨S32x1x4, .f32⟩
  | .hbm, ⟨6, _⟩ => ⟨S1x2048x3080, .f32⟩
  | .hbm, ⟨7, _⟩ => ⟨S1x128, .f32⟩
  | .hbm, ⟨8, _⟩ => ⟨S32x8x4, .f32⟩
  | .hbm, ⟨9, _⟩ => ⟨S_, .i32⟩
  | .hbm, ⟨10, _⟩ => ⟨S_, .f32⟩
  | .hbm, ⟨11, _⟩ => ⟨S32x8x128, .f32⟩
  | .hbm, ⟨12, _⟩ => ⟨S32x4x64x128, .f32⟩
  | .hbm, ⟨13, _⟩ => ⟨S32x64x4x128, .f32⟩
  | .hbm, ⟨14, _⟩ => ⟨S2048x512, .f32⟩
  | .hbm, ⟨15, _⟩ => ⟨S2048x512, .bf16⟩
  | .hbm, ⟨16, _⟩ => ⟨S32x4x64x128, .f32⟩
  | .hbm, ⟨17, _⟩ => ⟨S32x64x4x128, .f32⟩
  | .hbm, ⟨18, _⟩ => ⟨S2048x512, .f32⟩
  | .hbm, ⟨19, _⟩ => ⟨S32x4x64x128, .f32⟩
  | .hbm, ⟨20, _⟩ => ⟨S32x64x4x128, .f32⟩
  | .hbm, ⟨21, _⟩ => ⟨S2048x512, .f32⟩
  | .hbm, ⟨22, _⟩ => ⟨S2048x512, .bf16⟩
  | .hbm, ⟨23, _⟩ => ⟨S32x4x64x128, .f32⟩
  | .hbm, ⟨24, _⟩ => ⟨S32x64x4x128, .f32⟩
  | .hbm, ⟨25, _⟩ => ⟨S2048x512, .f32⟩
  | .hbm, ⟨26, _⟩ => ⟨S2048x512, .bf16⟩
  | .hbm, ⟨27, _⟩ => ⟨S32x4x64x64, .f32⟩
  | .hbm, ⟨28, _⟩ => ⟨S32x4x64x64, .bf16⟩
  | .hbm, ⟨29, _⟩ => ⟨S1x2048x3072, .f32⟩
  | .hbm, ⟨30, _⟩ => ⟨S2048x3072, .f32⟩
  | .hbm, ⟨31, _⟩ => ⟨S2048x512, .f32⟩
  | .hbm, ⟨32, _⟩ => ⟨S2048x512, .f32⟩
  | .hbm, ⟨33, _⟩ => ⟨S32x4x128x128, .f32⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S4x4x64x64, .bf16⟩
  | .local _ .vmem, ⟨9, _⟩ => ⟨S4x4x64x64, .bf16⟩
  | .local _ .vmem, ⟨10, _⟩ => ⟨S4x8x128, .f32⟩
  | .local _ .vmem, ⟨11, _⟩ => ⟨S4x8x128, .f32⟩
  | .local _ .vmem, ⟨12, _⟩ => ⟨S256x512, .f32⟩
  | .local _ .vmem, ⟨13, _⟩ => ⟨S256x512, .f32⟩
  | .local _ .vmem, ⟨14, _⟩ => ⟨S1x128, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S4x4x128x128, .f32⟩
  | .local _ .vmem, ⟨20, _⟩ => ⟨S4x4x128x128, .f32⟩
  | .local _ .vmem, ⟨21, _⟩ => ⟨S4x128x128, .f32⟩
  | _, _ => ⟨S32x1x4x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ScanRefIdeal.lean ====
abbrev S32x1x4x64x128 : Shape := ⟨5, ![32, 1, 4, 64, 128]⟩
abbrev S32x1x4x64x64 : Shape := ⟨5, ![32, 1, 4, 64, 64]⟩
abbrev S32x1x4 : Shape := ⟨3, ![32, 1, 4]⟩
abbrev S1x2048x3080 : Shape := ⟨3, ![1, 2048, 3080]⟩
abbrev S1x128 : Shape := ⟨2, ![1, 128]⟩
abbrev S_ : Shape := ⟨0, ![]⟩
abbrev S1x4x128x128 : Shape := ⟨4, ![1, 4, 128, 128]⟩
abbrev S32x1x4x128x128 : Shape := ⟨5, ![32, 1, 4, 128, 128]⟩
abbrev S1x1x4x64x128 : Shape := ⟨5, ![1, 1, 4, 64, 128]⟩
abbrev S1x4x64x128 : Shape := ⟨4, ![1, 4, 64, 128]⟩
abbrev S1x1x4x64x64 : Shape := ⟨5, ![1, 1, 4, 64, 64]⟩
abbrev S1x4x64x64 : Shape := ⟨4, ![1, 4, 64, 64]⟩
abbrev S1x1x4 : Shape := ⟨3, ![1, 1, 4]⟩
abbrev S1x4 : Shape := ⟨2, ![1, 4]⟩
abbrev S1x4x1x1 : Shape := ⟨4, ![1, 4, 1, 1]⟩
abbrev S1x1x4x128x128 : Shape := ⟨5, ![1, 1, 4, 128, 128]⟩
abbrev S1x32x64x4x128 : Shape := ⟨5, ![1, 32, 64, 4, 128]⟩
abbrev S1x2048x4x128 : Shape := ⟨4, ![1, 2048, 4, 128]⟩
abbrev S1x2048x4 : Shape := ⟨3, ![1, 2048, 4]⟩
abbrev S1x2048x4x1 : Shape := ⟨4, ![1, 2048, 4, 1]⟩
abbrev S128 : Shape := ⟨1, ![128]⟩
abbrev S1x1x1x128 : Shape := ⟨4, ![1, 1, 1, 128]⟩
abbrev S1x2048x512 : Shape := ⟨3, ![1, 2048, 512]⟩
abbrev S2048x512 : Shape := ⟨2, ![2048, 512]⟩
abbrev S32x4x128x128 : Shape := ⟨4, ![32, 4, 128, 128]⟩

abbrev nBuf : Space → Nat
  | .hbm => 119
  | .vmem => 0
  | .smem => 0
  | _ => 0

abbrev bufTy : (tb : Table) → Fin (tcTables nBuf tb) → BufTy
  | .hbm, ⟨0, _⟩ => ⟨S32x1x4x64x128, .f32⟩
  | .hbm, ⟨1, _⟩ => ⟨S32x1x4x64x128, .f32⟩
  | .hbm, ⟨2, _⟩ => ⟨S32x1x4x64x128, .f32⟩
  | .hbm, ⟨3, _⟩ => ⟨S32x1x4x64x128, .f32⟩
  | .hbm, ⟨4, _⟩ => ⟨S32x1x4x64x64, .f32⟩
  | .hbm, ⟨5, _⟩ => ⟨S32x1x4, .f32⟩
  | .hbm, ⟨6, _⟩ => ⟨S1x2048x3080, .f32⟩
  | .hbm, ⟨7, _⟩ => ⟨S1x128, .f32⟩
  | .hbm, ⟨8, _⟩ => ⟨S_, .f32⟩
  | .hbm, ⟨9, _⟩ => ⟨S1x4x128x128, .f32⟩
  | .hbm, ⟨10, _⟩ => ⟨S_, .f32⟩
  | .hbm, ⟨11, _⟩ => ⟨S32x1x4x64x128, .f32⟩
  | .hbm, ⟨12, _⟩ => ⟨S_, .f32⟩
  | .hbm, ⟨13, _⟩ => ⟨S32x1x4x128x128, .f32⟩
  | .hbm, ⟨14, _⟩ => ⟨S_, .i32⟩
  | .hbm, ⟨15, _⟩ => ⟨S32x1x4x64x128, .f32⟩
  | .hbm, ⟨16, _⟩ => ⟨S32x1x4x64x128, .f32⟩
  | .hbm, ⟨17, _⟩ => ⟨S32x1x4x64x128, .f32⟩
  | .hbm, ⟨18, _⟩ => ⟨S32x1x4x64x128, .f32⟩
  | .hbm, ⟨19, _⟩ => ⟨S32x1x4x64x64, .f32⟩
  | .hbm, ⟨20, _⟩ => ⟨S32x1x4, .f32⟩
  | .hbm, ⟨21, _⟩ => ⟨S_, .i32⟩
  | .hbm, ⟨22, _⟩ => ⟨S1x4x128x128, .f32⟩
  | .hbm, ⟨23, _⟩ => ⟨S32x1x4x64x128, .f32⟩
  | .hbm, ⟨24, _⟩ => ⟨S32x1x4x128x128, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x1x4x64x128, .f32⟩
  | .hbm, ⟨32, _⟩ => ⟨S1x4x64x128, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x1x4x64x128, .f32⟩
  | .hbm, ⟨38, _⟩ => ⟨S1x4x64x128, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x1x4x64x128, .f32⟩
  | .hbm, ⟨44, _⟩ => ⟨S1x4x64x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x1x4x64x128, .f32⟩
  | .hbm, ⟨50, _⟩ => ⟨S1x4x64x128, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x1x4x64x64, .f32⟩
  | .hbm, ⟨56, _⟩ => ⟨S1x4x64x64, .f32⟩
  | .hbm, ⟨57, _⟩ => ⟨S_, .i32⟩
  | .hbm, ⟨58, _⟩ => ⟨S_, .i32⟩
  | .hbm, ⟨59, _⟩ => ⟨S1x1x4, .f32⟩
  | .hbm, ⟨60, _⟩ => ⟨S1x4, .f32⟩
  | .hbm, ⟨61, _⟩ => ⟨S1x4x64x128, .f32⟩
  | .hbm, ⟨62, _⟩ => ⟨S1x4x64x128, .f32⟩
  | .hbm, ⟨63, _⟩ => ⟨S1x4x64x128, .f32⟩
  | .hbm, ⟨64, _⟩ => ⟨S1x4x64x128, .f32⟩
  | .hbm, ⟨65, _⟩ => ⟨S1x4x64x128, .f32⟩
  | .hbm, ⟨66, _⟩ => ⟨S1x4x1x1, .f32⟩
  | .hbm, ⟨67, _⟩ => ⟨S1x4x128x128, .f32⟩
  | .hbm, ⟨68, _⟩ => ⟨S1x4x128x128, .f32⟩
  | .hbm, ⟨69, _⟩ => ⟨S1x4x128x128, .f32⟩
  | .hbm, ⟨70, _⟩ => ⟨S1x4x128x128, .f32⟩
  | .hbm, ⟨71, _⟩ => ⟨S1x1x4x64x128, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S32x1x4x64x128, .f32⟩
  | .hbm, ⟨77, _⟩ => ⟨S1x1x4x128x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S32x1x4x128x128, .f32⟩
  | .hbm, ⟨83, _⟩ => ⟨S_, .i32⟩
  | .hbm, ⟨84, _⟩ => ⟨S_, .i32⟩
  | .hbm, ⟨85, _⟩ => ⟨S1x32x64x4x128, .f32⟩
  | .hbm, ⟨86, _⟩ => ⟨S1x2048x4x128, .f32⟩
  | .hbm, ⟨87, _⟩ => ⟨S1x2048x4x128, .f32⟩
  | .hbm, ⟨88, _⟩ => ⟨S_, .f32⟩
  | .hbm, ⟨89, _⟩ => ⟨S1x2048x4, .f32⟩
  | .hbm, ⟨90, _⟩ => ⟨S1x2048x4x1, .f32⟩
  | .hbm, ⟨91, _⟩ => ⟨S_, .f32⟩
  | .hbm, ⟨92, _⟩ => ⟨S1x2048x4x1, .f32⟩
  | .hbm, ⟨93, _⟩ => ⟨S1x2048x4x1, .f32⟩
  | .hbm, ⟨94, _⟩ => ⟨S_, .f32⟩
  | .hbm, ⟨95, _⟩ => ⟨S1x2048x4x1, .f32⟩
  | .hbm, ⟨96, _⟩ => ⟨S1x2048x4x1, .f32⟩
  | .hbm, ⟨97, _⟩ => ⟨S1x2048x4x1, .f32⟩
  | .hbm, ⟨98, _⟩ => ⟨S1x2048x4x128, .f32⟩
  | .hbm, ⟨99, _⟩ => ⟨S1x2048x4x128, .f32⟩
  | .hbm, ⟨100, _⟩ => ⟨S128, .f32⟩
  | .hbm, ⟨101, _⟩ => ⟨S1x1x1x128, .f32⟩
  | .hbm, ⟨102, _⟩ => ⟨S1x2048x4x128, .f32⟩
  | .hbm, ⟨103, _⟩ => ⟨S1x2048x4x128, .f32⟩
  | .hbm, ⟨104, _⟩ => ⟨S1x2048x512, .f32⟩
  | .hbm, ⟨105, _⟩ => ⟨S1x2048x4x128, .f32⟩
  | .hbm, ⟨106, _⟩ => ⟨S1x2048x4x128, .f32⟩
  | .hbm, ⟨107, _⟩ => ⟨S1x2048x4x128, .f32⟩
  | .hbm, ⟨108, _⟩ => ⟨S_, .f32⟩
  | .hbm, ⟨109, _⟩ => ⟨S1x2048x4x128, .f32⟩
  | .hbm, ⟨110, _⟩ => ⟨S1x2048x4x128, .f32⟩
  | .hbm, ⟨111, _⟩ => ⟨S_, .f32⟩
  | .hbm, ⟨112, _⟩ => ⟨S1x2048x4x128, .f32⟩
  | .hbm, ⟨113, _⟩ => ⟨S1x2048x4x128, .f32⟩
  | .hbm, ⟨114, _⟩ => ⟨S1x2048x4x128, .f32⟩
  | .hbm, ⟨115, _⟩ => ⟨S1x2048x4x128, .f32⟩
  | .hbm, ⟨116, _⟩ => ⟨S2048x512, .f32⟩
  | .hbm, ⟨117, _⟩ => ⟨S2048x512, .f32⟩
  | .hbm, ⟨118, _⟩ => ⟨S32x4x128x128, .f32⟩
  | _, _ => ⟨S32x1x4x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_c : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_v3_8 : Ref sig .tc := ⟨.hbm, 23, rfl⟩
abbrev main_v3_9 : Ref sig .tc := ⟨.hbm, 24, rfl⟩
abbrev main_while0c_c_14 : Ref sig .tc := ⟨.hbm, 25, rfl⟩
abbrev main_while0c_v27 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_c_1 : Ref sig .tc := ⟨.hbm, 29, rfl⟩
abbrev main_while0b_call0_c_2 : Ref sig .tc := ⟨.hbm, 30, rfl⟩
abbrev main_while0b_call0_v0 : Ref sig .tc := ⟨.hbm, 31, rfl⟩
abbrev main_while0b_v27 : Ref sig .tc := ⟨.hbm, 32, rfl⟩
abbrev main_while0b_call1_c : Ref sig .tc := ⟨.hbm, 33, rfl⟩
abbrev main_while0b_call1_c_0 : Ref sig .tc := ⟨.hbm, 34, rfl⟩
abbrev main_while0b_call1_c_1 : Ref sig .tc := ⟨.hbm, 35, rfl⟩
abbrev main_while0b_call1_c_2 : Ref sig .tc := ⟨.hbm, 36, rfl⟩
abbrev main_while0b_call1_v0 : Ref sig .tc := ⟨.hbm, 37, rfl⟩
abbrev main_while0b_v28 : Ref sig .tc := ⟨.hbm, 38, rfl⟩
abbrev main_while0b_call2_c : Ref sig .tc := ⟨.hbm, 39, rfl⟩
abbrev main_while0b_call2_c_0 : Ref sig .tc := ⟨.hbm, 40, rfl⟩
abbrev main_while0b_call2_c_1 : Ref sig .tc := ⟨.hbm, 41, rfl⟩
abbrev main_while0b_call2_c_2 : Ref sig .tc := ⟨.hbm, 42, rfl⟩
abbrev main_while0b_call2_v0 : Ref sig .tc := ⟨.hbm, 43, rfl⟩
abbrev main_while0b_v29 : Ref sig .tc := ⟨.hbm, 44, rfl⟩
abbrev main_while0b_call3_c : Ref sig .tc := ⟨.hbm, 45, rfl⟩
abbrev main_while0b_call3_c_0 : Ref sig .tc := ⟨.hbm, 46, rfl⟩
abbrev main_while0b_call3_c_1 : Ref sig .tc := ⟨.hbm, 47, rfl⟩
abbrev main_while0b_call3_c_2 : Ref sig .tc := ⟨.hbm, 48, rfl⟩
abbrev main_while0b_call3_v0 : Ref sig .tc := ⟨.hbm, 49, rfl⟩
abbrev main_while0b_v30 : Ref sig .tc := ⟨.hbm, 50, rfl⟩
abbrev main_while0b_call4_c : Ref sig .tc := ⟨.hbm, 51, rfl⟩
abbrev main_while0b_call4_c_0 : Ref sig .tc := ⟨.hbm, 52, rfl⟩
abbrev main_while0b_call4_c_1 : Ref sig .tc := ⟨.hbm, 53, rfl⟩
abbrev main_while0b_call4_c_2 : Ref sig .tc := ⟨.hbm, 54, rfl⟩
abbrev main_while0b_call4_v0 : Ref sig .tc := ⟨.hbm, 55, rfl⟩
abbrev main_while0b_v31 : Ref sig .tc := ⟨.hbm, 56, rfl⟩
abbrev main_while0b_call5_c : Ref sig .tc := ⟨.hbm, 57, rfl⟩
abbrev main_while0b_call5_c_0 : Ref sig .tc := ⟨.hbm, 58, rfl⟩
abbrev main_while0b_call5_v0 : Ref sig .tc := ⟨.hbm, 59, rfl⟩
abbrev main_while0b_v32 : Ref sig .tc := ⟨.hbm, 60, rfl⟩
abbrev main_while0b_v33 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_call6_v0 : Ref sig .tc := ⟨.hbm, 71, rfl⟩
abbrev main_while0b_call6_c : Ref sig .tc := ⟨.hbm, 72, rfl⟩
abbrev main_while0b_call6_c_0 : Ref sig .tc := ⟨.hbm, 73, rfl⟩
abbrev main_while0b_call6_c_1 : Ref sig .tc := ⟨.hbm, 74, rfl⟩
abbrev main_while0b_call6_c_2 : Ref sig .tc := ⟨.hbm, 75, rfl⟩
abbrev main_while0b_v43 : Ref sig .tc := ⟨.hbm, 76, rfl⟩
abbrev main_while0b_call7_v0 : Ref sig .tc := ⟨.hbm, 77, rfl⟩
abbrev main_while0b_call7_c : Ref sig .tc := ⟨.hbm, 78, rfl⟩
abbrev main_while0b_call7_c_0 : Ref sig .tc := ⟨.hbm, 79, rfl⟩
abbrev main_while0b_call7_c_1 : Ref sig .tc := ⟨.hbm, 80, rfl⟩
abbrev main_while0b_call7_c_2 : Ref sig .tc := ⟨.hbm, 81, rfl⟩
abbrev main_while0b_v44 : Ref sig .tc := ⟨.hbm, 82, rfl⟩
abbrev main_while0b_c_14 : Ref sig .tc := ⟨.hbm, 83, rfl⟩
abbrev main_while0b_v45 : Ref sig .tc := ⟨.hbm, 84, rfl⟩
abbrev main_v4 : Ref sig .tc := ⟨.hbm, 85, rfl⟩
abbrev main_v5 : Ref sig .tc := ⟨.hbm, 86, rfl⟩
abbrev main_v6 : Ref sig .tc := ⟨.hbm, 87, rfl⟩
abbrev main_cst_2 : Ref sig .tc := ⟨.hbm, 88, rfl⟩
abbrev main_v7 : Ref sig .tc := ⟨.hbm, 89, rfl⟩
abbrev main_v8 : Ref sig .tc := ⟨.hbm, 90, rfl⟩
abbrev main_cst_3 : Ref sig .tc := ⟨.hbm, 91, rfl⟩
abbrev main_v9 : Ref sig .tc := ⟨.hbm, 92, rfl⟩
abbrev main_v10 : Ref sig .tc := ⟨.hbm, 93, rfl⟩
abbrev main_cst_4 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_call8_v0 : Ref sig .tc := ⟨.hbm, 106, rfl⟩
abbrev main_call8_v1 : Ref sig .tc := ⟨.hbm, 107, rfl⟩
abbrev main_call8_cst : Ref sig .tc := ⟨.hbm, 108, rfl⟩
abbrev main_call8_v2 : Ref sig .tc := ⟨.hbm, 109, rfl⟩
abbrev main_call8_v3 : Ref sig .tc := ⟨.hbm, 110, rfl⟩
abbrev main_call8_cst_0 : Ref sig .tc := ⟨.hbm, 111, rfl⟩
abbrev main_call8_v4 : Ref sig .tc := ⟨.hbm, 112, rfl⟩
abbrev main_call8_v5 : Ref sig .tc := ⟨.hbm, 113, rfl⟩
abbrev main_v22 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩

abbrev nD : Nat := 1
abbrev τ : Topo := Topo.v7x

variable {F : FTy → Type} [FloatOps F]

abbrev main_while0_count : Scf.Loop 32 := ⟨0#32, 32#32, 1#32⟩
-- ==== ConfFwd.lean ====
abbrev S1x2048x3080 : Shape := ⟨3, ![1, 2048, 3080]⟩
abbrev S1x31x512 : Shape := ⟨3, ![1, 31, 512]⟩
abbrev S1x512 : Shape := ⟨2, ![1, 512]⟩
abbrev S1x2048x3072 : Shape := ⟨3, ![1, 2048, 3072]⟩
abbrev S2048x3072 : Shape := ⟨2, ![2048, 3072]⟩
abbrev S31x512 : Shape := ⟨2, ![31, 512]⟩
abbrev S2048x512 : Shape := ⟨2, ![2048, 512]⟩
abbrev S256x512 : Shape := ⟨2, ![256, 512]⟩
abbrev S288x512 : Shape := ⟨2, ![288, 512]⟩
abbrev S7x280x512 : Shape := ⟨3, ![7, 280, 512]⟩
abbrev S32x512 : Shape := ⟨2, ![32, 512]⟩
abbrev S280x512 : Shape := ⟨2, ![280, 512]⟩
abbrev S1x280x512 : Shape := ⟨3, ![1, 280, 512]⟩
abbrev S1x256x512 : Shape := ⟨3, ![1, 256, 512]⟩
abbrev S512x512 : Shape := ⟨2, ![512, 512]⟩

abbrev nBuf : Space → Nat
  | .hbm => 10
  | .vmem => 14
  | .smem => 0
  | _ => 0

abbrev bufTy : (tb : Table) → Fin (tcTables nBuf tb) → BufTy
  | .hbm, ⟨0, _⟩ => ⟨S1x2048x3080, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x2048x3072, .f32⟩
  | .hbm, ⟨6, _⟩ => ⟨S2048x3072, .f32⟩
  | .hbm, ⟨7, _⟩ => ⟨S31x512, .f32⟩
  | .hbm, ⟨8, _⟩ => ⟨S2048x512, .f32⟩
  | .hbm, ⟨9, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S288x512, .f32⟩
  | .local _ .vmem, ⟨13, _⟩ => ⟨S7x280x512, .f32⟩
  | _, _ => ⟨S1x2048x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConfFwdRefIdeal.lean ====
abbrev S1x2048x3080 : Shape := ⟨3, ![1, 2048, 3080]⟩
abbrev S1x31x512 : Shape := ⟨3, ![1, 31, 512]⟩
abbrev S1x512 : Shape := ⟨2, ![1, 512]⟩
abbrev S1x2048x512 : Shape := ⟨3, ![1, 2048, 512]⟩
abbrev S31x512 : Shape := ⟨2, ![31, 512]⟩
abbrev S512 : Shape := ⟨1, ![512]⟩
abbrev S_ : Shape := ⟨0, ![]⟩
abbrev S31x2048x2048 : Shape := ⟨3, ![31, 2048, 2048]⟩
abbrev S2048x512 : Shape := ⟨2, ![2048, 512]⟩
abbrev S31x2048x512 : Shape := ⟨3, ![31, 2048, 512]⟩
abbrev S31x1x512 : Shape := ⟨3, ![31, 1, 512]⟩
abbrev S1x1x512 : Shape := ⟨3, ![1, 1, 512]⟩
abbrev S1x2048x8x64 : Shape := ⟨4, ![1, 2048, 8, 64]⟩
abbrev S1x2048x8 : Shape := ⟨3, ![1, 2048, 8]⟩
abbrev S1x2048x8x1 : Shape := ⟨4, ![1, 2048, 8, 1]⟩

abbrev nBuf : Space → Nat
  | .hbm => 121
  | .vmem => 0
  | .smem => 0
  | _ => 0

abbrev bufTy : (tb : Table) → Fin (tcTables nBuf tb) → BufTy
  | .hbm, ⟨0, _⟩ => ⟨S1x2048x3080, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x2048x512, .f32⟩
  | .hbm, ⟨6, _⟩ => ⟨S1x2048x512, .f32⟩
  | .hbm, ⟨7, _⟩ => ⟨S31x512, .f32⟩
  | .hbm, ⟨8, _⟩ => ⟨S512, .f32⟩
  | .hbm, ⟨9, _⟩ => ⟨S1x2048x512, .f32⟩
  | .hbm, ⟨10, _⟩ => ⟨S1x2048x512, .f32⟩
  | .hbm, ⟨11, _⟩ => ⟨S_, .f32⟩
  | .hbm, ⟨12, _⟩ => ⟨S1x2048x512, .f32⟩
  | .hbm, ⟨13, _⟩ => ⟨S1x2048x512, .f32⟩
  | .hbm, ⟨14, _⟩ => ⟨S_, .f32⟩
  | .hbm, ⟨15, _⟩ => ⟨S1x2048x512, .f32⟩
  | .hbm, ⟨16, _⟩ => ⟨S1x2048x512, .f32⟩
  | .hbm, ⟨17, _⟩ => ⟨S1x2048x512, .f32⟩
  | .hbm, ⟨18, _⟩ => ⟨S31x2048x2048, .i32⟩
  | .hbm, ⟨19, _⟩ => ⟨S31x2048x2048, .i32⟩
  | .hbm, ⟨20, _⟩ => ⟨S31x2048x2048, .i32⟩
  | .hbm, ⟨21, _⟩ => ⟨S_, .i32⟩
  | .hbm, ⟨22, _⟩ => ⟨S31x2048x2048, .i32⟩
  | .hbm, ⟨23, _⟩ => ⟨S31x2048x2048, .i32⟩
  | .hbm, ⟨24, _⟩ => ⟨S31x2048x2048, .i32⟩
  | .hbm, ⟨25, _⟩ => ⟨S31x2048x2048, .i1⟩
  | .hbm, ⟨26, _⟩ => ⟨S_, .f32⟩
  | .hbm, ⟨27, _⟩ => ⟨S_, .f32⟩
  | .hbm, ⟨28, _⟩ => ⟨S31x2048x2048, .f32⟩
  | .hbm, ⟨29, _⟩ => ⟨S31x2048x2048, .f32⟩
  | .hbm, ⟨30, _⟩ => ⟨S31x2048x2048, .f32⟩
  | .hbm, ⟨31, _⟩ => ⟨S2048x512, .f32⟩
  | .hbm, ⟨32, _⟩ => ⟨S31x2048x512, .f32⟩
  | .hbm, ⟨33, _⟩ => ⟨S31x1x512, .f32⟩
  | .hbm, ⟨34, _⟩ => ⟨S31x2048x512, .f32⟩
  | .hbm, ⟨35, _⟩ => ⟨S31x2048x512, .f32⟩
  | .hbm, ⟨36, _⟩ => ⟨S_, .f32⟩
  | .hbm, ⟨37, _⟩ => ⟨S2048x512, .f32⟩
  | .hbm, ⟨38, _⟩ => ⟨S1x2048x512, .f32⟩
  | .hbm, ⟨39, _⟩ => ⟨S1x1x512, .f32⟩
  | .hbm, ⟨40, _⟩ => ⟨S1x2048x512, .f32⟩
  | .hbm, ⟨41, _⟩ => ⟨S1x2048x512, .f32⟩
  | .hbm, ⟨42, _⟩ => ⟨S2048x512, .f32⟩
  | .hbm, ⟨43, _⟩ => ⟨S31x512, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S1x2048x512, .f32⟩
  | .hbm, ⟨48, _⟩ => ⟨S1x2048x512, .f32⟩
  | .hbm, ⟨49, _⟩ => ⟨S_, .f32⟩
  | .hbm, ⟨50, _⟩ => ⟨S1x2048x512, .f32⟩
  | .hbm, ⟨51, _⟩ => ⟨S1x2048x512, .f32⟩
  | .hbm, ⟨52, _⟩ => ⟨S_, .f32⟩
  | .hbm, ⟨53, _⟩ => ⟨S1x2048x512, .f32⟩
  | .hbm, ⟨54, _⟩ => ⟨S1x2048x512, .f32⟩
  | .hbm, ⟨55, _⟩ => ⟨S1x2048x512, .f32⟩
  | .hbm, ⟨56, _⟩ => ⟨S31x2048x2048, .i32⟩
  | .hbm, ⟨57, _⟩ => ⟨S31x2048x2048, .i32⟩
  | .hbm, ⟨58, _⟩ => ⟨S31x2048x2048, .i32⟩
  | .hbm, ⟨59, _⟩ => ⟨S_, .i32⟩
  | .hbm, ⟨60, _⟩ => ⟨S31x2048x2048, .i32⟩
  | .hbm, ⟨61, _⟩ => ⟨S31x2048x2048, .i32⟩
  | .hbm, ⟨62, _⟩ => ⟨S31x2048x2048, .i32⟩
  | .hbm, ⟨63, _⟩ => ⟨S31x2048x2048, .i1⟩
  | .hbm, ⟨64, _⟩ => ⟨S_, .f32⟩
  | .hbm, ⟨65, _⟩ => ⟨S_, .f32⟩
  | .hbm, ⟨66, _⟩ => ⟨S31x2048x2048, .f32⟩
  | .hbm, ⟨67, _⟩ => ⟨S31x2048x2048, .f32⟩
  | .hbm, ⟨68, _⟩ => ⟨S31x2048x2048, .f32⟩
  | .hbm, ⟨69, _⟩ => ⟨S2048x512, .f32⟩
  | .hbm, ⟨70, _⟩ => ⟨S31x2048x512, .f32⟩
  | .hbm, ⟨71, _⟩ => ⟨S31x1x512, .f32⟩
  | .hbm, ⟨72, _⟩ => ⟨S31x2048x512, .f32⟩
  | .hbm, ⟨73, _⟩ => ⟨S31x2048x512, .f32⟩
  | .hbm, ⟨74, _⟩ => ⟨S_, .f32⟩
  | .hbm, ⟨75, _⟩ => ⟨S2048x512, .f32⟩
  | .hbm, ⟨76, _⟩ => ⟨S1x2048x512, .f32⟩
  | .hbm, ⟨77, _⟩ => ⟨S1x1x512, .f32⟩
  | .hbm, ⟨78, _⟩ => ⟨S1x2048x512, .f32⟩
  | .hbm, ⟨79, _⟩ => ⟨S1x2048x512, .f32⟩
  | .hbm, ⟨80, _⟩ => ⟨S1x2048x8x64, .f32⟩
  | .hbm, ⟨81, _⟩ => ⟨S_, .f32⟩
  | .hbm, ⟨82, _⟩ => ⟨S1x2048x8, .f32⟩
  | .hbm, ⟨83, _⟩ => ⟨S1x2048x8x1, .f32⟩
  | .hbm, ⟨84, _⟩ => ⟨S_, .f32⟩
  | .hbm, ⟨85, _⟩ => ⟨S1x2048x8x1, .f32⟩
  | .hbm, ⟨86, _⟩ => ⟨S1x2048x8x1, .f32⟩
  | .hbm, ⟨87, _⟩ => ⟨S1x2048x8x64, .f32⟩
  | .hbm, ⟨88, _⟩ => ⟨S1x2048x8x64, .f32⟩
  | .hbm, ⟨89, _⟩ => ⟨S1x2048x8x64, .f32⟩
  | .hbm, ⟨90, _⟩ => ⟨S_, .f32⟩
  | .hbm, ⟨91, _⟩ => ⟨S1x2048x8, .f32⟩
  | .hbm, ⟨92, _⟩ => ⟨S1x2048x8x1, .f32⟩
  | .hbm, ⟨93, _⟩ => ⟨S_, .f32⟩
  | .hbm, ⟨94, _⟩ => ⟨S1x2048x8x1, .f32⟩
  | .hbm, ⟨95, _⟩ => ⟨S1x2048x8x1, .f32⟩
  | .hbm, ⟨96, _⟩ => ⟨S1x2048x8x64, .f32⟩
  | .hbm, ⟨97, _⟩ => ⟨S1x2048x8x64, .f32⟩
  | .hbm, ⟨98, _⟩ => ⟨S_, .f32⟩
  | .hbm, ⟨99, _⟩ => ⟨S1x2048x8x1, .f32⟩
  | .hbm, ⟨100, _⟩ => ⟨S1x2048x8x1, .f32⟩
  | .hbm, ⟨101, _⟩ => ⟨S1x2048x8x1, .f32⟩
  | .hbm, ⟨102, _⟩ => ⟨S1x2048x8x64, .f32⟩
  | .hbm, ⟨103, _⟩ => ⟨S1x2048x8x64, .f32⟩
  | .hbm, ⟨104, _⟩ => ⟨S1x2048x512, .f32⟩
  | .hbm, ⟨105, _⟩ => ⟨S1x1x512, .f32⟩
  | .hbm, ⟨106, _⟩ => ⟨S1x2048x512, .f32⟩
  | .hbm, ⟨107, _⟩ => ⟨S1x2048x512, .f32⟩
  | .hbm, ⟨108, _⟩ => ⟨S1x1x512, .f32⟩
  | .hbm, ⟨109, _⟩ => ⟨S1x2048x512, .f32⟩
  | .hbm, ⟨110, _⟩ => ⟨S1x2048x512, .f32⟩
  | .hbm, ⟨111, _⟩ => ⟨S1x2048x512, .f32⟩
  | .hbm, ⟨112, _⟩ => ⟨S1x2048x512, .f32⟩
  | .hbm, ⟨113, _⟩ => ⟨S_, .f32⟩
  | .hbm, ⟨114, _⟩ => ⟨S1x2048x512, .f32⟩
  | .hbm, ⟨115, _⟩ => ⟨S1x2048x512, .f32⟩
  | .hbm, ⟨116, _⟩ => ⟨S_, .f32⟩
  | .hbm, ⟨117, _⟩ => ⟨S1x2048x512, .f32⟩
  | .hbm, ⟨118, _⟩ => ⟨S1x2048x512, .f32⟩
  | .hbm, ⟨119, _⟩ => ⟨S1x2048x512, .f32⟩
  | .hbm, ⟨120, _⟩ => ⟨S2048x512, .f32⟩
  | _, _ => ⟨S1x2048x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_cst_8 : Ref sig .tc := ⟨.hbm, 65, rfl⟩
abbrev main_call1_v0 : Ref sig .tc := ⟨.hbm, 66, rfl⟩
abbrev main_call1_v1 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_call2_v0 : Ref sig .tc := ⟨.hbm, 111, rfl⟩
abbrev main_call2_v1 : Ref sig .tc := ⟨.hbm, 112, rfl⟩
abbrev main_call2_cst : Ref sig .tc := ⟨.hbm, 113, rfl⟩
abbrev main_call2_v2 : Ref sig .tc := ⟨.hbm, 114, rfl⟩
abbrev main_call2_v3 : Ref sig .tc := ⟨.hbm, 115, rfl⟩
abbrev main_call2_cst_0 : Ref sig .tc := ⟨.hbm, 116, rfl⟩
abbrev main_call2_v4 : Ref sig .tc := ⟨.hbm, 117, rfl⟩
abbrev main_call2_v5 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== Mod.lean ====
abbrev S8x1024 : Shape := ⟨2, ![8, 1024]⟩
abbrev S1x1024x768 : Shape := ⟨3, ![1, 1024, 768]⟩
abbrev S1024x768 : Shape := ⟨2, ![1024, 768]⟩
abbrev S8x768 : Shape := ⟨2, ![8, 768]⟩

abbrev nBuf : Space → Nat
  | .hbm => 4
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1x1024x768, .f32⟩
  | .hbm, ⟨2, _⟩ => ⟨S1024x768, .f32⟩
  | .hbm, ⟨3, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ModRefIdeal.lean ====
abbrev S8x1024 : Shape := ⟨2, ![8, 1024]⟩
abbrev S1x1024x768 : Shape := ⟨3, ![1, 1024, 768]⟩
abbrev S_ : Shape := ⟨0, ![]⟩
abbrev S1024x768 : Shape := ⟨2, ![1024, 768]⟩
abbrev S8x768 : Shape := ⟨2, ![8, 768]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1024x768, .f32⟩
  | .hbm, ⟨12, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== GradFfnIn.lean ====
abbrev S1x2048x1024 : Shape := ⟨3, ![1, 2048, 1024]⟩
abbrev S1x6144 : Shape := ⟨2, ![1, 6144]⟩
abbrev S1x1024 : Shape := ⟨2, ![1, 1024]⟩
abbrev S1x1024x5632 : Shape := ⟨3, ![1, 1024, 5632]⟩
abbrev S1x2048x5632 : Shape := ⟨3, ![1, 2048, 5632]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048x8x704 : Shape := ⟨3, ![2048, 8, 704]⟩
abbrev S8x2048x704 : Shape := ⟨3, ![8, 2048, 704]⟩
abbrev S2048x1024 : Shape := ⟨2, ![2048, 1024]⟩
abbrev S8x704x1024 : Shape := ⟨3, ![8, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 41
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S1x1024x5632, .f32⟩
  | .hbm, ⟨5, _⟩ => ⟨S1x2048x5632, .f32⟩
  | .hbm, ⟨6, _⟩ => ⟨S1x6144, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S1x2048x1024, .f32⟩
  | .hbm, ⟨11, _⟩ => ⟨S_, .f32⟩
  | .hbm, ⟨12, _⟩ => ⟨S1x2048, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1x1x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S1x2048x1024, .f32⟩
  | .hbm, ⟨31, _⟩ => ⟨S1x2048x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S2048x8x704, .f32⟩
  | .hbm, ⟨36, _⟩ => ⟨S8x2048x704, .f32⟩
  | .hbm, ⟨37, _⟩ => ⟨S8x2048x704, .bf16⟩
  | .hbm, ⟨38, _⟩ => ⟨S2048x1024, .f32⟩
  | .hbm, ⟨39, _⟩ => ⟨S2048x1024, .bf16⟩
  | .hbm, ⟨40, _⟩ => ⟨S8x704x1024, .bf16⟩
  | .local _ .vmem, ⟨0, _⟩ => ⟨S2048x1024, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x704x1024, .bf16⟩
  | .local _ .vmem, ⟨4, _⟩ => ⟨S1x704x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradFfnInRefIdeal.lean ====
abbrev S1x2048x1024 : Shape := ⟨3, ![1, 2048, 1024]⟩
abbrev S1x6144 : Shape := ⟨2, ![1, 6144]⟩
abbrev S1x1024 : Shape := ⟨2, ![1, 1024]⟩
abbrev S1x1024x5632 : Shape := ⟨3, ![1, 1024, 5632]⟩
abbrev S1x2048x5632 : Shape := ⟨3, ![1, 2048, 5632]⟩
abbrev S6144 : Shape := ⟨1, ![6144]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x5632 : Shape := ⟨2, ![1024, 5632]⟩
abbrev S2048x1024 : Shape := ⟨2, ![2048, 1024]⟩
abbrev S2048x5632 : Shape := ⟨2, ![2048, 5632]⟩
abbrev S5632x1024 : Shape := ⟨2, ![5632, 1024]⟩
abbrev S8x704x1024 : Shape := ⟨3, ![8, 704, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S1x1024x5632, .f32⟩
  | .hbm, ⟨5, _⟩ => ⟨S1x2048x5632, .f32⟩
  | .hbm, ⟨6, _⟩ => ⟨S6144, .f32⟩
  | .hbm, ⟨7, _⟩ => ⟨S1x6144, .f32⟩
  | .hbm, ⟨8, _⟩ => ⟨S1x6144, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1x2048x1024, .f32⟩
  | .hbm, ⟨17, _⟩ => ⟨S_, .f32⟩
  | .hbm, ⟨18, _⟩ => ⟨S1x2048, .f32⟩
  | .hbm, ⟨19, _⟩ => ⟨S1x2048x1, .f32⟩
  | .hbm, ⟨20, _⟩ => ⟨S_, .f32⟩
  | .hbm, ⟨21, _⟩ => ⟨S1x2048x1, .f32⟩
  | .hbm, ⟨22, _⟩ => ⟨S1x2048x1, .f32⟩
  | .hbm, ⟨23, _⟩ => ⟨S_, .f32⟩
  | .hbm, ⟨24, _⟩ => ⟨S1x2048x1, .f32⟩
  | .hbm, ⟨25, _⟩ => ⟨S1x2048x1, .f32⟩
  | .hbm, ⟨26, _⟩ => ⟨S1x2048x1, .f32⟩
  | .hbm, ⟨27, _⟩ => ⟨S1x2048x1024, .f32⟩
  | .hbm, ⟨28, _⟩ => ⟨S1x2048x1024, .f32⟩
  | .hbm, ⟨29, _⟩ => ⟨S1x1x1024, .f32⟩
  | .hbm, ⟨30, _⟩ => ⟨S1x2048x1024, .f32⟩
  | .hbm, ⟨31, _⟩ => ⟨S1x2048x1024, .f32⟩
  | .hbm, ⟨32, _⟩ => ⟨S1x1x1024, .f32⟩
  | .hbm, ⟨33, _⟩ => ⟨S_, .f32⟩
  | .hbm, ⟨34, _⟩ => ⟨S1x1x1024, .f32⟩
  | .hbm, ⟨35, _⟩ => ⟨S1x1x1024, .f32⟩
  | .hbm, ⟨36, _⟩ => ⟨S1x2048x1024, .f32⟩
  | .hbm, ⟨37, _⟩ => ⟨S1x2048x1024, .f32⟩
  | .hbm, ⟨38, _⟩ => ⟨S1x1x1024, .f32⟩
  | .hbm, ⟨39, _⟩ => ⟨S1x2048x1024, .f32⟩
  | .hbm, ⟨40, _⟩ => ⟨S1x2048x1024, .f32⟩
  | .hbm, ⟨41, _⟩ => ⟨S1024x5632, .f32⟩
  | .hbm, ⟨42, _⟩ => ⟨S2048x1024, .f32⟩
  | .hbm, ⟨43, _⟩ => ⟨S2048x5632, .f32⟩
  | .hbm, ⟨44, _⟩ => ⟨S2048x5632, .f32⟩
  | .hbm, ⟨45, _⟩ => ⟨S5632x1024, .f32⟩
  | .hbm, ⟨46, _⟩ => ⟨S1024x5632, .f32⟩
  | .hbm, ⟨47, _⟩ => ⟨S5632x1024, .f32⟩
  | .hbm, ⟨48, _⟩ => ⟨S8x704x1024, .f32⟩
  | .hbm, ⟨49, _⟩ => ⟨S8x704x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== GradFfnOut.lean ====
abbrev S1x2048x1024 : Shape := ⟨3, ![1, 2048, 1024]⟩
abbrev S1x6144 : Shape := ⟨2, ![1, 6144]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 57
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S1x1024x5632, .f32⟩
  | .hbm, ⟨5, _⟩ => ⟨S1x2816x1024, .f32⟩
  | .hbm, ⟨6, _⟩ => ⟨S1x2048x1024, .f32⟩
  | .hbm, ⟨7, _⟩ => ⟨S1x6144, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1x2048x1024, .f32⟩
  | .hbm, ⟨12, _⟩ => ⟨S_, .f32⟩
  | .hbm, ⟨13, _⟩ => ⟨S1x2048, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1, .f32⟩
  | .hbm, ⟨22, _⟩ => ⟨S1x2048x1024, .f32⟩
  | .hbm, ⟨23, _⟩ => ⟨S1x2048x1024, .f32⟩
  | .hbm, ⟨24, _⟩ => ⟨S1x1x1024, .f32⟩
  | .hbm, ⟨25, _⟩ => ⟨S1x2048x1024, .f32⟩
  | .hbm, ⟨26, _⟩ => ⟨S1x2048x1024, .f32⟩
  | .hbm, ⟨27, _⟩ => ⟨S1x1x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S1x2048x1024, .f32⟩
  | .hbm, ⟨32, _⟩ => ⟨S1x2048x1024, .f32⟩
  | .hbm, ⟨33, _⟩ => ⟨S1x1x1024, .f32⟩
  | .hbm, ⟨34, _⟩ => ⟨S1x2048x1024, .f32⟩
  | .hbm, ⟨35, _⟩ => ⟨S1x2048x1024, .f32⟩
  | .hbm, ⟨36, _⟩ => ⟨S2048x1024, .f32⟩
  | .hbm, ⟨37, _⟩ => ⟨S1024x5632, .f32⟩
  | .hbm, ⟨38, _⟩ => ⟨S2048x5632, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S_, .f32⟩
  | .hbm, ⟨44, _⟩ => ⟨S2048x2816, .f32⟩
  | .hbm, ⟨45, _⟩ => ⟨S2048x2816, .f32⟩
  | .hbm, ⟨46, _⟩ => ⟨S_, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x4x704, .f32⟩
  | .hbm, ⟨52, _⟩ => ⟨S4x2048x704, .f32⟩
  | .hbm, ⟨53, _⟩ => ⟨S4x2048x704, .bf16⟩
  | .hbm, ⟨54, _⟩ => ⟨S2048x1024, .f32⟩
  | .hbm, ⟨55, _⟩ => ⟨S2048x1024, .bf16⟩
  | .hbm, ⟨56, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradFfnOutRefIdeal.lean ====
abbrev S1x2048x1024 : Shape := ⟨3, ![1, 2048, 1024]⟩
abbrev S1x6144 : Shape := ⟨2, ![1, 6144]⟩
abbrev S1x1024 : Shape := ⟨2, ![1, 1024]⟩
abbrev S1x1024x5632 : Shape := ⟨3, ![1, 1024, 5632]⟩
abbrev S1x2816x1024 : Shape := ⟨3, ![1, 2816, 1024]⟩
abbrev S6144 : Shape := ⟨1, ![6144]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x5632 : Shape := ⟨2, ![1024, 5632]⟩
abbrev S1x2048x5632 : Shape := ⟨3, ![1, 2048, 5632]⟩
abbrev S1x2048x2816 : Shape := ⟨3, ![1, 2048, 2816]⟩
abbrev S2816x1024 : Shape := ⟨2, ![2816, 1024]⟩
abbrev S2048x2816 : Shape := ⟨2, ![2048, 2816]⟩
abbrev S2048x1024 : Shape := ⟨2, ![2048, 1024]⟩
abbrev S1024x2816 : Shape := ⟨2, ![1024, 2816]⟩
abbrev S4x704x1024 : Shape := ⟨3, ![4, 704, 1024]⟩

abbrev nBuf : Space → Nat
  | .hbm => 64
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x6144, .f32⟩
  | .hbm, ⟨2, _⟩ => ⟨S1x6144, .f32⟩
  | .hbm, ⟨3, _⟩ => ⟨S1x1024, .f32⟩
  | .hbm, ⟨4, _⟩ => ⟨S1x1024x5632, .f32⟩
  | .hbm, ⟨5, _⟩ => ⟨S1x2816x1024, .f32⟩
  | .hbm, ⟨6, _⟩ => ⟨S1x2048x1024, .f32⟩
  | .hbm, ⟨7, _⟩ => ⟨S6144, .f32⟩
  | .hbm, ⟨8, _⟩ => ⟨S1x6144, .f32⟩
  | .hbm, ⟨9, _⟩ => ⟨S1x6144, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024, .f32⟩
  | .hbm, ⟨17, _⟩ => ⟨S1x2048x1024, .f32⟩
  | .hbm, ⟨18, _⟩ => ⟨S_, .f32⟩
  | .hbm, ⟨19, _⟩ => ⟨S1x2048, .f32⟩
  | .hbm, ⟨20, _⟩ => ⟨S1x2048x1, .f32⟩
  | .hbm, ⟨21, _⟩ => ⟨S_, .f32⟩
  | .hbm, ⟨22, _⟩ => ⟨S1x2048x1, .f32⟩
  | .hbm, ⟨23, _⟩ => ⟨S1x2048x1, .f32⟩
  | .hbm, ⟨24, _⟩ => ⟨S_, .f32⟩
  | .hbm, ⟨25, _⟩ => ⟨S1x2048x1, .f32⟩
  | .hbm, ⟨26, _⟩ => ⟨S1x2048x1, .f32⟩
  | .hbm, ⟨27, _⟩ => ⟨S1x2048x1, .f32⟩
  | .hbm, ⟨28, _⟩ => ⟨S1x2048x1024, .f32⟩
  | .hbm, ⟨29, _⟩ => ⟨S1x2048x1024, .f32⟩
  | .hbm, ⟨30, _⟩ => ⟨S1x1x1024, .f32⟩
  | .hbm, ⟨31, _⟩ => ⟨S1x2048x1024, .f32⟩
  | .hbm, ⟨32, _⟩ => ⟨S1x2048x1024, .f32⟩
  | .hbm, ⟨33, _⟩ => ⟨S1x1x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S1x2048x1024, .f32⟩
  | .hbm, ⟨38, _⟩ => ⟨S1x2048x1024, .f32⟩
  | .hbm, ⟨39, _⟩ => ⟨S1x1x1024, .f32⟩
  | .hbm, ⟨40, _⟩ => ⟨S1x2048x1024, .f32⟩
  | .hbm, ⟨41, _⟩ => ⟨S1x2048x1024, .f32⟩
  | .hbm, ⟨42, _⟩ => ⟨S1024x5632, .f32⟩
  | .hbm, ⟨43, _⟩ => ⟨S1x2048x5632, .f32⟩
  | .hbm, ⟨44, _⟩ => ⟨S1x2048x2816, .f32⟩
  | .hbm, ⟨45, _⟩ => ⟨S1x2048x2816, .f32⟩
  | .hbm, ⟨46, _⟩ => ⟨S1x2048x2816, .f32⟩
  | .hbm, ⟨47, _⟩ => ⟨S1x2048x2816, .f32⟩
  | .hbm, ⟨48, _⟩ => ⟨S_, .f32⟩
  | .hbm, ⟨49, _⟩ => ⟨S1x2048x2816, .f32⟩
  | .hbm, ⟨50, _⟩ => ⟨S1x2048x2816, .f32⟩
  | .hbm, ⟨51, _⟩ => ⟨S_, .f32⟩
  | .hbm, ⟨52, _⟩ => ⟨S1x2048x2816, .f32⟩
  | .hbm, ⟨53, _⟩ => ⟨S1x2048x2816, .f32⟩
  | .hbm, ⟨54, _⟩ => ⟨S1x2048x2816, .f32⟩
  | .hbm, ⟨55, _⟩ => ⟨S1x2048x2816, .f32⟩
  | .hbm, ⟨56, _⟩ => ⟨S2816x1024, .f32⟩
  | .hbm, ⟨57, _⟩ => ⟨S2048x2816, .f32⟩
  | .hbm, ⟨58, _⟩ => ⟨S2048x1024, .f32⟩
  | .hbm, ⟨59, _⟩ => ⟨S2048x1024, .f32⟩
  | .hbm, ⟨60, _⟩ => ⟨S1024x2816, .f32⟩
  | .hbm, ⟨61, _⟩ => ⟨S2816x1024, .f32⟩
  | .hbm, ⟨62, _⟩ => ⟨S4x704x1024, .f32⟩
  | .hbm, ⟨63, _⟩ => ⟨S4x704x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== AdaAdam.lean ====
abbrev S8x1024 : Shape := ⟨2, ![8, 1024]⟩
abbrev S8x768 : Shape := ⟨2, ![8, 768]⟩
abbrev S1x1024x768 : Shape := ⟨3, ![1, 1024, 768]⟩
abbrev S1024x768 : Shape := ⟨2, ![1024, 768]⟩
abbrev S8x256 : Shape := ⟨2, ![8, 256]⟩
abbrev S256x768 : Shape := ⟨2, ![256, 768]⟩

abbrev nBuf : Space → Nat
  | .hbm => 12
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S1024x768, .f32⟩
  | .local _ .vmem, ⟨0, _⟩ => ⟨S8x256, .f32⟩
  | .local _ .vmem, ⟨1, _⟩ => ⟨S8x256, .f32⟩
  | .local _ .vmem, ⟨2, _⟩ => ⟨S8x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaAdamRefIdeal.lean ====
abbrev S8x1024 : Shape := ⟨2, ![8, 1024]⟩
abbrev S8x768 : Shape := ⟨2, ![8, 768]⟩
abbrev S1x1024x768 : Shape := ⟨3, ![1, 1024, 768]⟩
abbrev S1024x768 : Shape := ⟨2, ![1024, 768]⟩
abbrev S_ : Shape := ⟨0, ![]⟩
abbrev S768x1024 : Shape := ⟨2, ![768, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1024x768, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x768, .f32⟩
  | .hbm, ⟨16, _⟩ => ⟨S768x1024, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | .hbm, ⟨46, _⟩ => ⟨S1024x768, .f32⟩
  | .hbm, ⟨47, _⟩ => ⟨S_, .f32⟩
  | .hbm, ⟨48, _⟩ => ⟨S1024x768, .f32⟩
  | .hbm, ⟨49, _⟩ => ⟨S1024x768, .f32⟩
  | .hbm, ⟨50, _⟩ => ⟨S1024x768, .f32⟩
  | .hbm, ⟨51, _⟩ => ⟨S_, .f32⟩
  | .hbm, ⟨52, _⟩ => ⟨S1024x768, .f32⟩
  | .hbm, ⟨53, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]
-- ==== RedAdam.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .bf16⟩
  | .local _ .vmem, ⟨9, _⟩ => ⟨S176x1024, .bf16⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 8
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RedAdamRefIdeal.lean ====
abbrev S8x352x1024 : Shape := ⟨3, ![8, 352, 1024]⟩
abbrev S352x1024 : Shape := ⟨2, ![352, 1024]⟩
abbrev S_ : Shape := ⟨0, ![]⟩
abbrev S8 : Shape := ⟨1, ![8]⟩
abbrev S8x1x1 : Shape := ⟨3, ![8, 1, 1]⟩
abbrev S1x352x1024 : Shape := ⟨3, ![1, 352, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S8, .i1⟩
  | .hbm, ⟨32, _⟩ => ⟨S8x1x1, .i1⟩
  | .hbm, ⟨33, _⟩ => ⟨S1x352x1024, .bf16⟩
  | .hbm, ⟨34, _⟩ => ⟨S8x352x1024, .i1⟩
  | .hbm, ⟨35, _⟩ => ⟨S8x352x1024, .bf16⟩
  | .hbm, ⟨36, _⟩ => ⟨S8x352x1024, .bf16⟩
  | .hbm, ⟨37, _⟩ => ⟨S8x352x1024, .f32⟩
  | .hbm, ⟨38, _⟩ => ⟨S_, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | .hbm, ⟨43, _⟩ => ⟨S_, .f32⟩
  | .hbm, ⟨44, _⟩ => ⟨S352x1024, .f32⟩
  | .hbm, ⟨45, _⟩ => ⟨S352x1024, .f32⟩
  | .hbm, ⟨46, _⟩ => ⟨S352x1024, .f32⟩
  | .hbm, ⟨47, _⟩ => ⟨S_, .f32⟩
  | .hbm, ⟨48, _⟩ => ⟨S352x1024, .f32⟩
  | .hbm, ⟨49, _⟩ => ⟨S352x1024, .f32⟩
  | .hbm, ⟨50, _⟩ => ⟨S352x1024, .f32⟩
  | .hbm, ⟨51, _⟩ => ⟨S_, .f32⟩
  | .hbm, ⟨52, _⟩ => ⟨S352x1024, .f32⟩
  | .hbm, ⟨53, _⟩ => ⟨S352x1024, .f32⟩
  | .hbm, ⟨54, _⟩ => ⟨S352x1024, .f32⟩
  | .hbm, ⟨55, _⟩ => ⟨S_, .f32⟩
  | .hbm, ⟨56, _⟩ => ⟨S352x1024, .f32⟩
  | .hbm, ⟨57, _⟩ => ⟨S352x1024, .f32⟩
  | .hbm, ⟨58, _⟩ => ⟨S_, .f32⟩
  | .hbm, ⟨59, _⟩ => ⟨S352x1024, .f32⟩
  | .hbm, ⟨60, _⟩ => ⟨S352x1024, .f32⟩
  | .hbm, ⟨61, _⟩ => ⟨S352x1024, .f32⟩
  | .hbm, ⟨62, _⟩ => ⟨S_, .f32⟩
  | .hbm, ⟨63, _⟩ => ⟨S352x1024, .f32⟩
  | .hbm, ⟨64, _⟩ => ⟨S352x1024, .f32⟩
  | .hbm, ⟨65, _⟩ => ⟨S352x1024, .f32⟩
  | .hbm, ⟨66, _⟩ => ⟨S_, .f32⟩
  | .hbm, ⟨67, _⟩ => ⟨S352x1024, .f32⟩
  | .hbm, ⟨68, _⟩ => ⟨S352x1024, .f32⟩
  | .hbm, ⟨69, _⟩ => ⟨S352x1024, .f32⟩
  | .hbm, ⟨70, _⟩ => ⟨S_, .f32⟩
  | .hbm, ⟨71, _⟩ => ⟨S352x1024, .f32⟩
  | .hbm, ⟨72, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_c_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_c_6 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_cst_12 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_13 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_14 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_15 : Ref sig .tc := ⟨.hbm, 70, rfl⟩
abbrev main_v47 : Ref sig .tc := ⟨.hbm, 71, rfl⟩
abbrev main_v48 : Ref sig .tc := ⟨.hbm, 72, rfl⟩

abbrev nD : Nat := 8
abbrev τ : Topo := Topo.v7x

variable {F : FTy → Type} [FloatOps F]
-- ==== Proof.Tile.lean ====
/- Facts that every kernel of this directory uses: sums over the rows of an array taken tile by tile, a matrix product read at
   an entry, a row written into a small array of statistics. Hand-written. -/
module

public import Idealize.ShloMosaic.Lib.Pipeline.Value
public import Idealize.ShloMosaic.Lib.ValueIdx
public import Idealize.ShloMosaic.Lib.ValueLayout
public import Idealize.ShloMosaic.Lib.MatmulPlain
public import Idealize.ShloMosaic.Lib.WritesUnit
public import Idealize.ShloMosaic.PureOps.Ideal.Laws

@[expose] public section

noncomputable section

namespace Cert.Tile

open Idealize.ShloMosaic Idealize.ShloMosaic.ValueIdx

/-! ## Sums over rows, tile by tile -/

/-- A family over `Fin N` as a function of every number, zero past the end. -/
def ext {N : ℕ} (f : Fin N → EReal) (k : ℕ) : EReal := if h : k < N then f ⟨k, h⟩ else 0

/-- The sum of the first `n` members. -/
def part {N : ℕ} (f : Fin N → EReal) (n : ℕ) : EReal := ∑ k ∈ Finset.range n, ext f k

theorem part_zero {N : ℕ} (f : Fin N → EReal) : part f 0 = 0 := Finset.sum_range_zero _

theorem part_all {N : ℕ} (f : Fin N → EReal) : part f N = ∑ k, f k := by
  unfold part
  rw [Finset.sum_range]
  exact Finset.sum_congr rfl fun k _ => dif_pos k.isLt

/-- One more tile of `T` members. -/
theorem part_tile {N : ℕ} (f : Fin N → EReal) (T n : ℕ) (g : Fin T → EReal)
    (hg : ∀ r : Fin T, ∃ h : T * n + r.val < N, g r = f ⟨T * n + r.val, h⟩) :
    part f (T * (n + 1)) = part f (T * n) + ∑ r, g r := by
  unfold part
  rw [Nat.mul_succ, Finset.sum_range_add, Finset.sum_range (fun x => ext f (T * n + x))]
  refine congrArg _ (Finset.sum_congr rfl fun r _ => ?_)
  obtain ⟨h, e⟩ := hg r
  rw [e]
  exact dif_pos h

/-- A quantity set to zero at the first of `J` points (and at every `J`-th after it) that gains a tile's sum at each: after the `J`
    points, the whole sum. -/
theorem sweep {M N : ℕ} (J T : ℕ) (hN : N = J) (hJ : 0 < J) (hM : T * J = M) (f : Fin M → EReal) (S : (n : ℕ) → n < N → EReal)
    (g : Fin N → Fin T → EReal) (hg : ∀ (t : Fin N) (r : Fin T), ∃ h : T * t.val + r.val < M, g t r = f ⟨T * t.val + r.val, h⟩)
    (step : ∀ t : Fin N, S t.val t.isLt = (if t.val % J = 0 then 0 else S (t.val - 1) (Nat.lt_of_le_of_lt (Nat.sub_le _ _) t.isLt)) + ∑ r, g t r)
    (hl : J - 1 < N) : S (J - 1) hl = ∑ s, f s := by
  subst hN
  have key : ∀ (n : ℕ) (hn : n < N), S n hn = part f (T * (n + 1)) := by
    intro n
    induction n with
    | zero =>
      intro hn
      rw [step ⟨0, hn⟩, if_pos (Nat.zero_mod N), part_tile f T 0 (g ⟨0, hn⟩) (hg ⟨0, hn⟩), Nat.mul_zero, part_zero]
    | succ n ih =>
      intro hn
      rw [step ⟨n + 1, hn⟩, if_neg (by show ¬ (n + 1) % N = 0; rw [Nat.mod_eq_of_lt hn]; omega),
        part_tile f T (n + 1) (g ⟨n + 1, hn⟩) (hg ⟨n + 1, hn⟩), ← ih (by omega)]
      rfl
  rw [key, Nat.sub_add_cancel hJ, hM, part_all]

/-- One that gains nothing stays zero. -/
theorem sweep_zero {N : ℕ} (J : ℕ) (hN : N = J) (S : (n : ℕ) → n < N → EReal)
    (step : ∀ t : Fin N, S t.val t.isLt = if t.val % J = 0 then 0 else S (t.val - 1) (Nat.lt_of_le_of_lt (Nat.sub_le _ _) t.isLt)) :
    ∀ (n : ℕ) (hn : n < N), S n hn = 0 := by
  subst hN
  intro n
  induction n with
  | zero => intro hn; rw [step ⟨0, hn⟩, if_pos (Nat.zero_mod N)]
  | succ n ih =>
    intro hn
    rw [step ⟨n + 1, hn⟩, if_neg (by show ¬ (n + 1) % N = 0; rw [Nat.mod_eq_of_lt hn]; omega)]
    exact ih _

/-- A sum over three stretches one after the other. -/
theorem sum_three (a b c : ℕ) (f : Fin (a + b + c) → EReal) :
    ∑ k, f k = (∑ i : Fin a, f ⟨i.val, by omega⟩ + ∑ i : Fin b, f ⟨a + i.val, by omega⟩) + ∑ i : Fin c, f ⟨a + b + i.val, by omega⟩ := by
  rw [Fin.sum_univ_add, Fin.sum_univ_add]
  rfl

/-- A sum whose members are zero past the first `a`. -/
theorem sum_head (a b : ℕ) (f : Fin (a + b) → EReal) (h : ∀ i : Fin (a + b), a ≤ i.val → f i = 0) :
    ∑ k, f k = ∑ i : Fin a, f ⟨i.val, by omega⟩ := by
  rw [Fin.sum_univ_add, Finset.sum_eq_zero (s := Finset.univ) (f := fun i : Fin b => f (Fin.natAdd a i)) fun i _ => h _ (Nat.le_add_right a i.val), add_zero]
  rfl

/-- A sum over `A` blocks of `B` terms each. -/
theorem sum_blocks (A B : ℕ) {N : ℕ} (hN : A * B = N) (f : Fin N → EReal) (g : Fin A → Fin B → EReal) (hg : ∀ (j : Fin A) (q : Fin B) (i : Fin N), i.val = j.val * B + q.val → f i = g j q) :
    ∑ i, f i = ∑ j, ∑ q, g j q := by
  subst hN
  rw [← finProdFinEquiv.sum_comp, Fintype.sum_prod_type]
  refine Finset.sum_congr rfl fun j _ => Finset.sum_congr rfl fun q _ => hg j q _ ?_
  show q.val + B * j.val = j.val * B + q.val
  rw [mul_comm, add_comm]

/-- The place in the array of entry `r` of the tile number `t`, and of a block that is the whole axis. -/
theorem tile_coord {i t : ℕ} (T r : ℕ) (h : i = t) : i * T + 1 * r = T * t + r := by rw [h, one_mul, mul_comm]
theorem whole_coord {i : ℕ} (T r : ℕ) (h : i = 0) : i * T + 1 * r = r := by rw [h, zero_mul, zero_add, one_mul]

/-- An index of rank two from its coordinates. -/
theorem ix2_of {M N : ℕ} (y : (⟨2, ![M, N]⟩ : Shape).Idx) (i : Fin M) (j : Fin N) (h0 : (y ⟨0, Nat.two_pos⟩).val = i.val)
    (h1 : (y ⟨1, Nat.one_lt_two⟩).val = j.val) : y = ix2 i j := by
  funext a; apply Fin.ext
  match a with
  | ⟨0, _⟩ => exact h0
  | ⟨1, _⟩ => exact h1

/-- The same at rank three. -/
theorem ix3_of {A M N : ℕ} (y : (⟨3, ![A, M, N]⟩ : Shape).Idx) (k : Fin A) (i : Fin M) (j : Fin N) (h0 : (y ⟨0, Nat.succ_pos 2⟩).val = k.val)
    (h1 : (y ⟨1, Nat.one_lt_succ_succ 1⟩).val = i.val) (h2 : (y ⟨2, Nat.lt_succ_self 2⟩).val = j.val) : y = ix3 k i j := by
  funext a; apply Fin.ext
  match a with
  | ⟨0, _⟩ => exact h0
  | ⟨1, _⟩ => exact h1
  | ⟨2, _⟩ => exact h2

/-! ## Matrix products read at an entry -/

/-- The left factor transposed: `[K,M]ᵀ × [K,N]`. -/
def dotTN (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Its contraction index is the row number. -/
def contrTN (K M N : ℕ) : (dotTN K M N).contr.Idx ≃ Fin K := contrEquiv1 _ K rfl rfl

/-- `[K,M]ᵀ × [K,N]` into zero, read at `(r, c)`. -/
theorem matmul_TN {K M N : ℕ} {φ₁ φ₂ : FTy} (D : DotDims ⟨2, ![K, M]⟩ ⟨2, ![K, N]⟩ ⟨2, ![M, N]⟩) (hD : D = dotTN K M N)
    (prec : Option ContractPrecision) (a : FVec Ideal ⟨2, ![K, M]⟩ φ₁) (b : FVec Ideal ⟨2, ![K, N]⟩ φ₂) (r : Fin M) (c : Fin N) :
    FloatOps.matmul D prec a b (constant ⟨2, ![M, N]⟩ .f32 0x00000000#32) (ix2 r c) = ∑ k : Fin K, a (ix2 k r) * b (ix2 k c) := by
  subst hD
  rw [Ideal.matmul_constant_zero_apply, ← Equiv.sum_comp (contrTN K M N).symm]
  refine Finset.sum_congr rfl fun k _ => ?_
  have hk := contrEquiv1_symm_val (dotTN K M N) K rfl rfl k
  have el : (dotTN K M N).lhsIdx (ix2 r c) ((contrTN K M N).symm k) = ix2 k r := by
    funext a; apply Fin.ext
    match a with
    | ⟨0, _⟩ => exact hk
    | ⟨1, _⟩ => rfl
  have er : (dotTN K M N).rhsIdx (ix2 r c) ((contrTN K M N).symm k) = ix2 k c := by
    funext a; apply Fin.ext
    match a with
    | ⟨0, _⟩ => exact hk
    | ⟨1, _⟩ => rfl
  rw [el, er]

/-- `[M,K] × [N,K]ᵀ` into zero, read at `(r, c)`. -/
theorem matmul_NT {M K N : ℕ} {φ₁ φ₂ : FTy} (D : DotDims ⟨2, ![M, K]⟩ ⟨2, ![N, K]⟩ ⟨2, ![M, N]⟩) (hD : D = DotDims.transposedRhs M K N)
    (prec : Option ContractPrecision) (a : FVec Ideal ⟨2, ![M, K]⟩ φ₁) (b : FVec Ideal ⟨2, ![N, K]⟩ φ₂) (r : Fin M) (c : Fin N) :
    FloatOps.matmul D prec a b (constant ⟨2, ![M, N]⟩ .f32 0x00000000#32) (ix2 r c) = ∑ k : Fin K, a (ix2 r k) * b (ix2 c k) := by
  subst hD
  rw [Ideal.matmul_transposedRhs_apply]
  show Ideal.ofBits .f32 0x00000000#32 + _ = _
  rw [Ideal.ofBits_zero_f32, zero_add]

/-- `[M,K] × [K,N]` into zero, read at `(r, c)`. -/
theorem matmul_NN {M K N : ℕ} {φ₁ φ₂ : FTy} (D : DotDims ⟨2, ![M, K]⟩ ⟨2, ![K, N]⟩ ⟨2, ![M, N]⟩) (hD : D = DotDims.plain M K N)
    (prec : Option ContractPrecision) (a : FVec Ideal ⟨2, ![M, K]⟩ φ₁) (b : FVec Ideal ⟨2, ![K, N]⟩ φ₂) (r : Fin M) (c : Fin N) :
    FloatOps.matmul D prec a b (constant ⟨2, ![M, N]⟩ .f32 0x00000000#32) (ix2 r c) = ∑ k : Fin K, a (ix2 r k) * b (ix2 k c) := by
  subst hD
  rw [Ideal.matmul_plain_apply]
  show Ideal.ofBits .f32 0x00000000#32 + _ = _
  rw [Ideal.ofBits_zero_f32, zero_add]

/-- The host's `[M,K] × [K,N]`, read at `(r, c)`. -/
theorem host_NN {M K N : ℕ} {φ₁ φ₂ : FTy} (D : DotDims ⟨2, ![M, K]⟩ ⟨2, ![K, N]⟩ ⟨2, ![M, N]⟩) (hD : D = DotDims.plain M K N)
    (prec : Option ContractPrecision) (s : HostSchedule) (a : FVec Ideal ⟨2, ![M, K]⟩ φ₁) (b : FVec Ideal ⟨2, ![K, N]⟩ φ₂) (r : Fin M) (c : Fin N) :
    FloatOps.dotGeneral D prec s a b (ix2 r c) = ∑ k : Fin K, a (ix2 r k) * b (ix2 k c) := by
  have h := Ideal.dotGeneral_apply D prec s a b (ix2 r c)
  rw [h, ← matmul_NN D hD prec a b r c, Ideal.matmul_constant_zero_apply]

/-! ## Rows and columns -/

/-- The zero offsets, written out. -/
theorem hz2 : (![0, 0] : Fin 2 → ℕ) = fun _ => 0 := funext fun a => by fin_cases a <;> rfl

/-- The column sums of a tile, as one row, read at column `j`. -/
theorem colsum_apply {T N : ℕ} {φ : FTy} (x : FVec Ideal ⟨2, ![T, N]⟩ φ) (acc : BitVec φ.bits)
    (h : (⟨2, ![T, N]⟩ : Shape).Reduces [0] ⟨1, ![N]⟩) (hφ : FKind.Formats φ) (hacc : acc = FKind.add.neutral φ hφ) (j : Fin N) :
    multiReduction .add [0] ⟨1, ![N]⟩ x acc h hφ hacc (ix1 j) = ∑ k : Fin T, x (ix2 k j) := by
  rw [Ideal.multiReduction_add_single]
  refine Finset.sum_congr rfl fun k _ => congrArg x ?_
  funext a; apply Fin.ext
  match a with
  | ⟨0, _⟩ => rfl
  | ⟨1, _⟩ => rfl

/-- The row sums of a tile, read at row `i`. -/
theorem rowsum_apply {T N : ℕ} {φ : FTy} (x : FVec Ideal ⟨2, ![T, N]⟩ φ) (acc : BitVec φ.bits)
    (h : (⟨2, ![T, N]⟩ : Shape).Reduces [1] ⟨1, ![T]⟩) (hφ : FKind.Formats φ) (hacc : acc = FKind.add.neutral φ hφ) (i : Fin T) :
    multiReduction .add [1] ⟨1, ![T]⟩ x acc h hφ hacc (ix1 i) = ∑ k : Fin N, x (ix2 i k) := by
  rw [Ideal.multiReduction_add_single]
  refine Finset.sum_congr rfl fun k _ => congrArg x ?_
  funext a; apply Fin.ext
  match a with
  | ⟨0, _⟩ => rfl
  | ⟨1, _⟩ => rfl

/-- One row broadcast to `T` rows. -/
theorem brow_apply {α : Type} {T N : ℕ} (x : (⟨2, ![1, N]⟩ : Shape).Idx → α) (h : (⟨2, ![1, N]⟩ : Shape).Broadcasts ⟨2, ![T, N]⟩)
    (hN : N ≠ 1) (i : Fin T) (j : Fin N) : broadcastTo ⟨2, ![T, N]⟩ x h (ix2 i j) = x (ix2 0 j) :=
  broadcastTo_apply _ _ _ _ fun a => by
    match a with
    | ⟨0, _⟩ => rfl
    | ⟨1, _⟩ => exact (if_neg hN).symm

/-- One column broadcast to `N` columns. -/
theorem bcol_apply {α : Type} {T N : ℕ} (x : (⟨2, ![T, 1]⟩ : Shape).Idx → α) (h : (⟨2, ![T, 1]⟩ : Shape).Broadcasts ⟨2, ![T, N]⟩)
    (hT : T ≠ 1) (i : Fin T) (j : Fin N) : broadcastTo ⟨2, ![T, N]⟩ x h (ix2 i j) = x (ix2 i 0) :=
  broadcastTo_apply _ _ _ _ fun a => by
    match a with
    | ⟨0, _⟩ => exact (if_neg hT).symm
    | ⟨1, _⟩ => rfl

section Rows

variable {sig : RefSig} {κ : Kind} {sp : Space} {M N : ℕ} {e : EltTy} {Val : EltTy → Type}

/-- A row just written reads back what was written. -/
theorem row_hit (v : View sig κ sp ⟨2, ![M, N]⟩ e) (f : v.ty.Contents Val) (o : ℕ) (inb) (w : (⟨2, ![1, N]⟩ : Shape).Idx → Val e)
    (L : List (View.Piece Val (⟨2, ![M, N]⟩ : Shape) e)) (i : Fin M) (hi : i.val = o) (j : Fin N) :
    v.read Val (v.writes Val f ((⟨Rect.unit (s := ⟨2, ![M, N]⟩) ![o, 0] ![1, N] inb, w⟩ : View.Piece Val (⟨2, ![M, N]⟩ : Shape) e) :: L)) (ix2 i j)
      = w (ix2 0 j) :=
  View.read_writes_cons_rows_of_mem v f inb w L (ix2 i j) (ix2 (0 : Fin 1) j) rfl (by show i.val = o + 0; omega) rfl

/-- Another row reads back what was there. -/
theorem row_miss (v : View sig κ sp ⟨2, ![M, N]⟩ e) (f : v.ty.Contents Val) (o : ℕ) (inb) (w : (⟨2, ![1, N]⟩ : Shape).Idx → Val e)
    (L : List (View.Piece Val (⟨2, ![M, N]⟩ : Shape) e)) (i : Fin M) (hi : i.val ≠ o) (j : Fin N) :
    v.read Val (v.writes Val f ((⟨Rect.unit (s := ⟨2, ![M, N]⟩) ![o, 0] ![1, N] inb, w⟩ : View.Piece Val (⟨2, ![M, N]⟩ : Shape) e) :: L)) (ix2 i j)
      = v.read Val (v.writes Val f L) (ix2 i j) :=
  View.read_writes_cons_rows_of_not_mem v f inb w L (ix2 i j) rfl (W := 1) rfl (by show i.val < o ∨ o + 1 ≤ i.val; omega)

/-- The whole array just written reads back what was written. -/
theorem whole_hit (v : View sig κ sp ⟨2, ![M, N]⟩ e) (f : v.ty.Contents Val) (inb) (w : (⟨2, ![M, N]⟩ : Shape).Idx → Val e)
    (L : List (View.Piece Val (⟨2, ![M, N]⟩ : Shape) e)) (i : Fin M) (j : Fin N) :
    v.read Val (v.writes Val f ((⟨Rect.unit (s := ⟨2, ![M, N]⟩) ![0, 0] ![M, N] inb, w⟩ : View.Piece Val (⟨2, ![M, N]⟩ : Shape) e) :: L)) (ix2 i j)
      = w (ix2 i j) :=
  View.read_writes_cons_rows_of_mem v f inb w L (ix2 i j) (ix2 i j) rfl (by show i.val = 0 + i.val; omega) rfl

/-- A row loaded, read at column `j`. -/
theorem row_load (v : View sig κ sp ⟨2, ![M, N]⟩ e) (f : v.ty.Contents Val) (o : ℕ) (inb) (i : Fin M) (hi : i.val = o) (j : Fin N) :
    v.readAt Val (Rect.unit (s := ⟨2, ![M, N]⟩) ![o, 0] ![1, N] inb).toLoadRect f (ix2 (0 : Fin 1) j) = v.read Val f (ix2 i j) := by
  show v.read Val f _ = _
  congr 1
  funext a; apply Fin.ext
  match a with
  | ⟨0, _⟩ => show o + 1 * 0 = i.val; omega
  | ⟨1, _⟩ => show 0 + 1 * j.val = j.val; omega

/-- The whole array loaded. -/
theorem ld_whole (X : (⟨2, ![M, N]⟩ : Shape).Idx → Val e) (inb) :
    View.ld X (Rect.unit (s := ⟨2, ![M, N]⟩) ![0, 0] ![M, N] inb) = X :=
  View.ld_unit_zero (S := ⟨2, ![M, N]⟩) hz2 inb X

/-- A rectangle loaded, read at an entry. -/
theorem ld_at (X : (⟨2, ![M, N]⟩ : Shape).Idx → Val e) (o0 o1 a b : ℕ) (inb) (i : Fin a) (j : Fin b) (k0 : Fin M) (k1 : Fin N)
    (h0 : k0.val = o0 + i.val) (h1 : k1.val = o1 + j.val) :
    View.ld X (Rect.unit (s := ⟨2, ![M, N]⟩) ![o0, o1] ![a, b] inb) (ix2 i j) = X (ix2 k0 k1) := by
  unfold View.ld
  congr 1
  funext x; apply Fin.ext
  match x with
  | ⟨0, _⟩ => show o0 + 1 * i.val = k0.val; omega
  | ⟨1, _⟩ => show o1 + 1 * j.val = k1.val; omega

/-- A slab just written reads back what was written. -/
theorem slab_hit {A : ℕ} (v : View sig κ sp ⟨3, ![A, M, N]⟩ e) (f : v.ty.Contents Val) (o : ℕ) (inb) (w : (⟨3, ![1, M, N]⟩ : Shape).Idx → Val e)
    (L : List (View.Piece Val (⟨3, ![A, M, N]⟩ : Shape) e)) (k : Fin A) (hk : k.val = o) (i : Fin M) (j : Fin N) :
    v.read Val (v.writes Val f ((⟨Rect.unit (s := ⟨3, ![A, M, N]⟩) ![o, 0, 0] ![1, M, N] inb, w⟩ : View.Piece Val (⟨3, ![A, M, N]⟩ : Shape) e) :: L)) (ix3 k i j)
      = w (ix3 0 i j) :=
  View.read_writes_cons_unit_of_mem v f inb w L (ix3 k i j) (ix3 (0 : Fin 1) i j) rfl fun a => by
    match a with
    | ⟨0, _⟩ => show k.val = o + 0; omega
    | ⟨1, _⟩ => show i.val = 0 + i.val; omega
    | ⟨2, _⟩ => show j.val = 0 + j.val; omega

/-- Another slab reads back what was there. -/
theorem slab_miss {A : ℕ} (v : View sig κ sp ⟨3, ![A, M, N]⟩ e) (f : v.ty.Contents Val) (o : ℕ) (inb) (w : (⟨3, ![1, M, N]⟩ : Shape).Idx → Val e)
    (L : List (View.Piece Val (⟨3, ![A, M, N]⟩ : Shape) e)) (k : Fin A) (hk : k.val ≠ o) (i : Fin M) (j : Fin N) :
    v.read Val (v.writes Val f ((⟨Rect.unit (s := ⟨3, ![A, M, N]⟩) ![o, 0, 0] ![1, M, N] inb, w⟩ : View.Piece Val (⟨3, ![A, M, N]⟩ : Shape) e) :: L)) (ix3 k i j)
      = v.read Val (v.writes Val f L) (ix3 k i j) :=
  View.read_writes_cons_unit_of_not_mem v f inb w L (ix3 k i j) rfl ⟨0, Nat.succ_pos 2⟩ (by show k.val < o ∨ o + 1 ≤ k.val; omega)

/-- A slab loaded, read at an entry. -/
theorem ld_slab {A : ℕ} (X : (⟨3, ![A, M, N]⟩ : Shape).Idx → Val e) (o : ℕ) (inb) (k : Fin A) (hk : k.val = o) (i : Fin M) (j : Fin N) :
    View.ld X (Rect.unit (s := ⟨3, ![A, M, N]⟩) ![o, 0, 0] ![1, M, N] inb) (ix3 0 i j) = X (ix3 k i j) := by
  unfold View.ld
  congr 1
  funext x; apply Fin.ext
  match x with
  | ⟨0, _⟩ => show o + 1 * 0 = k.val; omega
  | ⟨1, _⟩ => show 0 + 1 * i.val = i.val; omega
  | ⟨2, _⟩ => show 0 + 1 * j.val = j.val; omega

end Rows

end Cert.Tile

end

end
-- ==== Proof.OutIn.lean ====
/- The backward call of the output projection, the kernel's inputs: what its host lines put into the arrays the kernel reads, and
   what the kernel's windows show of them at each grid point. Hand-written. -/
module

public import proofs.«01_k».proof.Proof.Gen.OutIdeal.Value
public import proofs.«01_k».proof.Proof.Tile

@[expose] public section

noncomputable section

namespace Cert.OutIdeal.Val

open Idealize.ShloMosaic Idealize.ShloMosaic.TcCoe Idealize.SL.Sem Cert.OutIdeal Cert.OutIdeal.Gen Cert.Tile ValueIdx

variable (m : (ℓ : Loc nD τ sig) → Buf (Elt Ideal) ℓ) (c : Dev nD)

/-! ## The arguments -/

/-- The gradient arriving at the block's output, `[2048, 1024]`. -/
def dx (s : Fin 2048) (k : Fin 1024) : EReal := m ((c : Thread nD τ).loc main_arg6) (ix3 (0 : Fin 1) s k)
/-- The two branches side by side, `[2048, 1024]`. -/
def ab : FVec Ideal S1x2048x1024 .f32 :=
  concatenate S1x2048x1024 2 [⟨S1x2048x512, m ((c : Thread nD τ).loc main_arg0)⟩, ⟨S1x2048x512, m ((c : Thread nD τ).loc main_arg1)⟩]
    concatenates_S1x2048x512_S1x2048x512_S1x2048x1024_d2
/-- The output projection's weight. -/
def w (p q : Fin 1024) : EReal := m ((c : Thread nD τ).loc main_arg5) (ix3 (0 : Fin 1) p q)
/-- The six modulation vectors as the network below computes them … -/
def modv (k : Fin 6144) : EReal := m ((c : Thread nD τ).loc main_arg3) (ix2 (0 : Fin 1) k)
/-- … and their bias. -/
def biasv (k : Fin 6144) : EReal := m ((c : Thread nD τ).loc main_arg4) (ix2 (0 : Fin 1) k)
/-- The gate: the third of the six vectors. -/
def gt (k : Fin 1024) : EReal := modv m c ⟨2048 + k.val, by omega⟩ + biasv m c ⟨2048 + k.val, by omega⟩

/-! ## The host lines -/

theorem V_dx (s : Fin 2048) (k : Fin 1024) : V m c main_v7 (ix2 s k) = dx m c s k := by
  have e : V m c main_v7 = shapeCast S2048x1024 (m ((c : Thread nD τ).loc main_arg6)) shapeCasts_S1x2048x1024_S2048x1024 := by
    unfold V hostOps0; after_results; rfl
  rw [e]
  exact shapeCast_1ab_ab_apply _ _ s k

theorem V_ab (s : Fin 2048) (k : Fin 1024) : V m c main_v6 (ix2 s k) = ab m c (ix3 0 s k) := by
  have e : V m c main_v6 = shapeCast S2048x1024 (ab m c) shapeCasts_S1x2048x1024_S2048x1024 := by
    unfold V hostOps0; after_results; rfl
  rw [e]
  exact shapeCast_1ab_ab_apply _ _ s k

theorem V_w (p q : Fin 1024) : V m c main_v9 (ix2 p q) = w m c p q := by
  have e : V m c main_v9 = shapeCast S1024x1024 (m ((c : Thread nD τ).loc main_arg5)) shapeCasts_S1x1024x1024_S1024x1024 := by
    unfold V hostOps0; after_results; rfl
  rw [e]
  exact shapeCast_1ab_ab_apply _ _ p q

theorem V_mix (s : Fin 2048) (k : Fin 1024) : V m c main_v3 (ix2 s k) = ∑ p : Fin 1024, ab m c (ix3 0 s p) * w m c p k := by
  have e : V m c main_v3 = Host.dotGeneral (F := Ideal) (φ₁ := .f32) (φ₂ := .f32) dot_S2048x1024_S1024x1024_S2048x1024_1_0_0_1_n_n none
      (shapeCast S2048x1024 (ab m c) shapeCasts_S1x2048x1024_S2048x1024)
      (shapeCast S1024x1024 (m ((c : Thread nD τ).loc main_arg5)) shapeCasts_S1x1024x1024_S1024x1024) := by
    unfold V hostOps0; after_results; rfl
  rw [e]
  refine (host_NN _ rfl _ _ _ _ s k).trans (Finset.sum_congr rfl fun p _ => ?_)
  rw [shapeCast_1ab_ab_apply, shapeCast_1ab_ab_apply]
  rfl

/-! ## The windows -/

theorem lt_rows (t : Fin cfg0.N) (r : Fin 256) : 256 * t.val + r.val < 2048 := by
  have h : t.val < 8 := lt_of_lt_of_eq t.isLt N_0
  omega

theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)

theorem blk_dx (t : Fin cfg0.N) (r : Fin 256) (k : Fin 1024) :
    (iblk m c 0 t : Vec Ideal S256x1024 .f32) (ix2 r k) = dx m c ⟨256 * t.val + r.val, lt_rows t r⟩ k := by
  rw [← V_dx]
  unfold iblk
  rw [View.read_apply]
  show V m c main_v7 _ = V m c main_v7 _
  congr 1
  funext a; apply Fin.ext
  match a with
  | ⟨0, _⟩ => show win0_0.index t 0 * 256 + 1 * r.val = 256 * t.val + r.val; rw [(idx0 t).1]; omega
  | ⟨1, _⟩ => show win0_0.index t 1 * 1024 + 1 * k.val = k.val; rw [(idx0 t).2]; omega

theorem blk_mix (t : Fin cfg0.N) (r : Fin 256) (k : Fin 1024) :
    (iblk m c 1 t : Vec Ideal S256x1024 .f32) (ix2 r k) = ∑ p : Fin 1024, ab m c (ix3 0 ⟨256 * t.val + r.val, lt_rows t r⟩ p) * w m c p k := by
  rw [← V_mix]
  unfold iblk
  rw [View.read_apply]
  show V m c main_v3 _ = V m c main_v3 _
  congr 1
  funext a; apply Fin.ext
  match a with
  | ⟨0, _⟩ => show win0_1.index t 0 * 256 + 1 * r.val = 256 * t.val + r.val; rw [(idx1 t).1]; omega
  | ⟨1, _⟩ => show win0_1.index t 1 * 1024 + 1 * k.val = k.val; rw [(idx1 t).2]; omega

theorem blk_ab (t : Fin cfg0.N) (r : Fin 256) (k : Fin 1024) :
    (iblk m c 2 t : Vec Ideal S256x1024 .bf16) (ix2 r k) = ab m c (ix3 0 ⟨256 * t.val + r.val, lt_rows t r⟩ k) := by
  rw [← V_ab]
  unfold iblk
  rw [View.read_apply]
  show V m c main_v6 _ = V m c main_v6 _
  congr 1
  funext a; apply Fin.ext
  match a with
  | ⟨0, _⟩ => show win0_2.index t 0 * 256 + 1 * r.val = 256 * t.val + r.val; rw [(idx2 t).1]; omega
  | ⟨1, _⟩ => show win0_2.index t 1 * 1024 + 1 * k.val = k.val; rw [(idx2 t).2]; omega

theorem blk_mod (t : Fin cfg0.N) (k : Fin 6144) :
    (iblk m c 3 t : Vec Ideal S1x6144 .f32) (ix2 0 k) = modv m c k := by
  unfold modv
  rw [← V_main_arg3 m c]
  unfold iblk
  rw [View.read_apply]
  show V m c main_arg3 _ = V m c main_arg3 _
  congr 1
  funext a; apply Fin.ext
  match a with
  | ⟨0, _⟩ => show win0_3.index t 0 * 1 + 1 * 0 = 0; rw [(idx3 t).1]
  | ⟨1, _⟩ => show win0_3.index t 1 * 6144 + 1 * k.val = k.val; rw [(idx3 t).2]; omega

theorem blk_bias (t : Fin cfg0.N) (k : Fin 6144) :
    (iblk m c 4 t : Vec Ideal S1x6144 .f32) (ix2 0 k) = biasv m c k := by
  unfold biasv
  rw [← V_main_arg4 m c]
  unfold iblk
  rw [View.read_apply]
  show V m c main_arg4 _ = V m c main_arg4 _
  congr 1
  funext a; apply Fin.ext
  match a with
  | ⟨0, _⟩ => show win0_4.index t 0 * 1 + 1 * 0 = 0; rw [(idx4 t).1]
  | ⟨1, _⟩ => show win0_4.index t 1 * 6144 + 1 * k.val = k.val; rw [(idx4 t).2]; omega

theorem blk_w (t : Fin cfg0.N) (p q : Fin 1024) : (iblk m c 5 t : Vec Ideal S1024x1024 .bf16) (ix2 p q) = w m c p q := by
  rw [← V_w]
  unfold iblk
  rw [View.read_apply]
  show V m c main_v9 _ = V m c main_v9 _
  congr 1
  funext a; apply Fin.ext
  match a with
  | ⟨0, _⟩ => show win0_5.index t 0 * 1024 + 1 * p.val = p.val; rw [(idx5 t).1]; omega
  | ⟨1, _⟩ => show win0_5.index t 1 * 1024 + 1 * q.val = q.val; rw [(idx5 t).2]; omega

end Cert.OutIdeal.Val

end

end
-- ==== Proof.OutPt.lean ====
/- The backward call of the output projection, the kernel's values: what each grid point leaves, and what the run leaves in the four
   results. Hand-written. -/
module

public import proofs.«01_k».proof.Proof.OutIn

@[expose] public section

noncomputable section

namespace Cert.OutIdeal.Val

open Idealize.ShloMosaic Idealize.ShloMosaic.TcCoe Idealize.SL.Sem Cert.OutIdeal Cert.OutIdeal.Gen Cert.Tile ValueIdx

/-! ## The body's expressions, read at an entry -/

theorem pay1_at (v19 : FVec Ideal S256x1024 .bf16) (v28 : Vec Ideal S1024x1024 .f32) (v29 : Vec Ideal S256x1024 .bf16) (p q : Fin 1024) :
    k0_pay1 v19 v28 v29 (ix2 p q) = v28 (ix2 p q) + ∑ r : Fin 256, v29 (ix2 r p) * v19 (ix2 r q) := by
  unfold k0_pay1
  simp only [shapeCast_self, addf_apply]
  exact congrArg _ (matmul_TN _ rfl _ _ _ p q)

theorem pay6_at (v3 : Vec Ideal S256x1024 .f32) (v5 : Vec Ideal S1x1024 .f32) (v7 : Vec Ideal S256x1024 .f32) (k : Fin 1024) :
    k0_pay6 v3 v5 v7 (ix2 0 k) = v5 (ix2 0 k) + ∑ r : Fin 256, v3 (ix2 r k) * v7 (ix2 r k) := by
  unfold k0_pay6 k0_pay5
  simp only [shapeCast_self, addf_apply]
  rw [shapeCast_a_1a_apply]
  exact congrArg _ (colsum_apply _ _ _ _ _ k)

theorem pay7_at (v3 : Vec Ideal S256x1024 .f32) (v14 v15 : Vec Ideal S1x1024 .f32) (r : Fin 256) (k : Fin 1024) :
    k0_pay7 v3 v14 v15 (ix2 r k) = (v14 (ix2 0 k) + v15 (ix2 0 k)) * v3 (ix2 r k) := by
  unfold k0_pay7 k0_pay5
  simp only [shapeCast_self, truncf_apply, mulf_apply]
  exact congrArg (· * _) (brow_apply _ _ (by decide) r k)

theorem pay8_at (v3 : Vec Ideal S256x1024 .f32) (v14 v15 : Vec Ideal S1x1024 .f32) (v20 : Vec Ideal S512x1024 .bf16) (r : Fin 256) (p : Fin 512) :
    k0_pay8 v3 v14 v15 v20 (ix2 r p) = ∑ k : Fin 1024, k0_pay7 v3 v14 v15 (ix2 r k) * v20 (ix2 p k) := by
  unfold k0_pay8
  simp only [shapeCast_self]
  exact matmul_NT _ rfl _ _ _ r p

theorem pay9_at (v3 : Vec Ideal S256x1024 .f32) (v14 v15 : Vec Ideal S1x1024 .f32) (v24 : Vec Ideal S512x1024 .bf16) (r : Fin 256) (p : Fin 512) :
    k0_pay9 v3 v14 v15 v24 (ix2 r p) = ∑ k : Fin 1024, k0_pay7 v3 v14 v15 (ix2 r k) * v24 (ix2 p k) := by
  unfold k0_pay9
  simp only [shapeCast_self]
  exact matmul_NT _ rfl _ _ _ r p

theorem pay4_at (p q : Fin 1024) : (k0_pay4 : FVec Ideal S1024x1024 .f32) (ix2 p q) = 0 := by
  unfold k0_pay4
  simp only [shapeCast_self]
  exact Ideal.ofBits_zero_f32

theorem pay3_at (i : Fin 8) (k : Fin 1024) : (k0_pay3 : FVec Ideal S8x1024 .f32) (ix2 i k) = 0 := by
  unfold k0_pay3
  exact Ideal.ofBits_zero_f32

variable (m : (ℓ : Loc nD τ sig) → Buf (Elt Ideal) ℓ) (c : Dev nD)

/-! ## One grid point -/

/-- The gradient at the product, before the weight: gate times the incoming gradient. -/
def dmix (s : Fin 2048) (k : Fin 1024) : EReal := gt m c k * dx m c s k

/-- The row of the array that row `r` of tile `t` is. -/
abbrev row (t : Fin cfg0.N) (r : Fin 256) : Fin 2048 := ⟨256 * t.val + r.val, lt_rows t r⟩

theorem tile_dmix (t : Fin cfg0.N) (inb) (r : Fin 256) (k : Fin 1024) :
    k0_pay7 (iblk m c 0 t) (View.ld (iblk m c 3 t : Vec Ideal S1x6144 .f32) (Rect.unit (s := ⟨2, ![1, 6144]⟩) ![0, 2048] ![1, 1024] inb))
      (View.ld (iblk m c 4 t : Vec Ideal S1x6144 .f32) (Rect.unit (s := ⟨2, ![1, 6144]⟩) ![0, 2048] ![1, 1024] inb)) (ix2 r k) = dmix m c (row t r) k := by
  have hk : 2048 + k.val < 6144 := by omega
  rw [pay7_at, ld_at _ 0 2048 1 1024 inb 0 k 0 ⟨2048 + k.val, hk⟩ rfl rfl, ld_at _ 0 2048 1 1024 inb 0 k 0 ⟨2048 + k.val, hk⟩ rfl rfl,
    blk_mod, blk_bias, blk_dx]
  rfl

/-- What the point before left. -/
abbrev prev (t : Fin cfg0.N) := outsAt0 m c (t.val - 1) (Nat.lt_of_le_of_lt (Nat.sub_le _ _) t.isLt)

theorem tile_acc (t : Fin cfg0.N) (v28 : Vec Ideal S1024x1024 .f32) (inb inb3 inb4) (p q : Fin 1024) :
    k0_pay1 (k0_pay7 (iblk m c 0 t) (View.ld (iblk m c 3 t : Vec Ideal S1x6144 .f32) (Rect.unit (s := ⟨2, ![1, 6144]⟩) ![0, 2048] ![1, 1024] inb3))
        (View.ld (iblk m c 4 t : Vec Ideal S1x6144 .f32) (Rect.unit (s := ⟨2, ![1, 6144]⟩) ![0, 2048] ![1, 1024] inb4))) v28
      (View.ld (iblk m c 2 t : Vec Ideal S256x1024 .bf16) (Rect.unit (s := ⟨2, ![256, 1024]⟩) ![0, 0] ![256, 1024] inb)) (ix2 p q)
      = v28 (ix2 p q) + ∑ r : Fin 256, ab m c (ix3 0 (row t r) p) * dmix m c (row t r) q := by
  rw [pay1_at]
  refine congrArg _ (Finset.sum_congr rfl fun r _ => ?_)
  rw [tile_dmix, ld_whole]
  exact congrArg (· * _) (blk_ab m c t r p)

theorem acc_step (t : Fin cfg0.N) (p q : Fin 1024) :
    (outsAt0 m c t.val t.isLt).2.2.2.2 (ix2 p q) = (if t.val % 8 = 0 then 0 else (prev m c t).2.2.2.2 (ix2 p q))
      + ∑ r : Fin 256, ab m c (ix3 0 (row t r) p) * dmix m c (row t r) q := by
  by_cases h0 : t.val % 8 = 0
  · rw [outsAt0_A m c t h0 (by omega), if_pos h0]
    dsimp only
    unfold sout0_A_0 kernelRun0_A
    dsimp only
    sl_unfold_words
    simp only [View.readCov, View.readAt_eq_ld, (hs0_0 t).read_unread, (hs0_2 t).read_unread, (hs0_3 t).read_unread, (hs0_4 t).read_unread]
    rw [whole_hit, ld_whole (iblk m c 0 t), tile_acc, ld_whole, whole_hit, pay4_at]
  · rw [if_neg h0]
    by_cases h1 : t.val % 8 = 7
    · rw [outsAt0_C m c t h0 h1]
      dsimp only
      unfold sout0_C_0 kernelRun0_C
      dsimp only
      sl_unfold_words
      simp only [View.readAt_eq_ld, (hs0_0 t).read_unread, (hs0_2 t).read_unread, (hs0_3 t).read_unread, (hs0_4 t).read_unread,
        (Memref.isWhole_whole _).read_unread]
      rw [whole_hit, ld_whole (iblk m c 0 t), tile_acc, ld_whole]
    · rw [outsAt0_B m c t h0 h1]
      dsimp only
      unfold sout0_B_0 kernelRun0_B
      dsimp only
      sl_unfold_words
      simp only [View.readAt_eq_ld, (hs0_0 t).read_unread, (hs0_2 t).read_unread, (hs0_3 t).read_unread, (hs0_4 t).read_unread,
        (Memref.isWhole_whole _).read_unread]
      rw [whole_hit, ld_whole (iblk m c 0 t), tile_acc, ld_whole]

theorem gw_last (t : Fin cfg0.N) (h1 : t.val % 8 = 7) (p q : Fin 1024) :
    (outsAt0 m c t.val t.isLt).2.2.2.1 (ix2 p q) = (outsAt0 m c t.val t.isLt).2.2.2.2 (ix2 p q) := by
  rw [outsAt0_C m c t (by omega) h1]
  dsimp only
  unfold out0_C_9 sout0_C_0 kernelRun0_C
  dsimp only
  sl_unfold_words
  rw [whole_hit, whole_hit]
  unfold k0_pay2
  simp only [shapeCast_self, truncf_apply, View.readCov, View.readAt_eq_ld, ld_whole]
  rw [whole_hit]

theorem tile_st (t : Fin cfg0.N) (v5 : Vec Ideal S1x1024 .f32) (inb inb') (k : Fin 1024) :
    k0_pay6 (View.ld (iblk m c 0 t : Vec Ideal S256x1024 .f32) (Rect.unit (s := ⟨2, ![256, 1024]⟩) ![0, 0] ![256, 1024] inb)) v5
      (View.ld (iblk m c 1 t : Vec Ideal S256x1024 .f32) (Rect.unit (s := ⟨2, ![256, 1024]⟩) ![0, 0] ![256, 1024] inb')) (ix2 0 k)
      = v5 (ix2 0 k) + ∑ r : Fin 256, dx m c (row t r) k * ∑ p : Fin 1024, ab m c (ix3 0 (row t r) p) * w m c p k := by
  rw [pay6_at]
  refine congrArg _ (Finset.sum_congr rfl fun r _ => ?_)
  rw [ld_whole, ld_whole]
  exact congrArg₂ (· * ·) (blk_dx m c t r k) (blk_mix m c t r k)

theorem st_step (t : Fin cfg0.N) (k : Fin 1024) :
    (outsAt0 m c t.val t.isLt).2.2.1 (ix2 0 k) = (if t.val % 8 = 0 then 0 else (prev m c t).2.2.1 (ix2 0 k))
      + ∑ r : Fin 256, dx m c (row t r) k * ∑ p : Fin 1024, ab m c (ix3 0 (row t r) p) * w m c p k := by
  by_cases h0 : t.val % 8 = 0
  · rw [outsAt0_A m c t h0 (by omega), if_pos h0]
    dsimp only
    unfold out0_A_8 kernelRun0_A
    dsimp only
    sl_unfold_words
    simp only [View.readCov, View.readAt_eq_ld, (hs0_0 t).read_unread, (hs0_1 t).read_unread]
    rw [row_hit _ _ 0 _ _ _ 0 rfl, tile_st, ld_at _ 0 0 1 1024 _ 0 k 0 k rfl (by omega), whole_hit, pay3_at]
  · rw [if_neg h0]
    by_cases h1 : t.val % 8 = 7
    · rw [outsAt0_C m c t h0 h1]
      dsimp only
      unfold out0_C_8 kernelRun0_C
      dsimp only
      sl_unfold_words
      simp only [View.readAt_eq_ld, (hs0_0 t).read_unread, (hs0_1 t).read_unread, (hs0_8 t).read_unread]
      rw [row_hit _ _ 0 _ _ _ 0 rfl, tile_st, ld_at _ 0 0 1 1024 _ 0 k 0 k rfl (by omega)]
    · rw [outsAt0_B m c t h0 h1]
      dsimp only
      unfold out0_B_8 kernelRun0_B
      dsimp only
      sl_unfold_words
      simp only [View.readAt_eq_ld, (hs0_0 t).read_unread, (hs0_1 t).read_unread, (hs0_8 t).read_unread]
      rw [row_hit _ _ 0 _ _ _ 0 rfl, tile_st, ld_at _ 0 0 1 1024 _ 0 k 0 k rfl (by omega)]

theorem st_rest (t : Fin cfg0.N) (i : Fin 8) (hi : i.val ≠ 0) (k : Fin 1024) :
    (outsAt0 m c t.val t.isLt).2.2.1 (ix2 i k) = if t.val % 8 = 0 then 0 else (prev m c t).2.2.1 (ix2 i k) := by
  by_cases h0 : t.val % 8 = 0
  · rw [outsAt0_A m c t h0 (by omega), if_pos h0]
    dsimp only
    unfold out0_A_8 kernelRun0_A
    dsimp only
    sl_unfold_words
    rw [row_miss _ _ 0 _ _ _ i hi, whole_hit, pay3_at]
  · rw [if_neg h0]
    by_cases h1 : t.val % 8 = 7
    · rw [outsAt0_C m c t h0 h1]
      dsimp only
      unfold out0_C_8 kernelRun0_C
      dsimp only
      sl_unfold_words
      rw [row_miss _ _ 0 _ _ _ i hi, View.writes_nil, (hs0_8 t).read_unread]
    · rw [outsAt0_B m c t h0 h1]
      dsimp only
      unfold out0_B_8 kernelRun0_B
      dsimp only
      sl_unfold_words
      rw [row_miss _ _ 0 _ _ _ i hi, View.writes_nil, (hs0_8 t).read_unread]

/-- The gradient of the first branch's output at a row: the gated gradient against the weight's upper rows. -/
theorem tile_da (t : Fin cfg0.N) (inb inb3 inb4) (r : Fin 256) (p : Fin 512) :
    k0_pay8 (iblk m c 0 t) (View.ld (iblk m c 3 t : Vec Ideal S1x6144 .f32) (Rect.unit (s := ⟨2, ![1, 6144]⟩) ![0, 2048] ![1, 1024] inb3))
        (View.ld (iblk m c 4 t : Vec Ideal S1x6144 .f32) (Rect.unit (s := ⟨2, ![1, 6144]⟩) ![0, 2048] ![1, 1024] inb4))
        (View.ld (iblk m c 5 t : Vec Ideal S1024x1024 .bf16) (Rect.unit (s := ⟨2, ![1024, 1024]⟩) ![0, 0] ![512, 1024] inb)) (ix2 r p)
      = ∑ k : Fin 1024, dmix m c (row t r) k * w m c ⟨p.val, by omega⟩ k := by
  rw [pay8_at]
  refine Finset.sum_congr rfl fun k _ => ?_
  rw [tile_dmix, ld_at _ 0 0 512 1024 _ p k ⟨p.val, by omega⟩ k (by show p.val = 0 + p.val; omega) (by omega)]
  exact congrArg (_ * ·) (blk_w m c t _ _)

/-- The second branch's: the lower rows. -/
theorem tile_db (t : Fin cfg0.N) (inb inb3 inb4) (r : Fin 256) (p : Fin 512) :
    k0_pay9 (iblk m c 0 t) (View.ld (iblk m c 3 t : Vec Ideal S1x6144 .f32) (Rect.unit (s := ⟨2, ![1, 6144]⟩) ![0, 2048] ![1, 1024] inb3))
        (View.ld (iblk m c 4 t : Vec Ideal S1x6144 .f32) (Rect.unit (s := ⟨2, ![1, 6144]⟩) ![0, 2048] ![1, 1024] inb4))
        (View.ld (iblk m c 5 t : Vec Ideal S1024x1024 .bf16) (Rect.unit (s := ⟨2, ![1024, 1024]⟩) ![512, 0] ![512, 1024] inb)) (ix2 r p)
      = ∑ k : Fin 1024, dmix m c (row t r) k * w m c ⟨512 + p.val, by omega⟩ k := by
  rw [pay9_at]
  refine Finset.sum_congr rfl fun k _ => ?_
  rw [tile_dmix, ld_at _ 512 0 512 1024 _ p k ⟨512 + p.val, by omega⟩ k rfl (by omega)]
  exact congrArg (_ * ·) (blk_w m c t _ _)

theorem da_at (t : Fin cfg0.N) (r : Fin 256) (p : Fin 512) :
    (outsAt0 m c t.val t.isLt).1 (ix2 r p) = ∑ k : Fin 1024, dmix m c (row t r) k * w m c ⟨p.val, by omega⟩ k := by
  by_cases h0 : t.val % 8 = 0
  · rw [outsAt0_A m c t h0 (by omega)]
    dsimp only
    unfold out0_A_6 kernelRun0_A
    dsimp only
    sl_unfold_words
    simp only [View.readAt_eq_ld, (hs0_0 t).read_unread, (hs0_3 t).read_unread, (hs0_4 t).read_unread, (hs0_5 t).read_unread]
    rw [whole_hit, ld_whole (iblk m c 0 t), tile_da]
  · by_cases h1 : t.val % 8 = 7
    · rw [outsAt0_C m c t h0 h1]
      dsimp only
      unfold out0_C_6 kernelRun0_C
      dsimp only
      sl_unfold_words
      simp only [View.readAt_eq_ld, (hs0_0 t).read_unread, (hs0_3 t).read_unread, (hs0_4 t).read_unread, (hs0_5 t).read_unread]
      rw [whole_hit, ld_whole (iblk m c 0 t), tile_da]
    · rw [outsAt0_B m c t h0 h1]
      dsimp only
      unfold out0_B_6 kernelRun0_B
      dsimp only
      sl_unfold_words
      simp only [View.readAt_eq_ld, (hs0_0 t).read_unread, (hs0_3 t).read_unread, (hs0_4 t).read_unread, (hs0_5 t).read_unread]
      rw [whole_hit, ld_whole (iblk m c 0 t), tile_da]

theorem db_at (t : Fin cfg0.N) (r : Fin 256) (p : Fin 512) :
    (outsAt0 m c t.val t.isLt).2.1 (ix2 r p) = ∑ k : Fin 1024, dmix m c (row t r) k * w m c ⟨512 + p.val, by omega⟩ k := by
  by_cases h0 : t.val % 8 = 0
  · rw [outsAt0_A m c t h0 (by omega)]
    dsimp only
    unfold out0_A_7 kernelRun0_A
    dsimp only
    sl_unfold_words
    simp only [View.readAt_eq_ld, (hs0_0 t).read_unread, (hs0_3 t).read_unread, (hs0_4 t).read_unread, (hs0_5 t).read_unread]
    rw [whole_hit, ld_whole (iblk m c 0 t), tile_db]
  · by_cases h1 : t.val % 8 = 7
    · rw [outsAt0_C m c t h0 h1]
      dsimp only
      unfold out0_C_7 kernelRun0_C
      dsimp only
      sl_unfold_words
      simp only [View.readAt_eq_ld, (hs0_0 t).read_unread, (hs0_3 t).read_unread, (hs0_4 t).read_unread, (hs0_5 t).read_unread]
      rw [whole_hit, ld_whole (iblk m c 0 t), tile_db]
    · rw [outsAt0_B m c t h0 h1]
      dsimp only
      unfold out0_B_7 kernelRun0_B
      dsimp only
      sl_unfold_words
      simp only [View.readAt_eq_ld, (hs0_0 t).read_unread, (hs0_3 t).read_unread, (hs0_4 t).read_unread, (hs0_5 t).read_unread]
      rw [whole_hit, ld_whole (iblk m c 0 t), tile_db]

/-! ## The whole sweep -/

theorem acc_at (p q : Fin 1024) (n : ℕ) (hn : n < cfg0.N) :
    (outsAt0 m c n hn).2.2.2.2 (ix2 p q) = part (fun s : Fin 2048 => ab m c (ix3 0 s p) * dmix m c s q) (256 * (n + 1)) := by
  have hN : cfg0.N = 8 := by decide
  induction n with
  | zero =>
    rw [acc_step m c ⟨0, hn⟩, if_pos (Nat.zero_mod 8), part_tile (T := 256) _ 0 (fun r => ab m c (ix3 0 (row ⟨0, hn⟩ r) p) * dmix m c (row ⟨0, hn⟩ r) q)
      (fun r => ⟨by omega, rfl⟩), part_zero]
  | succ n ih =>
    rw [acc_step m c ⟨n + 1, hn⟩, if_neg (by show ¬ (n + 1) % 8 = 0; omega), part_tile (T := 256) _ (n + 1)
      (fun r => ab m c (ix3 0 (row ⟨n + 1, hn⟩ r) p) * dmix m c (row ⟨n + 1, hn⟩ r) q) (fun r => ⟨by omega, rfl⟩), ← ih (by omega)]
    rfl

theorem st_at (k : Fin 1024) (n : ℕ) (hn : n < cfg0.N) :
    (outsAt0 m c n hn).2.2.1 (ix2 0 k)
      = part (fun s : Fin 2048 => dx m c s k * ∑ p : Fin 1024, ab m c (ix3 0 s p) * w m c p k) (256 * (n + 1)) := by
  have hN : cfg0.N = 8 := by decide
  induction n with
  | zero =>
    rw [st_step m c ⟨0, hn⟩, if_pos (Nat.zero_mod 8), part_tile (T := 256) _ 0
      (fun r => dx m c (row ⟨0, hn⟩ r) k * ∑ p : Fin 1024, ab m c (ix3 0 (row ⟨0, hn⟩ r) p) * w m c p k) (fun r => ⟨by omega, rfl⟩), part_zero]
  | succ n ih =>
    rw [st_step m c ⟨n + 1, hn⟩, if_neg (by show ¬ (n + 1) % 8 = 0; omega), part_tile (T := 256) _ (n + 1)
      (fun r => dx m c (row ⟨n + 1, hn⟩ r) k * ∑ p : Fin 1024, ab m c (ix3 0 (row ⟨n + 1, hn⟩ r) p) * w m c p k) (fun r => ⟨by omega, rfl⟩),
      ← ih (by omega)]
    rfl

theorem st_zero (i : Fin 8) (hi : i.val ≠ 0) (k : Fin 1024) (n : ℕ) (hn : n < cfg0.N) : (outsAt0 m c n hn).2.2.1 (ix2 i k) = 0 := by
  have hN : cfg0.N = 8 := by decide
  induction n with
  | zero => rw [st_rest m c ⟨0, hn⟩ i hi, if_pos (Nat.zero_mod 8)]
  | succ n ih => rw [st_rest m c ⟨n + 1, hn⟩ i hi, if_neg (by show ¬ (n + 1) % 8 = 0; omega)]; exact ih _

/-! ## The four results -/

/-- The point and the place in it that an entry of a tiled result is read at. -/
theorem row_of (s : Fin 2048) (h : s.val / 256 < cfg0.N) : row ⟨s.val / 256, h⟩ ⟨s.val % 256, Nat.mod_lt _ (by decide)⟩ = s :=
  Fin.ext (Nat.div_add_mod s.val 256)

theorem lt_N (s : Fin 2048) : s.val / 256 < cfg0.N := by
  have hN : cfg0.N = 8 := by decide
  omega

theorem G6_at (s : Fin 2048) (p : Fin 512) : Value.G6 m c (ix2 s p) = ∑ k : Fin 1024, dmix m c s k * w m c ⟨p.val, by omega⟩ k := by
  have hp : Value.pt6Of (ix2 s p) = s.val / 256 := by
    show 1 * (s.val / 256 - 0) + 1 * (p.val / 512 - 0) = _
    omega
  have hl : Value.loc6Of (ix2 s p) = ix2 ⟨s.val % 256, Nat.mod_lt _ (by decide)⟩ p := by
    funext a; apply Fin.ext
    match a with
    | ⟨0, _⟩ => rfl
    | ⟨1, _⟩ => exact Nat.mod_eq_of_lt p.isLt
  unfold Value.G6
  rw [dif_pos (by rw [hp]; exact lt_N s), hl, Value.fold0_congr m c _ _ _ (by have := lt_N s; omega) hp, ← Value.outsAt0_sweep m c _ (lt_N s)]
  exact (da_at m c ⟨_, lt_N s⟩ _ p).trans (by rw [row_of])

theorem G7_at (s : Fin 2048) (p : Fin 512) : Value.G7 m c (ix2 s p) = ∑ k : Fin 1024, dmix m c s k * w m c ⟨512 + p.val, by omega⟩ k := by
  have hp : Value.pt7Of (ix2 s p) = s.val / 256 := by
    show 1 * (s.val / 256 - 0) + 1 * (p.val / 512 - 0) = _
    omega
  have hl : Value.loc7Of (ix2 s p) = ix2 ⟨s.val % 256, Nat.mod_lt _ (by decide)⟩ p := by
    funext a; apply Fin.ext
    match a with
    | ⟨0, _⟩ => rfl
    | ⟨1, _⟩ => exact Nat.mod_eq_of_lt p.isLt
  unfold Value.G7
  rw [dif_pos (by rw [hp]; exact lt_N s), hl, Value.fold0_congr m c _ _ _ (by have := lt_N s; omega) hp, ← Value.outsAt0_sweep m c _ (lt_N s)]
  exact (db_at m c ⟨_, lt_N s⟩ _ p).trans (by rw [row_of])

theorem G8_at (k : Fin 1024) : Value.G8 m c (ix2 0 k) = ∑ s : Fin 2048, dx m c s k * ∑ p : Fin 1024, ab m c (ix3 0 s p) * w m c p k := by
  rw [Value.G8_last, ← Value.outsAt0_sweep m c 7 (lt_of_lt_of_eq (by decide) N_0.symm)]
  exact (st_at m c k 7 _).trans (part_all _)

theorem G8_rest (i : Fin 8) (hi : i.val ≠ 0) (k : Fin 1024) : @Eq EReal (Value.G8 m c (ix2 i k)) 0 := by
  rw [Value.G8_last, ← Value.outsAt0_sweep m c 7 (lt_of_lt_of_eq (by decide) N_0.symm)]
  exact st_zero m c i hi k 7 _

theorem G9_at (p q : Fin 1024) : Value.G9 m c (ix2 p q) = ∑ s : Fin 2048, ab m c (ix3 0 s p) * dmix m c s q := by
  rw [Value.G9_last, ← Value.outsAt0_sweep m c 7 (lt_of_lt_of_eq (by decide) N_0.symm)]
  exact (gw_last m c ⟨7, lt_of_lt_of_eq (by decide) N_0.symm⟩ rfl p q).trans ((acc_at m c p q 7 _).trans (part_all _))

end Cert.OutIdeal.Val

end

end
-- ==== Proof.HostSums.lean ====
/- Host sums read at an entry: a sum over two leading axes of extent one, a product contracting two leading axes, and rows put on top
   of one another. Hand-written; used by every reference. -/
module

public import proofs.«01_k».proof.Proof.Tile

@[expose] public section

noncomputable section

namespace Cert.Tile

open Idealize.ShloMosaic Idealize.ShloMosaic.TcCoe Idealize.SL.Sem ValueIdx

/-- Two arrays of rank two with the same entries are the same. -/
theorem eq_entries {α : Type} {M N : ℕ} (f g : (⟨2, ![M, N]⟩ : Shape).Idx → α) (h : ∀ i j, f (ix2 i j) = g (ix2 i j)) : f = g := by
  funext i
  rw [eq_ix2 i]
  exact h _ _

/-- The sum over two leading axes of extent one is the initial value plus the one entry. -/
theorem hostReduce_11 {N : ℕ} (h : Shape.ReducesTo ⟨3, ![1, 1, N]⟩ [0, 1] ⟨1, ![N]⟩) (x : FVec Ideal ⟨3, ![1, 1, N]⟩ .f32) (init : EReal) (j : Fin N) :
    Ideal.hostReduceAdd h x init (ix1 j) = init + x (ix3 0 0 j) := by
  unfold Ideal.hostReduceAdd
  have e : (Finset.univ.filter fun i => h.drop i = ix1 j) = {ix3 (0 : Fin 1) (0 : Fin 1) j} := by
    ext i
    simp only [Finset.mem_filter, Finset.mem_univ, true_and, Finset.mem_singleton]
    constructor
    · intro hi
      have h2 : (i ⟨2, Nat.lt_succ_self 2⟩).val = j.val := congrArg (fun f => (f ⟨0, Nat.one_pos⟩ : Fin _).val) hi
      funext a; apply Fin.ext
      match a with
      | ⟨0, _⟩ => exact Nat.lt_one_iff.1 (i ⟨0, Nat.succ_pos 2⟩).isLt
      | ⟨1, _⟩ => exact Nat.lt_one_iff.1 (i ⟨1, Nat.one_lt_succ_succ 1⟩).isLt
      | ⟨2, _⟩ => exact h2
    · rintro rfl
      funext b; apply Fin.ext
      match b with
      | ⟨0, _⟩ => rfl
  rw [e, Finset.sum_singleton]

/-- The sum over the first and the last axis, both of extent one, is the initial value plus the one entry. -/
theorem hostReduce_02 {M : ℕ} (h : Shape.ReducesTo ⟨3, ![1, M, 1]⟩ [0, 2] ⟨1, ![M]⟩) (x : FVec Ideal ⟨3, ![1, M, 1]⟩ .f32) (init : EReal) (j : Fin M) :
    Ideal.hostReduceAdd h x init (ix1 j) = init + x (ix3 0 j 0) := by
  unfold Ideal.hostReduceAdd
  have e : (Finset.univ.filter fun i => h.drop i = ix1 j) = {ix3 (0 : Fin 1) j (0 : Fin 1)} := by
    ext i
    simp only [Finset.mem_filter, Finset.mem_univ, true_and, Finset.mem_singleton]
    constructor
    · intro hi
      have h2 : (i ⟨1, Nat.one_lt_succ_succ 1⟩).val = j.val := congrArg (fun f => (f ⟨0, Nat.one_pos⟩ : Fin _).val) hi
      exact ix3_of i 0 j 0 (Nat.lt_one_iff.1 (i ⟨0, Nat.succ_pos 2⟩).isLt) h2 (Nat.lt_one_iff.1 (i ⟨2, Nat.lt_succ_self 2⟩).isLt)
    · rintro rfl
      funext b; apply Fin.ext
      match b with
      | ⟨0, _⟩ => rfl
  rw [e, Finset.sum_singleton]

/-- A product contracting the two leading axes of both operands: dimension numbers. -/
def dotBT (A T P Q : ℕ) : DotDims ⟨3, ![A, T, P]⟩ ⟨3, ![A, T, Q]⟩ ⟨2, ![P, Q]⟩ where
  lhsContracting := [0, 1]
  rhsContracting := [0, 1]
  lhsNonContracting := [2]
  rhsNonContracting := [2]
  lhsBatch := []
  rhsBatch := []
  wf := ⟨rfl, by simp, rfl, by simp, by simp, by simp, (by decide : List.Perm [(2 : Fin 3), 0, 1] (List.finRange 3)),
    (by decide : List.Perm [(2 : Fin 3), 0, 1] (List.finRange 3)), rfl, Nat.two_pos, fun b => by fin_cases b <;> rfl⟩

/-- Its contraction index is the pair of leading coordinates. -/
def contrBT (A T P Q : ℕ) : (dotBT A T P Q).contr.Idx ≃ Fin A × Fin T where
  toFun q := (q ⟨0, Nat.two_pos⟩, q ⟨1, Nat.one_lt_two⟩)
  invFun p := fun a => match a with
    | ⟨0, _⟩ => p.1
    | ⟨1, _⟩ => p.2
  left_inv q := by
    funext a
    match a with
    | ⟨0, _⟩ => rfl
    | ⟨1, _⟩ => rfl
  right_inv _ := rfl

theorem host_BT {A T P Q : ℕ} {φ₁ φ₂ : FTy} (D : DotDims ⟨3, ![A, T, P]⟩ ⟨3, ![A, T, Q]⟩ ⟨2, ![P, Q]⟩) (hD : D = dotBT A T P Q)
    (prec : Option ContractPrecision) (s : HostSchedule) (a : FVec Ideal ⟨3, ![A, T, P]⟩ φ₁) (b : FVec Ideal ⟨3, ![A, T, Q]⟩ φ₂) (p : Fin P) (q : Fin Q) :
    FloatOps.dotGeneral D prec s a b (ix2 p q) = ∑ x : Fin A, ∑ t : Fin T, a (ix3 x t p) * b (ix3 x t q) := by
  subst hD
  have h := Ideal.dotGeneral_apply (dotBT A T P Q) prec s a b (ix2 p q)
  rw [h, ← Fintype.sum_prod_type', ← Equiv.sum_comp (contrBT A T P Q).symm]
  refine Finset.sum_congr rfl fun k _ => ?_
  have el : (dotBT A T P Q).lhsIdx (ix2 p q) ((contrBT A T P Q).symm k) = ix3 k.1 k.2 p := by
    funext a; apply Fin.ext
    match a with
    | ⟨0, _⟩ => rfl
    | ⟨1, _⟩ => rfl
    | ⟨2, _⟩ => rfl
  have er : (dotBT A T P Q).rhsIdx (ix2 p q) ((contrBT A T P Q).symm k) = ix3 k.1 k.2 q := by
    funext a; apply Fin.ext
    match a with
    | ⟨0, _⟩ => rfl
    | ⟨1, _⟩ => rfl
    | ⟨2, _⟩ => rfl
  rw [el, er]

/-- Two blocks of rows on top of one another: a row of the upper … -/
theorem rows_upper {A B M N : ℕ} {e : EltTy} (x : Vec Ideal ⟨2, ![A, N]⟩ e) (y : Vec Ideal ⟨2, ![B, N]⟩ e)
    (h : Shape.Concatenates [⟨2, ![A, N]⟩, ⟨2, ![B, N]⟩] ⟨2, ![M, N]⟩ 0) (i : Fin M) (i' : Fin A) (hi : i'.val = i.val) (j : Fin N) :
    concatenate ⟨2, ![M, N]⟩ 0 [⟨⟨2, ![A, N]⟩, x⟩, ⟨⟨2, ![B, N]⟩, y⟩] h (ix2 i j) = x (ix2 i' j) :=
  concatenate_pair_apply_left (0 : Fin 2) x y h (ix2 i j) rfl (ix2 i' j) fun b => match b with
    | ⟨0, _⟩ => hi
    | ⟨1, _⟩ => rfl

/-- … and one of the lower. -/
theorem rows_lower {A B M N : ℕ} {e : EltTy} (x : Vec Ideal ⟨2, ![A, N]⟩ e) (y : Vec Ideal ⟨2, ![B, N]⟩ e)
    (h : Shape.Concatenates [⟨2, ![A, N]⟩, ⟨2, ![B, N]⟩] ⟨2, ![M, N]⟩ 0) (i : Fin M) (i' : Fin B) (hi : i'.val + A = i.val) (j : Fin N) :
    concatenate ⟨2, ![M, N]⟩ 0 [⟨⟨2, ![A, N]⟩, x⟩, ⟨⟨2, ![B, N]⟩, y⟩] h (ix2 i j) = y (ix2 i' j) :=
  concatenate_pair_apply_right (0 : Fin 2) x y h (ix2 i j) rfl rfl (ix2 i' j) (fun b hb => match b with
    | ⟨0, _⟩ => absurd rfl hb
    | ⟨1, _⟩ => rfl) hi

end Cert.Tile

end

end
-- ==== Proof.OutRef.lean ====
/- The backward call of the output projection, the reference's values read at an entry, and that the kernel leaves the same.
   Hand-written. -/
module

public import proofs.«01_k».proof.Proof.OutPt
public import proofs.«01_k».proof.Proof.HostSums
public import proofs.«01_k».proof.Proof.Gen.OutRefIdeal.Read

@[expose] public section

noncomputable section

namespace Cert.OutIdeal.Val

open Idealize.ShloMosaic Idealize.ShloMosaic.TcCoe Idealize.SL.Sem Cert.OutIdeal Cert.OutIdeal.Gen Cert.Tile ValueIdx
open Cert.OutRefIdeal.Read

variable (m : (ℓ : Loc nD τ sig) → Buf (Elt Ideal) ℓ) (c : Dev nD)

/-- The arguments as the reference is given them. -/
abbrev a0 : FVec Ideal S1x2048x512 .f32 := m ((c : Thread nD τ).loc main_arg0)
abbrev a1 : FVec Ideal S1x2048x512 .f32 := m ((c : Thread nD τ).loc main_arg1)
abbrev a3 : FVec Ideal S1x6144 .f32 := m ((c : Thread nD τ).loc main_arg3)
abbrev a4 : FVec Ideal S1x6144 .f32 := m ((c : Thread nD τ).loc main_arg4)
abbrev a5 : FVec Ideal S1x1024x1024 .f32 := m ((c : Thread nD τ).loc main_arg5)
abbrev a6 : FVec Ideal S1x2048x1024 .f32 := m ((c : Thread nD τ).loc main_arg6)

theorem ref_gate (s : Fin 2048) (k : Fin 1024) : val_main_v17 (F := Ideal) (a3 m c) (a4 m c) (a6 m c) (ix3 0 s k) = dmix m c s k := by
  rw [val_main_v17_apply, val_main_v16_apply, val_main_v12_apply, val_main_v5_apply, val_main_v2_apply, val_main_v1_apply, val_main_v0_apply]
  have e0 : idx_main_v5 (idx_main_v12 (idx_main_v16 (ix3 0 s k))) = ix2 0 ⟨2048 + k.val, by omega⟩ := by
    funext a; apply Fin.ext
    match a with
    | ⟨0, _⟩ => rfl
    | ⟨1, _⟩ => rfl
  have e1 : idx_main_v0 (idx_main_v1 (ix2 (0 : Fin 1) (⟨2048 + k.val, by omega⟩ : Fin 6144))) = ix2 0 ⟨2048 + k.val, by omega⟩ := by
    funext a; apply Fin.ext
    match a with
    | ⟨0, _⟩ => rfl
    | ⟨1, _⟩ => exact Nat.mod_eq_of_lt (by show 2048 + k.val < 6144; omega)
  rw [e0, e1]
  rfl

theorem ref_w (p q : Fin 1024) : val_main_v9 (F := Ideal) (a5 m c) (ix2 p q) = w m c p q := shapeCast_1ab_ab_apply _ _ p q

theorem ref_dab (s : Fin 2048) (p : Fin 1024) :
    val_main_v25 (F := Ideal) (a3 m c) (a4 m c) (a5 m c) (a6 m c) (ix3 0 s p) = ∑ k : Fin 1024, dmix m c s k * w m c p k := by
  rw [val_main_v25_apply]
  refine Finset.sum_congr rfl fun k _ => ?_
  have el : lidx_main_v25 (ix3 0 s p) k = ix3 0 s k := by
    funext a; apply Fin.ext
    match a with
    | ⟨0, _⟩ => rfl
    | ⟨1, _⟩ => rfl
    | ⟨2, _⟩ => rfl
  have er : ridx_main_v25 (ix3 0 s p) k = ix2 p k := by
    funext a; apply Fin.ext
    match a with
    | ⟨0, _⟩ => rfl
    | ⟨1, _⟩ => rfl
  rw [el, er, ref_gate, ref_w]

theorem ref_da (s : Fin 2048) (p : Fin 512) :
    val_main_v30 (F := Ideal) (a3 m c) (a4 m c) (a5 m c) (a6 m c) (ix2 s p) = ∑ k : Fin 1024, dmix m c s k * w m c ⟨p.val, by omega⟩ k := by
  have e : val_main_v30 (F := Ideal) (a3 m c) (a4 m c) (a5 m c) (a6 m c) (ix2 s p) = val_main_v26 (F := Ideal) (a3 m c) (a4 m c) (a5 m c) (a6 m c) (ix3 0 s p) :=
    shapeCast_1ab_ab_apply _ _ s p
  rw [e, val_main_v26_apply, ← ref_dab]
  congr 1
  funext a; apply Fin.ext
  match a with
  | ⟨0, _⟩ => rfl
  | ⟨1, _⟩ => rfl
  | ⟨2, _⟩ => rfl

theorem ref_db (s : Fin 2048) (p : Fin 512) :
    val_main_v31 (F := Ideal) (a3 m c) (a4 m c) (a5 m c) (a6 m c) (ix2 s p) = ∑ k : Fin 1024, dmix m c s k * w m c ⟨512 + p.val, by omega⟩ k := by
  have e : val_main_v31 (F := Ideal) (a3 m c) (a4 m c) (a5 m c) (a6 m c) (ix2 s p) = val_main_v27 (F := Ideal) (a3 m c) (a4 m c) (a5 m c) (a6 m c) (ix3 0 s p) :=
    shapeCast_1ab_ab_apply _ _ s p
  rw [e, val_main_v27_apply, ← ref_dab]
  congr 1
  funext a; apply Fin.ext
  match a with
  | ⟨0, _⟩ => rfl
  | ⟨1, _⟩ => rfl
  | ⟨2, _⟩ => rfl

theorem ref_dgate (k : Fin 1024) : val_main_v22 (F := Ideal) (a0 m c) (a1 m c) (a5 m c) (a6 m c) (ix2 0 k)
    = ∑ s : Fin 2048, dx m c s k * ∑ p : Fin 1024, ab m c (ix3 0 s p) * w m c p k := by
  have e : idx_main_v22 (ix2 (0 : Fin 1) k) = ix1 k := by
    funext a; apply Fin.ext
    match a with
    | ⟨0, _⟩ => rfl
  rw [val_main_v22_apply, e]
  refine (hostReduce_11 _ _ _ k).trans ?_
  rw [val_main_cst_0_apply, val_main_v20_apply, val_main_v19_apply, val_main_cst_apply]
  simp only [FloatOps.ofBits, Ideal.ofBits_zero_f32, zero_add]
  refine Finset.sum_congr rfl fun s _ => ?_
  have e19 : idx_main_v19 (idx_main_v20 (ix3 (0 : Fin 1) (0 : Fin 1) k)) s = ix3 0 s k := by
    funext a; apply Fin.ext
    match a with
    | ⟨0, _⟩ => rfl
    | ⟨1, _⟩ => rfl
    | ⟨2, _⟩ => show ((0 * 1 + 0) * 1024 + k.val) % 1024 = k.val; omega
  rw [e19, val_main_v18_apply, val_main_v11_apply]
  refine congrArg (dx m c s k * ·) (Finset.sum_congr rfl fun p _ => ?_)
  have er : ridx_main_v11 (ix3 0 s k) p = ix2 p k := by
    funext a; apply Fin.ext
    match a with
    | ⟨0, _⟩ => rfl
    | ⟨1, _⟩ => rfl
  have el : lidx_main_v11 (ix3 0 s k) p = ix3 0 s p := by
    funext a; apply Fin.ext
    match a with
    | ⟨0, _⟩ => rfl
    | ⟨1, _⟩ => rfl
    | ⟨2, _⟩ => rfl
  rw [er, el, ref_w]
  rfl

theorem ref_dw (p q : Fin 1024) : val_main_v32 (F := Ideal) (a0 m c) (a1 m c) (a3 m c) (a4 m c) (a6 m c) (ix2 p q)
    = ∑ s : Fin 2048, ab m c (ix3 0 s p) * dmix m c s q := by
  rw [val_main_v32_apply, val_main_v24_apply]
  have e : idx_main_v24 (ix2 p q) = ix2 q p := by
    funext a; apply Fin.ext
    match a with
    | ⟨0, _⟩ => rfl
    | ⟨1, _⟩ => rfl
  rw [e]
  show val_main_v23 (F := Ideal) (a0 m c) (a1 m c) (a3 m c) (a4 m c) (a6 m c) (ix2 q p) = _
  unfold val_main_v23
  refine (host_BT _ rfl _ _ _ _ q p).trans ?_
  rw [Fin.sum_univ_one]
  refine Finset.sum_congr rfl fun s _ => ?_
  rw [ref_gate, mul_comm]
  rfl

/-! ## The kernel leaves the same -/

theorem G6_eq : Value.G6 m c = val_main_v30 (F := Ideal) (a3 m c) (a4 m c) (a5 m c) (a6 m c) := by
  refine eq_entries _ _ fun i j => ?_
  rw [G6_at, ref_da]

theorem G7_eq : Value.G7 m c = val_main_v31 (F := Ideal) (a3 m c) (a4 m c) (a5 m c) (a6 m c) := by
  refine eq_entries _ _ fun i j => ?_
  rw [G7_at, ref_db]

theorem G8_eq : Value.G8 m c = val_main_v29 (F := Ideal) (a0 m c) (a1 m c) (a5 m c) (a6 m c) := by
  refine eq_entries _ _ fun r k => ?_
  unfold val_main_v29
  by_cases hr : r.val = 0
  · obtain rfl : r = 0 := Fin.ext hr
    rw [G8_at]
    exact ((rows_upper _ _ _ (0 : Fin 8) (0 : Fin 1) rfl k).trans (ref_dgate m c k)).symm
  · refine (G8_rest m c r hr k).trans (Eq.symm ?_)
    refine (rows_lower _ _ _ r (⟨r.val - 1, by have := r.isLt; omega⟩ : Fin 7) (by show r.val - 1 + 1 = r.val; omega) k).trans ?_
    rw [val_main_v28_apply, val_main_cst_1_apply]
    exact Ideal.ofBits_zero_f32

theorem G9_eq : Value.G9 m c = val_main_v32 (F := Ideal) (a0 m c) (a1 m c) (a3 m c) (a4 m c) (a6 m c) := by
  refine eq_entries _ _ fun i j => ?_
  rw [G9_at, ref_dw]

end Cert.OutIdeal.Val

end

end
-- ==== Proof.InIn.lean ====
/- The backward call of the input projection, the kernel's inputs: what its host lines put into the arrays the kernel reads, and what
   the kernel's windows show of them at each grid point. Hand-written. -/
module

public import proofs.«01_k».proof.Proof.Gen.InIdeal.Value
public import proofs.«01_k».proof.Proof.Tile
public import Idealize.ShloMosaic.Lib.Pointwise
public import Idealize.ShloMosaic.Lib.KernelVsHost

@[expose] public section

set_option maxRecDepth 16384

noncomputable section

namespace Cert.InIdeal.Val

open Idealize.ShloMosaic Idealize.ShloMosaic.TcCoe Idealize.SL.Sem Cert.InIdeal Cert.InIdeal.Gen

variable (m : (ℓ : Loc nD τ sig) → Buf (Elt Ideal) ℓ) (c : Dev nD)

/-! ## The arguments -/

/-- The block's input. -/
def x (s : Fin 2048) (k : Fin 1024) : EReal := m ((c : Thread nD τ).loc main_arg0) (ix3 (0 : Fin 1) s k)
/-- The six modulation vectors as the network below computes them … -/
def modv (k : Fin 6144) : EReal := m ((c : Thread nD τ).loc main_arg1) (ix2 (0 : Fin 1) k)
/-- … and their bias. -/
def biasv (k : Fin 6144) : EReal := m ((c : Thread nD τ).loc main_arg2) (ix2 (0 : Fin 1) k)
/-- The norm's weight. -/
def nw (k : Fin 1024) : EReal := m ((c : Thread nD τ).loc main_arg3) (ix2 (0 : Fin 1) k)
/-- The input projection's weight. -/
def w (k : Fin 1024) (q : Fin 3080) : EReal := m ((c : Thread nD τ).loc main_arg4) (ix3 (0 : Fin 1) k q)
/-- The gradient at the projection's output. -/
def dp (s : Fin 2048) (q : Fin 3080) : EReal := m ((c : Thread nD τ).loc main_arg5) (ix3 (0 : Fin 1) s q)
/-- The gradient at the block's input that comes past the branch. -/
def dx1 (s : Fin 2048) (k : Fin 1024) : EReal := m ((c : Thread nD τ).loc main_arg6) (ix3 (0 : Fin 1) s k)
/-- The scale: one plus the second of the six vectors. -/
def sc (k : Fin 1024) : EReal := 1 + (modv m c ⟨1024 + k.val, by omega⟩ + biasv m c ⟨1024 + k.val, by omega⟩)

/-! ## The host lines -/

theorem V_x (s : Fin 2048) (k : Fin 1024) : V m c main_v11 (ix2 s k) = x m c s k := by
  unfold V hostOps0 hostOps0_1 hostOps0_2 hostOps0_3 hostOps0_4
  simp only [List.flatten_cons, List.flatten_nil, List.cons_append, List.nil_append, List.append_nil]
  after_results
  pointwise
  rfl

theorem V_dx1 (s : Fin 2048) (k : Fin 1024) : V m c main_v12 (ix2 s k) = dx1 m c s k := by
  unfold V hostOps0 hostOps0_1 hostOps0_2 hostOps0_3 hostOps0_4
  simp only [List.flatten_cons, List.flatten_nil, List.cons_append, List.nil_append, List.append_nil]
  after_results
  pointwise
  rfl

theorem V_dc (s : Fin 2048) (q : Fin 1024) : V m c main_v2 (ix2 s q) = dp m c s ⟨q.val, by omega⟩ := by
  unfold V hostOps0 hostOps0_1 hostOps0_2 hostOps0_3 hostOps0_4
  simp only [List.flatten_cons, List.flatten_nil, List.cons_append, List.nil_append, List.append_nil]
  after_results
  pointwise
  rfl

theorem V_dg (s : Fin 2048) (q : Fin 2048) : V m c main_v3 (ix2 s q) = dp m c s ⟨1024 + q.val, by omega⟩ := by
  unfold V hostOps0 hostOps0_1 hostOps0_2 hostOps0_3 hostOps0_4
  simp only [List.flatten_cons, List.flatten_nil, List.cons_append, List.nil_append, List.append_nil]
  after_results
  pointwise
  rfl

theorem V_wm (q : Fin 3080) (k : Fin 1024) : V m c main_v8 (ix2 q k) = w m c k q := by
  unfold V hostOps0 hostOps0_1 hostOps0_2 hostOps0_3 hostOps0_4
  simp only [List.flatten_cons, List.flatten_nil, List.cons_append, List.nil_append, List.append_nil]
  after_results
  pointwise
  rfl

theorem V_v4 (s : Fin 2048) (q : Fin 8) : V m c main_v4 (ix2 s q) = dp m c s ⟨3072 + q.val, by omega⟩ := by
  unfold V hostOps0 hostOps0_1 hostOps0_2 hostOps0_3 hostOps0_4
  simp only [List.flatten_cons, List.flatten_nil, List.cons_append, List.nil_append, List.append_nil]
  after_results
  pointwise
  rfl

theorem V_v9 (q : Fin 8) (k : Fin 1024) : V m c main_v9 (ix2 q k) = w m c k ⟨3072 + q.val, by omega⟩ := by
  unfold V hostOps0 hostOps0_1 hostOps0_2 hostOps0_3 hostOps0_4
  simp only [List.flatten_cons, List.flatten_nil, List.cons_append, List.nil_append, List.append_nil]
  after_results
  pointwise
  rfl

theorem V_db (s : Fin 2048) (q : Fin 128) : V m c main_v5 (ix2 s q) = if h : q.val < 8 then dp m c s ⟨3072 + q.val, by omega⟩ else (0 : EReal) := by
  have e : V m c main_v5 = pad S2048x128 ![0, 0] ![0, 120] ![0, 0] (V m c main_v4)
      (sitofp (F := Ideal) .bf16 (constantI S_ 32 0#32)) pads_S2048x8_S2048x128_000_01200 h_S_ := by
    unfold V hostOps0 hostOps0_1 hostOps0_2 hostOps0_3 hostOps0_4
    simp only [List.flatten_cons, List.flatten_nil, List.cons_append, List.nil_append, List.append_nil]
    after_results
    rfl
  rw [e]
  split
  next h =>
    rw [pad_apply_of_inside _ _ _ _ _ _ _ _ (ix2 s ⟨q.val, h⟩) fun a => by
      match a with
      | ⟨0, _⟩ => show s.val = 0 + s.val * 1; omega
      | ⟨1, _⟩ => show q.val = 0 + q.val * 1; omega]
    exact V_v4 m c s _
  next h =>
    rw [pad_apply_of_not_inside _ _ _ _ _ _ _ _ ⟨1, Nat.one_lt_two⟩ fun hin => h (by
      have h2 : (q.val - 0) / (0 + 1) < 8 := hin.2.2
      omega)]
    show (((0#32 : BitVec 32).toInt : ℝ) : EReal) = 0
    simp

theorem V_wb (q : Fin 128) (k : Fin 1024) : V m c main_v10 (ix2 q k) = if h : q.val < 8 then w m c k ⟨3072 + q.val, by omega⟩ else (0 : EReal) := by
  have e : V m c main_v10 = pad S128x1024 ![0, 0] ![120, 0] ![0, 0] (V m c main_v9) (sitofp (F := Ideal) .bf16 (constantI S_ 32 0#32)) pads_S8x1024_S128x1024_01200_000 h_S_ := by
    unfold V hostOps0 hostOps0_1 hostOps0_2 hostOps0_3 hostOps0_4
    simp only [List.flatten_cons, List.flatten_nil, List.cons_append, List.nil_append, List.append_nil]
    after_results
    rfl
  rw [e]
  split
  next h =>
    rw [pad_apply_of_inside _ _ _ _ _ _ _ _ (ix2 ⟨q.val, h⟩ k) fun a => by
      match a with
      | ⟨0, _⟩ => show q.val = 0 + q.val * 1; omega
      | ⟨1, _⟩ => show k.val = 0 + k.val * 1; omega]
    exact V_v9 m c _ k
  next h =>
    rw [pad_apply_of_not_inside _ _ _ _ _ _ _ _ ⟨0, Nat.two_pos⟩ fun hin => h (by
      have h2 : (q.val - 0) / (0 + 1) < 8 := hin.2.2
      omega)]
    show (((0#32 : BitVec 32).toInt : ℝ) : EReal) = 0
    simp

/-! ## The windows -/

theorem lt_rows (t : Fin cfg0.N) (r : Fin 512) : 512 * t.val + r.val < 2048 := by
  have h : t.val < 4 := lt_of_lt_of_eq t.isLt N_0
  omega

/-- The row of the array that row `r` of tile `t` is. -/
abbrev row (t : Fin cfg0.N) (r : Fin 512) : Fin 2048 := ⟨512 * t.val + r.val, lt_rows t r⟩

theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)
theorem idx7 : ∀ t : Fin cfg0.N, win0_7.index t 0 = 0 ∧ win0_7.index t 1 = 0 := (by decide +kernel : ∀ t : Fin grid0.N, _)
theorem idx8 : ∀ t : Fin cfg0.N, win0_8.index t 0 = 0 ∧ win0_8.index t 1 = 0 := (by decide +kernel : ∀ t : Fin grid0.N, _)
theorem idx9 : ∀ t : Fin cfg0.N, win0_9.index t 0 = 0 ∧ win0_9.index t 1 = 0 := (by decide +kernel : ∀ t : Fin grid0.N, _)

theorem blk_dc (t : Fin cfg0.N) (r : Fin 512) (k : Fin 1024) : (iblk m c 0 t : Vec Ideal S512x1024 .bf16) (ix2 r k) = dp m c (row t r) ⟨k.val, by omega⟩ :=
  (congrArg (V m c main_v2) (Tile.ix2_of _ (row t r) k (Tile.tile_coord 512 r.val (idx0 t).1)
    (Tile.whole_coord 1024 k.val (idx0 t).2))).trans (V_dc m c (row t r) k)

theorem blk_dg (t : Fin cfg0.N) (r : Fin 512) (k : Fin 2048) : (iblk m c 1 t : Vec Ideal S512x2048 .bf16) (ix2 r k) = dp m c (row t r) ⟨1024 + k.val, by omega⟩ :=
  (congrArg (V m c main_v3) (Tile.ix2_of _ (row t r) k (Tile.tile_coord 512 r.val (idx1 t).1)
    (Tile.whole_coord 2048 k.val (idx1 t).2))).trans (V_dg m c (row t r) k)

theorem blk_db (t : Fin cfg0.N) (r : Fin 512) (k : Fin 128) : (iblk m c 2 t : Vec Ideal S512x128 .bf16) (ix2 r k) = if h : k.val < 8 then dp m c (row t r) ⟨3072 + k.val, by omega⟩ else (0 : EReal) :=
  (congrArg (V m c main_v5) (Tile.ix2_of _ (row t r) k (Tile.tile_coord 512 r.val (idx2 t).1)
    (Tile.whole_coord 128 k.val (idx2 t).2))).trans (V_db m c (row t r) k)

theorem blk_x (t : Fin cfg0.N) (r : Fin 512) (k : Fin 1024) : (iblk m c 3 t : Vec Ideal S512x1024 .f32) (ix2 r k) = x m c (row t r) k :=
  (congrArg (V m c main_v11) (Tile.ix2_of _ (row t r) k (Tile.tile_coord 512 r.val (idx3 t).1)
    (Tile.whole_coord 1024 k.val (idx3 t).2))).trans (V_x m c (row t r) k)

theorem blk_dx1 (t : Fin cfg0.N) (r : Fin 512) (k : Fin 1024) : (iblk m c 4 t : Vec Ideal S512x1024 .f32) (ix2 r k) = dx1 m c (row t r) k :=
  (congrArg (V m c main_v12) (Tile.ix2_of _ (row t r) k (Tile.tile_coord 512 r.val (idx4 t).1)
    (Tile.whole_coord 1024 k.val (idx4 t).2))).trans (V_dx1 m c (row t r) k)

theorem blk_nw (t : Fin cfg0.N) (k : Fin 1024) : (iblk m c 5 t : Vec Ideal S1x1024 .f32) (ix2 0 k) = nw m c k :=
  (congrArg (V m c main_arg3) (Tile.ix2_of _ (0 : Fin 1) k (Tile.whole_coord 1 0 (idx5 t).1)
    (Tile.whole_coord 1024 k.val (idx5 t).2))).trans (congrFun (V_main_arg3 m c) _)

theorem blk_mod (t : Fin cfg0.N) (k : Fin 6144) : (iblk m c 6 t : Vec Ideal S1x6144 .f32) (ix2 0 k) = modv m c k :=
  (congrArg (V m c main_arg1) (Tile.ix2_of _ (0 : Fin 1) k (Tile.whole_coord 1 0 (idx6 t).1)
    (Tile.whole_coord 6144 k.val (idx6 t).2))).trans (congrFun (V_main_arg1 m c) _)

theorem blk_bias (t : Fin cfg0.N) (k : Fin 6144) : (iblk m c 7 t : Vec Ideal S1x6144 .f32) (ix2 0 k) = biasv m c k :=
  (congrArg (V m c main_arg2) (Tile.ix2_of _ (0 : Fin 1) k (Tile.whole_coord 1 0 (idx7 t).1)
    (Tile.whole_coord 6144 k.val (idx7 t).2))).trans (congrFun (V_main_arg2 m c) _)

theorem blk_wm (t : Fin cfg0.N) (q : Fin 3072) (k : Fin 1024) : (X0_8 m c t : Vec Ideal S3072x1024 .bf16) (ix2 q k) = w m c k ⟨q.val, by omega⟩ := by
  unfold X0_8 Pipeline.Window.fill
  rw [dif_pos (moved0_8 t _)]
  exact (congrArg (V m c main_v8) (Tile.ix2_of _ (⟨q.val, by omega⟩ : Fin 3080) k
    (Tile.whole_coord 3072 q.val (idx8 t).1)
    (Tile.whole_coord 1024 k.val (idx8 t).2))).trans (V_wm m c _ k)

theorem blk_wb (t : Fin cfg0.N) (q : Fin 128) (k : Fin 1024) :
    (iblk m c 9 t : Vec Ideal S128x1024 .bf16) (ix2 q k) = if h : q.val < 8 then w m c k ⟨3072 + q.val, by omega⟩ else (0 : EReal) :=
  (congrArg (V m c main_v10) (Tile.ix2_of _ q k (Tile.whole_coord 128 q.val (idx9 t).1)
    (Tile.whole_coord 1024 k.val (idx9 t).2))).trans (V_wb m c q k)

end Cert.InIdeal.Val

end

end
-- ==== Proof.InPt.lean ====
/- The backward call of the input projection, the kernel's values: what each grid point leaves. Hand-written. -/
module

public import proofs.«01_k».proof.Proof.InIn
public import Idealize.ShloMosaic.Lib.ValueLayoutCasts

@[expose] public section

noncomputable section

namespace Cert.InIdeal.Val

open Idealize.ShloMosaic.TcCoe Idealize.SL.Sem Cert.InIdeal Cert.InIdeal.Gen Cert.Tile
open Idealize.ShloMosaic hiding ix1 ix2 ix3 eq_ix2
open Idealize.ShloMosaic.ValueIdx (ix1 ix2 ix3 eq_ix2)

/-! ## The body's expressions, read at an entry -/

theorem pay3_at (v3 : Vec Ideal S512x1024 .bf16) (v5 : Vec Ideal S1024x1024 .bf16) (v8 : Vec Ideal S512x2048 .bf16) (v10 : Vec Ideal S2048x1024 .bf16)
    (v14 : Vec Ideal S512x128 .bf16) (v16 : Vec Ideal S128x1024 .bf16) (r : Fin 512) (k : Fin 1024) :
    k0_pay3 v3 v5 v8 v10 v14 v16 (ix2 r k) = (∑ q : Fin 1024, v3 (ix2 r q) * v5 (ix2 q k) + ∑ q : Fin 2048, v8 (ix2 r q) * v10 (ix2 q k))
      + ∑ q : Fin 128, v14 (ix2 r q) * v16 (ix2 q k) := by
  unfold k0_pay3
  simp only [shapeCast_self, ValueIdx.addf_apply]
  exact congrArg₂ (· + ·) (congrArg₂ (· + ·) (matmul_NN _ rfl _ _ _ r k) (matmul_NN _ rfl _ _ _ r k)) (matmul_NN _ rfl _ _ _ r k)

/-- The reciprocal root of a row's mean square. -/
theorem pay5_at (v20 : Vec Ideal S512x1024 .f32) (r : Fin 512) :
    k0_pay5 v20 (ix2 r 0) = Ideal.rsqrt (Ideal.div (∑ k : Fin 1024, v20 (ix2 r k) * v20 (ix2 r k)) (Ideal.ofBits .f32 0x44800000#32)
      + Ideal.ofBits .f32 0x358637BD#32) := by
  unfold k0_pay5 k0_pay4
  simp only [shapeCast_self]
  refine congrArg (fun z => Ideal.rsqrt (Ideal.div z _ + _)) ((ValueIdx.shapeCast_a_a1_apply _ _ r 0).trans ?_)
  exact rowsum_apply _ _ _ _ _ r

theorem pay6_at (v20 : Vec Ideal S512x1024 .f32) (r : Fin 512) (k : Fin 1024) : k0_pay6 v20 (ix2 r k) = v20 (ix2 r k) * k0_pay5 v20 (ix2 r 0) := by
  unfold k0_pay6 k0_pay4
  simp only [shapeCast_self, ValueIdx.mulf_apply]
  exact congrArg (_ * ·) (bcol_apply _ _ (by decide) r k)

theorem pay8_at (v19 : FVec Ideal S512x1024 .f32) (v33 : FVec Ideal S1x1024 .f32) (k : Fin 1024) :
    k0_pay8 v19 v33 (ix2 0 k) = v33 (ix2 0 k) + ∑ r : Fin 512, v19 (ix2 r k) := by
  unfold k0_pay8
  simp only [ValueIdx.addf_apply]
  exact congrArg _ ((ValueIdx.shapeCast_a_1a_apply _ _ 0 k).trans (colsum_apply _ _ _ _ _ k))

theorem pay9_at (v19 v31 : FVec Ideal S512x1024 .f32) (v38 v40 : Vec Ideal S1x1024 .f32) (k : Fin 1024) :
    k0_pay9 v19 v31 v38 v40 (ix2 0 k) = v38 (ix2 0 k) + ∑ r : Fin 512, v19 (ix2 r k) * (v31 (ix2 r k) * v40 (ix2 0 k)) := by
  unfold k0_pay9
  simp only [shapeCast_self, ValueIdx.addf_apply]
  refine congrArg _ ((ValueIdx.shapeCast_a_1a_apply _ _ 0 k).trans ((colsum_apply _ _ _ _ _ k).trans (Finset.sum_congr rfl fun r _ => ?_)))
  exact congrArg (fun z => v19 (ix2 r k) * (v31 (ix2 r k) * z)) (brow_apply _ _ (by decide) r k)

theorem pay10_at (v19 : FVec Ideal S512x1024 .f32) (v48 v49 : Vec Ideal S1x1024 .f32) (r : Fin 512) (k : Fin 1024) :
    k0_pay10 v19 v48 v49 (ix2 r k) = v19 (ix2 r k) * (1 + (v48 (ix2 0 k) + v49 (ix2 0 k))) := by
  unfold k0_pay10
  simp only [ValueIdx.mulf_apply]
  refine congrArg (_ * ·) ((brow_apply _ _ (by decide) r k).trans ?_)
  exact congrArg (· + _) Ideal.ofBits_one_f32

theorem pay11_at (v19 v31 : FVec Ideal S512x1024 .f32) (v48 v49 v55 : Vec Ideal S1x1024 .f32) (k : Fin 1024) :
    k0_pay11 v19 v31 v48 v49 v55 (ix2 0 k) = v55 (ix2 0 k) + ∑ r : Fin 512, k0_pay10 v19 v48 v49 (ix2 r k) * v31 (ix2 r k) := by
  unfold k0_pay11
  simp only [shapeCast_self, ValueIdx.addf_apply]
  exact congrArg _ ((ValueIdx.shapeCast_a_1a_apply _ _ 0 k).trans (colsum_apply _ _ _ _ _ k))

theorem pay12_at (v19 : FVec Ideal S512x1024 .f32) (v48 v49 v62 : Vec Ideal S1x1024 .f32) (r : Fin 512) (k : Fin 1024) :
    k0_pay12 v19 v48 v49 v62 (ix2 r k) = k0_pay10 v19 v48 v49 (ix2 r k) * v62 (ix2 0 k) := by
  unfold k0_pay12
  simp only [ValueIdx.mulf_apply]
  exact congrArg (_ * ·) (brow_apply _ _ (by decide) r k)

theorem pay1_at (v29 : FVec Ideal S512x1 .f32) (v31 v64 v66 : FVec Ideal S512x1024 .f32) (r : Fin 512) (k : Fin 1024) :
    k0_pay1 v29 v31 v64 v66 (ix2 r k) = v66 (ix2 r k) + v29 (ix2 r 0) * (v64 (ix2 r k)
      - v31 (ix2 r k) * Ideal.div (∑ j : Fin 1024, v64 (ix2 r j) * v31 (ix2 r j)) (Ideal.ofBits .f32 0x44800000#32)) := by
  unfold k0_pay1
  simp only [ValueIdx.addf_apply, ValueIdx.mulf_apply, ValueIdx.subf_apply]
  refine congrArg₂ (fun y z => v66 (ix2 r k) + y * (v64 (ix2 r k) - v31 (ix2 r k) * z)) (bcol_apply _ _ (by decide) r k)
    ((bcol_apply _ _ (by decide) r k).trans ?_)
  exact congrArg (Ideal.div · _) ((ValueIdx.shapeCast_a_a1_apply _ _ r 0).trans (rowsum_apply _ _ _ _ _ r))

theorem pay2_at (i : Fin 8) (k : Fin 1024) : (k0_pay2 : FVec Ideal S8x1024 .f32) (ix2 i k) = 0 := by
  unfold k0_pay2
  exact Ideal.ofBits_zero_f32

variable (m : (ℓ : Loc nD τ sig) → Buf (Elt Ideal) ℓ) (c : Dev nD)

/-! ## One row of the array -/

/-- A row's mean square plus the small constant … -/
def ms (s : Fin 2048) : EReal := Ideal.div (∑ k : Fin 1024, x m c s k * x m c s k) (Ideal.ofBits .f32 0x44800000#32) + Ideal.ofBits .f32 0x358637BD#32
/-- … and its reciprocal root. -/
def rt (s : Fin 2048) : EReal := Ideal.rsqrt (ms m c s)
/-- The gradient at the projection's input. -/
def dh (s : Fin 2048) (k : Fin 1024) : EReal := ∑ q : Fin 3080, dp m c s q * w m c k q
/-- The gradient at the normalised row. -/
def dn (s : Fin 2048) (k : Fin 1024) : EReal := (dh m c s k * sc m c k) * nw m c k
/-- The gradient at the block's input. -/
def gx (s : Fin 2048) (k : Fin 1024) : EReal := dx1 m c s k + rt m c s * (dn m c s k
  - (x m c s k * rt m c s) * Ideal.div (∑ j : Fin 1024, dn m c s j * (x m c s j * rt m c s)) (Ideal.ofBits .f32 0x44800000#32))

/-! ## One grid point -/

abbrev bdc (t : Fin cfg0.N) : Vec Ideal S512x1024 .bf16 := iblk m c 0 t
abbrev bdg (t : Fin cfg0.N) : Vec Ideal S512x2048 .bf16 := iblk m c 1 t
abbrev bdb (t : Fin cfg0.N) : Vec Ideal S512x128 .bf16 := iblk m c 2 t
abbrev bx (t : Fin cfg0.N) : Vec Ideal S512x1024 .f32 := iblk m c 3 t
abbrev bd (t : Fin cfg0.N) : Vec Ideal S512x1024 .f32 := iblk m c 4 t
abbrev bn (t : Fin cfg0.N) : Vec Ideal S1x1024 .f32 := iblk m c 5 t
abbrev bm (t : Fin cfg0.N) : Vec Ideal S1x1024 .f32 :=
  View.ld (iblk m c 6 t : Vec Ideal S1x6144 .f32) (Rect.unit (s := ⟨2, ![1, 6144]⟩) ![0, 1024] ![1, 1024] inb_S1x6144_S1x1024_0_1024)
abbrev bb (t : Fin cfg0.N) : Vec Ideal S1x1024 .f32 :=
  View.ld (iblk m c 7 t : Vec Ideal S1x6144 .f32) (Rect.unit (s := ⟨2, ![1, 6144]⟩) ![0, 1024] ![1, 1024] inb_S1x6144_S1x1024_0_1024)
abbrev bw0 (t : Fin cfg0.N) : Vec Ideal S1024x1024 .bf16 :=
  View.ld (X0_8 m c t : Vec Ideal S3072x1024 .bf16) (Rect.unit (s := ⟨2, ![3072, 1024]⟩) ![0, 0] ![1024, 1024] inb_S3072x1024_S1024x1024_0_0)
abbrev bw1 (t : Fin cfg0.N) : Vec Ideal S2048x1024 .bf16 :=
  View.ld (X0_8 m c t : Vec Ideal S3072x1024 .bf16) (Rect.unit (s := ⟨2, ![3072, 1024]⟩) ![1024, 0] ![2048, 1024] inb_S3072x1024_S2048x1024_1024_0)
abbrev bw2 (t : Fin cfg0.N) : Vec Ideal S128x1024 .bf16 := iblk m c 9 t
/-- The tile of the gradient at the projection's input. -/
abbrev tdh (t : Fin cfg0.N) : FVec Ideal S512x1024 .f32 := k0_pay3 (bdc m c t) (bw0 m c t) (bdg m c t) (bw1 m c t) (bdb m c t) (bw2 m c t)

theorem bm_at (t : Fin cfg0.N) (k : Fin 1024) : bm m c t (ix2 0 k) = modv m c ⟨1024 + k.val, by omega⟩ :=
  (ld_at _ 0 1024 1 1024 _ 0 k 0 ⟨1024 + k.val, by omega⟩ rfl rfl).trans (blk_mod m c t _)
theorem bb_at (t : Fin cfg0.N) (k : Fin 1024) : bb m c t (ix2 0 k) = biasv m c ⟨1024 + k.val, by omega⟩ :=
  (ld_at _ 0 1024 1 1024 _ 0 k 0 ⟨1024 + k.val, by omega⟩ rfl rfl).trans (blk_bias m c t _)
theorem bw0_at (t : Fin cfg0.N) (q k : Fin 1024) : bw0 m c t (ix2 q k) = w m c k ⟨q.val, by omega⟩ :=
  (ld_at _ 0 0 1024 1024 _ q k ⟨q.val, by omega⟩ k (by show q.val = 0 + q.val; omega) (by omega)).trans (blk_wm m c t _ k)
theorem bw1_at (t : Fin cfg0.N) (q : Fin 2048) (k : Fin 1024) : bw1 m c t (ix2 q k) = w m c k ⟨1024 + q.val, by omega⟩ :=
  (ld_at _ 1024 0 2048 1024 _ q k ⟨1024 + q.val, by omega⟩ k rfl (by omega)).trans (blk_wm m c t _ k)
theorem bdb_at (t : Fin cfg0.N) (r : Fin 512) (q : Fin 128) :
    bdb m c t (ix2 r q) = if h : q.val < 8 then dp m c (row t r) ⟨3072 + q.val, by omega⟩ else 0 := blk_db m c t r q
theorem bw2_at (t : Fin cfg0.N) (q : Fin 128) (k : Fin 1024) :
    bw2 m c t (ix2 q k) = if h : q.val < 8 then w m c k ⟨3072 + q.val, by omega⟩ else 0 := blk_wb m c t q k

theorem tile_dh (t : Fin cfg0.N) (r : Fin 512) (k : Fin 1024) : tdh m c t (ix2 r k) = dh m c (row t r) k := by
  unfold tdh
  rw [pay3_at]
  unfold dh
  rw [sum_three 1024 2048 8 (fun q : Fin 3080 => dp m c (row t r) q * w m c k q)]
  refine congrArg₂ (· + ·) (congrArg₂ (· + ·) (Finset.sum_congr rfl fun q _ => ?_) (Finset.sum_congr rfl fun q _ => ?_)) ?_
  · exact congrArg₂ (· * ·) (blk_dc m c t r q) (bw0_at m c t q k)
  · exact congrArg₂ (· * ·) (blk_dg m c t r q) (bw1_at m c t q k)
  · refine (sum_head 8 120 _ fun i hi => ?_).trans (Finset.sum_congr rfl fun q _ => ?_)
    · rw [bdb_at, dif_neg (by omega), zero_mul]
    · rw [bdb_at, bw2_at, dif_pos (show q.val < 8 from q.isLt), dif_pos (show q.val < 8 from q.isLt)]

theorem tile_rt (t : Fin cfg0.N) (r : Fin 512) : k0_pay5 (bx m c t) (ix2 r 0) = rt m c (row t r) := by
  rw [pay5_at]
  unfold rt ms
  refine congrArg (fun z => Ideal.rsqrt (Ideal.div z _ + _)) (Finset.sum_congr rfl fun k _ => ?_)
  exact congrArg₂ (· * ·) (blk_x m c t r k) (blk_x m c t r k)

theorem tile_xr (t : Fin cfg0.N) (r : Fin 512) (k : Fin 1024) : k0_pay6 (bx m c t) (ix2 r k) = x m c (row t r) k * rt m c (row t r) := by
  rw [pay6_at, tile_rt]
  exact congrArg (· * _) (blk_x m c t r k)

theorem tile_dg (t : Fin cfg0.N) (r : Fin 512) (k : Fin 1024) :
    k0_pay10 (tdh m c t) (bm m c t) (bb m c t) (ix2 r k) = dh m c (row t r) k * sc m c k := by
  rw [pay10_at, tile_dh, bm_at, bb_at]
  rfl

theorem tile_dn (t : Fin cfg0.N) (r : Fin 512) (k : Fin 1024) :
    k0_pay12 (tdh m c t) (bm m c t) (bb m c t) (bn m c t) (ix2 r k) = dn m c (row t r) k := by
  rw [pay12_at, tile_dg]
  exact congrArg (_ * ·) (blk_nw m c t k)

theorem tile_gx (t : Fin cfg0.N) (r : Fin 512) (k : Fin 1024) :
    k0_pay1 (k0_pay5 (bx m c t)) (k0_pay6 (bx m c t)) (k0_pay12 (tdh m c t) (bm m c t) (bb m c t) (bn m c t)) (k0_pay13 (bd m c t)) (ix2 r k)
      = gx m c (row t r) k := by
  rw [pay1_at, tile_rt, tile_xr, tile_dn]
  unfold k0_pay13 gx
  rw [shapeCast_self]
  refine congrArg₂ (fun y z => y + rt m c (row t r) * (dn m c (row t r) k - x m c (row t r) k * rt m c (row t r) * Ideal.div z _)) (blk_dx1 m c t r k)
    (Finset.sum_congr rfl fun j _ => ?_)
  exact congrArg₂ (· * ·) (tile_dn m c t r j) (tile_xr m c t r j)

theorem gx_at (t : Fin cfg0.N) (r : Fin 512) (k : Fin 1024) : (outsAt0 m c t.val t.isLt).1 (ix2 r k) = gx m c (row t r) k := by
  by_cases h0 : t.val % 4 = 0
  · rw [outsAt0_A m c t h0]
    dsimp only
    unfold out0_A_10 kernelRun0_A
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_9 t).read_unread, ld_whole]
    rw [whole_hit]
    exact tile_gx m c t r k
  · rw [outsAt0_B m c t h0]
    dsimp only
    unfold out0_B_10 kernelRun0_B
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_9 t).read_unread, ld_whole]
    rw [whole_hit]
    exact tile_gx m c t r k

/-! ## The rows of statistics -/

/-- What a point adds to rows 0, 1 and 2: the gradients of the shift, of the norm's weight and of the scale. -/
def d0 (s : Fin 2048) (k : Fin 1024) : EReal := dh m c s k
def d1 (s : Fin 2048) (k : Fin 1024) : EReal := dh m c s k * ((x m c s k * rt m c s) * nw m c k)
def d2 (s : Fin 2048) (k : Fin 1024) : EReal := (dh m c s k * sc m c k) * (x m c s k * rt m c s)

theorem tile_s0 (t : Fin cfg0.N) (v : Vec Ideal S1x1024 .f32) (k : Fin 1024) :
    k0_pay8 (tdh m c t) (k0_pay7 v) (ix2 0 k) = v (ix2 0 k) + ∑ r : Fin 512, d0 m c (row t r) k := by
  rw [pay8_at]
  unfold k0_pay7
  rw [shapeCast_self]
  exact congrArg _ (Finset.sum_congr rfl fun r _ => tile_dh m c t r k)

theorem tile_s1 (t : Fin cfg0.N) (v : Vec Ideal S1x1024 .f32) (k : Fin 1024) :
    k0_pay9 (tdh m c t) (k0_pay6 (bx m c t)) v (bn m c t) (ix2 0 k) = v (ix2 0 k) + ∑ r : Fin 512, d1 m c (row t r) k := by
  rw [pay9_at]
  refine congrArg _ (Finset.sum_congr rfl fun r _ => ?_)
  rw [tile_dh, tile_xr]
  exact congrArg (fun z => dh m c (row t r) k * (_ * z)) (blk_nw m c t k)

theorem tile_s2 (t : Fin cfg0.N) (v : Vec Ideal S1x1024 .f32) (k : Fin 1024) :
    k0_pay11 (tdh m c t) (k0_pay6 (bx m c t)) (bm m c t) (bb m c t) v (ix2 0 k) = v (ix2 0 k) + ∑ r : Fin 512, d2 m c (row t r) k := by
  rw [pay11_at]
  refine congrArg _ (Finset.sum_congr rfl fun r _ => ?_)
  rw [tile_dg, tile_xr]
  rfl

/-- What the point before left. -/
abbrev prev (t : Fin cfg0.N) := outsAt0 m c (t.val - 1) (Nat.lt_of_le_of_lt (Nat.sub_le _ _) t.isLt)

theorem st0_step (t : Fin cfg0.N) (k : Fin 1024) : (outsAt0 m c t.val t.isLt).2 (ix2 0 k)
    = (if t.val % 4 = 0 then 0 else (prev m c t).2 (ix2 0 k)) + ∑ r : Fin 512, d0 m c (row t r) k := by
  by_cases h0 : t.val % 4 = 0
  · rw [outsAt0_A m c t h0, if_pos h0]
    dsimp only
    unfold out0_A_11 kernelRun0_A
    dsimp only
    sl_unfold_words
    simp only [View.readAt_eq_ld, View.readCov, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread, (hs0_9 t).read_unread, ld_whole]
    rw [row_miss _ _ 2 _ _ _ 0 (by decide), row_miss _ _ 1 _ _ _ 0 (by decide), row_hit _ _ 0 _ _ _ 0 rfl]
    refine (tile_s0 m c t _ k).trans ?_
    rw [ld_at _ 0 0 1 1024 _ 0 k 0 k rfl (by omega), whole_hit, pay2_at]
  · rw [outsAt0_B m c t h0, if_neg h0]
    dsimp only
    unfold out0_B_11 kernelRun0_B
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread, (hs0_9 t).read_unread, ld_whole]
    rw [row_miss _ _ 2 _ _ _ 0 (by decide), row_miss _ _ 1 _ _ _ 0 (by decide), row_hit _ _ 0 _ _ _ 0 rfl]
    refine (tile_s0 m c t _ k).trans ?_
    rw [ld_at _ 0 0 1 1024 _ 0 k 0 k rfl (by omega), (hs0_11 t).read_unread]

theorem st1_step (t : Fin cfg0.N) (k : Fin 1024) : (outsAt0 m c t.val t.isLt).2 (ix2 1 k)
    = (if t.val % 4 = 0 then 0 else (prev m c t).2 (ix2 1 k)) + ∑ r : Fin 512, d1 m c (row t r) k := by
  by_cases h0 : t.val % 4 = 0
  · rw [outsAt0_A m c t h0, if_pos h0]
    dsimp only
    unfold out0_A_11 kernelRun0_A
    dsimp only
    sl_unfold_words
    simp only [View.readAt_eq_ld, View.readCov, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread, (hs0_9 t).read_unread, ld_whole]
    rw [row_miss _ _ 2 _ _ _ 1 (by decide), row_hit _ _ 1 _ _ _ 1 rfl]
    refine (tile_s1 m c t _ k).trans ?_
    rw [ld_at _ 1 0 1 1024 _ 0 k 1 k rfl (by omega), row_miss _ _ 0 _ _ _ 1 (by decide), whole_hit, pay2_at]
  · rw [outsAt0_B m c t h0, if_neg h0]
    dsimp only
    unfold out0_B_11 kernelRun0_B
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread, (hs0_9 t).read_unread, ld_whole]
    rw [row_miss _ _ 2 _ _ _ 1 (by decide), row_hit _ _ 1 _ _ _ 1 rfl]
    refine (tile_s1 m c t _ k).trans ?_
    rw [ld_at _ 1 0 1 1024 _ 0 k 1 k rfl (by omega), (hs0_11 t).read_unread]

theorem st2_step (t : Fin cfg0.N) (k : Fin 1024) : (outsAt0 m c t.val t.isLt).2 (ix2 2 k)
    = (if t.val % 4 = 0 then 0 else (prev m c t).2 (ix2 2 k)) + ∑ r : Fin 512, d2 m c (row t r) k := by
  by_cases h0 : t.val % 4 = 0
  · rw [outsAt0_A m c t h0, if_pos h0]
    dsimp only
    unfold out0_A_11 kernelRun0_A
    dsimp only
    sl_unfold_words
    simp only [View.readAt_eq_ld, View.readCov, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread, (hs0_9 t).read_unread, ld_whole]
    rw [row_hit _ _ 2 _ _ _ 2 rfl]
    refine (tile_s2 m c t _ k).trans ?_
    rw [ld_at _ 2 0 1 1024 _ 0 k 2 k rfl (by omega), row_miss _ _ 1 _ _ _ 2 (by decide), row_miss _ _ 0 _ _ _ 2 (by decide), whole_hit, pay2_at]
  · rw [outsAt0_B m c t h0, if_neg h0]
    dsimp only
    unfold out0_B_11 kernelRun0_B
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread, (hs0_9 t).read_unread, ld_whole]
    rw [row_hit _ _ 2 _ _ _ 2 rfl]
    refine (tile_s2 m c t _ k).trans ?_
    rw [ld_at _ 2 0 1 1024 _ 0 k 2 k rfl (by omega), (hs0_11 t).read_unread]

theorem st_rest (t : Fin cfg0.N) (i : Fin 8) (hi : 2 < i.val) (k : Fin 1024) :
    (outsAt0 m c t.val t.isLt).2 (ix2 i k) = if t.val % 4 = 0 then 0 else (prev m c t).2 (ix2 i k) := by
  by_cases h0 : t.val % 4 = 0
  · rw [outsAt0_A m c t h0, if_pos h0]
    dsimp only
    unfold out0_A_11 kernelRun0_A
    dsimp only
    sl_unfold_words
    rw [row_miss _ _ 2 _ _ _ i (by omega), row_miss _ _ 1 _ _ _ i (by omega), row_miss _ _ 0 _ _ _ i (by omega), whole_hit, pay2_at]
  · rw [outsAt0_B m c t h0, if_neg h0]
    dsimp only
    unfold out0_B_11 kernelRun0_B
    dsimp only
    sl_unfold_words
    rw [row_miss _ _ 2 _ _ _ i (by omega), row_miss _ _ 1 _ _ _ i (by omega), row_miss _ _ 0 _ _ _ i (by omega), View.writes_nil,
      (hs0_11 t).read_unread]

/-! ## After the last point -/

theorem st0_at (k : Fin 1024) (h : 3 < cfg0.N) : (outsAt0 m c 3 h).2 (ix2 0 k) = ∑ s : Fin 2048, d0 m c s k :=
  sweep 4 512 N_0 (by decide) rfl _ (fun n hn => (outsAt0 m c n hn).2 (ix2 0 k)) _ (fun t r => ⟨lt_rows t r, rfl⟩) (fun t => st0_step m c t k) h
theorem st1_at (k : Fin 1024) (h : 3 < cfg0.N) : (outsAt0 m c 3 h).2 (ix2 1 k) = ∑ s : Fin 2048, d1 m c s k :=
  sweep 4 512 N_0 (by decide) rfl _ (fun n hn => (outsAt0 m c n hn).2 (ix2 1 k)) _ (fun t r => ⟨lt_rows t r, rfl⟩) (fun t => st1_step m c t k) h
theorem st2_at (k : Fin 1024) (h : 3 < cfg0.N) : (outsAt0 m c 3 h).2 (ix2 2 k) = ∑ s : Fin 2048, d2 m c s k :=
  sweep 4 512 N_0 (by decide) rfl _ (fun n hn => (outsAt0 m c n hn).2 (ix2 2 k)) _ (fun t r => ⟨lt_rows t r, rfl⟩) (fun t => st2_step m c t k) h
theorem st_zero (i : Fin 8) (hi : 2 < i.val) (k : Fin 1024) (h : 3 < cfg0.N) : (outsAt0 m c 3 h).2 (ix2 i k) = 0 :=
  sweep_zero 4 N_0 (fun n hn => (outsAt0 m c n hn).2 (ix2 i k)) (fun t => st_rest m c t i hi k) 3 h

end Cert.InIdeal.Val

end

end
-- ==== Proof.Norm.lean ====
/- The gradient of a root-mean-square norm over the extended reals: the form in which a kernel writes it by hand and the form that
   differentiating the norm line by line gives are equal, whatever the entries are. Hand-written. -/
module

public import Idealize.ShloMosaic.PureOps.Ideal.Laws

@[expose] public section

noncomputable section

namespace Cert.Tile

open Idealize.ShloMosaic

/-- A square is not negative. -/
theorem sq_nonneg' (x : EReal) : 0 ≤ x * x := by
  induction x using EReal.rec with
  | bot => simp
  | top => simp
  | coe y => rw [← EReal.coe_mul]; exact_mod_cast mul_self_nonneg y

/-- Either every entry is a real number, or the sum of the squares is infinite. -/
theorem sumsq_cases {N : ℕ} (x : Fin N → EReal) : (∃ y : Fin N → ℝ, ∀ j, x j = (y j : EReal)) ∨ ∑ j, x j * x j = ⊤ := by
  by_cases h : ∃ j, x j = ⊤ ∨ x j = ⊥
  · right
    obtain ⟨j, hj⟩ := h
    have e : x j * x j = ⊤ := by rcases hj with h | h <;> rw [h] <;> simp
    exact top_le_iff.1 (e ▸ Finset.single_le_sum (f := fun j => x j * x j) (fun i _ => sq_nonneg' (x i)) (Finset.mem_univ j))
  · left
    refine ⟨fun j => (x j).toReal, fun j => (EReal.coe_toReal (fun e => h ⟨j, Or.inl e⟩) (fun e => h ⟨j, Or.inr e⟩)).symm⟩

theorem coe_sum' {N : ℕ} (y : Fin N → ℝ) : ((∑ j, y j : ℝ) : EReal) = ∑ j, (y j : EReal) := by
  induction (Finset.univ : Finset (Fin N)) using Finset.cons_induction with
  | empty => simp
  | cons a s ha ih => rw [Finset.sum_cons, Finset.sum_cons, EReal.coe_add, ih]

/-- The mean of the squares plus a positive number is a positive real number when the entries are real … -/
theorem meansq_coe {N : ℕ} (y : Fin N → ℝ) {c ε : ℝ} (hc : 0 < c) (hε : 0 < ε) :
    ∃ α : ℝ, 0 < α ∧ Ideal.div (∑ j, (y j : EReal) * (y j : EReal)) (c : EReal) + (ε : EReal) = (α : EReal) := by
  refine ⟨(∑ j, y j * y j) * (1 / c) + ε, ?_, ?_⟩
  · have : 0 ≤ (∑ j, y j * y j) * (1 / c) :=
      mul_nonneg (Finset.sum_nonneg fun j _ => mul_self_nonneg _) (by positivity)
    linarith
  · rw [Ideal.div_coe hc.ne', EReal.coe_add, EReal.coe_mul, coe_sum']
    simp only [EReal.coe_mul]

/-- … and infinite otherwise. -/
theorem meansq_top {c ε : ℝ} (hc : 0 < c) : Ideal.div ⊤ (c : EReal) + (ε : EReal) = ⊤ := by
  rw [Ideal.div_coe hc.ne', EReal.top_mul_coe_of_pos (by positivity), EReal.top_add_coe]

/-- A positive number goes into a sum. -/
theorem mul_sum_pos {N : ℕ} (f : Fin N → EReal) {t : ℝ} (ht : 0 ≤ t) : (t : EReal) * ∑ j, f j = ∑ j, (t : EReal) * f j := by
  induction (Finset.univ : Finset (Fin N)) using Finset.cons_induction with
  | empty => simp
  | cons a s ha ih =>
    rw [Finset.sum_cons, Finset.sum_cons,
      EReal.left_distrib_of_nonneg_of_ne_top (by exact_mod_cast ht) (EReal.coe_ne_top t), ih]

theorem add_self' (z : EReal) : z + z = ((2 : ℝ) : EReal) * z := by
  induction z using EReal.rec with
  | bot => rw [EReal.coe_mul_bot_of_pos two_pos]; rfl
  | top => rw [EReal.coe_mul_top_of_pos two_pos]; rfl
  | coe y => rw [← EReal.coe_add, ← EReal.coe_mul, two_mul]

/-- The two forms of the norm's gradient. `x` is the row, `g` the gradient arriving at the normalised row, `b` what arrives besides. -/
theorem norm_grad {N : ℕ} (x g : Fin N → EReal) (b : EReal) (k : Fin N) {c ε : ℝ} (hc : 0 < c) (hε : 0 < ε) (a r : EReal)
    (ha : a = Ideal.div (∑ j, x j * x j) (c : EReal) + (ε : EReal)) (hr : r = Ideal.rsqrt a) :
    b + r * (g k - (x k * r) * Ideal.div (∑ j, g j * (x j * r)) (c : EReal))
      = ((b + g k * r) + x k * Ideal.div ((∑ j, x j * g j) * (((-(1 / 2) : ℝ) : EReal) * Ideal.div r a)) (c : EReal))
        + Ideal.div ((∑ j, x j * g j) * (((-(1 / 2) : ℝ) : EReal) * Ideal.div r a)) (c : EReal) * x k := by
  rcases sumsq_cases x with ⟨y, hy⟩ | htop
  · obtain ⟨α, hα, e⟩ := meansq_coe y hc hε
    simp only [hy] at ha ⊢
    rw [e] at ha
    subst ha
    have hs : Real.sqrt α * Real.sqrt α = α := Real.mul_self_sqrt hα.le
    have hp : 0 < Real.sqrt α := Real.sqrt_pos.2 hα
    rw [Ideal.rsqrt_coe, if_neg (not_lt.2 hα.le), if_neg hα.ne'] at hr
    generalize hρ : (Real.sqrt α)⁻¹ = ρ at hr
    subst hr
    have hρ0 : 0 < ρ := hρ ▸ inv_pos.2 hp
    have hαρ : 1 / α = ρ * ρ := by rw [← hρ, ← mul_inv, hs, one_div]
    have hM : ∑ j, g j * ((y j : EReal) * (ρ : EReal)) = (ρ : EReal) * ∑ j, (y j : EReal) * g j := by
      rw [mul_sum_pos _ hρ0.le]
      exact Finset.sum_congr rfl fun j _ => by rw [← mul_assoc, mul_comm, mul_comm (g j)]
    rw [hM]
    generalize ∑ j, (y j : EReal) * g j = S
    rw [Ideal.div_coe hc.ne', Ideal.div_coe hc.ne', Ideal.div_coe hα.ne', hαρ, sub_eq_add_neg,
      EReal.left_distrib_of_nonneg_of_ne_top (by exact_mod_cast hρ0.le) (EReal.coe_ne_top ρ), mul_comm _ (y k : EReal),
      add_assoc (b + _), add_self', mul_comm (g k), ← add_assoc]
    refine congrArg _ ?_
    rw [show ∀ z : EReal, -z = ((-1 : ℝ) : EReal) * z from fun z => by rw [EReal.coe_neg, EReal.coe_one, neg_one_mul]]
    have l : (ρ : EReal) * (((-1 : ℝ) : EReal) * ((y k : EReal) * (ρ : EReal) * ((ρ : EReal) * S * ((1 / c : ℝ) : EReal))))
        = ((ρ * (-1 * (y k * ρ * (ρ * (1 / c)))) : ℝ) : EReal) * S := by
      push_cast
      ac_rfl
    have q : ((2 : ℝ) : EReal) * ((y k : EReal) * (S * (((-(1 / 2) : ℝ) : EReal) * ((ρ : EReal) * ((ρ * ρ : ℝ) : EReal))) * ((1 / c : ℝ) : EReal)))
        = ((2 * (y k * ((-(1 / 2)) * (ρ * (ρ * ρ)) * (1 / c))) : ℝ) : EReal) * S := by
      rw [EReal.coe_mul 2, EReal.coe_mul (y k), EReal.coe_mul _ (1 / c), EReal.coe_mul (-(1 / 2)), EReal.coe_mul ρ (ρ * ρ)]
      ac_rfl
    rw [l, q]
    congr 2
    ring
  · rw [htop, meansq_top hc] at ha
    subst ha
    rw [Ideal.rsqrt_top] at hr
    subst hr
    have h0 : Ideal.div 0 ⊤ = 0 := by rw [Ideal.div, if_neg (by simp)]; simp
    have hc0 : Ideal.div 0 (c : EReal) = 0 := by rw [Ideal.div_coe hc.ne']; simp
    rw [h0]
    simp only [mul_zero, zero_mul, add_zero, hc0]

/-! ## The constants -/

/-- A normal pattern's value from its sign, exponent and fraction. -/
theorem ieee_normal (b : BitVec 32) (neg : Bool) (ex fr : ℕ) (h1 : (b.extractLsb' 31 1 == 1#1) = neg) (h2 : (b.extractLsb' 23 8).toNat = ex)
    (h3 : (b.extractLsb' 0 23).toNat = fr) (h4 : ex ≠ 255) (h5 : ex ≠ 0) :
    Ideal.ofBits .f32 b = (((if neg then -1 else 1) * (2 ^ 23 + fr : ℕ) * (2 : ℝ) ^ ((ex : ℤ) - 127 - 23) : ℝ) : EReal) := by
  subst h1 h2 h3
  show Ideal.ieee 8 23 b = _
  unfold Ideal.ieee
  dsimp only
  rw [if_neg (show ¬(b.extractLsb' 23 8).toNat = 2 ^ 8 - 1 from h4), if_neg h5]
  rfl

theorem ofBits_1024 : Ideal.ofBits .f32 0x44800000#32 = ((1024 : ℝ) : EReal) := by
  rw [ieee_normal _ false 137 0 (by decide) (by decide) (by decide) (by decide) (by decide)]
  norm_num

theorem ofBits_neg_half : Ideal.ofBits .f32 0xBF000000#32 = ((-(1 / 2) : ℝ) : EReal) := by
  rw [ieee_normal _ true 126 0 (by decide) (by decide) (by decide) (by decide) (by decide)]
  refine congrArg _ ?_
  norm_num

theorem ofBits_eps : ∃ ε : ℝ, 0 < ε ∧ Ideal.ofBits .f32 0x358637BD#32 = (ε : EReal) := by
  refine ⟨_, ?_, ieee_normal _ false 107 407485 (by decide) (by decide) (by decide) (by decide) (by decide)⟩
  norm_num

end Cert.Tile

end

end
-- ==== Proof.RefSums.lean ====
/- Host sums once more, in the spelling of an index that the references are read in, and constants of the references. Hand-written. -/
module

public import proofs.«01_k».proof.Proof.HostSums
public import proofs.«01_k».proof.Proof.Norm
public import Idealize.ShloMosaic.Lib.Pointwise

@[expose] public section

set_option maxRecDepth 16384

noncomputable section

namespace Cert.Tile

open Idealize.ShloMosaic Idealize.ShloMosaic.TcCoe Idealize.SL.Sem

theorem sum_11 {N : ℕ} (h : Shape.ReducesTo ⟨3, ![1, 1, N]⟩ [0, 1] ⟨1, ![N]⟩) (x : FVec Ideal ⟨3, ![1, 1, N]⟩ .f32) (init : EReal) (j : Fin N) :
    Ideal.hostReduceAdd h x init (ix1 j) = init + x (ix3 0 0 j) := hostReduce_11 h x init j
theorem sum_02 {M : ℕ} (h : Shape.ReducesTo ⟨3, ![1, M, 1]⟩ [0, 2] ⟨1, ![M]⟩) (x : FVec Ideal ⟨3, ![1, M, 1]⟩ .f32) (init : EReal) (j : Fin M) :
    Ideal.hostReduceAdd h x init (ix1 j) = init + x (ix3 0 j 0) := hostReduce_02 h x init j

/-- The sum over the first and the last axis, both of extent one, of an array of rank four. -/
theorem sum_03 {M Q : ℕ} (h : Shape.ReducesTo ⟨4, ![1, M, Q, 1]⟩ [0, 3] ⟨2, ![M, Q]⟩) (x : FVec Ideal ⟨4, ![1, M, Q, 1]⟩ .f32) (init : EReal)
    (i : Fin M) (j : Fin Q) : Ideal.hostReduceAdd h x init (ix2 i j) = init + x (ix4 0 i j 0) := by
  unfold Ideal.hostReduceAdd
  have e : (Finset.univ.filter fun k => h.drop k = ix2 i j) = {ix4 (0 : Fin 1) i j (0 : Fin 1)} := by
    ext k
    simp only [Finset.mem_filter, Finset.mem_univ, true_and, Finset.mem_singleton]
    constructor
    · intro hk
      have h1 : (k 1).val = i.val := congrArg (fun f => (f 0 : Fin _).val) hk
      have h2 : (k 2).val = j.val := congrArg (fun f => (f 1 : Fin _).val) hk
      funext a; apply Fin.ext
      match a with
      | ⟨0, _⟩ => exact Nat.lt_one_iff.1 (k 0).isLt
      | ⟨1, _⟩ => exact h1
      | ⟨2, _⟩ => exact h2
      | ⟨3, _⟩ => exact Nat.lt_one_iff.1 (k 3).isLt
    · rintro rfl
      funext b; apply Fin.ext
      match b with
      | ⟨0, _⟩ => rfl
      | ⟨1, _⟩ => rfl
  rw [e, Finset.sum_singleton]

theorem ofBits_two : Ideal.ofBits .f32 0x40000000#32 = ((2 : ℝ) : EReal) := by
  rw [ieee_normal _ false 128 0 (by decide) (by decide) (by decide) (by decide) (by decide)]
  refine congrArg _ ?_
  norm_num

theorem ofBits_64 : Ideal.ofBits .f32 0x42800000#32 = ((64 : ℝ) : EReal) := by
  rw [ieee_normal _ false 133 0 (by decide) (by decide) (by decide) (by decide) (by decide)]
  refine congrArg _ ?_
  norm_num

end Cert.Tile

end
-- ==== Proof.InRef.lean ====
/- The backward call of the input projection, the reference's values read at an entry, and that the kernel leaves the same.
   Hand-written. -/
module

public import proofs.«01_k».proof.Proof.InPt
public import proofs.«01_k».proof.Proof.Norm
public import proofs.«01_k».proof.Proof.RefSums
public import proofs.«01_k».proof.Proof.Gen.InRefIdeal.Read
public import Idealize.ShloMosaic.Lib.Pipeline.ValueKit

@[expose] public section

set_option maxRecDepth 16384

noncomputable section

namespace Cert.InIdeal.Val

open Idealize.ShloMosaic Idealize.ShloMosaic.TcCoe Idealize.SL.Sem Cert.InIdeal Cert.InIdeal.Gen Cert.Tile
open Cert.InRefIdeal.Read

variable (m : (ℓ : Loc nD τ sig) → Buf (Elt Ideal) ℓ) (c : Dev nD)

theorem idx10 : ∀ t : Fin cfg0.N, win0_10.index t 0 = t.val ∧ win0_10.index t 1 = 0 := (by decide +kernel : ∀ t : Fin grid0.N, _)

/-- The arguments as the reference is given them. -/
abbrev a0 : FVec Ideal S1x2048x1024 .f32 := m ((c : Thread nD τ).loc main_arg0)
abbrev a1 : FVec Ideal S1x6144 .f32 := m ((c : Thread nD τ).loc main_arg1)
abbrev a2 : FVec Ideal S1x6144 .f32 := m ((c : Thread nD τ).loc main_arg2)
abbrev a3 : FVec Ideal S1x1024 .f32 := m ((c : Thread nD τ).loc main_arg3)
abbrev a4 : FVec Ideal S1x1024x3080 .f32 := m ((c : Thread nD τ).loc main_arg4)
abbrev a5 : FVec Ideal S1x2048x3080 .f32 := m ((c : Thread nD τ).loc main_arg5)
abbrev a6 : FVec Ideal S1x2048x1024 .f32 := m ((c : Thread nD τ).loc main_arg6)

theorem ref_dh (s : Fin 2048) (k : Fin 1024) : val_main_v36 (F := Ideal) (a4 m c) (a5 m c) (ix3 0 s k) = dh m c s k := by
  rw [val_main_v36_apply]
  pointwise [val_main_v10]
  exact Finset.sum_congr rfl fun q _ => congrArg₂ (fun u v : EReal => u * v) (congrArg (a5 m c) (Tile.ix3_of _ 0 s q rfl rfl rfl))
    (congrArg (a4 m c) (Tile.ix3_of _ 0 k q rfl rfl rfl))

theorem ref_ms (s : Fin 2048) (k : Fin 1) : val_main_v17 (F := Ideal) (a0 m c) (ix3 0 s k) = ms m c s := by
  unfold val_main_v17 val_main_v16 val_main_v15 val_main_v14 val_main_v13 val_main_v12
  pointwise [val_main_cst, val_main_cst_0, val_main_cst_1, val_main_v11]
  rfl

theorem ref_rt (s : Fin 2048) (k : Fin 1) : val_main_v18 (F := Ideal) (a0 m c) (ix3 0 s k) = rt m c s := by
  unfold val_main_v18
  pointwise [ref_ms]
  rfl

theorem ref_sc (s : Fin 2048) (k : Fin 1024) : val_main_v44 (F := Ideal) (a1 m c) (a2 m c) (ix3 0 s k) = sc m c k := by
  unfold val_main_v44 val_main_v29 val_main_v28 val_main_v27 val_main_v4 val_main_v2 val_main_v1 val_main_v0
  pointwise [val_main_cst_3]
  rfl

theorem ref_dn (s : Fin 2048) (k : Fin 1024) : val_main_v52 (F := Ideal) (a1 m c) (a2 m c) (a3 m c) (a4 m c) (a5 m c) (ix3 0 s k) = dn m c s k := by
  unfold val_main_v52 val_main_v51 val_main_v45 val_main_v24 val_main_v9
  pointwise [ref_sc, ref_dh]
  rfl

theorem ref_d0 (k : Fin 1024) : val_main_v40 (F := Ideal) (a4 m c) (a5 m c) (ix2 0 k) = ∑ s : Fin 2048, d0 m c s k := by
  unfold val_main_v40 val_main_v39 val_main_v38 val_main_v37
  pointwise [sum_11, val_main_cst_4, val_main_cst_5, ref_dh]
  rfl

theorem ref_d1 (k : Fin 1024) : val_main_v47 (F := Ideal) (a0 m c) (a3 m c) (a4 m c) (a5 m c) (ix2 0 k) = ∑ s : Fin 2048, d1 m c s k := by
  unfold val_main_v47 val_main_v46 val_main_v43 val_main_v42 val_main_v41 val_main_v26 val_main_v25 val_main_v24 val_main_v23 val_main_v22 val_main_v9
  pointwise [sum_11, val_main_cst_6, val_main_cst_7, ref_dh, ref_rt]
  exact Finset.sum_congr rfl fun s _ => mul_comm _ _

theorem ref_d2 (k : Fin 1024) : val_main_v70 (F := Ideal) (a0 m c) (a1 m c) (a2 m c) (a4 m c) (a5 m c) (ix2 0 k) = ∑ s : Fin 2048, d2 m c s k := by
  unfold val_main_v70 val_main_v53 val_main_v50 val_main_v49 val_main_v48 val_main_v45 val_main_v23 val_main_v22
  pointwise [sum_11, val_main_cst_8, val_main_cst_9, ref_dh, ref_rt, ref_sc]
  exact Finset.sum_congr rfl fun s _ => mul_comm _ _

theorem ref_gx (s : Fin 2048) (k : Fin 1024) :
    val_main_v73 (F := Ideal) (a0 m c) (a1 m c) (a2 m c) (a3 m c) (a4 m c) (a5 m c) (a6 m c) (ix2 s k) = gx m c s k := by
  unfold val_main_v73 val_main_v69 val_main_v68 val_main_v67 val_main_v66 val_main_v65 val_main_v64 val_main_v63 val_main_v62 val_main_v61 val_main_v60
    val_main_v59 val_main_v58 val_main_v57 val_main_v56 val_main_v55 val_main_v54 val_main_v21 val_main_v20 val_main_v19
  pointwise [sum_02, val_main_cst_10, val_main_cst_11, val_main_cst_12, val_main_cst_2, ref_dn, ref_rt, ref_ms]
  obtain ⟨ε, hε, he⟩ := ofBits_eps
  unfold gx
  rw [ofBits_1024, ofBits_neg_half]
  refine (norm_grad (fun j => x m c s j) (fun j => dn m c s j) (dx1 m c s k) k (by norm_num) hε (ms m c s) (rt m c s) ?_ rfl).symm
  unfold ms
  rw [ofBits_1024, he]

theorem fin_tiled : (dats m 0 c).arrAt 10 cfg0.N = val_main_v73 (F := Ideal) (a0 m c) (a1 m c) (a2 m c) (a3 m c) (a4 m c) (a5 m c) (a6 m c) := by
  refine (dats m 0 c).arrAt_eq_of_covers 10 _ (by decide +kernel) fun t hf y => ?_
  blk_simp
  rw [after0_10]
  obtain ⟨r, k, rfl⟩ : ∃ (r : Fin 512) (k : Fin 1024), y = ix2 r k := ⟨_, _, eq_ix2 y⟩
  refine (gx_at m c t r k).trans ((ref_gx m c (row t r) k).symm.trans ?_)
  exact congrArg _ (Tile.ix2_of _ (row t r) k (Tile.tile_coord 512 r.val (idx10 t).1) (Tile.whole_coord 1024 k.val (idx10 t).2)).symm

theorem fin_st : (dats m 0 c).arrAt 11 cfg0.N = val_main_v72 (F := Ideal) (a0 m c) (a1 m c) (a2 m c) (a3 m c) (a4 m c) (a5 m c) := by
  refine (dats m 0 c).arrAt_eq_of_after_last 11 t0_3 (by decide +kernel) _ fun j => ?_
  blk_simp
  rw [after0_11]
  obtain ⟨i, k, rfl⟩ : ∃ (i : Fin 8) (k : Fin 1024), j = ix2 i k := ⟨_, _, eq_ix2 j⟩
  unfold val_main_v72
  pointwise
  by_cases hi : i.val ≤ 2
  · obtain hi | hi | hi : i.val = 0 ∨ i.val = 1 ∨ i.val = 2 := by omega
    · obtain rfl : i = 0 := Fin.ext hi
      exact (st0_at m c k t0_3.isLt).trans (ref_d0 m c k).symm
    · obtain rfl : i = 1 := Fin.ext hi
      exact (st1_at m c k t0_3.isLt).trans (ref_d1 m c k).symm
    · obtain rfl : i = 2 := Fin.ext hi
      exact (st2_at m c k t0_3.isLt).trans (ref_d2 m c k).symm
  · rw [dif_neg (by omega), dif_neg (by omega), dif_neg (by omega)]
    refine (st_zero m c i (by omega) k t0_3.isLt).trans ?_
    unfold val_main_v71
    pointwise [val_main_cst_13]

end Cert.InIdeal.Val

end

end
-- ==== Proof.FfnIn.lean ====
/- The backward call of the feed-forward block, the kernel's inputs: what its host lines put into the arrays the kernel reads, and what
   the kernel's windows show of them at each grid point. Hand-written. -/
module

public import proofs.«01_k».proof.Proof.Gen.FfnIdeal.Value
public import proofs.«01_k».proof.Proof.Tile
public import Idealize.ShloMosaic.Lib.Pointwise
public import Idealize.ShloMosaic.Lib.KernelVsHost

@[expose] public section

set_option maxRecDepth 16384

noncomputable section

namespace Cert.FfnIdeal.Val

open Idealize.ShloMosaic Idealize.ShloMosaic.TcCoe Idealize.SL.Sem Cert.FfnIdeal Cert.FfnIdeal.Gen

variable (m : (ℓ : Loc nD τ sig) → Buf (Elt Ideal) ℓ) (c : Dev nD)

/-! ## The arguments -/

/-- The block's input. -/
def x (s : Fin 2048) (k : Fin 1024) : EReal := m ((c : Thread nD τ).loc main_arg0) (ix3 (0 : Fin 1) s k)
/-- The six modulation vectors as the network below computes them … -/
def modv (k : Fin 6144) : EReal := m ((c : Thread nD τ).loc main_arg1) (ix2 (0 : Fin 1) k)
/-- … and their bias. -/
def biasv (k : Fin 6144) : EReal := m ((c : Thread nD τ).loc main_arg2) (ix2 (0 : Fin 1) k)
/-- The norm's weight. -/
def nw (k : Fin 1024) : EReal := m ((c : Thread nD τ).loc main_arg3) (ix2 (0 : Fin 1) k)
/-- The two weights. -/
def wi (k : Fin 1024) (q : Fin 5632) : EReal := m ((c : Thread nD τ).loc main_arg4) (ix3 (0 : Fin 1) k q)
def wo (q : Fin 2816) (k : Fin 1024) : EReal := m ((c : Thread nD τ).loc main_arg5) (ix3 (0 : Fin 1) q k)
/-- The gradient at the block's output. -/
def dx2 (s : Fin 2048) (k : Fin 1024) : EReal := m ((c : Thread nD τ).loc main_arg6) (ix3 (0 : Fin 1) s k)
/-- The shift, the scale and the gate: the last three of the six vectors. -/
def sh (k : Fin 1024) : EReal := modv m c ⟨3072 + k.val, by omega⟩ + biasv m c ⟨3072 + k.val, by omega⟩
def sc (k : Fin 1024) : EReal := 1 + (modv m c ⟨4096 + k.val, by omega⟩ + biasv m c ⟨4096 + k.val, by omega⟩)
def gt (k : Fin 1024) : EReal := modv m c ⟨5120 + k.val, by omega⟩ + biasv m c ⟨5120 + k.val, by omega⟩
/-- A row's mean square plus the small constant … -/
def ms (s : Fin 2048) : EReal := Ideal.div (∑ k : Fin 1024, x m c s k * x m c s k) (Ideal.ofBits .f32 0x44800000#32) + Ideal.ofBits .f32 0x358637BD#32
/-- … and its reciprocal root. -/
def rt (s : Fin 2048) : EReal := Ideal.rsqrt (ms m c s)
/-- The normalised and modulated row, and its product with the first weight. -/
def h (s : Fin 2048) (k : Fin 1024) : EReal := ((x m c s k * rt m c s) * nw m c k) * sc m c k + sh m c k
def pre (s : Fin 2048) (q : Fin 5632) : EReal := ∑ k : Fin 1024, h m c s k * wi m c k q

/-! ## The host lines -/

theorem V_dffn (s : Fin 2048) (k : Fin 1024) : V m c main_v35 (ix2 s k) = gt m c k * dx2 m c s k := by
  unfold V hostOps0
  after_results
  pointwise
  rfl

theorem V_x (s : Fin 2048) (k : Fin 1024) : V m c main_v43 (ix2 s k) = x m c s k := by
  unfold V hostOps0
  after_results
  pointwise
  rfl

theorem V_dx2 (s : Fin 2048) (k : Fin 1024) : V m c main_v44 (ix2 s k) = dx2 m c s k := by
  unfold V hostOps0
  after_results
  pointwise
  rfl

theorem V_wi (j : Fin 8) (q : Fin 704) (k : Fin 1024) : V m c main_v39 (ix3 j q k) = wi m c k ⟨j.val * 704 + q.val, by omega⟩ := by
  unfold V hostOps0
  after_results
  pointwise
  rfl

theorem V_wo (j : Fin 4) (q : Fin 704) (k : Fin 1024) : V m c main_v42 (ix3 j q k) = wo m c ⟨j.val * 704 + q.val, by omega⟩ k := by
  unfold V hostOps0
  after_results
  pointwise
  rfl

theorem dot_pre (a : FVec Ideal S2048x1024 .bf16) (b : FVec Ideal S1024x5632 .bf16) (s : Fin 2048) (q : Fin 5632) :
    Host.dotGeneral (F := Ideal) (φ₁ := .bf16) (φ₂ := .bf16) dot_S2048x1024_S1024x5632_S2048x5632_1_0_0_1_n_n none a b (ix2 s q) = ∑ k : Fin 1024, a (ix2 s k) * b (ix2 k q) :=
  Tile.host_NN _ rfl _ _ _ _ s q

theorem V_pre (j : Fin 8) (s : Fin 2048) (q : Fin 704) : V m c main_v31 (ix3 j s q) = pre m c s ⟨j.val * 704 + q.val, by omega⟩ := by
  unfold V hostOps0
  after_results
  pointwise [dot_pre]
  rfl

/-! ## The windows -/

theorem lt_rows (t : Fin cfg0.N) (r : Fin 256) : 256 * t.val + r.val < 2048 := by
  have h : t.val < 8 := lt_of_lt_of_eq t.isLt N_0
  omega

/-- The row of the array that row `r` of tile `t` is. -/
abbrev row (t : Fin cfg0.N) (r : Fin 256) : Fin 2048 := ⟨256 * t.val + r.val, lt_rows t r⟩

theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = t.val ∧ win0_1.index t 2 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)
theorem idx7 : ∀ t : Fin cfg0.N, win0_7.index t 0 = 0 ∧ win0_7.index t 1 = 0 ∧ win0_7.index t 2 = 0 := (by decide +kernel : ∀ t : Fin grid0.N, _)
theorem idx8 : ∀ t : Fin cfg0.N, win0_8.index t 0 = 0 ∧ win0_8.index t 1 = 0 ∧ win0_8.index t 2 = 0 := (by decide +kernel : ∀ t : Fin grid0.N, _)
theorem idx9 : ∀ t : Fin cfg0.N, win0_9.index t 0 = 0 ∧ win0_9.index t 1 = t.val ∧ win0_9.index t 2 = 0 := (by decide +kernel : ∀ t : Fin grid0.N, _)
theorem idx10 : ∀ t : Fin cfg0.N, win0_10.index t 0 = t.val ∧ win0_10.index t 1 = 0 := (by decide +kernel : ∀ t : Fin grid0.N, _)
theorem idx11 : ∀ t : Fin cfg0.N, win0_11.index t 0 = 0 ∧ win0_11.index t 1 = 0 := (by decide +kernel : ∀ t : Fin grid0.N, _)

theorem blk_dffn (t : Fin cfg0.N) (r : Fin 256) (k : Fin 1024) : (iblk m c 0 t : Vec Ideal S256x1024 .bf16) (ix2 r k) = gt m c k * dx2 m c (row t r) k :=
  (congrArg (V m c main_v35) (Tile.ix2_of _ (row t r) k (Tile.tile_coord 256 r.val (idx0 t).1)
    (Tile.whole_coord 1024 k.val (idx0 t).2))).trans (V_dffn m c (row t r) k)

theorem blk_x (t : Fin cfg0.N) (r : Fin 256) (k : Fin 1024) : (iblk m c 2 t : Vec Ideal S256x1024 .f32) (ix2 r k) = x m c (row t r) k :=
  (congrArg (V m c main_v43) (Tile.ix2_of _ (row t r) k (Tile.tile_coord 256 r.val (idx2 t).1)
    (Tile.whole_coord 1024 k.val (idx2 t).2))).trans (V_x m c (row t r) k)

theorem blk_dx2 (t : Fin cfg0.N) (r : Fin 256) (k : Fin 1024) : (iblk m c 3 t : Vec Ideal S256x1024 .f32) (ix2 r k) = dx2 m c (row t r) k :=
  (congrArg (V m c main_v44) (Tile.ix2_of _ (row t r) k (Tile.tile_coord 256 r.val (idx3 t).1)
    (Tile.whole_coord 1024 k.val (idx3 t).2))).trans (V_dx2 m c (row t r) k)

theorem blk_mod (t : Fin cfg0.N) (k : Fin 6144) : (iblk m c 4 t : Vec Ideal S1x6144 .f32) (ix2 0 k) = modv m c k :=
  (congrArg (V m c main_arg1) (Tile.ix2_of _ (0 : Fin 1) k (Tile.whole_coord 1 0 (idx4 t).1)
    (Tile.whole_coord 6144 k.val (idx4 t).2))).trans (congrFun (V_main_arg1 m c) _)

theorem blk_bias (t : Fin cfg0.N) (k : Fin 6144) : (iblk m c 5 t : Vec Ideal S1x6144 .f32) (ix2 0 k) = biasv m c k :=
  (congrArg (V m c main_arg2) (Tile.ix2_of _ (0 : Fin 1) k (Tile.whole_coord 1 0 (idx5 t).1)
    (Tile.whole_coord 6144 k.val (idx5 t).2))).trans (congrFun (V_main_arg2 m c) _)

theorem blk_nw (t : Fin cfg0.N) (k : Fin 1024) : (iblk m c 6 t : Vec Ideal S1x1024 .f32) (ix2 0 k) = nw m c k :=
  (congrArg (V m c main_arg3) (Tile.ix2_of _ (0 : Fin 1) k (Tile.whole_coord 1 0 (idx6 t).1)
    (Tile.whole_coord 1024 k.val (idx6 t).2))).trans (congrFun (V_main_arg3 m c) _)

theorem blk_pre (t : Fin cfg0.N) (j : Fin 8) (r : Fin 256) (q : Fin 704) :
    (iblk m c 1 t : Vec Ideal S8x256x704 .bf16) (ix3 j r q) = pre m c (row t r) ⟨j.val * 704 + q.val, by omega⟩ :=
  (congrArg (V m c main_v31) (Tile.ix3_of _ j (row t r) q (Tile.whole_coord 8 j.val (idx1 t).1) (Tile.tile_coord 256 r.val (idx1 t).2.1)
    (Tile.whole_coord 704 q.val (idx1 t).2.2))).trans (V_pre m c j (row t r) q)

theorem blk_wi (t : Fin cfg0.N) (j : Fin 8) (q : Fin 704) (k : Fin 1024) :
    (iblk m c 7 t : Vec Ideal S8x704x1024 .bf16) (ix3 j q k) = wi m c k ⟨j.val * 704 + q.val, by omega⟩ :=
  (congrArg (V m c main_v39) (Tile.ix3_of _ j q k (Tile.whole_coord 8 j.val (idx7 t).1) (Tile.whole_coord 704 q.val (idx7 t).2.1)
    (Tile.whole_coord 1024 k.val (idx7 t).2.2))).trans (V_wi m c j q k)

theorem blk_wo (t : Fin cfg0.N) (j : Fin 4) (q : Fin 704) (k : Fin 1024) :
    (iblk m c 8 t : Vec Ideal S4x704x1024 .bf16) (ix3 j q k) = wo m c ⟨j.val * 704 + q.val, by omega⟩ k :=
  (congrArg (V m c main_v42) (Tile.ix3_of _ j q k (Tile.whole_coord 4 j.val (idx8 t).1) (Tile.whole_coord 704 q.val (idx8 t).2.1)
    (Tile.whole_coord 1024 k.val (idx8 t).2.2))).trans (V_wo m c j q k)

end Cert.FfnIdeal.Val

end

end
-- ==== Proof.FfnPt.lean ====
/- The backward call of the feed-forward block, the kernel's values: what each grid point leaves. Hand-written. -/
module

public import proofs.«01_k».proof.Proof.FfnIn
public import Idealize.ShloMosaic.Lib.ValueLayoutCasts

@[expose] public section

set_option maxRecDepth 16384

noncomputable section

namespace Cert.FfnIdeal.Val

open Idealize.ShloMosaic.TcCoe Idealize.SL.Sem Cert.FfnIdeal Cert.FfnIdeal.Gen Cert.Tile
open Idealize.ShloMosaic hiding ix1 ix2 ix3 eq_ix2
open Idealize.ShloMosaic.ValueIdx (ix1 ix2 ix3 eq_ix2)

/-! ## The body's expressions, read at an entry -/

/-- The slope of the gate's nonlinearity at `f`. -/
def slope (f : EReal) : EReal := Ideal.logistic f * (1 + f * (1 - Ideal.logistic f))

theorem dact_at (v3 : Vec Ideal S256x1024 .bf16) (v13 : Vec Ideal S1x704x1024 .bf16) (r : Fin 256) (q : Fin 704) :
    k0_pay7 v3 v13 (ix2 r q) = ∑ k : Fin 1024, v3 (ix2 r k) * v13 (ix3 0 q k) := by
  unfold k0_pay7 k0_pay3
  simp only [shapeCast_self]
  refine (matmul_NT _ rfl none _ _ r q).trans (Finset.sum_congr rfl fun k _ => congrArg (fun z : EReal => v3 (ix2 r k) * z) ?_)
  exact ValueIdx.shapeCast_1ab_ab_apply _ _ q k

theorem pay8_at (v3 : Vec Ideal S256x1024 .bf16) (v6 v9 : Vec Ideal S1x256x704 .bf16) (v13 : Vec Ideal S1x704x1024 .bf16) (r : Fin 256) (q : Fin 704) :
    k0_pay8 v3 v6 v9 v13 (ix2 r q) = (∑ k : Fin 1024, v3 (ix2 r k) * v13 (ix3 0 q k)) * v9 (ix3 0 r q) * slope (v6 (ix3 0 r q)) := by
  unfold slope
  rw [← Ideal.ofBits_one_f32]
  unfold k0_pay8 k0_pay6 k0_pay5
  exact congrArg₂ (fun a b : EReal => a * b) (congrArg₂ (fun a b : EReal => a * b) (dact_at v3 v13 r q) (ValueIdx.shapeCast_1ab_ab_apply v9 _ r q))
    (congrArg (fun f : EReal => Ideal.logistic f * (Ideal.ofBits .f32 0x3F800000#32 + f * (Ideal.ofBits .f32 0x3F800000#32 - Ideal.logistic f)))
      (ValueIdx.shapeCast_1ab_ab_apply v6 _ r q))

theorem pay9_at (v3 : Vec Ideal S256x1024 .bf16) (v6 : Vec Ideal S1x256x704 .bf16) (v13 : Vec Ideal S1x704x1024 .bf16) (r : Fin 256) (q : Fin 704) :
    k0_pay9 v3 v6 v13 (ix2 r q) = (∑ k : Fin 1024, v3 (ix2 r k) * v13 (ix3 0 q k)) * (v6 (ix3 0 r q) * Ideal.logistic (v6 (ix3 0 r q))) := by
  unfold k0_pay9 k0_pay6 k0_pay5
  exact congrArg₂ (fun a b : EReal => a * b) (dact_at v3 v13 r q) (congrArg (fun f : EReal => f * Ideal.logistic f) (ValueIdx.shapeCast_1ab_ab_apply v6 _ r q))

theorem pay12_at (v5 : FVec Ideal S256x1024 .f32) (v24 v27 : FVec Ideal S256x704 .bf16) (v34 v38 : Vec Ideal S1x704x1024 .bf16) (r : Fin 256) (k : Fin 1024) :
    k0_pay12 v5 v24 v27 v34 v38 (ix2 r k) = (v5 (ix2 r k) + ∑ q : Fin 704, v24 (ix2 r q) * v34 (ix3 0 q k)) + ∑ q : Fin 704, v27 (ix2 r q) * v38 (ix3 0 q k) := by
  unfold k0_pay12
  simp only [ValueIdx.addf_apply]
  refine congrArg₂ (fun a b : EReal => (v5 (ix2 r k) + a) + b) ((matmul_NN _ rfl none _ _ r k).trans (Finset.sum_congr rfl fun q _ => ?_))
    ((matmul_NN _ rfl none _ _ r k).trans (Finset.sum_congr rfl fun q _ => ?_))
  · exact congrArg (fun z : EReal => v24 (ix2 r q) * z) (ValueIdx.shapeCast_1ab_ab_apply _ _ q k)
  · exact congrArg (fun z : EReal => v27 (ix2 r q) * z) (ValueIdx.shapeCast_1ab_ab_apply _ _ q k)

/-- The reciprocal root of a row's mean square. -/
theorem pay38_at (v : Vec Ideal S256x1024 .f32) (r : Fin 256) :
    k0_pay38 v (ix2 r 0) = Ideal.rsqrt (Ideal.div (∑ k : Fin 1024, v (ix2 r k) * v (ix2 r k)) (Ideal.ofBits .f32 0x44800000#32)
      + Ideal.ofBits .f32 0x358637BD#32) := by
  unfold k0_pay38 k0_pay37
  simp only [shapeCast_self]
  refine congrArg (fun z => Ideal.rsqrt (Ideal.div z _ + _)) ((ValueIdx.shapeCast_a_a1_apply _ _ r 0).trans ?_)
  exact rowsum_apply _ _ _ _ _ r

theorem pay39_at (v : Vec Ideal S256x1024 .f32) (r : Fin 256) (k : Fin 1024) : k0_pay39 v (ix2 r k) = v (ix2 r k) * k0_pay38 v (ix2 r 0) := by
  unfold k0_pay39 k0_pay37
  simp only [shapeCast_self, ValueIdx.mulf_apply]
  exact congrArg (_ * ·) (bcol_apply _ _ (by decide) r k)

theorem pay40_at (v113 : FVec Ideal S256x1024 .f32) (v132 v135 : FVec Ideal S256x704 .bf16) (v142 v146 : Vec Ideal S1x704x1024 .bf16) (v162 : Vec Ideal S1x1024 .f32) (k : Fin 1024) :
    k0_pay40 v113 v132 v135 v142 v146 v162 (ix2 0 k) = v162 (ix2 0 k) + ∑ r : Fin 256, k0_pay36 v113 v132 v135 v142 v146 (ix2 r k) := by
  unfold k0_pay40
  simp only [shapeCast_self, ValueIdx.addf_apply]
  exact congrArg _ ((ValueIdx.shapeCast_a_1a_apply _ _ 0 k).trans (colsum_apply _ _ _ _ _ k))

theorem pay41_at (v149 v161 : FVec Ideal S256x1024 .f32) (v168 v170 : Vec Ideal S1x1024 .f32) (k : Fin 1024) :
    k0_pay41 v149 v161 v168 v170 (ix2 0 k) = v168 (ix2 0 k) + ∑ r : Fin 256, v149 (ix2 r k) * (v161 (ix2 r k) * v170 (ix2 0 k)) := by
  unfold k0_pay41
  simp only [shapeCast_self, ValueIdx.addf_apply]
  refine congrArg _ ((ValueIdx.shapeCast_a_1a_apply _ _ 0 k).trans ((colsum_apply _ _ _ _ _ k).trans (Finset.sum_congr rfl fun r _ => ?_)))
  exact congrArg (fun z => v149 (ix2 r k) * (v161 (ix2 r k) * z)) (brow_apply _ _ (by decide) r k)

theorem pay42_at (v149 : FVec Ideal S256x1024 .f32) (v178 v179 : Vec Ideal S1x1024 .f32) (r : Fin 256) (k : Fin 1024) :
    k0_pay42 v149 v178 v179 (ix2 r k) = v149 (ix2 r k) * (1 + (v178 (ix2 0 k) + v179 (ix2 0 k))) := by
  unfold k0_pay42
  simp only [ValueIdx.mulf_apply]
  refine congrArg (_ * ·) ((brow_apply _ _ (by decide) r k).trans ?_)
  exact congrArg (· + _) Ideal.ofBits_one_f32

theorem pay43_at (v149 v161 : FVec Ideal S256x1024 .f32) (v178 v179 v185 : Vec Ideal S1x1024 .f32) (k : Fin 1024) :
    k0_pay43 v149 v161 v178 v179 v185 (ix2 0 k) = v185 (ix2 0 k) + ∑ r : Fin 256, k0_pay42 v149 v178 v179 (ix2 r k) * v161 (ix2 r k) := by
  unfold k0_pay43
  simp only [shapeCast_self, ValueIdx.addf_apply]
  exact congrArg _ ((ValueIdx.shapeCast_a_1a_apply _ _ 0 k).trans (colsum_apply _ _ _ _ _ k))

theorem pay45_at (v149 v161 : FVec Ideal S256x1024 .f32) (v178 v179 v192 : Vec Ideal S1x1024 .f32) (r : Fin 256) (k : Fin 1024) :
    k0_pay45 v149 v161 v178 v179 v192 (ix2 r k) = k0_pay42 v149 v178 v179 (ix2 r k) * v192 (ix2 0 k) - v161 (ix2 r k)
      * Ideal.div (∑ j : Fin 1024, (k0_pay42 v149 v178 v179 (ix2 r j) * v192 (ix2 0 j)) * v161 (ix2 r j)) (Ideal.ofBits .f32 0x44800000#32) := by
  unfold k0_pay45
  simp only [ValueIdx.subf_apply, ValueIdx.mulf_apply]
  refine congrArg₂ (fun y z => k0_pay42 v149 v178 v179 (ix2 r k) * y - v161 (ix2 r k) * z) (brow_apply _ _ (by decide) r k)
    ((bcol_apply _ _ (by decide) r k).trans ?_)
  refine congrArg (Ideal.div · _) ((ValueIdx.shapeCast_a_a1_apply _ _ r 0).trans ((rowsum_apply _ _ _ _ _ r).trans (Finset.sum_congr rfl fun j _ => ?_)))
  exact congrArg (fun z => (k0_pay42 v149 v178 v179 (ix2 r j) * z) * v161 (ix2 r j)) (brow_apply _ _ (by decide) r j)

theorem pay1_at (v159 : FVec Ideal S256x1 .f32) (v196 v204 : FVec Ideal S256x1024 .f32) (r : Fin 256) (k : Fin 1024) :
    k0_pay1 v159 v196 v204 (ix2 r k) = v196 (ix2 r k) + v159 (ix2 r 0) * v204 (ix2 r k) := by
  unfold k0_pay1
  simp only [ValueIdx.addf_apply, ValueIdx.mulf_apply]
  exact congrArg (fun y => v196 (ix2 r k) + y * v204 (ix2 r k)) (bcol_apply _ _ (by decide) r k)

theorem pay2_at (i : Fin 8) (k : Fin 1024) : (k0_pay2 : FVec Ideal S8x1024 .f32) (ix2 i k) = 0 := by
  unfold k0_pay2
  exact Ideal.ofBits_zero_f32

theorem pay4_at (r : Fin 256) (k : Fin 1024) : (k0_pay4 : FVec Ideal S256x1024 .f32) (ix2 r k) = 0 := by
  unfold k0_pay4
  exact Ideal.ofBits_zero_f32

variable (m : (ℓ : Loc nD τ sig) → Buf (Elt Ideal) ℓ) (c : Dev nD)

/-! ## One row of the array -/

/-- The gradient at the activation. -/
def dact (s : Fin 2048) (q : Fin 2816) : EReal := ∑ k : Fin 1024, (gt m c k * dx2 m c s k) * wo m c q k
/-- The gradient at the first product: in its first half at the gate, in its second half at the value the gate multiplies. -/
def df (s : Fin 2048) (q : Fin 5632) : EReal :=
  if h : q.val < 2816 then dact m c s ⟨q.val, h⟩ * pre m c s ⟨2816 + q.val, by omega⟩ * slope (pre m c s q)
  else dact m c s ⟨q.val - 2816, by omega⟩ * (pre m c s ⟨q.val - 2816, by omega⟩ * Ideal.logistic (pre m c s ⟨q.val - 2816, by omega⟩))
/-- The gradient at the modulated row. -/
def dh (s : Fin 2048) (k : Fin 1024) : EReal := ∑ q : Fin 5632, df m c s q * wi m c k q
/-- The gradient at the normalised row. -/
def dn (s : Fin 2048) (k : Fin 1024) : EReal := (dh m c s k * sc m c k) * nw m c k
/-- The gradient at the block's input. -/
def gx (s : Fin 2048) (k : Fin 1024) : EReal := dx2 m c s k + rt m c s * (dn m c s k
  - (x m c s k * rt m c s) * Ideal.div (∑ j : Fin 1024, dn m c s j * (x m c s j * rt m c s)) (Ideal.ofBits .f32 0x44800000#32))

/-! ## One grid point -/

abbrev bd (t : Fin cfg0.N) : Vec Ideal S256x1024 .bf16 := iblk m c 0 t
abbrev bx (t : Fin cfg0.N) : Vec Ideal S256x1024 .f32 := iblk m c 2 t
abbrev be (t : Fin cfg0.N) : Vec Ideal S256x1024 .f32 := iblk m c 3 t
abbrev bn (t : Fin cfg0.N) : Vec Ideal S1x1024 .f32 := iblk m c 6 t
abbrev bm (t : Fin cfg0.N) : Vec Ideal S1x1024 .f32 :=
  View.ld (iblk m c 4 t : Vec Ideal S1x6144 .f32) (Rect.unit (s := ⟨2, ![1, 6144]⟩) ![0, 4096] ![1, 1024] inb_S1x6144_S1x1024_0_4096)
abbrev bb (t : Fin cfg0.N) : Vec Ideal S1x1024 .f32 :=
  View.ld (iblk m c 5 t : Vec Ideal S1x6144 .f32) (Rect.unit (s := ⟨2, ![1, 6144]⟩) ![0, 4096] ![1, 1024] inb_S1x6144_S1x1024_0_4096)
/-- Slab `o` lies in an array of slabs. -/
abbrev SlabIn (A M N o : ℕ) : Prop := ∀ a : Fin 3, (![o, 0, 0] : Fin 3 → ℕ) a + (![1, M, N] : Fin 3 → ℕ) a ≤ (⟨3, ![A, M, N]⟩ : Shape).size a
/-- Slab `o` of the first product's tile, and of the two weights. -/
abbrev bp (t : Fin cfg0.N) (o : ℕ) (inb : SlabIn 8 256 704 o) : Vec Ideal S1x256x704 .bf16 :=
  View.ld (iblk m c 1 t : Vec Ideal S8x256x704 .bf16) (Rect.unit (s := ⟨3, ![8, 256, 704]⟩) ![o, 0, 0] ![1, 256, 704] inb)
abbrev bwi (t : Fin cfg0.N) (o : ℕ) (inb : SlabIn 8 704 1024 o) : Vec Ideal S1x704x1024 .bf16 :=
  View.ld (iblk m c 7 t : Vec Ideal S8x704x1024 .bf16) (Rect.unit (s := ⟨3, ![8, 704, 1024]⟩) ![o, 0, 0] ![1, 704, 1024] inb)
abbrev bwo (t : Fin cfg0.N) (o : ℕ) (inb : SlabIn 4 704 1024 o) : Vec Ideal S1x704x1024 .bf16 :=
  View.ld (iblk m c 8 t : Vec Ideal S4x704x1024 .bf16) (Rect.unit (s := ⟨3, ![4, 704, 1024]⟩) ![o, 0, 0] ![1, 704, 1024] inb)

theorem bm_at (t : Fin cfg0.N) (k : Fin 1024) : bm m c t (ix2 0 k) = modv m c ⟨4096 + k.val, by omega⟩ :=
  (ld_at _ 0 4096 1 1024 _ 0 k 0 ⟨4096 + k.val, by omega⟩ rfl rfl).trans (blk_mod m c t _)
theorem bb_at (t : Fin cfg0.N) (k : Fin 1024) : bb m c t (ix2 0 k) = biasv m c ⟨4096 + k.val, by omega⟩ :=
  (ld_at _ 0 4096 1 1024 _ 0 k 0 ⟨4096 + k.val, by omega⟩ rfl rfl).trans (blk_bias m c t _)
theorem bp_at (t : Fin cfg0.N) (j : Fin 8) (inb) (r : Fin 256) (q : Fin 704) : bp m c t j.val inb (ix3 0 r q) = pre m c (row t r) ⟨j.val * 704 + q.val, by omega⟩ :=
  (ld_slab _ _ _ j rfl r q).trans (blk_pre m c t j r q)
theorem bwi_at (t : Fin cfg0.N) (j : Fin 8) (inb) (q : Fin 704) (k : Fin 1024) : bwi m c t j.val inb (ix3 0 q k) = wi m c k ⟨j.val * 704 + q.val, by omega⟩ :=
  (ld_slab _ _ _ j rfl q k).trans (blk_wi m c t j q k)
theorem bwo_at (t : Fin cfg0.N) (j : Fin 4) (inb) (q : Fin 704) (k : Fin 1024) : bwo m c t j.val inb (ix3 0 q k) = wo m c ⟨j.val * 704 + q.val, by omega⟩ k :=
  (ld_slab _ _ _ j rfl q k).trans (blk_wo m c t j q k)

theorem tile_dact (t : Fin cfg0.N) (j : Fin 4) (inb) (r : Fin 256) (q : Fin 704) :
    ∑ k : Fin 1024, bd m c t (ix2 r k) * bwo m c t j.val inb (ix3 0 q k) = dact m c (row t r) ⟨j.val * 704 + q.val, by omega⟩ :=
  Finset.sum_congr rfl fun k _ => congrArg₂ (fun a b : EReal => a * b) (blk_dffn m c t r k) (bwo_at m c t j inb q k)

/-- The gradient at the gate, block `j` of four … -/
theorem tile_dg (t : Fin cfg0.N) (j : Fin 4) (inb1 inb2 inb3) (r : Fin 256) (q : Fin 704) :
    k0_pay8 (bd m c t) (bp m c t j.val inb1) (bp m c t (4 + j.val) inb2) (bwo m c t j.val inb3) (ix2 r q)
      = df m c (row t r) ⟨j.val * 704 + q.val, by omega⟩ := by
  rw [pay8_at, tile_dact]
  unfold df
  rw [dif_pos (show j.val * 704 + q.val < 2816 by omega)]
  refine congrArg₂ (fun a b : EReal => dact m c (row t r) _ * a * slope b) ((bp_at m c t ⟨4 + j.val, by omega⟩ inb2 r q).trans (congrArg _ (Fin.ext ?_)))
    (bp_at m c t ⟨j.val, by omega⟩ inb1 r q)
  show (4 + j.val) * 704 + q.val = 2816 + (j.val * 704 + q.val)
  omega

/-- … and at the value it multiplies. -/
theorem tile_du (t : Fin cfg0.N) (j : Fin 4) (inb1 inb3) (r : Fin 256) (q : Fin 704) :
    k0_pay9 (bd m c t) (bp m c t j.val inb1) (bwo m c t j.val inb3) (ix2 r q) = df m c (row t r) ⟨(4 + j.val) * 704 + q.val, by omega⟩ := by
  have e : (4 + j.val) * 704 + q.val - 2816 = j.val * 704 + q.val := by omega
  rw [pay9_at, tile_dact]
  unfold df
  rw [dif_neg (show ¬ (4 + j.val) * 704 + q.val < 2816 by omega)]
  refine congrArg₂ (fun (a : Fin 2816) (b : EReal) => dact m c (row t r) a * (b * Ideal.logistic b)) (Fin.ext e.symm)
    ((bp_at m c t ⟨j.val, by omega⟩ inb1 r q).trans (congrArg _ (Fin.ext e.symm)))

/-- The tiles of the gradient at the first product … -/
abbrev tg (t : Fin cfg0.N) (j : ℕ) (inb1 : SlabIn 8 256 704 j) (inb2 : SlabIn 8 256 704 (4 + j)) (inb3 : SlabIn 4 704 1024 j) : FVec Ideal S256x704 .bf16 := k0_pay8 (bd m c t) (bp m c t j inb1) (bp m c t (4 + j) inb2) (bwo m c t j inb3)
abbrev tu (t : Fin cfg0.N) (j : ℕ) (inb1 : SlabIn 8 256 704 j) (inb3 : SlabIn 4 704 1024 j) : FVec Ideal S256x704 .bf16 := k0_pay9 (bd m c t) (bp m c t j inb1) (bwo m c t j inb3)
/-- … and three quarters of the tile of the gradient at the modulated row. -/
abbrev tacc (t : Fin cfg0.N) : FVec Ideal S256x1024 .f32 :=
  k0_pay12 (k0_pay12 (k0_pay12 k0_pay4 (tg m c t 0 inb_S8x256x704_S1x256x704_0_0_0 inb_S8x256x704_S1x256x704_4_0_0 inb_S4x704x1024_S1x704x1024_0_0_0)
      (tu m c t 0 inb_S8x256x704_S1x256x704_0_0_0 inb_S4x704x1024_S1x704x1024_0_0_0)
      (bwi m c t 0 inb_S8x704x1024_S1x704x1024_0_0_0) (bwi m c t 4 inb_S8x704x1024_S1x704x1024_4_0_0))
    (tg m c t 1 inb_S8x256x704_S1x256x704_1_0_0 inb_S8x256x704_S1x256x704_5_0_0 inb_S4x704x1024_S1x704x1024_1_0_0)
      (tu m c t 1 inb_S8x256x704_S1x256x704_1_0_0 inb_S4x704x1024_S1x704x1024_1_0_0)
      (bwi m c t 1 inb_S8x704x1024_S1x704x1024_1_0_0) (bwi m c t 5 inb_S8x704x1024_S1x704x1024_5_0_0))
    (tg m c t 2 inb_S8x256x704_S1x256x704_2_0_0 inb_S8x256x704_S1x256x704_6_0_0 inb_S4x704x1024_S1x704x1024_2_0_0)
      (tu m c t 2 inb_S8x256x704_S1x256x704_2_0_0 inb_S4x704x1024_S1x704x1024_2_0_0)
      (bwi m c t 2 inb_S8x704x1024_S1x704x1024_2_0_0) (bwi m c t 6 inb_S8x704x1024_S1x704x1024_6_0_0)
/-- The whole tile of the gradient at the modulated row. -/
abbrev tdh (t : Fin cfg0.N) : FVec Ideal S256x1024 .f32 :=
  k0_pay12 (tacc m c t) (tg m c t 3 inb_S8x256x704_S1x256x704_3_0_0 inb_S8x256x704_S1x256x704_7_0_0 inb_S4x704x1024_S1x704x1024_3_0_0)
      (tu m c t 3 inb_S8x256x704_S1x256x704_3_0_0 inb_S4x704x1024_S1x704x1024_3_0_0)
      (bwi m c t 3 inb_S8x704x1024_S1x704x1024_3_0_0) (bwi m c t 7 inb_S8x704x1024_S1x704x1024_7_0_0)

/-- Block `j` of eight of the sum that is the gradient at the modulated row. -/
def part (s : Fin 2048) (k : Fin 1024) (j : Fin 8) : EReal :=
  ∑ q : Fin 704, df m c s ⟨j.val * 704 + q.val, by omega⟩ * wi m c k ⟨j.val * 704 + q.val, by omega⟩

theorem tile_pg (t : Fin cfg0.N) (j : Fin 4) (inb1 inb2 inb3 inb4) (r : Fin 256) (k : Fin 1024) :
    ∑ q : Fin 704, tg m c t j.val inb1 inb2 inb3 (ix2 r q) * bwi m c t j.val inb4 (ix3 0 q k) = part m c (row t r) k ⟨j.val, by omega⟩ :=
  Finset.sum_congr rfl fun q _ => congrArg₂ (fun a b : EReal => a * b) (tile_dg m c t j inb1 inb2 inb3 r q) (bwi_at m c t ⟨j.val, by omega⟩ inb4 q k)

theorem tile_pu (t : Fin cfg0.N) (j : Fin 4) (inb1 inb3 inb4) (r : Fin 256) (k : Fin 1024) :
    ∑ q : Fin 704, tu m c t j.val inb1 inb3 (ix2 r q) * bwi m c t (4 + j.val) inb4 (ix3 0 q k) = part m c (row t r) k ⟨4 + j.val, by omega⟩ :=
  Finset.sum_congr rfl fun q _ => congrArg₂ (fun a b : EReal => a * b) (tile_du m c t j inb1 inb3 r q) (bwi_at m c t ⟨4 + j.val, by omega⟩ inb4 q k)

theorem tile_dh (t : Fin cfg0.N) (r : Fin 256) (k : Fin 1024) : tdh m c t (ix2 r k) = dh m c (row t r) k := by
  unfold tdh tacc
  rw [pay12_at, pay12_at, pay12_at, pay12_at, pay4_at]
  have hd : dh m c (row t r) k = ∑ j : Fin 8, part m c (row t r) k j :=
    sum_blocks 8 704 rfl _ _ fun j q i hi => by
      have e : i = ⟨j.val * 704 + q.val, by omega⟩ := Fin.ext hi
      rw [e]
  rw [hd, Fin.sum_univ_eight]
  refine (congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) (congrArg (fun b : EReal => 0 + b)
      (tile_pg m c t 0 _ _ _ _ r k)) (tile_pu m c t 0 _ _ _ r k)) (tile_pg m c t 1 _ _ _ _ r k)) (tile_pu m c t 1 _ _ _ r k))
      (tile_pg m c t 2 _ _ _ _ r k)) (tile_pu m c t 2 _ _ _ r k)) (tile_pg m c t 3 _ _ _ _ r k)) (tile_pu m c t 3 _ _ _ r k)).trans ?_
  show 0 + part m c (row t r) k 0 + part m c (row t r) k 4 + part m c (row t r) k 1 + part m c (row t r) k 5 + part m c (row t r) k 2
    + part m c (row t r) k 6 + part m c (row t r) k 3 + part m c (row t r) k 7 = _
  abel

theorem tile_rt (t : Fin cfg0.N) (r : Fin 256) : k0_pay38 (bx m c t) (ix2 r 0) = rt m c (row t r) := by
  rw [pay38_at]
  unfold rt ms
  refine congrArg (fun z => Ideal.rsqrt (Ideal.div z _ + _)) (Finset.sum_congr rfl fun k _ => ?_)
  exact congrArg₂ (· * ·) (blk_x m c t r k) (blk_x m c t r k)

theorem tile_xr (t : Fin cfg0.N) (r : Fin 256) (k : Fin 1024) : k0_pay39 (bx m c t) (ix2 r k) = x m c (row t r) k * rt m c (row t r) := by
  rw [pay39_at, tile_rt]
  exact congrArg (· * _) (blk_x m c t r k)

theorem tile_ds (t : Fin cfg0.N) (r : Fin 256) (k : Fin 1024) :
    k0_pay42 (tdh m c t) (bm m c t) (bb m c t) (ix2 r k) = dh m c (row t r) k * sc m c k := by
  rw [pay42_at, tile_dh, bm_at, bb_at]
  rfl

theorem tile_dn (t : Fin cfg0.N) (r : Fin 256) (k : Fin 1024) :
    k0_pay42 (tdh m c t) (bm m c t) (bb m c t) (ix2 r k) * bn m c t (ix2 0 k) = dn m c (row t r) k := by
  rw [tile_ds]
  exact congrArg (_ * ·) (blk_nw m c t k)

theorem tile_gx (t : Fin cfg0.N) (r : Fin 256) (k : Fin 1024) :
    k0_pay1 (k0_pay38 (bx m c t)) (k0_pay44 (be m c t)) (k0_pay45 (tdh m c t) (k0_pay39 (bx m c t)) (bm m c t) (bb m c t) (bn m c t)) (ix2 r k)
      = gx m c (row t r) k := by
  rw [pay1_at, pay45_at, tile_rt, tile_xr, tile_dn]
  unfold k0_pay44 gx
  rw [shapeCast_self]
  refine congrArg₂ (fun y z => y + rt m c (row t r) * (dn m c (row t r) k - x m c (row t r) k * rt m c (row t r) * Ideal.div z _)) (blk_dx2 m c t r k)
    (Finset.sum_congr rfl fun j _ => ?_)
  exact congrArg₂ (· * ·) (tile_dn m c t r j) (tile_xr m c t r j)

theorem gx_at (t : Fin cfg0.N) (r : Fin 256) (k : Fin 1024) : (outsAt0 m c t.val t.isLt).2.1 (ix2 r k) = gx m c (row t r) k := by
  by_cases h0 : t.val % 8 = 0
  · rw [outsAt0_A m c t h0]
    dsimp only
    unfold out0_A_10 kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, ld_whole]
    rw [whole_hit]
    exact tile_gx m c t r k
  · rw [outsAt0_B m c t h0]
    dsimp only
    unfold out0_B_10 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, ld_whole]
    rw [whole_hit]
    exact tile_gx m c t r k

set_option maxHeartbeats 1000000 in
theorem df_at (t : Fin cfg0.N) (j : Fin 8) (r : Fin 256) (q : Fin 704) :
    (outsAt0 m c t.val t.isLt).1 (ix3 j r q) = df m c (row t r) ⟨j.val * 704 + q.val, by omega⟩ := by
  by_cases h0 : t.val % 8 = 0
  · rw [outsAt0_A m c t h0]
    dsimp only
    unfold out0_A_9 kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, ld_whole]
    match j with
    | 0 => rw [slab_miss _ _ 7 _ _ _ 0 (by decide), slab_miss _ _ 3 _ _ _ 0 (by decide), slab_miss _ _ 6 _ _ _ 0 (by decide), slab_miss _ _ 2 _ _ _ 0 (by decide), slab_miss _ _ 5 _ _ _ 0 (by decide), slab_miss _ _ 1 _ _ _ 0 (by decide), slab_miss _ _ 4 _ _ _ 0 (by decide), slab_hit _ _ 0 _ _ _ 0 rfl]; exact (ValueIdx.shapeCast_ab_1ab_apply _ _ 0 r q).trans (tile_dg m c t 0 _ _ _ r q)
    | 1 => rw [slab_miss _ _ 7 _ _ _ 1 (by decide), slab_miss _ _ 3 _ _ _ 1 (by decide), slab_miss _ _ 6 _ _ _ 1 (by decide), slab_miss _ _ 2 _ _ _ 1 (by decide), slab_miss _ _ 5 _ _ _ 1 (by decide), slab_hit _ _ 1 _ _ _ 1 rfl]; exact (ValueIdx.shapeCast_ab_1ab_apply _ _ 0 r q).trans (tile_dg m c t 1 _ _ _ r q)
    | 2 => rw [slab_miss _ _ 7 _ _ _ 2 (by decide), slab_miss _ _ 3 _ _ _ 2 (by decide), slab_miss _ _ 6 _ _ _ 2 (by decide), slab_hit _ _ 2 _ _ _ 2 rfl]; exact (ValueIdx.shapeCast_ab_1ab_apply _ _ 0 r q).trans (tile_dg m c t 2 _ _ _ r q)
    | 3 => rw [slab_miss _ _ 7 _ _ _ 3 (by decide), slab_hit _ _ 3 _ _ _ 3 rfl]; exact (ValueIdx.shapeCast_ab_1ab_apply _ _ 0 r q).trans (tile_dg m c t 3 _ _ _ r q)
    | 4 => rw [slab_miss _ _ 7 _ _ _ 4 (by decide), slab_miss _ _ 3 _ _ _ 4 (by decide), slab_miss _ _ 6 _ _ _ 4 (by decide), slab_miss _ _ 2 _ _ _ 4 (by decide), slab_miss _ _ 5 _ _ _ 4 (by decide), slab_miss _ _ 1 _ _ _ 4 (by decide), slab_hit _ _ 4 _ _ _ 4 rfl]; exact (ValueIdx.shapeCast_ab_1ab_apply _ _ 0 r q).trans (tile_du m c t 0 _ _ r q)
    | 5 => rw [slab_miss _ _ 7 _ _ _ 5 (by decide), slab_miss _ _ 3 _ _ _ 5 (by decide), slab_miss _ _ 6 _ _ _ 5 (by decide), slab_miss _ _ 2 _ _ _ 5 (by decide), slab_hit _ _ 5 _ _ _ 5 rfl]; exact (ValueIdx.shapeCast_ab_1ab_apply _ _ 0 r q).trans (tile_du m c t 1 _ _ r q)
    | 6 => rw [slab_miss _ _ 7 _ _ _ 6 (by decide), slab_miss _ _ 3 _ _ _ 6 (by decide), slab_hit _ _ 6 _ _ _ 6 rfl]; exact (ValueIdx.shapeCast_ab_1ab_apply _ _ 0 r q).trans (tile_du m c t 2 _ _ r q)
    | 7 => rw [slab_hit _ _ 7 _ _ _ 7 rfl]; exact (ValueIdx.shapeCast_ab_1ab_apply _ _ 0 r q).trans (tile_du m c t 3 _ _ r q)
  · rw [outsAt0_B m c t h0]
    dsimp only
    unfold out0_B_9 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, ld_whole]
    match j with
    | 0 => rw [slab_miss _ _ 7 _ _ _ 0 (by decide), slab_miss _ _ 3 _ _ _ 0 (by decide), slab_miss _ _ 6 _ _ _ 0 (by decide), slab_miss _ _ 2 _ _ _ 0 (by decide), slab_miss _ _ 5 _ _ _ 0 (by decide), slab_miss _ _ 1 _ _ _ 0 (by decide), slab_miss _ _ 4 _ _ _ 0 (by decide), slab_hit _ _ 0 _ _ _ 0 rfl]; exact (ValueIdx.shapeCast_ab_1ab_apply _ _ 0 r q).trans (tile_dg m c t 0 _ _ _ r q)
    | 1 => rw [slab_miss _ _ 7 _ _ _ 1 (by decide), slab_miss _ _ 3 _ _ _ 1 (by decide), slab_miss _ _ 6 _ _ _ 1 (by decide), slab_miss _ _ 2 _ _ _ 1 (by decide), slab_miss _ _ 5 _ _ _ 1 (by decide), slab_hit _ _ 1 _ _ _ 1 rfl]; exact (ValueIdx.shapeCast_ab_1ab_apply _ _ 0 r q).trans (tile_dg m c t 1 _ _ _ r q)
    | 2 => rw [slab_miss _ _ 7 _ _ _ 2 (by decide), slab_miss _ _ 3 _ _ _ 2 (by decide), slab_miss _ _ 6 _ _ _ 2 (by decide), slab_hit _ _ 2 _ _ _ 2 rfl]; exact (ValueIdx.shapeCast_ab_1ab_apply _ _ 0 r q).trans (tile_dg m c t 2 _ _ _ r q)
    | 3 => rw [slab_miss _ _ 7 _ _ _ 3 (by decide), slab_hit _ _ 3 _ _ _ 3 rfl]; exact (ValueIdx.shapeCast_ab_1ab_apply _ _ 0 r q).trans (tile_dg m c t 3 _ _ _ r q)
    | 4 => rw [slab_miss _ _ 7 _ _ _ 4 (by decide), slab_miss _ _ 3 _ _ _ 4 (by decide), slab_miss _ _ 6 _ _ _ 4 (by decide), slab_miss _ _ 2 _ _ _ 4 (by decide), slab_miss _ _ 5 _ _ _ 4 (by decide), slab_miss _ _ 1 _ _ _ 4 (by decide), slab_hit _ _ 4 _ _ _ 4 rfl]; exact (ValueIdx.shapeCast_ab_1ab_apply _ _ 0 r q).trans (tile_du m c t 0 _ _ r q)
    | 5 => rw [slab_miss _ _ 7 _ _ _ 5 (by decide), slab_miss _ _ 3 _ _ _ 5 (by decide), slab_miss _ _ 6 _ _ _ 5 (by decide), slab_miss _ _ 2 _ _ _ 5 (by decide), slab_hit _ _ 5 _ _ _ 5 rfl]; exact (ValueIdx.shapeCast_ab_1ab_apply _ _ 0 r q).trans (tile_du m c t 1 _ _ r q)
    | 6 => rw [slab_miss _ _ 7 _ _ _ 6 (by decide), slab_miss _ _ 3 _ _ _ 6 (by decide), slab_hit _ _ 6 _ _ _ 6 rfl]; exact (ValueIdx.shapeCast_ab_1ab_apply _ _ 0 r q).trans (tile_du m c t 2 _ _ r q)
    | 7 => rw [slab_hit _ _ 7 _ _ _ 7 rfl]; exact (ValueIdx.shapeCast_ab_1ab_apply _ _ 0 r q).trans (tile_du m c t 3 _ _ r q)

/-! ## The rows of statistics -/

def d0 (s : Fin 2048) (k : Fin 1024) : EReal := dh m c s k
def d1 (s : Fin 2048) (k : Fin 1024) : EReal := dh m c s k * ((x m c s k * rt m c s) * nw m c k)
def d2 (s : Fin 2048) (k : Fin 1024) : EReal := (dh m c s k * sc m c k) * (x m c s k * rt m c s)

theorem tile_s0 (t : Fin cfg0.N) (v : Vec Ideal S1x1024 .f32) (k : Fin 1024) :
    k0_pay40 (tacc m c t) (tg m c t 3 inb_S8x256x704_S1x256x704_3_0_0 inb_S8x256x704_S1x256x704_7_0_0 inb_S4x704x1024_S1x704x1024_3_0_0)
      (tu m c t 3 inb_S8x256x704_S1x256x704_3_0_0 inb_S4x704x1024_S1x704x1024_3_0_0)
      (bwi m c t 3 inb_S8x704x1024_S1x704x1024_3_0_0) (bwi m c t 7 inb_S8x704x1024_S1x704x1024_7_0_0) v (ix2 0 k)
      = v (ix2 0 k) + ∑ r : Fin 256, d0 m c (row t r) k :=
  (pay40_at _ _ _ _ _ v k).trans (congrArg _ (Finset.sum_congr rfl fun r _ => tile_dh m c t r k))

theorem tile_s1 (t : Fin cfg0.N) (v : Vec Ideal S1x1024 .f32) (k : Fin 1024) :
    k0_pay41 (tdh m c t) (k0_pay39 (bx m c t)) v (bn m c t) (ix2 0 k) = v (ix2 0 k) + ∑ r : Fin 256, d1 m c (row t r) k := by
  rw [pay41_at]
  refine congrArg _ (Finset.sum_congr rfl fun r _ => ?_)
  rw [tile_dh, tile_xr]
  exact congrArg (fun z => dh m c (row t r) k * (_ * z)) (blk_nw m c t k)

theorem tile_s2 (t : Fin cfg0.N) (v : Vec Ideal S1x1024 .f32) (k : Fin 1024) :
    k0_pay43 (tdh m c t) (k0_pay39 (bx m c t)) (bm m c t) (bb m c t) v (ix2 0 k) = v (ix2 0 k) + ∑ r : Fin 256, d2 m c (row t r) k := by
  rw [pay43_at]
  refine congrArg _ (Finset.sum_congr rfl fun r _ => ?_)
  rw [tile_ds, tile_xr]
  rfl

/-- What the point before left. -/
abbrev prev (t : Fin cfg0.N) := outsAt0 m c (t.val - 1) (Nat.lt_of_le_of_lt (Nat.sub_le _ _) t.isLt)

theorem st0_step (t : Fin cfg0.N) (k : Fin 1024) : (outsAt0 m c t.val t.isLt).2.2 (ix2 2 k)
    = (if t.val % 8 = 0 then 0 else (prev m c t).2.2 (ix2 2 k)) + ∑ r : Fin 256, d0 m c (row t r) k := by
  by_cases h0 : t.val % 8 = 0
  · rw [outsAt0_A m c t h0, if_pos h0]
    dsimp only
    unfold out0_A_11 kernelRun0_A
    dsimp only
    sl_unfold_words
    simp only [View.readAt_eq_ld, View.readCov, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, ld_whole]
    rw [row_miss _ _ 4 _ _ _ 2 (by decide), row_miss _ _ 3 _ _ _ 2 (by decide), row_hit _ _ 2 _ _ _ 2 rfl]
    refine (tile_s0 m c t _ k).trans ?_
    rw [ld_at _ 2 0 1 1024 _ 0 k 2 k rfl (by omega), whole_hit, pay2_at]
  · rw [outsAt0_B m c t h0, if_neg h0]
    dsimp only
    unfold out0_B_11 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, ld_whole]
    rw [row_miss _ _ 4 _ _ _ 2 (by decide), row_miss _ _ 3 _ _ _ 2 (by decide), row_hit _ _ 2 _ _ _ 2 rfl]
    refine (tile_s0 m c t _ k).trans ?_
    rw [ld_at _ 2 0 1 1024 _ 0 k 2 k rfl (by omega), (hs0_11 t).read_unread]

theorem st1_step (t : Fin cfg0.N) (k : Fin 1024) : (outsAt0 m c t.val t.isLt).2.2 (ix2 3 k)
    = (if t.val % 8 = 0 then 0 else (prev m c t).2.2 (ix2 3 k)) + ∑ r : Fin 256, d1 m c (row t r) k := by
  by_cases h0 : t.val % 8 = 0
  · rw [outsAt0_A m c t h0, if_pos h0]
    dsimp only
    unfold out0_A_11 kernelRun0_A
    dsimp only
    sl_unfold_words
    simp only [View.readAt_eq_ld, View.readCov, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, ld_whole]
    rw [row_miss _ _ 4 _ _ _ 3 (by decide), row_hit _ _ 3 _ _ _ 3 rfl]
    refine (tile_s1 m c t _ k).trans ?_
    rw [ld_at _ 3 0 1 1024 _ 0 k 3 k rfl (by omega), row_miss _ _ 2 _ _ _ 3 (by decide), whole_hit, pay2_at]
  · rw [outsAt0_B m c t h0, if_neg h0]
    dsimp only
    unfold out0_B_11 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, ld_whole]
    rw [row_miss _ _ 4 _ _ _ 3 (by decide), row_hit _ _ 3 _ _ _ 3 rfl]
    refine (tile_s1 m c t _ k).trans ?_
    rw [ld_at _ 3 0 1 1024 _ 0 k 3 k rfl (by omega), (hs0_11 t).read_unread]

theorem st2_step (t : Fin cfg0.N) (k : Fin 1024) : (outsAt0 m c t.val t.isLt).2.2 (ix2 4 k)
    = (if t.val % 8 = 0 then 0 else (prev m c t).2.2 (ix2 4 k)) + ∑ r : Fin 256, d2 m c (row t r) k := by
  by_cases h0 : t.val % 8 = 0
  · rw [outsAt0_A m c t h0, if_pos h0]
    dsimp only
    unfold out0_A_11 kernelRun0_A
    dsimp only
    sl_unfold_words
    simp only [View.readAt_eq_ld, View.readCov, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, ld_whole]
    rw [row_hit _ _ 4 _ _ _ 4 rfl]
    refine (tile_s2 m c t _ k).trans ?_
    rw [ld_at _ 4 0 1 1024 _ 0 k 4 k rfl (by omega), row_miss _ _ 3 _ _ _ 4 (by decide), row_miss _ _ 2 _ _ _ 4 (by decide), whole_hit, pay2_at]
  · rw [outsAt0_B m c t h0, if_neg h0]
    dsimp only
    unfold out0_B_11 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, ld_whole]
    rw [row_hit _ _ 4 _ _ _ 4 rfl]
    refine (tile_s2 m c t _ k).trans ?_
    rw [ld_at _ 4 0 1 1024 _ 0 k 4 k rfl (by omega), (hs0_11 t).read_unread]

theorem st_rest (t : Fin cfg0.N) (i : Fin 8) (hi : i.val < 2 ∨ 4 < i.val) (k : Fin 1024) :
    (outsAt0 m c t.val t.isLt).2.2 (ix2 i k) = if t.val % 8 = 0 then 0 else (prev m c t).2.2 (ix2 i k) := by
  by_cases h0 : t.val % 8 = 0
  · rw [outsAt0_A m c t h0, if_pos h0]
    dsimp only
    unfold out0_A_11 kernelRun0_A
    dsimp only
    sl_unfold_words
    rw [row_miss _ _ 4 _ _ _ i (by omega), row_miss _ _ 3 _ _ _ i (by omega), row_miss _ _ 2 _ _ _ i (by omega), whole_hit, pay2_at]
  · rw [outsAt0_B m c t h0, if_neg h0]
    dsimp only
    unfold out0_B_11 kernelRun0_B
    dsimp only
    sl_unfold_words
    rw [row_miss _ _ 4 _ _ _ i (by omega), row_miss _ _ 3 _ _ _ i (by omega), row_miss _ _ 2 _ _ _ i (by omega), View.writes_nil,
      (hs0_11 t).read_unread]

/-! ## After the last point -/

theorem st0_at (k : Fin 1024) (h : 7 < cfg0.N) : (outsAt0 m c 7 h).2.2 (ix2 2 k) = ∑ s : Fin 2048, d0 m c s k :=
  sweep 8 256 N_0 (by decide) rfl _ (fun n hn => (outsAt0 m c n hn).2.2 (ix2 2 k)) _ (fun t r => ⟨lt_rows t r, rfl⟩) (fun t => st0_step m c t k) h
theorem st1_at (k : Fin 1024) (h : 7 < cfg0.N) : (outsAt0 m c 7 h).2.2 (ix2 3 k) = ∑ s : Fin 2048, d1 m c s k :=
  sweep 8 256 N_0 (by decide) rfl _ (fun n hn => (outsAt0 m c n hn).2.2 (ix2 3 k)) _ (fun t r => ⟨lt_rows t r, rfl⟩) (fun t => st1_step m c t k) h
theorem st2_at (k : Fin 1024) (h : 7 < cfg0.N) : (outsAt0 m c 7 h).2.2 (ix2 4 k) = ∑ s : Fin 2048, d2 m c s k :=
  sweep 8 256 N_0 (by decide) rfl _ (fun n hn => (outsAt0 m c n hn).2.2 (ix2 4 k)) _ (fun t r => ⟨lt_rows t r, rfl⟩) (fun t => st2_step m c t k) h
theorem st_zero (i : Fin 8) (hi : i.val < 2 ∨ 4 < i.val) (k : Fin 1024) (h : 7 < cfg0.N) : (outsAt0 m c 7 h).2.2 (ix2 i k) = 0 :=
  sweep_zero 8 N_0 (fun n hn => (outsAt0 m c n hn).2.2 (ix2 i k)) (fun t => st_rest m c t i hi k) 7 h

end Cert.FfnIdeal.Val

end

end
-- ==== Proof.Finite.lean ====
/- Real numbers among the extended reals: the sums and products of real numbers are real, a norm's row is real whatever its entries,
   and the two forms of the gate's gradient agree where everything is real. Hand-written. -/
module

public import proofs.«01_k».proof.Proof.Norm
public import Idealize.ShloMosaic.PureOps.Ideal.Laws

@[expose] public section

noncomputable section

namespace Cert.Tile

open Idealize.ShloMosaic

/-- The value is a real number. -/
def IsReal (x : EReal) : Prop := ∃ y : ℝ, x = (y : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {N : ℕ} {f : Fin N → EReal} (hf : ∀ j, IsReal (f j)) : IsReal (∑ j, f j) := by
  choose y hy using hf
  exact ⟨∑ j, y j, by simp only [hy, coe_sum']⟩

theorem IsReal.one : IsReal 1 := ⟨1, rfl⟩

/-- What a host line's comparison with infinity says of an entry. -/
theorem isReal_of_lt (x : Ideal .f32) (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  replace h : Ideal.cmp .olt (max (x : EReal) (-(x : EReal))) (Ideal.ofBits .f32 0x7F800000#32) = 1#1 := h
  rw [htop] at h
  unfold Ideal.cmp at h
  induction x using EReal.rec with
  | bot => simp at h
  | top => simp at h
  | coe y => exact ⟨y, rfl⟩

/-- A row divided by its root mean square is real. -/
theorem norm_real {N : ℕ} (x : Fin N → EReal) (k : Fin N) {c ε : ℝ} (hc : 0 < c) (hε : 0 < ε) (a : EReal)
    (ha : a = Ideal.div (∑ j, x j * x j) (c : EReal) + (ε : EReal)) : IsReal (x k * Ideal.rsqrt a) := by
  rcases sumsq_cases x with ⟨y, hy⟩ | htop
  · obtain ⟨α, hα, e⟩ := meansq_coe y hc hε
    simp only [hy] at ha ⊢
    rw [ha, e]
    refine IsReal.mul ⟨y k, rfl⟩ ?_
    rw [Ideal.rsqrt_coe, if_neg (not_lt.2 hα.le), if_neg hα.ne']
    exact ⟨_, rfl⟩
  · rw [ha, htop, meansq_top hc]
    refine ⟨0, ?_⟩
    show x k * Ideal.rsqrt ⊤ = ((0 : ℝ) : EReal)
    simp

/-- The gradient through the gate's smooth step, the factored form against the sum of the two products. -/
theorem gate_grad {g f : EReal} (hg : IsReal g) (hf : IsReal f) :
    g * (Ideal.logistic f * (1 + f * (1 - Ideal.logistic f))) = g * Ideal.logistic f + (f * g) * (Ideal.logistic f * (1 - Ideal.logistic f)) := by
  obtain ⟨a, rfl⟩ := hg
  obtain ⟨b, rfl⟩ := hf
  rw [Ideal.logistic_coe]
  have h1 : (1 : EReal) = ((1 : ℝ) : EReal) := rfl
  rw [h1]
  simp only [← EReal.coe_sub, ← EReal.coe_mul, ← EReal.coe_add]
  congr 1
  ring

end Cert.Tile

end
-- ==== Proof.FfnRef.lean ====
/- The backward call of the feed-forward block, the reference's values read at an entry, and that the kernel leaves the same.
   Hand-written. -/
module

public import proofs.«01_k».proof.Proof.FfnPt
public import proofs.«01_k».proof.Proof.Finite
public import proofs.«01_k».proof.Proof.RefSums
public import proofs.«01_k».proof.Proof.Gen.FfnRefIdeal.Read
public import proofs.«01_k».proof.Pre_finite_ffn
public import Idealize.ShloMosaic.Lib.Pipeline.ValueKit

@[expose] public section

set_option maxRecDepth 16384

noncomputable section

namespace Cert.FfnIdeal.Val

open Idealize.ShloMosaic Idealize.ShloMosaic.TcCoe Idealize.SL.Sem Cert.FfnIdeal Cert.FfnIdeal.Gen Cert.Tile
open Cert.FfnRefIdeal.Read

variable (m : (ℓ : Loc nD τ sig) → Buf (Elt Ideal) ℓ) (c : Dev nD)

/-- The arguments as the reference is given them. -/
abbrev a0 : FVec Ideal S1x2048x1024 .f32 := m ((c : Thread nD τ).loc main_arg0)
abbrev a1 : FVec Ideal S1x6144 .f32 := m ((c : Thread nD τ).loc main_arg1)
abbrev a2 : FVec Ideal S1x6144 .f32 := m ((c : Thread nD τ).loc main_arg2)
abbrev a3 : FVec Ideal S1x1024 .f32 := m ((c : Thread nD τ).loc main_arg3)
abbrev a4 : FVec Ideal S1x1024x5632 .f32 := m ((c : Thread nD τ).loc main_arg4)
abbrev a5 : FVec Ideal S1x2816x1024 .f32 := m ((c : Thread nD τ).loc main_arg5)
abbrev a6 : FVec Ideal S1x2048x1024 .f32 := m ((c : Thread nD τ).loc main_arg6)

/-! ## What finite arguments give -/

/-- Every argument but the block's input is real, entry by entry. -/
structure Real : Prop where
  modv : ∀ k, IsReal (modv m c k)
  biasv : ∀ k, IsReal (biasv m c k)
  nw : ∀ k, IsReal (nw m c k)
  wi : ∀ k q, IsReal (wi m c k q)
  wo : ∀ q k, IsReal (wo m c q k)
  dx2 : ∀ s k, IsReal (dx2 m c s k)

theorem real_of_pre [hyps : Cert.Pre_finite_ffn.Facts]
    (h : (Cert.Pre_finite_ffn.fn (F := Ideal) (a0 m c) (a1 m c) (a2 m c) (a3 m c) (a4 m c) (a5 m c) (a6 m c)).1 = (fun _ => 1#1)
      ∧ (Cert.Pre_finite_ffn.fn (F := Ideal) (a0 m c) (a1 m c) (a2 m c) (a3 m c) (a4 m c) (a5 m c) (a6 m c)).2.1 = (fun _ => 1#1)
      ∧ (Cert.Pre_finite_ffn.fn (F := Ideal) (a0 m c) (a1 m c) (a2 m c) (a3 m c) (a4 m c) (a5 m c) (a6 m c)).2.2.1 = (fun _ => 1#1)
      ∧ (Cert.Pre_finite_ffn.fn (F := Ideal) (a0 m c) (a1 m c) (a2 m c) (a3 m c) (a4 m c) (a5 m c) (a6 m c)).2.2.2.1 = (fun _ => 1#1)
      ∧ (Cert.Pre_finite_ffn.fn (F := Ideal) (a0 m c) (a1 m c) (a2 m c) (a3 m c) (a4 m c) (a5 m c) (a6 m c)).2.2.2.2.1 = (fun _ => 1#1)
      ∧ (Cert.Pre_finite_ffn.fn (F := Ideal) (a0 m c) (a1 m c) (a2 m c) (a3 m c) (a4 m c) (a5 m c) (a6 m c)).2.2.2.2.2 = (fun _ => 1#1)) :
    Real m c where
  modv k := isReal_of_lt _ (congrFun h.1 (ix2 0 k))
  biasv k := isReal_of_lt _ (congrFun h.2.1 (ix2 0 k))
  nw k := isReal_of_lt _ (congrFun h.2.2.1 (ix2 0 k))
  wi k q := isReal_of_lt _ (congrFun h.2.2.2.1 (ix3 0 k q))
  wo q k := isReal_of_lt _ (congrFun h.2.2.2.2.1 (ix3 0 q k))
  dx2 s k := isReal_of_lt _ (congrFun h.2.2.2.2.2 (ix3 0 s k))

theorem real_pre (R : Real m c) (s : Fin 2048) (q : Fin 5632) : IsReal (pre m c s q) := by
  obtain ⟨ε, hε, he⟩ := ofBits_eps
  refine IsReal.sum fun k => IsReal.mul ?_ (R.wi k q)
  refine IsReal.add (IsReal.mul (IsReal.mul ?_ (R.nw k)) (IsReal.one.add ((R.modv _).add (R.biasv _)))) ((R.modv _).add (R.biasv _))
  refine norm_real (fun j => x m c s j) k (c := 1024) (by norm_num) hε (ms m c s) ?_
  unfold ms
  rw [ofBits_1024, he]

theorem real_dact (R : Real m c) (s : Fin 2048) (q : Fin 2816) : IsReal (dact m c s q) :=
  IsReal.sum fun k => ((((R.modv _).add (R.biasv _)).mul (R.dx2 s k)).mul (R.wo q k))

/-! ## The reference's stages -/

theorem ref_ms (s : Fin 2048) (k : Fin 1) : val_main_v17 (F := Ideal) (a0 m c) (ix3 0 s k) = ms m c s := by
  unfold val_main_v17 val_main_v16 val_main_v15 val_main_v14 val_main_v13 val_main_v12
  pointwise [val_main_cst, val_main_cst_0, val_main_cst_1, val_main_v11]
  rfl

theorem ref_rt (s : Fin 2048) (k : Fin 1) : val_main_v18 (F := Ideal) (a0 m c) (ix3 0 s k) = rt m c s := by
  unfold val_main_v18
  pointwise [ref_ms]
  rfl

theorem ref_sc (k : Fin 1024) : val_main_v29 (F := Ideal) (a1 m c) (a2 m c) (ix3 0 0 k) = sc m c k := by
  unfold val_main_v29 val_main_v28 val_main_v27 val_main_v7 val_main_v2 val_main_v1 val_main_v0
  pointwise [val_main_cst_3]
  rfl

theorem ref_xrn (s : Fin 2048) (k : Fin 1024) : val_main_v26 (F := Ideal) (a0 m c) (a3 m c) (ix3 0 s k) = (x m c s k * rt m c s) * nw m c k := by
  unfold val_main_v26 val_main_v25 val_main_v24 val_main_v23 val_main_v22 val_main_v9
  pointwise [ref_rt]
  rfl

theorem ref_h (s : Fin 2048) (k : Fin 1024) : val_main_v34 (F := Ideal) (a0 m c) (a1 m c) (a2 m c) (a3 m c) (ix3 0 s k) = h m c s k := by
  unfold val_main_v34 val_main_v33 val_main_v32 val_main_v31 val_main_v30 val_main_v6 val_main_v2 val_main_v1 val_main_v0
  pointwise [ref_xrn, ref_sc]
  rfl

theorem ref_pre (s : Fin 2048) (q : Fin 5632) :
    val_main_v35 (F := Ideal) (a0 m c) (a1 m c) (a2 m c) (a3 m c) (a4 m c) (ix3 0 s q) = pre m c s q := by
  rw [val_main_v35_apply]
  pointwise [val_main_v10]
  exact Finset.sum_congr rfl fun k _ => congrArg₂ (fun u v : EReal => u * v)
    ((congrArg _ (Tile.ix3_of _ 0 s k rfl rfl rfl)).trans (ref_h m c s k)) (congrArg (a4 m c) (Tile.ix3_of _ 0 k q rfl rfl rfl))

theorem ref_fg (s : Fin 2048) (q : Fin 2816) :
    val_main_v37 (F := Ideal) (a0 m c) (a1 m c) (a2 m c) (a3 m c) (a4 m c) (ix3 0 s q) = pre m c s ⟨q.val, by omega⟩ := by
  unfold val_main_v37
  pointwise [ref_pre]

theorem ref_fu (s : Fin 2048) (q : Fin 2816) :
    val_main_v38 (F := Ideal) (a0 m c) (a1 m c) (a2 m c) (a3 m c) (a4 m c) (ix3 0 s q) = pre m c s ⟨2816 + q.val, by omega⟩ := by
  unfold val_main_v38
  pointwise [ref_pre]

theorem ref_sg (s : Fin 2048) (q : Fin 2816) :
    val_main_v39_2 (F := Ideal) (a0 m c) (a1 m c) (a2 m c) (a3 m c) (a4 m c) (ix3 0 s q) = Ideal.logistic (pre m c s ⟨q.val, by omega⟩) := by
  unfold val_main_v39_2 val_main_call0_v4 val_main_call0_v3 val_main_call0_v2 val_main_call0_v1 val_main_call0_v0
  pointwise [val_main_call0_cst, val_main_call0_cst_0, ref_fg]
  rfl

theorem ref_dact (s : Fin 2048) (q : Fin 2816) : val_main_v49 (F := Ideal) (a1 m c) (a2 m c) (a5 m c) (a6 m c) (ix3 0 s q) = dact m c s q := by
  rw [val_main_v49_apply]
  refine Finset.sum_congr rfl fun k _ => congrArg₂ (fun u v : EReal => u * v) ?_ ?_
  · refine (congrArg _ (Tile.ix3_of _ 0 s k rfl rfl rfl)).trans ?_
    unfold val_main_v48 val_main_v47 val_main_v46 val_main_v42 val_main_v8 val_main_v2 val_main_v1 val_main_v0
    pointwise
    rfl
  · refine (congrArg _ (Tile.ix2_of _ q k rfl rfl)).trans ?_
    unfold val_main_v36
    pointwise
    rfl

theorem ref_dg (R : Real m c) (s : Fin 2048) (q : Fin 2816) :
    val_main_v52 (F := Ideal) (a0 m c) (a1 m c) (a2 m c) (a3 m c) (a4 m c) (a5 m c) (a6 m c) (ix3 0 s q) = df m c s ⟨q.val, by omega⟩ := by
  unfold val_main_v52 val_main_call1_v2 val_main_call1_v1 val_main_call1_v0 val_main_v51 val_main_v39_1 val_main_call0_v7 val_main_call0_v6
  pointwise [val_main_call0_cst_1, ref_fg, ref_fu, ref_sg, ref_dact]
  unfold df slope
  rw [dif_pos q.isLt]
  exact (gate_grad ((real_dact m c R s q).mul (real_pre m c R s _)) (real_pre m c R s _)).symm

theorem ref_du (s : Fin 2048) (q : Fin 2816) :
    val_main_v50 (F := Ideal) (a0 m c) (a1 m c) (a2 m c) (a3 m c) (a4 m c) (a5 m c) (a6 m c) (ix3 0 s q) = df m c s ⟨2816 + q.val, by omega⟩ := by
  unfold val_main_v50 val_main_v39_0
  pointwise [ref_fg, ref_sg, ref_dact]
  unfold df
  rw [dif_neg (by simp)]
  refine (mul_comm _ _).trans ?_
  congr <;> simp

theorem ref_df (R : Real m c) (s : Fin 2048) (q : Fin 5632) :
    val_main_v53 (F := Ideal) (a0 m c) (a1 m c) (a2 m c) (a3 m c) (a4 m c) (a5 m c) (a6 m c) (ix3 0 s q) = df m c s q := by
  unfold val_main_v53
  pointwise
  by_cases hq : q.val < 2816
  · rw [dif_pos hq]
    exact ref_dg m c R s ⟨q.val, hq⟩
  · rw [dif_neg hq]
    refine (ref_du m c s ⟨q.val - 2816, by omega⟩).trans (congrArg _ (Fin.ext ?_))
    show 2816 + (q.val - 2816) = q.val
    omega

theorem ref_dh (R : Real m c) (s : Fin 2048) (k : Fin 1024) :
    val_main_v54 (F := Ideal) (a0 m c) (a1 m c) (a2 m c) (a3 m c) (a4 m c) (a5 m c) (a6 m c) (ix3 0 s k) = dh m c s k := by
  rw [val_main_v54_apply]
  refine Finset.sum_congr rfl fun q _ => congrArg₂ (fun u v : EReal => u * v) ?_ ?_
  · exact (congrArg _ (Tile.ix3_of _ 0 s q rfl rfl rfl)).trans (ref_df m c R s q)
  · refine (congrArg _ (Tile.ix2_of _ k q rfl rfl)).trans ?_
    unfold val_main_v10
    pointwise
    rfl

theorem ref_dsc (R : Real m c) (s : Fin 2048) (k : Fin 1024) :
    val_main_v63 (F := Ideal) (a0 m c) (a1 m c) (a2 m c) (a3 m c) (a4 m c) (a5 m c) (a6 m c) (ix3 0 s k) = dh m c s k * sc m c k := by
  unfold val_main_v63 val_main_v62
  pointwise [ref_dh m c R, ref_sc]

theorem ref_dn (R : Real m c) (s : Fin 2048) (k : Fin 1024) :
    val_main_v70 (F := Ideal) (a0 m c) (a1 m c) (a2 m c) (a3 m c) (a4 m c) (a5 m c) (a6 m c) (ix3 0 s k) = dn m c s k := by
  unfold val_main_v70 val_main_v69 val_main_v24 val_main_v9
  pointwise [ref_dsc m c R]
  rfl

theorem ref_d0 (R : Real m c) (k : Fin 1024) :
    val_main_v58 (F := Ideal) (a0 m c) (a1 m c) (a2 m c) (a3 m c) (a4 m c) (a5 m c) (a6 m c) (ix2 0 k) = ∑ s : Fin 2048, d0 m c s k := by
  unfold val_main_v58 val_main_v57 val_main_v56 val_main_v55
  pointwise [sum_11, val_main_cst_4, val_main_cst_5, ref_dh m c R]
  rfl

theorem ref_d1 (R : Real m c) (k : Fin 1024) :
    val_main_v65 (F := Ideal) (a0 m c) (a1 m c) (a2 m c) (a3 m c) (a4 m c) (a5 m c) (a6 m c) (ix2 0 k) = ∑ s : Fin 2048, d1 m c s k := by
  unfold val_main_v65 val_main_v64 val_main_v61 val_main_v60 val_main_v59
  pointwise [sum_11, val_main_cst_6, val_main_cst_7, ref_dh m c R, ref_xrn]
  exact Finset.sum_congr rfl fun s _ => mul_comm _ _

theorem ref_d2 (R : Real m c) (k : Fin 1024) :
    val_main_v92 (F := Ideal) (a0 m c) (a1 m c) (a2 m c) (a3 m c) (a4 m c) (a5 m c) (a6 m c) (ix2 0 k) = ∑ s : Fin 2048, d2 m c s k := by
  unfold val_main_v92 val_main_v71 val_main_v68 val_main_v67 val_main_v66 val_main_v23 val_main_v22
  pointwise [sum_11, val_main_cst_8, val_main_cst_9, ref_dsc m c R, ref_rt]
  exact Finset.sum_congr rfl fun s _ => mul_comm _ _

theorem ref_gx (R : Real m c) (s : Fin 2048) (k : Fin 1024) :
    val_main_v96 (F := Ideal) (a0 m c) (a1 m c) (a2 m c) (a3 m c) (a4 m c) (a5 m c) (a6 m c) (ix2 s k) = gx m c s k := by
  unfold val_main_v96 val_main_v95 val_main_v86 val_main_v85 val_main_v84 val_main_v83 val_main_v82 val_main_v81 val_main_v80 val_main_v79 val_main_v78
    val_main_v77 val_main_v76 val_main_v75 val_main_v74 val_main_v73 val_main_v72 val_main_v21 val_main_v20 val_main_v19
  pointwise [sum_02, val_main_cst_10, val_main_cst_11, val_main_cst_12, val_main_cst_2, ref_dn m c R, ref_rt, ref_ms]
  obtain ⟨ε, hε, he⟩ := ofBits_eps
  unfold gx
  rw [ofBits_1024, ofBits_neg_half]
  refine Eq.trans ?_ (norm_grad (fun j => x m c s j) (fun j => dn m c s j) (dx2 m c s k) k (by norm_num) hε (ms m c s) (rt m c s) ?_ rfl).symm
  · simp only [add_assoc]
    rfl
  · unfold ms
    rw [ofBits_1024, he]

/-! ## The results -/

theorem fin_df (R : Real m c) :
    (dats m 0 c).arrAt 9 cfg0.N = val_main_v90 (F := Ideal) (a0 m c) (a1 m c) (a2 m c) (a3 m c) (a4 m c) (a5 m c) (a6 m c) := by
  refine (dats m 0 c).arrAt_eq_of_covers 9 _ (by decide +kernel) fun t hf y => ?_
  blk_simp
  rw [after0_9]
  obtain ⟨j, r, q, rfl⟩ : ∃ (j : Fin 8) (r : Fin 256) (q : Fin 704), y = ix3 j r q := ⟨_, _, _, eq_ix3 y⟩
  have e : val_main_v90 (F := Ideal) (a0 m c) (a1 m c) (a2 m c) (a3 m c) (a4 m c) (a5 m c) (a6 m c) (ix3 j (row t r) q)
      = df m c (row t r) ⟨j.val * 704 + q.val, by omega⟩ := by
    unfold val_main_v90 val_main_v89 val_main_v88 val_main_v87
    pointwise [ref_df m c R]
  refine (df_at m c t j r q).trans (e.symm.trans ?_)
  exact congrArg _ (Tile.ix3_of _ j (row t r) q (Tile.whole_coord 8 j.val (idx9 t).1) (Tile.tile_coord 256 r.val (idx9 t).2.1)
    (Tile.whole_coord 704 q.val (idx9 t).2.2)).symm

theorem fin_gx (R : Real m c) :
    (dats m 0 c).arrAt 10 cfg0.N = val_main_v96 (F := Ideal) (a0 m c) (a1 m c) (a2 m c) (a3 m c) (a4 m c) (a5 m c) (a6 m c) := by
  refine (dats m 0 c).arrAt_eq_of_covers 10 _ (by decide +kernel) fun t hf y => ?_
  blk_simp
  rw [after0_10]
  obtain ⟨r, k, rfl⟩ : ∃ (r : Fin 256) (k : Fin 1024), y = ix2 r k := ⟨_, _, eq_ix2 y⟩
  refine (gx_at m c t r k).trans ((ref_gx m c R (row t r) k).symm.trans ?_)
  exact congrArg _ (Tile.ix2_of _ (row t r) k (Tile.tile_coord 256 r.val (idx10 t).1) (Tile.whole_coord 1024 k.val (idx10 t).2)).symm

theorem fin_st (R : Real m c) :
    (dats m 0 c).arrAt 11 cfg0.N = val_main_v94 (F := Ideal) (a0 m c) (a1 m c) (a2 m c) (a3 m c) (a4 m c) (a5 m c) (a6 m c) := by
  refine (dats m 0 c).arrAt_eq_of_after_last 11 t0_7 (by decide +kernel) _ fun j => ?_
  blk_simp
  rw [after0_11]
  obtain ⟨i, k, rfl⟩ : ∃ (i : Fin 8) (k : Fin 1024), j = ix2 i k := ⟨_, _, eq_ix2 j⟩
  unfold val_main_v94
  pointwise
  by_cases h0 : i.val < 2
  · rw [dif_pos h0]
    refine (st_zero m c i (Or.inl h0) k t0_7.isLt).trans ?_
    unfold val_main_v91
    pointwise [val_main_cst_13]
  rw [dif_neg h0]
  by_cases hi : i.val ≤ 4
  · obtain hi | hi | hi : i.val = 2 ∨ i.val = 3 ∨ i.val = 4 := by omega
    · obtain rfl : i = 2 := Fin.ext hi
      exact (st0_at m c k t0_7.isLt).trans (ref_d0 m c R k).symm
    · obtain rfl : i = 3 := Fin.ext hi
      exact (st1_at m c k t0_7.isLt).trans (ref_d1 m c R k).symm
    · obtain rfl : i = 4 := Fin.ext hi
      exact (st2_at m c k t0_7.isLt).trans (ref_d2 m c R k).symm
  · rw [dif_neg (by omega), dif_neg (by omega), dif_neg (by omega)]
    refine (st_zero m c i (Or.inr (by omega)) k t0_7.isLt).trans ?_
    unfold val_main_v93
    pointwise [val_main_cst_14]

end Cert.FfnIdeal.Val

end
-- ==== Proof.LossIn.lean ====
/- The call that ends the forward pass, the kernel's inputs: what its host lines put into the arrays the kernel reads, and what the
   kernel's windows show of them at each grid point. Hand-written. -/
module

public import proofs.«01_k».proof.Proof.Gen.LossIdeal.Value
public import proofs.«01_k».proof.Proof.Tile
public import Idealize.ShloMosaic.Lib.Pointwise
public import Idealize.ShloMosaic.Lib.KernelVsHost

@[expose] public section

set_option maxRecDepth 16384

noncomputable section

namespace Cert.LossIdeal.Val

open Idealize.ShloMosaic Idealize.ShloMosaic.TcCoe Idealize.SL.Sem Cert.LossIdeal Cert.LossIdeal.Gen

variable (m : (ℓ : Loc nD τ sig) → Buf (Elt Ideal) ℓ) (c : Dev nD)

/-! ## The arguments -/

/-- The feed-forward block's input. -/
def x (s : Fin 2048) (k : Fin 1024) : EReal := m ((c : Thread nD τ).loc main_arg0) (ix3 (0 : Fin 1) s k)
/-- The target. -/
def tg (s : Fin 2048) (k : Fin 1024) : EReal := m ((c : Thread nD τ).loc main_arg1) (ix3 (0 : Fin 1) s k)
/-- The six modulation vectors as the network below computes them … -/
def modv (k : Fin 6144) : EReal := m ((c : Thread nD τ).loc main_arg2) (ix2 (0 : Fin 1) k)
/-- … and their bias. -/
def biasv (k : Fin 6144) : EReal := m ((c : Thread nD τ).loc main_arg3) (ix2 (0 : Fin 1) k)
/-- The weights of the block's norm and of the final norm. -/
def nw (k : Fin 1024) : EReal := m ((c : Thread nD τ).loc main_arg4) (ix2 (0 : Fin 1) k)
def nf (k : Fin 1024) : EReal := m ((c : Thread nD τ).loc main_arg5) (ix1 k)
/-- The two weights. -/
def wi (k : Fin 1024) (q : Fin 5632) : EReal := m ((c : Thread nD τ).loc main_arg6) (ix3 (0 : Fin 1) k q)
def wo (q : Fin 2816) (k : Fin 1024) : EReal := m ((c : Thread nD τ).loc main_arg7) (ix3 (0 : Fin 1) q k)
/-- The shift, the scale and the gate: the last three of the six vectors. -/
def sh (k : Fin 1024) : EReal := modv m c ⟨3072 + k.val, by omega⟩ + biasv m c ⟨3072 + k.val, by omega⟩
def sc (k : Fin 1024) : EReal := 1 + (modv m c ⟨4096 + k.val, by omega⟩ + biasv m c ⟨4096 + k.val, by omega⟩)
def gt (k : Fin 1024) : EReal := modv m c ⟨5120 + k.val, by omega⟩ + biasv m c ⟨5120 + k.val, by omega⟩

/-! ## The host lines -/

theorem V_x (s : Fin 2048) (k : Fin 1024) : V m c main_v7 (ix2 s k) = x m c s k := by
  unfold V hostOps0
  after_results
  pointwise
  rfl

theorem V_tg (s : Fin 2048) (k : Fin 1024) : V m c main_v8 (ix2 s k) = tg m c s k := by
  unfold V hostOps0
  after_results
  pointwise
  rfl

theorem V_nf (k : Fin 1024) : V m c main_v9 (ix2 (0 : Fin 1) k) = nf m c k := by
  unfold V hostOps0
  after_results
  pointwise
  rfl

theorem V_wi (j : Fin 8) (q : Fin 704) (k : Fin 1024) : V m c main_v3 (ix3 j q k) = wi m c k ⟨j.val * 704 + q.val, by omega⟩ := by
  unfold V hostOps0
  after_results
  pointwise
  rfl

theorem V_wo (j : Fin 4) (q : Fin 704) (k : Fin 1024) : V m c main_v6 (ix3 j q k) = wo m c ⟨j.val * 704 + q.val, by omega⟩ k := by
  unfold V hostOps0
  after_results
  pointwise
  rfl

/-! ## The windows -/

theorem lt_rows (t : Fin cfg0.N) (r : Fin 256) : 256 * t.val + r.val < 2048 := by
  have h : t.val < 8 := lt_of_lt_of_eq t.isLt N_0
  omega

/-- The row of the array that row `r` of tile `t` is. -/
abbrev row (t : Fin cfg0.N) (r : Fin 256) : Fin 2048 := ⟨256 * t.val + r.val, lt_rows t r⟩

theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 ∧ win0_6.index t 2 = 0 := (by decide +kernel : ∀ t : Fin grid0.N, _)
theorem idx7 : ∀ t : Fin cfg0.N, win0_7.index t 0 = 0 ∧ win0_7.index t 1 = 0 ∧ win0_7.index t 2 = 0 := (by decide +kernel : ∀ t : Fin grid0.N, _)
theorem idx8 : ∀ t : Fin cfg0.N, win0_8.index t 0 = t.val ∧ win0_8.index t 1 = 0 := (by decide +kernel : ∀ t : Fin grid0.N, _)
theorem idx9 : ∀ t : Fin cfg0.N, win0_9.index t 0 = 0 ∧ win0_9.index t 1 = t.val ∧ win0_9.index t 2 = 0 := (by decide +kernel : ∀ t : Fin grid0.N, _)
theorem idx10 : ∀ t : Fin cfg0.N, win0_10.index t 0 = 0 ∧ win0_10.index t 1 = t.val ∧ win0_10.index t 2 = 0 := (by decide +kernel : ∀ t : Fin grid0.N, _)
theorem idx11 : ∀ t : Fin cfg0.N, win0_11.index t 0 = t.val ∧ win0_11.index t 1 = 0 := (by decide +kernel : ∀ t : Fin grid0.N, _)
theorem idx12 : ∀ t : Fin cfg0.N, win0_12.index t 0 = t.val ∧ win0_12.index t 1 = 0 := (by decide +kernel : ∀ t : Fin grid0.N, _)
theorem idx13 : ∀ t : Fin cfg0.N, win0_13.index t 0 = 0 ∧ win0_13.index t 1 = 0 := (by decide +kernel : ∀ t : Fin grid0.N, _)

theorem blk_x (t : Fin cfg0.N) (r : Fin 256) (k : Fin 1024) : (iblk m c 0 t : Vec Ideal S256x1024 .f32) (ix2 r k) = x m c (row t r) k :=
  (congrArg (V m c main_v7) (Tile.ix2_of _ (row t r) k (Tile.tile_coord 256 r.val (idx0 t).1)
    (Tile.whole_coord 1024 k.val (idx0 t).2))).trans (V_x m c (row t r) k)

theorem blk_tg (t : Fin cfg0.N) (r : Fin 256) (k : Fin 1024) : (iblk m c 1 t : Vec Ideal S256x1024 .f32) (ix2 r k) = tg m c (row t r) k :=
  (congrArg (V m c main_v8) (Tile.ix2_of _ (row t r) k (Tile.tile_coord 256 r.val (idx1 t).1)
    (Tile.whole_coord 1024 k.val (idx1 t).2))).trans (V_tg m c (row t r) k)

theorem blk_mod (t : Fin cfg0.N) (k : Fin 6144) : (iblk m c 2 t : Vec Ideal S1x6144 .f32) (ix2 0 k) = modv m c k :=
  (congrArg (V m c main_arg2) (Tile.ix2_of _ (0 : Fin 1) k (Tile.whole_coord 1 0 (idx2 t).1)
    (Tile.whole_coord 6144 k.val (idx2 t).2))).trans (congrFun (V_main_arg2 m c) _)

theorem blk_bias (t : Fin cfg0.N) (k : Fin 6144) : (iblk m c 3 t : Vec Ideal S1x6144 .f32) (ix2 0 k) = biasv m c k :=
  (congrArg (V m c main_arg3) (Tile.ix2_of _ (0 : Fin 1) k (Tile.whole_coord 1 0 (idx3 t).1)
    (Tile.whole_coord 6144 k.val (idx3 t).2))).trans (congrFun (V_main_arg3 m c) _)

theorem blk_nw (t : Fin cfg0.N) (k : Fin 1024) : (iblk m c 4 t : Vec Ideal S1x1024 .f32) (ix2 0 k) = nw m c k :=
  (congrArg (V m c main_arg4) (Tile.ix2_of _ (0 : Fin 1) k (Tile.whole_coord 1 0 (idx4 t).1)
    (Tile.whole_coord 1024 k.val (idx4 t).2))).trans (congrFun (V_main_arg4 m c) _)

theorem blk_nf (t : Fin cfg0.N) (k : Fin 1024) : (iblk m c 5 t : Vec Ideal S1x1024 .f32) (ix2 0 k) = nf m c k :=
  (congrArg (V m c main_v9) (Tile.ix2_of _ (0 : Fin 1) k (Tile.whole_coord 1 0 (idx5 t).1)
    (Tile.whole_coord 1024 k.val (idx5 t).2))).trans (V_nf m c k)

theorem blk_wi (t : Fin cfg0.N) (j : Fin 8) (q : Fin 704) (k : Fin 1024) :
    (iblk m c 6 t : Vec Ideal S8x704x1024 .bf16) (ix3 j q k) = wi m c k ⟨j.val * 704 + q.val, by omega⟩ :=
  (congrArg (V m c main_v3) (Tile.ix3_of _ j q k (Tile.whole_coord 8 j.val (idx6 t).1) (Tile.whole_coord 704 q.val (idx6 t).2.1)
    (Tile.whole_coord 1024 k.val (idx6 t).2.2))).trans (V_wi m c j q k)

theorem blk_wo (t : Fin cfg0.N) (j : Fin 4) (q : Fin 704) (k : Fin 1024) :
    (iblk m c 7 t : Vec Ideal S4x704x1024 .bf16) (ix3 j q k) = wo m c ⟨j.val * 704 + q.val, by omega⟩ k :=
  (congrArg (V m c main_v6) (Tile.ix3_of _ j q k (Tile.whole_coord 4 j.val (idx7 t).1) (Tile.whole_coord 704 q.val (idx7 t).2.1)
    (Tile.whole_coord 1024 k.val (idx7 t).2.2))).trans (V_wo m c j q k)

end Cert.LossIdeal.Val

end

end
-- ==== Proof.LossPt.lean ====
/- The call that ends the forward pass, the kernel's values: what each grid point leaves. Hand-written. -/
module

public import proofs.«01_k».proof.Proof.LossIn
public import proofs.«01_k».proof.Proof.Norm
public import Idealize.ShloMosaic.Lib.ValueLayoutCasts

@[expose] public section

set_option maxRecDepth 16384

noncomputable section

namespace Cert.LossIdeal.Val

open Idealize.ShloMosaic.TcCoe Idealize.SL.Sem Cert.LossIdeal Cert.LossIdeal.Gen Cert.Tile
open Idealize.ShloMosaic hiding ix1 ix2 ix3 eq_ix2
open Idealize.ShloMosaic.ValueIdx (ix1 ix2 ix3 eq_ix2)

/-! ## The body's expressions, read at an entry -/

/-- The gated value. -/
def gate (f u : EReal) : EReal := (f * Ideal.logistic f) * u

theorem pay5_at (v3 v4 v6 v7 : Vec Ideal S1x1024 .f32) (v12 : Vec Ideal S256x1024 .f32) (v24 : Vec Ideal S1x1024 .f32) (r : Fin 256) (k : Fin 1024) :
    k0_pay5 v3 v4 v6 v7 v12 v24 (ix2 r k) = ((v12 (ix2 r k) * Ideal.rsqrt (Ideal.div (∑ j : Fin 1024, v12 (ix2 r j) * v12 (ix2 r j)) (Ideal.ofBits .f32 0x44800000#32)
      + Ideal.ofBits .f32 0x358637BD#32)) * v24 (ix2 0 k)) * (1 + (v6 (ix2 0 k) + v7 (ix2 0 k))) + (v3 (ix2 0 k) + v4 (ix2 0 k)) := by
  rw [← Ideal.ofBits_one_f32]
  unfold k0_pay5 k0_pay4
  simp only [shapeCast_self]
  refine congrArg₂ (fun a b : EReal => a + b) (congrArg₂ (fun a b : EReal => a * b) (congrArg₂ (fun a b : EReal => v12 (ix2 r k) * a * b) ?_ ?_) ?_) ?_
  · refine (bcol_apply _ _ (by decide) r k).trans ?_
    refine congrArg (fun z => Ideal.rsqrt (Ideal.div z _ + _)) ((ValueIdx.shapeCast_a_a1_apply _ _ r 0).trans ?_)
    exact rowsum_apply _ _ _ _ _ r
  · exact brow_apply _ _ (by decide) r k
  · exact brow_apply _ _ (by decide) r k
  · exact brow_apply _ _ (by decide) r k

theorem pay6_at (v33 : Vec Ideal S256x1024 .bf16) (v36 : Vec Ideal S1x704x1024 .bf16) (r : Fin 256) (q : Fin 704) :
    k0_pay6 v33 v36 (ix2 r q) = ∑ k : Fin 1024, v33 (ix2 r k) * v36 (ix3 0 q k) := by
  unfold k0_pay6
  refine (matmul_NT _ rfl none _ _ r q).trans (Finset.sum_congr rfl fun k _ => congrArg (fun z : EReal => v33 (ix2 r k) * z) ?_)
  exact ValueIdx.shapeCast_1ab_ab_apply _ _ q k

theorem pay27_at (v85 : FVec Ideal S256x1024 .f32) (v88 v91 : FVec Ideal S256x704 .f32) (v107 : Vec Ideal S1x704x1024 .bf16) (r : Fin 256) (k : Fin 1024) :
    k0_pay27 v85 v88 v91 v107 (ix2 r k) = v85 (ix2 r k) + ∑ q : Fin 704, gate (v88 (ix2 r q)) (v91 (ix2 r q)) * v107 (ix3 0 q k) := by
  unfold k0_pay27
  simp only [ValueIdx.addf_apply]
  refine congrArg (fun a : EReal => v85 (ix2 r k) + a) ((matmul_NN _ rfl none _ _ r k).trans (Finset.sum_congr rfl fun q _ => ?_))
  exact congrArg (fun z : EReal => gate (v88 (ix2 r q)) (v91 (ix2 r q)) * z) (ValueIdx.shapeCast_1ab_ab_apply _ _ q k)

theorem pay35_at (v11 : FVec Ideal S1x1024 .f32) (v13 v110 : FVec Ideal S256x1024 .f32) (v113 v116 : FVec Ideal S256x704 .f32) (v132 : Vec Ideal S1x704x1024 .bf16) (r : Fin 256) (k : Fin 1024) :
    k0_pay35 v11 v13 v110 v113 v116 v132 (ix2 r k) = v13 (ix2 r k) + v11 (ix2 0 k) * k0_pay34 v110 v113 v116 v132 (ix2 r k) := by
  unfold k0_pay35
  simp only [ValueIdx.addf_apply, ValueIdx.mulf_apply]
  exact congrArg (fun z => v13 (ix2 r k) + z * _) (brow_apply _ _ (by decide) r k)

theorem pay36_at (v11 : FVec Ideal S1x1024 .f32) (v13 v110 : FVec Ideal S256x1024 .f32) (v113 v116 : FVec Ideal S256x704 .f32) (v132 : Vec Ideal S1x704x1024 .bf16) (r : Fin 256) :
    k0_pay36 v11 v13 v110 v113 v116 v132 (ix2 r 0) = Ideal.rsqrt (Ideal.div (∑ j : Fin 1024, k0_pay35 v11 v13 v110 v113 v116 v132 (ix2 r j)
      * k0_pay35 v11 v13 v110 v113 v116 v132 (ix2 r j)) (Ideal.ofBits .f32 0x44800000#32) + Ideal.ofBits .f32 0x358637BD#32) := by
  unfold k0_pay36
  refine congrArg (fun z => Ideal.rsqrt (Ideal.div z _ + _)) ((ValueIdx.shapeCast_a_a1_apply _ _ r 0).trans ?_)
  exact rowsum_apply _ _ _ _ _ r

theorem pay37_at (v11 : FVec Ideal S1x1024 .f32) (v13 v110 : FVec Ideal S256x1024 .f32) (v113 v116 : FVec Ideal S256x704 .f32) (v132 : Vec Ideal S1x704x1024 .bf16) (r : Fin 256) (k : Fin 1024) :
    k0_pay37 v11 v13 v110 v113 v116 v132 (ix2 r k) = k0_pay35 v11 v13 v110 v113 v116 v132 (ix2 r k) * k0_pay36 v11 v13 v110 v113 v116 v132 (ix2 r 0) := by
  unfold k0_pay37
  simp only [ValueIdx.mulf_apply]
  exact congrArg (_ * ·) (bcol_apply _ _ (by decide) r k)

theorem pay38_at (v11 : FVec Ideal S1x1024 .f32) (v13 v110 : FVec Ideal S256x1024 .f32) (v113 v116 : FVec Ideal S256x704 .f32) (v132 : Vec Ideal S1x704x1024 .bf16)
    (v149 : Vec Ideal S1x1024 .f32) (v153 : Vec Ideal S256x1024 .f32) (r : Fin 256) (k : Fin 1024) :
    k0_pay38 v11 v13 v110 v113 v116 v132 v149 v153 (ix2 r k) = k0_pay37 v11 v13 v110 v113 v116 v132 (ix2 r k) * v149 (ix2 0 k) - v153 (ix2 r k) := by
  unfold k0_pay38
  simp only [shapeCast_self, ValueIdx.mulf_apply, ValueIdx.subf_apply]
  exact congrArg (fun z => _ * z - v153 (ix2 r k)) (brow_apply _ _ (by decide) r k)

/-- Half the sum of a tile's rows' mean squares. -/
theorem pay39_at (v11 : FVec Ideal S1x1024 .f32) (v13 v110 : FVec Ideal S256x1024 .f32) (v113 v116 : FVec Ideal S256x704 .f32) (v132 : Vec Ideal S1x704x1024 .bf16)
    (v149 : Vec Ideal S1x1024 .f32) (v153 : Vec Ideal S256x1024 .f32) :
    k0_pay39 v11 v13 v110 v113 v116 v132 v149 v153 (ix2 0 0) = Ideal.ofBits .f32 0x3F000000#32 * ∑ r : Fin 256,
      Ideal.div (∑ j : Fin 1024, k0_pay38 v11 v13 v110 v113 v116 v132 v149 v153 (ix2 r j) * k0_pay38 v11 v13 v110 v113 v116 v132 v149 v153 (ix2 r j)) (Ideal.ofBits .f32 0x44800000#32) := by
  unfold k0_pay39
  simp only [ValueIdx.mulf_apply]
  refine congrArg (fun z => Ideal.ofBits .f32 0x3F000000#32 * z) ((ValueIdx.shapeCast_a_1a_apply _ _ 0 0).trans ((colsum_apply _ _ _ _ _ 0).trans (Finset.sum_congr rfl fun r _ => ?_)))
  refine congrArg (Ideal.div · _) ((ValueIdx.shapeCast_a_a1_apply _ _ r 0).trans ?_)
  exact rowsum_apply _ _ _ _ _ r

theorem pay41_at (v148 v155 : FVec Ideal S256x1024 .f32) (v167 : Vec Ideal S1x1024 .f32) (k : Fin 1024) :
    k0_pay41 v148 v155 v167 (ix2 0 k) = v167 (ix2 0 k) + ∑ r : Fin 256, (v155 (ix2 r k) * Ideal.ofBits .f32 0x3A800000#32) * v148 (ix2 r k) := by
  unfold k0_pay41
  simp only [shapeCast_self, ValueIdx.addf_apply]
  exact congrArg _ ((ValueIdx.shapeCast_a_1a_apply _ _ 0 k).trans (colsum_apply _ _ _ _ _ k))

theorem pay42_at (v146 : FVec Ideal S256x1 .f32) (v148 v155 : FVec Ideal S256x1024 .f32) (v174 : Vec Ideal S1x1024 .f32) (r : Fin 256) (k : Fin 1024) :
    k0_pay42 v146 v148 v155 v174 (ix2 r k) = v146 (ix2 r 0) * ((v155 (ix2 r k) * Ideal.ofBits .f32 0x3A800000#32) * v174 (ix2 0 k) - v148 (ix2 r k)
      * Ideal.div (∑ j : Fin 1024, ((v155 (ix2 r j) * Ideal.ofBits .f32 0x3A800000#32) * v174 (ix2 0 j)) * v148 (ix2 r j)) (Ideal.ofBits .f32 0x44800000#32)) := by
  unfold k0_pay42 k0_pay40
  simp only [shapeCast_self, ValueIdx.subf_apply, ValueIdx.mulf_apply]
  refine congrArg₂ (fun a b : EReal => a * b) (bcol_apply _ _ (by decide) r k)
    (congrArg₂ (fun y z => (v155 (ix2 r k) * Ideal.ofBits .f32 0x3A800000#32) * y - v148 (ix2 r k) * z) (brow_apply _ _ (by decide) r k)
    ((bcol_apply _ _ (by decide) r k).trans ?_))
  refine congrArg (Ideal.div · _) ((ValueIdx.shapeCast_a_a1_apply _ _ r 0).trans ((rowsum_apply _ _ _ _ _ r).trans (Finset.sum_congr rfl fun j _ => ?_)))
  exact congrArg (fun z => ((v155 (ix2 r j) * Ideal.ofBits .f32 0x3A800000#32) * z) * v148 (ix2 r j)) (brow_apply _ _ (by decide) r j)

theorem pay43_at (v135 : FVec Ideal S256x1024 .f32) (v146 : FVec Ideal S256x1 .f32) (v148 v155 : FVec Ideal S256x1024 .f32) (v174 v188 : Vec Ideal S1x1024 .f32) (k : Fin 1024) :
    k0_pay43 v135 v146 v148 v155 v174 v188 (ix2 0 k) = v188 (ix2 0 k) + ∑ r : Fin 256, k0_pay42 v146 v148 v155 v174 (ix2 r k) * v135 (ix2 r k) := by
  unfold k0_pay43
  simp only [shapeCast_self, ValueIdx.addf_apply]
  exact congrArg _ ((ValueIdx.shapeCast_a_1a_apply _ _ 0 k).trans (colsum_apply _ _ _ _ _ k))

/-- One number stretched over a row. -/
theorem bone_apply {α : Type} {N : ℕ} (x : (⟨2, ![1, 1]⟩ : Shape).Idx → α) (h : (⟨2, ![1, 1]⟩ : Shape).Broadcasts ⟨2, ![1, N]⟩) (j : Fin N) :
    broadcastTo ⟨2, ![1, N]⟩ x h (ix2 0 j) = x (ix2 0 0) :=
  broadcastTo_apply _ _ _ _ fun a => by
    match a with
    | 0 => rfl
    | 1 => rfl

theorem pay44_at (v164 : FVec Ideal S1x1 .f32) (v195 : Vec Ideal S1x1024 .f32) (k : Fin 1024) :
    k0_pay44 v164 v195 (ix2 0 k) = v195 (ix2 0 k) + v164 (ix2 0 0) := by
  unfold k0_pay44
  simp only [shapeCast_self, ValueIdx.addf_apply]
  exact congrArg _ (bone_apply _ _ k)

theorem pay1_at (v11 : FVec Ideal S1x1024 .f32) (v187 : FVec Ideal S256x1024 .f32) (r : Fin 256) (k : Fin 1024) :
    k0_pay1 v11 v187 (ix2 r k) = v11 (ix2 0 k) * v187 (ix2 r k) := by
  unfold k0_pay1
  exact congrArg (fun y => y * v187 (ix2 r k)) (brow_apply _ _ (by decide) r k)

theorem pay2_at (i : Fin 8) (k : Fin 1024) : (k0_pay2 : FVec Ideal S8x1024 .f32) (ix2 i k) = 0 := by
  unfold k0_pay2
  exact Ideal.ofBits_zero_f32

variable (m : (ℓ : Loc nD τ sig) → Buf (Elt Ideal) ℓ) (c : Dev nD)

/-! ## One row of the array -/

/-- A row's mean square plus the small constant, and its reciprocal root. -/
def ms (s : Fin 2048) : EReal := Ideal.div (∑ k : Fin 1024, x m c s k * x m c s k) (Ideal.ofBits .f32 0x44800000#32) + Ideal.ofBits .f32 0x358637BD#32
def rt (s : Fin 2048) : EReal := Ideal.rsqrt (ms m c s)
/-- The normalised and modulated row, its product with the first weight, the gated value and its product with the second weight. -/
def h (s : Fin 2048) (k : Fin 1024) : EReal := ((x m c s k * rt m c s) * nw m c k) * sc m c k + sh m c k
def pre (s : Fin 2048) (q : Fin 5632) : EReal := ∑ k : Fin 1024, h m c s k * wi m c k q
def act (s : Fin 2048) (q : Fin 2816) : EReal := gate (pre m c s ⟨q.val, by omega⟩) (pre m c s ⟨2816 + q.val, by omega⟩)
def ffn (s : Fin 2048) (k : Fin 1024) : EReal := ∑ q : Fin 2816, act m c s q * wo m c q k
/-- The block's output, the final norm's mean square and reciprocal root, the normalised row and the error. -/
def x2 (s : Fin 2048) (k : Fin 1024) : EReal := x m c s k + gt m c k * ffn m c s k
def ms3 (s : Fin 2048) : EReal := Ideal.div (∑ k : Fin 1024, x2 m c s k * x2 m c s k) (Ideal.ofBits .f32 0x44800000#32) + Ideal.ofBits .f32 0x358637BD#32
def rt3 (s : Fin 2048) : EReal := Ideal.rsqrt (ms3 m c s)
def xr (s : Fin 2048) (k : Fin 1024) : EReal := x2 m c s k * rt3 m c s
def err (s : Fin 2048) (k : Fin 1024) : EReal := xr m c s k * nf m c k - tg m c s k
/-- The gradient at the final norm's output, at the normalised row, at the block's output and at the gated term. -/
def dy (s : Fin 2048) (k : Fin 1024) : EReal := err m c s k * Ideal.ofBits .f32 0x3A800000#32
def dn (s : Fin 2048) (k : Fin 1024) : EReal := dy m c s k * nf m c k
def dx2 (s : Fin 2048) (k : Fin 1024) : EReal := rt3 m c s * (dn m c s k
  - xr m c s k * Ideal.div (∑ j : Fin 1024, dn m c s j * xr m c s j) (Ideal.ofBits .f32 0x44800000#32))
/-- The three rows of statistics: the terms of the final norm's weight gradient, of the gate's gradient and of the loss. -/
def d0 (s : Fin 2048) (k : Fin 1024) : EReal := dy m c s k * xr m c s k
def d1 (s : Fin 2048) (k : Fin 1024) : EReal := dx2 m c s k * ffn m c s k
def d5 (s : Fin 2048) : EReal := Ideal.ofBits .f32 0x3F000000#32
  * Ideal.div (∑ k : Fin 1024, err m c s k * err m c s k) (Ideal.ofBits .f32 0x44800000#32)

/-! ## One grid point -/

abbrev bx (t : Fin cfg0.N) : Vec Ideal S256x1024 .f32 := iblk m c 0 t
abbrev bt (t : Fin cfg0.N) : Vec Ideal S256x1024 .f32 := iblk m c 1 t
abbrev bn (t : Fin cfg0.N) : Vec Ideal S1x1024 .f32 := iblk m c 4 t
abbrev bf (t : Fin cfg0.N) : Vec Ideal S1x1024 .f32 := iblk m c 5 t

abbrev bm3 (t : Fin cfg0.N) : Vec Ideal S1x1024 .f32 :=
  View.ld (iblk m c 2 t : Vec Ideal S1x6144 .f32) (Rect.unit (s := ⟨2, ![1, 6144]⟩) ![0, 3072] ![1, 1024] inb_S1x6144_S1x1024_0_3072)
abbrev bm4 (t : Fin cfg0.N) : Vec Ideal S1x1024 .f32 :=
  View.ld (iblk m c 2 t : Vec Ideal S1x6144 .f32) (Rect.unit (s := ⟨2, ![1, 6144]⟩) ![0, 4096] ![1, 1024] inb_S1x6144_S1x1024_0_4096)
abbrev bm5 (t : Fin cfg0.N) : Vec Ideal S1x1024 .f32 :=
  View.ld (iblk m c 2 t : Vec Ideal S1x6144 .f32) (Rect.unit (s := ⟨2, ![1, 6144]⟩) ![0, 5120] ![1, 1024] inb_S1x6144_S1x1024_0_5120)
abbrev bb3 (t : Fin cfg0.N) : Vec Ideal S1x1024 .f32 :=
  View.ld (iblk m c 3 t : Vec Ideal S1x6144 .f32) (Rect.unit (s := ⟨2, ![1, 6144]⟩) ![0, 3072] ![1, 1024] inb_S1x6144_S1x1024_0_3072)
abbrev bb4 (t : Fin cfg0.N) : Vec Ideal S1x1024 .f32 :=
  View.ld (iblk m c 3 t : Vec Ideal S1x6144 .f32) (Rect.unit (s := ⟨2, ![1, 6144]⟩) ![0, 4096] ![1, 1024] inb_S1x6144_S1x1024_0_4096)
abbrev bb5 (t : Fin cfg0.N) : Vec Ideal S1x1024 .f32 :=
  View.ld (iblk m c 3 t : Vec Ideal S1x6144 .f32) (Rect.unit (s := ⟨2, ![1, 6144]⟩) ![0, 5120] ![1, 1024] inb_S1x6144_S1x1024_0_5120)
/-- Slab `o` lies in an array of slabs. -/
abbrev SlabIn (A M N o : ℕ) : Prop := ∀ a : Fin 3, (![o, 0, 0] : Fin 3 → ℕ) a + (![1, M, N] : Fin 3 → ℕ) a ≤ (⟨3, ![A, M, N]⟩ : Shape).size a
/-- Slab `o` of the two weights. -/
abbrev bwi (t : Fin cfg0.N) (o : ℕ) (inb : SlabIn 8 704 1024 o) : Vec Ideal S1x704x1024 .bf16 :=
  View.ld (iblk m c 6 t : Vec Ideal S8x704x1024 .bf16) (Rect.unit (s := ⟨3, ![8, 704, 1024]⟩) ![o, 0, 0] ![1, 704, 1024] inb)
abbrev bwo (t : Fin cfg0.N) (o : ℕ) (inb : SlabIn 4 704 1024 o) : Vec Ideal S1x704x1024 .bf16 :=
  View.ld (iblk m c 7 t : Vec Ideal S4x704x1024 .bf16) (Rect.unit (s := ⟨3, ![4, 704, 1024]⟩) ![o, 0, 0] ![1, 704, 1024] inb)

theorem bm3_at (t : Fin cfg0.N) (k : Fin 1024) : bm3 m c t (ix2 0 k) = modv m c ⟨3072 + k.val, by omega⟩ :=
  (ld_at _ 0 3072 1 1024 _ 0 k 0 ⟨3072 + k.val, by omega⟩ rfl rfl).trans (blk_mod m c t _)
theorem bm4_at (t : Fin cfg0.N) (k : Fin 1024) : bm4 m c t (ix2 0 k) = modv m c ⟨4096 + k.val, by omega⟩ :=
  (ld_at _ 0 4096 1 1024 _ 0 k 0 ⟨4096 + k.val, by omega⟩ rfl rfl).trans (blk_mod m c t _)
theorem bm5_at (t : Fin cfg0.N) (k : Fin 1024) : bm5 m c t (ix2 0 k) = modv m c ⟨5120 + k.val, by omega⟩ :=
  (ld_at _ 0 5120 1 1024 _ 0 k 0 ⟨5120 + k.val, by omega⟩ rfl rfl).trans (blk_mod m c t _)
theorem bb3_at (t : Fin cfg0.N) (k : Fin 1024) : bb3 m c t (ix2 0 k) = biasv m c ⟨3072 + k.val, by omega⟩ :=
  (ld_at _ 0 3072 1 1024 _ 0 k 0 ⟨3072 + k.val, by omega⟩ rfl rfl).trans (blk_bias m c t _)
theorem bb4_at (t : Fin cfg0.N) (k : Fin 1024) : bb4 m c t (ix2 0 k) = biasv m c ⟨4096 + k.val, by omega⟩ :=
  (ld_at _ 0 4096 1 1024 _ 0 k 0 ⟨4096 + k.val, by omega⟩ rfl rfl).trans (blk_bias m c t _)
theorem bb5_at (t : Fin cfg0.N) (k : Fin 1024) : bb5 m c t (ix2 0 k) = biasv m c ⟨5120 + k.val, by omega⟩ :=
  (ld_at _ 0 5120 1 1024 _ 0 k 0 ⟨5120 + k.val, by omega⟩ rfl rfl).trans (blk_bias m c t _)
theorem bwi_at (t : Fin cfg0.N) (j : Fin 8) (inb) (q : Fin 704) (k : Fin 1024) : bwi m c t j.val inb (ix3 0 q k) = wi m c k ⟨j.val * 704 + q.val, by omega⟩ :=
  (ld_slab _ _ _ j rfl q k).trans (blk_wi m c t j q k)
theorem bwo_at (t : Fin cfg0.N) (j : Fin 4) (inb) (q : Fin 704) (k : Fin 1024) : bwo m c t j.val inb (ix3 0 q k) = wo m c ⟨j.val * 704 + q.val, by omega⟩ k :=
  (ld_slab _ _ _ j rfl q k).trans (blk_wo m c t j q k)

/-- The tile of the modulated row, of the gate and of block `o` of the first product. -/
abbrev th (t : Fin cfg0.N) : FVec Ideal S256x1024 .bf16 := k0_pay5 (bm3 m c t) (bb3 m c t) (bm4 m c t) (bb4 m c t) (bx m c t) (bn m c t)
abbrev tgt (t : Fin cfg0.N) : FVec Ideal S1x1024 .f32 := k0_pay3 (bm5 m c t) (bb5 m c t)
abbrev tp (t : Fin cfg0.N) (o : ℕ) (inb : SlabIn 8 704 1024 o) : FVec Ideal S256x704 .f32 := k0_pay6 (th m c t) (bwi m c t o inb)

theorem tile_h (t : Fin cfg0.N) (r : Fin 256) (k : Fin 1024) : th m c t (ix2 r k) = h m c (row t r) k := by
  refine (pay5_at _ _ _ _ _ _ r k).trans ?_
  rw [bm3_at, bb3_at, bm4_at, bb4_at]
  unfold h rt ms
  refine congrArg₂ (fun a b : EReal => a * b * _ + _) ?_ (blk_nw m c t k)
  refine congrArg₂ (fun a b : EReal => a * Ideal.rsqrt (Ideal.div b _ + _)) (blk_x m c t r k) (Finset.sum_congr rfl fun j _ => ?_)
  exact congrArg₂ (fun a b : EReal => a * b) (blk_x m c t r j) (blk_x m c t r j)

theorem tile_gt (t : Fin cfg0.N) (k : Fin 1024) : tgt m c t (ix2 0 k) = gt m c k :=
  congrArg₂ (fun a b : EReal => a + b) (bm5_at m c t k) (bb5_at m c t k)

theorem tile_pre (t : Fin cfg0.N) (j : Fin 8) (inb) (r : Fin 256) (q : Fin 704) :
    tp m c t j.val inb (ix2 r q) = pre m c (row t r) ⟨j.val * 704 + q.val, by omega⟩ :=
  (pay6_at _ _ r q).trans (Finset.sum_congr rfl fun k _ => congrArg₂ (fun a b : EReal => a * b) (tile_h m c t r k) (bwi_at m c t j inb q k))

/-- The gated value, block `j` of four. -/
theorem tile_act (t : Fin cfg0.N) (j : Fin 4) (inb1 inb2) (r : Fin 256) (q : Fin 704) :
    gate (tp m c t j.val inb1 (ix2 r q)) (tp m c t (4 + j.val) inb2 (ix2 r q)) = act m c (row t r) ⟨j.val * 704 + q.val, by omega⟩ := by
  unfold act
  refine congrArg₂ gate (tile_pre m c t ⟨j.val, by omega⟩ inb1 r q) ((tile_pre m c t ⟨4 + j.val, by omega⟩ inb2 r q).trans (congrArg _ (Fin.ext ?_)))
  show (4 + j.val) * 704 + q.val = 2816 + (j.val * 704 + q.val)
  omega

theorem tile_actv (t : Fin cfg0.N) (j : Fin 4) (inb1 inb2) (r : Fin 256) (q : Fin 704) :
    k0_pay32 (tp m c t j.val inb1) (tp m c t (4 + j.val) inb2) (ix2 r q) = act m c (row t r) ⟨j.val * 704 + q.val, by omega⟩ :=
  Eq.trans (by unfold k0_pay32 gate; rfl) (tile_act m c t j inb1 inb2 r q)

/-- Block `j` of four of the second product. -/
def part (s : Fin 2048) (k : Fin 1024) (j : Fin 4) : EReal :=
  ∑ q : Fin 704, act m c s ⟨j.val * 704 + q.val, by omega⟩ * wo m c ⟨j.val * 704 + q.val, by omega⟩ k

theorem tile_part (t : Fin cfg0.N) (j : Fin 4) (inb1 inb2 inb3) (r : Fin 256) (k : Fin 1024) :
    ∑ q : Fin 704, gate (tp m c t j.val inb1 (ix2 r q)) (tp m c t (4 + j.val) inb2 (ix2 r q)) * bwo m c t j.val inb3 (ix3 0 q k) = part m c (row t r) k j :=
  Finset.sum_congr rfl fun q _ => congrArg₂ (fun a b : EReal => a * b) (tile_act m c t j inb1 inb2 r q) (bwo_at m c t j inb3 q k)

/-- Three quarters of the tile of the second product … -/
abbrev tacc (t : Fin cfg0.N) : FVec Ideal S256x1024 .f32 :=
  k0_pay27 (k0_pay19 (th m c t) (k0_pay12 (th m c t) (bwi m c t 0 inb_S8x704x1024_S1x704x1024_0_0_0) (bwi m c t 4 inb_S8x704x1024_S1x704x1024_4_0_0)
        (bwo m c t 0 inb_S4x704x1024_S1x704x1024_0_0_0))
      (k0_pay13 (th m c t) (bwi m c t 1 inb_S8x704x1024_S1x704x1024_1_0_0)) (bwi m c t 5 inb_S8x704x1024_S1x704x1024_5_0_0)
      (bwo m c t 1 inb_S4x704x1024_S1x704x1024_1_0_0))
    (k0_pay20 (th m c t) (bwi m c t 2 inb_S8x704x1024_S1x704x1024_2_0_0)) (k0_pay21 (th m c t) (bwi m c t 6 inb_S8x704x1024_S1x704x1024_6_0_0))
    (bwo m c t 2 inb_S4x704x1024_S1x704x1024_2_0_0)
/-- … and the last block's factors. -/
abbrev tf3 (t : Fin cfg0.N) : FVec Ideal S256x704 .f32 := k0_pay28 (th m c t) (bwi m c t 3 inb_S8x704x1024_S1x704x1024_3_0_0)
abbrev tu3 (t : Fin cfg0.N) : FVec Ideal S256x704 .f32 := k0_pay29 (th m c t) (bwi m c t 7 inb_S8x704x1024_S1x704x1024_7_0_0)
abbrev tw3 (t : Fin cfg0.N) : Vec Ideal S1x704x1024 .bf16 := bwo m c t 3 inb_S4x704x1024_S1x704x1024_3_0_0

/-- The body's accumulation is four steps of one kind. -/
theorem acc_eq (t : Fin cfg0.N) : k0_pay34 (tacc m c t) (tf3 m c t) (tu3 m c t) (tw3 m c t)
    = k0_pay27 (k0_pay27 (k0_pay27 (k0_pay27 (fun _ => Ideal.ofBits .f32 0x00000000#32)
        (tp m c t 0 inb_S8x704x1024_S1x704x1024_0_0_0) (tp m c t 4 inb_S8x704x1024_S1x704x1024_4_0_0) (bwo m c t 0 inb_S4x704x1024_S1x704x1024_0_0_0))
        (tp m c t 1 inb_S8x704x1024_S1x704x1024_1_0_0) (tp m c t 5 inb_S8x704x1024_S1x704x1024_5_0_0) (bwo m c t 1 inb_S4x704x1024_S1x704x1024_1_0_0))
        (tp m c t 2 inb_S8x704x1024_S1x704x1024_2_0_0) (tp m c t 6 inb_S8x704x1024_S1x704x1024_6_0_0) (bwo m c t 2 inb_S4x704x1024_S1x704x1024_2_0_0))
        (tp m c t 3 inb_S8x704x1024_S1x704x1024_3_0_0) (tp m c t 7 inb_S8x704x1024_S1x704x1024_7_0_0) (bwo m c t 3 inb_S4x704x1024_S1x704x1024_3_0_0) := rfl

theorem tile_ffn (t : Fin cfg0.N) (r : Fin 256) (k : Fin 1024) :
    k0_pay34 (tacc m c t) (tf3 m c t) (tu3 m c t) (tw3 m c t) (ix2 r k) = ffn m c (row t r) k := by
  rw [acc_eq, pay27_at, pay27_at, pay27_at, pay27_at, Ideal.ofBits_zero_f32]
  have hd : ffn m c (row t r) k = ∑ j : Fin 4, part m c (row t r) k j :=
    sum_blocks 4 704 rfl _ _ fun j q i hi => by
      have e : i = ⟨j.val * 704 + q.val, by omega⟩ := Fin.ext hi
      rw [e]
  rw [hd, Fin.sum_univ_four]
  refine (congrArg₂ (fun a b : EReal => a + b) (congrArg₂ (fun a b : EReal => a + b) (congrArg₂ (fun a b : EReal => a + b) (congrArg (fun b : EReal => 0 + b)
      (tile_part m c t 0 _ _ _ r k)) (tile_part m c t 1 _ _ _ r k)) (tile_part m c t 2 _ _ _ r k)) (tile_part m c t 3 _ _ _ r k)).trans ?_
  rw [zero_add]

/-- The tiles of the block's output, the final norm's reciprocal root and row, and the error. -/
abbrev tx2 (t : Fin cfg0.N) : FVec Ideal S256x1024 .f32 := k0_pay35 (tgt m c t) (k0_pay4 (bx m c t)) (tacc m c t) (tf3 m c t) (tu3 m c t) (tw3 m c t)
abbrev tr3 (t : Fin cfg0.N) : FVec Ideal S256x1 .f32 := k0_pay36 (tgt m c t) (k0_pay4 (bx m c t)) (tacc m c t) (tf3 m c t) (tu3 m c t) (tw3 m c t)
abbrev txr (t : Fin cfg0.N) : FVec Ideal S256x1024 .f32 := k0_pay37 (tgt m c t) (k0_pay4 (bx m c t)) (tacc m c t) (tf3 m c t) (tu3 m c t) (tw3 m c t)
abbrev te (t : Fin cfg0.N) : FVec Ideal S256x1024 .f32 := k0_pay38 (tgt m c t) (k0_pay4 (bx m c t)) (tacc m c t) (tf3 m c t) (tu3 m c t) (tw3 m c t) (bf m c t) (bt m c t)
abbrev tl (t : Fin cfg0.N) : FVec Ideal S1x1 .f32 := k0_pay39 (tgt m c t) (k0_pay4 (bx m c t)) (tacc m c t) (tf3 m c t) (tu3 m c t) (tw3 m c t) (bf m c t) (bt m c t)
abbrev tdx (t : Fin cfg0.N) : FVec Ideal S256x1024 .f32 := k0_pay42 (tr3 m c t) (txr m c t) (te m c t) (bf m c t)

theorem tile_x2 (t : Fin cfg0.N) (r : Fin 256) (k : Fin 1024) : tx2 m c t (ix2 r k) = x2 m c (row t r) k := by
  refine (pay35_at _ _ _ _ _ _ r k).trans ?_
  rw [tile_ffn, tile_gt]
  unfold k0_pay4
  rw [shapeCast_self]
  exact congrArg (fun z : EReal => z + _) (blk_x m c t r k)

theorem tile_r3 (t : Fin cfg0.N) (r : Fin 256) : tr3 m c t (ix2 r 0) = rt3 m c (row t r) := by
  refine (pay36_at _ _ _ _ _ _ r).trans ?_
  unfold rt3 ms3
  refine congrArg (fun z => Ideal.rsqrt (Ideal.div z _ + _)) (Finset.sum_congr rfl fun k _ => ?_)
  exact congrArg₂ (fun a b : EReal => a * b) (tile_x2 m c t r k) (tile_x2 m c t r k)

theorem tile_xr (t : Fin cfg0.N) (r : Fin 256) (k : Fin 1024) : txr m c t (ix2 r k) = xr m c (row t r) k := by
  refine (pay37_at _ _ _ _ _ _ r k).trans ?_
  exact congrArg₂ (fun a b : EReal => a * b) (tile_x2 m c t r k) (tile_r3 m c t r)

theorem tile_e (t : Fin cfg0.N) (r : Fin 256) (k : Fin 1024) : te m c t (ix2 r k) = err m c (row t r) k := by
  refine (pay38_at _ _ _ _ _ _ _ _ r k).trans ?_
  exact congrArg₂ (fun a b : EReal => a - b) (congrArg₂ (fun a b : EReal => a * b) (tile_xr m c t r k) (blk_nf m c t k)) (blk_tg m c t r k)

theorem tile_dn (t : Fin cfg0.N) (r : Fin 256) (k : Fin 1024) :
    (te m c t (ix2 r k) * Ideal.ofBits .f32 0x3A800000#32) * bf m c t (ix2 0 k) = dn m c (row t r) k :=
  congrArg₂ (fun a b : EReal => (a * Ideal.ofBits .f32 0x3A800000#32) * b) (tile_e m c t r k) (blk_nf m c t k)

theorem tile_dx (t : Fin cfg0.N) (r : Fin 256) (k : Fin 1024) : tdx m c t (ix2 r k) = dx2 m c (row t r) k := by
  refine (pay42_at _ _ _ _ r k).trans ?_
  rw [tile_r3, tile_xr, tile_dn]
  unfold dx2
  refine congrArg (fun z => rt3 m c (row t r) * (dn m c (row t r) k - xr m c (row t r) k * Ideal.div z _)) (Finset.sum_congr rfl fun j _ => ?_)
  exact congrArg₂ (fun a b : EReal => a * b) (tile_dn m c t r j) (tile_xr m c t r j)

theorem tile_df (t : Fin cfg0.N) (r : Fin 256) (k : Fin 1024) : k0_pay1 (tgt m c t) (tdx m c t) (ix2 r k) = gt m c k * dx2 m c (row t r) k := by
  rw [pay1_at, tile_gt, tile_dx]

/-- Half is a positive number. -/
theorem ofBits_half : Ideal.ofBits .f32 0x3F000000#32 = ((1 / 2 : ℝ) : EReal) := by
  rw [ieee_normal _ false 126 0 (by decide) (by decide) (by decide) (by decide) (by decide)]
  refine congrArg _ ?_
  norm_num

theorem tile_l (t : Fin cfg0.N) : tl m c t (ix2 0 0) = ∑ r : Fin 256, d5 m c (row t r) := by
  refine (pay39_at _ _ _ _ _ _ _ _).trans ?_
  rw [ofBits_half, mul_sum_pos _ (by norm_num : (0 : ℝ) ≤ 1 / 2)]
  unfold d5
  rw [ofBits_half]
  refine Finset.sum_congr rfl fun r _ => congrArg (fun z => ((1 / 2 : ℝ) : EReal) * Ideal.div z _) (Finset.sum_congr rfl fun j _ => ?_)
  exact congrArg₂ (fun a b : EReal => a * b) (tile_e m c t r j) (tile_e m c t r j)

theorem tile_s0 (t : Fin cfg0.N) (v : Vec Ideal S1x1024 .f32) (k : Fin 1024) :
    k0_pay41 (txr m c t) (te m c t) v (ix2 0 k) = v (ix2 0 k) + ∑ r : Fin 256, d0 m c (row t r) k := by
  rw [pay41_at]
  refine congrArg _ (Finset.sum_congr rfl fun r _ => ?_)
  rw [tile_e, tile_xr]
  rfl

theorem tile_s1 (t : Fin cfg0.N) (v : Vec Ideal S1x1024 .f32) (k : Fin 1024) :
    k0_pay43 (k0_pay34 (tacc m c t) (tf3 m c t) (tu3 m c t) (tw3 m c t)) (tr3 m c t) (txr m c t) (te m c t) (bf m c t) v (ix2 0 k)
      = v (ix2 0 k) + ∑ r : Fin 256, d1 m c (row t r) k := by
  rw [pay43_at]
  refine congrArg _ (Finset.sum_congr rfl fun r _ => ?_)
  exact congrArg₂ (fun a b : EReal => a * b) (tile_dx m c t r k) (tile_ffn m c t r k)

theorem tile_s5 (t : Fin cfg0.N) (v : Vec Ideal S1x1024 .f32) (k : Fin 1024) :
    k0_pay44 (tl m c t) v (ix2 0 k) = v (ix2 0 k) + ∑ r : Fin 256, d5 m c (row t r) := by
  rw [pay44_at, tile_l]

/-! ## What a grid point leaves -/

theorem h_at (t : Fin cfg0.N) (r : Fin 256) (k : Fin 1024) : (outsAt0 m c t.val t.isLt).1 (ix2 r k) = h m c (row t r) k := by
  by_cases h0 : t.val % 8 = 0
  · rw [outsAt0_A m c t h0]
    dsimp only
    unfold out0_A_8 kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole]
    rw [whole_hit]
    exact tile_h m c t r k
  · rw [outsAt0_B m c t h0]
    dsimp only
    unfold out0_B_8 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole]
    rw [whole_hit]
    exact tile_h m c t r k

theorem dx_at (t : Fin cfg0.N) (r : Fin 256) (k : Fin 1024) : (outsAt0 m c t.val t.isLt).2.2.2.1 (ix2 r k) = dx2 m c (row t r) k := by
  by_cases h0 : t.val % 8 = 0
  · rw [outsAt0_A m c t h0]
    dsimp only
    unfold out0_A_11 kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole]
    rw [whole_hit]
    exact tile_dx m c t r k
  · rw [outsAt0_B m c t h0]
    dsimp only
    unfold out0_B_11 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole]
    rw [whole_hit]
    exact tile_dx m c t r k

theorem df_at (t : Fin cfg0.N) (r : Fin 256) (k : Fin 1024) : (outsAt0 m c t.val t.isLt).2.2.2.2.1 (ix2 r k) = gt m c k * dx2 m c (row t r) k := by
  by_cases h0 : t.val % 8 = 0
  · rw [outsAt0_A m c t h0]
    dsimp only
    unfold out0_A_12 kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole]
    rw [whole_hit]
    exact tile_df m c t r k
  · rw [outsAt0_B m c t h0]
    dsimp only
    unfold out0_B_12 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole]
    rw [whole_hit]
    exact tile_df m c t r k

set_option maxHeartbeats 1000000 in
theorem act_at (t : Fin cfg0.N) (j : Fin 4) (r : Fin 256) (q : Fin 704) :
    (outsAt0 m c t.val t.isLt).2.1 (ix3 j r q) = act m c (row t r) ⟨j.val * 704 + q.val, by omega⟩ := by
  by_cases h0 : t.val % 8 = 0
  · rw [outsAt0_A m c t h0]
    dsimp only
    unfold out0_A_9 kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole]
    match j with
    | 0 => rw [slab_miss _ _ 3 _ _ _ 0 (by decide), slab_miss _ _ 2 _ _ _ 0 (by decide), slab_miss _ _ 1 _ _ _ 0 (by decide), slab_hit _ _ 0 _ _ _ 0 rfl]; exact (ValueIdx.shapeCast_ab_1ab_apply _ _ 0 r q).trans (tile_actv m c t 0 _ _ r q)
    | 1 => rw [slab_miss _ _ 3 _ _ _ 1 (by decide), slab_miss _ _ 2 _ _ _ 1 (by decide), slab_hit _ _ 1 _ _ _ 1 rfl]; exact (ValueIdx.shapeCast_ab_1ab_apply _ _ 0 r q).trans (tile_actv m c t 1 _ _ r q)
    | 2 => rw [slab_miss _ _ 3 _ _ _ 2 (by decide), slab_hit _ _ 2 _ _ _ 2 rfl]; exact (ValueIdx.shapeCast_ab_1ab_apply _ _ 0 r q).trans (tile_actv m c t 2 _ _ r q)
    | 3 => rw [slab_hit _ _ 3 _ _ _ 3 rfl]; exact (ValueIdx.shapeCast_ab_1ab_apply _ _ 0 r q).trans (tile_actv m c t 3 _ _ r q)
  · rw [outsAt0_B m c t h0]
    dsimp only
    unfold out0_B_9 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole]
    match j with
    | 0 => rw [slab_miss _ _ 3 _ _ _ 0 (by decide), slab_miss _ _ 2 _ _ _ 0 (by decide), slab_miss _ _ 1 _ _ _ 0 (by decide), slab_hit _ _ 0 _ _ _ 0 rfl]; exact (ValueIdx.shapeCast_ab_1ab_apply _ _ 0 r q).trans (tile_actv m c t 0 _ _ r q)
    | 1 => rw [slab_miss _ _ 3 _ _ _ 1 (by decide), slab_miss _ _ 2 _ _ _ 1 (by decide), slab_hit _ _ 1 _ _ _ 1 rfl]; exact (ValueIdx.shapeCast_ab_1ab_apply _ _ 0 r q).trans (tile_actv m c t 1 _ _ r q)
    | 2 => rw [slab_miss _ _ 3 _ _ _ 2 (by decide), slab_hit _ _ 2 _ _ _ 2 rfl]; exact (ValueIdx.shapeCast_ab_1ab_apply _ _ 0 r q).trans (tile_actv m c t 2 _ _ r q)
    | 3 => rw [slab_hit _ _ 3 _ _ _ 3 rfl]; exact (ValueIdx.shapeCast_ab_1ab_apply _ _ 0 r q).trans (tile_actv m c t 3 _ _ r q)

set_option maxHeartbeats 1000000 in
theorem pre_at (t : Fin cfg0.N) (j : Fin 8) (r : Fin 256) (q : Fin 704) :
    (outsAt0 m c t.val t.isLt).2.2.1 (ix3 j r q) = pre m c (row t r) ⟨j.val * 704 + q.val, by omega⟩ := by
  by_cases h0 : t.val % 8 = 0
  · rw [outsAt0_A m c t h0]
    dsimp only
    unfold out0_A_10 kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole]
    match j with
    | 0 => rw [slab_miss _ _ 7 _ _ _ 0 (by decide), slab_miss _ _ 3 _ _ _ 0 (by decide), slab_miss _ _ 6 _ _ _ 0 (by decide), slab_miss _ _ 2 _ _ _ 0 (by decide), slab_miss _ _ 5 _ _ _ 0 (by decide), slab_miss _ _ 1 _ _ _ 0 (by decide), slab_miss _ _ 4 _ _ _ 0 (by decide), slab_hit _ _ 0 _ _ _ 0 rfl]; exact (ValueIdx.shapeCast_ab_1ab_apply _ _ 0 r q).trans (tile_pre m c t 0 _ r q)
    | 1 => rw [slab_miss _ _ 7 _ _ _ 1 (by decide), slab_miss _ _ 3 _ _ _ 1 (by decide), slab_miss _ _ 6 _ _ _ 1 (by decide), slab_miss _ _ 2 _ _ _ 1 (by decide), slab_miss _ _ 5 _ _ _ 1 (by decide), slab_hit _ _ 1 _ _ _ 1 rfl]; exact (ValueIdx.shapeCast_ab_1ab_apply _ _ 0 r q).trans (tile_pre m c t 1 _ r q)
    | 2 => rw [slab_miss _ _ 7 _ _ _ 2 (by decide), slab_miss _ _ 3 _ _ _ 2 (by decide), slab_miss _ _ 6 _ _ _ 2 (by decide), slab_hit _ _ 2 _ _ _ 2 rfl]; exact (ValueIdx.shapeCast_ab_1ab_apply _ _ 0 r q).trans (tile_pre m c t 2 _ r q)
    | 3 => rw [slab_miss _ _ 7 _ _ _ 3 (by decide), slab_hit _ _ 3 _ _ _ 3 rfl]; exact (ValueIdx.shapeCast_ab_1ab_apply _ _ 0 r q).trans (tile_pre m c t 3 _ r q)
    | 4 => rw [slab_miss _ _ 7 _ _ _ 4 (by decide), slab_miss _ _ 3 _ _ _ 4 (by decide), slab_miss _ _ 6 _ _ _ 4 (by decide), slab_miss _ _ 2 _ _ _ 4 (by decide), slab_miss _ _ 5 _ _ _ 4 (by decide), slab_miss _ _ 1 _ _ _ 4 (by decide), slab_hit _ _ 4 _ _ _ 4 rfl]; exact (ValueIdx.shapeCast_ab_1ab_apply _ _ 0 r q).trans (tile_pre m c t 4 _ r q)
    | 5 => rw [slab_miss _ _ 7 _ _ _ 5 (by decide), slab_miss _ _ 3 _ _ _ 5 (by decide), slab_miss _ _ 6 _ _ _ 5 (by decide), slab_miss _ _ 2 _ _ _ 5 (by decide), slab_hit _ _ 5 _ _ _ 5 rfl]; exact (ValueIdx.shapeCast_ab_1ab_apply _ _ 0 r q).trans (tile_pre m c t 5 _ r q)
    | 6 => rw [slab_miss _ _ 7 _ _ _ 6 (by decide), slab_miss _ _ 3 _ _ _ 6 (by decide), slab_hit _ _ 6 _ _ _ 6 rfl]; exact (ValueIdx.shapeCast_ab_1ab_apply _ _ 0 r q).trans (tile_pre m c t 6 _ r q)
    | 7 => rw [slab_hit _ _ 7 _ _ _ 7 rfl]; exact (ValueIdx.shapeCast_ab_1ab_apply _ _ 0 r q).trans (tile_pre m c t 7 _ r q)
  · rw [outsAt0_B m c t h0]
    dsimp only
    unfold out0_B_10 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole]
    match j with
    | 0 => rw [slab_miss _ _ 7 _ _ _ 0 (by decide), slab_miss _ _ 3 _ _ _ 0 (by decide), slab_miss _ _ 6 _ _ _ 0 (by decide), slab_miss _ _ 2 _ _ _ 0 (by decide), slab_miss _ _ 5 _ _ _ 0 (by decide), slab_miss _ _ 1 _ _ _ 0 (by decide), slab_miss _ _ 4 _ _ _ 0 (by decide), slab_hit _ _ 0 _ _ _ 0 rfl]; exact (ValueIdx.shapeCast_ab_1ab_apply _ _ 0 r q).trans (tile_pre m c t 0 _ r q)
    | 1 => rw [slab_miss _ _ 7 _ _ _ 1 (by decide), slab_miss _ _ 3 _ _ _ 1 (by decide), slab_miss _ _ 6 _ _ _ 1 (by decide), slab_miss _ _ 2 _ _ _ 1 (by decide), slab_miss _ _ 5 _ _ _ 1 (by decide), slab_hit _ _ 1 _ _ _ 1 rfl]; exact (ValueIdx.shapeCast_ab_1ab_apply _ _ 0 r q).trans (tile_pre m c t 1 _ r q)
    | 2 => rw [slab_miss _ _ 7 _ _ _ 2 (by decide), slab_miss _ _ 3 _ _ _ 2 (by decide), slab_miss _ _ 6 _ _ _ 2 (by decide), slab_hit _ _ 2 _ _ _ 2 rfl]; exact (ValueIdx.shapeCast_ab_1ab_apply _ _ 0 r q).trans (tile_pre m c t 2 _ r q)
    | 3 => rw [slab_miss _ _ 7 _ _ _ 3 (by decide), slab_hit _ _ 3 _ _ _ 3 rfl]; exact (ValueIdx.shapeCast_ab_1ab_apply _ _ 0 r q).trans (tile_pre m c t 3 _ r q)
    | 4 => rw [slab_miss _ _ 7 _ _ _ 4 (by decide), slab_miss _ _ 3 _ _ _ 4 (by decide), slab_miss _ _ 6 _ _ _ 4 (by decide), slab_miss _ _ 2 _ _ _ 4 (by decide), slab_miss _ _ 5 _ _ _ 4 (by decide), slab_miss _ _ 1 _ _ _ 4 (by decide), slab_hit _ _ 4 _ _ _ 4 rfl]; exact (ValueIdx.shapeCast_ab_1ab_apply _ _ 0 r q).trans (tile_pre m c t 4 _ r q)
    | 5 => rw [slab_miss _ _ 7 _ _ _ 5 (by decide), slab_miss _ _ 3 _ _ _ 5 (by decide), slab_miss _ _ 6 _ _ _ 5 (by decide), slab_miss _ _ 2 _ _ _ 5 (by decide), slab_hit _ _ 5 _ _ _ 5 rfl]; exact (ValueIdx.shapeCast_ab_1ab_apply _ _ 0 r q).trans (tile_pre m c t 5 _ r q)
    | 6 => rw [slab_miss _ _ 7 _ _ _ 6 (by decide), slab_miss _ _ 3 _ _ _ 6 (by decide), slab_hit _ _ 6 _ _ _ 6 rfl]; exact (ValueIdx.shapeCast_ab_1ab_apply _ _ 0 r q).trans (tile_pre m c t 6 _ r q)
    | 7 => rw [slab_hit _ _ 7 _ _ _ 7 rfl]; exact (ValueIdx.shapeCast_ab_1ab_apply _ _ 0 r q).trans (tile_pre m c t 7 _ r q)

/-- What the point before left. -/
abbrev prev (t : Fin cfg0.N) := outsAt0 m c (t.val - 1) (Nat.lt_of_le_of_lt (Nat.sub_le _ _) t.isLt)

theorem st0_step (t : Fin cfg0.N) (k : Fin 1024) : (outsAt0 m c t.val t.isLt).2.2.2.2.2 (ix2 0 k)
    = (if t.val % 8 = 0 then 0 else (prev m c t).2.2.2.2.2 (ix2 0 k)) + ∑ r : Fin 256, d0 m c (row t r) k := by
  by_cases h0 : t.val % 8 = 0
  · rw [outsAt0_A m c t h0, if_pos h0]
    dsimp only
    unfold out0_A_13 kernelRun0_A
    dsimp only
    sl_unfold_words
    simp only [View.readAt_eq_ld, View.readCov, (hs0_0 t).read_unread, (hs0_1 t).read_unread, (hs0_2 t).read_unread, (hs0_3 t).read_unread, (hs0_4 t).read_unread, (hs0_5 t).read_unread, (hs0_6 t).read_unread, (hs0_7 t).read_unread, ld_whole]
    rw [row_miss _ _ 5 _ _ _ 0 (by decide), row_miss _ _ 1 _ _ _ 0 (by decide), row_hit _ _ 0 _ _ _ 0 rfl]
    refine (tile_s0 m c t _ k).trans ?_
    rw [ld_at _ 0 0 1 1024 _ 0 k 0 k rfl (by omega), whole_hit, pay2_at]
  · rw [outsAt0_B m c t h0, if_neg h0]
    dsimp only
    unfold out0_B_13 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole]
    rw [row_miss _ _ 5 _ _ _ 0 (by decide), row_miss _ _ 1 _ _ _ 0 (by decide), row_hit _ _ 0 _ _ _ 0 rfl]
    refine (tile_s0 m c t _ k).trans ?_
    rw [ld_at _ 0 0 1 1024 _ 0 k 0 k rfl (by omega), (hs0_13 t).read_unread]

theorem st1_step (t : Fin cfg0.N) (k : Fin 1024) : (outsAt0 m c t.val t.isLt).2.2.2.2.2 (ix2 1 k)
    = (if t.val % 8 = 0 then 0 else (prev m c t).2.2.2.2.2 (ix2 1 k)) + ∑ r : Fin 256, d1 m c (row t r) k := by
  by_cases h0 : t.val % 8 = 0
  · rw [outsAt0_A m c t h0, if_pos h0]
    dsimp only
    unfold out0_A_13 kernelRun0_A
    dsimp only
    sl_unfold_words
    simp only [View.readAt_eq_ld, View.readCov, (hs0_0 t).read_unread, (hs0_1 t).read_unread, (hs0_2 t).read_unread, (hs0_3 t).read_unread, (hs0_4 t).read_unread, (hs0_5 t).read_unread, (hs0_6 t).read_unread, (hs0_7 t).read_unread, ld_whole]
    rw [row_miss _ _ 5 _ _ _ 1 (by decide), row_hit _ _ 1 _ _ _ 1 rfl]
    refine (tile_s1 m c t _ k).trans ?_
    rw [ld_at _ 1 0 1 1024 _ 0 k 1 k rfl (by omega), row_miss _ _ 0 _ _ _ 1 (by decide), whole_hit, pay2_at]
  · rw [outsAt0_B m c t h0, if_neg h0]
    dsimp only
    unfold out0_B_13 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole]
    rw [row_miss _ _ 5 _ _ _ 1 (by decide), row_hit _ _ 1 _ _ _ 1 rfl]
    refine (tile_s1 m c t _ k).trans ?_
    rw [ld_at _ 1 0 1 1024 _ 0 k 1 k rfl (by omega), (hs0_13 t).read_unread]

theorem st5_step (t : Fin cfg0.N) (k : Fin 1024) : (outsAt0 m c t.val t.isLt).2.2.2.2.2 (ix2 5 k)
    = (if t.val % 8 = 0 then 0 else (prev m c t).2.2.2.2.2 (ix2 5 k)) + ∑ r : Fin 256, d5 m c (row t r)  := by
  by_cases h0 : t.val % 8 = 0
  · rw [outsAt0_A m c t h0, if_pos h0]
    dsimp only
    unfold out0_A_13 kernelRun0_A
    dsimp only
    sl_unfold_words
    simp only [View.readAt_eq_ld, View.readCov, (hs0_0 t).read_unread, (hs0_1 t).read_unread, (hs0_2 t).read_unread, (hs0_3 t).read_unread, (hs0_4 t).read_unread, (hs0_5 t).read_unread, (hs0_6 t).read_unread, (hs0_7 t).read_unread, ld_whole]
    rw [row_hit _ _ 5 _ _ _ 5 rfl]
    refine (tile_s5 m c t _ k).trans ?_
    rw [ld_at _ 5 0 1 1024 _ 0 k 5 k rfl (by omega), row_miss _ _ 1 _ _ _ 5 (by decide), row_miss _ _ 0 _ _ _ 5 (by decide), whole_hit, pay2_at]
  · rw [outsAt0_B m c t h0, if_neg h0]
    dsimp only
    unfold out0_B_13 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole]
    rw [row_hit _ _ 5 _ _ _ 5 rfl]
    refine (tile_s5 m c t _ k).trans ?_
    rw [ld_at _ 5 0 1 1024 _ 0 k 5 k rfl (by omega), (hs0_13 t).read_unread]

theorem st_rest (t : Fin cfg0.N) (i : Fin 8) (hi : 1 < i.val ∧ i.val ≠ 5) (k : Fin 1024) :
    (outsAt0 m c t.val t.isLt).2.2.2.2.2 (ix2 i k) = if t.val % 8 = 0 then 0 else (prev m c t).2.2.2.2.2 (ix2 i k) := by
  by_cases h0 : t.val % 8 = 0
  · rw [outsAt0_A m c t h0, if_pos h0]
    dsimp only
    unfold out0_A_13 kernelRun0_A
    dsimp only
    sl_unfold_words
    rw [row_miss _ _ 5 _ _ _ i (by omega), row_miss _ _ 1 _ _ _ i (by omega), row_miss _ _ 0 _ _ _ i (by omega), whole_hit, pay2_at]
  · rw [outsAt0_B m c t h0, if_neg h0]
    dsimp only
    unfold out0_B_13 kernelRun0_B
    dsimp only
    sl_unfold_words
    rw [row_miss _ _ 5 _ _ _ i (by omega), row_miss _ _ 1 _ _ _ i (by omega), row_miss _ _ 0 _ _ _ i (by omega), View.writes_nil,
      (hs0_13 t).read_unread]

/-! ## After the last point -/

theorem st0_at (k : Fin 1024) (h : 7 < cfg0.N) : (outsAt0 m c 7 h).2.2.2.2.2 (ix2 0 k) = ∑ s : Fin 2048, d0 m c s k :=
  sweep 8 256 N_0 (by decide) rfl (fun s => d0 m c s k) (fun n hn => (outsAt0 m c n hn).2.2.2.2.2 (ix2 0 k)) _ (fun t r => ⟨lt_rows t r, rfl⟩) (fun t => st0_step m c t k) h
theorem st1_at (k : Fin 1024) (h : 7 < cfg0.N) : (outsAt0 m c 7 h).2.2.2.2.2 (ix2 1 k) = ∑ s : Fin 2048, d1 m c s k :=
  sweep 8 256 N_0 (by decide) rfl (fun s => d1 m c s k) (fun n hn => (outsAt0 m c n hn).2.2.2.2.2 (ix2 1 k)) _ (fun t r => ⟨lt_rows t r, rfl⟩) (fun t => st1_step m c t k) h
theorem st5_at (k : Fin 1024) (h : 7 < cfg0.N) : (outsAt0 m c 7 h).2.2.2.2.2 (ix2 5 k) = ∑ s : Fin 2048, d5 m c s :=
  sweep 8 256 N_0 (by decide) rfl (fun s => d5 m c s) (fun n hn => (outsAt0 m c n hn).2.2.2.2.2 (ix2 5 k)) _ (fun t r => ⟨lt_rows t r, rfl⟩) (fun t => st5_step m c t k) h
theorem st_zero (i : Fin 8) (hi : 1 < i.val ∧ i.val ≠ 5) (k : Fin 1024) (h : 7 < cfg0.N) : (outsAt0 m c 7 h).2.2.2.2.2 (ix2 i k) = 0 :=
  sweep_zero 8 N_0 (fun n hn => (outsAt0 m c n hn).2.2.2.2.2 (ix2 i k)) (fun t => st_rest m c t i hi k) 7 h

end Cert.LossIdeal.Val

end

end
-- ==== Proof.LossRef.lean ====
/- The forward call of the feed-forward block with the loss and its gradient, the reference's values read at an entry, and that the
   kernel leaves the same. Hand-written. -/
module

public import proofs.«01_k».proof.Proof.LossPt
public import proofs.«01_k».proof.Proof.RefSums
public import proofs.«01_k».proof.Proof.Gen.LossRefIdeal.Read
public import Idealize.ShloMosaic.Lib.Pipeline.ValueKit

@[expose] public section

set_option maxRecDepth 16384

noncomputable section

namespace Cert.LossIdeal.Val

open Idealize.ShloMosaic Idealize.ShloMosaic.TcCoe Idealize.SL.Sem Cert.LossIdeal Cert.LossIdeal.Gen Cert.Tile
open Cert.LossRefIdeal.Read

variable (m : (ℓ : Loc nD τ sig) → Buf (Elt Ideal) ℓ) (c : Dev nD)

/-- The arguments as the reference is given them. -/
abbrev a0 : FVec Ideal S1x2048x1024 .f32 := m ((c : Thread nD τ).loc main_arg0)
abbrev a1 : FVec Ideal S1x2048x1024 .f32 := m ((c : Thread nD τ).loc main_arg1)
abbrev a2 : FVec Ideal S1x6144 .f32 := m ((c : Thread nD τ).loc main_arg2)
abbrev a3 : FVec Ideal S1x6144 .f32 := m ((c : Thread nD τ).loc main_arg3)
abbrev a4 : FVec Ideal S1x1024 .f32 := m ((c : Thread nD τ).loc main_arg4)
abbrev a5 : FVec Ideal S1024 .f32 := m ((c : Thread nD τ).loc main_arg5)
abbrev a6 : FVec Ideal S1x1024x5632 .f32 := m ((c : Thread nD τ).loc main_arg6)
abbrev a7 : FVec Ideal S1x2816x1024 .f32 := m ((c : Thread nD τ).loc main_arg7)

/-! ## Two sums and a product of constants -/

/-- The sum of a one-row array over all its indices runs over the row. -/
theorem sum_row {N : ℕ} (f : (⟨2, ![1, N]⟩ : Shape).Idx → EReal) : ∑ i, f i = ∑ s : Fin N, f (ix2 0 s) := by
  let e : (⟨2, ![1, N]⟩ : Shape).Idx ≃ Fin N :=
    { toFun := fun i => i 1
      invFun := fun s => ix2 0 s
      left_inv := fun i => (Tile.ix2_of i 0 (i 1) (Nat.lt_one_iff.1 (i 0).isLt) rfl).symm
      right_inv := fun s => rfl }
  exact Fintype.sum_equiv e _ _ fun i => congrArg f (Tile.ix2_of i 0 (i 1) (Nat.lt_one_iff.1 (i 0).isLt) rfl)

theorem ofBits_inv_1024 : Ideal.ofBits .f32 0x3A800000#32 = ((1 / 1024 : ℝ) : EReal) := by
  rw [ieee_normal _ false 117 0 (by decide) (by decide) (by decide) (by decide) (by decide)]
  refine congrArg _ ?_
  norm_num

/-- Half of the mean's derivative times the square's derivative is the one factor of the kernel. -/
theorem scale (e : EReal) : Ideal.div (Ideal.ofBits .f32 0x3F000000#32) (Ideal.ofBits .f32 0x44800000#32)
    * (Ideal.ofBits .f32 0x40000000#32 * e) = e * Ideal.ofBits .f32 0x3A800000#32 := by
  rw [ofBits_half, ofBits_1024, ofBits_two, ofBits_inv_1024, Ideal.div_coe (by norm_num), ← mul_assoc, ← EReal.coe_mul, ← EReal.coe_mul, mul_comm]
  norm_num

/-! ## The reference's stages -/

theorem ref_ms (s : Fin 2048) (k : Fin 1) : val_main_v16 (F := Ideal) (a0 m c) (ix3 0 s k) = ms m c s := by
  unfold val_main_v16 val_main_v15 val_main_v14 val_main_v13 val_main_v12
  pointwise [val_main_cst, val_main_cst_0, val_main_cst_1, val_main_v11, val_main_v10]
  rfl

theorem ref_rt (s : Fin 2048) (k : Fin 1) : val_main_v17 (F := Ideal) (a0 m c) (ix3 0 s k) = rt m c s := by
  unfold val_main_v17
  pointwise [ref_ms]
  rfl

theorem ref_sc (k : Fin 1024) : val_main_v25 (F := Ideal) (a2 m c) (a3 m c) (ix3 0 0 k) = sc m c k := by
  unfold val_main_v25 val_main_v24 val_main_v23 val_main_v7 val_main_v2 val_main_v1 val_main_v0
  pointwise [val_main_cst_2]
  rfl

theorem ref_h (s : Fin 2048) (k : Fin 1024) : val_main_v30 (F := Ideal) (a0 m c) (a2 m c) (a3 m c) (a4 m c) (ix3 0 s k) = h m c s k := by
  unfold val_main_v30 val_main_v29 val_main_v28 val_main_v27 val_main_v26 val_main_v22 val_main_v21 val_main_v20 val_main_v19 val_main_v18 val_main_v9 val_main_v6 val_main_v2 val_main_v1 val_main_v0
  pointwise [ref_rt, ref_sc]
  rfl

theorem ref_pre (s : Fin 2048) (q : Fin 5632) : val_main_v32 (F := Ideal) (a0 m c) (a2 m c) (a3 m c) (a4 m c) (a6 m c) (ix3 0 s q) = pre m c s q := by
  rw [val_main_v32_apply]
  refine Finset.sum_congr rfl fun k _ => congrArg₂ (fun u v : EReal => u * v) ?_ ?_
  · exact (congrArg _ (Tile.ix3_of _ 0 s k rfl rfl rfl)).trans (ref_h m c s k)
  · refine (congrArg _ (Tile.ix2_of _ k q rfl rfl)).trans ?_
    unfold val_main_v31
    pointwise
    rfl

theorem ref_fg (s : Fin 2048) (q : Fin 2816) : val_main_v33 (F := Ideal) (a0 m c) (a2 m c) (a3 m c) (a4 m c) (a6 m c) (ix3 0 s q) = pre m c s ⟨q.val, by omega⟩ := by
  unfold val_main_v33
  pointwise [ref_pre]

theorem ref_fu (s : Fin 2048) (q : Fin 2816) : val_main_v34 (F := Ideal) (a0 m c) (a2 m c) (a3 m c) (a4 m c) (a6 m c) (ix3 0 s q) = pre m c s ⟨2816 + q.val, by omega⟩ := by
  unfold val_main_v34
  pointwise [ref_pre]

theorem ref_act (s : Fin 2048) (q : Fin 2816) : val_main_v36 (F := Ideal) (a0 m c) (a2 m c) (a3 m c) (a4 m c) (a6 m c) (ix3 0 s q) = act m c s q := by
  unfold val_main_v36 val_main_v35 val_main_call0_v5 val_main_call0_v4 val_main_call0_v3 val_main_call0_v2 val_main_call0_v1 val_main_call0_v0
  pointwise [val_main_call0_cst, val_main_call0_cst_0, ref_fg, ref_fu]
  rfl

theorem ref_ffn (s : Fin 2048) (k : Fin 1024) : val_main_v38 (F := Ideal) (a0 m c) (a2 m c) (a3 m c) (a4 m c) (a6 m c) (a7 m c) (ix3 0 s k) = ffn m c s k := by
  rw [val_main_v38_apply]
  refine Finset.sum_congr rfl fun q _ => congrArg₂ (fun u v : EReal => u * v) ?_ ?_
  · exact (congrArg _ (Tile.ix3_of _ 0 s q rfl rfl rfl)).trans (ref_act m c s q)
  · refine (congrArg _ (Tile.ix2_of _ q k rfl rfl)).trans ?_
    unfold val_main_v37
    pointwise
    rfl

theorem ref_x2 (s : Fin 2048) (k : Fin 1024) : val_main_v42 (F := Ideal) (a0 m c) (a2 m c) (a3 m c) (a4 m c) (a6 m c) (a7 m c) (ix3 0 s k) = x2 m c s k := by
  unfold val_main_v42 val_main_v41 val_main_v40 val_main_v39 val_main_v8 val_main_v2 val_main_v1 val_main_v0
  pointwise [ref_ffn]
  rfl

theorem ref_ms3 (s : Fin 2048) (k : Fin 1) : val_main_v49 (F := Ideal) (a0 m c) (a2 m c) (a3 m c) (a4 m c) (a6 m c) (a7 m c) (ix3 0 s k) = ms3 m c s := by
  unfold val_main_v49 val_main_v48 val_main_v47 val_main_v46 val_main_v45
  pointwise [val_main_cst_3, val_main_cst_4, val_main_cst_5, val_main_v44, val_main_v43, ref_x2]
  rfl

theorem ref_rt3 (s : Fin 2048) (k : Fin 1) : val_main_v50 (F := Ideal) (a0 m c) (a2 m c) (a3 m c) (a4 m c) (a6 m c) (a7 m c) (ix3 0 s k) = rt3 m c s := by
  unfold val_main_v50
  pointwise [ref_ms3]
  rfl

theorem ref_xr (s : Fin 2048) (k : Fin 1024) : val_main_v55 (F := Ideal) (a0 m c) (a2 m c) (a3 m c) (a4 m c) (a6 m c) (a7 m c) (ix3 0 s k) = xr m c s k := by
  unfold val_main_v55 val_main_v54
  pointwise [ref_x2, ref_rt3]
  rfl

theorem ref_err (s : Fin 2048) (k : Fin 1024) : val_main_v59 (F := Ideal) (a0 m c) (a1 m c) (a2 m c) (a3 m c) (a4 m c) (a5 m c) (a6 m c) (a7 m c) (ix3 0 s k) = err m c s k := by
  unfold val_main_v59 val_main_v58 val_main_v57 val_main_v56
  pointwise [ref_xr]
  rfl

theorem ref_dy (s : Fin 2048) (k : Fin 1024) : val_main_v73 (F := Ideal) (a0 m c) (a1 m c) (a2 m c) (a3 m c) (a4 m c) (a5 m c) (a6 m c) (a7 m c) (ix3 0 s k) = dy m c s k := by
  unfold val_main_v73 val_main_v72 val_main_v71 val_main_v70 val_main_v69 val_main_v68 val_main_v62 val_main_v61
  pointwise [val_main_cst_7, val_main_cst_12, val_main_cst_13, val_main_cst_14, ref_err]
  exact scale _

theorem ref_dn (s : Fin 2048) (k : Fin 1024) : val_main_v78 (F := Ideal) (a0 m c) (a1 m c) (a2 m c) (a3 m c) (a4 m c) (a5 m c) (a6 m c) (a7 m c) (ix3 0 s k) = dn m c s k := by
  unfold val_main_v78 val_main_v77 val_main_v56
  pointwise [ref_dy]
  rfl

theorem ref_dx2 (s : Fin 2048) (k : Fin 1024) : val_main_v94 (F := Ideal) (a0 m c) (a1 m c) (a2 m c) (a3 m c) (a4 m c) (a5 m c) (a6 m c) (a7 m c) (ix3 0 s k) = dx2 m c s k := by
  unfold val_main_v94 val_main_v93 val_main_v92 val_main_v91 val_main_v90 val_main_v89 val_main_v88 val_main_v87 val_main_v86 val_main_v85 val_main_v84 val_main_v83 val_main_v82 val_main_v81 val_main_v80 val_main_v53 val_main_v52 val_main_v51
  pointwise [sum_02, val_main_cst_6, val_main_cst_17, val_main_cst_18, val_main_cst_19, ref_dn, ref_rt3, ref_ms3, ref_x2]
  obtain ⟨ε, hε, he⟩ := ofBits_eps
  unfold dx2 xr
  rw [ofBits_1024, ofBits_neg_half]
  refine Eq.trans ?_ (((norm_grad (fun j => x2 m c s j) (fun j => dn m c s j) 0 k (by norm_num) hε (ms3 m c s) (rt3 m c s) ?_ rfl).symm).trans
    (zero_add _))
  · rw [zero_add]
  · unfold ms3
    rw [ofBits_1024, he]

theorem ref_d0 (k : Fin 1024) : val_main_v102 (F := Ideal) (a0 m c) (a1 m c) (a2 m c) (a3 m c) (a4 m c) (a5 m c) (a6 m c) (a7 m c) (ix2 0 k) = ∑ s : Fin 2048, d0 m c s k := by
  unfold val_main_v102 val_main_v79 val_main_v76 val_main_v75 val_main_v74
  pointwise [sum_11, val_main_cst_15, val_main_cst_16, ref_xr, ref_dy]
  exact Finset.sum_congr rfl fun s _ => mul_comm _ _

theorem ref_d1 (k : Fin 1024) : val_main_v101 (F := Ideal) (a0 m c) (a1 m c) (a2 m c) (a3 m c) (a4 m c) (a5 m c) (a6 m c) (a7 m c) (ix2 0 k) = ∑ s : Fin 2048, d1 m c s k := by
  unfold val_main_v101 val_main_v100 val_main_v99 val_main_v98 val_main_v97
  pointwise [sum_11, val_main_cst_20, val_main_cst_21, ref_dx2, ref_ffn]
  rfl

theorem ref_mse (s : Fin 2048) : val_main_v65 (F := Ideal) (a0 m c) (a1 m c) (a2 m c) (a3 m c) (a4 m c) (a5 m c) (a6 m c) (a7 m c) (ix2 0 s) = Ideal.div (∑ k : Fin 1024, err m c s k * err m c s k) (Ideal.ofBits .f32 0x44800000#32) := by
  unfold val_main_v65 val_main_v64 val_main_v63 val_main_v60
  pointwise [val_main_cst_8, val_main_cst_9, ref_err]

theorem ref_loss (i : Fin 1) (k : Fin 1024) : val_main_v104 (F := Ideal) (a0 m c) (a1 m c) (a2 m c) (a3 m c) (a4 m c) (a5 m c) (a6 m c) (a7 m c) (ix2 i k) = ∑ s : Fin 2048, d5 m c s := by
  unfold val_main_v104 val_main_v67
  pointwise [val_main_cst_11]
  rw [val_main_v66_apply, sum_row]
  simp only [ref_mse]
  unfold d5
  rw [ofBits_half, ← mul_sum_pos _ (by norm_num : (0 : ℝ) ≤ 1 / 2)]
  pointwise [val_main_cst_10]

/-! ## The results -/

theorem fin_h : (dats m 0 c).arrAt 8 cfg0.N = val_main_v108 (F := Ideal) (a0 m c) (a2 m c) (a3 m c) (a4 m c) := by
  refine (dats m 0 c).arrAt_eq_of_covers 8 _ (by decide +kernel) fun t hf y => ?_
  blk_simp
  rw [after0_8]
  obtain ⟨r, k, rfl⟩ : ∃ (r : Fin 256) (k : Fin 1024), y = ix2 r k := ⟨_, _, eq_ix2 y⟩
  have e : val_main_v108 (F := Ideal) (a0 m c) (a2 m c) (a3 m c) (a4 m c) (ix2 (row t r) k) = h m c (row t r) k := by
    unfold val_main_v108 val_main_v107
    pointwise [ref_h]
  refine (h_at m c t r k).trans (e.symm.trans ?_)
  exact congrArg _ (Tile.ix2_of _ (row t r) k (Tile.tile_coord 256 r.val (idx8 t).1) (Tile.whole_coord 1024 k.val (idx8 t).2)).symm

theorem fin_act : (dats m 0 c).arrAt 9 cfg0.N = val_main_v112 (F := Ideal) (a0 m c) (a2 m c) (a3 m c) (a4 m c) (a6 m c) := by
  refine (dats m 0 c).arrAt_eq_of_covers 9 _ (by decide +kernel) fun t hf y => ?_
  blk_simp
  rw [after0_9]
  obtain ⟨j, r, q, rfl⟩ : ∃ (j : Fin 4) (r : Fin 256) (q : Fin 704), y = ix3 j r q := ⟨_, _, _, eq_ix3 y⟩
  have e : val_main_v112 (F := Ideal) (a0 m c) (a2 m c) (a3 m c) (a4 m c) (a6 m c) (ix3 j (row t r) q) = act m c (row t r) ⟨j.val * 704 + q.val, by omega⟩ := by
    unfold val_main_v112 val_main_v111 val_main_v110 val_main_v109
    pointwise [ref_act]
  refine (act_at m c t j r q).trans (e.symm.trans ?_)
  exact congrArg _ (Tile.ix3_of _ j (row t r) q (Tile.whole_coord 4 j.val (idx9 t).1) (Tile.tile_coord 256 r.val (idx9 t).2.1)
    (Tile.whole_coord 704 q.val (idx9 t).2.2)).symm

theorem fin_pre : (dats m 0 c).arrAt 10 cfg0.N = val_main_v116 (F := Ideal) (a0 m c) (a2 m c) (a3 m c) (a4 m c) (a6 m c) := by
  refine (dats m 0 c).arrAt_eq_of_covers 10 _ (by decide +kernel) fun t hf y => ?_
  blk_simp
  rw [after0_10]
  obtain ⟨j, r, q, rfl⟩ : ∃ (j : Fin 8) (r : Fin 256) (q : Fin 704), y = ix3 j r q := ⟨_, _, _, eq_ix3 y⟩
  have e : val_main_v116 (F := Ideal) (a0 m c) (a2 m c) (a3 m c) (a4 m c) (a6 m c) (ix3 j (row t r) q) = pre m c (row t r) ⟨j.val * 704 + q.val, by omega⟩ := by
    unfold val_main_v116 val_main_v115 val_main_v114 val_main_v113
    pointwise [ref_pre]
  refine (pre_at m c t j r q).trans (e.symm.trans ?_)
  exact congrArg _ (Tile.ix3_of _ j (row t r) q (Tile.whole_coord 8 j.val (idx10 t).1) (Tile.tile_coord 256 r.val (idx10 t).2.1)
    (Tile.whole_coord 704 q.val (idx10 t).2.2)).symm

theorem fin_dx : (dats m 0 c).arrAt 11 cfg0.N = val_main_v117 (F := Ideal) (a0 m c) (a1 m c) (a2 m c) (a3 m c) (a4 m c) (a5 m c) (a6 m c) (a7 m c) := by
  refine (dats m 0 c).arrAt_eq_of_covers 11 _ (by decide +kernel) fun t hf y => ?_
  blk_simp
  rw [after0_11]
  obtain ⟨r, k, rfl⟩ : ∃ (r : Fin 256) (k : Fin 1024), y = ix2 r k := ⟨_, _, eq_ix2 y⟩
  have e : val_main_v117 (F := Ideal) (a0 m c) (a1 m c) (a2 m c) (a3 m c) (a4 m c) (a5 m c) (a6 m c) (a7 m c) (ix2 (row t r) k) = dx2 m c (row t r) k := by
    unfold val_main_v117
    pointwise [ref_dx2]
  refine (dx_at m c t r k).trans (e.symm.trans ?_)
  exact congrArg _ (Tile.ix2_of _ (row t r) k (Tile.tile_coord 256 r.val (idx11 t).1) (Tile.whole_coord 1024 k.val (idx11 t).2)).symm

theorem ref_df (s : Fin 2048) (k : Fin 1024) : val_main_v96 (F := Ideal) (a0 m c) (a1 m c) (a2 m c) (a3 m c) (a4 m c) (a5 m c) (a6 m c) (a7 m c) (ix3 0 s k) = gt m c k * dx2 m c s k := by
  unfold val_main_v96 val_main_v95 val_main_v39 val_main_v8 val_main_v2 val_main_v1 val_main_v0
  pointwise [ref_dx2]
  rfl

theorem fin_df : (dats m 0 c).arrAt 12 cfg0.N = val_main_v119 (F := Ideal) (a0 m c) (a1 m c) (a2 m c) (a3 m c) (a4 m c) (a5 m c) (a6 m c) (a7 m c) := by
  refine (dats m 0 c).arrAt_eq_of_covers 12 _ (by decide +kernel) fun t hf y => ?_
  blk_simp
  rw [after0_12]
  obtain ⟨r, k, rfl⟩ : ∃ (r : Fin 256) (k : Fin 1024), y = ix2 r k := ⟨_, _, eq_ix2 y⟩
  have e : val_main_v119 (F := Ideal) (a0 m c) (a1 m c) (a2 m c) (a3 m c) (a4 m c) (a5 m c) (a6 m c) (a7 m c) (ix2 (row t r) k) = gt m c k * dx2 m c (row t r) k := by
    unfold val_main_v119 val_main_v118
    pointwise [ref_df]
  refine (df_at m c t r k).trans (e.symm.trans ?_)
  exact congrArg _ (Tile.ix2_of _ (row t r) k (Tile.tile_coord 256 r.val (idx12 t).1) (Tile.whole_coord 1024 k.val (idx12 t).2)).symm

theorem fin_st : (dats m 0 c).arrAt 13 cfg0.N = val_main_v106 (F := Ideal) (a0 m c) (a1 m c) (a2 m c) (a3 m c) (a4 m c) (a5 m c) (a6 m c) (a7 m c) := by
  refine (dats m 0 c).arrAt_eq_of_after_last 13 t0_7 (by decide +kernel) _ fun j => ?_
  blk_simp
  rw [after0_13]
  obtain ⟨i, k, rfl⟩ : ∃ (i : Fin 8) (k : Fin 1024), j = ix2 i k := ⟨_, _, eq_ix2 j⟩
  unfold val_main_v106
  pointwise
  by_cases h0 : i.val < 1
  · rw [dif_pos h0]
    obtain rfl : i = 0 := Fin.ext (Nat.lt_one_iff.1 h0)
    exact (st0_at m c k t0_7.isLt).trans (ref_d0 m c k).symm
  rw [dif_neg h0]
  by_cases h1 : i.val - 1 < 1
  · rw [dif_pos h1]
    obtain rfl : i = 1 := Fin.ext (show i.val = 1 by omega)
    exact (st1_at m c k t0_7.isLt).trans (ref_d1 m c k).symm
  rw [dif_neg h1]
  by_cases h2 : i.val - 1 - 1 < 3
  · rw [dif_pos h2]
    refine (st_zero m c i (by omega) k t0_7.isLt).trans ?_
    unfold val_main_v103
    pointwise [val_main_cst_22]
  rw [dif_neg h2]
  by_cases h3 : i.val - 1 - 1 - 3 < 1
  · rw [dif_pos h3]
    obtain rfl : i = 5 := Fin.ext (show i.val = 5 by omega)
    exact (st5_at m c k t0_7.isLt).trans (ref_loss m c _ k).symm
  rw [dif_neg h3]
  refine (st_zero m c i (by omega) k t0_7.isLt).trans ?_
  unfold val_main_v105
  pointwise [val_main_cst_23]

end Cert.LossIdeal.Val

end
-- ==== Proof.Group.lean ====
/- The mean over groups of sixty-four columns, and the gradient of the norm taken over such groups: the kernel's form and the form
   that differentiating the norm line by line gives. Hand-written. -/
module

public import proofs.«01_k».proof.Proof.Finite

@[expose] public section

noncomputable section

namespace Cert.Tile

open Idealize.ShloMosaic

/-! ## Real numbers -/

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.zero : IsReal 0 := ⟨0, rfl⟩

theorem IsReal.coe (x : ℝ) : IsReal (x : EReal) := ⟨x, rfl⟩

theorem IsReal.sub_self {x : EReal} (hx : IsReal x) : x - x = 0 := by
  obtain ⟨a, rfl⟩ := hx
  rw [← EReal.coe_sub, _root_.sub_self]
  rfl

/-- The smooth step is a real number everywhere. -/
theorem IsReal.logistic (x : EReal) : IsReal (Ideal.logistic x) := by
  induction x using EReal.rec with
  | bot => exact ⟨0, Ideal.logistic_bot⟩
  | top => exact ⟨1, Ideal.logistic_top⟩
  | coe y => rw [Ideal.logistic_coe]; exact ⟨_, rfl⟩

/-- The gradient of a number times its smooth step, times a real number: the factored form against the sum of the two products. -/
theorem silu_grad {d : EReal} (o : EReal) (hd : IsReal d) :
    d * (Ideal.logistic o * (1 + o * (1 - Ideal.logistic o))) = d * Ideal.logistic o + (o * d) * (Ideal.logistic o * (1 - Ideal.logistic o)) := by
  induction o using EReal.rec with
  | bot => have e : Ideal.logistic ⊥ = 0 := Ideal.logistic_bot
           rw [e]; simp
  | top => have e : Ideal.logistic ⊤ = 1 := Ideal.logistic_top
           rw [e, show (1 : EReal) - 1 = 0 from IsReal.one.sub_self]; simp
  | coe y => exact gate_grad hd ⟨y, rfl⟩

theorem silu_real {d : EReal} (o : EReal) (hd : IsReal d) : IsReal (d * (Ideal.logistic o * (1 + o * (1 - Ideal.logistic o)))) := by
  induction o using EReal.rec with
  | bot => have e : Ideal.logistic ⊥ = 0 := Ideal.logistic_bot
           rw [e]; simp [IsReal.zero]
  | top => have e : Ideal.logistic ⊤ = 1 := Ideal.logistic_top
           rw [e, show (1 : EReal) - 1 = 0 from IsReal.one.sub_self]; simpa using hd
  | coe y => exact hd.mul ((IsReal.logistic _).mul (IsReal.one.add (IsReal.mul ⟨y, rfl⟩ (IsReal.one.sub (IsReal.logistic _)))))

/-! ## Group means -/

/-- Column `q` of the group of column `k`. -/
def mate (k : Fin 512) (q : Fin 64) : Fin 512 := ⟨k.val / 64 * 64 + q.val, by omega⟩

/-- The mean of a row over the group of column `k`. -/
def gm (x : Fin 512 → EReal) (k : Fin 512) : EReal := (∑ q : Fin 64, x (mate k q)) * ((1 / 64 : ℝ) : EReal)

/-- The matrix that takes the mean over groups. -/
def gmat (j k : Fin 512) : EReal := if j.val / 64 = k.val / 64 then ((1 / 64 : ℝ) : EReal) else 0

theorem gm_real {x : Fin 512 → EReal} (hx : ∀ j, IsReal (x j)) (k : Fin 512) : IsReal (gm x k) :=
  (IsReal.sum fun q => hx _).mul ⟨_, rfl⟩

/-- The product with the matrix is the mean. -/
theorem gmat_sum {x : Fin 512 → EReal} (hx : ∀ j, IsReal (x j)) (k : Fin 512) : ∑ j : Fin 512, x j * gmat j k = gm x k := by
  choose y hy using hx
  have e : ∀ j : Fin 512, x j * gmat j k = ((if j.val / 64 = k.val / 64 then y j * (1 / 64) else 0 : ℝ) : EReal) := fun j => by
    unfold gmat
    rw [hy]
    split <;> simp [EReal.coe_mul]
  unfold gm
  rw [Finset.sum_congr rfl fun j _ => e j]
  simp only [hy]
  rw [← coe_sum', ← coe_sum', ← EReal.coe_mul, Finset.sum_mul]
  refine congrArg _ ?_
  rw [← Finset.sum_filter]
  symm
  refine Finset.sum_bij (fun q _ => mate k q) ?_ ?_ ?_ ?_
  · intro q _
    refine Finset.mem_filter.2 ⟨Finset.mem_univ _, ?_⟩
    show (k.val / 64 * 64 + q.val) / 64 = k.val / 64
    omega
  · intro q _ q' _ h
    have h' : k.val / 64 * 64 + q.val = k.val / 64 * 64 + q'.val := congrArg Fin.val h
    exact Fin.ext (by omega)
  · intro j hj
    have h := (Finset.mem_filter.1 hj).2
    refine ⟨⟨j.val % 64, Nat.mod_lt _ (by decide)⟩, Finset.mem_univ _, Fin.ext ?_⟩
    show k.val / 64 * 64 + j.val % 64 = j.val
    omega
  · intro q _
    rfl

/-- A row taken as three parts, of which the second and third are what rounding left over: nothing, without rounding. -/
theorem gmat_split {x : Fin 512 → EReal} (hx : ∀ j, IsReal (x j)) (k : Fin 512) :
    (∑ j : Fin 512, x j * gmat j k) + (∑ j : Fin 512, (x j - x j) * gmat j k) + (∑ j : Fin 512, ((x j - x j) - (x j - x j)) * gmat j k) = gm x k := by
  have e : ∀ j, x j - x j = 0 := fun j => (hx j).sub_self
  simp only [e, IsReal.zero.sub_self, zero_mul, Finset.sum_const_zero, add_zero]
  exact gmat_sum hx k

theorem mate_mate (k : Fin 512) (q p : Fin 64) : mate (mate k q) p = mate k p := by
  refine Fin.ext ?_
  show (k.val / 64 * 64 + q.val) / 64 * 64 + p.val = k.val / 64 * 64 + p.val
  omega

theorem gm_mate (x : Fin 512 → EReal) (k : Fin 512) (q : Fin 64) : gm x (mate k q) = gm x k := by
  unfold gm
  simp only [mate_mate]

/-- The mean of squares plus a positive number has a positive reciprocal root. -/
theorem gm_rsqrt {x : Fin 512 → EReal} (hx : ∀ j, IsReal (x j)) (k : Fin 512) {ε : ℝ} (hε : 0 < ε) :
    ∃ ρ α : ℝ, 0 < α ∧ ρ * ρ = 1 / α ∧ gm (fun j => x j * x j) k + (ε : EReal) = (α : EReal) ∧ Ideal.rsqrt (α : EReal) = (ρ : EReal) := by
  choose y hy using hx
  have hα : 0 < (∑ q : Fin 64, y (mate k q) * y (mate k q)) * (1 / 64) + ε := by
    have : 0 ≤ ∑ q : Fin 64, y (mate k q) * y (mate k q) := Finset.sum_nonneg fun j _ => mul_self_nonneg _
    positivity
  refine ⟨(Real.sqrt ((∑ q : Fin 64, y (mate k q) * y (mate k q)) * (1 / 64) + ε))⁻¹, _, hα, ?_, ?_, ?_⟩
  · rw [← mul_inv, Real.mul_self_sqrt hα.le, one_div, one_div]
  · unfold gm
    simp only [hy]
    rw [EReal.coe_add, EReal.coe_mul, coe_sum']
    simp only [EReal.coe_mul]
  · rw [Ideal.rsqrt_coe, if_neg (not_lt.2 hα.le), if_neg hα.ne']

/-! ## The norm over groups and its gradient, along one row -/

/-- The number added to the variance. -/
def geps : EReal := FloatOps.ofBits (F := Ideal) .f32 0x358637BD#32

/-- The row less its group's mean, the reciprocal root of the variance, and the normed row. -/
def gdl (y : Fin 512 → EReal) (k : Fin 512) : EReal := y k - gm y k
def grs (y : Fin 512 → EReal) (k : Fin 512) : EReal := Ideal.rsqrt (gm (fun j => gdl y j * gdl y j) k + geps)
def gun (y : Fin 512 → EReal) (k : Fin 512) : EReal := gdl y k * grs y k
/-- The normed row under its weight and bias; the gradient that comes through the smooth step; that times the weight. -/
def gout (y gw gb : Fin 512 → EReal) (k : Fin 512) : EReal := gun y k * gw k + gb k
def gdo (y d gw gb : Fin 512 → EReal) (k : Fin 512) : EReal :=
  d k * (Ideal.logistic (gout y gw gb k) * (1 + gout y gw gb k * (1 - Ideal.logistic (gout y gw gb k))))
def gdun (y d gw gb : Fin 512 → EReal) (k : Fin 512) : EReal := gdo y d gw gb k * gw k
/-- The gradient with respect to the row, as the kernel forms it. -/
def gdy (y d gw gb : Fin 512 → EReal) (k : Fin 512) : EReal :=
  grs y k * ((gdun y d gw gb k - gm (gdun y d gw gb) k) - gun y k * gm (fun j => gdun y d gw gb j * gun y j) k)

theorem gdl_real {y : Fin 512 → EReal} (hy : ∀ j, IsReal (y j)) (k : Fin 512) : IsReal (gdl y k) := (hy k).sub (gm_real hy k)

theorem grs_real {y : Fin 512 → EReal} (hy : ∀ j, IsReal (y j)) (k : Fin 512) : IsReal (grs y k) := by
  obtain ⟨ε, hε, he⟩ := ofBits_eps
  obtain ⟨ρ, α, -, -, h, hr⟩ := gm_rsqrt (gdl_real hy) k hε
  refine ⟨ρ, ?_⟩
  have e : geps = (ε : EReal) := he
  unfold grs
  rw [e, h, hr]

theorem gun_real {y : Fin 512 → EReal} (hy : ∀ j, IsReal (y j)) (k : Fin 512) : IsReal (gun y k) := (gdl_real hy k).mul (grs_real hy k)

theorem gdun_real {y d gw : Fin 512 → EReal} (gb : Fin 512 → EReal) (hd : ∀ j, IsReal (d j)) (hw : ∀ j, IsReal (gw j)) (k : Fin 512) :
    IsReal (gdun y d gw gb k) := (silu_real _ (hd k)).mul (hw k)

theorem gdy_real {y d gw : Fin 512 → EReal} (gb : Fin 512 → EReal) (hy : ∀ j, IsReal (y j)) (hd : ∀ j, IsReal (d j)) (hw : ∀ j, IsReal (gw j))
    (k : Fin 512) : IsReal (gdy y d gw gb k) :=
  (grs_real hy k).mul (((gdun_real gb hd hw k).sub (gm_real (gdun_real gb hd hw) k)).sub
    ((gun_real hy k).mul (gm_real (fun j => (gdun_real gb hd hw j).mul (gun_real hy j)) k)))

/-! ## The gradient as differentiating the norm line by line gives it -/

/-- Column `l` of group `q`. -/
def col (q : Fin 8) (l : Fin 64) : Fin 512 := ⟨q.val * 64 + l.val, by omega⟩

theorem mate_col (q : Fin 8) (l p : Fin 64) : mate (col q l) p = col q p := by
  refine Fin.ext ?_
  show (q.val * 64 + l.val) / 64 * 64 + p.val = q.val * 64 + p.val
  omega

theorem gm_col (x : Fin 512 → EReal) (q : Fin 8) (l : Fin 64) : gm x (col q l) = (∑ p : Fin 64, x (col q p)) * ((1 / 64 : ℝ) : EReal) := by
  unfold gm
  simp only [mate_col]

theorem gm_col_zero (x : Fin 512 → EReal) (q : Fin 8) (l : Fin 64) : gm x (col q l) = gm x (col q 0) := by rw [gm_col, gm_col]

/-- A row less its group's mean has the sum zero over the group. -/
theorem gdl_sum {y : Fin 512 → EReal} (hy : ∀ j, IsReal (y j)) (q : Fin 8) : ∑ l : Fin 64, gdl y (col q l) = 0 := by
  choose z hz using hy
  have e : ∀ l : Fin 64, gdl y (col q l) = ((z (col q l) - (∑ p : Fin 64, z (col q p)) * (1 / 64) : ℝ) : EReal) := fun l => by
    unfold gdl
    rw [gm_col]
    simp only [hz]
    rw [← coe_sum', ← EReal.coe_mul, ← EReal.coe_sub]
  rw [Finset.sum_congr rfl fun l _ => e l, ← coe_sum', Finset.sum_sub_distrib]
  rw [Finset.sum_const, Finset.card_univ, Fintype.card_fin, nsmul_eq_mul]
  have h : (∑ l : Fin 64, z (col q l)) - ((64 : ℕ) : ℝ) * ((∑ p : Fin 64, z (col q p)) * (1 / 64)) = 0 := by push_cast; ring
  rw [h]
  rfl

/-- The two forms, over one group: `δ` the row less its mean, `D` the gradient arriving at the normed row, `ρ` the reciprocal root of `α`. -/
theorem group_grad {δ D : Fin 64 → EReal} (hδ : ∀ l, IsReal (δ l)) (hD : ∀ l, IsReal (D l)) (h0 : ∑ l, δ l = 0) {ρ α : ℝ} (hρ : ρ * ρ = 1 / α)
    (l : Fin 64) :
    let κ : EReal := ((∑ p, δ p * D p) * (((-(1 / 2) : ℝ) : EReal) * ((ρ : EReal) * ((1 / α : ℝ) : EReal)))) * ((1 / 64 : ℝ) : EReal)
    (D l * (ρ : EReal) + κ * (((2 : ℝ) : EReal) * δ l))
        + ((∑ p, -(D p * (ρ : EReal))) + (∑ p, -(κ * (((2 : ℝ) : EReal) * δ p)))) * ((1 / 64 : ℝ) : EReal)
      = (ρ : EReal) * ((D l - (∑ p, D p) * ((1 / 64 : ℝ) : EReal)) - (δ l * (ρ : EReal)) * ((∑ p, D p * (δ p * (ρ : EReal))) * ((1 / 64 : ℝ) : EReal))) := by
  choose x hx using hδ
  choose z hz using hD
  simp only [hx, hz] at h0 ⊢
  rw [← coe_sum', ← EReal.coe_zero, EReal.coe_eq_coe_iff] at h0
  simp only [← EReal.coe_mul, ← EReal.coe_neg, ← EReal.coe_add, ← EReal.coe_sub, ← coe_sum']
  rw [EReal.coe_eq_coe_iff, ← hρ]
  have e1 : ∑ p, -(z p * ρ) = -((∑ p, z p) * ρ) := by rw [Finset.sum_neg_distrib, Finset.sum_mul]
  have e2 : ∀ κ : ℝ, ∑ p, -(κ * (2 * x p)) = 0 := fun κ => by
    rw [Finset.sum_neg_distrib, ← Finset.mul_sum, ← Finset.mul_sum, h0, mul_zero, mul_zero, neg_zero]
  have e3 : ∑ p, z p * (x p * ρ) = (∑ p, x p * z p) * ρ := by
    rw [Finset.sum_mul]
    exact Finset.sum_congr rfl fun p _ => by ring
  rw [e1, e2, e3]
  ring

end Cert.Tile

end
-- ==== Proof.ConfPt.lean ====
/- The backward call of the convolution block, the kernel's arithmetic on one tile: the mean over groups as a product in three parts,
   the gradient of the group norm, and the taps of the convolution's two gradients. Hand-written. -/
module

public import proofs.«01_k».proof.Proof.Gen.ConfIdeal.Value
public import proofs.«01_k».proof.Proof.Tile
public import proofs.«01_k».proof.Proof.Group
public import Idealize.ShloMosaic.Lib.IdealHost

@[expose] public section

set_option maxRecDepth 16384

noncomputable section

namespace Cert.ConfIdeal.Val

open Idealize.ShloMosaic Idealize.ShloMosaic.TcCoe Idealize.SL.Sem Cert.ConfIdeal Cert.ConfIdeal.Gen
open Idealize.ShloMosaic.ValueIdx (ix1 ix2 ix3)
open Cert.Tile (IsReal gm gmat geps gdl grs gun gout gdo gdun gdy)

/-! ## The matrix of group means -/

/-- The matrix the products take. -/
abbrev PM : FVec Ideal S512x512 .bf16 := kernelRun0_A.sl.r (F := Ideal)

/-- The group a row is in, as the kernel's integer lines write it. -/
theorem group_row : ∀ j : Fin 512, (k0_pay6 : IVec S512x512 32) (ix2 j 0) = BitVec.ofNat 32 (j.val / 64) := by decide +kernel

/-- The same of a column. -/
abbrev colGroup : IVec S512x512 32 :=
  select (andi (cmpi .ne k0_pay8 k0_pay9) (cmpi .ne (remsi kernelRun0_A.sl.v28 (broadcast S512x512 64#32)) (broadcast S512x512 0#32)))
    (subi k0_pay7 (broadcast S512x512 1#32)) k0_pay7

theorem group_col : ∀ k : Fin 512, colGroup (ix2 0 k) = BitVec.ofNat 32 (k.val / 64) := by decide +kernel

theorem ofBits_64th : (Scalar.ofBits (F := Ideal) .f32 0x3C800000#32 : EReal) = ((1 / 64 : ℝ) : EReal) := by
  refine (Tile.ieee_normal _ false 121 0 (by decide) (by decide) (by decide) (by decide) (by decide)).trans ?_
  norm_num

theorem pm_at (j k : Fin 512) : PM (ix2 j k) = gmat j k := by
  have e : PM (ix2 j k) = if BitVec.ofBool (k0_pay6 (ix2 j 0) == colGroup (ix2 0 k)) = 1#1 then Scalar.ofBits (F := Ideal) .f32 0x3C800000#32
      else Scalar.ofBits (F := Ideal) .f32 0x00000000#32 := by sl_kernel_rfl
  rw [e, group_row, group_col, ofBits_64th]
  unfold gmat
  have z : (Scalar.ofBits (F := Ideal) .f32 0x00000000#32 : EReal) = 0 := Ideal.ofBits_zero_f32
  rw [z]
  by_cases h : j.val / 64 = k.val / 64
  · rw [if_pos h, h]; simp
  · rw [if_neg h, if_neg]
    have hb : (BitVec.ofNat 32 (j.val / 64) == BitVec.ofNat 32 (k.val / 64)) = false := by
      refine beq_eq_false_iff_ne.2 fun hh => h ?_
      have h' := congrArg BitVec.toNat hh
      simp only [BitVec.toNat_ofNat] at h'
      omega
    rw [hb]
    decide

/-! ## The mean over groups -/

/-- The three products add up to the mean. -/
theorem mean3 (X : FVec Ideal S256x512 .f32) (X1 X2 X3 : FVec Ideal S256x512 .bf16) (r : Fin 256) (hX : ∀ j, IsReal (X (ix2 r j)))
    (h1 : ∀ j, X1 (ix2 r j) = X (ix2 r j)) (h2 : ∀ j, X2 (ix2 r j) = X (ix2 r j) - X (ix2 r j))
    (h3 : ∀ j, X3 (ix2 r j) = (X (ix2 r j) - X (ix2 r j)) - (X (ix2 r j) - X (ix2 r j))) (k : Fin 512) :
    addf (addf (matmul dot_S256x512_S512x512_S256x512_1_0_0_1_n_n none X1 PM (constant S256x512 .f32 0x00000000#32))
      (matmul dot_S256x512_S512x512_S256x512_1_0_0_1_n_n none X2 PM (constant S256x512 .f32 0x00000000#32)))
      (matmul dot_S256x512_S512x512_S256x512_1_0_0_1_n_n none X3 PM (constant S256x512 .f32 0x00000000#32)) (ix2 r k)
    = gm (fun j => X (ix2 r j)) k := by
  refine Eq.trans ?_ (Tile.gmat_split hX k)
  refine congrArg₂ (· + ·) (congrArg₂ (· + ·) ?_ ?_) ?_
  · exact (Tile.matmul_NN _ rfl none _ _ r k).trans (Finset.sum_congr rfl fun j _ => congrArg₂ (· * ·) (h1 j) (pm_at j k))
  · exact (Tile.matmul_NN _ rfl none _ _ r k).trans (Finset.sum_congr rfl fun j _ => congrArg₂ (· * ·) (h2 j) (pm_at j k))
  · exact (Tile.matmul_NN _ rfl none _ _ r k).trans (Finset.sum_congr rfl fun j _ => congrArg₂ (· * ·) (h3 j) (pm_at j k))

/-! ## The norm and its gradient on a tile -/

section
variable (Y D : FVec Ideal S256x512 .f32) (W B : FVec Ideal S1x512 .f32) (r : Fin 256)

/-- The tile less its groups' means, the reciprocal root, the normed tile. -/
abbrev tdl : FVec Ideal S256x512 .f32 := k0_pay11 k0_pay6 kernelRun0_A.sl.v28 64#32 k0_pay7 k0_pay8 k0_pay9 Y
abbrev trs : FVec Ideal S256x512 .f32 := k0_pay12 k0_pay6 kernelRun0_A.sl.v28 64#32 k0_pay7 k0_pay8 k0_pay9 Y
abbrev tun : FVec Ideal S256x512 .f32 := k0_pay13 k0_pay6 kernelRun0_A.sl.v28 64#32 k0_pay7 k0_pay8 k0_pay9 Y
/-- The gradient that comes through the smooth step, that times the weight, and the gradient with respect to the tile. -/
abbrev tdo : FVec Ideal S256x512 .f32 := k0_pay14 (tun Y) W B D
abbrev tdun : FVec Ideal S256x512 .f32 := k0_pay17 (tun Y) W B D W
abbrev tdy : FVec Ideal S256x512 .f32 := k0_pay22 PM (trs Y) (tun Y) (tdun Y D W B) (k0_pay18 (tun Y) W B D W) (k0_pay20 (tun Y) W B D W)
  (k0_pay21 (tun Y) W B D W)

/-- Row `r` of the tiles, and the two rows. -/
abbrev rowOf (X : FVec Ideal S256x512 .f32) (j : Fin 512) : EReal := X (ix2 r j)
abbrev one (X : FVec Ideal S1x512 .f32) (j : Fin 512) : EReal := X (ix2 0 j)

variable (hY : ∀ j, IsReal (Y (ix2 r j)))
include hY

theorem tdl_at (k : Fin 512) : tdl Y (ix2 r k) = gdl (rowOf r Y) k := by
  have hs : shapeCast S256x512 Y shapeCasts_S256x512_S256x512 = Y := shapeCast_self Y _
  have hx : ∀ j, IsReal (shapeCast S256x512 Y shapeCasts_S256x512_S256x512 (ix2 r j)) := fun j => by rw [hs]; exact hY j
  have h : tdl Y (ix2 r k) = gdl (rowOf r (shapeCast S256x512 Y shapeCasts_S256x512_S256x512)) k := by
    refine congrArg₂ (· - ·) rfl ?_
    exact mean3 (shapeCast S256x512 Y shapeCasts_S256x512_S256x512) _ _ _ r hx (fun _ => rfl) (fun _ => rfl) (fun _ => rfl) k
  rw [h, hs]

theorem trs_at (k : Fin 512) : trs Y (ix2 r k) = grs (rowOf r Y) k := by
  have h := tdl_at Y r hY
  refine congrArg Ideal.rsqrt (congrArg (· + geps) ?_)
  refine (mean3 (mulf (tdl Y) (tdl Y)) _ _ _ r (fun j => ?_) (fun _ => rfl) (fun _ => rfl) (fun _ => rfl) k).trans ?_
  · show IsReal (tdl Y (ix2 r j) * tdl Y (ix2 r j))
    rw [h]
    exact (Tile.gdl_real hY j).mul (Tile.gdl_real hY j)
  · exact congrArg (fun z => gm z k) (funext fun j => by show tdl Y (ix2 r j) * tdl Y (ix2 r j) = _; rw [h])

theorem tun_at (k : Fin 512) : tun Y (ix2 r k) = gun (rowOf r Y) k := congrArg₂ (· * ·) (tdl_at Y r hY k) (trs_at Y r hY k)

theorem tdo_at (k : Fin 512) : tdo Y D W B (ix2 r k) = gdo (rowOf r Y) (rowOf r D) (one W) (one B) k := by
  have ho : addf (mulf (tun Y) (broadcastTo S256x512 W broadcasts_S1x512_S256x512)) (broadcastTo S256x512 B broadcasts_S1x512_S256x512) (ix2 r k)
      = gout (rowOf r Y) (one W) (one B) k :=
    congrArg₂ (· + ·) (congrArg₂ (· * ·) (tun_at Y r hY k) (Tile.brow_apply _ _ (by decide) r k)) (Tile.brow_apply _ _ (by decide) r k)
  have h1 : (Scalar.ofBits (F := Ideal) .f32 0x3F800000#32 : EReal) = 1 := Ideal.ofBits_one_f32
  have hs : shapeCast S256x512 D shapeCasts_S256x512_S256x512 (ix2 r k) = D (ix2 r k) := congrFun (shapeCast_self D _) _
  show shapeCast S256x512 D shapeCasts_S256x512_S256x512 (ix2 r k) * (Ideal.logistic (addf (mulf (tun Y) (broadcastTo S256x512 W broadcasts_S1x512_S256x512)) (broadcastTo S256x512 B broadcasts_S1x512_S256x512) (ix2 r k))
    * (Scalar.ofBits (F := Ideal) .f32 0x3F800000#32 + addf (mulf (tun Y) (broadcastTo S256x512 W broadcasts_S1x512_S256x512)) (broadcastTo S256x512 B broadcasts_S1x512_S256x512) (ix2 r k)
      * (Scalar.ofBits (F := Ideal) .f32 0x3F800000#32 - Ideal.logistic (addf (mulf (tun Y) (broadcastTo S256x512 W broadcasts_S1x512_S256x512)) (broadcastTo S256x512 B broadcasts_S1x512_S256x512) (ix2 r k))))) = _
  rw [ho, h1, hs]
  rfl

theorem tdun_at (k : Fin 512) : tdun Y D W B (ix2 r k) = gdun (rowOf r Y) (rowOf r D) (one W) (one B) k :=
  congrArg₂ (· * ·) (tdo_at Y D W B r hY k) (Tile.brow_apply _ _ (by decide) r k)

variable (hD : ∀ j, IsReal (D (ix2 r j))) (hW : ∀ j, IsReal (W (ix2 0 j)))
include hD hW

theorem tdy_at (k : Fin 512) : tdy Y D W B (ix2 r k) = gdy (rowOf r Y) (rowOf r D) (one W) (one B) k := by
  have hu := tun_at Y r hY
  have hdu := tdun_at Y D W B r hY
  have hr : ∀ j, IsReal (tdun Y D W B (ix2 r j)) := fun j => by rw [hdu]; exact Tile.gdun_real _ hD hW j
  refine congrArg₂ (· * ·) (trs_at Y r hY k) (congrArg₂ (· - ·) (congrArg₂ (· - ·) (hdu k) ?_) (congrArg₂ (· * ·) (hu k) ?_))
  · refine (mean3 (tdun Y D W B) _ _ _ r hr (fun _ => rfl) (fun _ => rfl) (fun _ => rfl) k).trans ?_
    exact congrArg (fun z => gm z k) (funext hdu)
  · refine (mean3 (mulf (tdun Y D W B) (tun Y)) _ _ _ r (fun j => ?_) (fun _ => rfl) (fun _ => rfl) (fun _ => rfl) k).trans ?_
    · show IsReal (tdun Y D W B (ix2 r j) * tun Y (ix2 r j))
      rw [hu]
      exact (hr j).mul (Tile.gun_real hY j)
    · exact congrArg (fun z => gm z k) (funext fun j => congrArg₂ (· * ·) (hdu j) (hu j))

end

/-! ## The taps -/

/-- The first `n` terms of a sum, added one after another. -/
def dpart (f : ℕ → EReal) : ℕ → EReal
  | 0 => 0
  | n + 1 => dpart f n + f n

theorem dpart_eq (f : ℕ → EReal) (n : ℕ) : dpart f n = ∑ j : Fin n, f j.val := by
  induction n with
  | zero => rfl
  | succ n ih => rw [Fin.sum_univ_castSucc]; exact congrArg (· + f n) ih

/-- Row `n` of the buffer of the gated value: thirty-two rows before the tile (zeros at the first tile), then the tile's. -/
def ub (i : grid0.Coords) (x2 x3 : FVec Ideal S256x512 .f32) (x4 x5 : FVec Ideal S32x512 .f32) (n : ℕ) (k : Fin 512) : EReal :=
  if h : n < 32 then (if (i 0).val = 7 then 0 else x4 (ix2 ⟨n, h⟩ k) * Ideal.logistic (x5 (ix2 ⟨n, h⟩ k)))
  else if h : n - 32 < 256 then x2 (ix2 ⟨n - 32, h⟩ k) * Ideal.logistic (x3 (ix2 ⟨n - 32, h⟩ k)) else 0

/-- Row `n` of the buffer of the gradient: the tile's rows, then what the array held. -/
def db (y0 : FVec Ideal S256x512 .f32) (z : FVec Ideal S288x512 .f32) (n : ℕ) (k : Fin 512) : EReal :=
  if h : n < 256 then y0 (ix2 ⟨n, h⟩ k) else if h : n < 288 then z (ix2 ⟨n, h⟩ k) else 0

/-- Row `j` of the weight. -/
def wf (x6 : FVec Ideal S31x512 .f32) (j : ℕ) (k : Fin 512) : EReal := if h : j < 31 then x6 (ix2 ⟨j, h⟩ k) else 0

section
variable {r : Fin 256} {k : Fin 512}

theorem sc1 {V : FVec Ideal S1x512 .f32} {a : EReal} (h : V (ix2 0 k) = a) : shapeCast S1x512 V shapeCasts_S1x512_S1x512 (ix2 0 k) = a :=
  (congrFun (shapeCast_self V _) _).trans h

theorem sc3 {V : FVec Ideal S1x256x512 .f32} {a : EReal} (h : V (ix3 0 r k) = a) : shapeCast S256x512 V shapeCasts_S1x256x512_S256x512 (ix2 r k) = a :=
  (ValueIdx.shapeCast_1ab_ab_apply V _ r k).trans h

theorem tapw {W : FVec Ideal S1x512 .f32} {X : FVec Ideal S256x512 .f32} {a b : EReal} (hW : W (ix2 0 k) = a) (hX : X (ix2 r k) = b) :
    mulf (broadcastTo S256x512 W broadcasts_S1x512_S256x512) X (ix2 r k) = a * b :=
  congrArg₂ (· * ·) ((Tile.brow_apply _ _ (by decide) r k).trans hW) hX

theorem taps2 {A P Q : FVec Ideal S256x512 .f32} {a p q : EReal} (hA : A (ix2 r k) = a) (hP : P (ix2 r k) = p) (hQ : Q (ix2 r k) = q) :
    addf (addf A P) Q (ix2 r k) = (a + p) + q := congrArg₂ (· + ·) (congrArg₂ (· + ·) hA hP) hQ
end

/-- A row of sums added to a running row. -/
theorem row_sum (v : FVec Ideal S1x512 .f32) (X : FVec Ideal S256x512 .f32) (f : Fin 256 → EReal) (p : EReal) (k : Fin 512) (hv : v (ix2 0 k) = p)
    (hX : ∀ r, X (ix2 r k) = f r) :
    addf (shapeCast S1x512 v shapeCasts_S1x512_S1x512) (shapeCast S1x512 (multiReduction .add [0] S512 X 0x00000000#32 reduces_S256x512_S512 (.inl rfl) rfl) shapeCasts_S512_S1x512) (ix2 0 k)
      = p + ∑ r : Fin 256, f r := by
  refine congrArg₂ (· + ·) ((congrFun (shapeCast_self v _) _).trans hv) ?_
  refine (ValueIdx.shapeCast_a_1a_apply _ _ _ _).trans ?_
  exact (Tile.colsum_apply _ _ _ _ _ k).trans (Finset.sum_congr rfl fun r _ => hX r)

/-- The order in which the rows of sums are added to. -/
def pos (j : ℕ) : ℕ := if j = 33 then 0 else if j = 32 then 1 else if j = 31 then 2 else if j < 31 then 3 + j else 100

/-- What one tile adds to row `j` of the sums. -/
def tadd (i : grid0.Coords) (x0 x1 x2 x3 : FVec Ideal S256x512 .f32) (x4 x5 : FVec Ideal S32x512 .f32) (x7 x8 : FVec Ideal S1x512 .f32)
    (j : Fin 40) (k : Fin 512) : EReal :=
  if j.val < 31 then ∑ r : Fin 256, tdy x1 x0 x7 x8 (ix2 r k) * ub i x2 x3 x4 x5 (j.val + 2 + r.val) k
  else if j.val = 31 then ∑ r : Fin 256, tdy x1 x0 x7 x8 (ix2 r k)
  else if j.val = 32 then ∑ r : Fin 256, tdo x1 x0 x7 x8 (ix2 r k) * tun x1 (ix2 r k)
  else ∑ r : Fin 256, tdo x1 x0 x7 x8 (ix2 r k)

theorem plain_at (v : FVec Ideal S256x512 .f32) (q : Fin 256) (k : Fin 512) : k0_pay32 (F := Ideal) v (ix2 q k) = v (ix2 q k) :=
  congrFun (shapeCast_self v shapeCasts_S256x512_S256x512) _

theorem head_at (v : FVec Ideal S32x512 .f32) (q : Fin 32) (k : Fin 512) : k0_pay1 (F := Ideal) v (ix2 q k) = v (ix2 q k) :=
  congrFun (shapeCast_self v shapeCasts_S32x512_S32x512) _

/-- The rows stored into the two buffers, and the row of the weight loaded. -/
theorem halo_at (i : grid0.Coords) (v w : FVec Ideal S32x512 .f32) (q : Fin 32) (k : Fin 512) :
    k0_pay34 (F := Ideal) (BitVec.ofNat 32 (i 0).val) v w (ix2 q k) = if (i 0).val = 7 then 0 else v (ix2 q k) * Ideal.logistic (w (ix2 q k)) := by
  have h8 : (i 0).val < 8 := (i 0).isLt
  have e : k0_pay34 (F := Ideal) (BitVec.ofNat 32 (i 0).val) v w (ix2 q k)
      = (if BitVec.ofBool (BitVec.ofNat 32 (i 0).val == 7#32) = 1#1 then broadcast S32x512 (Scalar.ofBits (F := Ideal) .f32 0x00000000#32)
          else mulf (shapeCast S32x512 v shapeCasts_S32x512_S32x512) (logistic (shapeCast S32x512 w shapeCasts_S32x512_S32x512))) (ix2 q k) :=
    congrFun (shapeCast_self _ _) _
  rw [e]
  by_cases h : (i 0).val = 7
  · rw [if_pos h, h, if_pos (by decide)]
    exact Ideal.ofBits_zero_f32
  · rw [if_neg h, if_neg]
    · exact congrArg₂ (· * ·) (congrFun (shapeCast_self v _) _) (congrArg Ideal.logistic (congrFun (shapeCast_self w _) _))
    · have hb : (BitVec.ofNat 32 (i 0).val == 7#32) = false := by
        refine beq_eq_false_iff_ne.2 fun hh => h ?_
        have h' := congrArg BitVec.toNat hh
        simp only [BitVec.toNat_ofNat] at h'
        omega
      rw [hb]
      decide

theorem gate_at (w : FVec Ideal S256x512 .f32) (q : Fin 256) (k : Fin 512) : k0_pay33 (F := Ideal) w (ix2 q k) = Ideal.logistic (w (ix2 q k)) :=
  congrArg Ideal.logistic (congrFun (shapeCast_self w _) _)

theorem prod_at (v w : FVec Ideal S256x512 .f32) (q : Fin 256) (k : Fin 512) :
    k0_pay35 (F := Ideal) (k0_pay32 v) w (ix2 q k) = v (ix2 q k) * Ideal.logistic (w (ix2 q k)) :=
  (congrFun (shapeCast_self (mulf (shapeCast S256x512 v shapeCasts_S256x512_S256x512) (k0_pay33 w)) shapeCasts_S256x512_S256x512) (ix2 q k)).trans
    (congrArg₂ (· * ·) (congrFun (shapeCast_self v _) _) (gate_at w q k))

theorem store_at (v57 : FVec Ideal S512x512 .bf16) (v88 v89 v121 : FVec Ideal S256x512 .f32) (v122 v125 v128 : FVec Ideal S256x512 .bf16) (q : Fin 256)
    (k : Fin 512) : k0_pay24 v57 v88 v89 v121 v122 v125 v128 (ix2 q k) = k0_pay22 v57 v88 v89 v121 v122 v125 v128 (ix2 q k) :=
  congrFun (shapeCast_self (k0_pay22 v57 v88 v89 v121 v122 v125 v128) shapeCasts_S256x512_S256x512) (ix2 q k)

theorem zero_at (q : Fin 32) (k : Fin 512) : (k0_pay5 : FVec Ideal S32x512 .f32) (ix2 q k) = 0 :=
  (congrFun (shapeCast_self (broadcast S32x512 (Scalar.ofBits (F := Ideal) .f32 0x00000000#32)) shapeCasts_S32x512_S32x512) (ix2 q k)).trans
    Ideal.ofBits_zero_f32

theorem zero_st {j : Fin 40} {k : Fin 512} : (k0_pay4 : FVec Ideal S40x512 .f32) (ix2 j k) = 0 := Ideal.ofBits_zero_f32

theorem start_at (r : Fin 256) (k : Fin 512) : (k0_pay43 : FVec Ideal S256x512 .f32) (ix2 r k) = 0 := Ideal.ofBits_zero_f32

theorem wload {arg7 : Memref sig .tc .vmem S31x512 .f32} (harg7 : arg7.IsWhole) (x6 : Vec Ideal S31x512 .f32) (j : ℕ) (inb) (hj : j < 31) (k : Fin 512) :
    View.readAt (Elt Ideal) arg7.view (Rect.unit (s := S31x512) ![j, 0] S1x512.size inb).toLoadRect (harg7.unread x6) (ix2 (0 : Fin 1) k) = wf x6 j k := by
  refine (Tile.row_load _ _ j _ ⟨j, hj⟩ rfl k).trans ?_
  unfold wf
  rw [dif_pos hj]
  exact congrFun (harg7.read_unread x6) _

theorem pos_iff (n o : ℕ) (h : ∀ j : Fin 40, pos j.val = n ↔ j.val = o) (j : Fin 40) : pos j.val = n ↔ j.val = o := h j

theorem pos_33 (j : Fin 40) : pos j.val = 0 ↔ j.val = 33 := pos_iff 0 33 (by decide) j
theorem pos_32 (j : Fin 40) : pos j.val = 1 ↔ j.val = 32 := pos_iff 1 32 (by decide) j
theorem pos_31 (j : Fin 40) : pos j.val = 2 ↔ j.val = 31 := pos_iff 2 31 (by decide) j
theorem pos_0 (j : Fin 40) : pos j.val = 3 ↔ j.val = 0 := pos_iff 3 0 (by decide) j
theorem pos_1 (j : Fin 40) : pos j.val = 4 ↔ j.val = 1 := pos_iff 4 1 (by decide) j
theorem pos_2 (j : Fin 40) : pos j.val = 5 ↔ j.val = 2 := pos_iff 5 2 (by decide) j
theorem pos_3 (j : Fin 40) : pos j.val = 6 ↔ j.val = 3 := pos_iff 6 3 (by decide) j
theorem pos_4 (j : Fin 40) : pos j.val = 7 ↔ j.val = 4 := pos_iff 7 4 (by decide) j
theorem pos_5 (j : Fin 40) : pos j.val = 8 ↔ j.val = 5 := pos_iff 8 5 (by decide) j
theorem pos_6 (j : Fin 40) : pos j.val = 9 ↔ j.val = 6 := pos_iff 9 6 (by decide) j
theorem pos_7 (j : Fin 40) : pos j.val = 10 ↔ j.val = 7 := pos_iff 10 7 (by decide) j
theorem pos_8 (j : Fin 40) : pos j.val = 11 ↔ j.val = 8 := pos_iff 11 8 (by decide) j
theorem pos_9 (j : Fin 40) : pos j.val = 12 ↔ j.val = 9 := pos_iff 12 9 (by decide) j
theorem pos_10 (j : Fin 40) : pos j.val = 13 ↔ j.val = 10 := pos_iff 13 10 (by decide) j
theorem pos_11 (j : Fin 40) : pos j.val = 14 ↔ j.val = 11 := pos_iff 14 11 (by decide) j
theorem pos_12 (j : Fin 40) : pos j.val = 15 ↔ j.val = 12 := pos_iff 15 12 (by decide) j
theorem pos_13 (j : Fin 40) : pos j.val = 16 ↔ j.val = 13 := pos_iff 16 13 (by decide) j
theorem pos_14 (j : Fin 40) : pos j.val = 17 ↔ j.val = 14 := pos_iff 17 14 (by decide) j
theorem pos_15 (j : Fin 40) : pos j.val = 18 ↔ j.val = 15 := pos_iff 18 15 (by decide) j
theorem pos_16 (j : Fin 40) : pos j.val = 19 ↔ j.val = 16 := pos_iff 19 16 (by decide) j
theorem pos_17 (j : Fin 40) : pos j.val = 20 ↔ j.val = 17 := pos_iff 20 17 (by decide) j
theorem pos_18 (j : Fin 40) : pos j.val = 21 ↔ j.val = 18 := pos_iff 21 18 (by decide) j
theorem pos_19 (j : Fin 40) : pos j.val = 22 ↔ j.val = 19 := pos_iff 22 19 (by decide) j
theorem pos_20 (j : Fin 40) : pos j.val = 23 ↔ j.val = 20 := pos_iff 23 20 (by decide) j
theorem pos_21 (j : Fin 40) : pos j.val = 24 ↔ j.val = 21 := pos_iff 24 21 (by decide) j
theorem pos_22 (j : Fin 40) : pos j.val = 25 ↔ j.val = 22 := pos_iff 25 22 (by decide) j
theorem pos_23 (j : Fin 40) : pos j.val = 26 ↔ j.val = 23 := pos_iff 26 23 (by decide) j
theorem pos_24 (j : Fin 40) : pos j.val = 27 ↔ j.val = 24 := pos_iff 27 24 (by decide) j
theorem pos_25 (j : Fin 40) : pos j.val = 28 ↔ j.val = 25 := pos_iff 28 25 (by decide) j
theorem pos_26 (j : Fin 40) : pos j.val = 29 ↔ j.val = 26 := pos_iff 29 26 (by decide) j
theorem pos_27 (j : Fin 40) : pos j.val = 30 ↔ j.val = 27 := pos_iff 30 27 (by decide) j
theorem pos_28 (j : Fin 40) : pos j.val = 31 ↔ j.val = 28 := pos_iff 31 28 (by decide) j
theorem pos_29 (j : Fin 40) : pos j.val = 32 ↔ j.val = 29 := pos_iff 32 29 (by decide) j
theorem pos_30 (j : Fin 40) : pos j.val = 33 ↔ j.val = 30 := pos_iff 33 30 (by decide) j

end Cert.ConfIdeal.Val

end
-- ==== Proof.Bands.lean ====
/- Reading an array that several bands of rows were written into: bands of several rows, slabs at a row offset, and the seven shifted
   copies of one array of rows. Hand-written. -/
module

public import proofs.«01_k».proof.Proof.Tile
public import Idealize.ShloMosaic.Lib.Pipeline.FrameBody

@[expose] public section

noncomputable section

namespace Cert.Tile

open Idealize.ShloMosaic Idealize.ShloMosaic.ValueIdx
open Idealize.SL.Sem

variable {sig : RefSig} {κ : Kind} {sp : Space} {M N : ℕ} {e : EltTy} {Val : EltTy → Type}

/-- A band of rows just written reads back what was written. -/
theorem band_hit (v : View sig κ sp ⟨2, ![M, N]⟩ e) (f : v.ty.Contents Val) (o a : ℕ) (inb) (w : (⟨2, ![a, N]⟩ : Shape).Idx → Val e)
    (L : List (View.Piece Val (⟨2, ![M, N]⟩ : Shape) e)) (i : Fin M) (q : Fin a) (hi : i.val = o + q.val) (j : Fin N) :
    v.read Val (v.writes Val f ((⟨Rect.unit (s := ⟨2, ![M, N]⟩) ![o, 0] ![a, N] inb, w⟩ : View.Piece Val (⟨2, ![M, N]⟩ : Shape) e) :: L)) (ix2 i j)
      = w (ix2 q j) :=
  View.read_writes_cons_rows_of_mem v f inb w L (ix2 i j) (ix2 q j) rfl hi rfl

theorem band_miss (v : View sig κ sp ⟨2, ![M, N]⟩ e) (f : v.ty.Contents Val) (o a : ℕ) (inb) (w : (⟨2, ![a, N]⟩ : Shape).Idx → Val e)
    (L : List (View.Piece Val (⟨2, ![M, N]⟩ : Shape) e)) (i : Fin M) (hi : i.val < o ∨ o + a ≤ i.val) (j : Fin N) :
    v.read Val (v.writes Val f ((⟨Rect.unit (s := ⟨2, ![M, N]⟩) ![o, 0] ![a, N] inb, w⟩ : View.Piece Val (⟨2, ![M, N]⟩ : Shape) e) :: L)) (ix2 i j)
      = v.read Val (v.writes Val f L) (ix2 i j) :=
  View.read_writes_cons_rows_of_not_mem v f inb w L (ix2 i j) rfl (W := a) rfl hi

/-- A block of columns over all rows just written reads back what was written. -/
theorem cols_hit (v : View sig κ sp ⟨2, ![M, N]⟩ e) (f : v.ty.Contents Val) (o b : ℕ) (inb) (w : (⟨2, ![M, b]⟩ : Shape).Idx → Val e)
    (L : List (View.Piece Val (⟨2, ![M, N]⟩ : Shape) e)) (i : Fin M) (j : Fin N) (q : Fin b) (hj : j.val = o + q.val) :
    v.read Val (v.writes Val f ((⟨Rect.unit (s := ⟨2, ![M, N]⟩) ![0, o] ![M, b] inb, w⟩ : View.Piece Val (⟨2, ![M, N]⟩ : Shape) e) :: L)) (ix2 i j)
      = w (ix2 i q) :=
  View.read_writes_cons_unit_of_mem v f inb w L (ix2 i j) (ix2 i q) rfl fun a => by
    match a with
    | ⟨0, _⟩ => show i.val = 0 + i.val; omega
    | ⟨1, _⟩ => exact hj

theorem cols_miss (v : View sig κ sp ⟨2, ![M, N]⟩ e) (f : v.ty.Contents Val) (o b : ℕ) (inb) (w : (⟨2, ![M, b]⟩ : Shape).Idx → Val e)
    (L : List (View.Piece Val (⟨2, ![M, N]⟩ : Shape) e)) (i : Fin M) (j : Fin N) (hj : j.val < o ∨ o + b ≤ j.val) :
    v.read Val (v.writes Val f ((⟨Rect.unit (s := ⟨2, ![M, N]⟩) ![0, o] ![M, b] inb, w⟩ : View.Piece Val (⟨2, ![M, N]⟩ : Shape) e) :: L)) (ix2 i j)
      = v.read Val (v.writes Val f L) (ix2 i j) :=
  View.read_writes_cons_unit_of_not_mem v f inb w L (ix2 i j) rfl (⟨1, Nat.one_lt_two⟩ : Fin 2) hj

/-- A band of rows loaded. -/
theorem band_load (v : View sig κ sp ⟨2, ![M, N]⟩ e) (f : v.ty.Contents Val) (o a : ℕ) (inb) (q : Fin a) (i : Fin M) (hi : i.val = o + q.val) (j : Fin N) :
    v.readAt Val (Rect.unit (s := ⟨2, ![M, N]⟩) ![o, 0] ![a, N] inb).toLoadRect f (ix2 q j) = v.read Val f (ix2 i j) := by
  show v.read Val f _ = _
  congr 1
  funext x; apply Fin.ext
  match x with
  | ⟨0, _⟩ => show o + 1 * q.val = i.val; omega
  | ⟨1, _⟩ => show 0 + 1 * j.val = j.val; omega

/-- The whole of an array loaded. -/
theorem whole_load {m : Memref sig κ sp ⟨2, ![M, N]⟩ e} (h : m.IsWhole) (X : (⟨2, ![M, N]⟩ : Shape).Idx → Val e) (inb) :
    m.view.readAt Val (Rect.unit (s := ⟨2, ![M, N]⟩) ![0, 0] ![M, N] inb).toLoadRect (h.unread X) = X := by
  rw [View.readAt_eq_ld, h.read_unread]
  exact ld_whole X inb

/-- A band of rows loaded from an array whose writes cover what is loaded. -/
theorem band_cov [∀ e, Inhabited (Val e)] (v : View sig κ sp ⟨2, ![M, N]⟩ e) (L : List (View.Piece Val (⟨2, ![M, N]⟩ : Shape) e)) (o a : ℕ) (inb) (q : Fin a) (i : Fin M)
    (hi : i.val = o + q.val) (j : Fin N) :
    v.readCov L (Rect.unit (s := ⟨2, ![M, N]⟩) ![o, 0] ![a, N] inb).toLoadRect (ix2 q j) = v.read Val (v.writes Val v.junk L) (ix2 i j) := by
  refine (congrFun (View.readCov_eq_canon' v L _) _).trans ((congrArg (View.canon L) ?_).trans (congrFun (View.read_writes_junk_eq_canon v L) _).symm)
  funext x; apply Fin.ext
  match x with
  | ⟨0, _⟩ => show o + 1 * q.val = i.val; omega
  | ⟨1, _⟩ => show 0 + 1 * j.val = j.val; omega

/-- Rows of one slab loaded from an array whose writes cover what is loaded. -/
theorem slab_cov [∀ e, Inhabited (Val e)] {A : ℕ} (v : View sig κ sp ⟨3, ![A, M, N]⟩ e) (L : List (View.Piece Val (⟨3, ![A, M, N]⟩ : Shape) e)) (s o a : ℕ) (inb) (q : Fin a) (k : Fin A)
    (hk : k.val = s) (i : Fin M) (hi : i.val = o + q.val) (j : Fin N) :
    v.readCov L (Rect.unit (s := ⟨3, ![A, M, N]⟩) ![s, o, 0] ![1, a, N] inb).toLoadRect (ix3 0 q j) = v.read Val (v.writes Val v.junk L) (ix3 k i j) := by
  refine (congrFun (View.readCov_eq_canon' v L _) _).trans ((congrArg (View.canon L) ?_).trans (congrFun (View.read_writes_junk_eq_canon v L) _).symm)
  funext x; apply Fin.ext
  match x with
  | ⟨0, _⟩ => show s + 1 * 0 = k.val; omega
  | ⟨1, _⟩ => show o + 1 * q.val = i.val; omega
  | ⟨2, _⟩ => show 0 + 1 * j.val = j.val; omega

/-- Seven copies of an array of rows, copy `s` beginning at row `s + 1`: rows taken from copy `s` at offset `o` are the array's rows
    from `s + 1 + o` on. -/
theorem seven [∀ e, Inhabited (Val e)] {A : ℕ} (v : View sig κ sp ⟨3, ![7, M, N]⟩ e) (w0 w1 w2 w3 w4 w5 w6 : (⟨3, ![1, M, N]⟩ : Shape).Idx → Val e) (i0 i1 i2 i3 i4 i5 i6)
    (B : Fin A → Fin N → Val e) (hA : M + 7 < A + 1)
    (h0 : ∀ (i : Fin M) j, w0 (ix3 0 i j) = B ⟨0 + 1 + i.val, by omega⟩ j) (h1 : ∀ (i : Fin M) j, w1 (ix3 0 i j) = B ⟨1 + 1 + i.val, by omega⟩ j)
    (h2 : ∀ (i : Fin M) j, w2 (ix3 0 i j) = B ⟨2 + 1 + i.val, by omega⟩ j) (h3 : ∀ (i : Fin M) j, w3 (ix3 0 i j) = B ⟨3 + 1 + i.val, by omega⟩ j)
    (h4 : ∀ (i : Fin M) j, w4 (ix3 0 i j) = B ⟨4 + 1 + i.val, by omega⟩ j) (h5 : ∀ (i : Fin M) j, w5 (ix3 0 i j) = B ⟨5 + 1 + i.val, by omega⟩ j)
    (h6 : ∀ (i : Fin M) j, w6 (ix3 0 i j) = B ⟨6 + 1 + i.val, by omega⟩ j)
    (s o a : ℕ) (inb) (hs : s < 7) (ho : o + a ≤ M) (q : Fin a) (j : Fin N) (n : Fin A) (hn : n.val = s + 1 + o + q.val) :
    v.readCov (Val := Val) [⟨Rect.unit (s := ⟨3, ![7, M, N]⟩) ![6, 0, 0] ![1, M, N] i6, w6⟩, ⟨Rect.unit (s := ⟨3, ![7, M, N]⟩) ![5, 0, 0] ![1, M, N] i5, w5⟩,
        ⟨Rect.unit (s := ⟨3, ![7, M, N]⟩) ![4, 0, 0] ![1, M, N] i4, w4⟩, ⟨Rect.unit (s := ⟨3, ![7, M, N]⟩) ![3, 0, 0] ![1, M, N] i3, w3⟩,
        ⟨Rect.unit (s := ⟨3, ![7, M, N]⟩) ![2, 0, 0] ![1, M, N] i2, w2⟩, ⟨Rect.unit (s := ⟨3, ![7, M, N]⟩) ![1, 0, 0] ![1, M, N] i1, w1⟩,
        ⟨Rect.unit (s := ⟨3, ![7, M, N]⟩) ![0, 0, 0] ![1, M, N] i0, w0⟩]
      (Rect.unit (s := ⟨3, ![7, M, N]⟩) ![s, o, 0] ![1, a, N] inb).toLoadRect (ix3 0 q j) = B n j := by
  refine (slab_cov v _ s o a inb q ⟨s, hs⟩ rfl ⟨o + q.val, by omega⟩ rfl j).trans ?_
  have e : ∀ h, B ⟨s + 1 + (o + q.val), h⟩ j = B n j := fun h => congrArg (fun z => B z j) (Fin.ext (by show s + 1 + (o + q.val) = n.val; omega))
  have hm : s + 1 + (o + q.val) < A := by omega
  refine Eq.trans ?_ (e hm)
  clear e hn inb
  interval_cases s
  · refine (slab_miss v _ 6 i6 w6 _ _ (by simp) _ _).trans ?_
    refine (slab_miss v _ 5 i5 w5 _ _ (by simp) _ _).trans ?_
    refine (slab_miss v _ 4 i4 w4 _ _ (by simp) _ _).trans ?_
    refine (slab_miss v _ 3 i3 w3 _ _ (by simp) _ _).trans ?_
    refine (slab_miss v _ 2 i2 w2 _ _ (by simp) _ _).trans ?_
    refine (slab_miss v _ 1 i1 w1 _ _ (by simp) _ _).trans ?_
    exact (slab_hit v _ 0 i0 w0 _ _ rfl _ _).trans (h0 _ _)
  · refine (slab_miss v _ 6 i6 w6 _ _ (by simp) _ _).trans ?_
    refine (slab_miss v _ 5 i5 w5 _ _ (by simp) _ _).trans ?_
    refine (slab_miss v _ 4 i4 w4 _ _ (by simp) _ _).trans ?_
    refine (slab_miss v _ 3 i3 w3 _ _ (by simp) _ _).trans ?_
    refine (slab_miss v _ 2 i2 w2 _ _ (by simp) _ _).trans ?_
    exact (slab_hit v _ 1 i1 w1 _ _ rfl _ _).trans (h1 _ _)
  · refine (slab_miss v _ 6 i6 w6 _ _ (by simp) _ _).trans ?_
    refine (slab_miss v _ 5 i5 w5 _ _ (by simp) _ _).trans ?_
    refine (slab_miss v _ 4 i4 w4 _ _ (by simp) _ _).trans ?_
    refine (slab_miss v _ 3 i3 w3 _ _ (by simp) _ _).trans ?_
    exact (slab_hit v _ 2 i2 w2 _ _ rfl _ _).trans (h2 _ _)
  · refine (slab_miss v _ 6 i6 w6 _ _ (by simp) _ _).trans ?_
    refine (slab_miss v _ 5 i5 w5 _ _ (by simp) _ _).trans ?_
    refine (slab_miss v _ 4 i4 w4 _ _ (by simp) _ _).trans ?_
    exact (slab_hit v _ 3 i3 w3 _ _ rfl _ _).trans (h3 _ _)
  · refine (slab_miss v _ 6 i6 w6 _ _ (by simp) _ _).trans ?_
    refine (slab_miss v _ 5 i5 w5 _ _ (by simp) _ _).trans ?_
    exact (slab_hit v _ 4 i4 w4 _ _ rfl _ _).trans (h4 _ _)
  · refine (slab_miss v _ 6 i6 w6 _ _ (by simp) _ _).trans ?_
    exact (slab_hit v _ 5 i5 w5 _ _ rfl _ _).trans (h5 _ _)
  · exact (slab_hit v _ 6 i6 w6 _ _ rfl _ _).trans (h6 _ _)

/-- Adding to one row of an array after another: before the step the rows that come first in the order `pos` have had their addition,
    after it row `o` has too. -/
theorem rows_step {N : ℕ} (v : View sig κ sp ⟨2, ![M, N]⟩ .f32) (f : v.ty.Contents (Elt Ideal)) (pos : ℕ → ℕ) (P C : Fin M → Fin N → EReal)
    (L : List (View.Piece (Elt Ideal) (⟨2, ![M, N]⟩ : Shape) .f32)) (n o : ℕ)
    (hL : ∀ i j, v.read (Elt Ideal) (v.writes (Elt Ideal) f L) (ix2 i j) = if pos i.val < n then P i j + C i j else P i j)
    (ho : ∀ i : Fin M, pos i.val = n ↔ i.val = o) (inb) (w : (⟨2, ![1, N]⟩ : Shape).Idx → Elt Ideal .f32)
    (hw : ∀ (i : Fin M) j, i.val = o → w (ix2 0 j) = P i j + C i j) (i : Fin M) (j : Fin N) :
    v.read (Elt Ideal) (v.writes (Elt Ideal) f ((⟨Rect.unit (s := ⟨2, ![M, N]⟩) ![o, 0] ![1, N] inb, w⟩
      : View.Piece (Elt Ideal) (⟨2, ![M, N]⟩ : Shape) .f32) :: L)) (ix2 i j) = if pos i.val < n + 1 then P i j + C i j else P i j := by
  by_cases hi : i.val = o
  · rw [if_pos (by have := (ho i).2 hi; omega)]
    exact (row_hit v f o inb w L i hi j).trans (hw i j hi)
  · refine (row_miss v f o inb w L i hi j).trans ((hL i j).trans ?_)
    have h : pos i.val ≠ n := fun h => hi ((ho i).1 h)
    by_cases h' : pos i.val < n
    · rw [if_pos h', if_pos (by omega)]
    · rw [if_neg h', if_neg (by omega)]

end Cert.Tile

end
-- ==== Proof.ConfFirst.lean ====
/- The backward call of the convolution block, the first grid point: the buffers of rows, the gradients the taps add up to,
   and the two output blocks. Hand-written. -/
module

public import proofs.«01_k».proof.Proof.ConfPt
public import proofs.«01_k».proof.Proof.Bands

@[expose] public section

set_option maxRecDepth 16384

noncomputable section

namespace Cert.ConfIdeal.Val.First

open Idealize.ShloMosaic Idealize.ShloMosaic.TcCoe Idealize.SL.Sem Cert.ConfIdeal Cert.ConfIdeal.Gen
open Idealize.ShloMosaic.ValueIdx (ix1 ix2 ix3)

variable {c : Dev nD} {i : grid0.Coords}
variable {arg1 : Memref sig .tc .vmem S256x512 .f32} {harg1 : arg1.IsWhole}
variable {arg2 : Memref sig .tc .vmem S256x512 .f32} {harg2 : arg2.IsWhole}
variable {arg3 : Memref sig .tc .vmem S256x512 .f32} {harg3 : arg3.IsWhole}
variable {arg4 : Memref sig .tc .vmem S256x512 .f32} {harg4 : arg4.IsWhole}
variable {arg5 : Memref sig .tc .vmem S32x512 .f32} {harg5 : arg5.IsWhole}
variable {arg6 : Memref sig .tc .vmem S32x512 .f32} {harg6 : arg6.IsWhole}
variable {arg7 : Memref sig .tc .vmem S31x512 .f32} {harg7 : arg7.IsWhole}
variable {arg8 : Memref sig .tc .vmem S1x512 .f32} {harg8 : arg8.IsWhole}
variable {arg9 : Memref sig .tc .vmem S1x512 .f32} {harg9 : arg9.IsWhole}
variable {arg10 : Memref sig .tc .vmem S256x1024 .bf16} {harg10 : arg10.IsWhole}
variable {arg11 : Memref sig .tc .vmem S40x512 .f32} {harg11 : arg11.IsWhole}
variable {arg12 : Memref sig .tc .vmem S288x512 .f32} {harg12 : arg12.IsWhole}
variable {arg13 : Memref sig .tc .vmem S288x512 .f32} {harg13 : arg13.IsWhole}
variable {arg14 : Memref sig .tc .vmem S7x280x512 .f32} {harg14 : arg14.IsWhole}
variable {arg15 : Memref sig .tc .vmem S7x280x512 .f32} {harg15 : arg15.IsWhole}
variable {x0 x1 x2 x3 : Vec Ideal S256x512 .f32} {x4 x5 : Vec Ideal S32x512 .f32} {x6 : Vec Ideal S31x512 .f32} {x7 x8 : Vec Ideal S1x512 .f32}

/-! ## The tile's gradient -/

theorem r7_eq : kernelRun0_A.sl.r_7 c arg1 harg1 arg2 harg2 arg8 harg8 arg9 harg9 x0 x1 x7 x8 = tdy x1 x0 x7 x8 := by
  have e : ∀ a b d f, a = x1 → b = x0 → d = x7 → f = x8 → tdy a b d f = tdy x1 x0 x7 x8 := by
    rintro a b d f rfl rfl rfl rfl
    rfl
  exact e _ _ _ _ (Tile.whole_load harg2 x1 _) (Tile.whole_load harg1 x0 _) (Tile.whole_load harg8 x7 _) (Tile.whole_load harg9 x8 _)

/-! ## The two buffers of rows -/

theorem u_read (n : Fin 288) (k : Fin 512) :
    arg12.view.read (Elt Ideal) (arg12.view.writes (Elt Ideal) arg12.view.junk (kernelRun0_A.sl.HS0_2 c i arg3 harg3 arg4 harg4 arg5 harg5 arg6 harg6 x2 x3 x4 x5)) (ix2 n k) = ub i x2 x3 x4 x5 n.val k := by
  unfold ub
  by_cases h : n.val < 32
  · rw [dif_pos h]
    refine (Tile.band_miss _ _ 32 256 _ _ _ n (Or.inl h) k).trans ?_
    refine (Tile.band_hit _ _ 0 32 _ _ _ n ⟨n.val, h⟩ (by simp) k).trans ?_
    refine (halo_at _ _ _ _ _).trans ?_
    rw [Tile.whole_load harg5 x4, Tile.whole_load harg6 x5]
  · have h' : n.val - 32 < 256 := by omega
    rw [dif_neg h, dif_pos h']
    refine (Tile.band_hit _ _ 32 256 _ _ _ n ⟨n.val - 32, h'⟩ (by show n.val = 32 + (n.val - 32); omega) k).trans ?_
    refine (prod_at _ _ _ _).trans ?_
    rw [Tile.whole_load harg3 x2, Tile.whole_load harg4 x3]

theorem d_read (n : Fin 288) (k : Fin 512) :
    arg13.view.read (Elt Ideal) (arg13.view.writes (Elt Ideal) arg13.view.junk (kernelRun0_A.sl.HS1_2 c arg1 harg1 arg2 harg2 arg8 harg8 arg9 harg9 x0 x1 x7 x8)) (ix2 n k) = db (tdy x1 x0 x7 x8) (fun _ => 0) n.val k := by
  unfold db
  by_cases h : n.val < 256
  · rw [dif_pos h]
    refine (Tile.band_hit _ _ 0 256 _ _ _ n ⟨n.val, h⟩ (by simp) k).trans ?_
    refine (store_at _ _ _ _ _ _ _ _ _).trans ?_
    exact congrFun (r7_eq (c := c) (harg1 := harg1) (harg2 := harg2) (harg8 := harg8) (harg9 := harg9)) _
  · have h' : n.val < 288 := n.isLt
    rw [dif_neg h, dif_pos h']
    refine (Tile.band_miss _ _ 0 256 _ _ _ n (Or.inr (by omega)) k).trans ?_
    refine (Tile.band_hit _ _ 256 32 _ _ _ n ⟨n.val - 256, by omega⟩ (by show n.val = 256 + (n.val - 256); omega) k).trans ?_
    exact zero_at _ _

theorem ucopy (s o : ℕ) (inb) (hs : s < 7) (ho : o + 256 ≤ 280) (r : Fin 256) (k : Fin 512) (n : ℕ) (hn : n = s + 1 + o + r.val) :
    arg14.view.readCov (Val := Elt Ideal) (kernelRun0_A.sl.HS2_7 c i arg3 harg3 arg4 harg4 arg5 harg5 arg6 harg6 arg12 x2 x3 x4 x5) (Rect.unit (s := S7x280x512) ![s, o, 0] S1x256x512.size inb).toLoadRect (ix3 0 r k) = ub i x2 x3 x4 x5 n k := by
  refine Tile.seven (Val := Elt Ideal) arg14.view _ _ _ _ _ _ _ _ _ _ _ _ _ _ (fun (n : Fin 288) k => ub i x2 x3 x4 x5 n.val k) (by decide) ?_ ?_ ?_ ?_ ?_ ?_ ?_
    s o 256 inb hs ho r k ⟨n, by omega⟩ hn
  · exact (fun n k => (ValueIdx.shapeCast_ab_1ab_apply _ _ _ _ _).trans ((Tile.band_cov _ _ 1 280 _ n ⟨0 + 1 + n.val, by omega⟩ (by show 0 + 1 + n.val = 1 + n.val; omega) k).trans (u_read _ k)))
  · exact (fun n k => (ValueIdx.shapeCast_ab_1ab_apply _ _ _ _ _).trans ((Tile.band_cov _ _ 2 280 _ n ⟨1 + 1 + n.val, by omega⟩ (by show 1 + 1 + n.val = 2 + n.val; omega) k).trans (u_read _ k)))
  · exact (fun n k => (ValueIdx.shapeCast_ab_1ab_apply _ _ _ _ _).trans ((Tile.band_cov _ _ 3 280 _ n ⟨2 + 1 + n.val, by omega⟩ (by show 2 + 1 + n.val = 3 + n.val; omega) k).trans (u_read _ k)))
  · exact (fun n k => (ValueIdx.shapeCast_ab_1ab_apply _ _ _ _ _).trans ((Tile.band_cov _ _ 4 280 _ n ⟨3 + 1 + n.val, by omega⟩ (by show 3 + 1 + n.val = 4 + n.val; omega) k).trans (u_read _ k)))
  · exact (fun n k => (ValueIdx.shapeCast_ab_1ab_apply _ _ _ _ _).trans ((Tile.band_cov _ _ 5 280 _ n ⟨4 + 1 + n.val, by omega⟩ (by show 4 + 1 + n.val = 5 + n.val; omega) k).trans (u_read _ k)))
  · exact (fun n k => (ValueIdx.shapeCast_ab_1ab_apply _ _ _ _ _).trans ((Tile.band_cov _ _ 6 280 _ n ⟨5 + 1 + n.val, by omega⟩ (by show 5 + 1 + n.val = 6 + n.val; omega) k).trans (u_read _ k)))
  · exact (fun n k => (ValueIdx.shapeCast_ab_1ab_apply _ _ _ _ _).trans ((Tile.band_cov _ _ 7 280 _ n ⟨6 + 1 + n.val, by omega⟩ (by show 6 + 1 + n.val = 7 + n.val; omega) k).trans (u_read _ k)))

theorem dcopy (s o : ℕ) (inb) (hs : s < 7) (ho : o + 256 ≤ 280) (r : Fin 256) (k : Fin 512) (n : ℕ) (hn : n = s + 1 + o + r.val) :
    arg15.view.readCov (Val := Elt Ideal) (kernelRun0_A.sl.HS3_7 c arg1 harg1 arg2 harg2 arg8 harg8 arg9 harg9 arg13 x0 x1 x7 x8) (Rect.unit (s := S7x280x512) ![s, o, 0] S1x256x512.size inb).toLoadRect (ix3 0 r k) = db (tdy x1 x0 x7 x8) (fun _ => 0) n k := by
  refine Tile.seven (Val := Elt Ideal) arg15.view _ _ _ _ _ _ _ _ _ _ _ _ _ _ (fun (n : Fin 288) k => db (tdy x1 x0 x7 x8) (fun _ => 0) n.val k) (by decide) ?_ ?_ ?_ ?_ ?_ ?_ ?_
    s o 256 inb hs ho r k ⟨n, by omega⟩ hn
  · exact (fun n k => (ValueIdx.shapeCast_ab_1ab_apply _ _ _ _ _).trans ((Tile.band_cov _ _ 1 280 _ n ⟨0 + 1 + n.val, by omega⟩ (by show 0 + 1 + n.val = 1 + n.val; omega) k).trans (d_read _ k)))
  · exact (fun n k => (ValueIdx.shapeCast_ab_1ab_apply _ _ _ _ _).trans ((Tile.band_cov _ _ 2 280 _ n ⟨1 + 1 + n.val, by omega⟩ (by show 1 + 1 + n.val = 2 + n.val; omega) k).trans (d_read _ k)))
  · exact (fun n k => (ValueIdx.shapeCast_ab_1ab_apply _ _ _ _ _).trans ((Tile.band_cov _ _ 3 280 _ n ⟨2 + 1 + n.val, by omega⟩ (by show 2 + 1 + n.val = 3 + n.val; omega) k).trans (d_read _ k)))
  · exact (fun n k => (ValueIdx.shapeCast_ab_1ab_apply _ _ _ _ _).trans ((Tile.band_cov _ _ 4 280 _ n ⟨3 + 1 + n.val, by omega⟩ (by show 3 + 1 + n.val = 4 + n.val; omega) k).trans (d_read _ k)))
  · exact (fun n k => (ValueIdx.shapeCast_ab_1ab_apply _ _ _ _ _).trans ((Tile.band_cov _ _ 5 280 _ n ⟨4 + 1 + n.val, by omega⟩ (by show 4 + 1 + n.val = 5 + n.val; omega) k).trans (d_read _ k)))
  · exact (fun n k => (ValueIdx.shapeCast_ab_1ab_apply _ _ _ _ _).trans ((Tile.band_cov _ _ 6 280 _ n ⟨5 + 1 + n.val, by omega⟩ (by show 5 + 1 + n.val = 6 + n.val; omega) k).trans (d_read _ k)))
  · exact (fun n k => (ValueIdx.shapeCast_ab_1ab_apply _ _ _ _ _).trans ((Tile.band_cov _ _ 7 280 _ n ⟨6 + 1 + n.val, by omega⟩ (by show 6 + 1 + n.val = 7 + n.val; omega) k).trans (d_read _ k)))

theorem urow (o : ℕ) (inb) (ho : o + 256 ≤ 288) (r : Fin 256) (k : Fin 512) (n : ℕ) (hn : n = o + r.val) :
    arg12.view.readCov (Val := Elt Ideal) (kernelRun0_A.sl.HS0_2 c i arg3 harg3 arg4 harg4 arg5 harg5 arg6 harg6 x2 x3 x4 x5) (Rect.unit (s := S288x512) ![o, 0] S256x512.size inb).toLoadRect (ix2 r k) = ub i x2 x3 x4 x5 n k :=
  (Tile.band_cov _ _ o 256 _ r ⟨n, by omega⟩ hn k).trans (u_read _ k)

theorem drow (o a : ℕ) (inb) (ho : o + a ≤ 288) (r : Fin a) (k : Fin 512) (n : ℕ) (hn : n = o + r.val) :
    arg13.view.readCov (Val := Elt Ideal) (kernelRun0_A.sl.HS1_2 c arg1 harg1 arg2 harg2 arg8 harg8 arg9 harg9 x0 x1 x7 x8) (Rect.unit (s := S288x512) ![o, 0] ![a, 512] inb).toLoadRect (ix2 r k) = db (tdy x1 x0 x7 x8) (fun _ => 0) n k :=
  (Tile.band_cov _ _ o a _ r ⟨n, by omega⟩ hn k).trans (d_read _ k)

/-! ## The gradient of the gated value -/

theorem r_11_at (r : Fin 256) (k : Fin 512) : kernelRun0_A.sl.r_11 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 2 :=
  taps2 (start_at _ _) (tapw (sc1 (wload harg7 x6 0 _ (by decide) k)) (sc3 (dcopy 5 24 _ (by decide) (by decide) r k (30 - 0 + r.val) (by omega)))) (tapw (sc1 (wload harg7 x6 1 _ (by decide) k)) (sc3 (dcopy 4 24 _ (by decide) (by decide) r k (30 - 1 + r.val) (by omega))))

theorem r_13_at (r : Fin 256) (k : Fin 512) : kernelRun0_A.sl.r_13 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 4 :=
  taps2 (r_11_at r k) (tapw (sc1 (wload harg7 x6 2 _ (by decide) k)) (sc3 (dcopy 3 24 _ (by decide) (by decide) r k (30 - 2 + r.val) (by omega)))) (tapw (sc1 (wload harg7 x6 3 _ (by decide) k)) (sc3 (dcopy 2 24 _ (by decide) (by decide) r k (30 - 3 + r.val) (by omega))))

theorem r_15_at (r : Fin 256) (k : Fin 512) : kernelRun0_A.sl.r_15 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 6 :=
  taps2 (r_13_at r k) (tapw (sc1 (wload harg7 x6 4 _ (by decide) k)) (sc3 (dcopy 1 24 _ (by decide) (by decide) r k (30 - 4 + r.val) (by omega)))) (tapw (sc1 (wload harg7 x6 5 _ (by decide) k)) (sc3 (dcopy 0 24 _ (by decide) (by decide) r k (30 - 5 + r.val) (by omega))))

theorem r_17_at (r : Fin 256) (k : Fin 512) : kernelRun0_A.sl.r_17 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 8 :=
  taps2 (r_15_at r k) (tapw (sc1 (wload harg7 x6 6 _ (by decide) k)) (drow 24 256 _ (by decide) r k (30 - 6 + r.val) (by omega))) (tapw (sc1 (wload harg7 x6 7 _ (by decide) k)) (sc3 (dcopy 6 16 _ (by decide) (by decide) r k (30 - 7 + r.val) (by omega))))

theorem r_18_at (r : Fin 256) (k : Fin 512) : kernelRun0_A.sl.r_18 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 10 :=
  taps2 (r_17_at r k) (tapw (sc1 (wload harg7 x6 8 _ (by decide) k)) (sc3 (dcopy 5 16 _ (by decide) (by decide) r k (30 - 8 + r.val) (by omega)))) (tapw (sc1 (wload harg7 x6 9 _ (by decide) k)) (sc3 (dcopy 4 16 _ (by decide) (by decide) r k (30 - 9 + r.val) (by omega))))

theorem r_19_at (r : Fin 256) (k : Fin 512) : kernelRun0_A.sl.r_19 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 12 :=
  taps2 (r_18_at r k) (tapw (sc1 (wload harg7 x6 10 _ (by decide) k)) (sc3 (dcopy 3 16 _ (by decide) (by decide) r k (30 - 10 + r.val) (by omega)))) (tapw (sc1 (wload harg7 x6 11 _ (by decide) k)) (sc3 (dcopy 2 16 _ (by decide) (by decide) r k (30 - 11 + r.val) (by omega))))

theorem r_20_at (r : Fin 256) (k : Fin 512) : kernelRun0_A.sl.r_20 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 14 :=
  taps2 (r_19_at r k) (tapw (sc1 (wload harg7 x6 12 _ (by decide) k)) (sc3 (dcopy 1 16 _ (by decide) (by decide) r k (30 - 12 + r.val) (by omega)))) (tapw (sc1 (wload harg7 x6 13 _ (by decide) k)) (sc3 (dcopy 0 16 _ (by decide) (by decide) r k (30 - 13 + r.val) (by omega))))

theorem r_22_at (r : Fin 256) (k : Fin 512) : kernelRun0_A.sl.r_22 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 16 :=
  taps2 (r_20_at r k) (tapw (sc1 (wload harg7 x6 14 _ (by decide) k)) (drow 16 256 _ (by decide) r k (30 - 14 + r.val) (by omega))) (tapw (sc1 (wload harg7 x6 15 _ (by decide) k)) (sc3 (dcopy 6 8 _ (by decide) (by decide) r k (30 - 15 + r.val) (by omega))))

theorem r_24_at (r : Fin 256) (k : Fin 512) : kernelRun0_A.sl.r_24 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 18 :=
  taps2 (r_22_at r k) (tapw (sc1 (wload harg7 x6 16 _ (by decide) k)) (sc3 (dcopy 5 8 _ (by decide) (by decide) r k (30 - 16 + r.val) (by omega)))) (tapw (sc1 (wload harg7 x6 17 _ (by decide) k)) (sc3 (dcopy 4 8 _ (by decide) (by decide) r k (30 - 17 + r.val) (by omega))))

theorem r_26_at (r : Fin 256) (k : Fin 512) : kernelRun0_A.sl.r_26 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 20 :=
  taps2 (r_24_at r k) (tapw (sc1 (wload harg7 x6 18 _ (by decide) k)) (sc3 (dcopy 3 8 _ (by decide) (by decide) r k (30 - 18 + r.val) (by omega)))) (tapw (sc1 (wload harg7 x6 19 _ (by decide) k)) (sc3 (dcopy 2 8 _ (by decide) (by decide) r k (30 - 19 + r.val) (by omega))))

theorem r_28_at (r : Fin 256) (k : Fin 512) : kernelRun0_A.sl.r_28 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 22 :=
  taps2 (r_26_at r k) (tapw (sc1 (wload harg7 x6 20 _ (by decide) k)) (sc3 (dcopy 1 8 _ (by decide) (by decide) r k (30 - 20 + r.val) (by omega)))) (tapw (sc1 (wload harg7 x6 21 _ (by decide) k)) (sc3 (dcopy 0 8 _ (by decide) (by decide) r k (30 - 21 + r.val) (by omega))))

theorem r_30_at (r : Fin 256) (k : Fin 512) : kernelRun0_A.sl.r_30 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 24 :=
  taps2 (r_28_at r k) (tapw (sc1 (wload harg7 x6 22 _ (by decide) k)) (drow 8 256 _ (by decide) r k (30 - 22 + r.val) (by omega))) (tapw (sc1 (wload harg7 x6 23 _ (by decide) k)) (sc3 (dcopy 6 0 _ (by decide) (by decide) r k (30 - 23 + r.val) (by omega))))

theorem r_33_at (r : Fin 256) (k : Fin 512) : kernelRun0_A.sl.r_33 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 26 :=
  taps2 (r_30_at r k) (tapw (sc1 (wload harg7 x6 24 _ (by decide) k)) (sc3 (dcopy 5 0 _ (by decide) (by decide) r k (30 - 24 + r.val) (by omega)))) (tapw (sc1 (wload harg7 x6 25 _ (by decide) k)) (sc3 (dcopy 4 0 _ (by decide) (by decide) r k (30 - 25 + r.val) (by omega))))

theorem r_36_at (r : Fin 256) (k : Fin 512) : kernelRun0_A.sl.r_36 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 28 :=
  taps2 (r_33_at r k) (tapw (sc1 (wload harg7 x6 26 _ (by decide) k)) (sc3 (dcopy 3 0 _ (by decide) (by decide) r k (30 - 26 + r.val) (by omega)))) (tapw (sc1 (wload harg7 x6 27 _ (by decide) k)) (sc3 (dcopy 2 0 _ (by decide) (by decide) r k (30 - 27 + r.val) (by omega))))

set_option maxHeartbeats 4000000 in
theorem r_39_at (r : Fin 256) (k : Fin 512) : kernelRun0_A.sl.r_39 c arg1 harg1 arg2 harg2 arg7 harg7 arg8 harg8 arg9 harg9 arg13 arg15 x0 x1 x6 x7 x8 (ix2 r k) = dpart (fun j => wf x6 j k * db (tdy x1 x0 x7 x8) (fun _ => 0) (30 - j + r.val) k) 31 :=
  congrArg₂ (· + ·) (taps2 (r_36_at r k) (tapw (sc1 (wload harg7 x6 28 _ (by decide) k)) (sc3 (dcopy 1 0 _ (by decide) (by decide) r k (30 - 28 + r.val) (by omega)))) (tapw (sc1 (wload harg7 x6 29 _ (by decide) k)) (sc3 (dcopy 0 0 _ (by decide) (by decide) r k (30 - 29 + r.val) (by omega))))) (tapw (sc1 (wload harg7 x6 30 _ (by decide) k)) (drow 0 256 _ (by decide) r k (30 - 30 + r.val) (by omega)))

/-! ## The block of the gradient -/

theorem out_left {hc0 : cond0_0 i} (r : Fin 256) (k : Fin 512) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix2 r (⟨k.val, by omega⟩ : Fin 1024)) = dpart (fun j => wf x6 j k * db (tdy x1 x0 x7 x8) (fun _ => 0) (30 - j + r.val) k) 31 * Ideal.logistic (x3 (ix2 r k)) := by
  unfold out0_A_9 kernelRun0_A
  refine (Tile.cols_miss _ _ 512 512 _ _ _ r (⟨k.val, by omega⟩ : Fin 1024) (Or.inl k.isLt)).trans ?_
  refine (Tile.cols_hit _ _ 0 512 _ _ _ r (⟨k.val, by omega⟩ : Fin 1024) k (by simp)).trans ?_
  refine congrArg₂ (· * ·) (r_39_at r k) ?_
  refine (gate_at _ r k).trans ?_
  rw [Tile.whole_load harg4 x3]

theorem out_right {hc0 : cond0_0 i} (r : Fin 256) (k : Fin 512) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix2 r (⟨512 + k.val, by omega⟩ : Fin 1024))
      = ((dpart (fun j => wf x6 j k * db (tdy x1 x0 x7 x8) (fun _ => 0) (30 - j + r.val) k) 31 * x2 (ix2 r k)) * Ideal.logistic (x3 (ix2 r k))) * (1 - Ideal.logistic (x3 (ix2 r k))) := by
  unfold out0_A_9 kernelRun0_A
  refine (Tile.cols_hit _ _ 512 512 _ _ _ r (⟨512 + k.val, by omega⟩ : Fin 1024) k rfl).trans ?_
  have hg : kernelRun0_A.sl.r_9 c arg4 harg4 x3 (ix2 r k) = Ideal.logistic (x3 (ix2 r k)) := by
    refine (gate_at _ r k).trans ?_
    rw [Tile.whole_load harg4 x3]
  refine congrArg₂ (· * ·) (congrArg₂ (· * ·) (congrArg₂ (· * ·) (r_39_at r k) ?_) hg) (congrArg₂ (· - ·) Ideal.ofBits_one_f32 hg)
  refine (plain_at _ r k).trans ?_
  rw [Tile.whole_load harg3 x2]

/-! ## What the buffer of the gradient is left with -/

theorem keep_at {hc0 : cond0_0 i} (q : Fin 32) (k : Fin 512) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix2 (⟨256 + q.val, by omega⟩ : Fin 288) k) = db (tdy x1 x0 x7 x8) (fun _ => 0) q.val k := by
  unfold sout0_A_1 kernelRun0_A
  refine (Tile.band_hit _ _ 256 32 _ _ _ (⟨256 + q.val, by omega⟩ : Fin 288) q rfl k).trans ?_
  refine (head_at _ q k).trans ?_
  exact drow 0 32 _ (by decide) q k q.val (by omega)

/-! ## The rows of sums -/

theorem do_eq : k0_pay14 (kernelRun0_A.sl.r_2 c arg2 harg2 x1) (View.readAt (Elt Ideal) arg8.view (Rect.unit (s := S1x512) ![0, 0] S1x512.size inb_S1x512_S1x512_0_0).toLoadRect (harg8.unread x7)) (View.readAt (Elt Ideal) arg9.view (Rect.unit (s := S1x512) ![0, 0] S1x512.size inb_S1x512_S1x512_0_0).toLoadRect (harg9.unread x8)) (View.readAt (Elt Ideal) arg1.view (Rect.unit (s := S256x512) ![0, 0] S256x512.size inb_S256x512_S256x512_0_0).toLoadRect (harg1.unread x0)) = tdo x1 x0 x7 x8 := by
  have e : ∀ a b d f, a = x1 → b = x0 → d = x7 → f = x8 → tdo a b d f = tdo x1 x0 x7 x8 := by
    rintro a b d f rfl rfl rfl rfl
    rfl
  exact e _ _ _ _ (Tile.whole_load harg2 x1 _) (Tile.whole_load harg1 x0 _) (Tile.whole_load harg8 x7 _) (Tile.whole_load harg9 x8 _)

theorem mul_eq : mulf (k0_pay14 (kernelRun0_A.sl.r_2 c arg2 harg2 x1) (View.readAt (Elt Ideal) arg8.view (Rect.unit (s := S1x512) ![0, 0] S1x512.size inb_S1x512_S1x512_0_0).toLoadRect (harg8.unread x7)) (View.readAt (Elt Ideal) arg9.view (Rect.unit (s := S1x512) ![0, 0] S1x512.size inb_S1x512_S1x512_0_0).toLoadRect (harg9.unread x8)) (View.readAt (Elt Ideal) arg1.view (Rect.unit (s := S256x512) ![0, 0] S256x512.size inb_S256x512_S256x512_0_0).toLoadRect (harg1.unread x0))) (kernelRun0_A.sl.r_2 c arg2 harg2 x1) = mulf (tdo x1 x0 x7 x8) (tun x1) := by
  have e : ∀ a b d f, a = x1 → b = x0 → d = x7 → f = x8 → mulf (tdo a b d f) (tun a) = mulf (tdo x1 x0 x7 x8) (tun x1) := by
    rintro a b d f rfl rfl rfl rfl
    rfl
  exact e _ _ _ _ (Tile.whole_load harg2 x1 _) (Tile.whole_load harg1 x0 _) (Tile.whole_load harg8 x7 _) (Tile.whole_load harg9 x8 _)

set_option maxHeartbeats 4000000 in
theorem sums {hc0 : cond0_0 i} (j : Fin 40) (k : Fin 512) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix2 j k) = if pos j.val < 34 then 0 + (tadd i x0 x1 x2 x3 x4 x5 x7 x8) j k else 0 := by
  have h0 : ∀ (j : Fin 40) (k : Fin 512), arg11.view.read (Elt Ideal) (arg11.view.writes (Elt Ideal) arg11.view.junk (kernelRun0_A.sl.H10_1)) (ix2 j k) = if pos j.val < 0 then (0 : EReal) + (tadd i x0 x1 x2 x3 x4 x5 x7 x8) j k else 0 := fun j k => by
    rw [if_neg (Nat.not_lt_zero _)]
    exact (Tile.whole_hit _ _ _ _ _ j k).trans zero_st
  have h1 : ∀ (j : Fin 40) (k : Fin 512), arg11.view.read (Elt Ideal) (arg11.view.writes (Elt Ideal) arg11.view.junk (kernelRun0_A.sl.H10_2 c arg1 harg1 arg2 harg2 arg8 harg8 arg9 harg9 arg11 x0 x1 x7 x8)) (ix2 j k) = if pos j.val < 1 then (0 : EReal) + (tadd i x0 x1 x2 x3 x4 x5 x7 x8) j k else 0 :=
    Tile.rows_step arg11.view _ pos (fun _ _ => 0) (tadd i x0 x1 x2 x3 x4 x5 x7 x8) _ 0 33 h0 (fun j => pos_33 j) _ _ (fun j k hj => (row_sum _ _ _ _ k ((Tile.band_cov _ _ 33 1 _ 0 j hj k).trans ((h0 j k).trans (if_neg (by rw [hj]; decide)))) (fun r => congrFun do_eq _)).trans (congrArg (_ + ·) ((if_neg (by rw [hj]; decide)).trans ((if_neg (by rw [hj]; decide)).trans (if_neg (by rw [hj]; decide)))).symm))
  have h2 : ∀ (j : Fin 40) (k : Fin 512), arg11.view.read (Elt Ideal) (arg11.view.writes (Elt Ideal) arg11.view.junk (kernelRun0_A.sl.H10_3 c arg1 harg1 arg2 harg2 arg8 harg8 arg9 harg9 arg11 x0 x1 x7 x8)) (ix2 j k) = if pos j.val < 2 then (0 : EReal) + (tadd i x0 x1 x2 x3 x4 x5 x7 x8) j k else 0 :=
    Tile.rows_step arg11.view _ pos (fun _ _ => 0) (tadd i x0 x1 x2 x3 x4 x5 x7 x8) _ 1 32 h1 (fun j => pos_32 j) _ _ (fun j k hj => (row_sum _ _ _ _ k ((Tile.band_cov _ _ 32 1 _ 0 j hj k).trans ((h1 j k).trans (if_neg (by rw [hj]; decide)))) (fun r => congrFun mul_eq _)).trans (congrArg (_ + ·) ((if_neg (by rw [hj]; decide)).trans ((if_neg (by rw [hj]; decide)).trans (if_pos hj))).symm))
  have h3 : ∀ (j : Fin 40) (k : Fin 512), arg11.view.read (Elt Ideal) (arg11.view.writes (Elt Ideal) arg11.view.junk (kernelRun0_A.sl.H10_4 c arg1 harg1 arg2 harg2 arg8 harg8 arg9 harg9 arg11 x0 x1 x7 x8)) (ix2 j k) = if pos j.val < 3 then (0 : EReal) + (tadd i x0 x1 x2 x3 x4 x5 x7 x8) j k else 0 :=
    Tile.rows_step arg11.view _ pos (fun _ _ => 0) (tadd i x0 x1 x2 x3 x4 x5 x7 x8) _ 2 31 h2 (fun j => pos_31 j) _ _ (fun j k hj => (row_sum _ _ _ _ k ((Tile.band_cov _ _ 31 1 _ 0 j hj k).trans ((h2 j k).trans (if_neg (by rw [hj]; decide)))) (fun r => congrFun (r7_eq (c := c) (harg1 := harg1) (harg2 := harg2) (harg8 := harg8) (harg9 := harg9)) _)).trans (congrArg (_ + ·) ((if_neg (by rw [hj]; decide)).trans (if_pos hj)).symm))
  have h4 : ∀ (j : Fin 40) (k : Fin 512), arg11.view.read (Elt Ideal) (arg11.view.writes (Elt Ideal) arg11.view.junk (kernelRun0_A.sl.H10_5 c i arg1 harg1 arg2 harg2 arg3 harg3 arg4 harg4 arg5 harg5 arg6 harg6 arg8 harg8 arg9 harg9 arg11 arg12 arg14 x0 x1 x2 x3 x4 x5 x7 x8)) (ix2 j k) = if pos j.val < 4 then (0 : EReal) + (tadd i x0 x1 x2 x3 x4 x5 x7 x8) j k else 0 :=
    Tile.rows_step arg11.view _ pos (fun _ _ => 0) (tadd i x0 x1 x2 x3 x4 x5 x7 x8) _ 3 0 h3 (fun j => pos_0 j) _ _ (fun j k hj => (row_sum _ _ _ _ k ((Tile.band_cov _ _ 0 1 _ 0 j hj k).trans ((h3 j k).trans (if_neg (by rw [hj]; decide)))) (fun r => congrArg₂ (· * ·) (congrFun (r7_eq (c := c) (harg1 := harg1) (harg2 := harg2) (harg8 := harg8) (harg9 := harg9)) _) (sc3 (ucopy 1 0 _ (by decide) (by decide) r k _ (by rw [hj]))))).trans (congrArg (_ + ·) (if_pos (by rw [hj]; decide)).symm))
  have h5 : ∀ (j : Fin 40) (k : Fin 512), arg11.view.read (Elt Ideal) (arg11.view.writes (Elt Ideal) arg11.view.junk (kernelRun0_A.sl.H10_6 c i arg1 harg1 arg2 harg2 arg3 harg3 arg4 harg4 arg5 harg5 arg6 harg6 arg8 harg8 arg9 harg9 arg11 arg12 arg14 x0 x1 x2 x3 x4 x5 x7 x8)) (ix2 j k) = if pos j.val < 5 then (0 : EReal) + (tadd i x0 x1 x2 x3 x4 x5 x7 x8) j k else 0 :=
    Tile.rows_step arg11.view _ pos (fun _ _ => 0) (tadd i x0 x1 x2 x3 x4 x5 x7 x8) _ 4 1 h4 (fun j => pos_1 j) _ _ (fun j k hj => (row_sum _ _ _ _ k ((Tile.band_cov _ _ 1 1 _ 0 j hj k).trans ((h4 j k).trans (if_neg (by rw [hj]; decide)))) (fun r => congrArg₂ (· * ·) (congrFun (r7_eq (c := c) (harg1 := harg1) (harg2 := harg2) (harg8 := harg8) (harg9 := harg9)) _) (sc3 (ucopy 2 0 _ (by decide) (by decide) r k _ (by rw [hj]))))).trans (congrArg (_ + ·) (if_pos (by rw [hj]; decide)).symm))
  have h6 : ∀ (j : Fin 40) (k : Fin 512), arg11.view.read (Elt Ideal) (arg11.view.writes (Elt Ideal) arg11.view.junk (kernelRun0_A.sl.H10_7 c i arg1 harg1 arg2 harg2 arg3 harg3 arg4 harg4 arg5 harg5 arg6 harg6 arg8 harg8 arg9 harg9 arg11 arg12 arg14 x0 x1 x2 x3 x4 x5 x7 x8)) (ix2 j k) = if pos j.val < 6 then (0 : EReal) + (tadd i x0 x1 x2 x3 x4 x5 x7 x8) j k else 0 :=
    Tile.rows_step arg11.view _ pos (fun _ _ => 0) (tadd i x0 x1 x2 x3 x4 x5 x7 x8) _ 5 2 h5 (fun j => pos_2 j) _ _ (fun j k hj => (row_sum _ _ _ _ k ((Tile.band_cov _ _ 2 1 _ 0 j hj k).trans ((h5 j k).trans (if_neg (by rw [hj]; decide)))) (fun r => congrArg₂ (· * ·) (congrFun (r7_eq (c := c) (harg1 := harg1) (harg2 := harg2) (harg8 := harg8) (harg9 := harg9)) _) (sc3 (ucopy 3 0 _ (by decide) (by decide) r k _ (by rw [hj]))))).trans (congrArg (_ + ·) (if_pos (by rw [hj]; decide)).symm))
  have h7 : ∀ (j : Fin 40) (k : Fin 512), arg11.view.read (Elt Ideal) (arg11.view.writes (Elt Ideal) arg11.view.junk (kernelRun0_A.sl.H10_8 c i arg1 harg1 arg2 harg2 arg3 harg3 arg4 harg4 arg5 harg5 arg6 harg6 arg8 harg8 arg9 harg9 arg11 arg12 arg14 x0 x1 x2 x3 x4 x5 x7 x8)) (ix2 j k) = if pos j.val < 7 then (0 : EReal) + (tadd i x0 x1 x2 x3 x4 x5 x7 x8) j k else 0 :=
    Tile.rows_step arg11.view _ pos (fun _ _ => 0) (tadd i x0 x1 x2 x3 x4 x5 x7 x8) _ 6 3 h6 (fun j => pos_3 j) _ _ (fun j k hj => (row_sum _ _ _ _ k ((Tile.band_cov _ _ 3 1 _ 0 j hj k).trans ((h6 j k).trans (if_neg (by rw [hj]; decide)))) (fun r => congrArg₂ (· * ·) (congrFun (r7_eq (c := c) (harg1 := harg1) (harg2 := harg2) (harg8 := harg8) (harg9 := harg9)) _) (sc3 (ucopy 4 0 _ (by decide) (by decide) r k _ (by rw [hj]))))).trans (congrArg (_ + ·) (if_pos (by rw [hj]; decide)).symm))
  have h8 : ∀ (j : Fin 40) (k : Fin 512), arg11.view.read (Elt Ideal) (arg11.view.writes (Elt Ideal) arg11.view.junk (kernelRun0_A.sl.H10_9 c i arg1 harg1 arg2 harg2 arg3 harg3 arg4 harg4 arg5 harg5 arg6 harg6 arg8 harg8 arg9 harg9 arg11 arg12 arg14 x0 x1 x2 x3 x4 x5 x7 x8)) (ix2 j k) = if pos j.val < 8 then (0 : EReal) + (tadd i x0 x1 x2 x3 x4 x5 x7 x8) j k else 0 :=
    Tile.rows_step arg11.view _ pos (fun _ _ => 0) (tadd i x0 x1 x2 x3 x4 x5 x7 x8) _ 7 4 h7 (fun j => pos_4 j) _ _ (fun j k hj => (row_sum _ _ _ _ k ((Tile.band_cov _ _ 4 1 _ 0 j hj k).trans ((h7 j k).trans (if_neg (by rw [hj]; decide)))) (fun r => congrArg₂ (· * ·) (congrFun (r7_eq (c := c) (harg1 := harg1) (harg2 := harg2) (harg8 := harg8) (harg9 := harg9)) _) (sc3 (ucopy 5 0 _ (by decide) (by decide) r k _ (by rw [hj]))))).trans (congrArg (_ + ·) (if_pos (by rw [hj]; decide)).symm))
  have h9 : ∀ (j : Fin 40) (k : Fin 512), arg11.view.read (Elt Ideal) (arg11.view.writes (Elt Ideal) arg11.view.junk (kernelRun0_A.sl.H10_10 c i arg1 harg1 arg2 harg2 arg3 harg3 arg4 harg4 arg5 harg5 arg6 harg6 arg8 harg8 arg9 harg9 arg11 arg12 arg14 x0 x1 x2 x3 x4 x5 x7 x8)) (ix2 j k) = if pos j.val < 9 then (0 : EReal) + (tadd i x0 x1 x2 x3 x4 x5 x7 x8) j k else 0 :=
    Tile.rows_step arg11.view _ pos (fun _ _ => 0) (tadd i x0 x1 x2 x3 x4 x5 x7 x8) _ 8 5 h8 (fun j => pos_5 j) _ _ (fun j k hj => (row_sum _ _ _ _ k ((Tile.band_cov _ _ 5 1 _ 0 j hj k).trans ((h8 j k).trans (if_neg (by rw [hj]; decide)))) (fun r => congrArg₂ (· * ·) (congrFun (r7_eq (c := c) (harg1 := harg1) (harg2 := harg2) (harg8 := harg8) (harg9 := harg9)) _) (sc3 (ucopy 6 0 _ (by decide) (by decide) r k _ (by rw [hj]))))).trans (congrArg (_ + ·) (if_pos (by rw [hj]; decide)).symm))
  have h10 : ∀ (j : Fin 40) (k : Fin 512), arg11.view.read (Elt Ideal) (arg11.view.writes (Elt Ideal) arg11.view.junk (kernelRun0_A.sl.H10_11 c i arg1 harg1 arg2 harg2 arg3 harg3 arg4 harg4 arg5 harg5 arg6 harg6 arg8 harg8 arg9 harg9 arg11 arg12 arg14 x0 x1 x2 x3 x4 x5 x7 x8)) (ix2 j k) = if pos j.val < 10 then (0 : EReal) + (tadd i x0 x1 x2 x3 x4 x5 x7 x8) j k else 0 :=
    Tile.rows_step arg11.view _ pos (fun _ _ => 0) (tadd i x0 x1 x2 x3 x4 x5 x7 x8) _ 9 6 h9 (fun j => pos_6 j) _ _ (fun j k hj => (row_sum _ _ _ _ k ((Tile.band_cov _ _ 6 1 _ 0 j hj k).trans ((h9 j k).trans (if_neg (by rw [hj]; decide)))) (fun r => congrArg₂ (· * ·) (congrFun (r7_eq (c := c) (harg1 := harg1) (harg2 := harg2) (harg8 := harg8) (harg9 := harg9)) _) (urow 8 _ (by decide) r k _ (by rw [hj])))).trans (congrArg (_ + ·) (if_pos (by rw [hj]; decide)).symm))
  have h11 : ∀ (j : Fin 40) (k : Fin 512), arg11.view.read (Elt Ideal) (arg11.view.writes (Elt Ideal) arg11.view.junk (kernelRun0_A.sl.H10_12 c i arg1 harg1 arg2 harg2 arg3 harg3 arg4 harg4 arg5 harg5 arg6 harg6 arg8 harg8 arg9 harg9 arg11 arg12 arg14 x0 x1 x2 x3 x4 x5 x7 x8)) (ix2 j k) = if pos j.val < 11 then (0 : EReal) + (tadd i x0 x1 x2 x3 x4 x5 x7 x8) j k else 0 :=
    Tile.rows_step arg11.view _ pos (fun _ _ => 0) (tadd i x0 x1 x2 x3 x4 x5 x7 x8) _ 10 7 h10 (fun j => pos_7 j) _ _ (fun j k hj => (row_sum _ _ _ _ k ((Tile.band_cov _ _ 7 1 _ 0 j hj k).trans ((h10 j k).trans (if_neg (by rw [hj]; decide)))) (fun r => congrArg₂ (· * ·) (congrFun (r7_eq (c := c) (harg1 := harg1) (harg2 := harg2) (harg8 := harg8) (harg9 := harg9)) _) (sc3 (ucopy 0 8 _ (by decide) (by decide) r k _ (by rw [hj]))))).trans (congrArg (_ + ·) (if_pos (by rw [hj]; decide)).symm))
  have h12 : ∀ (j : Fin 40) (k : Fin 512), arg11.view.read (Elt Ideal) (arg11.view.writes (Elt Ideal) arg11.view.junk (kernelRun0_A.sl.H10_13 c i arg1 harg1 arg2 harg2 arg3 harg3 arg4 harg4 arg5 harg5 arg6 harg6 arg8 harg8 arg9 harg9 arg11 arg12 arg14 x0 x1 x2 x3 x4 x5 x7 x8)) (ix2 j k) = if pos j.val < 12 then (0 : EReal) + (tadd i x0 x1 x2 x3 x4 x5 x7 x8) j k else 0 :=
    Tile.rows_step arg11.view _ pos (fun _ _ => 0) (tadd i x0 x1 x2 x3 x4 x5 x7 x8) _ 11 8 h11 (fun j => pos_8 j) _ _ (fun j k hj => (row_sum _ _ _ _ k ((Tile.band_cov _ _ 8 1 _ 0 j hj k).trans ((h11 j k).trans (if_neg (by rw [hj]; decide)))) (fun r => congrArg₂ (· * ·) (congrFun (r7_eq (c := c) (harg1 := harg1) (harg2 := harg2) (harg8 := harg8) (harg9 := harg9)) _) (sc3 (ucopy 1 8 _ (by decide) (by decide) r k _ (by rw [hj]))))).trans (congrArg (_ + ·) (if_pos (by rw [hj]; decide)).symm))
  have h13 : ∀ (j : Fin 40) (k : Fin 512), arg11.view.read (Elt Ideal) (arg11.view.writes (Elt Ideal) arg11.view.junk (kernelRun0_A.sl.H10_14 c i arg1 harg1 arg2 harg2 arg3 harg3 arg4 harg4 arg5 harg5 arg6 harg6 arg8 harg8 arg9 harg9 arg11 arg12 arg14 x0 x1 x2 x3 x4 x5 x7 x8)) (ix2 j k) = if pos j.val < 13 then (0 : EReal) + (tadd i x0 x1 x2 x3 x4 x5 x7 x8) j k else 0 :=
    Tile.rows_step arg11.view _ pos (fun _ _ => 0) (tadd i x0 x1 x2 x3 x4 x5 x7 x8) _ 12 9 h12 (fun j => pos_9 j) _ _ (fun j k hj => (row_sum _ _ _ _ k ((Tile.band_cov _ _ 9 1 _ 0 j hj k).trans ((h12 j k).trans (if_neg (by rw [hj]; decide)))) (fun r => congrArg₂ (· * ·) (congrFun (r7_eq (c := c) (harg1 := harg1) (harg2 := harg2) (harg8 := harg8) (harg9 := harg9)) _) (sc3 (ucopy 2 8 _ (by decide) (by decide) r k _ (by rw [hj]))))).trans (congrArg (_ + ·) (if_pos (by rw [hj]; decide)).symm))
  have h14 : ∀ (j : Fin 40) (k : Fin 512), arg11.view.read (Elt Ideal) (arg11.view.writes (Elt Ideal) arg11.view.junk (kernelRun0_A.sl.H10_15 c i arg1 harg1 arg2 harg2 arg3 harg3 arg4 harg4 arg5 harg5 arg6 harg6 arg8 harg8 arg9 harg9 arg11 arg12 arg14 x0 x1 x2 x3 x4 x5 x7 x8)) (ix2 j k) = if pos j.val < 14 then (0 : EReal) + (tadd i x0 x1 x2 x3 x4 x5 x7 x8) j k else 0 :=
    Tile.rows_step arg11.view _ pos (fun _ _ => 0) (tadd i x0 x1 x2 x3 x4 x5 x7 x8) _ 13 10 h13 (fun j => pos_10 j) _ _ (fun j k hj => (row_sum _ _ _ _ k ((Tile.band_cov _ _ 10 1 _ 0 j hj k).trans ((h13 j k).trans (if_neg (by rw [hj]; decide)))) (fun r => congrArg₂ (· * ·) (congrFun (r7_eq (c := c) (harg1 := harg1) (harg2 := harg2) (harg8 := harg8) (harg9 := harg9)) _) (sc3 (ucopy 3 8 _ (by decide) (by decide) r k _ (by rw [hj]))))).trans (congrArg (_ + ·) (if_pos (by rw [hj]; decide)).symm))
  have h15 : ∀ (j : Fin 40) (k : Fin 512), arg11.view.read (Elt Ideal) (arg11.view.writes (Elt Ideal) arg11.view.junk (kernelRun0_A.sl.H10_16 c i arg1 harg1 arg2 harg2 arg3 harg3 arg4 harg4 arg5 harg5 arg6 harg6 arg8 harg8 arg9 harg9 arg11 arg12 arg14 x0 x1 x2 x3 x4 x5 x7 x8)) (ix2 j k) = if pos j.val < 15 then (0 : EReal) + (tadd i x0 x1 x2 x3 x4 x5 x7 x8) j k else 0 :=
    Tile.rows_step arg11.view _ pos (fun _ _ => 0) (tadd i x0 x1 x2 x3 x4 x5 x7 x8) _ 14 11 h14 (fun j => pos_11 j) _ _ (fun j k hj => (row_sum _ _ _ _ k ((Tile.band_cov _ _ 11 1 _ 0 j hj k).trans ((h14 j k).trans (if_neg (by rw [hj]; decide)))) (fun r => congrArg₂ (· * ·) (congrFun (r7_eq (c := c) (harg1 := harg1) (harg2 := harg2) (harg8 := harg8) (harg9 := harg9)) _) (sc3 (ucopy 4 8 _ (by decide) (by decide) r k _ (by rw [hj]))))).trans (congrArg (_ + ·) (if_pos (by rw [hj]; decide)).symm))
  have h16 : ∀ (j : Fin 40) (k : Fin 512), arg11.view.read (Elt Ideal) (arg11.view.writes (Elt Ideal) arg11.view.junk (kernelRun0_A.sl.H10_17 c i arg1 harg1 arg2 harg2 arg3 harg3 arg4 harg4 arg5 harg5 arg6 harg6 arg8 harg8 arg9 harg9 arg11 arg12 arg14 x0 x1 x2 x3 x4 x5 x7 x8)) (ix2 j k) = if pos j.val < 16 then (0 : EReal) + (tadd i x0 x1 x2 x3 x4 x5 x7 x8) j k else 0 :=
    Tile.rows_step arg11.view _ pos (fun _ _ => 0) (tadd i x0 x1 x2 x3 x4 x5 x7 x8) _ 15 12 h15 (fun j => pos_12 j) _ _ (fun j k hj => (row_sum _ _ _ _ k ((Tile.band_cov _ _ 12 1 _ 0 j hj k).trans ((h15 j k).trans (if_neg (by rw [hj]; decide)))) (fun r => congrArg₂ (· * ·) (congrFun (r7_eq (c := c) (harg1 := harg1) (harg2 := harg2) (harg8 := harg8) (harg9 := harg9)) _) (sc3 (ucopy 5 8 _ (by decide) (by decide) r k _ (by rw [hj]))))).trans (congrArg (_ + ·) (if_pos (by rw [hj]; decide)).symm))
  have h17 : ∀ (j : Fin 40) (k : Fin 512), arg11.view.read (Elt Ideal) (arg11.view.writes (Elt Ideal) arg11.view.junk (kernelRun0_A.sl.H10_18 c i arg1 harg1 arg2 harg2 arg3 harg3 arg4 harg4 arg5 harg5 arg6 harg6 arg8 harg8 arg9 harg9 arg11 arg12 arg14 x0 x1 x2 x3 x4 x5 x7 x8)) (ix2 j k) = if pos j.val < 17 then (0 : EReal) + (tadd i x0 x1 x2 x3 x4 x5 x7 x8) j k else 0 :=
    Tile.rows_step arg11.view _ pos (fun _ _ => 0) (tadd i x0 x1 x2 x3 x4 x5 x7 x8) _ 16 13 h16 (fun j => pos_13 j) _ _ (fun j k hj => (row_sum _ _ _ _ k ((Tile.band_cov _ _ 13 1 _ 0 j hj k).trans ((h16 j k).trans (if_neg (by rw [hj]; decide)))) (fun r => congrArg₂ (· * ·) (congrFun (r7_eq (c := c) (harg1 := harg1) (harg2 := harg2) (harg8 := harg8) (harg9 := harg9)) _) (sc3 (ucopy 6 8 _ (by decide) (by decide) r k _ (by rw [hj]))))).trans (congrArg (_ + ·) (if_pos (by rw [hj]; decide)).symm))
  have h18 : ∀ (j : Fin 40) (k : Fin 512), arg11.view.read (Elt Ideal) (arg11.view.writes (Elt Ideal) arg11.view.junk (kernelRun0_A.sl.H10_19 c i arg1 harg1 arg2 harg2 arg3 harg3 arg4 harg4 arg5 harg5 arg6 harg6 arg8 harg8 arg9 harg9 arg11 arg12 arg14 x0 x1 x2 x3 x4 x5 x7 x8)) (ix2 j k) = if pos j.val < 18 then (0 : EReal) + (tadd i x0 x1 x2 x3 x4 x5 x7 x8) j k else 0 :=
    Tile.rows_step arg11.view _ pos (fun _ _ => 0) (tadd i x0 x1 x2 x3 x4 x5 x7 x8) _ 17 14 h17 (fun j => pos_14 j) _ _ (fun j k hj => (row_sum _ _ _ _ k ((Tile.band_cov _ _ 14 1 _ 0 j hj k).trans ((h17 j k).trans (if_neg (by rw [hj]; decide)))) (fun r => congrArg₂ (· * ·) (congrFun (r7_eq (c := c) (harg1 := harg1) (harg2 := harg2) (harg8 := harg8) (harg9 := harg9)) _) (urow 16 _ (by decide) r k _ (by rw [hj])))).trans (congrArg (_ + ·) (if_pos (by rw [hj]; decide)).symm))
  have h19 : ∀ (j : Fin 40) (k : Fin 512), arg11.view.read (Elt Ideal) (arg11.view.writes (Elt Ideal) arg11.view.junk (kernelRun0_A.sl.H10_20 c i arg1 harg1 arg2 harg2 arg3 harg3 arg4 harg4 arg5 harg5 arg6 harg6 arg8 harg8 arg9 harg9 arg11 arg12 arg14 x0 x1 x2 x3 x4 x5 x7 x8)) (ix2 j k) = if pos j.val < 19 then (0 : EReal) + (tadd i x0 x1 x2 x3 x4 x5 x7 x8) j k else 0 :=
    Tile.rows_step arg11.view _ pos (fun _ _ => 0) (tadd i x0 x1 x2 x3 x4 x5 x7 x8) _ 18 15 h18 (fun j => pos_15 j) _ _ (fun j k hj => (row_sum _ _ _ _ k ((Tile.band_cov _ _ 15 1 _ 0 j hj k).trans ((h18 j k).trans (if_neg (by rw [hj]; decide)))) (fun r => congrArg₂ (· * ·) (congrFun (r7_eq (c := c) (harg1 := harg1) (harg2 := harg2) (harg8 := harg8) (harg9 := harg9)) _) (sc3 (ucopy 0 16 _ (by decide) (by decide) r k _ (by rw [hj]))))).trans (congrArg (_ + ·) (if_pos (by rw [hj]; decide)).symm))
  have h20 : ∀ (j : Fin 40) (k : Fin 512), arg11.view.read (Elt Ideal) (arg11.view.writes (Elt Ideal) arg11.view.junk (kernelRun0_A.sl.H10_21 c i arg1 harg1 arg2 harg2 arg3 harg3 arg4 harg4 arg5 harg5 arg6 harg6 arg8 harg8 arg9 harg9 arg11 arg12 arg14 x0 x1 x2 x3 x4 x5 x7 x8)) (ix2 j k) = if pos j.val < 20 then (0 : EReal) + (tadd i x0 x1 x2 x3 x4 x5 x7 x8) j k else 0 :=
    Tile.rows_step arg11.view _ pos (fun _ _ => 0) (tadd i x0 x1 x2 x3 x4 x5 x7 x8) _ 19 16 h19 (fun j => pos_16 j) _ _ (fun j k hj => (row_sum _ _ _ _ k ((Tile.band_cov _ _ 16 1 _ 0 j hj k).trans ((h19 j k).trans (if_neg (by rw [hj]; decide)))) (fun r => congrArg₂ (· * ·) (congrFun (r7_eq (c := c) (harg1 := harg1) (harg2 := harg2) (harg8 := harg8) (harg9 := harg9)) _) (sc3 (ucopy 1 16 _ (by decide) (by decide) r k _ (by rw [hj]))))).trans (congrArg (_ + ·) (if_pos (by rw [hj]; decide)).symm))
  have h21 : ∀ (j : Fin 40) (k : Fin 512), arg11.view.read (Elt Ideal) (arg11.view.writes (Elt Ideal) arg11.view.junk (kernelRun0_A.sl.H10_22 c i arg1 harg1 arg2 harg2 arg3 harg3 arg4 harg4 arg5 harg5 arg6 harg6 arg8 harg8 arg9 harg9 arg11 arg12 arg14 x0 x1 x2 x3 x4 x5 x7 x8)) (ix2 j k) = if pos j.val < 21 then (0 : EReal) + (tadd i x0 x1 x2 x3 x4 x5 x7 x8) j k else 0 :=
    Tile.rows_step arg11.view _ pos (fun _ _ => 0) (tadd i x0 x1 x2 x3 x4 x5 x7 x8) _ 20 17 h20 (fun j => pos_17 j) _ _ (fun j k hj => (row_sum _ _ _ _ k ((Tile.band_cov _ _ 17 1 _ 0 j hj k).trans ((h20 j k).trans (if_neg (by rw [hj]; decide)))) (fun r => congrArg₂ (· * ·) (congrFun (r7_eq (c := c) (harg1 := harg1) (harg2 := harg2) (harg8 := harg8) (harg9 := harg9)) _) (sc3 (ucopy 2 16 _ (by decide) (by decide) r k _ (by rw [hj]))))).trans (congrArg (_ + ·) (if_pos (by rw [hj]; decide)).symm))
  have h22 : ∀ (j : Fin 40) (k : Fin 512), arg11.view.read (Elt Ideal) (arg11.view.writes (Elt Ideal) arg11.view.junk (kernelRun0_A.sl.H10_23 c i arg1 harg1 arg2 harg2 arg3 harg3 arg4 harg4 arg5 harg5 arg6 harg6 arg8 harg8 arg9 harg9 arg11 arg12 arg14 x0 x1 x2 x3 x4 x5 x7 x8)) (ix2 j k) = if pos j.val < 22 then (0 : EReal) + (tadd i x0 x1 x2 x3 x4 x5 x7 x8) j k else 0 :=
    Tile.rows_step arg11.view _ pos (fun _ _ => 0) (tadd i x0 x1 x2 x3 x4 x5 x7 x8) _ 21 18 h21 (fun j => pos_18 j) _ _ (fun j k hj => (row_sum _ _ _ _ k ((Tile.band_cov _ _ 18 1 _ 0 j hj k).trans ((h21 j k).trans (if_neg (by rw [hj]; decide)))) (fun r => congrArg₂ (· * ·) (congrFun (r7_eq (c := c) (harg1 := harg1) (harg2 := harg2) (harg8 := harg8) (harg9 := harg9)) _) (sc3 (ucopy 3 16 _ (by decide) (by decide) r k _ (by rw [hj]))))).trans (congrArg (_ + ·) (if_pos (by rw [hj]; decide)).symm))
  have h23 : ∀ (j : Fin 40) (k : Fin 512), arg11.view.read (Elt Ideal) (arg11.view.writes (Elt Ideal) arg11.view.junk (kernelRun0_A.sl.H10_24 c i arg1 harg1 arg2 harg2 arg3 harg3 arg4 harg4 arg5 harg5 arg6 harg6 arg8 harg8 arg9 harg9 arg11 arg12 arg14 x0 x1 x2 x3 x4 x5 x7 x8)) (ix2 j k) = if pos j.val < 23 then (0 : EReal) + (tadd i x0 x1 x2 x3 x4 x5 x7 x8) j k else 0 :=
    Tile.rows_step arg11.view _ pos (fun _ _ => 0) (tadd i x0 x1 x2 x3 x4 x5 x7 x8) _ 22 19 h22 (fun j => pos_19 j) _ _ (fun j k hj => (row_sum _ _ _ _ k ((Tile.band_cov _ _ 19 1 _ 0 j hj k).trans ((h22 j k).trans (if_neg (by rw [hj]; decide)))) (fun r => congrArg₂ (· * ·) (congrFun (r7_eq (c := c) (harg1 := harg1) (harg2 := harg2) (harg8 := harg8) (harg9 := harg9)) _) (sc3 (ucopy 4 16 _ (by decide) (by decide) r k _ (by rw [hj]))))).trans (congrArg (_ + ·) (if_pos (by rw [hj]; decide)).symm))
  have h24 : ∀ (j : Fin 40) (k : Fin 512), arg11.view.read (Elt Ideal) (arg11.view.writes (Elt Ideal) arg11.view.junk (kernelRun0_A.sl.H10_25 c i arg1 harg1 arg2 harg2 arg3 harg3 arg4 harg4 arg5 harg5 arg6 harg6 arg8 harg8 arg9 harg9 arg11 arg12 arg14 x0 x1 x2 x3 x4 x5 x7 x8)) (ix2 j k) = if pos j.val < 24 then (0 : EReal) + (tadd i x0 x1 x2 x3 x4 x5 x7 x8) j k else 0 :=
    Tile.rows_step arg11.view _ pos (fun _ _ => 0) (tadd i x0 x1 x2 x3 x4 x5 x7 x8) _ 23 20 h23 (fun j => pos_20 j) _ _ (fun j k hj => (row_sum _ _ _ _ k ((Tile.band_cov _ _ 20 1 _ 0 j hj k).trans ((h23 j k).trans (if_neg (by rw [hj]; decide)))) (fun r => congrArg₂ (· * ·) (congrFun (r7_eq (c := c) (harg1 := harg1) (harg2 := harg2) (harg8 := harg8) (harg9 := harg9)) _) (sc3 (ucopy 5 16 _ (by decide) (by decide) r k _ (by rw [hj]))))).trans (congrArg (_ + ·) (if_pos (by rw [hj]; decide)).symm))
  have h25 : ∀ (j : Fin 40) (k : Fin 512), arg11.view.read (Elt Ideal) (arg11.view.writes (Elt Ideal) arg11.view.junk (kernelRun0_A.sl.H10_26 c i arg1 harg1 arg2 harg2 arg3 harg3 arg4 harg4 arg5 harg5 arg6 harg6 arg8 harg8 arg9 harg9 arg11 arg12 arg14 x0 x1 x2 x3 x4 x5 x7 x8)) (ix2 j k) = if pos j.val < 25 then (0 : EReal) + (tadd i x0 x1 x2 x3 x4 x5 x7 x8) j k else 0 :=
    Tile.rows_step arg11.view _ pos (fun _ _ => 0) (tadd i x0 x1 x2 x3 x4 x5 x7 x8) _ 24 21 h24 (fun j => pos_21 j) _ _ (fun j k hj => (row_sum _ _ _ _ k ((Tile.band_cov _ _ 21 1 _ 0 j hj k).trans ((h24 j k).trans (if_neg (by rw [hj]; decide)))) (fun r => congrArg₂ (· * ·) (congrFun (r7_eq (c := c) (harg1 := harg1) (harg2 := harg2) (harg8 := harg8) (harg9 := harg9)) _) (sc3 (ucopy 6 16 _ (by decide) (by decide) r k _ (by rw [hj]))))).trans (congrArg (_ + ·) (if_pos (by rw [hj]; decide)).symm))
  have h26 : ∀ (j : Fin 40) (k : Fin 512), arg11.view.read (Elt Ideal) (arg11.view.writes (Elt Ideal) arg11.view.junk (kernelRun0_A.sl.H10_27 c i arg1 harg1 arg2 harg2 arg3 harg3 arg4 harg4 arg5 harg5 arg6 harg6 arg8 harg8 arg9 harg9 arg11 arg12 arg14 x0 x1 x2 x3 x4 x5 x7 x8)) (ix2 j k) = if pos j.val < 26 then (0 : EReal) + (tadd i x0 x1 x2 x3 x4 x5 x7 x8) j k else 0 :=
    Tile.rows_step arg11.view _ pos (fun _ _ => 0) (tadd i x0 x1 x2 x3 x4 x5 x7 x8) _ 25 22 h25 (fun j => pos_22 j) _ _ (fun j k hj => (row_sum _ _ _ _ k ((Tile.band_cov _ _ 22 1 _ 0 j hj k).trans ((h25 j k).trans (if_neg (by rw [hj]; decide)))) (fun r => congrArg₂ (· * ·) (congrFun (r7_eq (c := c) (harg1 := harg1) (harg2 := harg2) (harg8 := harg8) (harg9 := harg9)) _) (urow 24 _ (by decide) r k _ (by rw [hj])))).trans (congrArg (_ + ·) (if_pos (by rw [hj]; decide)).symm))
  have h27 : ∀ (j : Fin 40) (k : Fin 512), arg11.view.read (Elt Ideal) (arg11.view.writes (Elt Ideal) arg11.view.junk (kernelRun0_A.sl.H10_28 c i arg1 harg1 arg2 harg2 arg3 harg3 arg4 harg4 arg5 harg5 arg6 harg6 arg8 harg8 arg9 harg9 arg11 arg12 arg14 x0 x1 x2 x3 x4 x5 x7 x8)) (ix2 j k) = if pos j.val < 27 then (0 : EReal) + (tadd i x0 x1 x2 x3 x4 x5 x7 x8) j k else 0 :=
    Tile.rows_step arg11.view _ pos (fun _ _ => 0) (tadd i x0 x1 x2 x3 x4 x5 x7 x8) _ 26 23 h26 (fun j => pos_23 j) _ _ (fun j k hj => (row_sum _ _ _ _ k ((Tile.band_cov _ _ 23 1 _ 0 j hj k).trans ((h26 j k).trans (if_neg (by rw [hj]; decide)))) (fun r => congrArg₂ (· * ·) (congrFun (r7_eq (c := c) (harg1 := harg1) (harg2 := harg2) (harg8 := harg8) (harg9 := harg9)) _) (sc3 (ucopy 0 24 _ (by decide) (by decide) r k _ (by rw [hj]))))).trans (congrArg (_ + ·) (if_pos (by rw [hj]; decide)).symm))
  have h28 : ∀ (j : Fin 40) (k : Fin 512), arg11.view.read (Elt Ideal) (arg11.view.writes (Elt Ideal) arg11.view.junk (kernelRun0_A.sl.H10_29 c i arg1 harg1 arg2 harg2 arg3 harg3 arg4 harg4 arg5 harg5 arg6 harg6 arg8 harg8 arg9 harg9 arg11 arg12 arg14 x0 x1 x2 x3 x4 x5 x7 x8)) (ix2 j k) = if pos j.val < 28 then (0 : EReal) + (tadd i x0 x1 x2 x3 x4 x5 x7 x8) j k else 0 :=
    Tile.rows_step arg11.view _ pos (fun _ _ => 0) (tadd i x0 x1 x2 x3 x4 x5 x7 x8) _ 27 24 h27 (fun j => pos_24 j) _ _ (fun j k hj => (row_sum _ _ _ _ k ((Tile.band_cov _ _ 24 1 _ 0 j hj k).trans ((h27 j k).trans (if_neg (by rw [hj]; decide)))) (fun r => congrArg₂ (· * ·) (congrFun (r7_eq (c := c) (harg1 := harg1) (harg2 := harg2) (harg8 := harg8) (harg9 := harg9)) _) (sc3 (ucopy 1 24 _ (by decide) (by decide) r k _ (by rw [hj]))))).trans (congrArg (_ + ·) (if_pos (by rw [hj]; decide)).symm))
  have h29 : ∀ (j : Fin 40) (k : Fin 512), arg11.view.read (Elt Ideal) (arg11.view.writes (Elt Ideal) arg11.view.junk (kernelRun0_A.sl.H10_30 c i arg1 harg1 arg2 harg2 arg3 harg3 arg4 harg4 arg5 harg5 arg6 harg6 arg8 harg8 arg9 harg9 arg11 arg12 arg14 x0 x1 x2 x3 x4 x5 x7 x8)) (ix2 j k) = if pos j.val < 29 then (0 : EReal) + (tadd i x0 x1 x2 x3 x4 x5 x7 x8) j k else 0 :=
    Tile.rows_step arg11.view _ pos (fun _ _ => 0) (tadd i x0 x1 x2 x3 x4 x5 x7 x8) _ 28 25 h28 (fun j => pos_25 j) _ _ (fun j k hj => (row_sum _ _ _ _ k ((Tile.band_cov _ _ 25 1 _ 0 j hj k).trans ((h28 j k).trans (if_neg (by rw [hj]; decide)))) (fun r => congrArg₂ (· * ·) (congrFun (r7_eq (c := c) (harg1 := harg1) (harg2 := harg2) (harg8 := harg8) (harg9 := harg9)) _) (sc3 (ucopy 2 24 _ (by decide) (by decide) r k _ (by rw [hj]))))).trans (congrArg (_ + ·) (if_pos (by rw [hj]; decide)).symm))
  have h30 : ∀ (j : Fin 40) (k : Fin 512), arg11.view.read (Elt Ideal) (arg11.view.writes (Elt Ideal) arg11.view.junk (kernelRun0_A.sl.H10_31 c i arg1 harg1 arg2 harg2 arg3 harg3 arg4 harg4 arg5 harg5 arg6 harg6 arg8 harg8 arg9 harg9 arg11 arg12 arg14 x0 x1 x2 x3 x4 x5 x7 x8)) (ix2 j k) = if pos j.val < 30 then (0 : EReal) + (tadd i x0 x1 x2 x3 x4 x5 x7 x8) j k else 0 :=
    Tile.rows_step arg11.view _ pos (fun _ _ => 0) (tadd i x0 x1 x2 x3 x4 x5 x7 x8) _ 29 26 h29 (fun j => pos_26 j) _ _ (fun j k hj => (row_sum _ _ _ _ k ((Tile.band_cov _ _ 26 1 _ 0 j hj k).trans ((h29 j k).trans (if_neg (by rw [hj]; decide)))) (fun r => congrArg₂ (· * ·) (congrFun (r7_eq (c := c) (harg1 := harg1) (harg2 := harg2) (harg8 := harg8) (harg9 := harg9)) _) (sc3 (ucopy 3 24 _ (by decide) (by decide) r k _ (by rw [hj]))))).trans (congrArg (_ + ·) (if_pos (by rw [hj]; decide)).symm))
  have h31 : ∀ (j : Fin 40) (k : Fin 512), arg11.view.read (Elt Ideal) (arg11.view.writes (Elt Ideal) arg11.view.junk (kernelRun0_A.sl.H10_32 c i arg1 harg1 arg2 harg2 arg3 harg3 arg4 harg4 arg5 harg5 arg6 harg6 arg8 harg8 arg9 harg9 arg11 arg12 arg14 x0 x1 x2 x3 x4 x5 x7 x8)) (ix2 j k) = if pos j.val < 31 then (0 : EReal) + (tadd i x0 x1 x2 x3 x4 x5 x7 x8) j k else 0 :=
    Tile.rows_step arg11.view _ pos (fun _ _ => 0) (tadd i x0 x1 x2 x3 x4 x5 x7 x8) _ 30 27 h30 (fun j => pos_27 j) _ _ (fun j k hj => (row_sum _ _ _ _ k ((Tile.band_cov _ _ 27 1 _ 0 j hj k).trans ((h30 j k).trans (if_neg (by rw [hj]; decide)))) (fun r => congrArg₂ (· * ·) (congrFun (r7_eq (c := c) (harg1 := harg1) (harg2 := harg2) (harg8 := harg8) (harg9 := harg9)) _) (sc3 (ucopy 4 24 _ (by decide) (by decide) r k _ (by rw [hj]))))).trans (congrArg (_ + ·) (if_pos (by rw [hj]; decide)).symm))
  have h32 : ∀ (j : Fin 40) (k : Fin 512), arg11.view.read (Elt Ideal) (arg11.view.writes (Elt Ideal) arg11.view.junk (kernelRun0_A.sl.H10_33 c i arg1 harg1 arg2 harg2 arg3 harg3 arg4 harg4 arg5 harg5 arg6 harg6 arg8 harg8 arg9 harg9 arg11 arg12 arg14 x0 x1 x2 x3 x4 x5 x7 x8)) (ix2 j k) = if pos j.val < 32 then (0 : EReal) + (tadd i x0 x1 x2 x3 x4 x5 x7 x8) j k else 0 :=
    Tile.rows_step arg11.view _ pos (fun _ _ => 0) (tadd i x0 x1 x2 x3 x4 x5 x7 x8) _ 31 28 h31 (fun j => pos_28 j) _ _ (fun j k hj => (row_sum _ _ _ _ k ((Tile.band_cov _ _ 28 1 _ 0 j hj k).trans ((h31 j k).trans (if_neg (by rw [hj]; decide)))) (fun r => congrArg₂ (· * ·) (congrFun (r7_eq (c := c) (harg1 := harg1) (harg2 := harg2) (harg8 := harg8) (harg9 := harg9)) _) (sc3 (ucopy 5 24 _ (by decide) (by decide) r k _ (by rw [hj]))))).trans (congrArg (_ + ·) (if_pos (by rw [hj]; decide)).symm))
  have h33 : ∀ (j : Fin 40) (k : Fin 512), arg11.view.read (Elt Ideal) (arg11.view.writes (Elt Ideal) arg11.view.junk (kernelRun0_A.sl.H10_34 c i arg1 harg1 arg2 harg2 arg3 harg3 arg4 harg4 arg5 harg5 arg6 harg6 arg8 harg8 arg9 harg9 arg11 arg12 arg14 x0 x1 x2 x3 x4 x5 x7 x8)) (ix2 j k) = if pos j.val < 33 then (0 : EReal) + (tadd i x0 x1 x2 x3 x4 x5 x7 x8) j k else 0 :=
    Tile.rows_step arg11.view _ pos (fun _ _ => 0) (tadd i x0 x1 x2 x3 x4 x5 x7 x8) _ 32 29 h32 (fun j => pos_29 j) _ _ (fun j k hj => (row_sum _ _ _ _ k ((Tile.band_cov _ _ 29 1 _ 0 j hj k).trans ((h32 j k).trans (if_neg (by rw [hj]; decide)))) (fun r => congrArg₂ (· * ·) (congrFun (r7_eq (c := c) (harg1 := harg1) (harg2 := harg2) (harg8 := harg8) (harg9 := harg9)) _) (sc3 (ucopy 6 24 _ (by decide) (by decide) r k _ (by rw [hj]))))).trans (congrArg (_ + ·) (if_pos (by rw [hj]; decide)).symm))
  unfold out0_A_10 kernelRun0_A
  refine (congrFun (View.read_writes_junk_eq_canon _ _) _).trans ((congrFun (View.read_writes_junk_eq_canon arg11.view _) _).symm.trans ?_)
  exact Tile.rows_step arg11.view _ pos (fun _ _ => 0) (tadd i x0 x1 x2 x3 x4 x5 x7 x8) _ 33 30 h33 (fun j => pos_30 j) _ _ (fun j k hj => (row_sum _ _ _ _ k ((Tile.band_cov _ _ 30 1 _ 0 j hj k).trans ((h33 j k).trans (if_neg (by rw [hj]; decide)))) (fun r => congrArg₂ (· * ·) (congrFun (r7_eq (c := c) (harg1 := harg1) (harg2 := harg2) (harg8 := harg8) (harg9 := harg9)) _) (urow 32 _ (by decide) r k _ (by rw [hj])))).trans (congrArg (_ + ·) (if_pos (by rw [hj]; decide)).symm)) j k

end Cert.ConfIdeal.Val.First

end
-- ==== Proof.ConfLater.lean ====
/- The backward call of the convolution block, every later grid point: the buffers of rows, the gradients the taps add up to,
   and the two output blocks. Hand-written. -/
module

public import proofs.«01_k».proof.Proof.ConfPt
public import proofs.«01_k».proof.Proof.Bands

@[expose] public section

set_option maxRecDepth 16384

noncomputable section

namespace Cert.ConfIdeal.Val.Later

open Idealize.ShloMosaic Idealize.ShloMosaic.TcCoe Idealize.SL.Sem Cert.ConfIdeal Cert.ConfIdeal.Gen
open Idealize.ShloMosaic.ValueIdx (ix1 ix2 ix3)

variable {c : Dev nD} {i : grid0.Coords}
variable {arg1 : Memref sig .tc .vmem S256x512 .f32} {harg1 : arg1.IsWhole}
variable {arg2 : Memref sig .tc .vmem S256x512 .f32} {harg2 : arg2.IsWhole}
variable {arg3 : Memref sig .tc .vmem S256x512 .f32} {harg3 : arg3.IsWhole}
variable {arg4 : Memref sig .tc .vmem S256x512 .f32} {harg4 : arg4.IsWhole}
variable {arg5 : Memref sig .tc .vmem S32x512 .f32} {harg5 : arg5.IsWhole}
variable {arg6 : Memref sig .tc .vmem S32x512 .f32} {harg6 : arg6.IsWhole}
variable {arg7 : Memref sig .tc .vmem S31x512 .f32} {harg7 : arg7.IsWhole}
variable {arg8 : Memref sig .tc .vmem S1x512 .f32} {harg8 : arg8.IsWhole}
variable {arg9 : Memref sig .tc .vmem S1x512 .f32} {harg9 : arg9.IsWhole}
variable {arg10 : Memref sig .tc .vmem S256x1024 .bf16} {harg10 : arg10.IsWhole}
variable {arg11 : Memref sig .tc .vmem S40x512 .f32} {harg11 : arg11.IsWhole}
variable {arg12 : Memref sig .tc .vmem S288x512 .f32} {harg12 : arg12.IsWhole}
variable {arg13 : Memref sig .tc .vmem S288x512 .f32} {harg13 : arg13.IsWhole}
variable {arg14 : Memref sig .tc .vmem S7x280x512 .f32} {harg14 : arg14.IsWhole}
variable {arg15 : Memref sig .tc .vmem S7x280x512 .f32} {harg15 : arg15.IsWhole}
variable {x0 x1 x2 x3 : Vec Ideal S256x512 .f32} {x4 x5 : Vec Ideal S32x512 .f32} {x6 : Vec Ideal S31x512 .f32} {x7 x8 : Vec Ideal S1x512 .f32}
variable {xo10 : Vec Ideal S40x512 .f32} {xs1 : Vec Ideal S288x512 .f32}

/-! ## The tile's gradient -/

theorem r7_eq : kernelRun0_B.sl.r_7 c arg1 harg1 arg2 harg2 arg8 harg8 arg9 harg9 x0 x1 x7 x8 = tdy x1 x0 x7 x8 := by
  have e : ∀ a b d f, a = x1 → b = x0 → d = x7 → f = x8 → tdy a b d f = tdy x1 x0 x7 x8 := by
    rintro a b d f rfl rfl rfl rfl
    rfl
  exact e _ _ _ _ (Tile.whole_load harg2 x1 _) (Tile.whole_load harg1 x0 _) (Tile.whole_load harg8 x7 _) (Tile.whole_load harg9 x8 _)

/-! ## The two buffers of rows -/

theorem u_read (n : Fin 288) (k : Fin 512) :
    arg12.view.read (Elt Ideal) (arg12.view.writes (Elt Ideal) arg12.view.junk (kernelRun0_B.sl.HS0_2 c i arg3 harg3 arg4 harg4 arg5 harg5 arg6 harg6 x2 x3 x4 x5)) (ix2 n k) = ub i x2 x3 x4 x5 n.val k := by
  unfold ub
  by_cases h : n.val < 32
  · rw [dif_pos h]
    refine (Tile.band_miss _ _ 32 256 _ _ _ n (Or.inl h) k).trans ?_
    refine (Tile.band_hit _ _ 0 32 _ _ _ n ⟨n.val, h⟩ (by simp) k).trans ?_
    refine (halo_at _ _ _ _ _).trans ?_
    rw [Tile.whole_load harg5 x4, Tile.whole_load harg6 x5]
  · have h' : n.val - 32 < 256 := by omega
    rw [dif_neg h, dif_pos h']
    refine (Tile.band_hit _ _ 32 256 _ _ _ n ⟨n.val - 32, h'⟩ (by show n.val = 32 + (n.val - 32); omega) k).trans ?_
    refine (prod_at _ _ _ _).trans ?_
    rw [Tile.whole_load harg3 x2, Tile.whole_load harg4 x3]

theorem d_read (n : Fin 288) (k : Fin 512) :
    arg13.view.read (Elt Ideal) (arg13.view.writes (Elt Ideal) (harg13.unread xs1) (kernelRun0_B.sl.HS1_1 c arg1 harg1 arg2 harg2 arg8 harg8 arg9 harg9 x0 x1 x7 x8)) (ix2 n k) = db (tdy x1 x0 x7 x8) xs1 n.val k := by
  unfold db
  by_cases h : n.val < 256
  · rw [dif_pos h]
    refine (Tile.band_hit _ _ 0 256 _ _ _ n ⟨n.val, h⟩ (by simp) k).trans ?_
    refine (store_at _ _ _ _ _ _ _ _ _).trans ?_
    exact congrFun (r7_eq (c := c) (harg1 := harg1) (harg2 := harg2) (harg8 := harg8) (harg9 := harg9)) _
  · have h' : n.val < 288 := n.isLt
    rw [dif_neg h, dif_pos h']
    refine (Tile.band_miss _ _ 0 256 _ _ _ n (Or.inr (by omega)) k).trans ?_
    exact congrFun (harg13.read_unread xs1) _

theorem ucopy (s o : ℕ) (inb) (hs : s < 7) (ho : o + 256 ≤ 280) (r : Fin 256) (k : Fin 512) (n : ℕ) (hn : n = s + 1 + o + r.val) :
    arg14.view.readCov (Val := Elt Ideal) (kernelRun0_B.sl.HS2_7 c i arg3 harg3 arg4 harg4 arg5 harg5 arg6 harg6 arg12 x2 x3 x4 x5) (Rect.unit (s := S7x280x512) ![s, o, 0] S1x256x512.size inb).toLoadRect (ix3 0 r k) = ub i x2 x3 x4 x5 n k := by
  refine Tile.seven (Val := Elt Ideal) arg14.view _ _ _ _ _ _ _ _ _ _ _ _ _ _ (fun (n : Fin 288) k => ub i x2 x3 x4 x5 n.val k) (by decide) ?_ ?_ ?_ ?_ ?_ ?_ ?_
    s o 256 inb hs ho r k ⟨n, by omega⟩ hn
  · exact (fun n k => (ValueIdx.shapeCast_ab_1ab_apply _ _ _ _ _).trans ((Tile.band_cov _ _ 1 280 _ n ⟨0 + 1 + n.val, by omega⟩ (by show 0 + 1 + n.val = 1 + n.val; omega) k).trans (u_read _ k)))
  · exact (fun n k => (ValueIdx.shapeCast_ab_1ab_apply _ _ _ _ _).trans ((Tile.band_cov _ _ 2 280 _ n ⟨1 + 1 + n.val, by omega⟩ (by show 1 + 1 + n.val = 2 + n.val; omega) k).trans (u_read _ k)))
  · exact (fun n k => (ValueIdx.shapeCast_ab_1ab_apply _ _ _ _ _).trans ((Tile.band_cov _ _ 3 280 _ n ⟨2 + 1 + n.val, by omega⟩ (by show 2 + 1 + n.val = 3 + n.val; omega) k).trans (u_read _ k)))
  · exact (fun n k => (ValueIdx.shapeCast_ab_1ab_apply _ _ _ _ _).trans ((Tile.band_cov _ _ 4 280 _ n ⟨3 + 1 + n.val, by omega⟩ (by show 3 + 1 + n.val = 4 + n.val; omega) k).trans (u_read _ k)))
  · exact (fun n k => (ValueIdx.shapeCast_ab_1ab_apply _ _ _ _ _).trans ((Tile.band_cov _ _ 5 280 _ n ⟨4 + 1 + n.val, by omega⟩ (by show 4 + 1 + n.val = 5 + n.val; omega) k).trans (u_read _ k)))
  · exact (fun n k => (ValueIdx.shapeCast_ab_1ab_apply _ _ _ _ _).trans ((Tile.band_cov _ _ 6 280 _ n ⟨5 + 1 + n.val, by omega⟩ (by show 5 + 1 + n.val = 6 + n.val; omega) k).trans (u_read _ k)))
  · exact (fun n k => (ValueIdx.shapeCast_ab_1ab_apply _ _ _ _ _).trans ((Tile.band_cov _ _ 7 280 _ n ⟨6 + 1 + n.val, by omega⟩ (by show 6 + 1 + n.val = 7 + n.val; omega) k).trans (u_read _ k)))

theorem dcopy (s o : ℕ) (inb) (hs : s < 7) (ho : o + 256 ≤ 280) (r : Fin 256) (k : Fin 512) (n : ℕ) (hn : n = s + 1 + o + r.val) :
    arg15.view.readCov (Val := Elt Ideal) (kernelRun0_B.sl.HS3_7 c arg1 harg1 arg2 harg2 arg8 harg8 arg9 harg9 arg13 harg13 x0 x1 x7 x8 xs1) (Rect.unit (s := S7x280x512) ![s, o, 0] S1x256x512.size inb).toLoadRect (ix3 0 r k) = db (tdy x1 x0 x7 x8) xs1 n k := by
  refine Tile.seven (Val := Elt Ideal) arg15.view _ _ _ _ _ _ _ _ _ _ _ _ _ _ (fun (n : Fin 288) k => db (tdy x1 x0 x7 x8) xs1 n.val k) (by decide) ?_ ?_ ?_ ?_ ?_ ?_ ?_
    s o 256 inb hs ho r k ⟨n, by omega⟩ hn
  · exact (fun n k => (ValueIdx.shapeCast_ab_1ab_apply _ _ _ _ _).trans ((Tile.band_load _ _ 1 280 _ n ⟨0 + 1 + n.val, by omega⟩ (by show 0 + 1 + n.val = 1 + n.val; omega) k).trans (d_read _ k)))
  · exact (fun n k => (ValueIdx.shapeCast_ab_1ab_apply _ _ _ _ _).trans ((Tile.band_load _ _ 2 280 _ n ⟨1 + 1 + n.val, by omega⟩ (by show 1 + 1 + n.val = 2 + n.val; omega) k).trans (d_read _ k)))
  · exact (fun n k => (ValueIdx.shapeCast_ab_1ab_apply _ _ _ _ _).trans ((Tile.band_load _ _ 3 280 _ n ⟨2 + 1 + n.val, by omega⟩ (by show 2 + 1 + n.val = 3 + n.val; omega) k).trans (d_read _ k)))
  · exact (fun n k => (ValueIdx.shapeCast_ab_1ab_apply _ _ _ _ _).trans ((Tile.band_load _ _ 4 280 _ n ⟨3 + 1 + n.val, by omega⟩ (by show 3 + 1 + n.val = 4 + n.val; omega) k).trans (d_read _ k)))
  · exact (fun n k => (ValueIdx.shapeCast_ab_1ab_apply _ _ _ _ _).trans ((Tile.band_load _ _ 5 280 _ n ⟨4 + 1 + n.val, by omega⟩ (by show 4 + 1 + n.val = 5 + n.val; omega) k).trans (d_read _ k)))
  · exact (fun n k => (ValueIdx.shapeCast_ab_1ab_apply _ _ _ _ _).trans ((Tile.band_load _ _ 6 280 _ n ⟨5 + 1 + n.val, by omega⟩ (by show 5 + 1 + n.val = 6 + n.val; omega) k).trans (d_read _ k)))
  · exact (fun n k => (ValueIdx.shapeCast_ab_1ab_apply _ _ _ _ _).trans ((Tile.band_load _ _ 7 280 _ n ⟨6 + 1 + n.val, by omega⟩ (by show 6 + 1 + n.val = 7 + n.val; omega) k).trans (d_read _ k)))

theorem urow (o : ℕ) (inb) (ho : o + 256 ≤ 288) (r : Fin 256) (k : Fin 512) (n : ℕ) (hn : n = o + r.val) :
    arg12.view.readCov (Val := Elt Ideal) (kernelRun0_B.sl.HS0_2 c i arg3 harg3 arg4 harg4 arg5 harg5 arg6 harg6 x2 x3 x4 x5) (Rect.unit (s := S288x512) ![o, 0] S256x512.size inb).toLoadRect (ix2 r k) = ub i x2 x3 x4 x5 n k :=
  (Tile.band_cov _ _ o 256 _ r ⟨n, by omega⟩ hn k).trans (u_read _ k)

theorem drow (o a : ℕ) (inb) (ho : o + a ≤ 288) (r : Fin a) (k : Fin 512) (n : ℕ) (hn : n = o + r.val) :
    arg13.view.readAt (Elt Ideal) (Rect.unit (s := S288x512) ![o, 0] ![a, 512] inb).toLoadRect (arg13.view.writes (Elt Ideal) (harg13.unread xs1) (kernelRun0_B.sl.HS1_1 c arg1 harg1 arg2 harg2 arg8 harg8 arg9 harg9 x0 x1 x7 x8)) (ix2 r k) = db (tdy x1 x0 x7 x8) xs1 n k :=
  (Tile.band_load _ _ o a _ r ⟨n, by omega⟩ hn k).trans (d_read _ k)

theorem dtop (a : ℕ) (inb) (ha : a ≤ 256) (r : Fin a) (k : Fin 512) (n : ℕ) (hn : n = r.val) :
    arg13.view.readCov (Val := Elt Ideal) (kernelRun0_B.sl.HS1_1 c arg1 harg1 arg2 harg2 arg8 harg8 arg9 harg9 x0 x1 x7 x8) (Rect.unit (s := S288x512) ![0, 0] ![a, 512] inb).toLoadRect (ix2 r k) = db (tdy x1 x0 x7 x8) xs1 n k := by
  subst hn
  have h : r.val < 256 := by omega
  refine (Tile.band_cov _ _ 0 a _ r ⟨r.val, by omega⟩ (by simp) k).trans ?_
  unfold db
  rw [dif_pos h]
  refine (Tile.band_hit _ _ 0 256 _ _ _ _ ⟨r.val, h⟩ (by simp) k).trans ?_
  refine (store_at _ _ _ _ _ _ _ _ _).trans ?_
  exact congrFun (r7_eq (c := c) (harg1 := harg1) (harg2 := harg2) (harg8 := harg8) (harg9 := harg9)) _

/-! ## The gradient of the gated value -/

theorem r_11_at (r : Fin 256) (k : Fin 512) : kernelRun0_B.sl.r_11 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 2 :=
  taps2 (start_at _ _) (tapw (sc1 (wload harg7 x6 0 _ (by decide) k)) (sc3 (dcopy 5 24 _ (by decide) (by decide) r k (30 - 0 + r.val) (by omega)))) (tapw (sc1 (wload harg7 x6 1 _ (by decide) k)) (sc3 (dcopy 4 24 _ (by decide) (by decide) r k (30 - 1 + r.val) (by omega))))

theorem r_13_at (r : Fin 256) (k : Fin 512) : kernelRun0_B.sl.r_13 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 4 :=
  taps2 (r_11_at r k) (tapw (sc1 (wload harg7 x6 2 _ (by decide) k)) (sc3 (dcopy 3 24 _ (by decide) (by decide) r k (30 - 2 + r.val) (by omega)))) (tapw (sc1 (wload harg7 x6 3 _ (by decide) k)) (sc3 (dcopy 2 24 _ (by decide) (by decide) r k (30 - 3 + r.val) (by omega))))

theorem r_15_at (r : Fin 256) (k : Fin 512) : kernelRun0_B.sl.r_15 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 6 :=
  taps2 (r_13_at r k) (tapw (sc1 (wload harg7 x6 4 _ (by decide) k)) (sc3 (dcopy 1 24 _ (by decide) (by decide) r k (30 - 4 + r.val) (by omega)))) (tapw (sc1 (wload harg7 x6 5 _ (by decide) k)) (sc3 (dcopy 0 24 _ (by decide) (by decide) r k (30 - 5 + r.val) (by omega))))

theorem r_17_at (r : Fin 256) (k : Fin 512) : kernelRun0_B.sl.r_17 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 8 :=
  taps2 (r_15_at r k) (tapw (sc1 (wload harg7 x6 6 _ (by decide) k)) (drow 24 256 _ (by decide) r k (30 - 6 + r.val) (by omega))) (tapw (sc1 (wload harg7 x6 7 _ (by decide) k)) (sc3 (dcopy 6 16 _ (by decide) (by decide) r k (30 - 7 + r.val) (by omega))))

theorem r_18_at (r : Fin 256) (k : Fin 512) : kernelRun0_B.sl.r_18 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 10 :=
  taps2 (r_17_at r k) (tapw (sc1 (wload harg7 x6 8 _ (by decide) k)) (sc3 (dcopy 5 16 _ (by decide) (by decide) r k (30 - 8 + r.val) (by omega)))) (tapw (sc1 (wload harg7 x6 9 _ (by decide) k)) (sc3 (dcopy 4 16 _ (by decide) (by decide) r k (30 - 9 + r.val) (by omega))))

theorem r_19_at (r : Fin 256) (k : Fin 512) : kernelRun0_B.sl.r_19 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 12 :=
  taps2 (r_18_at r k) (tapw (sc1 (wload harg7 x6 10 _ (by decide) k)) (sc3 (dcopy 3 16 _ (by decide) (by decide) r k (30 - 10 + r.val) (by omega)))) (tapw (sc1 (wload harg7 x6 11 _ (by decide) k)) (sc3 (dcopy 2 16 _ (by decide) (by decide) r k (30 - 11 + r.val) (by omega))))

theorem r_20_at (r : Fin 256) (k : Fin 512) : kernelRun0_B.sl.r_20 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 14 :=
  taps2 (r_19_at r k) (tapw (sc1 (wload harg7 x6 12 _ (by decide) k)) (sc3 (dcopy 1 16 _ (by decide) (by decide) r k (30 - 12 + r.val) (by omega)))) (tapw (sc1 (wload harg7 x6 13 _ (by decide) k)) (sc3 (dcopy 0 16 _ (by decide) (by decide) r k (30 - 13 + r.val) (by omega))))

theorem r_22_at (r : Fin 256) (k : Fin 512) : kernelRun0_B.sl.r_22 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 16 :=
  taps2 (r_20_at r k) (tapw (sc1 (wload harg7 x6 14 _ (by decide) k)) (drow 16 256 _ (by decide) r k (30 - 14 + r.val) (by omega))) (tapw (sc1 (wload harg7 x6 15 _ (by decide) k)) (sc3 (dcopy 6 8 _ (by decide) (by decide) r k (30 - 15 + r.val) (by omega))))

theorem r_24_at (r : Fin 256) (k : Fin 512) : kernelRun0_B.sl.r_24 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 18 :=
  taps2 (r_22_at r k) (tapw (sc1 (wload harg7 x6 16 _ (by decide) k)) (sc3 (dcopy 5 8 _ (by decide) (by decide) r k (30 - 16 + r.val) (by omega)))) (tapw (sc1 (wload harg7 x6 17 _ (by decide) k)) (sc3 (dcopy 4 8 _ (by decide) (by decide) r k (30 - 17 + r.val) (by omega))))

theorem r_26_at (r : Fin 256) (k : Fin 512) : kernelRun0_B.sl.r_26 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 20 :=
  taps2 (r_24_at r k) (tapw (sc1 (wload harg7 x6 18 _ (by decide) k)) (sc3 (dcopy 3 8 _ (by decide) (by decide) r k (30 - 18 + r.val) (by omega)))) (tapw (sc1 (wload harg7 x6 19 _ (by decide) k)) (sc3 (dcopy 2 8 _ (by decide) (by decide) r k (30 - 19 + r.val) (by omega))))

theorem r_28_at (r : Fin 256) (k : Fin 512) : kernelRun0_B.sl.r_28 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 22 :=
  taps2 (r_26_at r k) (tapw (sc1 (wload harg7 x6 20 _ (by decide) k)) (sc3 (dcopy 1 8 _ (by decide) (by decide) r k (30 - 20 + r.val) (by omega)))) (tapw (sc1 (wload harg7 x6 21 _ (by decide) k)) (sc3 (dcopy 0 8 _ (by decide) (by decide) r k (30 - 21 + r.val) (by omega))))

theorem r_30_at (r : Fin 256) (k : Fin 512) : kernelRun0_B.sl.r_30 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 24 :=
  taps2 (r_28_at r k) (tapw (sc1 (wload harg7 x6 22 _ (by decide) k)) (drow 8 256 _ (by decide) r k (30 - 22 + r.val) (by omega))) (tapw (sc1 (wload harg7 x6 23 _ (by decide) k)) (sc3 (dcopy 6 0 _ (by decide) (by decide) r k (30 - 23 + r.val) (by omega))))

theorem r_33_at (r : Fin 256) (k : Fin 512) : kernelRun0_B.sl.r_33 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 26 :=
  taps2 (r_30_at r k) (tapw (sc1 (wload harg7 x6 24 _ (by decide) k)) (sc3 (dcopy 5 0 _ (by decide) (by decide) r k (30 - 24 + r.val) (by omega)))) (tapw (sc1 (wload harg7 x6 25 _ (by decide) k)) (sc3 (dcopy 4 0 _ (by decide) (by decide) r k (30 - 25 + r.val) (by omega))))

theorem r_36_at (r : Fin 256) (k : Fin 512) : kernelRun0_B.sl.r_36 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 28 :=
  taps2 (r_33_at r k) (tapw (sc1 (wload harg7 x6 26 _ (by decide) k)) (sc3 (dcopy 3 0 _ (by decide) (by decide) r k (30 - 26 + r.val) (by omega)))) (tapw (sc1 (wload harg7 x6 27 _ (by decide) k)) (sc3 (dcopy 2 0 _ (by decide) (by decide) r k (30 - 27 + r.val) (by omega))))

set_option maxHeartbeats 4000000 in
theorem r_39_at (r : Fin 256) (k : Fin 512) : kernelRun0_B.sl.r_39 c arg1 harg1 arg2 harg2 arg7 harg7 arg8 harg8 arg9 harg9 arg13 harg13 arg15 x0 x1 x6 x7 x8 xs1 (ix2 r k) = dpart (fun j => wf x6 j k * db (tdy x1 x0 x7 x8) xs1 (30 - j + r.val) k) 31 :=
  congrArg₂ (· + ·) (taps2 (r_36_at r k) (tapw (sc1 (wload harg7 x6 28 _ (by decide) k)) (sc3 (dcopy 1 0 _ (by decide) (by decide) r k (30 - 28 + r.val) (by omega)))) (tapw (sc1 (wload harg7 x6 29 _ (by decide) k)) (sc3 (dcopy 0 0 _ (by decide) (by decide) r k (30 - 29 + r.val) (by omega))))) (tapw (sc1 (wload harg7 x6 30 _ (by decide) k)) (dtop 256 _ (by decide) r k (30 - 30 + r.val) (by omega)))

/-! ## The block of the gradient -/

theorem out_left {hc0 : ¬cond0_0 i} (r : Fin 256) (k : Fin 512) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xs1 (ix2 r (⟨k.val, by omega⟩ : Fin 1024)) = dpart (fun j => wf x6 j k * db (tdy x1 x0 x7 x8) xs1 (30 - j + r.val) k) 31 * Ideal.logistic (x3 (ix2 r k)) := by
  unfold out0_B_9 kernelRun0_B
  refine (Tile.cols_miss _ _ 512 512 _ _ _ r (⟨k.val, by omega⟩ : Fin 1024) (Or.inl k.isLt)).trans ?_
  refine (Tile.cols_hit _ _ 0 512 _ _ _ r (⟨k.val, by omega⟩ : Fin 1024) k (by simp)).trans ?_
  refine congrArg₂ (· * ·) (r_39_at r k) ?_
  refine (gate_at _ r k).trans ?_
  rw [Tile.whole_load harg4 x3]

theorem out_right {hc0 : ¬cond0_0 i} (r : Fin 256) (k : Fin 512) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xs1 (ix2 r (⟨512 + k.val, by omega⟩ : Fin 1024))
      = ((dpart (fun j => wf x6 j k * db (tdy x1 x0 x7 x8) xs1 (30 - j + r.val) k) 31 * x2 (ix2 r k)) * Ideal.logistic (x3 (ix2 r k))) * (1 - Ideal.logistic (x3 (ix2 r k))) := by
  unfold out0_B_9 kernelRun0_B
  refine (Tile.cols_hit _ _ 512 512 _ _ _ r (⟨512 + k.val, by omega⟩ : Fin 1024) k rfl).trans ?_
  have hg : kernelRun0_B.sl.r_9 c arg4 harg4 x3 (ix2 r k) = Ideal.logistic (x3 (ix2 r k)) := by
    refine (gate_at _ r k).trans ?_
    rw [Tile.whole_load harg4 x3]
  refine congrArg₂ (· * ·) (congrArg₂ (· * ·) (congrArg₂ (· * ·) (r_39_at r k) ?_) hg) (congrArg₂ (· - ·) Ideal.ofBits_one_f32 hg)
  refine (plain_at _ r k).trans ?_
  rw [Tile.whole_load harg3 x2]

/-! ## What the buffer of the gradient is left with -/

theorem keep_at {hc0 : ¬cond0_0 i} (q : Fin 32) (k : Fin 512) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xs1 (ix2 (⟨256 + q.val, by omega⟩ : Fin 288) k) = db (tdy x1 x0 x7 x8) xs1 q.val k := by
  unfold sout0_B_1 kernelRun0_B
  refine (Tile.band_hit _ _ 256 32 _ _ _ (⟨256 + q.val, by omega⟩ : Fin 288) q rfl k).trans ?_
  refine (head_at _ q k).trans ?_
  exact dtop 32 _ (by decide) q k q.val rfl

/-! ## The rows of sums -/

theorem do_eq : k0_pay14 (kernelRun0_B.sl.r_2 c arg2 harg2 x1) (View.readAt (Elt Ideal) arg8.view (Rect.unit (s := S1x512) ![0, 0] S1x512.size inb_S1x512_S1x512_0_0).toLoadRect (harg8.unread x7)) (View.readAt (Elt Ideal) arg9.view (Rect.unit (s := S1x512) ![0, 0] S1x512.size inb_S1x512_S1x512_0_0).toLoadRect (harg9.unread x8)) (View.readAt (Elt Ideal) arg1.view (Rect.unit (s := S256x512) ![0, 0] S256x512.size inb_S256x512_S256x512_0_0).toLoadRect (harg1.unread x0)) = tdo x1 x0 x7 x8 := by
  have e : ∀ a b d f, a = x1 → b = x0 → d = x7 → f = x8 → tdo a b d f = tdo x1 x0 x7 x8 := by
    rintro a b d f rfl rfl rfl rfl
    rfl
  exact e _ _ _ _ (Tile.whole_load harg2 x1 _) (Tile.whole_load harg1 x0 _) (Tile.whole_load harg8 x7 _) (Tile.whole_load harg9 x8 _)

theorem mul_eq : mulf (k0_pay14 (kernelRun0_B.sl.r_2 c arg2 harg2 x1) (View.readAt (Elt Ideal) arg8.view (Rect.unit (s := S1x512) ![0, 0] S1x512.size inb_S1x512_S1x512_0_0).toLoadRect (harg8.unread x7)) (View.readAt (Elt Ideal) arg9.view (Rect.unit (s := S1x512) ![0, 0] S1x512.size inb_S1x512_S1x512_0_0).toLoadRect (harg9.unread x8)) (View.readAt (Elt Ideal) arg1.view (Rect.unit (s := S256x512) ![0, 0] S256x512.size inb_S256x512_S256x512_0_0).toLoadRect (harg1.unread x0))) (kernelRun0_B.sl.r_2 c arg2 harg2 x1) = mulf (tdo x1 x0 x7 x8) (tun x1) := by
  have e : ∀ a b d f, a = x1 → b = x0 → d = x7 → f = x8 → mulf (tdo a b d f) (tun a) = mulf (tdo x1 x0 x7 x8) (tun x1) := by
    rintro a b d f rfl rfl rfl rfl
    rfl
  exact e _ _ _ _ (Tile.whole_load harg2 x1 _) (Tile.whole_load harg1 x0 _) (Tile.whole_load harg8 x7 _) (Tile.whole_load harg9 x8 _)

set_option maxHeartbeats 4000000 in
theorem sums {hc0 : ¬cond0_0 i} (j : Fin 40) (k : Fin 512) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xs1 (ix2 j k) = if pos j.val < 34 then xo10 (ix2 j k) + (tadd i x0 x1 x2 x3 x4 x5 x7 x8) j k else xo10 (ix2 j k) := by
  unfold out0_B_10 kernelRun0_B
  refine Tile.rows_step arg11.view _ pos (fun j k => xo10 (ix2 j k)) (tadd i x0 x1 x2 x3 x4 x5 x7 x8) _ 33 30 ?_ (fun j => pos_30 j) _ _ (fun j k hj => (row_sum _ _ _ _ k ((Tile.band_load _ _ 30 1 _ 0 j hj k).trans (congrFun (harg11.read_unread xo10) _)) (fun r => congrArg₂ (· * ·) (congrFun (r7_eq (c := c) (harg1 := harg1) (harg2 := harg2) (harg8 := harg8) (harg9 := harg9)) _) (urow 32 _ (by decide) r k _ (by rw [hj])))).trans (congrArg (_ + ·) (if_pos (by rw [hj]; decide)).symm)) j k
  refine Tile.rows_step arg11.view _ pos (fun j k => xo10 (ix2 j k)) (tadd i x0 x1 x2 x3 x4 x5 x7 x8) _ 32 29 ?_ (fun j => pos_29 j) _ _ (fun j k hj => (row_sum _ _ _ _ k ((Tile.band_load _ _ 29 1 _ 0 j hj k).trans (congrFun (harg11.read_unread xo10) _)) (fun r => congrArg₂ (· * ·) (congrFun (r7_eq (c := c) (harg1 := harg1) (harg2 := harg2) (harg8 := harg8) (harg9 := harg9)) _) (sc3 (ucopy 6 24 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 31 28 ?_ (fun j => pos_28 j) _ _ (fun j k hj => (row_sum _ _ _ _ k ((Tile.band_load _ _ 28 1 _ 0 j hj k).trans (congrFun (harg11.read_unread xo10) _)) (fun r => congrArg₂ (· * ·) (congrFun (r7_eq (c := c) (harg1 := harg1) (harg2 := harg2) (harg8 := harg8) (harg9 := harg9)) _) (sc3 (ucopy 5 24 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 30 27 ?_ (fun j => pos_27 j) _ _ (fun j k hj => (row_sum _ _ _ _ k ((Tile.band_load _ _ 27 1 _ 0 j hj k).trans (congrFun (harg11.read_unread xo10) _)) (fun r => congrArg₂ (· * ·) (congrFun (r7_eq (c := c) (harg1 := harg1) (harg2 := harg2) (harg8 := harg8) (harg9 := harg9)) _) (sc3 (ucopy 4 24 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 29 26 ?_ (fun j => pos_26 j) _ _ (fun j k hj => (row_sum _ _ _ _ k ((Tile.band_load _ _ 26 1 _ 0 j hj k).trans (congrFun (harg11.read_unread xo10) _)) (fun r => congrArg₂ (· * ·) (congrFun (r7_eq (c := c) (harg1 := harg1) (harg2 := harg2) (harg8 := harg8) (harg9 := harg9)) _) (sc3 (ucopy 3 24 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 28 25 ?_ (fun j => pos_25 j) _ _ (fun j k hj => (row_sum _ _ _ _ k ((Tile.band_load _ _ 25 1 _ 0 j hj k).trans (congrFun (harg11.read_unread xo10) _)) (fun r => congrArg₂ (· * ·) (congrFun (r7_eq (c := c) (harg1 := harg1) (harg2 := harg2) (harg8 := harg8) (harg9 := harg9)) _) (sc3 (ucopy 2 24 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 27 24 ?_ (fun j => pos_24 j) _ _ (fun j k hj => (row_sum _ _ _ _ k ((Tile.band_load _ _ 24 1 _ 0 j hj k).trans (congrFun (harg11.read_unread xo10) _)) (fun r => congrArg₂ (· * ·) (congrFun (r7_eq (c := c) (harg1 := harg1) (harg2 := harg2) (harg8 := harg8) (harg9 := harg9)) _) (sc3 (ucopy 1 24 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 26 23 ?_ (fun j => pos_23 j) _ _ (fun j k hj => (row_sum _ _ _ _ k ((Tile.band_load _ _ 23 1 _ 0 j hj k).trans (congrFun (harg11.read_unread xo10) _)) (fun r => congrArg₂ (· * ·) (congrFun (r7_eq (c := c) (harg1 := harg1) (harg2 := harg2) (harg8 := harg8) (harg9 := harg9)) _) (sc3 (ucopy 0 24 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 25 22 ?_ (fun j => pos_22 j) _ _ (fun j k hj => (row_sum _ _ _ _ k ((Tile.band_load _ _ 22 1 _ 0 j hj k).trans (congrFun (harg11.read_unread xo10) _)) (fun r => congrArg₂ (· * ·) (congrFun (r7_eq (c := c) (harg1 := harg1) (harg2 := harg2) (harg8 := harg8) (harg9 := harg9)) _) (urow 24 _ (by decide) r k _ (by rw [hj])))).trans (congrArg (_ + ·) (if_pos (by rw [hj]; decide)).symm))
  refine Tile.rows_step arg11.view _ pos (fun j k => xo10 (ix2 j k)) (tadd i x0 x1 x2 x3 x4 x5 x7 x8) _ 24 21 ?_ (fun j => pos_21 j) _ _ (fun j k hj => (row_sum _ _ _ _ k ((Tile.band_load _ _ 21 1 _ 0 j hj k).trans (congrFun (harg11.read_unread xo10) _)) (fun r => congrArg₂ (· * ·) (congrFun (r7_eq (c := c) (harg1 := harg1) (harg2 := harg2) (harg8 := harg8) (harg9 := harg9)) _) (sc3 (ucopy 6 16 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 23 20 ?_ (fun j => pos_20 j) _ _ (fun j k hj => (row_sum _ _ _ _ k ((Tile.band_load _ _ 20 1 _ 0 j hj k).trans (congrFun (harg11.read_unread xo10) _)) (fun r => congrArg₂ (· * ·) (congrFun (r7_eq (c := c) (harg1 := harg1) (harg2 := harg2) (harg8 := harg8) (harg9 := harg9)) _) (sc3 (ucopy 5 16 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 22 19 ?_ (fun j => pos_19 j) _ _ (fun j k hj => (row_sum _ _ _ _ k ((Tile.band_load _ _ 19 1 _ 0 j hj k).trans (congrFun (harg11.read_unread xo10) _)) (fun r => congrArg₂ (· * ·) (congrFun (r7_eq (c := c) (harg1 := harg1) (harg2 := harg2) (harg8 := harg8) (harg9 := harg9)) _) (sc3 (ucopy 4 16 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 21 18 ?_ (fun j => pos_18 j) _ _ (fun j k hj => (row_sum _ _ _ _ k ((Tile.band_load _ _ 18 1 _ 0 j hj k).trans (congrFun (harg11.read_unread xo10) _)) (fun r => congrArg₂ (· * ·) (congrFun (r7_eq (c := c) (harg1 := harg1) (harg2 := harg2) (harg8 := harg8) (harg9 := harg9)) _) (sc3 (ucopy 3 16 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 20 17 ?_ (fun j => pos_17 j) _ _ (fun j k hj => (row_sum _ _ _ _ k ((Tile.band_load _ _ 17 1 _ 0 j hj k).trans (congrFun (harg11.read_unread xo10) _)) (fun r => congrArg₂ (· * ·) (congrFun (r7_eq (c := c) (harg1 := harg1) (harg2 := harg2) (harg8 := harg8) (harg9 := harg9)) _) (sc3 (ucopy 2 16 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 19 16 ?_ (fun j => pos_16 j) _ _ (fun j k hj => (row_sum _ _ _ _ k ((Tile.band_load _ _ 16 1 _ 0 j hj k).trans (congrFun (harg11.read_unread xo10) _)) (fun r => congrArg₂ (· * ·) (congrFun (r7_eq (c := c) (harg1 := harg1) (harg2 := harg2) (harg8 := harg8) (harg9 := harg9)) _) (sc3 (ucopy 1 16 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 18 15 ?_ (fun j => pos_15 j) _ _ (fun j k hj => (row_sum _ _ _ _ k ((Tile.band_load _ _ 15 1 _ 0 j hj k).trans (congrFun (harg11.read_unread xo10) _)) (fun r => congrArg₂ (· * ·) (congrFun (r7_eq (c := c) (harg1 := harg1) (harg2 := harg2) (harg8 := harg8) (harg9 := harg9)) _) (sc3 (ucopy 0 16 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 17 14 ?_ (fun j => pos_14 j) _ _ (fun j k hj => (row_sum _ _ _ _ k ((Tile.band_load _ _ 14 1 _ 0 j hj k).trans (congrFun (harg11.read_unread xo10) _)) (fun r => congrArg₂ (· * ·) (congrFun (r7_eq (c := c) (harg1 := harg1) (harg2 := harg2) (harg8 := harg8) (harg9 := harg9)) _) (urow 16 _ (by decide) r k _ (by rw [hj])))).trans (congrArg (_ + ·) (if_pos (by rw [hj]; decide)).symm))
  refine Tile.rows_step arg11.view _ pos (fun j k => xo10 (ix2 j k)) (tadd i x0 x1 x2 x3 x4 x5 x7 x8) _ 16 13 ?_ (fun j => pos_13 j) _ _ (fun j k hj => (row_sum _ _ _ _ k ((Tile.band_load _ _ 13 1 _ 0 j hj k).trans (congrFun (harg11.read_unread xo10) _)) (fun r => congrArg₂ (· * ·) (congrFun (r7_eq (c := c) (harg1 := harg1) (harg2 := harg2) (harg8 := harg8) (harg9 := harg9)) _) (sc3 (ucopy 6 8 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 15 12 ?_ (fun j => pos_12 j) _ _ (fun j k hj => (row_sum _ _ _ _ k ((Tile.band_load _ _ 12 1 _ 0 j hj k).trans (congrFun (harg11.read_unread xo10) _)) (fun r => congrArg₂ (· * ·) (congrFun (r7_eq (c := c) (harg1 := harg1) (harg2 := harg2) (harg8 := harg8) (harg9 := harg9)) _) (sc3 (ucopy 5 8 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 14 11 ?_ (fun j => pos_11 j) _ _ (fun j k hj => (row_sum _ _ _ _ k ((Tile.band_load _ _ 11 1 _ 0 j hj k).trans (congrFun (harg11.read_unread xo10) _)) (fun r => congrArg₂ (· * ·) (congrFun (r7_eq (c := c) (harg1 := harg1) (harg2 := harg2) (harg8 := harg8) (harg9 := harg9)) _) (sc3 (ucopy 4 8 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 13 10 ?_ (fun j => pos_10 j) _ _ (fun j k hj => (row_sum _ _ _ _ k ((Tile.band_load _ _ 10 1 _ 0 j hj k).trans (congrFun (harg11.read_unread xo10) _)) (fun r => congrArg₂ (· * ·) (congrFun (r7_eq (c := c) (harg1 := harg1) (harg2 := harg2) (harg8 := harg8) (harg9 := harg9)) _) (sc3 (ucopy 3 8 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 12 9 ?_ (fun j => pos_9 j) _ _ (fun j k hj => (row_sum _ _ _ _ k ((Tile.band_load _ _ 9 1 _ 0 j hj k).trans (congrFun (harg11.read_unread xo10) _)) (fun r => congrArg₂ (· * ·) (congrFun (r7_eq (c := c) (harg1 := harg1) (harg2 := harg2) (harg8 := harg8) (harg9 := harg9)) _) (sc3 (ucopy 2 8 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 11 8 ?_ (fun j => pos_8 j) _ _ (fun j k hj => (row_sum _ _ _ _ k ((Tile.band_load _ _ 8 1 _ 0 j hj k).trans (congrFun (harg11.read_unread xo10) _)) (fun r => congrArg₂ (· * ·) (congrFun (r7_eq (c := c) (harg1 := harg1) (harg2 := harg2) (harg8 := harg8) (harg9 := harg9)) _) (sc3 (ucopy 1 8 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 10 7 ?_ (fun j => pos_7 j) _ _ (fun j k hj => (row_sum _ _ _ _ k ((Tile.band_load _ _ 7 1 _ 0 j hj k).trans (congrFun (harg11.read_unread xo10) _)) (fun r => congrArg₂ (· * ·) (congrFun (r7_eq (c := c) (harg1 := harg1) (harg2 := harg2) (harg8 := harg8) (harg9 := harg9)) _) (sc3 (ucopy 0 8 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 9 6 ?_ (fun j => pos_6 j) _ _ (fun j k hj => (row_sum _ _ _ _ k ((Tile.band_load _ _ 6 1 _ 0 j hj k).trans (congrFun (harg11.read_unread xo10) _)) (fun r => congrArg₂ (· * ·) (congrFun (r7_eq (c := c) (harg1 := harg1) (harg2 := harg2) (harg8 := harg8) (harg9 := harg9)) _) (urow 8 _ (by decide) r k _ (by rw [hj])))).trans (congrArg (_ + ·) (if_pos (by rw [hj]; decide)).symm))
  refine Tile.rows_step arg11.view _ pos (fun j k => xo10 (ix2 j k)) (tadd i x0 x1 x2 x3 x4 x5 x7 x8) _ 8 5 ?_ (fun j => pos_5 j) _ _ (fun j k hj => (row_sum _ _ _ _ k ((Tile.band_load _ _ 5 1 _ 0 j hj k).trans (congrFun (harg11.read_unread xo10) _)) (fun r => congrArg₂ (· * ·) (congrFun (r7_eq (c := c) (harg1 := harg1) (harg2 := harg2) (harg8 := harg8) (harg9 := harg9)) _) (sc3 (ucopy 6 0 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 7 4 ?_ (fun j => pos_4 j) _ _ (fun j k hj => (row_sum _ _ _ _ k ((Tile.band_load _ _ 4 1 _ 0 j hj k).trans (congrFun (harg11.read_unread xo10) _)) (fun r => congrArg₂ (· * ·) (congrFun (r7_eq (c := c) (harg1 := harg1) (harg2 := harg2) (harg8 := harg8) (harg9 := harg9)) _) (sc3 (ucopy 5 0 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 6 3 ?_ (fun j => pos_3 j) _ _ (fun j k hj => (row_sum _ _ _ _ k ((Tile.band_load _ _ 3 1 _ 0 j hj k).trans (congrFun (harg11.read_unread xo10) _)) (fun r => congrArg₂ (· * ·) (congrFun (r7_eq (c := c) (harg1 := harg1) (harg2 := harg2) (harg8 := harg8) (harg9 := harg9)) _) (sc3 (ucopy 4 0 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 5 2 ?_ (fun j => pos_2 j) _ _ (fun j k hj => (row_sum _ _ _ _ k ((Tile.band_load _ _ 2 1 _ 0 j hj k).trans (congrFun (harg11.read_unread xo10) _)) (fun r => congrArg₂ (· * ·) (congrFun (r7_eq (c := c) (harg1 := harg1) (harg2 := harg2) (harg8 := harg8) (harg9 := harg9)) _) (sc3 (ucopy 3 0 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 4 1 ?_ (fun j => pos_1 j) _ _ (fun j k hj => (row_sum _ _ _ _ k ((Tile.band_load _ _ 1 1 _ 0 j hj k).trans (congrFun (harg11.read_unread xo10) _)) (fun r => congrArg₂ (· * ·) (congrFun (r7_eq (c := c) (harg1 := harg1) (harg2 := harg2) (harg8 := harg8) (harg9 := harg9)) _) (sc3 (ucopy 2 0 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 3 0 ?_ (fun j => pos_0 j) _ _ (fun j k hj => (row_sum _ _ _ _ k ((Tile.band_load _ _ 0 1 _ 0 j hj k).trans (congrFun (harg11.read_unread xo10) _)) (fun r => congrArg₂ (· * ·) (congrFun (r7_eq (c := c) (harg1 := harg1) (harg2 := harg2) (harg8 := harg8) (harg9 := harg9)) _) (sc3 (ucopy 1 0 _ (by decide) (by decide) r k _ (by rw [hj]))))).trans (congrArg (_ + ·) (if_pos (by rw [hj]; decide)).symm))
  refine Tile.rows_step arg11.view _ pos (fun j k => xo10 (ix2 j k)) (tadd i x0 x1 x2 x3 x4 x5 x7 x8) _ 2 31 ?_ (fun j => pos_31 j) _ _ (fun j k hj => (row_sum _ _ _ _ k ((Tile.band_load _ _ 31 1 _ 0 j hj k).trans (congrFun (harg11.read_unread xo10) _)) (fun r => congrFun (r7_eq (c := c) (harg1 := harg1) (harg2 := harg2) (harg8 := harg8) (harg9 := harg9)) _)).trans (congrArg (_ + ·) ((if_neg (by rw [hj]; decide)).trans (if_pos hj)).symm))
  refine Tile.rows_step arg11.view _ pos (fun j k => xo10 (ix2 j k)) (tadd i x0 x1 x2 x3 x4 x5 x7 x8) _ 1 32 ?_ (fun j => pos_32 j) _ _ (fun j k hj => (row_sum _ _ _ _ k ((Tile.band_load _ _ 32 1 _ 0 j hj k).trans (congrFun (harg11.read_unread xo10) _)) (fun r => congrFun mul_eq _)).trans (congrArg (_ + ·) ((if_neg (by rw [hj]; decide)).trans ((if_neg (by rw [hj]; decide)).trans (if_pos hj))).symm))
  refine Tile.rows_step arg11.view _ pos (fun j k => xo10 (ix2 j k)) (tadd i x0 x1 x2 x3 x4 x5 x7 x8) _ 0 33 ?_ (fun j => pos_33 j) _ _ (fun j k hj => (row_sum _ _ _ _ k ((Tile.band_load _ _ 33 1 _ 0 j hj k).trans (congrFun (harg11.read_unread xo10) _)) (fun r => congrFun do_eq _)).trans (congrArg (_ + ·) ((if_neg (by rw [hj]; decide)).trans ((if_neg (by rw [hj]; decide)).trans (if_neg (by rw [hj]; decide)))).symm))
  intro j k
  rw [if_neg (Nat.not_lt_zero _)]
  exact congrFun (harg11.read_unread xo10) _

end Cert.ConfIdeal.Val.Later

end
-- ==== Proof.ConfIn.lean ====
/- The backward call of the convolution block, the kernel's inputs: what its host lines put into the arrays the kernel reads, and what
   the kernel's windows show of them at each grid point. Hand-written. -/
module

public import proofs.«01_k».proof.Proof.Gen.ConfIdeal.Value
public import proofs.«01_k».proof.Proof.Tile
public import Idealize.ShloMosaic.Lib.Pointwise
public import Idealize.ShloMosaic.Lib.KernelVsHost
public import Idealize.ShloMosaic.Lib.StableHlo.RunRead

@[expose] public section

set_option maxRecDepth 16384

noncomputable section

namespace Cert.ConfIdeal.Val

open Idealize.ShloMosaic Idealize.ShloMosaic.TcCoe Idealize.SL.Sem Cert.ConfIdeal Cert.ConfIdeal.Gen

variable (m : (ℓ : Loc nD τ sig) → Buf (Elt Ideal) ℓ) (c : Dev nD)

/-! ## The arguments -/

/-- The value and its gate. -/
def a (s : Fin 2048) (k : Fin 512) : EReal := m ((c : Thread nD τ).loc main_arg0) (ix3 (0 : Fin 1) s ⟨k.val, by omega⟩)
def g (s : Fin 2048) (k : Fin 512) : EReal := m ((c : Thread nD τ).loc main_arg0) (ix3 (0 : Fin 1) s ⟨512 + k.val, by omega⟩)
/-- The convolution's weight and bias, and the group norm's. -/
def w (j : Fin 31) (k : Fin 512) : EReal := m ((c : Thread nD τ).loc main_arg1) (ix3 (0 : Fin 1) j k)
def cb (k : Fin 512) : EReal := m ((c : Thread nD τ).loc main_arg2) (ix2 (0 : Fin 1) k)
def gw (k : Fin 512) : EReal := m ((c : Thread nD τ).loc main_arg3) (ix2 (0 : Fin 1) k)
def gb (k : Fin 512) : EReal := m ((c : Thread nD τ).loc main_arg4) (ix2 (0 : Fin 1) k)
/-- The gradient that arrives. -/
def d (s : Fin 2048) (k : Fin 512) : EReal := m ((c : Thread nD τ).loc main_arg5) (ix3 (0 : Fin 1) s k)
/-- The gate's smooth step, the gated value, and the same below thirty rows of zeros. -/
def sg (s : Fin 2048) (k : Fin 512) : EReal := Ideal.logistic (g m c s k)
def u (s : Fin 2048) (k : Fin 512) : EReal := a m c s k * sg m c s k
def up (i : ℕ) (k : Fin 512) : EReal := if h : 30 ≤ i ∧ i - 30 < 2048 then u m c ⟨i - 30, h.2⟩ k else 0
/-- The convolution. -/
def y (s : Fin 2048) (k : Fin 512) : EReal := (∑ j : Fin 31, up m c (j.val + s.val) k * w m c j k) + cb m c k

/-! ## The host lines -/

theorem V_d (s : Fin 2048) (k : Fin 512) : V m c main_v235 (ix2 s k) = d m c s k := by
  unfold V hostOps0 hostOps0_1 hostOps0_2
  after_reads_simp
  pointwise
  rfl

theorem V_w (j : Fin 31) (k : Fin 512) : V m c main_v237 (ix2 j k) = w m c j k := by
  unfold V hostOps0 hostOps0_1 hostOps0_2
  after_reads_simp
  pointwise
  rfl

theorem V_p (s : Fin 2048) (k : Fin 3072) : V m c main_v1 (ix2 s k) = m ((c : Thread nD τ).loc main_arg0) (ix3 (0 : Fin 1) s ⟨k.val, by omega⟩) := by
  unfold V hostOps0 hostOps0_1 hostOps0_2
  after_reads_simp
  pointwise

/-- The padded value as the host line writes it: below the zeros, the integer zero converted. -/
def upv (i : ℕ) (k : Fin 512) : EReal :=
  if h : 30 ≤ i ∧ i - 30 < 2048 then u m c ⟨i - 30, h.2⟩ k else FloatOps.sitofp (F := Ideal) FTy.f32 0#32

theorem upv_eq (i : ℕ) (k : Fin 512) : upv m c i k = up m c i k := by
  have e : (FloatOps.sitofp (F := Ideal) FTy.f32 (0#32) : EReal) = 0 := by
    show (((0#32 : BitVec 32).toInt : ℝ) : EReal) = 0
    simp
  unfold upv up
  rw [e]

/-- A sum of thirty-one terms, written out. -/
theorem taps (f : Fin 31 → EReal) : ∑ j : Fin 31, f j = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Finset.univ_eq_empty, Finset.sum_empty, zero_add]
  rfl

set_option maxHeartbeats 4000000 in
theorem V_y (s : Fin 2048) (k : Fin 512) : V m c main_v236 (ix2 s k) = y m c s k := by
  unfold V hostOps0 hostOps0_1 hostOps0_2
  after_reads_simp
  simp only [StableHlo.TRef.toBuf, StableHlo.TRef.ofBuf, cast_eq]
  pointwise
  show ((upv m c s.val k * w m c 0 k + upv m c (1 + s.val) k * w m c 1 k + upv m c (2 + s.val) k * w m c 2 k + upv m c (3 + s.val) k * w m c 3 k + upv m c (4 + s.val) k * w m c 4 k + upv m c (5 + s.val) k * w m c 5 k + upv m c (6 + s.val) k * w m c 6 k + upv m c (7 + s.val) k * w m c 7 k + upv m c (8 + s.val) k * w m c 8 k + upv m c (9 + s.val) k * w m c 9 k + upv m c (10 + s.val) k * w m c 10 k + upv m c (11 + s.val) k * w m c 11 k + upv m c (12 + s.val) k * w m c 12 k + upv m c (13 + s.val) k * w m c 13 k + upv m c (14 + s.val) k * w m c 14 k + upv m c (15 + s.val) k * w m c 15 k + upv m c (16 + s.val) k * w m c 16 k + upv m c (17 + s.val) k * w m c 17 k + upv m c (18 + s.val) k * w m c 18 k + upv m c (19 + s.val) k * w m c 19 k + upv m c (20 + s.val) k * w m c 20 k + upv m c (21 + s.val) k * w m c 21 k + upv m c (22 + s.val) k * w m c 22 k + upv m c (23 + s.val) k * w m c 23 k + upv m c (24 + s.val) k * w m c 24 k + upv m c (25 + s.val) k * w m c 25 k + upv m c (26 + s.val) k * w m c 26 k + upv m c (27 + s.val) k * w m c 27 k + upv m c (28 + s.val) k * w m c 28 k + upv m c (29 + s.val) k * w m c 29 k + u m c s k * w m c 30 k) + cb m c k : EReal) = _
  have e0 : upv m c s.val k = up m c (0 + s.val) k := by rw [Nat.zero_add]; exact upv_eq m c _ k
  have e30 : u m c s k = up m c (30 + s.val) k := by
    have h : 30 ≤ 30 + s.val ∧ 30 + s.val - 30 < 2048 := by omega
    unfold up
    rw [dif_pos h]
    exact congrArg (fun z => u m c z k) (Fin.ext (by show s.val = 30 + s.val - 30; omega))
  rw [e0, e30]
  simp only [upv_eq]
  exact congrArg (· + cb m c k) (taps fun j => up m c (j.val + s.val) k * w m c j k).symm

/-! ## The windows -/

theorem lt_rows (t : Fin cfg0.N) (r : Fin 256) : 256 * (7 - t.val) + r.val < 2048 := by omega

/-- The row of the array that row `r` of the tile taken at point `t` is: the tiles are taken from the last to the first. -/
abbrev row (t : Fin cfg0.N) (r : Fin 256) : Fin 2048 := ⟨256 * (7 - t.val) + r.val, lt_rows t r⟩

theorem idx0 : ∀ t : Fin cfg0.N, win0_0.index t 0 = 7 - t.val ∧ win0_0.index t 1 = 0 := (by decide +kernel : ∀ t : Fin grid0.N, _)
theorem idx1 : ∀ t : Fin cfg0.N, win0_1.index t 0 = 7 - t.val ∧ win0_1.index t 1 = 0 := (by decide +kernel : ∀ t : Fin grid0.N, _)
theorem idx2 : ∀ t : Fin cfg0.N, win0_2.index t 0 = 7 - t.val ∧ win0_2.index t 1 = 0 := (by decide +kernel : ∀ t : Fin grid0.N, _)
theorem idx3 : ∀ t : Fin cfg0.N, win0_3.index t 0 = 7 - t.val ∧ win0_3.index t 1 = 1 := (by decide +kernel : ∀ t : Fin grid0.N, _)
theorem idx4 : ∀ t : Fin cfg0.N, win0_4.index t 0 = (7 - t.val) * 8 - 1 ∧ win0_4.index t 1 = 0 := (by decide +kernel : ∀ t : Fin grid0.N, _)
theorem idx5 : ∀ t : Fin cfg0.N, win0_5.index t 0 = (7 - t.val) * 8 - 1 ∧ win0_5.index t 1 = 1 := (by decide +kernel : ∀ t : Fin grid0.N, _)
theorem idx6 : ∀ t : Fin cfg0.N, win0_6.index t 0 = 0 ∧ win0_6.index t 1 = 0 := (by decide +kernel : ∀ t : Fin grid0.N, _)
theorem idx7 : ∀ t : Fin cfg0.N, win0_7.index t 0 = 0 ∧ win0_7.index t 1 = 0 := (by decide +kernel : ∀ t : Fin grid0.N, _)
theorem idx8 : ∀ t : Fin cfg0.N, win0_8.index t 0 = 0 ∧ win0_8.index t 1 = 0 := (by decide +kernel : ∀ t : Fin grid0.N, _)
theorem idx9 : ∀ t : Fin cfg0.N, win0_9.index t 0 = 7 - t.val ∧ win0_9.index t 1 = 0 := (by decide +kernel : ∀ t : Fin grid0.N, _)
theorem idx10 : ∀ t : Fin cfg0.N, win0_10.index t 0 = 0 ∧ win0_10.index t 1 = 0 := (by decide +kernel : ∀ t : Fin grid0.N, _)

theorem blk_d (t : Fin cfg0.N) (r : Fin 256) (k : Fin 512) : (iblk m c 0 t : Vec Ideal S256x512 .f32) (ix2 r k) = d m c (row t r) k :=
  (congrArg (V m c main_v235) (Tile.ix2_of _ (row t r) k (Tile.tile_coord 256 r.val (idx0 t).1)
    (Tile.whole_coord 512 k.val (idx0 t).2))).trans (V_d m c (row t r) k)

theorem blk_y (t : Fin cfg0.N) (r : Fin 256) (k : Fin 512) : (iblk m c 1 t : Vec Ideal S256x512 .f32) (ix2 r k) = y m c (row t r) k :=
  (congrArg (V m c main_v236) (Tile.ix2_of _ (row t r) k (Tile.tile_coord 256 r.val (idx1 t).1)
    (Tile.whole_coord 512 k.val (idx1 t).2))).trans (V_y m c (row t r) k)

theorem blk_a (t : Fin cfg0.N) (r : Fin 256) (k : Fin 512) : (iblk m c 2 t : Vec Ideal S256x512 .f32) (ix2 r k) = a m c (row t r) k :=
  (congrArg (V m c main_v1) (Tile.ix2_of _ (row t r) ⟨k.val, by omega⟩ (Tile.tile_coord 256 r.val (idx2 t).1)
    (Tile.whole_coord 512 k.val (idx2 t).2))).trans (V_p m c (row t r) _)

theorem blk_g (t : Fin cfg0.N) (r : Fin 256) (k : Fin 512) : (iblk m c 3 t : Vec Ideal S256x512 .f32) (ix2 r k) = g m c (row t r) k :=
  (congrArg (V m c main_v1) (Tile.ix2_of _ (row t r) ⟨512 + k.val, by omega⟩ (Tile.tile_coord 256 r.val (idx3 t).1)
    (Tile.tile_coord 512 k.val (idx3 t).2))).trans (V_p m c (row t r) _)

/-- The thirty-two rows before the tile. -/
theorem lt_halo (t : Fin cfg0.N) (r : Fin 32) : 32 * ((7 - t.val) * 8 - 1) + r.val < 2048 := by omega

theorem blk_ha (t : Fin cfg0.N) (r : Fin 32) (k : Fin 512) :
    (iblk m c 4 t : Vec Ideal S32x512 .f32) (ix2 r k) = a m c ⟨32 * ((7 - t.val) * 8 - 1) + r.val, lt_halo t r⟩ k :=
  (congrArg (V m c main_v1) (Tile.ix2_of _ (⟨32 * ((7 - t.val) * 8 - 1) + r.val, lt_halo t r⟩ : Fin 2048) ⟨k.val, by omega⟩ (Tile.tile_coord 32 r.val (idx4 t).1)
    (Tile.whole_coord 512 k.val (idx4 t).2))).trans (V_p m c _ _)

theorem blk_hg (t : Fin cfg0.N) (r : Fin 32) (k : Fin 512) :
    (iblk m c 5 t : Vec Ideal S32x512 .f32) (ix2 r k) = g m c ⟨32 * ((7 - t.val) * 8 - 1) + r.val, lt_halo t r⟩ k :=
  (congrArg (V m c main_v1) (Tile.ix2_of _ (⟨32 * ((7 - t.val) * 8 - 1) + r.val, lt_halo t r⟩ : Fin 2048) ⟨512 + k.val, by omega⟩ (Tile.tile_coord 32 r.val (idx5 t).1)
    (Tile.tile_coord 512 k.val (idx5 t).2))).trans (V_p m c _ _)

theorem blk_w (t : Fin cfg0.N) (j : Fin 31) (k : Fin 512) : (iblk m c 6 t : Vec Ideal S31x512 .f32) (ix2 j k) = w m c j k :=
  (congrArg (V m c main_v237) (Tile.ix2_of _ j k (Tile.whole_coord 31 j.val (idx6 t).1)
    (Tile.whole_coord 512 k.val (idx6 t).2))).trans (V_w m c j k)

theorem blk_gw (t : Fin cfg0.N) (k : Fin 512) : (iblk m c 7 t : Vec Ideal S1x512 .f32) (ix2 0 k) = gw m c k :=
  (congrArg (V m c main_arg3) (Tile.ix2_of _ (0 : Fin 1) k (Tile.whole_coord 1 0 (idx7 t).1)
    (Tile.whole_coord 512 k.val (idx7 t).2))).trans (congrFun (V_main_arg3 m c) _)

theorem blk_gb (t : Fin cfg0.N) (k : Fin 512) : (iblk m c 8 t : Vec Ideal S1x512 .f32) (ix2 0 k) = gb m c k :=
  (congrArg (V m c main_arg4) (Tile.ix2_of _ (0 : Fin 1) k (Tile.whole_coord 1 0 (idx8 t).1)
    (Tile.whole_coord 512 k.val (idx8 t).2))).trans (congrFun (V_main_arg4 m c) _)

end Cert.ConfIdeal.Val

end

end
-- ==== Proof.ConfVal.lean ====
/- The backward call of the convolution block, the kernel's values: what each grid point leaves. The tiles are taken from the last to
   the first, so the thirty-two rows after a tile are those the point before kept. Hand-written. -/
module

public import proofs.«01_k».proof.Proof.ConfFirst
public import proofs.«01_k».proof.Proof.ConfLater
public import proofs.«01_k».proof.Proof.ConfIn

@[expose] public section

set_option maxRecDepth 16384

noncomputable section

namespace Cert.ConfIdeal.Val

open Idealize.ShloMosaic.TcCoe Idealize.SL.Sem Cert.ConfIdeal Cert.ConfIdeal.Gen Cert.Tile
open Idealize.ShloMosaic hiding ix1 ix2 ix3 eq_ix2
open Idealize.ShloMosaic.ValueIdx (ix1 ix2 ix3 eq_ix2)

variable (m : (ℓ : Loc nD τ sig) → Buf (Elt Ideal) ℓ) (c : Dev nD)

/-! ## The values -/

/-- The gradient of the convolution's result, below its last row zero; the normed row and the gradient of its scaled row. -/
def dy (s : Fin 2048) (k : Fin 512) : EReal := gdy (y m c s) (d m c s) (gw m c) (gb m c) k
def dyp (n : ℕ) (k : Fin 512) : EReal := if h : n < 2048 then dy m c ⟨n, h⟩ k else 0
def nrm (s : Fin 2048) (k : Fin 512) : EReal := gun (y m c s) k
def dout (s : Fin 2048) (k : Fin 512) : EReal := gdo (y m c s) (d m c s) (gw m c) (gb m c) k
/-- The gradient of the gated value. -/
def du (s : Fin 2048) (k : Fin 512) : EReal := ∑ j : Fin 31, w m c j k * dyp m c (30 - j.val + s.val) k
/-- What row `s` adds to row `j` of the sums. -/
def part40 (j : Fin 40) (s : Fin 2048) (k : Fin 512) : EReal :=
  if j.val < 31 then dy m c s k * up m c (j.val + s.val) k
  else if j.val = 31 then dy m c s k
  else if j.val = 32 then dout m c s k * nrm m c s k
  else if j.val = 33 then dout m c s k else 0

/-- What the values at the grid points need to be real. -/
structure Real' : Prop where
  y : ∀ s k, IsReal (y m c s k)
  d : ∀ s k, IsReal (d m c s k)
  gw : ∀ k, IsReal (gw m c k)

variable (R : Real' m c)

/-! ## The tile's rows -/

theorem coord : ∀ t : Fin cfg0.N, (grid0.coords t 0).val = t.val := (by decide +kernel : ∀ t : Fin grid0.N, _)

theorem row_y (t : Fin cfg0.N) (r : Fin 256) : rowOf r (iblk m c 1 t) = y m c (row t r) := funext fun j => blk_y m c t r j
theorem row_d (t : Fin cfg0.N) (r : Fin 256) : rowOf r (iblk m c 0 t) = d m c (row t r) := funext fun j => blk_d m c t r j
theorem one_gw (t : Fin cfg0.N) : one (iblk m c 7 t) = gw m c := funext fun j => blk_gw m c t j
theorem one_gb (t : Fin cfg0.N) : one (iblk m c 8 t) = gb m c := funext fun j => blk_gb m c t j

include R

theorem real_y (t : Fin cfg0.N) (r : Fin 256) (j : Fin 512) : IsReal ((iblk m c 1 t : Vec Ideal S256x512 .f32) (ix2 r j)) :=
  (blk_y m c t r j).symm ▸ R.y _ _
theorem real_d (t : Fin cfg0.N) (r : Fin 256) (j : Fin 512) : IsReal ((iblk m c 0 t : Vec Ideal S256x512 .f32) (ix2 r j)) :=
  (blk_d m c t r j).symm ▸ R.d _ _
theorem real_gw (t : Fin cfg0.N) (j : Fin 512) : IsReal ((iblk m c 7 t : Vec Ideal S1x512 .f32) (ix2 0 j)) :=
  (blk_gw m c t j).symm ▸ R.gw _

theorem tile_dy (t : Fin cfg0.N) (r : Fin 256) (k : Fin 512) :
    tdy (iblk m c 1 t) (iblk m c 0 t) (iblk m c 7 t) (iblk m c 8 t) (ix2 r k) = dy m c (row t r) k := by
  refine (tdy_at _ _ _ _ r (real_y m c R t r) (real_d m c R t r) (real_gw m c R t) k).trans ?_
  rw [row_y, row_d, one_gw, one_gb]
  rfl

theorem tile_nrm (t : Fin cfg0.N) (r : Fin 256) (k : Fin 512) : tun (iblk m c 1 t) (ix2 r k) = nrm m c (row t r) k := by
  refine (tun_at _ r (real_y m c R t r) k).trans ?_
  rw [row_y]
  rfl

theorem tile_dout (t : Fin cfg0.N) (r : Fin 256) (k : Fin 512) :
    tdo (iblk m c 1 t) (iblk m c 0 t) (iblk m c 7 t) (iblk m c 8 t) (ix2 r k) = dout m c (row t r) k := by
  refine (tdo_at _ _ _ _ r (real_y m c R t r) k).trans ?_
  rw [row_y, row_d, one_gw, one_gb]
  rfl

omit R

theorem up_of (n : ℕ) (s : Fin 2048) (k : Fin 512) (h : n = s.val + 30) : up m c n k = u m c s k := by
  unfold up
  have hs : s.val < 2048 := s.isLt
  rw [dif_pos ⟨by omega, by omega⟩]
  exact congrArg (fun z => u m c z k) (Fin.ext (by show n - 30 = s.val; omega))

/-- The buffer of the gated rows holds rows of the gated value. -/
theorem tile_ub (t : Fin cfg0.N) (n : ℕ) (hn : 2 ≤ n) (hN : n < 288) (k : Fin 512) (e : ℕ) (he : e + 2 = 256 * (7 - t.val) + n) :
    ub (grid0.coords t) (iblk m c 2 t) (iblk m c 3 t) (iblk m c 4 t) (iblk m c 5 t) n k = up m c e k := by
  have ht : t.val < 8 := t.isLt
  unfold ub
  by_cases h : n < 32
  · rw [dif_pos h, coord]
    by_cases h7 : t.val = 7
    · rw [if_pos h7]
      unfold up
      rw [dif_neg (by omega)]
    · rw [if_neg h7]
      refine Eq.trans ?_ (up_of m c e ⟨32 * ((7 - t.val) * 8 - 1) + n, by omega⟩ k (by show e = 32 * ((7 - t.val) * 8 - 1) + n + 30; omega)).symm
      exact congrArg₂ (· * ·) (blk_ha m c t ⟨n, h⟩ k) (congrArg Ideal.logistic (blk_hg m c t ⟨n, h⟩ k))
  · have h' : n - 32 < 256 := by omega
    rw [dif_neg h, dif_pos h']
    refine Eq.trans ?_ (up_of m c e (row t ⟨n - 32, h'⟩) k (by show e = 256 * (7 - t.val) + (n - 32) + 30; omega)).symm
    exact congrArg₂ (· * ·) (blk_a m c t ⟨n - 32, h'⟩ k) (congrArg Ideal.logistic (blk_g m c t ⟨n - 32, h'⟩ k))

theorem tile_wf (t : Fin cfg0.N) (j : Fin 31) (k : Fin 512) : wf (iblk m c 6 t) j.val k = w m c j k := by
  unfold wf
  rw [dif_pos j.isLt]
  exact blk_w m c t j k

/-! ## What the points leave -/

abbrev prev (t : Fin cfg0.N) := outsAt0 m c (t.val - 1) (Nat.lt_of_le_of_lt (Nat.sub_le _ _) t.isLt)

theorem dyp_of (n : ℕ) (s : Fin 2048) (k : Fin 512) (h : n = s.val) : dyp m c n k = dy m c s k := by
  subst h
  unfold dyp
  rw [dif_pos s.isLt]

include R

/-- The thirty-two rows kept for the next tile are this tile's first. -/
theorem kept (t : Fin cfg0.N) (q : Fin 32) (k : Fin 512) :
    (outsAt0 m c t.val t.isLt).2.2 (ix2 (⟨256 + q.val, by omega⟩ : Fin 288) k) = dy m c (row t ⟨q.val, by omega⟩) k := by
  have e : ∀ z, db (tdy (iblk m c 1 t) (iblk m c 0 t) (iblk m c 7 t) (iblk m c 8 t)) z q.val k = dy m c (row t ⟨q.val, by omega⟩) k := fun z => by
    unfold db
    rw [dif_pos (by omega)]
    exact tile_dy m c R t _ k
  by_cases h0 : t.val % 8 = 0
  · rw [outsAt0_A m c t h0]
    dsimp only
    refine (First.keep_at q k).trans ?_
    exact e _
  · rw [outsAt0_B m c t h0]
    dsimp only
    refine (Later.keep_at q k).trans ?_
    exact e _

theorem tile_db_first (t : Fin cfg0.N) (h0 : t.val % 8 = 0) (n : ℕ) (hn : n < 288) (k : Fin 512) :
    db (tdy (iblk m c 1 t) (iblk m c 0 t) (iblk m c 7 t) (iblk m c 8 t)) (fun _ => 0) n k = dyp m c (256 * (7 - t.val) + n) k := by
  have ht : t.val < 8 := t.isLt
  unfold db
  by_cases h : n < 256
  · rw [dif_pos h]
    exact (tile_dy m c R t ⟨n, h⟩ k).trans (dyp_of m c _ (row t ⟨n, h⟩) k rfl).symm
  · rw [dif_neg h, dif_pos hn]
    unfold dyp
    rw [dif_neg (by omega)]

theorem tile_db_later (t : Fin cfg0.N) (h0 : ¬ t.val % 8 = 0) (n : ℕ) (hn : n < 288) (k : Fin 512) :
    db (tdy (iblk m c 1 t) (iblk m c 0 t) (iblk m c 7 t) (iblk m c 8 t)) (prev m c t).2.2 n k = dyp m c (256 * (7 - t.val) + n) k := by
  have ht : t.val < 8 := t.isLt
  unfold db
  by_cases h : n < 256
  · rw [dif_pos h]
    exact (tile_dy m c R t ⟨n, h⟩ k).trans (dyp_of m c _ (row t ⟨n, h⟩) k rfl).symm
  · rw [dif_neg h, dif_pos hn]
    have e : (⟨n, hn⟩ : Fin 288) = ⟨256 + (n - 256), by omega⟩ := Fin.ext (by show n = 256 + (n - 256); omega)
    rw [e]
    refine (kept m c R ⟨t.val - 1, Nat.lt_of_le_of_lt (Nat.sub_le _ _) t.isLt⟩ ⟨n - 256, by omega⟩ k).trans ?_
    exact (dyp_of m c _ _ k (by show 256 * (7 - t.val) + n = 256 * (7 - (t.val - 1)) + (n - 256); omega)).symm

theorem tile_du (t : Fin cfg0.N) (z : FVec Ideal S288x512 .f32) (r : Fin 256) (k : Fin 512)
    (hz : ∀ n, n < 288 → db (tdy (iblk m c 1 t) (iblk m c 0 t) (iblk m c 7 t) (iblk m c 8 t)) z n k = dyp m c (256 * (7 - t.val) + n) k) :
    dpart (fun j => wf (iblk m c 6 t) j k * db (tdy (iblk m c 1 t) (iblk m c 0 t) (iblk m c 7 t) (iblk m c 8 t)) z (30 - j + r.val) k) 31
      = du m c (row t r) k := by
  rw [dpart_eq]
  refine Finset.sum_congr rfl fun j _ => congrArg₂ (· * ·) (tile_wf m c t j k) ((hz _ (by omega)).trans ?_)
  exact congrArg (fun n => dyp m c n k) (by show 256 * (7 - t.val) + (30 - j.val + r.val) = 30 - j.val + (256 * (7 - t.val) + r.val); omega)

theorem left_at (t : Fin cfg0.N) (r : Fin 256) (k : Fin 512) :
    (outsAt0 m c t.val t.isLt).1 (ix2 r (⟨k.val, by omega⟩ : Fin 1024)) = du m c (row t r) k * sg m c (row t r) k := by
  have hs : Ideal.logistic ((iblk m c 3 t : Vec Ideal S256x512 .f32) (ix2 r k)) = sg m c (row t r) k := congrArg Ideal.logistic (blk_g m c t r k)
  by_cases h0 : t.val % 8 = 0
  · rw [outsAt0_A m c t h0]
    dsimp only
    refine (First.out_left r k).trans ?_
    exact congrArg₂ (· * ·) (tile_du m c R t _ r k fun n hn => tile_db_first m c R t h0 n hn k) hs
  · rw [outsAt0_B m c t h0]
    dsimp only
    refine (Later.out_left r k).trans ?_
    exact congrArg₂ (· * ·) (tile_du m c R t _ r k fun n hn => tile_db_later m c R t h0 n hn k) hs

theorem right_at (t : Fin cfg0.N) (r : Fin 256) (k : Fin 512) :
    (outsAt0 m c t.val t.isLt).1 (ix2 r (⟨512 + k.val, by omega⟩ : Fin 1024))
      = ((du m c (row t r) k * a m c (row t r) k) * sg m c (row t r) k) * (1 - sg m c (row t r) k) := by
  have hs : Ideal.logistic ((iblk m c 3 t : Vec Ideal S256x512 .f32) (ix2 r k)) = sg m c (row t r) k := congrArg Ideal.logistic (blk_g m c t r k)
  have ha : (iblk m c 2 t : Vec Ideal S256x512 .f32) (ix2 r k) = a m c (row t r) k := blk_a m c t r k
  by_cases h0 : t.val % 8 = 0
  · rw [outsAt0_A m c t h0]
    dsimp only
    refine (First.out_right r k).trans ?_
    rw [hs, ha, tile_du m c R t _ r k fun n hn => tile_db_first m c R t h0 n hn k]
  · rw [outsAt0_B m c t h0]
    dsimp only
    refine (Later.out_right r k).trans ?_
    rw [hs, ha]
    exact congrArg₂ (· * ·) (congrArg₂ (· * ·) (congrArg₂ (· * ·) (tile_du m c R t _ r k fun n hn => tile_db_later m c R t h0 n hn k) rfl) rfl) rfl

/-! ## The rows of sums -/

theorem tile_add (t : Fin cfg0.N) (j : Fin 40) (k : Fin 512) :
    (if pos j.val < 34 then tadd (grid0.coords t) (iblk m c 0 t) (iblk m c 1 t) (iblk m c 2 t) (iblk m c 3 t) (iblk m c 4 t) (iblk m c 5 t)
      (iblk m c 7 t) (iblk m c 8 t) j k else 0) = ∑ r : Fin 256, part40 m c j (row t r) k := by
  have hp : ∀ j : Fin 40, pos j.val < 34 ↔ j.val < 34 := by decide
  have hj : j.val < 40 := j.isLt
  unfold tadd part40
  by_cases h1 : j.val < 31
  · rw [if_pos ((hp j).2 (by omega)), if_pos h1]
    refine Finset.sum_congr rfl fun r _ => ?_
    rw [if_pos h1]
    exact congrArg₂ (· * ·) (tile_dy m c R t r k) (tile_ub m c t _ (by omega) (by omega) k _
      (by show j.val + (256 * (7 - t.val) + r.val) + 2 = 256 * (7 - t.val) + (j.val + 2 + r.val); omega))
  by_cases h2 : j.val = 31
  · rw [if_pos ((hp j).2 (by omega)), if_neg h1, if_pos h2]
    refine Finset.sum_congr rfl fun r _ => ?_
    rw [if_neg h1, if_pos h2]
    exact tile_dy m c R t r k
  by_cases h3 : j.val = 32
  · rw [if_pos ((hp j).2 (by omega)), if_neg h1, if_neg h2, if_pos h3]
    refine Finset.sum_congr rfl fun r _ => ?_
    rw [if_neg h1, if_neg h2, if_pos h3]
    exact congrArg₂ (· * ·) (tile_dout m c R t r k) (tile_nrm m c R t r k)
  by_cases h4 : j.val = 33
  · rw [if_pos ((hp j).2 (by omega)), if_neg h1, if_neg h2, if_neg h3]
    refine Finset.sum_congr rfl fun r _ => ?_
    rw [if_neg h1, if_neg h2, if_neg h3, if_pos h4]
    exact tile_dout m c R t r k
  · rw [if_neg (fun h => by have := (hp j).1 h; omega)]
    symm
    refine Finset.sum_eq_zero fun r _ => ?_
    rw [if_neg h1, if_neg h2, if_neg h3, if_neg h4]

theorem st_step (j : Fin 40) (k : Fin 512) (t : Fin cfg0.N) : (outsAt0 m c t.val t.isLt).2.1 (ix2 j k)
    = (if t.val % 8 = 0 then 0 else (prev m c t).2.1 (ix2 j k)) + ∑ r : Fin 256, part40 m c j (row t r) k := by
  rw [← tile_add m c R t j k]
  have e : ∀ (p : Prop) [Decidable p] (x z : EReal), (if p then x + z else x) = x + (if p then z else 0) := fun p _ x z => by
    by_cases h : p
    · rw [if_pos h, if_pos h]
    · rw [if_neg h, if_neg h, add_zero]
  by_cases h0 : t.val % 8 = 0
  · rw [outsAt0_A m c t h0, if_pos h0]
    dsimp only
    refine (First.sums j k).trans ?_
    exact e _ _ _
  · rw [outsAt0_B m c t h0, if_neg h0]
    dsimp only
    refine (Later.sums j k).trans ?_
    exact e _ _ _

omit R

/-- The order in which the tiles are taken, as a rearrangement of the rows. -/
def turn (s : Fin 2048) : Fin 2048 := ⟨256 * (7 - s.val / 256) + s.val % 256, by omega⟩

theorem turn_turn : Function.Involutive turn := fun s => Fin.ext (by
  show 256 * (7 - (256 * (7 - s.val / 256) + s.val % 256) / 256) + (256 * (7 - s.val / 256) + s.val % 256) % 256 = s.val
  omega)

include R

theorem st_at (j : Fin 40) (k : Fin 512) (h : 7 < cfg0.N) : (outsAt0 m c 7 h).2.1 (ix2 j k) = ∑ s : Fin 2048, part40 m c j s k := by
  refine (sweep 8 256 N_0 (by decide) rfl (fun s => part40 m c j (turn s) k) (fun n hn => (outsAt0 m c n hn).2.1 (ix2 j k))
    (fun t r => part40 m c j (row t r) k) (fun t r => ⟨by have : t.val < 8 := t.isLt; omega, ?_⟩) (st_step m c R j k) h).trans ?_
  · refine congrArg (fun z => part40 m c j z k) (Fin.ext ?_)
    show 256 * (7 - t.val) + r.val = 256 * (7 - (256 * t.val + r.val) / 256) + (256 * t.val + r.val) % 256
    omega
  · exact Equiv.sum_comp (turn_turn.toPerm) fun s => part40 m c j s k

end Cert.ConfIdeal.Val

end
-- ==== Proof.ConfNorm.lean ====
/- The backward call of the convolution block, the reference's values read at an entry: up to the gradient of the convolution's
   result. Hand-written. -/
module

public import proofs.«01_k».proof.Proof.ConfVal
public import proofs.«01_k».proof.Proof.RefSums
public import proofs.«01_k».proof.Proof.Gen.ConfRefIdeal.Read
public import proofs.«01_k».proof.Pre_finite_conf
public import Idealize.ShloMosaic.Lib.IdealHost

@[expose] public section

set_option maxRecDepth 16384

noncomputable section

namespace Cert.ConfIdeal.Val

open Idealize.ShloMosaic Idealize.ShloMosaic.TcCoe Idealize.SL.Sem Cert.ConfIdeal Cert.ConfIdeal.Gen Cert.Tile
open Cert.ConfRefIdeal.Read

variable (m : (ℓ : Loc nD τ sig) → Buf (Elt Ideal) ℓ) (c : Dev nD)

/-- The arguments as the reference is given them. -/
abbrev a0 : FVec Ideal S1x2048x3080 .f32 := m ((c : Thread nD τ).loc main_arg0)
abbrev a1 : FVec Ideal S1x31x512 .f32 := m ((c : Thread nD τ).loc main_arg1)
abbrev a2 : FVec Ideal S1x512 .f32 := m ((c : Thread nD τ).loc main_arg2)
abbrev a3 : FVec Ideal S1x512 .f32 := m ((c : Thread nD τ).loc main_arg3)
abbrev a4 : FVec Ideal S1x512 .f32 := m ((c : Thread nD τ).loc main_arg4)
abbrev a5 : FVec Ideal S1x2048x512 .f32 := m ((c : Thread nD τ).loc main_arg5)

/-! ## What finite arguments give -/

/-- Every argument but the norm's bias is real, entry by entry. -/
structure Real : Prop where
  a : ∀ s k, IsReal (a m c s k)
  g : ∀ s k, IsReal (g m c s k)
  w : ∀ j k, IsReal (w m c j k)
  cb : ∀ k, IsReal (cb m c k)
  gw : ∀ k, IsReal (gw m c k)
  d : ∀ s k, IsReal (d m c s k)

theorem real_of_pre [hyps : Cert.Pre_finite_conf.Facts]
    (h : (Cert.Pre_finite_conf.fn (F := Ideal) (a0 m c) (a1 m c) (a2 m c) (a3 m c) (a4 m c) (a5 m c)).1 = (fun _ => 1#1)
      ∧ (Cert.Pre_finite_conf.fn (F := Ideal) (a0 m c) (a1 m c) (a2 m c) (a3 m c) (a4 m c) (a5 m c)).2.1 = (fun _ => 1#1)
      ∧ (Cert.Pre_finite_conf.fn (F := Ideal) (a0 m c) (a1 m c) (a2 m c) (a3 m c) (a4 m c) (a5 m c)).2.2.1 = (fun _ => 1#1)
      ∧ (Cert.Pre_finite_conf.fn (F := Ideal) (a0 m c) (a1 m c) (a2 m c) (a3 m c) (a4 m c) (a5 m c)).2.2.2.1 = (fun _ => 1#1)
      ∧ (Cert.Pre_finite_conf.fn (F := Ideal) (a0 m c) (a1 m c) (a2 m c) (a3 m c) (a4 m c) (a5 m c)).2.2.2.2 = (fun _ => 1#1)) :
    Real m c where
  a s k := isReal_of_lt _ (congrFun h.1 (ix3 0 s ⟨k.val, by omega⟩))
  g s k := isReal_of_lt _ (congrFun h.1 (ix3 0 s ⟨512 + k.val, by omega⟩))
  w j k := isReal_of_lt _ (congrFun h.2.1 (ix3 0 j k))
  cb k := isReal_of_lt _ (congrFun h.2.2.1 (ix2 0 k))
  gw k := isReal_of_lt _ (congrFun h.2.2.2.1 (ix2 0 k))
  d s k := isReal_of_lt _ (congrFun h.2.2.2.2 (ix3 0 s k))

theorem real_u (R : Real m c) (s : Fin 2048) (k : Fin 512) : IsReal (u m c s k) := (R.a s k).mul (IsReal.logistic _)

theorem real_up (R : Real m c) (n : ℕ) (k : Fin 512) : IsReal (up m c n k) := by
  unfold up
  split
  · exact real_u m c R _ k
  · exact IsReal.zero

theorem real_val (R : Real m c) : Real' m c where
  y s k := (IsReal.sum fun j => (real_up m c R _ k).mul (R.w j k)).add (R.cb k)
  d := R.d
  gw := R.gw

/-! ## The gate and the convolution -/

theorem ref_sg (s : Fin 2048) (k : Fin 512) : val_main_v11 (F := Ideal) (a0 m c) (ix3 0 s k) = sg m c s k := by
  unfold val_main_v11 val_main_v10 val_main_v9 val_main_v8 val_main_v7 val_main_v6 val_main_v1
  pointwise [val_main_cst, val_main_cst_0]
  rfl

theorem ref_u (s : Fin 2048) (k : Fin 512) : val_main_v24 (F := Ideal) (a0 m c) (ix2 s k) = u m c s k := by
  unfold val_main_v24 val_main_v15 val_main_v0
  pointwise [ref_sg]
  rfl

/-- Whether row `s` is the one that tap `j` takes to row `t`. -/
theorem ref_shift (j : Fin 31) (t s : Fin 2048) :
    val_main_v23 (F := Ideal) (ix3 j t s) = if s.val + 30 = t.val + j.val then (1 : EReal) else 0 := by
  unfold val_main_v23 val_main_v22 val_main_v21 val_main_v20 val_main_v19 val_main_v18 val_main_v17 val_main_v16
    val_main_call0_v0 val_main_call0_v1
  pointwise [val_main_c, val_main_cst_2, val_main_cst_3]
  rw [WordCmp.cmpi_eq_eq_toNat]
  show (if BitVec.ofBool (decide ((BitVec.ofNat 32 s.val + 30#32).toNat = (BitVec.ofNat 32 t.val + BitVec.ofNat 32 j.val).toNat)) = 1#1 then (1 : EReal) else 0) = _
  have e1 : (BitVec.ofNat 32 s.val + 30#32).toNat = s.val + 30 := by
    rw [BitVec.toNat_add, BitVec.toNat_ofNat, BitVec.toNat_ofNat]; omega
  have e2 : (BitVec.ofNat 32 t.val + BitVec.ofNat 32 j.val).toNat = t.val + j.val := by
    rw [BitVec.toNat_add, BitVec.toNat_ofNat, BitVec.toNat_ofNat]; omega
  rw [e1, e2]
  by_cases h : s.val + 30 = t.val + j.val <;> simp [h]

theorem ref_taps (j : Fin 31) (t : Fin 2048) (k : Fin 512) :
    val_main_v25 (F := Ideal) (a0 m c) (ix3 j t k) = up m c (j.val + t.val) k := by
  rw [val_main_v25_apply]
  refine (Finset.sum_congr rfl fun s _ => congrArg₂ (fun u v : EReal => u * v)
    ((congrArg _ (Tile.ix3_of _ j t s rfl rfl rfl)).trans (ref_shift j t s))
    ((congrArg _ (Tile.ix2_of _ s k rfl rfl)).trans (ref_u m c s k))).trans ?_
  unfold up
  split
  · next h =>
    rw [Finset.sum_eq_single ⟨j.val + t.val - 30, h.2⟩]
    · rw [if_pos (by show j.val + t.val - 30 + 30 = _; omega), one_mul]
    · intro s _ hs
      rw [if_neg (fun e => hs (Fin.ext (by show s.val = j.val + t.val - 30; omega))), zero_mul]
    · exact fun h => absurd (Finset.mem_univ _) h
  · next h =>
    refine Finset.sum_eq_zero fun s _ => ?_
    rw [if_neg (by omega), zero_mul]

theorem ref_y (s : Fin 2048) (k : Fin 512) :
    val_main_v33 (F := Ideal) (a0 m c) (a1 m c) (a2 m c) (ix3 0 s k) = y m c s k := by
  unfold val_main_v33 val_main_v32 val_main_v31 val_main_v30 val_main_v29 val_main_v28 val_main_v27 val_main_v26 val_main_v3 val_main_v2
  pointwise [val_main_cst_4, ref_taps]
  rfl

/-! ## The norm over groups -/

theorem ref_y4 (s : Fin 2048) (q : Fin 8) (l : Fin 64) :
    val_main_v34 (F := Ideal) (a0 m c) (a1 m c) (a2 m c) (ix4 0 s q l) = y m c s (col q l) := by
  unfold val_main_v34
  pointwise [ref_y]
  rfl

theorem ref_mean (s : Fin 2048) (q : Fin 8) :
    val_main_v38 (F := Ideal) (a0 m c) (a1 m c) (a2 m c) (ix4 0 s q 0) = gm (y m c s) (col q 0) := by
  unfold val_main_v38 val_main_v37 val_main_v36 val_main_v35
  pointwise [val_main_cst_5, val_main_cst_6, ref_y4]
  rw [gm_col]
  rw [ofBits_64, Ideal.div_coe (by norm_num)]

theorem ref_dl (s : Fin 2048) (q : Fin 8) (l : Fin 64) :
    val_main_v40 (F := Ideal) (a0 m c) (a1 m c) (a2 m c) (ix4 0 s q l) = gdl (y m c s) (col q l) := by
  unfold val_main_v40 val_main_v39
  pointwise [ref_y4, ref_mean]
  rw [← gm_col_zero _ q l]
  rfl

theorem ref_dl' (s : Fin 2048) (q : Fin 8) (l : Fin 64) :
    val_main_v49 (F := Ideal) (a0 m c) (a1 m c) (a2 m c) (ix4 0 s q l) = gdl (y m c s) (col q l) := by
  unfold val_main_v49 val_main_v48
  pointwise [ref_y4, ref_mean]
  rw [← gm_col_zero _ q l]
  rfl

theorem ref_var (s : Fin 2048) (q : Fin 8) :
    val_main_v51 (F := Ideal) (a0 m c) (a1 m c) (a2 m c) (ix4 0 s q 0)
      = gm (fun j => gdl (y m c s) j * gdl (y m c s) j) (col q 0) + geps := by
  unfold val_main_v51 val_main_v50 val_main_v47 val_main_v46 val_main_v45 val_main_v44 val_main_v41
  pointwise [val_main_cst_8, val_main_cst_9, val_main_cst_10, ref_dl]
  rw [gm_col, ofBits_64, Ideal.div_coe (by norm_num)]
  rfl

theorem ref_rs (s : Fin 2048) (q : Fin 8) :
    val_main_v52 (F := Ideal) (a0 m c) (a1 m c) (a2 m c) (ix4 0 s q 0) = grs (y m c s) (col q 0) := by
  unfold val_main_v52
  pointwise [ref_var]
  rfl

theorem grs_zero (y : Fin 512 → EReal) (q : Fin 8) (l : Fin 64) : grs y (col q l) = grs y (col q 0) := by
  unfold grs
  rw [gm_col_zero _ q l]

theorem ref_un (s : Fin 2048) (q : Fin 8) (l : Fin 64) :
    val_main_v57 (F := Ideal) (a0 m c) (a1 m c) (a2 m c) (ix4 0 s q l) = nrm m c s (col q l) := by
  unfold val_main_v57 val_main_v56
  pointwise [ref_dl', ref_rs]
  rw [← grs_zero _ q l]
  rfl

theorem col_of (k : Fin 512) : col ⟨k.val / 64, by omega⟩ ⟨k.val % 64, by omega⟩ = k := Fin.ext (by show k.val / 64 * 64 + k.val % 64 = k.val; omega)

theorem ref_nrm (s : Fin 2048) (k : Fin 512) :
    val_main_v58 (F := Ideal) (a0 m c) (a1 m c) (a2 m c) (ix3 0 s k) = nrm m c s k := by
  unfold val_main_v58
  pointwise [ref_un]
  exact congrArg _ (col_of k)

theorem ref_out (s : Fin 2048) (k : Fin 512) :
    val_main_v64 (F := Ideal) (a0 m c) (a1 m c) (a2 m c) (a3 m c) (a4 m c) (ix3 0 s k) = gout (y m c s) (gw m c) (gb m c) k := by
  unfold val_main_v64 val_main_v63 val_main_v62 val_main_v61 val_main_v60 val_main_v59 val_main_v5 val_main_v4
  pointwise [ref_nrm]
  rfl

theorem ref_so (s : Fin 2048) (k : Fin 512) :
    val_main_v65_2 (F := Ideal) (a0 m c) (a1 m c) (a2 m c) (a3 m c) (a4 m c) (ix3 0 s k)
      = Ideal.logistic (gout (y m c s) (gw m c) (gb m c) k) := by
  unfold val_main_v65_2 val_main_call1_v4 val_main_call1_v3 val_main_call1_v2 val_main_call1_v1 val_main_call1_v0
  pointwise [val_main_call1_cst, val_main_call1_cst_0, ref_out]
  rfl

theorem ref_dout (R : Real m c) (s : Fin 2048) (k : Fin 512) :
    val_main_v66 (F := Ideal) (a0 m c) (a1 m c) (a2 m c) (a3 m c) (a4 m c) (a5 m c) (ix3 0 s k) = dout m c s k := by
  unfold val_main_v66 val_main_call2_v2 val_main_call2_v1 val_main_call2_v0 val_main_v65_1 val_main_call1_v7 val_main_call1_v6
  pointwise [val_main_call1_cst_1, ref_out, ref_so]
  exact (silu_grad _ (R.d s k)).symm

theorem ref_dun (R : Real m c) (s : Fin 2048) (k : Fin 512) :
    val_main_v74 (F := Ideal) (a0 m c) (a1 m c) (a2 m c) (a3 m c) (a4 m c) (a5 m c) (ix3 0 s k)
      = gdun (y m c s) (d m c s) (gw m c) (gb m c) k := by
  unfold val_main_v74 val_main_v73 val_main_v59 val_main_v4
  pointwise [ref_dout m c R]
  rfl

theorem ref_dun4 (R : Real m c) (s : Fin 2048) (q : Fin 8) (l : Fin 64) :
    val_main_v76 (F := Ideal) (a0 m c) (a1 m c) (a2 m c) (a3 m c) (a4 m c) (a5 m c) (ix4 0 s q l)
      = gdun (y m c s) (d m c s) (gw m c) (gb m c) (col q l) := by
  unfold val_main_v76
  pointwise [ref_dun m c R]
  rfl

/-- The factor of twice the row less its mean. -/
def kap (s : Fin 2048) (q : Fin 8) : EReal :=
  Ideal.div ((∑ p : Fin 64, gdl (y m c s) (col q p) * gdun (y m c s) (d m c s) (gw m c) (gb m c) (col q p))
    * (Ideal.ofBits .f32 0xBF000000#32 * Ideal.div (grs (y m c s) (col q 0)) (gm (fun j => gdl (y m c s) j * gdl (y m c s) j) (col q 0) + geps)))
    (Ideal.ofBits .f32 0x42800000#32)

theorem ref_kap (R : Real m c) (s : Fin 2048) (q : Fin 8) :
    val_main_v87 (F := Ideal) (a0 m c) (a1 m c) (a2 m c) (a3 m c) (a4 m c) (a5 m c) (ix4 0 s q 0) = kap m c s q := by
  unfold val_main_v87 val_main_v86 val_main_v82 val_main_v79 val_main_v78 val_main_v77 val_main_v55 val_main_v54 val_main_v53
  pointwise [val_main_cst_11, val_main_cst_16, val_main_cst_18, ref_dun4 m c R, ref_dl', ref_var, ref_rs]
  rfl

theorem ref_kd (R : Real m c) (s : Fin 2048) (q : Fin 8) (l : Fin 64) :
    val_main_v91 (F := Ideal) (a0 m c) (a1 m c) (a2 m c) (a3 m c) (a4 m c) (a5 m c) (ix4 0 s q l)
      = kap m c s q * (Ideal.ofBits .f32 0x40000000#32 * gdl (y m c s) (col q l)) := by
  unfold val_main_v91 val_main_v90 val_main_v89 val_main_v88 val_main_v43 val_main_v42
  pointwise [val_main_cst_7, val_main_cst_19, ref_kap m c R, ref_dl, sum_03]

theorem ref_dr (R : Real m c) (s : Fin 2048) (q : Fin 8) (l : Fin 64) :
    val_main_v81 (F := Ideal) (a0 m c) (a1 m c) (a2 m c) (a3 m c) (a4 m c) (a5 m c) (ix4 0 s q l)
      = gdun (y m c s) (d m c s) (gw m c) (gb m c) (col q l) * grs (y m c s) (col q 0) := by
  unfold val_main_v81 val_main_v80
  pointwise [ref_dun4 m c R, ref_rs]

theorem ref_dm (R : Real m c) (s : Fin 2048) (q : Fin 8) :
    val_main_v98 (F := Ideal) (a0 m c) (a1 m c) (a2 m c) (a3 m c) (a4 m c) (a5 m c) (ix4 0 s q 0)
      = Ideal.div ((∑ p : Fin 64, -(gdun (y m c s) (d m c s) (gw m c) (gb m c) (col q p) * grs (y m c s) (col q 0)))
        + ∑ p : Fin 64, -(kap m c s q * (Ideal.ofBits .f32 0x40000000#32 * gdl (y m c s) (col q p)))) (Ideal.ofBits .f32 0x42800000#32) := by
  unfold val_main_v98 val_main_v97 val_main_v96 val_main_v94 val_main_v93 val_main_v92 val_main_v85 val_main_v84 val_main_v83
  pointwise [val_main_cst_17, val_main_cst_20, val_main_cst_21, ref_kd m c R, ref_dr m c R]

theorem ref_dyg (R : Real m c) (s : Fin 2048) (q : Fin 8) (l : Fin 64) :
    val_main_v102 (F := Ideal) (a0 m c) (a1 m c) (a2 m c) (a3 m c) (a4 m c) (a5 m c) (ix4 0 s q l) = dy m c s (col q l) := by
  unfold val_main_v102 val_main_v101 val_main_v100 val_main_v99 val_main_v95
  pointwise [val_main_cst_22, ref_dm m c R, ref_kd m c R, ref_dr m c R, sum_03]
  have V := real_val m c R
  obtain ⟨ε, hε, he⟩ := ofBits_eps
  obtain ⟨ρ, α, hα, hρ, h, hr⟩ := gm_rsqrt (gdl_real (V.y s)) (col q 0) hε
  have e : geps = (ε : EReal) := he
  have eg : grs (y m c s) (col q 0) = (ρ : EReal) := by
    unfold grs
    rw [e, h, hr]
  have T := group_grad (δ := fun p => gdl (y m c s) (col q p)) (D := fun p => gdun (y m c s) (d m c s) (gw m c) (gb m c) (col q p))
    (fun p => gdl_real (V.y s) _) (fun p => gdun_real _ (V.d s) V.gw _) (gdl_sum (V.y s) q) hρ l
  dsimp only at T
  have en : ∀ p, gun (y m c s) (col q p) = gdl (y m c s) (col q p) * (ρ : EReal) := fun p => by
    unfold gun
    rw [grs_zero, eg]
  unfold kap dy gdy
  rw [grs_zero _ q l, e, h, eg, gm_col, gm_col, ofBits_64, ofBits_two, ofBits_neg_half, Ideal.div_coe hα.ne']
  simp only [Ideal.div_coe (show (64 : ℝ) ≠ 0 by norm_num), en]
  exact T

theorem ref_dy (R : Real m c) (s : Fin 2048) (k : Fin 512) :
    val_main_v103 (F := Ideal) (a0 m c) (a1 m c) (a2 m c) (a3 m c) (a4 m c) (a5 m c) (ix3 0 s k) = dy m c s k := by
  unfold val_main_v103
  pointwise [ref_dyg m c R]
  exact congrArg _ (col_of k)

end Cert.ConfIdeal.Val

end
-- ==== Proof.ConfRef.lean ====
/- The backward call of the convolution block, the reference's results read at an entry, and that the kernel leaves the same.
   Hand-written. -/
module

public import proofs.«01_k».proof.Proof.ConfNorm
public import Idealize.ShloMosaic.Lib.Pipeline.ValueKit

@[expose] public section

set_option maxRecDepth 16384

noncomputable section

namespace Cert.ConfIdeal.Val

open Idealize.ShloMosaic Idealize.ShloMosaic.TcCoe Idealize.SL.Sem Cert.ConfIdeal Cert.ConfIdeal.Gen Cert.Tile
open Cert.ConfRefIdeal.Read

variable (m : (ℓ : Loc nD τ sig) → Buf (Elt Ideal) ℓ) (c : Dev nD)

/-! ## The rows of sums -/

theorem ref_db (R : Real m c) (k : Fin 512) :
    val_main_v121 (F := Ideal) (a0 m c) (a1 m c) (a2 m c) (a3 m c) (a4 m c) (a5 m c) (ix2 0 k) = ∑ s : Fin 2048, dy m c s k := by
  unfold val_main_v121 val_main_v106 val_main_v105 val_main_v104
  pointwise [sum_11, val_main_cst_23, val_main_cst_24, ref_dy m c R]

theorem ref_dgw (R : Real m c) (k : Fin 512) :
    val_main_v122 (F := Ideal) (a0 m c) (a1 m c) (a2 m c) (a3 m c) (a4 m c) (a5 m c) (ix2 0 k) = ∑ s : Fin 2048, dout m c s k * nrm m c s k := by
  unfold val_main_v122 val_main_v75 val_main_v72 val_main_v71 val_main_v70
  pointwise [sum_11, val_main_cst_14, val_main_cst_15, ref_dout m c R, ref_nrm]
  exact Finset.sum_congr rfl fun s _ => mul_comm _ _

theorem ref_dgb (R : Real m c) (k : Fin 512) :
    val_main_v123 (F := Ideal) (a0 m c) (a1 m c) (a2 m c) (a3 m c) (a4 m c) (a5 m c) (ix2 0 k) = ∑ s : Fin 2048, dout m c s k := by
  unfold val_main_v123 val_main_v69 val_main_v68 val_main_v67
  pointwise [sum_11, val_main_cst_12, val_main_cst_13, ref_dout m c R]

theorem ref_dy2 (R : Real m c) (s : Fin 2048) (k : Fin 512) :
    val_main_v107 (F := Ideal) (a0 m c) (a1 m c) (a2 m c) (a3 m c) (a4 m c) (a5 m c) (ix2 s k) = dy m c s k := by
  unfold val_main_v107
  pointwise [val_main_cst_25]
  exact (Fin.sum_univ_one _).trans (ref_dy m c R s k)

theorem ref_dw (R : Real m c) (j : Fin 31) (k : Fin 512) :
    val_main_v114 (F := Ideal) (a0 m c) (a1 m c) (a2 m c) (a3 m c) (a4 m c) (a5 m c) (ix2 j k)
      = ∑ s : Fin 2048, dy m c s k * up m c (j.val + s.val) k := by
  unfold val_main_v114 val_main_v111 val_main_v110 val_main_v109 val_main_v108
  pointwise [val_main_cst_26, val_main_cst_27, ref_dy2 m c R, ref_taps]
  refine (Fin.sum_univ_one _).trans ?_
  exact Finset.sum_congr rfl fun s _ => mul_comm (up m c (j.val + s.val) k) (dy m c s k)

/-! ## The gradient of the gated value -/

theorem tap_back (j : Fin 31) (s : Fin 2048) (k : Fin 512) :
    ∑ t : Fin 2048, (dy m c t k * w m c j k) * (if s.val + 30 = t.val + j.val then (1 : EReal) else 0) = w m c j k * dyp m c (30 - j.val + s.val) k := by
  unfold dyp
  split
  · next h =>
    rw [Finset.sum_eq_single ⟨30 - j.val + s.val, h⟩]
    · rw [if_pos (by show s.val + 30 = 30 - j.val + s.val + j.val; omega), mul_one, mul_comm]
    · intro t _ ht
      rw [if_neg (fun e => ht (Fin.ext (by show t.val = 30 - j.val + s.val; omega))), mul_zero]
    · exact fun h => absurd (Finset.mem_univ _) h
  · next h =>
    rw [mul_zero]
    refine Finset.sum_eq_zero fun t _ => ?_
    rw [if_neg (by omega), mul_zero]

theorem ref_du2 (R : Real m c) (k : Fin 512) (s : Fin 2048) :
    val_main_v115 (F := Ideal) (a0 m c) (a1 m c) (a2 m c) (a3 m c) (a4 m c) (a5 m c) (ix2 k s) = du m c s k := by
  unfold val_main_v115
  refine (host_BT _ rfl _ _ _ _ k s).trans ?_
  refine Finset.sum_congr rfl fun j _ => (Finset.sum_congr rfl fun t _ => congrArg₂ (fun u v : EReal => u * v) ?_ (ref_shift j t s)).trans
    (tap_back m c j s k)
  show val_main_v113 (F := Ideal) (a0 m c) (a1 m c) (a2 m c) (a3 m c) (a4 m c) (a5 m c) (ix3 j t k) = _
  unfold val_main_v113 val_main_v112 val_main_v108 val_main_v26 val_main_v2
  pointwise [ref_dy2 m c R]
  rfl

theorem ref_du (R : Real m c) (s : Fin 2048) (k : Fin 512) :
    val_main_v117 (F := Ideal) (a0 m c) (a1 m c) (a2 m c) (a3 m c) (a4 m c) (a5 m c) (ix3 0 s k) = du m c s k := by
  unfold val_main_v117 val_main_v116
  pointwise [ref_du2 m c R]

theorem ref_left (R : Real m c) (s : Fin 2048) (k : Fin 512) :
    val_main_v128 (F := Ideal) (a0 m c) (a1 m c) (a2 m c) (a3 m c) (a4 m c) (a5 m c) (ix2 s (⟨k.val, by omega⟩ : Fin 1024))
      = du m c s k * sg m c s k := by
  unfold val_main_v128 val_main_v127 val_main_v126
  pointwise
  unfold val_main_v119
  pointwise [ref_du m c R, ref_sg]

theorem ref_right (R : Real m c) (s : Fin 2048) (k : Fin 512) :
    val_main_v128 (F := Ideal) (a0 m c) (a1 m c) (a2 m c) (a3 m c) (a4 m c) (a5 m c) (ix2 s (⟨512 + k.val, by omega⟩ : Fin 1024))
      = ((du m c s k * a m c s k) * sg m c s k) * (1 - sg m c s k) := by
  unfold val_main_v128 val_main_v127 val_main_v126
  pointwise
  unfold val_main_v120 val_main_v118 val_main_v14 val_main_v13 val_main_v12 val_main_v0
  pointwise [val_main_cst_1, ref_du m c R, ref_sg]
  show (a m c s k * du m c s k) * (sg m c s k * (1 - sg m c s k)) = _
  rw [mul_comm (a m c s k), mul_assoc (du m c s k * a m c s k)]

/-! ## The results -/

theorem fin_dp (R : Real m c) :
    (dats m 0 c).arrAt 9 cfg0.N = val_main_v128 (F := Ideal) (a0 m c) (a1 m c) (a2 m c) (a3 m c) (a4 m c) (a5 m c) := by
  refine (dats m 0 c).arrAt_eq_of_covers 9 _ (by decide +kernel) fun t hf y => ?_
  blk_simp
  rw [after0_9]
  obtain ⟨r, k, rfl⟩ : ∃ (r : Fin 256) (k : Fin 1024), y = ix2 r k := ⟨_, _, eq_ix2 y⟩
  refine Eq.trans ?_ (congrArg _ (Tile.ix2_of _ (row t r) k (Tile.tile_coord 256 r.val (idx9 t).1) (Tile.whole_coord 1024 k.val (idx9 t).2)).symm)
  by_cases h : k.val < 512
  · exact (left_at m c (real_val m c R) t r ⟨k.val, h⟩).trans (ref_left m c R (row t r) ⟨k.val, h⟩).symm
  · have e : k = (⟨512 + (k.val - 512), by omega⟩ : Fin 1024) := Fin.ext (by show k.val = 512 + (k.val - 512); omega)
    rw [e]
    exact (right_at m c (real_val m c R) t r ⟨k.val - 512, by omega⟩).trans (ref_right m c R (row t r) ⟨k.val - 512, by omega⟩).symm

theorem fin_st (R : Real m c) :
    (dats m 0 c).arrAt 10 cfg0.N = val_main_v125 (F := Ideal) (a0 m c) (a1 m c) (a2 m c) (a3 m c) (a4 m c) (a5 m c) := by
  refine (dats m 0 c).arrAt_eq_of_after_last 10 t0_7 (by decide +kernel) _ fun j => ?_
  blk_simp
  rw [after0_10]
  obtain ⟨i, k, rfl⟩ : ∃ (i : Fin 40) (k : Fin 512), j = ix2 i k := ⟨_, _, eq_ix2 j⟩
  refine (st_at m c (real_val m c R) i k t0_7.isLt).trans ?_
  unfold val_main_v125
  pointwise
  by_cases h0 : i.val < 31
  · rw [dif_pos h0]
    refine Eq.trans ?_ (ref_dw m c R ⟨i.val, h0⟩ k).symm
    exact Finset.sum_congr rfl fun s _ => by unfold part40; rw [if_pos h0]
  rw [dif_neg h0]
  by_cases h1 : i.val = 31
  · rw [dif_pos (by omega)]
    refine Eq.trans ?_ ((congrArg (fun z : Fin 1 => val_main_v121 (F := Ideal) (a0 m c) (a1 m c) (a2 m c) (a3 m c) (a4 m c) (a5 m c) (ix2 z k))
      (Subsingleton.elim _ 0)).trans (ref_db m c R k)).symm
    exact Finset.sum_congr rfl fun s _ => by unfold part40; rw [if_neg h0, if_pos h1]
  rw [dif_neg (by omega)]
  by_cases h2 : i.val = 32
  · rw [dif_pos (by omega)]
    refine Eq.trans ?_ ((congrArg (fun z : Fin 1 => val_main_v122 (F := Ideal) (a0 m c) (a1 m c) (a2 m c) (a3 m c) (a4 m c) (a5 m c) (ix2 z k))
      (Subsingleton.elim _ 0)).trans (ref_dgw m c R k)).symm
    exact Finset.sum_congr rfl fun s _ => by unfold part40; rw [if_neg h0, if_neg h1, if_pos h2]
  rw [dif_neg (by omega)]
  by_cases h3 : i.val = 33
  · rw [dif_pos (by omega)]
    refine Eq.trans ?_ ((congrArg (fun z : Fin 1 => val_main_v123 (F := Ideal) (a0 m c) (a1 m c) (a2 m c) (a3 m c) (a4 m c) (a5 m c) (ix2 z k))
      (Subsingleton.elim _ 0)).trans (ref_dgb m c R k)).symm
    exact Finset.sum_congr rfl fun s _ => by unfold part40; rw [if_neg h0, if_neg h1, if_neg h2, if_pos h3]
  rw [dif_neg (by omega)]
  unfold val_main_v124
  pointwise [val_main_cst_28]
  exact Finset.sum_eq_zero fun s _ => by unfold part40; rw [if_neg h0, if_neg h1, if_neg h2, if_neg h3]

end Cert.ConfIdeal.Val

end
-- ==== Proof.FwdOutRef.lean ====
/- The forward call of the output projection: what its host lines put into the arrays the kernel reads, what each grid point leaves,
   the reference's values read at an entry, and that the two are the same. Hand-written. -/
module

public import proofs.«01_k».proof.Proof.Gen.FwdOutIdeal.Value
public import proofs.«01_k».proof.Proof.Tile
public import proofs.«01_k».proof.Proof.Gen.FwdOutRefIdeal.Read
public import Idealize.ShloMosaic.Lib.Pipeline.ValueKit
public import Idealize.ShloMosaic.Lib.Pointwise

@[expose] public section

set_option maxRecDepth 16384

noncomputable section

namespace Cert.FwdOutIdeal.Val

open Idealize.ShloMosaic Idealize.ShloMosaic.TcCoe Idealize.SL.Sem Cert.FwdOutIdeal Cert.FwdOutIdeal.Gen Cert.Tile
open Cert.FwdOutRefIdeal.Read

variable (m : (ℓ : Loc nD τ sig) → Buf (Elt Ideal) ℓ) (c : Dev nD)

/-! ## The arguments -/

/-- The arguments as the reference is given them: the two branches, the block's input, the modulation vectors and their bias, the
    weight. -/
abbrev a0 : FVec Ideal S1x2048x512 .f32 := m ((c : Thread nD τ).loc main_arg0)
abbrev a1 : FVec Ideal S1x2048x512 .f32 := m ((c : Thread nD τ).loc main_arg1)
abbrev a2 : FVec Ideal S1x2048x1024 .f32 := m ((c : Thread nD τ).loc main_arg2)
abbrev a3 : FVec Ideal S1x6144 .f32 := m ((c : Thread nD τ).loc main_arg3)
abbrev a4 : FVec Ideal S1x6144 .f32 := m ((c : Thread nD τ).loc main_arg4)
abbrev a5 : FVec Ideal S1x1024x1024 .f32 := m ((c : Thread nD τ).loc main_arg5)

/-- The two branches side by side. -/
def ab (s : Fin 2048) (k : Fin 1024) : EReal :=
  if h : k.val < 512 then a0 m c (ix3 0 s ⟨k.val, h⟩) else a1 m c (ix3 0 s ⟨k.val - 512, by omega⟩)
/-- Their product with the weight. -/
def mix (s : Fin 2048) (k : Fin 1024) : EReal := ∑ p : Fin 1024, ab m c s p * a5 m c (ix3 0 p k)
/-- The gate: the third of the six modulation vectors. -/
def gt (k : Fin 1024) : EReal := a3 m c (ix2 0 ⟨2048 + k.val, by omega⟩) + a4 m c (ix2 0 ⟨2048 + k.val, by omega⟩)

theorem ab_lo (s : Fin 2048) (k : Fin 512) : ab m c s ⟨k.val, by omega⟩ = a0 m c (ix3 0 s k) := dif_pos k.isLt
theorem ab_hi (s : Fin 2048) (k : Fin 512) : ab m c s ⟨512 + k.val, by omega⟩ = a1 m c (ix3 0 s k) := by
  unfold ab
  rw [dif_neg (by simp)]
  exact congrArg (fun q => a1 m c (ix3 0 s q)) (Fin.ext (Nat.add_sub_cancel_left 512 k.val))

/-! ## The host lines -/

theorem V_a (s : Fin 2048) (k : Fin 512) : V m c main_v0 (ix2 s k) = a0 m c (ix3 0 s k) := by
  have e : V m c main_v0 = shapeCast S2048x512 (a0 m c) shapeCasts_S1x2048x512_S2048x512 := by
    unfold V hostOps0; after_results; rfl
  rw [e]
  exact ValueIdx.shapeCast_1ab_ab_apply _ _ s k

theorem V_b (s : Fin 2048) (k : Fin 512) : V m c main_v1 (ix2 s k) = a1 m c (ix3 0 s k) := by
  have e : V m c main_v1 = shapeCast S2048x512 (a1 m c) shapeCasts_S1x2048x512_S2048x512 := by
    unfold V hostOps0; after_results; rfl
  rw [e]
  exact ValueIdx.shapeCast_1ab_ab_apply _ _ s k

theorem V_x (s : Fin 2048) (k : Fin 1024) : V m c main_v2 (ix2 s k) = a2 m c (ix3 0 s k) := by
  have e : V m c main_v2 = shapeCast S2048x1024 (a2 m c) shapeCasts_S1x2048x1024_S2048x1024 := by
    unfold V hostOps0; after_results; rfl
  rw [e]
  exact ValueIdx.shapeCast_1ab_ab_apply _ _ s k

theorem V_w (p q : Fin 1024) : V m c main_v4 (ix2 p q) = a5 m c (ix3 0 p q) := by
  have e : V m c main_v4 = shapeCast S1024x1024 (a5 m c) shapeCasts_S1x1024x1024_S1024x1024 := by
    unfold V hostOps0; after_results; rfl
  rw [e]
  exact ValueIdx.shapeCast_1ab_ab_apply _ _ p q

/-! ## The windows -/

theorem lt_rows (t : Fin cfg0.N) (r : Fin 256) : 256 * t.val + r.val < 2048 := by
  have h : t.val < 8 := lt_of_lt_of_eq t.isLt N_0
  omega

/-- The row of the array that row `r` of tile `t` is. -/
abbrev row (t : Fin cfg0.N) (r : Fin 256) : Fin 2048 := ⟨256 * t.val + r.val, lt_rows t r⟩

theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = t.val ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)
theorem idx8 : ∀ t : Fin cfg0.N, win0_8.index t 0 = t.val ∧ win0_8.index t 1 = 0 := (by decide +kernel : ∀ t : Fin grid0.N, _)

theorem blk_a (t : Fin cfg0.N) (r : Fin 256) (k : Fin 512) : (iblk m c 0 t : Vec Ideal S256x512 .f32) (ix2 r k) = a0 m c (ix3 0 (row t r) k) := by
  rw [← V_a]
  unfold iblk
  rw [View.read_apply]
  exact congrArg (V m c main_v0) (Tile.ix2_of _ (row t r) k (Tile.tile_coord 256 r.val (idx0 t).1) (Tile.whole_coord 512 k.val (idx0 t).2))

theorem blk_b (t : Fin cfg0.N) (r : Fin 256) (k : Fin 512) : (iblk m c 1 t : Vec Ideal S256x512 .f32) (ix2 r k) = a1 m c (ix3 0 (row t r) k) := by
  rw [← V_b]
  unfold iblk
  rw [View.read_apply]
  exact congrArg (V m c main_v1) (Tile.ix2_of _ (row t r) k (Tile.tile_coord 256 r.val (idx1 t).1) (Tile.whole_coord 512 k.val (idx1 t).2))

theorem blk_x (t : Fin cfg0.N) (r : Fin 256) (k : Fin 1024) : (iblk m c 2 t : Vec Ideal S256x1024 .f32) (ix2 r k) = a2 m c (ix3 0 (row t r) k) := by
  rw [← V_x]
  unfold iblk
  rw [View.read_apply]
  exact congrArg (V m c main_v2) (Tile.ix2_of _ (row t r) k (Tile.tile_coord 256 r.val (idx2 t).1) (Tile.whole_coord 1024 k.val (idx2 t).2))

theorem blk_mod (t : Fin cfg0.N) (k : Fin 6144) : (iblk m c 3 t : Vec Ideal S1x6144 .f32) (ix2 0 k) = a3 m c (ix2 0 k) := by
  show _ = m ((c : Thread nD τ).loc main_arg3) (ix2 0 k)
  rw [← V_main_arg3 m c]
  unfold iblk
  rw [View.read_apply]
  exact congrArg (V m c main_arg3) (Tile.ix2_of _ 0 k (Tile.whole_coord 1 0 (idx3 t).1) (Tile.whole_coord 6144 k.val (idx3 t).2))

theorem blk_bias (t : Fin cfg0.N) (k : Fin 6144) : (iblk m c 4 t : Vec Ideal S1x6144 .f32) (ix2 0 k) = a4 m c (ix2 0 k) := by
  show _ = m ((c : Thread nD τ).loc main_arg4) (ix2 0 k)
  rw [← V_main_arg4 m c]
  unfold iblk
  rw [View.read_apply]
  exact congrArg (V m c main_arg4) (Tile.ix2_of _ 0 k (Tile.whole_coord 1 0 (idx4 t).1) (Tile.whole_coord 6144 k.val (idx4 t).2))

theorem blk_w (t : Fin cfg0.N) (p q : Fin 1024) : (iblk m c 5 t : Vec Ideal S1024x1024 .bf16) (ix2 p q) = a5 m c (ix3 0 p q) := by
  rw [← V_w]
  unfold iblk
  rw [View.read_apply]
  exact congrArg (V m c main_v4) (Tile.ix2_of _ p q (Tile.whole_coord 1024 p.val (idx5 t).1) (Tile.whole_coord 1024 q.val (idx5 t).2))

/-! ## One grid point -/

theorem tile_mix (t : Fin cfg0.N) (inb inb' inb3 inb4) (r : Fin 256) (k : Fin 1024) :
    k0_pay3 (View.ld (iblk m c 0 t : Vec Ideal S256x512 .f32) (Rect.unit (s := ⟨2, ![256, 512]⟩) ![0, 0] ![256, 512] inb))
      (View.ld (iblk m c 1 t : Vec Ideal S256x512 .f32) (Rect.unit (s := ⟨2, ![256, 512]⟩) ![0, 0] ![256, 512] inb'))
      (View.ld (iblk m c 5 t : Vec Ideal S1024x1024 .bf16) (Rect.unit (s := ⟨2, ![1024, 1024]⟩) ![0, 0] ![512, 1024] inb3))
      (View.ld (iblk m c 5 t : Vec Ideal S1024x1024 .bf16) (Rect.unit (s := ⟨2, ![1024, 1024]⟩) ![512, 0] ![512, 1024] inb4)) (ix2 r k)
      = mix m c (row t r) k := by
  unfold k0_pay3 k0_pay1 k0_pay2
  rw [ValueIdx.addf_apply]
  refine (congrArg₂ (fun u v : EReal => u + v) (matmul_NN _ rfl _ _ _ r k) (matmul_NN _ rfl _ _ _ r k)).trans ?_
  unfold mix
  refine Eq.trans ?_ (Fin.sum_univ_add (a := 512) (b := 512) fun p : Fin 1024 => ab m c (row t r) p * a5 m c (ix3 0 p k)).symm
  refine congrArg₂ (fun u v : EReal => u + v) (Finset.sum_congr rfl fun p _ => ?_) (Finset.sum_congr rfl fun p _ => ?_)
  · simp only [shapeCast_self, ValueIdx.truncf_apply]
    refine congrArg₂ (fun u v : EReal => u * v) ((congrFun (ld_whole _ _) _).trans ((blk_a m c t r p).trans (ab_lo m c (row t r) p).symm)) ?_
    exact (ld_at _ 0 0 512 1024 inb3 p k ⟨p.val, by omega⟩ k (by simp) (by simp)).trans (blk_w m c t _ k)
  · simp only [shapeCast_self, ValueIdx.truncf_apply]
    refine congrArg₂ (fun u v : EReal => u * v) ((congrFun (ld_whole _ _) _).trans ((blk_b m c t r p).trans (ab_hi m c (row t r) p).symm)) ?_
    exact (ld_at _ 512 0 512 1024 inb4 p k ⟨512 + p.val, by omega⟩ k rfl (by simp)).trans (blk_w m c t _ k)

theorem out7_at (t : Fin cfg0.N) (r : Fin 256) (k : Fin 1024) :
    out0_7 (iblk m c 0 t) (iblk m c 1 t) (iblk m c 2 t) (iblk m c 3 t) (iblk m c 4 t) (iblk m c 5 t) (ix2 r k) = mix m c (row t r) k := by
  unfold out0_7
  refine View.canon_apply_of_pieces (Val := Elt Ideal) (fun y : S256x1024.Idx => mix m c (row t (y 0)) (y 1)) _ ?_ _ (cover0_7 _ _)
  intro pc hpc
  obtain rfl := List.mem_singleton.mp hpc
  intro x
  obtain ⟨i, j, rfl⟩ : ∃ (i : Fin 256) (j : Fin 1024), x = ix2 i j := ⟨_, _, eq_ix2 x⟩
  refine (tile_mix m c t _ _ _ _ i j).trans (congrArg₂ (fun u v => mix m c (row t u) v) (Fin.ext ?_) (Fin.ext ?_))
  · show i.val = 0 + 1 * i.val; omega
  · show j.val = 0 + 1 * j.val; omega

theorem out6_at (t : Fin cfg0.N) (r : Fin 256) (k : Fin 1024) :
    out0_6 (iblk m c 0 t) (iblk m c 1 t) (iblk m c 2 t) (iblk m c 3 t) (iblk m c 4 t) (iblk m c 5 t) (ix2 r k)
      = a2 m c (ix3 0 (row t r) k) + gt m c k * mix m c (row t r) k := by
  unfold out0_6
  refine View.canon_apply_of_pieces (Val := Elt Ideal) (fun y : S256x1024.Idx => a2 m c (ix3 0 (row t (y 0)) (y 1)) + gt m c (y 1) * mix m c (row t (y 0)) (y 1)) _ ?_ _
    (cover0_6 _ _)
  intro pc hpc
  obtain rfl := List.mem_singleton.mp hpc
  intro x
  obtain ⟨i, j, rfl⟩ : ∃ (i : Fin 256) (j : Fin 1024), x = ix2 i j := ⟨_, _, eq_ix2 x⟩
  have ei : r0_5.idx (ix2 i j) = ix2 i j := Tile.ix2_of _ i j (by show 0 + 1 * i.val = _; omega) (by show 0 + 1 * j.val = _; omega)
  refine Eq.trans ?_ (congrArg (fun y : S256x1024.Idx => a2 m c (ix3 0 (row t (y 0)) (y 1)) + gt m c (y 1) * mix m c (row t (y 0)) (y 1)) ei.symm)
  show k0_pay4 _ _ _ _ _ _ _ (ix2 i j) = a2 m c (ix3 0 (row t i) j) + gt m c j * mix m c (row t i) j
  have hk : 2048 + j.val < 6144 := by omega
  unfold k0_pay4
  simp only [shapeCast_self, ValueIdx.addf_apply, ValueIdx.mulf_apply]
  refine congrArg₂ (fun u v : EReal => u + v) ((congrFun (ld_whole _ _) _).trans (blk_x m c t i j))
    (congrArg₂ (fun u v : EReal => u * v) ((brow_apply _ _ (by decide) i j).trans ?_) (tile_mix m c t _ _ _ _ i j))
  rw [ValueIdx.addf_apply]
  exact congrArg₂ (fun u v : EReal => u + v) ((ld_at _ 0 2048 1 1024 _ 0 j 0 ⟨2048 + j.val, hk⟩ rfl rfl).trans (blk_mod m c t _))
    ((ld_at _ 0 2048 1 1024 _ 0 j 0 ⟨2048 + j.val, hk⟩ rfl rfl).trans (blk_bias m c t _))

theorem out8_at (t : Fin cfg0.N) (r : Fin 256) (k : Fin 1024) :
    out0_8 (iblk m c 0 t) (iblk m c 1 t) (iblk m c 2 t) (iblk m c 3 t) (iblk m c 4 t) (iblk m c 5 t) (ix2 r k) = ab m c (row t r) k := by
  unfold out0_8
  refine View.canon_apply_of_pieces (Val := Elt Ideal) (fun y : S256x1024.Idx => ab m c (row t (y 0)) (y 1)) _ ?_ _ (cover0_8 _ _ _)
  intro pc hpc
  rcases List.mem_cons.mp hpc with rfl | hpc
  · intro x
    obtain ⟨i, j, rfl⟩ : ∃ (i : Fin 256) (j : Fin 512), x = ix2 i j := ⟨_, _, eq_ix2 x⟩
    have ei : r0_2.idx (ix2 i j) = ix2 i ⟨512 + j.val, by omega⟩ := Tile.ix2_of _ i _ (by show 0 + 1 * i.val = _; omega) (by show 512 + 1 * j.val = 512 + j.val; omega)
    refine Eq.trans ?_ (congrArg (fun y : S256x1024.Idx => ab m c (row t (y 0)) (y 1)) ei.symm)
    show (k0_pay2 _ : FVec Ideal S256x512 .bf16) (ix2 i j) = ab m c (row t i) ⟨512 + j.val, _⟩
    unfold k0_pay2
    simp only [shapeCast_self, ValueIdx.truncf_apply]
    exact (congrFun (ld_whole _ _) _).trans ((blk_b m c t i j).trans (ab_hi m c (row t i) j).symm)
  · obtain rfl := List.mem_singleton.mp hpc
    intro x
    obtain ⟨i, j, rfl⟩ : ∃ (i : Fin 256) (j : Fin 512), x = ix2 i j := ⟨_, _, eq_ix2 x⟩
    have ei : r0_1.idx (ix2 i j) = ix2 i ⟨j.val, by omega⟩ := Tile.ix2_of _ i _ (by show 0 + 1 * i.val = _; omega) (by show 0 + 1 * j.val = j.val; omega)
    refine Eq.trans ?_ (congrArg (fun y : S256x1024.Idx => ab m c (row t (y 0)) (y 1)) ei.symm)
    show (k0_pay1 _ : FVec Ideal S256x512 .bf16) (ix2 i j) = ab m c (row t i) ⟨j.val, _⟩
    unfold k0_pay1
    simp only [shapeCast_self, ValueIdx.truncf_apply]
    exact (congrFun (ld_whole _ _) _).trans ((blk_a m c t i j).trans (ab_lo m c (row t i) j).symm)

/-! ## The reference -/

theorem ref_ab (s : Fin 2048) (k : Fin 1024) : val_main_v9 (F := Ideal) (a0 m c) (a1 m c) (ix3 0 s k) = ab m c s k := by
  unfold val_main_v9 ab
  pointwise

theorem ref_mix (s : Fin 2048) (k : Fin 1024) : val_main_v11 (F := Ideal) (a0 m c) (a1 m c) (a5 m c) (ix3 0 s k) = mix m c s k := by
  rw [val_main_v11_apply]
  refine Finset.sum_congr rfl fun p _ => congrArg₂ (fun u v : EReal => u * v)
    ((congrArg _ (Tile.ix3_of _ 0 s p rfl rfl rfl)).trans (ref_ab m c s p)) ?_
  refine (congrArg _ (Tile.ix2_of _ p k rfl rfl)).trans ?_
  unfold val_main_v10
  exact ValueIdx.shapeCast_1ab_ab_apply _ _ p k

theorem ref_x1 (s : Fin 2048) (k : Fin 1024) : val_main_v16 (F := Ideal) (a0 m c) (a1 m c) (a2 m c) (a3 m c) (a4 m c) (a5 m c) (ix2 s k)
    = a2 m c (ix3 0 s k) + gt m c k * mix m c s k := by
  unfold val_main_v16 val_main_v15 val_main_v14 val_main_v13 val_main_v12 val_main_v5 val_main_v2 val_main_v1 val_main_v0
  pointwise [ref_mix]
  rfl

/-! ## The kernel leaves the same -/

theorem fin_x1 : (dats m 0 c).arrAt 6 cfg0.N = val_main_v16 (F := Ideal) (a0 m c) (a1 m c) (a2 m c) (a3 m c) (a4 m c) (a5 m c) := by
  refine (dats m 0 c).arrAt_eq_of_covers 6 _ (by decide +kernel) fun t hf y => ?_
  blk_simp
  rw [after0_6]
  obtain ⟨r, k, rfl⟩ : ∃ (r : Fin 256) (k : Fin 1024), y = ix2 r k := ⟨_, _, eq_ix2 y⟩
  refine (out6_at m c t r k).trans ((ref_x1 m c (row t r) k).symm.trans ?_)
  exact congrArg _ (Tile.ix2_of _ (row t r) k (Tile.tile_coord 256 r.val (idx6 t).1) (Tile.whole_coord 1024 k.val (idx6 t).2)).symm

theorem fin_mix : (dats m 0 c).arrAt 7 cfg0.N = val_main_v17 (F := Ideal) (a0 m c) (a1 m c) (a5 m c) := by
  refine (dats m 0 c).arrAt_eq_of_covers 7 _ (by decide +kernel) fun t hf y => ?_
  blk_simp
  rw [after0_7]
  obtain ⟨r, k, rfl⟩ : ∃ (r : Fin 256) (k : Fin 1024), y = ix2 r k := ⟨_, _, eq_ix2 y⟩
  have e : val_main_v17 (F := Ideal) (a0 m c) (a1 m c) (a5 m c) (ix2 (row t r) k) = mix m c (row t r) k :=
    (ValueIdx.shapeCast_1ab_ab_apply _ _ (row t r) k).trans (ref_mix m c (row t r) k)
  refine (out7_at m c t r k).trans (e.symm.trans ?_)
  exact congrArg _ (Tile.ix2_of _ (row t r) k (Tile.tile_coord 256 r.val (idx7 t).1) (Tile.whole_coord 1024 k.val (idx7 t).2)).symm

theorem fin_ab : (dats m 0 c).arrAt 8 cfg0.N = val_main_v19 (F := Ideal) (a0 m c) (a1 m c) := by
  refine (dats m 0 c).arrAt_eq_of_covers 8 _ (by decide +kernel) fun t hf y => ?_
  blk_simp
  rw [after0_8]
  obtain ⟨r, k, rfl⟩ : ∃ (r : Fin 256) (k : Fin 1024), y = ix2 r k := ⟨_, _, eq_ix2 y⟩
  have e : val_main_v19 (F := Ideal) (a0 m c) (a1 m c) (ix2 (row t r) k) = ab m c (row t r) k :=
    (ValueIdx.shapeCast_1ab_ab_apply _ _ (row t r) k).trans (ref_ab m c (row t r) k)
  refine (out8_at m c t r k).trans (e.symm.trans ?_)
  exact congrArg _ (Tile.ix2_of _ (row t r) k (Tile.tile_coord 256 r.val (idx8 t).1) (Tile.whole_coord 1024 k.val (idx8 t).2)).symm

end Cert.FwdOutIdeal.Val

end

end
-- ==== Proof.FwdInRef.lean ====
/- The forward call of the input projection: what its host lines put into the arrays the kernel reads, what each grid point leaves,
   the reference's values read at an entry, and that the two are the same. Hand-written. -/
module

public import proofs.«01_k».proof.Proof.Gen.FwdInIdeal.Value
public import proofs.«01_k».proof.Proof.Tile
public import proofs.«01_k».proof.Proof.Gen.FwdInRefIdeal.Read
public import Idealize.ShloMosaic.Lib.Pipeline.ValueKit
public import Idealize.ShloMosaic.Lib.Pointwise
public import Idealize.ShloMosaic.Lib.KernelVsHost
public import Idealize.ShloMosaic.Lib.ValueLayoutCasts

@[expose] public section

set_option maxRecDepth 16384

noncomputable section

namespace Cert.FwdInIdeal.Val

open Idealize.ShloMosaic Idealize.ShloMosaic.TcCoe Idealize.SL.Sem Cert.FwdInIdeal Cert.FwdInIdeal.Gen Cert.Tile
open Cert.FwdInRefIdeal.Read

variable (m : (ℓ : Loc nD τ sig) → Buf (Elt Ideal) ℓ) (c : Dev nD)

/-! ## The arguments -/

/-- The arguments as the reference is given them: the block's input, the modulation vectors and their bias, the norm's weight, the
    projection's weight. -/
abbrev a0 : FVec Ideal S1x2048x1024 .f32 := m ((c : Thread nD τ).loc main_arg0)
abbrev a1 : FVec Ideal S1x6144 .f32 := m ((c : Thread nD τ).loc main_arg1)
abbrev a2 : FVec Ideal S1x6144 .f32 := m ((c : Thread nD τ).loc main_arg2)
abbrev a3 : FVec Ideal S1x1024 .f32 := m ((c : Thread nD τ).loc main_arg3)
abbrev a4 : FVec Ideal S1x1024x3080 .f32 := m ((c : Thread nD τ).loc main_arg4)

/-- A row's mean square plus the small constant. -/
def ms (s : Fin 2048) : EReal := Ideal.div (∑ k : Fin 1024, a0 m c (ix3 0 s k) * a0 m c (ix3 0 s k)) (Ideal.ofBits .f32 0x44800000#32)
  + Ideal.ofBits .f32 0x358637BD#32
/-- The scale: one plus the second of the six modulation vectors. -/
def sc (k : Fin 1024) : EReal := 1 + (a1 m c (ix2 0 ⟨1024 + k.val, by omega⟩) + a2 m c (ix2 0 ⟨1024 + k.val, by omega⟩))
/-- The shift: the first of them. -/
def sh (k : Fin 1024) : EReal := a1 m c (ix2 0 ⟨k.val, by omega⟩) + a2 m c (ix2 0 ⟨k.val, by omega⟩)
/-- The normalised row, scaled and shifted. -/
def h (s : Fin 2048) (k : Fin 1024) : EReal := a0 m c (ix3 0 s k) * Ideal.rsqrt (ms m c s) * a3 m c (ix2 0 k) * sc m c k + sh m c k
/-- Its product with the weight. -/
def p (s : Fin 2048) (q : Fin 3080) : EReal := ∑ k : Fin 1024, h m c s k * a4 m c (ix3 0 k q)

/-! ## The host lines -/

theorem V_x (s : Fin 2048) (k : Fin 1024) : V m c main_v5 (ix2 s k) = a0 m c (ix3 0 s k) := by
  unfold V hostOps0 hostOps0_1 hostOps0_2
  simp only [List.flatten_cons, List.flatten_nil, List.cons_append, List.nil_append, List.append_nil]
  after_results
  pointwise

theorem V_wm (q : Fin 3080) (k : Fin 1024) : V m c main_v2 (ix2 q k) = a4 m c (ix3 0 k q) := by
  unfold V hostOps0 hostOps0_1 hostOps0_2
  simp only [List.flatten_cons, List.flatten_nil, List.cons_append, List.nil_append, List.append_nil]
  after_results
  pointwise

theorem V_v3 (q : Fin 8) (k : Fin 1024) : V m c main_v3 (ix2 q k) = a4 m c (ix3 0 k ⟨3072 + q.val, by omega⟩) := by
  unfold V hostOps0 hostOps0_1 hostOps0_2
  simp only [List.flatten_cons, List.flatten_nil, List.cons_append, List.nil_append, List.append_nil]
  after_results
  pointwise

theorem V_wb (q : Fin 128) (k : Fin 1024) :
    V m c main_v4 (ix2 q k) = if h : q.val < 8 then a4 m c (ix3 0 k ⟨3072 + q.val, by omega⟩) else (0 : EReal) := by
  have e : V m c main_v4 = pad S128x1024 ![0, 0] ![120, 0] ![0, 0] (V m c main_v3) (sitofp (F := Ideal) .bf16 (constantI S_ 32 0#32)) pads_S8x1024_S128x1024_01200_000 h_S_ := by
    unfold V hostOps0 hostOps0_1 hostOps0_2
    simp only [List.flatten_cons, List.flatten_nil, List.cons_append, List.nil_append, List.append_nil]
    after_results
    rfl
  rw [e]
  split
  next h =>
    rw [pad_apply_of_inside _ _ _ _ _ _ _ _ (ix2 ⟨q.val, h⟩ k) fun a => by
      match a with
      | ⟨0, _⟩ => show q.val = 0 + q.val * 1; omega
      | ⟨1, _⟩ => show k.val = 0 + k.val * 1; omega]
    exact V_v3 m c _ k
  next h =>
    rw [pad_apply_of_not_inside _ _ _ _ _ _ _ _ ⟨0, Nat.two_pos⟩ fun hin => h (by
      have h2 : (q.val - 0) / (0 + 1) < 8 := hin.2.2
      omega)]
    show (((0#32 : BitVec 32).toInt : ℝ) : EReal) = 0
    simp

/-! ## The windows -/

theorem lt_rows (t : Fin cfg0.N) (r : Fin 512) : 512 * t.val + r.val < 2048 := by
  have h : t.val < 4 := lt_of_lt_of_eq t.isLt N_0
  omega

/-- The row of the array that row `r` of tile `t` is. -/
abbrev row (t : Fin cfg0.N) (r : Fin 512) : Fin 2048 := ⟨512 * t.val + r.val, lt_rows t r⟩

theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = t.val ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)
theorem idx8 : ∀ t : Fin cfg0.N, win0_8.index t 0 = t.val ∧ win0_8.index t 1 = 0 := (by decide +kernel : ∀ t : Fin grid0.N, _)

abbrev bx (t : Fin cfg0.N) : Vec Ideal S512x1024 .f32 := iblk m c 0 t
abbrev bn (t : Fin cfg0.N) : Vec Ideal S1x1024 .f32 := iblk m c 1 t
abbrev bm (t : Fin cfg0.N) (o : ℕ) (inb : ∀ i, ![0, o] i + ![1, 1024] i ≤ (⟨2, ![1, 6144]⟩ : Shape).size i) : Vec Ideal S1x1024 .f32 :=
  View.ld (iblk m c 2 t : Vec Ideal S1x6144 .f32) (Rect.unit (s := ⟨2, ![1, 6144]⟩) ![0, o] ![1, 1024] inb)
abbrev bb (t : Fin cfg0.N) (o : ℕ) (inb : ∀ i, ![0, o] i + ![1, 1024] i ≤ (⟨2, ![1, 6144]⟩ : Shape).size i) : Vec Ideal S1x1024 .f32 :=
  View.ld (iblk m c 3 t : Vec Ideal S1x6144 .f32) (Rect.unit (s := ⟨2, ![1, 6144]⟩) ![0, o] ![1, 1024] inb)

theorem blk_x (t : Fin cfg0.N) (r : Fin 512) (k : Fin 1024) : bx m c t (ix2 r k) = a0 m c (ix3 0 (row t r) k) :=
  (congrArg (V m c main_v5) (Tile.ix2_of _ (row t r) k (Tile.tile_coord 512 r.val (idx0 t).1)
    (Tile.whole_coord 1024 k.val (idx0 t).2))).trans (V_x m c (row t r) k)

theorem blk_nw (t : Fin cfg0.N) (k : Fin 1024) : bn m c t (ix2 0 k) = a3 m c (ix2 0 k) :=
  (congrArg (V m c main_arg3) (Tile.ix2_of _ (0 : Fin 1) k (Tile.whole_coord 1 0 (idx1 t).1)
    (Tile.whole_coord 1024 k.val (idx1 t).2))).trans (congrFun (V_main_arg3 m c) _)

theorem bm_at (t : Fin cfg0.N) (o : ℕ) (inb : ∀ i, ![0, o] i + ![1, 1024] i ≤ (⟨2, ![1, 6144]⟩ : Shape).size i) (k : Fin 1024) (h : o + k.val < 6144) : bm m c t o inb (ix2 0 k) = a1 m c (ix2 0 ⟨o + k.val, h⟩) :=
  (ld_at _ 0 o 1 1024 inb 0 k 0 ⟨o + k.val, h⟩ rfl rfl).trans
    ((congrArg (V m c main_arg1) (Tile.ix2_of _ (0 : Fin 1) (⟨o + k.val, h⟩ : Fin 6144) (Tile.whole_coord 1 0 (idx2 t).1)
      (Tile.whole_coord 6144 (o + k.val) (idx2 t).2))).trans (congrFun (V_main_arg1 m c) _))

theorem bb_at (t : Fin cfg0.N) (o : ℕ) (inb : ∀ i, ![0, o] i + ![1, 1024] i ≤ (⟨2, ![1, 6144]⟩ : Shape).size i) (k : Fin 1024) (h : o + k.val < 6144) : bb m c t o inb (ix2 0 k) = a2 m c (ix2 0 ⟨o + k.val, h⟩) :=
  (ld_at _ 0 o 1 1024 inb 0 k 0 ⟨o + k.val, h⟩ rfl rfl).trans
    ((congrArg (V m c main_arg2) (Tile.ix2_of _ (0 : Fin 1) (⟨o + k.val, h⟩ : Fin 6144) (Tile.whole_coord 1 0 (idx3 t).1)
      (Tile.whole_coord 6144 (o + k.val) (idx3 t).2))).trans (congrFun (V_main_arg2 m c) _))

theorem blk_wm (t : Fin cfg0.N) (q : Fin 3072) (k : Fin 1024) :
    (X0_4 m c t : Vec Ideal S3072x1024 .bf16) (ix2 q k) = a4 m c (ix3 0 k ⟨q.val, by omega⟩) := by
  unfold X0_4 Pipeline.Window.fill
  rw [dif_pos (moved0_4 t _)]
  exact (congrArg (V m c main_v2) (Tile.ix2_of _ (⟨q.val, by omega⟩ : Fin 3080) k
    (Tile.whole_coord 3072 q.val (idx4 t).1)
    (Tile.whole_coord 1024 k.val (idx4 t).2))).trans (V_wm m c _ k)

theorem blk_wb (t : Fin cfg0.N) (q : Fin 128) (k : Fin 1024) :
    (iblk m c 5 t : Vec Ideal S128x1024 .bf16) (ix2 q k) = if h : q.val < 8 then a4 m c (ix3 0 k ⟨3072 + q.val, by omega⟩) else (0 : EReal) :=
  (congrArg (V m c main_v4) (Tile.ix2_of _ q k (Tile.whole_coord 128 q.val (idx5 t).1)
    (Tile.whole_coord 1024 k.val (idx5 t).2))).trans (V_wb m c q k)

/-! ## The body's expressions -/

theorem pay2_at (v0 : Vec Ideal S512x1024 .f32) (v12 v15 v16 v22 v23 : Vec Ideal S1x1024 .f32) (r : Fin 512) (k : Fin 1024) :
    k0_pay2 v0 v12 v15 v16 v22 v23 (ix2 r k)
      = v0 (ix2 r k) * Ideal.rsqrt (Ideal.div (∑ j : Fin 1024, v0 (ix2 r j) * v0 (ix2 r j)) (Ideal.ofBits .f32 0x44800000#32)
          + Ideal.ofBits .f32 0x358637BD#32) * v12 (ix2 0 k) * (1 + (v15 (ix2 0 k) + v16 (ix2 0 k))) + (v22 (ix2 0 k) + v23 (ix2 0 k)) := by
  unfold k0_pay2
  simp only [shapeCast_self, ValueIdx.truncf_apply, ValueIdx.addf_apply, ValueIdx.mulf_apply]
  refine congrArg₂ (fun u v : EReal => u + v) (congrArg₂ (fun u v : EReal => u * v) (congrArg₂ (fun u v : EReal => u * v)
    (congrArg (fun z : EReal => v0 (ix2 r k) * z) ((bcol_apply _ _ (by decide) r k).trans ?_)) (brow_apply _ _ (by decide) r k))
    ((brow_apply _ _ (by decide) r k).trans ?_)) (brow_apply _ _ (by decide) r k)
  · refine congrArg (fun z => Ideal.rsqrt (Ideal.div z _ + _)) ((ValueIdx.shapeCast_a_a1_apply _ _ r 0).trans ?_)
    exact rowsum_apply _ _ _ _ _ r
  · exact congrArg (· + _) Ideal.ofBits_one_f32

theorem tile_h (t : Fin cfg0.N) (inb1 inb1' inb0 inb0') (r : Fin 512) (k : Fin 1024) :
    k0_pay2 (bx m c t) (bn m c t) (bm m c t 1024 inb1) (bb m c t 1024 inb1') (bm m c t 0 inb0) (bb m c t 0 inb0') (ix2 r k) = h m c (row t r) k := by
  rw [pay2_at, bm_at m c t 1024 inb1 k (by omega), bb_at m c t 1024 inb1' k (by omega), bm_at m c t 0 inb0 k (by omega),
    bb_at m c t 0 inb0' k (by omega), blk_x, blk_nw]
  have e : (∑ j : Fin 1024, bx m c t (ix2 r j) * bx m c t (ix2 r j)) = ∑ j : Fin 1024, a0 m c (ix3 0 (row t r) j) * a0 m c (ix3 0 (row t r) j) :=
    Finset.sum_congr rfl fun j _ => by rw [blk_x]
  have e0 : (⟨0 + k.val, by omega⟩ : Fin 6144) = ⟨k.val, by omega⟩ := Fin.ext (Nat.zero_add _)
  rw [e, e0]
  rfl

theorem pay3_at (v0 : Vec Ideal S512x1024 .f32) (v12 v15 v16 v22 v23 : Vec Ideal S1x1024 .f32) (v29 : Vec Ideal S3072x1024 .bf16) (r : Fin 512)
    (q : Fin 3072) : k0_pay3 v0 v12 v15 v16 v22 v23 v29 (ix2 r q) = ∑ k : Fin 1024, k0_pay2 v0 v12 v15 v16 v22 v23 (ix2 r k) * v29 (ix2 q k) := by
  unfold k0_pay3
  simp only [shapeCast_self]
  exact matmul_NT _ rfl _ _ _ r q

theorem pay1_at (v27 : FVec Ideal S512x1024 .bf16) (v33 : Vec Ideal S128x1024 .bf16) (r : Fin 512) (q : Fin 128) :
    k0_pay1 v27 v33 (ix2 r q) = ∑ k : Fin 1024, v27 (ix2 r k) * v33 (ix2 q k) := by
  unfold k0_pay1
  simp only [shapeCast_self]
  exact matmul_NT _ rfl _ _ _ r q

/-! ## One grid point -/

theorem h_at (t : Fin cfg0.N) (r : Fin 512) (k : Fin 1024) : (outsAt0 m c t).2.2 (ix2 r k) = h m c (row t r) k := by
  unfold outsAt0 out0_A_8 kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, ld_whole]
  refine (whole_hit _ _ _ _ _ _ _).trans ?_
  exact tile_h m c t _ _ _ _ r k

theorem pm_at (t : Fin cfg0.N) (r : Fin 512) (q : Fin 3072) : (outsAt0 m c t).1 (ix2 r q) = p m c (row t r) ⟨q.val, by omega⟩ := by
  unfold outsAt0 out0_A_6 kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, ld_whole]
  refine (whole_hit _ _ _ _ _ _ _).trans ?_
  refine (pay3_at _ _ _ _ _ _ _ r q).trans ?_
  exact Finset.sum_congr rfl fun k _ => congrArg₂ (fun u v : EReal => u * v) (tile_h m c t _ _ _ _ r k) (blk_wm m c t q k)

theorem pb_at (t : Fin cfg0.N) (r : Fin 512) (q : Fin 128) :
    (outsAt0 m c t).2.1 (ix2 r q) = if hq : q.val < 8 then p m c (row t r) ⟨3072 + q.val, by omega⟩ else 0 := by
  unfold outsAt0 out0_A_7 kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, ld_whole]
  refine (whole_hit _ _ _ _ _ _ _).trans ?_
  refine (pay1_at _ _ r q).trans ?_
  split
  next hq => exact Finset.sum_congr rfl fun k _ => congrArg₂ (fun u v : EReal => u * v) (tile_h m c t _ _ _ _ r k) ((blk_wb m c t q k).trans (dif_pos hq))
  next hq => exact Finset.sum_eq_zero fun k _ => (congrArg (fun v : EReal => _ * v) ((blk_wb m c t q k).trans (dif_neg hq))).trans (mul_zero _)

/-! ## The reference -/

theorem ref_ms (s : Fin 2048) (k : Fin 1) : val_main_v16 (F := Ideal) (a0 m c) (ix3 0 s k) = ms m c s := by
  unfold val_main_v16 val_main_v15 val_main_v14 val_main_v13 val_main_v12 val_main_v11
  pointwise [val_main_cst, val_main_cst_0, val_main_cst_1, val_main_v10]
  rfl

theorem ref_h (s : Fin 2048) (k : Fin 1024) : val_main_v30 (F := Ideal) (a0 m c) (a1 m c) (a2 m c) (a3 m c) (ix3 0 s k) = h m c s k := by
  unfold val_main_v30 val_main_v29 val_main_v28 val_main_v27 val_main_v26 val_main_v25 val_main_v24 val_main_v23 val_main_v22 val_main_v21
    val_main_v20 val_main_v19 val_main_v18 val_main_v17 val_main_v9 val_main_v4 val_main_v3 val_main_v2 val_main_v1 val_main_v0
  pointwise [ref_ms, val_main_cst_2]
  rfl

theorem ref_p (s : Fin 2048) (q : Fin 3080) : val_main_v33 (F := Ideal) (a0 m c) (a1 m c) (a2 m c) (a3 m c) (a4 m c) (ix2 s q) = p m c s q := by
  refine (ValueIdx.shapeCast_1ab_ab_apply _ _ s q).trans ?_
  rw [val_main_v32_apply]
  refine Finset.sum_congr rfl fun k _ => congrArg₂ (fun u v : EReal => u * v)
    ((congrArg _ (Tile.ix3_of _ 0 s k rfl rfl rfl)).trans (ref_h m c s k)) ?_
  refine (congrArg _ (Tile.ix2_of _ k q rfl rfl)).trans ?_
  unfold val_main_v31
  exact ValueIdx.shapeCast_1ab_ab_apply _ _ k q

theorem ref_pm (s : Fin 2048) (q : Fin 3072) :
    val_main_v37 (F := Ideal) (a0 m c) (a1 m c) (a2 m c) (a3 m c) (a4 m c) (ix2 s q) = p m c s ⟨q.val, by omega⟩ := by
  unfold val_main_v37
  pointwise [ref_p]

theorem ref_pb (s : Fin 2048) (q : Fin 128) : val_main_v36 (F := Ideal) (a0 m c) (a1 m c) (a2 m c) (a3 m c) (a4 m c) (ix2 s q)
    = if hq : q.val < 8 then p m c s ⟨3072 + q.val, by omega⟩ else 0 := by
  unfold val_main_v36 val_main_v35 val_main_v34
  pointwise [ref_p, val_main_cst_3]

/-! ## The kernel leaves the same -/

theorem fin_pm : (dats m 0 c).arrAt 6 cfg0.N = val_main_v37 (F := Ideal) (a0 m c) (a1 m c) (a2 m c) (a3 m c) (a4 m c) := by
  refine (dats m 0 c).arrAt_eq_of_covers 6 _ (by decide +kernel) fun t hf y => ?_
  blk_simp
  rw [after0_6]
  obtain ⟨r, k, rfl⟩ : ∃ (r : Fin 512) (k : Fin 3072), y = ix2 r k := ⟨_, _, eq_ix2 y⟩
  refine (pm_at m c t r k).trans ((ref_pm m c (row t r) k).symm.trans ?_)
  exact congrArg _ (Tile.ix2_of _ (row t r) k (Tile.tile_coord 512 r.val (idx6 t).1) (Tile.whole_coord 3072 k.val (idx6 t).2)).symm

theorem fin_pb : (dats m 0 c).arrAt 7 cfg0.N = val_main_v36 (F := Ideal) (a0 m c) (a1 m c) (a2 m c) (a3 m c) (a4 m c) := by
  refine (dats m 0 c).arrAt_eq_of_covers 7 _ (by decide +kernel) fun t hf y => ?_
  blk_simp
  rw [after0_7]
  obtain ⟨r, k, rfl⟩ : ∃ (r : Fin 512) (k : Fin 128), y = ix2 r k := ⟨_, _, eq_ix2 y⟩
  refine (pb_at m c t r k).trans ((ref_pb m c (row t r) k).symm.trans ?_)
  exact congrArg _ (Tile.ix2_of _ (row t r) k (Tile.tile_coord 512 r.val (idx7 t).1) (Tile.whole_coord 128 k.val (idx7 t).2)).symm

theorem fin_h : (dats m 0 c).arrAt 8 cfg0.N = val_main_v39 (F := Ideal) (a0 m c) (a1 m c) (a2 m c) (a3 m c) := by
  refine (dats m 0 c).arrAt_eq_of_covers 8 _ (by decide +kernel) fun t hf y => ?_
  blk_simp
  rw [after0_8]
  obtain ⟨r, k, rfl⟩ : ∃ (r : Fin 512) (k : Fin 1024), y = ix2 r k := ⟨_, _, eq_ix2 y⟩
  have e : val_main_v39 (F := Ideal) (a0 m c) (a1 m c) (a2 m c) (a3 m c) (ix2 (row t r) k) = h m c (row t r) k :=
    (ValueIdx.shapeCast_1ab_ab_apply _ _ (row t r) k).trans (ref_h m c (row t r) k)
  refine (h_at m c t r k).trans (e.symm.trans ?_)
  exact congrArg _ (Tile.ix2_of _ (row t r) k (Tile.tile_coord 512 r.val (idx8 t).1) (Tile.whole_coord 1024 k.val (idx8 t).2)).symm

end Cert.FwdInIdeal.Val

end

end
-- ==== Proof.ScanRef.lean ====
/- The forward scan of the gated delta rule: the recurrence over the chunks, and that the reference's loop computes it.
   Hand-written. -/
module

public import proofs.«01_k».proof.Proof.Gen.ScanRefIdeal.Step
public import proofs.«01_k».proof.Proof.Tile
public import Idealize.ShloMosaic.Lib.DynamicIndex
public import Idealize.ShloMosaic.Lib.Pointwise

@[expose] public section

set_option maxRecDepth 16384

noncomputable section

namespace Cert.Scan

open Idealize.ShloMosaic

/-! ## The recurrence -/

/-- What the recurrence reads of chunk `n` and head `h`: queries and keys with their decays, the two right-hand sides, the scores
    inside the chunk, the chunk's decay. -/
structure Args where
  q : ℕ → Fin 4 → Fin 64 → Fin 128 → EReal
  k : ℕ → Fin 4 → Fin 64 → Fin 128 → EReal
  w : ℕ → Fin 4 → Fin 64 → Fin 128 → EReal
  u : ℕ → Fin 4 → Fin 64 → Fin 128 → EReal
  qk : ℕ → Fin 4 → Fin 64 → Fin 64 → EReal
  cd : ℕ → Fin 4 → EReal

variable (A : Args) (S : Fin 128 → Fin 128 → EReal) (n : ℕ) (h : Fin 4)

/-- The values a chunk adds, given the state before it. -/
def vnew (i : Fin 64) (j : Fin 128) : EReal := A.u n h i j - ∑ c, A.w n h i c * S c j
/-- A chunk's output, given the state before it. -/
def out (i : Fin 64) (j : Fin 128) : EReal := ∑ c, A.q n h i c * S c j + ∑ r, A.qk n h i r * vnew A S n h r j
/-- The state after a chunk, given the state before it. -/
def next (i j : Fin 128) : EReal := S i j * A.cd n h + ∑ r, A.k n h r i * vnew A S n h r j
/-- The state before chunk `n`. -/
def St : ℕ → Fin 128 → Fin 128 → EReal
  | 0 => fun _ _ => 0
  | n + 1 => next A (St n) n h

/-- A head's output divided by the root of its mean square, scaled, and gated by `z`. -/
def gate (o : Fin 128 → EReal) (nw z : EReal) (j : Fin 128) : EReal :=
  o j * Ideal.rsqrt (Ideal.div (∑ x, o x * o x) (Ideal.ofBits .f32 0x43000000#32) + Ideal.ofBits .f32 0x358637BD#32) * nw
    * (z * Ideal.div 1 (1 + Ideal.exp (-z)))

end Cert.Scan

namespace Cert.ScanRefIdeal.Val

open Idealize.ShloMosaic Idealize.ShloMosaic.TcCoe Idealize.SL.Sem Cert.ScanRefIdeal Cert.ScanRefIdeal.Step Cert.Tile Cert.Scan
open Idealize.ShloMosaic.StableHlo

theorem word : ∀ j : Fin 32, (BitVec.ofNat 32 j.val).toInt = (j.val : Int) := by decide

theorem fits5 (j : Fin 32) : S32x1x4x64x128.Slices ![j.val, 0, 0, 0, 0] S1x1x4x64x128 :=
  ⟨rfl, fun a => by
    match a with
    | ⟨0, _⟩ => show j.val + 1 ≤ 32; omega
    | ⟨1, _⟩ => exact Nat.le_refl _
    | ⟨2, _⟩ => exact Nat.le_refl _
    | ⟨3, _⟩ => exact Nat.le_refl _
    | ⟨4, _⟩ => exact Nat.le_refl _⟩

theorem fitsQK (j : Fin 32) : S32x1x4x64x64.Slices ![j.val, 0, 0, 0, 0] S1x1x4x64x64 :=
  ⟨rfl, fun a => by
    match a with
    | ⟨0, _⟩ => show j.val + 1 ≤ 32; omega
    | ⟨1, _⟩ => exact Nat.le_refl _
    | ⟨2, _⟩ => exact Nat.le_refl _
    | ⟨3, _⟩ => exact Nat.le_refl _
    | ⟨4, _⟩ => exact Nat.le_refl _⟩

theorem fits3 (j : Fin 32) : S32x1x4.Slices ![j.val, 0, 0] S1x1x4 :=
  ⟨rfl, fun a => by
    match a with
    | ⟨0, _⟩ => show j.val + 1 ≤ 32; omega
    | ⟨1, _⟩ => exact Nat.le_refl _
    | ⟨2, _⟩ => exact Nat.le_refl _⟩

variable (j : Fin 32) (s : State Ideal) (h : Fin 4)

/-- A loop's start of a slice, axis by axis: the trip's number, then zeros. -/
theorem start5 (x : S_.Idx) (f : Fin 5 → (⟨S_, .i32⟩ : BufTy).Contents (Elt Ideal)) (h0 : f 0 = constantI S_ 32 (BitVec.ofNat 32 j.val))
    (hz : ∀ a : Fin 4, f a.succ = constantI S_ 32 0#32) (a : Fin 5) :
    (f a x).toInt = ((![j.val, 0, 0, 0, 0] : Fin 5 → ℕ) a : Int) := by
  refine Fin.cases ?_ (fun b => ?_) a
  · rw [h0]; exact word j
  · rw [hz b]; fin_cases b <;> rfl

theorem zeros (b : Fin 4) : (![constantI S_ 32 0#32, constantI S_ 32 0#32, constantI S_ 32 0#32, constantI S_ 32 0#32] :
    Fin 4 → (⟨S_, .i32⟩ : BufTy).Contents (Elt Ideal)) b = constantI S_ 32 0#32 := by fin_cases b <;> rfl

/-! ## What a trip reads -/

theorem q_at (i : Fin 64) (k : Fin 128) : b5 j.val s (ix4 0 h i k) = s.main_v3_0 (ix5 j 0 h i k) := by
  unfold b5 b4
  rw [Host.dynamicSlice_eq_extractStridedSlice _ _ _ ![j.val, 0, 0, 0, 0] _ (fits5 j) (start5 j _ _ rfl zeros)]
  pointwise

theorem k_at (i : Fin 64) (k : Fin 128) : b11 j.val s (ix4 0 h i k) = s.main_v3_1 (ix5 j 0 h i k) := by
  unfold b11 b10
  rw [Host.dynamicSlice_eq_extractStridedSlice _ _ _ ![j.val, 0, 0, 0, 0] _ (fits5 j) (start5 j _ _ rfl zeros)]
  pointwise

theorem w_at (i : Fin 64) (k : Fin 128) : b17 j.val s (ix4 0 h i k) = s.main_v3_2 (ix5 j 0 h i k) := by
  unfold b17 b16
  rw [Host.dynamicSlice_eq_extractStridedSlice _ _ _ ![j.val, 0, 0, 0, 0] _ (fits5 j) (start5 j _ _ rfl zeros)]
  pointwise

theorem u_at (i : Fin 64) (k : Fin 128) : b23 j.val s (ix4 0 h i k) = s.main_v3_3 (ix5 j 0 h i k) := by
  unfold b23 b22
  rw [Host.dynamicSlice_eq_extractStridedSlice _ _ _ ![j.val, 0, 0, 0, 0] _ (fits5 j) (start5 j _ _ rfl zeros)]
  pointwise

theorem qk_at (i k : Fin 64) : b29 j.val s (ix4 0 h i k) = s.main_v3_4 (ix5 j 0 h i k) := by
  unfold b29 b28
  rw [Host.dynamicSlice_eq_extractStridedSlice _ _ _ ![j.val, 0, 0, 0, 0] _ (fitsQK j) (start5 j _ _ rfl zeros)]
  pointwise

theorem cd_at : b33 j.val s (ix2 0 h) = s.main_v3_5 (ix3 j 0 h) := by
  unfold b33 b32
  rw [Host.dynamicSlice_eq_extractStridedSlice _ _ _ ![j.val, 0, 0] _ (fits3 j) (fun a => by
    match a with
    | ⟨0, _⟩ => exact word j
    | ⟨1, _⟩ => rfl
    | ⟨2, _⟩ => rfl)]
  pointwise

/-! ## A trip -/

/-- The arguments of the recurrence in the arrays a state carries. -/
def args : Args where
  q n h i k := s.main_v3_0 (ix5 (Fin.ofNat 32 n) 0 h i k)
  k n h i k := s.main_v3_1 (ix5 (Fin.ofNat 32 n) 0 h i k)
  w n h i k := s.main_v3_2 (ix5 (Fin.ofNat 32 n) 0 h i k)
  u n h i k := s.main_v3_3 (ix5 (Fin.ofNat 32 n) 0 h i k)
  qk n h i k := s.main_v3_4 (ix5 (Fin.ofNat 32 n) 0 h i k)
  cd n h := s.main_v3_5 (ix3 (Fin.ofNat 32 n) 0 h)

/-- A head's state. -/
def hd (i k : Fin 128) : EReal := s.main_v3_7 (ix4 0 h i k)

theorem num : Fin.ofNat 32 j.val = j := Fin.ext (Nat.mod_eq_of_lt j.isLt)

theorem vnew_at (i : Fin 64) (k : Fin 128) : b35 j.val s (ix4 0 h i k) = vnew (args s) (hd s h) j.val h i k := by
  unfold b35 b34 vnew args hd
  simp only [num]
  pointwise [w_at, u_at]

theorem out_at (i : Fin 64) (k : Fin 128) : b38 j.val s (ix4 0 h i k) = out (args s) (hd s h) j.val h i k := by
  unfold b38 b36 b37 out
  pointwise [q_at, qk_at, vnew_at]
  unfold args hd
  simp only [num]

theorem next_at (i k : Fin 128) : b43 j.val s (ix4 0 h i k) = next (args s) (hd s h) j.val h i k := by
  unfold b43 b41 b40 b39 b42 next
  pointwise [k_at, cd_at, vnew_at]
  unfold args hd
  simp only [num]

/-- The trip's slice of an array of chunks is replaced, the rest is kept. -/
theorem clamp5 {P Q : ℕ} (start : Fin 5 → Int) (ht) (hs : ∀ a, start a = ((![j.val, 0, 0, 0, 0] : Fin 5 → ℕ) a : Int)) (a : Fin 5) :
    Host.clampedStart ⟨5, ![32, 1, 4, P, Q]⟩ ⟨5, ![1, 1, 4, P, Q]⟩ ht start a = (![j.val, 0, 0, 0, 0] : Fin 5 → ℕ) a :=
  Host.clampedStart_of_le ht start a _ (hs a) (by
    match a with
    | ⟨0, _⟩ => show j.val + 1 ≤ 32; omega
    | ⟨1, _⟩ => exact Nat.le_of_eq (Nat.zero_add _)
    | ⟨2, _⟩ => exact Nat.le_of_eq (Nat.zero_add _)
    | ⟨3, _⟩ => exact Nat.le_of_eq (Nat.zero_add _)
    | ⟨4, _⟩ => exact Nat.le_of_eq (Nat.zero_add _))

theorem put_hit {P Q : ℕ} (X : (⟨5, ![32, 1, 4, P, Q]⟩ : Shape).Idx → EReal) (U : (⟨5, ![1, 1, 4, P, Q]⟩ : Shape).Idx → EReal)
    (start : Fin 5 → Int) (hf) (hs : ∀ a, start a = ((![j.val, 0, 0, 0, 0] : Fin 5 → ℕ) a : Int)) (i : Fin P) (k : Fin Q) :
    Host.dynamicUpdateSlice X U start hf (ix5 j 0 h i k) = U (ix5 0 0 h i k) := by
  have hc := clamp5 j (P := P) (Q := Q) start hf.1 hs
  rw [Host.dynamicUpdateSlice_apply, dif_pos fun a => by
    rw [hc a]
    match a with
    | ⟨0, _⟩ => exact ⟨Nat.le_refl _, Nat.lt_succ_self _⟩
    | ⟨1, _⟩ => exact ⟨Nat.zero_le _, Nat.one_pos⟩
    | ⟨2, _⟩ => exact ⟨Nat.zero_le _, (Nat.zero_add 4).symm ▸ h.isLt⟩
    | ⟨3, _⟩ => exact ⟨Nat.zero_le _, (Nat.zero_add P).symm ▸ i.isLt⟩
    | ⟨4, _⟩ => exact ⟨Nat.zero_le _, (Nat.zero_add Q).symm ▸ k.isLt⟩]
  congr 1
  funext a; apply Fin.ext
  match a with
  | ⟨0, _⟩ => exact (congrArg (fun z => j.val - z) (hc 0)).trans (Nat.sub_self _)
  | ⟨1, _⟩ => exact (congrArg (fun z => 0 - z) (hc 1)).trans rfl
  | ⟨2, _⟩ => exact (congrArg (fun z => h.val - z) (hc 2)).trans rfl
  | ⟨3, _⟩ => exact (congrArg (fun z => i.val - z) (hc 3)).trans rfl
  | ⟨4, _⟩ => exact (congrArg (fun z => k.val - z) (hc 4)).trans rfl

theorem put_miss {P Q : ℕ} (X : (⟨5, ![32, 1, 4, P, Q]⟩ : Shape).Idx → EReal) (U : (⟨5, ![1, 1, 4, P, Q]⟩ : Shape).Idx → EReal)
    (start : Fin 5 → Int) (hf) (hs : ∀ a, start a = ((![j.val, 0, 0, 0, 0] : Fin 5 → ℕ) a : Int)) (n : Fin 32) (hn : n.val < j.val) (i : Fin P)
    (k : Fin Q) : Host.dynamicUpdateSlice X U start hf (ix5 n 0 h i k) = X (ix5 n 0 h i k) := by
  have hc := clamp5 j (P := P) (Q := Q) start hf.1 hs
  rw [Host.dynamicUpdateSlice_apply, dif_neg fun hin => by
    have h0 := (hin 0).1
    rw [hc 0] at h0
    exact absurd (lt_of_lt_of_le hn h0) (lt_irrefl _)]

/-! ## The loop -/

section Loop
variable (x0 x1 x2 x3 : FVec Ideal S32x1x4x64x128 .f32) (x4 : FVec Ideal S32x1x4x64x64 .f32) (x5 : FVec Ideal S32x1x4 .f32)

/-- The states of the loop. -/
def iter : ℕ → State Ideal
  | 0 => init x0 x1 x2 x3 x4 x5
  | n + 1 => step n (iter n)

/-- The arguments of the recurrence. -/
def A : Args := args (init x0 x1 x2 x3 x4 x5)

theorem args_iter : ∀ n, args (iter x0 x1 x2 x3 x4 x5 n) = A x0 x1 x2 x3 x4 x5
  | 0 => rfl
  | n + 1 => args_iter n

theorem st_iter : ∀ n ≤ 32, hd (iter x0 x1 x2 x3 x4 x5 n) h = St (A x0 x1 x2 x3 x4 x5) h n
  | 0, _ => by
    funext i k
    show K_main_v0 (F := Ideal) (ix4 0 h i k) = 0
    unfold K_main_v0 K_main_cst
    pointwise
  | n + 1, hn => by
    funext i k
    refine (next_at ⟨n, hn⟩ (iter x0 x1 x2 x3 x4 x5 n) h i k).trans ?_
    rw [args_iter, st_iter n (Nat.le_of_succ_le hn)]
    rfl

theorem o_iter (c : Fin 32) (i : Fin 64) (k : Fin 128) : ∀ n ≤ 32, c.val < n →
    (iter x0 x1 x2 x3 x4 x5 n).main_v3_8 (ix5 c 0 h i k) = out (A x0 x1 x2 x3 x4 x5) (St (A x0 x1 x2 x3 x4 x5) h c.val) c.val h i k
  | 0, _, hc => absurd hc (Nat.not_lt_zero _)
  | n + 1, hn, hc => by
    show b49 n (iter x0 x1 x2 x3 x4 x5 n) (ix5 c 0 h i k) = _
    unfold b49
    rcases Nat.lt_succ_iff_lt_or_eq.mp hc with hl | he
    · refine (put_miss ⟨n, hn⟩ h _ _ _ _ (start5 ⟨n, hn⟩ _ _ rfl zeros) c hl i k).trans ?_
      exact o_iter c i k n (Nat.le_of_succ_le hn) hl
    · obtain rfl : c = ⟨n, hn⟩ := Fin.ext he
      refine (put_hit ⟨n, hn⟩ h _ _ _ _ (start5 ⟨n, hn⟩ _ _ rfl zeros) i k).trans ?_
      refine Eq.trans (b := b38 n (iter x0 x1 x2 x3 x4 x5 n) (ix4 0 h i k)) ?_ ?_
      · unfold b44; pointwise
      · refine (out_at ⟨n, hn⟩ (iter x0 x1 x2 x3 x4 x5 n) h i k).trans ?_
        rw [args_iter, st_iter h _ _ _ _ _ _ n (Nat.le_of_succ_le hn)]

theorem s_iter (c : Fin 32) (i k : Fin 128) : ∀ n ≤ 32, c.val < n →
    (iter x0 x1 x2 x3 x4 x5 n).main_v3_9 (ix5 c 0 h i k) = St (A x0 x1 x2 x3 x4 x5) h c.val i k
  | 0, _, hc => absurd hc (Nat.not_lt_zero _)
  | n + 1, hn, hc => by
    show b55 n (iter x0 x1 x2 x3 x4 x5 n) (ix5 c 0 h i k) = _
    unfold b55
    rcases Nat.lt_succ_iff_lt_or_eq.mp hc with hl | he
    · refine (put_miss ⟨n, hn⟩ h _ _ _ _ (start5 ⟨n, hn⟩ _ _ rfl zeros) c hl i k).trans ?_
      exact s_iter c i k n (Nat.le_of_succ_le hn) hl
    · obtain rfl : c = ⟨n, hn⟩ := Fin.ext he
      refine (put_hit ⟨n, hn⟩ h _ _ _ _ (start5 ⟨n, hn⟩ _ _ rfl zeros) i k).trans ?_
      refine Eq.trans (b := hd (iter x0 x1 x2 x3 x4 x5 n) h i k) ?_ ?_
      · unfold b50 hd; pointwise
      · rw [st_iter h _ _ _ _ _ _ n (Nat.le_of_succ_le hn)]

/-! ## The results -/

variable (x6 : FVec Ideal S1x2048x3080 .f32) (x7 : FVec Ideal S1x128 .f32)

/-- Row `r` of the sequence lies in chunk `r / 64`, at place `r % 64`; column `k` in head `k / 128`, at place `k % 128`. -/
def ch (r : Fin 2048) : Fin 32 := ⟨r.val / 64, by omega⟩
def pl (r : Fin 2048) : Fin 64 := ⟨r.val % 64, by omega⟩
def he (k : Fin 512) : Fin 4 := ⟨k.val / 128, by omega⟩
def la (k : Fin 512) : Fin 128 := ⟨k.val % 128, by omega⟩

/-- The recurrence's outputs as rows. -/
def O (r : Fin 2048) (k : Fin 512) : EReal :=
  out (A x0 x1 x2 x3 x4 x5) (St (A x0 x1 x2 x3 x4 x5) (he k) (ch r).val) (ch r).val (he k) (pl r) (la k)

theorem o_at (r : Fin 2048) (k : Fin 512) : R_main_v25 (iter x0 x1 x2 x3 x4 x5 32) (ix2 r k) = O x0 x1 x2 x3 x4 x5 r k := by
  refine Eq.trans ?_ (o_iter (he k) x0 x1 x2 x3 x4 x5 (ch r) (pl r) (la k) 32 le_rfl (ch r).isLt)
  unfold R_main_v25
  pointwise
  rfl

theorem states_at (c : Fin 32) (i k : Fin 128) : R_main_v26 (iter x0 x1 x2 x3 x4 x5 32) (ix4 c h i k) = St (A x0 x1 x2 x3 x4 x5) h c.val i k := by
  refine Eq.trans ?_ (s_iter h x0 x1 x2 x3 x4 x5 c i k 32 le_rfl c.isLt)
  unfold R_main_v26
  pointwise

/-- The gated rows. -/
def Y (r : Fin 2048) (k : Fin 512) : EReal :=
  gate (out (A x0 x1 x2 x3 x4 x5) (St (A x0 x1 x2 x3 x4 x5) (he k) (ch r).val) (ch r).val (he k) (pl r)) (x7 (ix2 0 (la k)))
    (x6 (ix3 0 r ⟨2560 + k.val, by omega⟩)) (la k)

theorem y_at (r : Fin 2048) (k : Fin 512) : R_main_v24 (iter x0 x1 x2 x3 x4 x5 32) x6 x7 (ix2 r k) = Y x0 x1 x2 x3 x4 x5 x6 x7 r k := by
  unfold Y
  rw [← funext fun x : Fin 128 => o_iter (he k) x0 x1 x2 x3 x4 x5 (ch r) (pl r) x 32 le_rfl (ch r).isLt]
  unfold R_main_v24
  pointwise
  rfl

end Loop

end Cert.ScanRefIdeal.Val
-- ==== Proof.ScanPt.lean ====
/- The forward scan of the gated delta rule: what one grid point, four chunks of four heads, leaves. Hand-written. -/
module

public import proofs.«01_k».proof.Proof.Gen.ScanIdeal.Value
public import proofs.«01_k».proof.Proof.ScanRef
public import proofs.«01_k».proof.Proof.Bands

@[expose] public section

set_option maxRecDepth 65536

noncomputable section

namespace Cert.ScanIdeal.Val

open Idealize.ShloMosaic Idealize.ShloMosaic.TcCoe Idealize.SL.Sem Cert.ScanIdeal Cert.ScanIdeal.Gen Cert.Tile Cert.Scan

/-! ## A chunk of a head -/

abbrev Sq := FVec Ideal S1x128x128 .f32

/-- The values a chunk adds. -/
def tv (S : Sq) (u : FVec Ideal S64x128 .f32) (w : FVec Ideal S64x128 .bf16) : FVec Ideal S64x128 .f32 := k0_pay6 S u w
/-- The chunk's output. -/
def ob (S : Sq) (u : FVec Ideal S64x128 .f32) (w q : FVec Ideal S64x128 .bf16) (qk : FVec Ideal S1x1x64x64 .bf16) : FVec Ideal S64x128 .f32 :=
  k0_pay22 (k0_pay19 (tv S u w)) (k0_pay20 (k0_pay5 S) q) (k0_pay21 qk)
/-- The state after the chunk. -/
def tn (S : Sq) (u : FVec Ideal S64x128 .f32) (w k : FVec Ideal S64x128 .bf16) (cd : FVec Ideal S1x1x1 .f32) : Sq :=
  k0_pay23 (k0_pay3 S) (k0_pay19 (tv S u w)) cd k
/-- The gated output. -/
def tg (o z : FVec Ideal S64x128 .f32) (nw : FVec Ideal S1x128 .f32) : FVec Ideal S64x128 .f32 := k0_pay34 o z nw

theorem tv_at (S : Sq) (u w) (i : Fin 64) (j : Fin 128) : tv S u w (ix2 i j) = u (ix2 i j) - ∑ c, w (ix2 i c) * S (ix3 0 c j) := by
  unfold tv k0_pay6 k0_pay5 k0_pay3
  pointwise

theorem ob_at (S : Sq) (u w q qk) (i : Fin 64) (j : Fin 128) :
    ob S u w q qk (ix2 i j) = ∑ c, q (ix2 i c) * S (ix3 0 c j) + ∑ r, qk (ix4 0 0 i r) * tv S u w (ix2 r j) := by
  unfold ob k0_pay22 k0_pay19 k0_pay20 k0_pay5 k0_pay3 k0_pay21
  pointwise

theorem tn_at (S : Sq) (u w k cd) (i j : Fin 128) :
    tn S u w k cd (ix3 0 i j) = S (ix3 0 i j) * cd (ix3 0 0 0) + ∑ r, k (ix2 r i) * tv S u w (ix2 r j) := by
  unfold tn k0_pay23 k0_pay3 k0_pay19
  pointwise

theorem tg_at (o z nw) (i : Fin 64) (j : Fin 128) : tg o z nw (ix2 i j) = gate (fun x => o (ix2 i x)) (nw (ix2 0 j)) (z (ix2 i j)) j := by
  unfold tg k0_pay34 gate
  pointwise
  rfl

/-! ## The four states, read after they were written -/

section Slabs
variable {κ : Kind} {sp : Space} {sg : RefSig} {A M N : ℕ} (v : View sg κ sp ⟨3, ![A, M, N]⟩ .f32)

/-- A head's state just written reads back. -/
theorem slab_same (L : List (View.Piece (Elt Ideal) (⟨3, ![A, M, N]⟩ : Shape) .f32)) (o : ℕ)
    (inb inb' : ∀ i, (![o, 0, 0] : Fin 3 → ℕ) i + (![1, M, N] : Fin 3 → ℕ) i ≤ (⟨3, ![A, M, N]⟩ : Shape).size i) (T : (⟨3, ![1, M, N]⟩ : Shape).Idx → Elt Ideal .f32) :
    v.readCov (Val := Elt Ideal) ((⟨Rect.unit (s := ⟨3, ![A, M, N]⟩) ![o, 0, 0] ![1, M, N] inb, T⟩ : View.Piece (Elt Ideal) (⟨3, ![A, M, N]⟩ : Shape) .f32) :: L)
      (Rect.unit (s := ⟨3, ![A, M, N]⟩) ![o, 0, 0] ![1, M, N] inb').toLoadRect = T := by
  funext x
  obtain ⟨a, i, j, rfl⟩ : ∃ (a : Fin 1) (i : Fin M) (j : Fin N), x = ix3 a i j := ⟨_, _, _, eq_ix3 x⟩
  obtain rfl : a = 0 := Subsingleton.elim _ _
  have ho : o < A := inb 0
  exact (slab_cov v _ o 0 M inb' i ⟨o, ho⟩ rfl i (Nat.zero_add _).symm j).trans (slab_hit v _ o inb T L ⟨o, ho⟩ rfl i j)

/-- Another head's state is as it was. -/
theorem slab_skip (L : List (View.Piece (Elt Ideal) (⟨3, ![A, M, N]⟩ : Shape) .f32)) (o p : ℕ) (h : o ≠ p)
    (inb : ∀ i, (![p, 0, 0] : Fin 3 → ℕ) i + (![1, M, N] : Fin 3 → ℕ) i ≤ (⟨3, ![A, M, N]⟩ : Shape).size i)
    (inb' : ∀ i, (![o, 0, 0] : Fin 3 → ℕ) i + (![1, M, N] : Fin 3 → ℕ) i ≤ (⟨3, ![A, M, N]⟩ : Shape).size i) (T : (⟨3, ![1, M, N]⟩ : Shape).Idx → Elt Ideal .f32) :
    v.readCov (Val := Elt Ideal) ((⟨Rect.unit (s := ⟨3, ![A, M, N]⟩) ![p, 0, 0] ![1, M, N] inb, T⟩ : View.Piece (Elt Ideal) (⟨3, ![A, M, N]⟩ : Shape) .f32) :: L)
      (Rect.unit (s := ⟨3, ![A, M, N]⟩) ![o, 0, 0] ![1, M, N] inb').toLoadRect
      = v.readCov L (Rect.unit (s := ⟨3, ![A, M, N]⟩) ![o, 0, 0] ![1, M, N] inb').toLoadRect := by
  funext x
  obtain ⟨a, i, j, rfl⟩ : ∃ (a : Fin 1) (i : Fin M) (j : Fin N), x = ix3 a i j := ⟨_, _, _, eq_ix3 x⟩
  obtain rfl : a = 0 := Subsingleton.elim _ _
  have ho : o < A := inb' 0
  exact (slab_cov v _ o 0 M inb' i ⟨o, ho⟩ rfl i (Nat.zero_add _).symm j).trans
    ((slab_miss v _ p inb T L ⟨o, ho⟩ h i j).trans (slab_cov v _ o 0 M inb' i ⟨o, ho⟩ rfl i (Nat.zero_add _).symm j).symm)

/-- All four states written at once. -/
theorem slab_all (o : ℕ) (inb) (inb' : ∀ i, (![o, 0, 0] : Fin 3 → ℕ) i + (![1, M, N] : Fin 3 → ℕ) i ≤ (⟨3, ![A, M, N]⟩ : Shape).size i)
    (T : (⟨3, ![A, M, N]⟩ : Shape).Idx → Elt Ideal .f32) (h : Fin A) (ho : h.val = o) (i : Fin M) (j : Fin N) :
    v.readCov (Val := Elt Ideal) [(⟨Rect.unit (s := ⟨3, ![A, M, N]⟩) ![0, 0, 0] ![A, M, N] inb, T⟩ : View.Piece (Elt Ideal) (⟨3, ![A, M, N]⟩ : Shape) .f32)]
      (Rect.unit (s := ⟨3, ![A, M, N]⟩) ![o, 0, 0] ![1, M, N] inb').toLoadRect (ix3 0 i j) = T (ix3 h i j) :=
  (slab_cov v _ o 0 M inb' i h ho i (Nat.zero_add _).symm j).trans
    (View.read_writes_cons_unit_of_mem v _ inb T [] (ix3 h i j) (ix3 h i j) rfl fun a => by
      match a with
      | ⟨0, _⟩ => exact (Nat.zero_add _).symm
      | ⟨1, _⟩ => exact (Nat.zero_add _).symm
      | ⟨2, _⟩ => exact (Nat.zero_add _).symm)

end Slabs

/-! ## The states between a point's chunks -/

section Point
variable (x0 : Vec Ideal S256x512 .bf16) (x1 : Vec Ideal S256x512 .f32) (x2 : Vec Ideal S256x512 .bf16) (x3 : Vec Ideal S256x512 .bf16)
  (x4 : Vec Ideal S4x4x64x64 .bf16) (x5 : Vec Ideal S4x8x128 .f32) (x6 : Vec Ideal S256x512 .f32) (x7 : Vec Ideal S1x128 .f32)
  (T : Fin 4 → Sq) (n h : Fin 4)

theorem inb_tile : ∀ a, (![64 * n.val, 128 * h.val] : Fin 2 → ℕ) a + (![64, 128] : Fin 2 → ℕ) a ≤ S256x512.size a := fun a => by
  match a with
  | ⟨0, _⟩ => show 64 * n.val + 64 ≤ 256; omega
  | ⟨1, _⟩ => show 128 * h.val + 128 ≤ 512; omega

/-- The rows of chunk `n` and the columns of head `h`. -/
def cut {e : EltTy} (x : Vec Ideal S256x512 e) : Vec Ideal S64x128 e := View.ld x (Rect.unit (s := S256x512) ![64 * n.val, 128 * h.val] ![64, 128] (inb_tile n h))

theorem inb_qk : ∀ a, (![n.val, h.val, 0, 0] : Fin 4 → ℕ) a + (![1, 1, 64, 64] : Fin 4 → ℕ) a ≤ S4x4x64x64.size a := fun a => by
  match a with
  | ⟨0, _⟩ => exact n.isLt
  | ⟨1, _⟩ => exact h.isLt
  | ⟨2, _⟩ => exact Nat.le_refl _
  | ⟨3, _⟩ => exact Nat.le_refl _

def cutQK (x : Vec Ideal S4x4x64x64 .bf16) : Vec Ideal S1x1x64x64 .bf16 := View.ld x (Rect.unit (s := S4x4x64x64) ![n.val, h.val, 0, 0] ![1, 1, 64, 64] (inb_qk n h))

theorem inb_cd : ∀ a, (![n.val, 0, h.val] : Fin 3 → ℕ) a + (![1, 1, 1] : Fin 3 → ℕ) a ≤ S4x8x128.size a := fun a => by
  match a with
  | ⟨0, _⟩ => exact n.isLt
  | ⟨1, _⟩ => exact Nat.le_of_ble_eq_true rfl
  | ⟨2, _⟩ => show h.val + 1 ≤ 128; omega

def cutCD (x : Vec Ideal S4x8x128 .f32) : Vec Ideal S1x1x1 .f32 := View.ld x (Rect.unit (s := S4x8x128) ![n.val, 0, h.val] ![1, 1, 1] (inb_cd n h))

/-- Head `h`'s state before the point's chunk `n`. -/
def ts : ℕ → Sq
  | 0 => T h
  | n + 1 => tn (ts n) (cut (Fin.ofNat 4 n) h x1) (cut (Fin.ofNat 4 n) h x0) (cut (Fin.ofNat 4 n) h x3) (cutCD (Fin.ofNat 4 n) h x5)

/-- Head `h`'s output of the point's chunk `n`. -/
def tout : FVec Ideal S64x128 .f32 :=
  ob (ts x0 x1 x3 x5 T h n.val) (cut n h x1) (cut n h x0) (cut n h x2) (cutQK n h x4)

end Point

end Cert.ScanIdeal.Val
-- ==== Proof.ScanIn.lean ====
/- The forward scan of the gated delta rule: what the host lines put into the arrays the kernel reads, and what a grid point reads of
   them for a chunk and a head. Hand-written. -/
module

public import proofs.«01_k».proof.Proof.ScanPt
public import Idealize.ShloMosaic.Lib.Pipeline.ValueKit

@[expose] public section

set_option maxRecDepth 16384

noncomputable section

namespace Cert.ScanIdeal.Val

open Idealize.ShloMosaic Idealize.ShloMosaic.TcCoe Idealize.SL.Sem Cert.ScanIdeal Cert.ScanIdeal.Gen Cert.Scan
open Cert.ScanRefIdeal.Val (ch pl he la)

variable (m : (ℓ : Loc nD τ sig) → Buf (Elt Ideal) ℓ) (c : Dev nD)

/-! ## The arguments -/

/-- Queries and keys with their decays, the two right-hand sides, the scores inside the chunks, the chunks' decays, the projected
    rows with the gate's columns, the norm's weight. -/
abbrev a0 : FVec Ideal S32x1x4x64x128 .f32 := m ((c : Thread nD τ).loc main_arg0)
abbrev a1 : FVec Ideal S32x1x4x64x128 .f32 := m ((c : Thread nD τ).loc main_arg1)
abbrev a2 : FVec Ideal S32x1x4x64x128 .f32 := m ((c : Thread nD τ).loc main_arg2)
abbrev a3 : FVec Ideal S32x1x4x64x128 .f32 := m ((c : Thread nD τ).loc main_arg3)
abbrev a4 : FVec Ideal S32x1x4x64x64 .f32 := m ((c : Thread nD τ).loc main_arg4)
abbrev a5 : FVec Ideal S32x1x4 .f32 := m ((c : Thread nD τ).loc main_arg5)
abbrev a6 : FVec Ideal S1x2048x3080 .f32 := m ((c : Thread nD τ).loc main_arg6)
abbrev a7 : FVec Ideal S1x128 .f32 := m ((c : Thread nD τ).loc main_arg7)
/-- What the recurrence reads. -/
abbrev AA : Args := Cert.ScanRefIdeal.Val.A (a0 m c) (a1 m c) (a2 m c) (a3 m c) (a4 m c) (a5 m c)

/-! ## The host lines -/

theorem V_w (r : Fin 2048) (k : Fin 512) : V m c main_v5 (ix2 r k) = a2 m c (ix5 (ch r) 0 (he k) (pl r) (la k)) := by
  unfold V hostOps0 hostOps0_1 hostOps0_2
  simp only [List.flatten_cons, List.flatten_nil, List.cons_append, List.nil_append, List.append_nil]
  after_results
  pointwise
  rfl

theorem V_u (r : Fin 2048) (k : Fin 512) : V m c main_v8 (ix2 r k) = a3 m c (ix5 (ch r) 0 (he k) (pl r) (la k)) := by
  unfold V hostOps0 hostOps0_1 hostOps0_2
  simp only [List.flatten_cons, List.flatten_nil, List.cons_append, List.nil_append, List.append_nil]
  after_results
  pointwise
  rfl

theorem V_q (r : Fin 2048) (k : Fin 512) : V m c main_v12 (ix2 r k) = a0 m c (ix5 (ch r) 0 (he k) (pl r) (la k)) := by
  unfold V hostOps0 hostOps0_1 hostOps0_2
  simp only [List.flatten_cons, List.flatten_nil, List.cons_append, List.nil_append, List.append_nil]
  after_results
  pointwise
  rfl

theorem V_k (r : Fin 2048) (k : Fin 512) : V m c main_v16 (ix2 r k) = a1 m c (ix5 (ch r) 0 (he k) (pl r) (la k)) := by
  unfold V hostOps0 hostOps0_1 hostOps0_2
  simp only [List.flatten_cons, List.flatten_nil, List.cons_append, List.nil_append, List.append_nil]
  after_results
  pointwise
  rfl

theorem V_qk (n : Fin 32) (h : Fin 4) (i k : Fin 64) : V m c main_v18 (ix4 n h i k) = a4 m c (ix5 n 0 h i k) := by
  unfold V hostOps0 hostOps0_1 hostOps0_2
  simp only [List.flatten_cons, List.flatten_nil, List.cons_append, List.nil_append, List.append_nil]
  after_results
  pointwise

theorem V_cd (n : Fin 32) (h : Fin 4) : V m c main_v1 (ix3 n 0 ⟨h.val, by omega⟩) = a5 m c (ix3 n 0 h) := by
  unfold V hostOps0 hostOps0_1 hostOps0_2
  simp only [List.flatten_cons, List.flatten_nil, List.cons_append, List.nil_append, List.append_nil]
  after_results
  simp only [StableHlo.TRef.toBuf, StableHlo.TRef.ofBuf, cast_eq]
  pointwise

theorem V_z (r : Fin 2048) (k : Fin 3072) : V m c main_v20 (ix2 r k) = a6 m c (ix3 0 r ⟨k.val, by omega⟩) := by
  unfold V hostOps0 hostOps0_1 hostOps0_2
  simp only [List.flatten_cons, List.flatten_nil, List.cons_append, List.nil_append, List.append_nil]
  after_results
  pointwise

/-! ## The windows -/

theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = t.val ∧ win0_4.index t 1 = 0 ∧ win0_4.index t 2 = 0 ∧ win0_4.index t 3 = 0 :=
  (by decide +kernel : ∀ t : Fin grid0.N, _)
theorem idx5 : ∀ t : Fin cfg0.N, win0_5.index t 0 = t.val ∧ win0_5.index t 1 = 0 ∧ win0_5.index t 2 = 0 := (by decide +kernel : ∀ t : Fin grid0.N, _)
theorem idx6 : ∀ t : Fin cfg0.N, win0_6.index t 0 = t.val ∧ win0_6.index t 1 = 5 := (by decide +kernel : ∀ t : Fin grid0.N, _)
theorem idx7 : ∀ t : Fin cfg0.N, win0_7.index t 0 = 0 ∧ win0_7.index t 1 = 0 := (by decide +kernel : ∀ t : Fin grid0.N, _)
theorem idx8 : ∀ t : Fin cfg0.N, win0_8.index t 0 = t.val ∧ win0_8.index t 1 = 0 := (by decide +kernel : ∀ t : Fin grid0.N, _)
theorem idx9 : ∀ t : Fin cfg0.N, win0_9.index t 0 = t.val ∧ win0_9.index t 1 = 0 := (by decide +kernel : ∀ t : Fin grid0.N, _)
theorem idx10 : ∀ t : Fin cfg0.N, win0_10.index t 0 = t.val ∧ win0_10.index t 1 = 0 ∧ win0_10.index t 2 = 0 ∧ win0_10.index t 3 = 0 :=
  (by decide +kernel : ∀ t : Fin grid0.N, _)

theorem lt_pts (t : Fin cfg0.N) : t.val < 8 := lt_of_lt_of_eq t.isLt N_0

/-- The row of the sequence that place `i` of chunk `n` of point `t` is; the column that place `j` of head `h` is. -/
def row (t : Fin cfg0.N) (n : Fin 4) (i : Fin 64) : Fin 2048 := ⟨256 * t.val + (64 * n.val + i.val), by have := lt_pts t; omega⟩
def col (h : Fin 4) (j : Fin 128) : Fin 512 := ⟨128 * h.val + j.val, by omega⟩

variable (t : Fin cfg0.N) (n h : Fin 4)

theorem ch_row (i : Fin 64) : ch (row t n i) = Fin.ofNat 32 (4 * t.val + n.val) := Fin.ext (by
  have := lt_pts t
  show (256 * t.val + (64 * n.val + i.val)) / 64 = (4 * t.val + n.val) % 32
  omega)
theorem pl_row (i : Fin 64) : pl (row t n i) = i := Fin.ext (by show (256 * t.val + (64 * n.val + i.val)) % 64 = i.val; omega)
theorem he_col (j : Fin 128) : he (col h j) = h := Fin.ext (by show (128 * h.val + j.val) / 128 = h.val; omega)
theorem la_col (j : Fin 128) : la (col h j) = j := Fin.ext (by show (128 * h.val + j.val) % 128 = j.val; omega)

/-- The place of a chunk's row in a tile that starts at the point's first row, and of a head's column in a whole row. -/
theorem at_row {w : ℕ} (i : Fin 64) (hw : w = t.val) : w * 256 + 1 * (64 * n.val + 1 * i.val) = (row t n i).val := by
  subst hw; show _ = 256 * t.val + (64 * n.val + i.val); omega
theorem at_col {w : ℕ} (j : Fin 128) (hw : w = 0) : w * 512 + 1 * (128 * h.val + 1 * j.val) = (col h j).val := by
  subst hw; show _ = 128 * h.val + j.val; omega

theorem cut_w (i : Fin 64) (j : Fin 128) :
    cut (e := .bf16) n h (iblk m c 0 t) (ix2 i j) = (AA m c).w (4 * t.val + n.val) h i j := by
  refine (congrArg (V m c main_v5) (Tile.ix2_of _ (row t n i) (col h j) (at_row t n i (idx0 t).1) (at_col h j (idx0 t).2))).trans ((V_w m c (row t n i) (col h j)).trans ?_)
  rw [ch_row, pl_row, he_col, la_col]
  rfl

theorem cut_u (i : Fin 64) (j : Fin 128) :
    cut (e := .f32) n h (iblk m c 1 t) (ix2 i j) = (AA m c).u (4 * t.val + n.val) h i j := by
  refine (congrArg (V m c main_v8) (Tile.ix2_of _ (row t n i) (col h j) (at_row t n i (idx1 t).1) (at_col h j (idx1 t).2))).trans ((V_u m c (row t n i) (col h j)).trans ?_)
  rw [ch_row, pl_row, he_col, la_col]
  rfl

theorem cut_q (i : Fin 64) (j : Fin 128) :
    cut (e := .bf16) n h (iblk m c 2 t) (ix2 i j) = (AA m c).q (4 * t.val + n.val) h i j := by
  refine (congrArg (V m c main_v12) (Tile.ix2_of _ (row t n i) (col h j) (at_row t n i (idx2 t).1) (at_col h j (idx2 t).2))).trans ((V_q m c (row t n i) (col h j)).trans ?_)
  rw [ch_row, pl_row, he_col, la_col]
  rfl

theorem cut_k (i : Fin 64) (j : Fin 128) :
    cut (e := .bf16) n h (iblk m c 3 t) (ix2 i j) = (AA m c).k (4 * t.val + n.val) h i j := by
  refine (congrArg (V m c main_v16) (Tile.ix2_of _ (row t n i) (col h j) (at_row t n i (idx3 t).1) (at_col h j (idx3 t).2))).trans ((V_k m c (row t n i) (col h j)).trans ?_)
  rw [ch_row, pl_row, he_col, la_col]
  rfl

/-- The chunk of the sequence that chunk `n` of point `t` is. -/
theorem at_chunk {w : ℕ} (hw : w = t.val) : w * 4 + 1 * (n.val + 1 * 0) = (Fin.ofNat 32 (4 * t.val + n.val)).val := by
  have := lt_pts t
  subst hw; show _ = (4 * t.val + n.val) % 32; omega

theorem cut_qk (i k : Fin 64) : cutQK n h (iblk m c 4 t) (ix4 0 0 i k) = (AA m c).qk (4 * t.val + n.val) h i k := by
  refine (congrArg (V m c main_v18) (a₂ := ix4 (Fin.ofNat 32 (4 * t.val + n.val)) h i k) ?_).trans (V_qk m c _ h i k)
  obtain ⟨e0, e1, e2, e3⟩ := idx4 t
  funext a; apply Fin.ext
  match a with
  | ⟨0, _⟩ => exact at_chunk t n e0
  | ⟨1, _⟩ => show win0_4.index t 1 * 4 + 1 * (h.val + 1 * 0) = h.val; omega
  | ⟨2, _⟩ => show win0_4.index t 2 * 64 + 1 * (0 + 1 * i.val) = i.val; omega
  | ⟨3, _⟩ => show win0_4.index t 3 * 64 + 1 * (0 + 1 * k.val) = k.val; omega

theorem cut_cd : cutCD n h (iblk m c 5 t) (ix3 0 0 0) = (AA m c).cd (4 * t.val + n.val) h := by
  refine (congrArg (V m c main_v1) (a₂ := ix3 (Fin.ofNat 32 (4 * t.val + n.val)) 0 ⟨h.val, by omega⟩) ?_).trans (V_cd m c _ h)
  obtain ⟨e0, e1, e2⟩ := idx5 t
  funext a; apply Fin.ext
  match a with
  | ⟨0, _⟩ => exact at_chunk t n e0
  | ⟨1, _⟩ => show win0_5.index t 1 * 8 + 1 * (0 + 1 * 0) = 0; omega
  | ⟨2, _⟩ => show win0_5.index t 2 * 128 + 1 * (h.val + 1 * 0) = h.val; omega

theorem cut_z (i : Fin 64) (j : Fin 128) :
    cut (e := .f32) n h (iblk m c 6 t) (ix2 i j) = a6 m c (ix3 0 (row t n i) ⟨2560 + (col h j).val, by omega⟩) := by
  refine (congrArg (V m c main_v20) (Tile.ix2_of _ (row t n i) ⟨2560 + (col h j).val, by omega⟩ (at_row t n i (idx6 t).1) ?_)).trans (V_z m c _ _)
  have e := (idx6 t).2
  show win0_6.index t 1 * 512 + 1 * (128 * h.val + 1 * j.val) = 2560 + (128 * h.val + j.val)
  omega

theorem blk_nw (j : Fin 128) : (iblk m c 7 t : Vec Ideal S1x128 .f32) (ix2 0 j) = a7 m c (ix2 0 j) :=
  (congrArg (V m c main_arg7) (Tile.ix2_of _ (0 : Fin 1) j (Tile.whole_coord 1 0 (idx7 t).1)
    (Tile.whole_coord 128 j.val (idx7 t).2))).trans (congrFun (V_main_arg7 m c) _)

end Cert.ScanIdeal.Val
-- ==== Proof.ScanBody.lean ====
/- The forward scan of the gated delta rule: the four results of a grid point, at its first visit and later. Hand-written. -/
module

public import proofs.«01_k».proof.Proof.ScanPt

@[expose] public section
set_option maxRecDepth 65536
noncomputable section
namespace Cert.ScanIdeal.Val

open Idealize.ShloMosaic Idealize.ShloMosaic.TcCoe Idealize.SL.Sem Cert.ScanIdeal Cert.ScanIdeal.Gen Cert.Tile Cert.Scan

section
variable (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4x4x64x64 .bf16) (harg5 : arg5.IsWhole) (arg6 : Memref sig .tc .vmem S4x8x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S4x4x128x128 .f32) (harg11 : arg11.IsWhole) (arg12 : Memref sig .tc .vmem S4x128x128 .f32) (harg12 : arg12.IsWhole) (hc0 : ¬cond0_0 i) (hc1 : cond0_0 i)
   (x0 : Vec Ideal S256x512 .bf16) (x1 : Vec Ideal S256x512 .f32) (x2 : Vec Ideal S256x512 .bf16) (x3 : Vec Ideal S256x512 .bf16) (x4 : Vec Ideal S4x4x64x64 .bf16) (x5 : Vec Ideal S4x8x128 .f32) (x6 : Vec Ideal S256x512 .f32) (x7 : Vec Ideal S1x128 .f32) (xs0 : Vec Ideal S4x128x128 .f32)

theorem inb_st (h : Fin 4) : ∀ a, (![h.val, 0, 0] : Fin 3 → ℕ) a + (![1, 128, 128] : Fin 3 → ℕ) a ≤ S4x128x128.size a := fun a => by
  match a with
  | ⟨0, _⟩ => exact h.isLt
  | ⟨1, _⟩ => exact Nat.le_refl _
  | ⟨2, _⟩ => exact Nat.le_refl _

/-- The states a later grid point starts from. -/
def t0 (h : Fin 4) : Sq := View.ld xs0 (Rect.unit (s := S4x128x128) ![h.val, 0, 0] ![1, 128, 128] (inb_st h))

theorem inb_sin (n h : Fin 4) : ∀ a, (![n.val, h.val, 0, 0] : Fin 4 → ℕ) a + (![1, 1, 128, 128] : Fin 4 → ℕ) a ≤ S4x4x128x128.size a := fun a => by
  match a with
  | ⟨0, _⟩ => exact n.isLt
  | ⟨1, _⟩ => exact h.isLt
  | ⟨2, _⟩ => exact Nat.le_refl _
  | ⟨3, _⟩ => exact Nat.le_refl _

set_option maxHeartbeats 4000000 in
theorem o_B (G : S256x512.Idx → EReal)
    (hG : ∀ (n h : Fin 4) x, tout x0 x1 x2 x3 x4 x5 (t0 xs0) n h x = G ((Rect.unit (s := S256x512) ![64 * n.val, 128 * h.val] ![64, 128] (inb_tile n h)).emb x)) (y : S256x512.Idx) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 y = G y := by
  unfold out0_B_9
  rw [View.read_writes_junk_eq_canon]
  refine View.canon_apply_of_pieces (Val := Elt Ideal) G _ ?_ y (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 y)
  unfold kernelRun0_B
  dsimp only
  sl_unfold_words
  simp only [View.readAt_eq_ld, Memref.IsWhole.read_unread, ld_whole, List.forall_mem_cons, slab_same, slab_skip, ne_eq, Nat.reduceEqDiff, not_false_eq_true, OfNat.ofNat_ne_zero, OfNat.zero_ne_ofNat, one_ne_zero, zero_ne_one, OfNat.ofNat_ne_one, OfNat.one_ne_ofNat]
  exact ⟨hG 3 3, hG 3 2, hG 3 1, hG 3 0, hG 2 3, hG 2 2, hG 2 1, hG 2 0, hG 1 3, hG 1 2, hG 1 1, hG 1 0, hG 0 3, hG 0 2, hG 0 1, hG 0 0, fun _ h => absurd h List.not_mem_nil⟩

set_option maxHeartbeats 4000000 in
theorem y_B (G : S256x512.Idx → EReal)
    (hG : ∀ (n h : Fin 4) x, tg (tout x0 x1 x2 x3 x4 x5 (t0 xs0) n h) (cut n h x6) x7 x = G ((Rect.unit (s := S256x512) ![64 * n.val, 128 * h.val] ![64, 128] (inb_tile n h)).emb x)) (y : S256x512.Idx) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 y = G y := by
  unfold out0_B_8
  rw [View.read_writes_junk_eq_canon]
  refine View.canon_apply_of_pieces (Val := Elt Ideal) G _ ?_ y (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 y)
  unfold kernelRun0_B
  dsimp only
  sl_unfold_words
  simp only [View.readAt_eq_ld, Memref.IsWhole.read_unread, ld_whole, List.forall_mem_cons, slab_same, slab_skip, ne_eq, Nat.reduceEqDiff, not_false_eq_true, OfNat.ofNat_ne_zero, OfNat.zero_ne_ofNat, one_ne_zero, zero_ne_one, OfNat.ofNat_ne_one, OfNat.one_ne_ofNat]
  exact ⟨hG 3 3, hG 3 2, hG 3 1, hG 3 0, hG 2 3, hG 2 2, hG 2 1, hG 2 0, hG 1 3, hG 1 2, hG 1 1, hG 1 0, hG 0 3, hG 0 2, hG 0 1, hG 0 0, fun _ h => absurd h List.not_mem_nil⟩

set_option maxHeartbeats 4000000 in
theorem s_B (G : S4x4x128x128.Idx → EReal)
    (hG : ∀ (n h : Fin 4) x, k0_pay4 (F := Ideal) (ts x0 x1 x3 x5 (t0 xs0) h n.val) x = G ((Rect.unit (s := S4x4x128x128) ![n.val, h.val, 0, 0] ![1, 1, 128, 128] (inb_sin n h)).emb x)) (y : S4x4x128x128.Idx) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 y = G y := by
  unfold out0_B_10
  rw [View.read_writes_junk_eq_canon]
  refine View.canon_apply_of_pieces (Val := Elt Ideal) G _ ?_ y (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 y)
  unfold kernelRun0_B
  dsimp only
  sl_unfold_words
  simp only [View.readAt_eq_ld, Memref.IsWhole.read_unread, ld_whole, List.forall_mem_cons, slab_same, slab_skip, ne_eq, Nat.reduceEqDiff, not_false_eq_true, OfNat.ofNat_ne_zero, OfNat.zero_ne_ofNat, one_ne_zero, zero_ne_one, OfNat.ofNat_ne_one, OfNat.one_ne_ofNat]
  exact ⟨hG 3 3, hG 3 2, hG 3 1, hG 3 0, hG 2 3, hG 2 2, hG 2 1, hG 2 0, hG 1 3, hG 1 2, hG 1 1, hG 1 0, hG 0 3, hG 0 2, hG 0 1, hG 0 0, fun _ h => absurd h List.not_mem_nil⟩

set_option maxHeartbeats 4000000 in
theorem st_B (h : Fin 4) (p q : Fin 128) :
    sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 (ix3 h p q) = ts x0 x1 x3 x5 (t0 xs0) h 4 (ix3 0 p q) := by
  unfold sout0_B_0 kernelRun0_B
  dsimp only
  sl_unfold_words
  simp only [View.readAt_eq_ld, Memref.IsWhole.read_unread, ld_whole, slab_same, slab_skip, ne_eq, Nat.reduceEqDiff, not_false_eq_true, OfNat.ofNat_ne_zero, OfNat.zero_ne_ofNat, one_ne_zero, zero_ne_one, OfNat.ofNat_ne_one, OfNat.one_ne_ofNat]
  match h with
  | ⟨3, _⟩ => exact slab_hit _ _ 3 _ _ _ _ rfl p q
  | ⟨2, _⟩ => exact (slab_miss _ _ 3 _ _ _ _ (show (2:ℕ) ≠ 3 by decide) p q).trans (slab_hit _ _ 2 _ _ _ _ rfl p q)
  | ⟨1, _⟩ => exact (slab_miss _ _ 3 _ _ _ _ (show (1:ℕ) ≠ 3 by decide) p q).trans ((slab_miss _ _ 2 _ _ _ _ (show (1:ℕ) ≠ 2 by decide) p q).trans (slab_hit _ _ 1 _ _ _ _ rfl p q))
  | ⟨0, _⟩ => exact (slab_miss _ _ 3 _ _ _ _ (show (0:ℕ) ≠ 3 by decide) p q).trans ((slab_miss _ _ 2 _ _ _ _ (show (0:ℕ) ≠ 2 by decide) p q).trans ((slab_miss _ _ 1 _ _ _ _ (show (0:ℕ) ≠ 1 by decide) p q).trans (slab_hit _ _ 0 _ _ _ _ rfl p q)))

/-- The states a first grid point starts from, all zero. -/
def z0 (h : Fin 4) : Sq :=
  arg12.view.readCov (Val := Elt Ideal) [⟨Rect.unit (s := S4x128x128) ![0, 0, 0] S4x128x128.size inb_S4x128x128_S4x128x128_0_0_0, k0_pay2 (F := Ideal)⟩]
    (Rect.unit (s := S4x128x128) ![h.val, 0, 0] ![1, 128, 128] (inb_st h)).toLoadRect

set_option maxHeartbeats 4000000 in
theorem o_A (G : S256x512.Idx → EReal)
    (hG : ∀ (n h : Fin 4) x, tout x0 x1 x2 x3 x4 x5 (z0 arg12) n h x = G ((Rect.unit (s := S256x512) ![64 * n.val, 128 * h.val] ![64, 128] (inb_tile n h)).emb x)) (y : S256x512.Idx) :
    out0_A_9 c i arg1 harg1 arg2 harg2 arg3 harg3 arg4 harg4 arg5 harg5 arg6 harg6 arg7 harg7 arg8 harg8 arg9 harg9 arg10 harg10 arg11 harg11 arg12 harg12 hc1 x0 x1 x2 x3 x4 x5 x6 x7 y = G y := by
  unfold out0_A_9
  rw [View.read_writes_junk_eq_canon]
  refine View.canon_apply_of_pieces (Val := Elt Ideal) G _ ?_ y (cover0_A_9 c i arg1 harg1 arg2 harg2 arg3 harg3 arg4 harg4 arg5 harg5 arg6 harg6 arg7 harg7 arg8 harg8 arg9 harg9 arg10 harg10 arg11 harg11 arg12 harg12 hc1 x0 x1 x2 x3 x4 x5 x6 x7 y)
  unfold kernelRun0_A
  dsimp only
  sl_unfold_words
  simp only [View.readAt_eq_ld, Memref.IsWhole.read_unread, ld_whole, List.forall_mem_cons, slab_same, slab_skip, ne_eq, Nat.reduceEqDiff, not_false_eq_true, OfNat.ofNat_ne_zero, OfNat.zero_ne_ofNat, one_ne_zero, zero_ne_one, OfNat.ofNat_ne_one, OfNat.one_ne_ofNat]
  exact ⟨hG 3 3, hG 3 2, hG 3 1, hG 3 0, hG 2 3, hG 2 2, hG 2 1, hG 2 0, hG 1 3, hG 1 2, hG 1 1, hG 1 0, hG 0 3, hG 0 2, hG 0 1, hG 0 0, fun _ h => absurd h List.not_mem_nil⟩

set_option maxHeartbeats 4000000 in
theorem y_A (G : S256x512.Idx → EReal)
    (hG : ∀ (n h : Fin 4) x, tg (tout x0 x1 x2 x3 x4 x5 (z0 arg12) n h) (cut n h x6) x7 x = G ((Rect.unit (s := S256x512) ![64 * n.val, 128 * h.val] ![64, 128] (inb_tile n h)).emb x)) (y : S256x512.Idx) :
    out0_A_8 c i arg1 harg1 arg2 harg2 arg3 harg3 arg4 harg4 arg5 harg5 arg6 harg6 arg7 harg7 arg8 harg8 arg9 harg9 arg10 harg10 arg11 harg11 arg12 harg12 hc1 x0 x1 x2 x3 x4 x5 x6 x7 y = G y := by
  unfold out0_A_8
  rw [View.read_writes_junk_eq_canon]
  refine View.canon_apply_of_pieces (Val := Elt Ideal) G _ ?_ y (cover0_A_8 c i arg1 harg1 arg2 harg2 arg3 harg3 arg4 harg4 arg5 harg5 arg6 harg6 arg7 harg7 arg8 harg8 arg9 harg9 arg10 harg10 arg11 harg11 arg12 harg12 hc1 x0 x1 x2 x3 x4 x5 x6 x7 y)
  unfold kernelRun0_A
  dsimp only
  sl_unfold_words
  simp only [View.readAt_eq_ld, Memref.IsWhole.read_unread, ld_whole, List.forall_mem_cons, slab_same, slab_skip, ne_eq, Nat.reduceEqDiff, not_false_eq_true, OfNat.ofNat_ne_zero, OfNat.zero_ne_ofNat, one_ne_zero, zero_ne_one, OfNat.ofNat_ne_one, OfNat.one_ne_ofNat]
  exact ⟨hG 3 3, hG 3 2, hG 3 1, hG 3 0, hG 2 3, hG 2 2, hG 2 1, hG 2 0, hG 1 3, hG 1 2, hG 1 1, hG 1 0, hG 0 3, hG 0 2, hG 0 1, hG 0 0, fun _ h => absurd h List.not_mem_nil⟩

set_option maxHeartbeats 4000000 in
theorem s_A (G : S4x4x128x128.Idx → EReal)
    (hG : ∀ (n h : Fin 4) x, k0_pay4 (F := Ideal) (ts x0 x1 x3 x5 (z0 arg12) h n.val) x = G ((Rect.unit (s := S4x4x128x128) ![n.val, h.val, 0, 0] ![1, 1, 128, 128] (inb_sin n h)).emb x)) (y : S4x4x128x128.Idx) :
    out0_A_10 c i arg1 harg1 arg2 harg2 arg3 harg3 arg4 harg4 arg5 harg5 arg6 harg6 arg7 harg7 arg8 harg8 arg9 harg9 arg10 harg10 arg11 harg11 arg12 harg12 hc1 x0 x1 x2 x3 x4 x5 x6 x7 y = G y := by
  unfold out0_A_10
  rw [View.read_writes_junk_eq_canon]
  refine View.canon_apply_of_pieces (Val := Elt Ideal) G _ ?_ y (cover0_A_10 c i arg1 harg1 arg2 harg2 arg3 harg3 arg4 harg4 arg5 harg5 arg6 harg6 arg7 harg7 arg8 harg8 arg9 harg9 arg10 harg10 arg11 harg11 arg12 harg12 hc1 x0 x1 x2 x3 x4 x5 x6 x7 y)
  unfold kernelRun0_A
  dsimp only
  sl_unfold_words
  simp only [View.readAt_eq_ld, Memref.IsWhole.read_unread, ld_whole, List.forall_mem_cons, slab_same, slab_skip, ne_eq, Nat.reduceEqDiff, not_false_eq_true, OfNat.ofNat_ne_zero, OfNat.zero_ne_ofNat, one_ne_zero, zero_ne_one, OfNat.ofNat_ne_one, OfNat.one_ne_ofNat]
  exact ⟨hG 3 3, hG 3 2, hG 3 1, hG 3 0, hG 2 3, hG 2 2, hG 2 1, hG 2 0, hG 1 3, hG 1 2, hG 1 1, hG 1 0, hG 0 3, hG 0 2, hG 0 1, hG 0 0, fun _ h => absurd h List.not_mem_nil⟩

set_option maxHeartbeats 4000000 in
theorem st_A (h : Fin 4) (p q : Fin 128) :
    sout0_A_0 c i arg1 harg1 arg2 harg2 arg3 harg3 arg4 harg4 arg5 harg5 arg6 harg6 arg7 harg7 arg8 harg8 arg9 harg9 arg10 harg10 arg11 harg11 arg12 harg12 hc1 x0 x1 x2 x3 x4 x5 x6 x7 (ix3 h p q) = ts x0 x1 x3 x5 (z0 arg12) h 4 (ix3 0 p q) := by
  unfold sout0_A_0 kernelRun0_A
  dsimp only
  sl_unfold_words
  simp only [View.readAt_eq_ld, Memref.IsWhole.read_unread, ld_whole, slab_same, slab_skip, ne_eq, Nat.reduceEqDiff, not_false_eq_true, OfNat.ofNat_ne_zero, OfNat.zero_ne_ofNat, one_ne_zero, zero_ne_one, OfNat.ofNat_ne_one, OfNat.one_ne_ofNat]
  match h with
  | ⟨3, _⟩ => exact slab_hit _ _ 3 _ _ _ _ rfl p q
  | ⟨2, _⟩ => exact (slab_miss _ _ 3 _ _ _ _ (show (2:ℕ) ≠ 3 by decide) p q).trans (slab_hit _ _ 2 _ _ _ _ rfl p q)
  | ⟨1, _⟩ => exact (slab_miss _ _ 3 _ _ _ _ (show (1:ℕ) ≠ 3 by decide) p q).trans ((slab_miss _ _ 2 _ _ _ _ (show (1:ℕ) ≠ 2 by decide) p q).trans (slab_hit _ _ 1 _ _ _ _ rfl p q))
  | ⟨0, _⟩ => exact (slab_miss _ _ 3 _ _ _ _ (show (0:ℕ) ≠ 3 by decide) p q).trans ((slab_miss _ _ 2 _ _ _ _ (show (0:ℕ) ≠ 2 by decide) p q).trans ((slab_miss _ _ 1 _ _ _ _ (show (0:ℕ) ≠ 1 by decide) p q).trans (slab_hit _ _ 0 _ _ _ _ rfl p q)))

end
end Cert.ScanIdeal.Val
-- ==== Proof.ScanVal.lean ====
/- The forward scan of the gated delta rule: the states between the grid points, and that the kernel's three results are the
   reference's. Hand-written. -/
module

public import proofs.«01_k».proof.Proof.ScanIn
public import proofs.«01_k».proof.Proof.ScanBody

@[expose] public section

set_option maxRecDepth 16384

noncomputable section

namespace Cert.ScanIdeal.Val

open Idealize.ShloMosaic Idealize.ShloMosaic.TcCoe Idealize.SL.Sem Cert.ScanIdeal Cert.ScanIdeal.Gen Cert.Scan
open Cert.ScanRefIdeal.Val (ch pl he la)

variable (m : (ℓ : Loc nD τ sig) → Buf (Elt Ideal) ℓ) (c : Dev nD)

/-! ## A point, given the states before it -/

section Point
variable (t : Fin cfg0.N) (T : Fin 4 → Sq) (hT : ∀ h i j, T h (ix3 0 i j) = St (AA m c) h (4 * t.val) i j)
include hT

theorem ts_pt (h : Fin 4) : ∀ n ≤ 4, ∀ i j : Fin 128,
    ts (iblk m c 0 t) (iblk m c 1 t) (iblk m c 3 t) (iblk m c 5 t) T h n (ix3 0 i j) = St (AA m c) h (4 * t.val + n) i j
  | 0, _, i, j => hT h i j
  | n + 1, hn, i, j => by
    have e : (Fin.ofNat 4 n).val = n := Nat.mod_eq_of_lt hn
    show tn (ts (iblk m c 0 t) (iblk m c 1 t) (iblk m c 3 t) (iblk m c 5 t) T h n) (cut (e := .f32) (Fin.ofNat 4 n) h (iblk m c 1 t))
      (cut (e := .bf16) (Fin.ofNat 4 n) h (iblk m c 0 t)) (cut (e := .bf16) (Fin.ofNat 4 n) h (iblk m c 3 t)) (cutCD (Fin.ofNat 4 n) h (iblk m c 5 t)) (ix3 0 i j) = _
    rw [tn_at]
    simp only [tv_at, cut_w, cut_u, cut_k, cut_cd, e, ts_pt h n (Nat.le_of_succ_le hn)]
    rfl

theorem tout_pt (n h : Fin 4) (i : Fin 64) (j : Fin 128) :
    tout (iblk m c 0 t) (iblk m c 1 t) (iblk m c 2 t) (iblk m c 3 t) (iblk m c 4 t) (iblk m c 5 t) T n h (ix2 i j)
      = out (AA m c) (St (AA m c) h (4 * t.val + n.val)) (4 * t.val + n.val) h i j := by
  unfold tout
  rw [ob_at]
  simp only [tv_at, cut_w, cut_u, cut_q, cut_qk, ts_pt m c t T hT h n.val (Nat.le_of_lt n.isLt)]
  rfl

end Point

/-! ## The states between the points -/

/-- The first point starts from zero. -/
theorem start_A (t : Fin cfg0.N) (h0 : t.val % 8 = 0) (h : Fin 4) (i j : Fin 128) : z0 scM0_0 h (ix3 0 i j) = St (AA m c) h (4 * t.val) i j := by
  have e : t.val = 0 := by have := lt_pts t; omega
  rw [e]
  refine (slab_all _ h.val _ _ _ h rfl i j).trans ?_
  show k0_pay2 (F := Ideal) (ix3 h i j) = 0
  unfold k0_pay2
  pointwise

/-- A later point starts from what the point before left. -/
theorem start_B (xs : Vec Ideal S4x128x128 .f32) (h : Fin 4) (i j : Fin 128) : t0 xs h (ix3 0 i j) = xs (ix3 h i j) :=
  congrArg xs (Tile.ix3_of _ h i j (by show h.val + 1 * 0 = h.val; omega) (by show 0 + 1 * i.val = i.val; omega) (by show 0 + 1 * j.val = j.val; omega))

theorem states : ∀ (n : ℕ) (hn : n < cfg0.N) (h : Fin 4) (i j : Fin 128), (outsAt0 m c n hn).2.2.2 (ix3 h i j) = St (AA m c) h (4 * (n + 1)) i j
  | 0, hn, h, i, j => by
    rw [outsAt0_A m c ⟨0, hn⟩ rfl]
    dsimp only
    refine (st_A (h := h) (p := i) (q := j) ..).trans ?_
    exact ts_pt m c ⟨0, hn⟩ _ (start_A m c ⟨0, hn⟩ rfl) h 4 le_rfl i j
  | n + 1, hn, h, i, j => by
    have h0 : ¬(n + 1) % 8 = 0 := by have := lt_pts ⟨n + 1, hn⟩; dsimp only at this; omega
    rw [outsAt0_B m c ⟨n + 1, hn⟩ h0]
    dsimp only
    refine (st_B (h := h) (p := i) (q := j) ..).trans ?_
    exact ts_pt m c ⟨n + 1, hn⟩ _ (fun h i j => (start_B _ h i j).trans (states n (Nat.lt_of_succ_lt hn) h i j)) h 4 le_rfl i j

theorem start_prev (t : Fin cfg0.N) (h0 : ¬t.val % 8 = 0) (h : Fin 4) (i j : Fin 128) :
    t0 (outsAt0 m c (t.val - 1) (Nat.lt_of_le_of_lt (Nat.sub_le _ _) t.isLt)).2.2.2 h (ix3 0 i j) = St (AA m c) h (4 * t.val) i j := by
  refine (start_B _ h i j).trans ((states m c _ _ h i j).trans ?_)
  have e : t.val - 1 + 1 = t.val := Nat.sub_add_cancel (Nat.one_le_iff_ne_zero.mpr fun e => h0 (by rw [e]))
  rw [e]

/-! ## A point's three results -/

/-- The recurrence's output at a row and a column, the gated one, and the states: what the reference computes. -/
abbrev gO (r : Fin 2048) (k : Fin 512) : EReal := Cert.ScanRefIdeal.Val.O (a0 m c) (a1 m c) (a2 m c) (a3 m c) (a4 m c) (a5 m c) r k
abbrev gY (r : Fin 2048) (k : Fin 512) : EReal :=
  Cert.ScanRefIdeal.Val.Y (a0 m c) (a1 m c) (a2 m c) (a3 m c) (a4 m c) (a5 m c) (a6 m c) (a7 m c) r k

theorem lt_tile (t : Fin cfg0.N) (r : Fin 256) : 256 * t.val + r.val < 2048 := by have := lt_pts t; omega
/-- The row of the sequence that row `r` of a point's tile is. -/
abbrev trow (t : Fin cfg0.N) (r : Fin 256) : Fin 2048 := ⟨256 * t.val + r.val, lt_tile t r⟩
/-- The chunk of the sequence that chunk `n` of a point is. -/
abbrev tchunk (t : Fin cfg0.N) (n : Fin 4) : Fin 32 := ⟨4 * t.val + n.val, by have := lt_pts t; omega⟩

theorem emb_row (t : Fin cfg0.N) (n h : Fin 4) (i : Fin 64) (j : Fin 128) :
    trow t ((Rect.unit (s := S256x512) ![64 * n.val, 128 * h.val] ![64, 128] (inb_tile n h)).emb (ix2 i j) 0) = row t n i :=
  Fin.ext (by show 256 * t.val + (64 * n.val + 1 * i.val) = 256 * t.val + (64 * n.val + i.val); omega)
theorem emb_col (n h : Fin 4) (i : Fin 64) (j : Fin 128) :
    (Rect.unit (s := S256x512) ![64 * n.val, 128 * h.val] ![64, 128] (inb_tile n h)).emb (ix2 i j) 1 = col h j :=
  Fin.ext (by show 128 * h.val + 1 * j.val = 128 * h.val + j.val; omega)

theorem num_chunk (t : Fin cfg0.N) (n : Fin 4) : (Fin.ofNat 32 (4 * t.val + n.val)).val = 4 * t.val + n.val :=
  Nat.mod_eq_of_lt (by have := lt_pts t; omega)

section Piece
variable (t : Fin cfg0.N) (T : Fin 4 → Sq) (hT : ∀ h i j, T h (ix3 0 i j) = St (AA m c) h (4 * t.val) i j)
include hT

theorem piece_o (n h : Fin 4) (x : S64x128.Idx) :
    tout (iblk m c 0 t) (iblk m c 1 t) (iblk m c 2 t) (iblk m c 3 t) (iblk m c 4 t) (iblk m c 5 t) T n h x
      = (fun y : S256x512.Idx => gO m c (trow t (y 0)) (y 1)) ((Rect.unit (s := S256x512) ![64 * n.val, 128 * h.val] ![64, 128] (inb_tile n h)).emb x) := by
  obtain ⟨i, j, rfl⟩ : ∃ (i : Fin 64) (j : Fin 128), x = ix2 i j := ⟨_, _, eq_ix2 x⟩
  dsimp only
  rw [emb_row, emb_col, tout_pt m c t T hT]
  unfold gO Cert.ScanRefIdeal.Val.O
  rw [ch_row, pl_row, he_col, la_col, num_chunk]

theorem piece_y (n h : Fin 4) (x : S64x128.Idx) :
    tg (tout (iblk m c 0 t) (iblk m c 1 t) (iblk m c 2 t) (iblk m c 3 t) (iblk m c 4 t) (iblk m c 5 t) T n h) (cut (e := .f32) n h (iblk m c 6 t)) (iblk m c 7 t) x
      = (fun y : S256x512.Idx => gY m c (trow t (y 0)) (y 1)) ((Rect.unit (s := S256x512) ![64 * n.val, 128 * h.val] ![64, 128] (inb_tile n h)).emb x) := by
  obtain ⟨i, j, rfl⟩ : ∃ (i : Fin 64) (j : Fin 128), x = ix2 i j := ⟨_, _, eq_ix2 x⟩
  dsimp only
  rw [emb_row, emb_col, tg_at, cut_z]
  simp only [tout_pt m c t T hT]
  unfold gY Cert.ScanRefIdeal.Val.Y
  rw [ch_row, pl_row, he_col, la_col, num_chunk]
  exact congrArg (fun z => gate _ z _ j) (blk_nw m c t j)

theorem piece_s (n h : Fin 4) (x : S1x1x128x128.Idx) :
    k0_pay4 (F := Ideal) (ts (iblk m c 0 t) (iblk m c 1 t) (iblk m c 3 t) (iblk m c 5 t) T h n.val) x
      = (fun y : S4x4x128x128.Idx => St (AA m c) (y 1) (4 * t.val + (y 0).val) (y 2) (y 3))
          ((Rect.unit (s := S4x4x128x128) ![n.val, h.val, 0, 0] ![1, 1, 128, 128] (inb_sin n h)).emb x) := by
  obtain ⟨a, b, i, j, rfl⟩ : ∃ (a b : Fin 1) (i j : Fin 128), x = ix4 a b i j := ⟨_, _, _, _, eq_ix4 x⟩
  obtain rfl : a = 0 := Subsingleton.elim _ _
  obtain rfl : b = 0 := Subsingleton.elim _ _
  have e1 : (Rect.unit (s := S4x4x128x128) ![n.val, h.val, 0, 0] ![1, 1, 128, 128] (inb_sin n h)).emb (ix4 0 0 i j) = ix4 n h i j := by
    funext a; apply Fin.ext
    match a with
    | ⟨0, _⟩ => show n.val + 1 * 0 = n.val; omega
    | ⟨1, _⟩ => show h.val + 1 * 0 = h.val; omega
    | ⟨2, _⟩ => show 0 + 1 * i.val = i.val; omega
    | ⟨3, _⟩ => show 0 + 1 * j.val = j.val; omega
  rw [e1]
  refine Eq.trans ?_ (ts_pt m c t T hT h n.val (Nat.le_of_lt n.isLt) i j)
  unfold k0_pay4 k0_pay3
  pointwise

end Piece

variable (t : Fin cfg0.N)

theorem y_pt (y : S256x512.Idx) : (outsAt0 m c t.val t.isLt).1 y = gY m c (trow t (y 0)) (y 1) := by
  by_cases h0 : t.val % 8 = 0
  · rw [outsAt0_A m c t h0]
    dsimp only
    exact y_A (G := fun y => gY m c (trow t (y 0)) (y 1)) (hG := piece_y m c t _ (start_A m c t h0)) (y := y) ..
  · rw [outsAt0_B m c t h0]
    dsimp only
    exact y_B (G := fun y => gY m c (trow t (y 0)) (y 1)) (hG := piece_y m c t _ (start_prev m c t h0)) (y := y) ..

theorem o_pt (y : S256x512.Idx) : (outsAt0 m c t.val t.isLt).2.1 y = gO m c (trow t (y 0)) (y 1) := by
  by_cases h0 : t.val % 8 = 0
  · rw [outsAt0_A m c t h0]
    dsimp only
    exact o_A (G := fun y => gO m c (trow t (y 0)) (y 1)) (hG := piece_o m c t _ (start_A m c t h0)) (y := y) ..
  · rw [outsAt0_B m c t h0]
    dsimp only
    exact o_B (G := fun y => gO m c (trow t (y 0)) (y 1)) (hG := piece_o m c t _ (start_prev m c t h0)) (y := y) ..

theorem s_pt (y : S4x4x128x128.Idx) : (outsAt0 m c t.val t.isLt).2.2.1 y = St (AA m c) (y 1) (4 * t.val + (y 0).val) (y 2) (y 3) := by
  by_cases h0 : t.val % 8 = 0
  · rw [outsAt0_A m c t h0]
    dsimp only
    exact s_A (G := fun y => St (AA m c) (y 1) (4 * t.val + (y 0).val) (y 2) (y 3)) (hG := piece_s m c t _ (start_A m c t h0)) (y := y) ..
  · rw [outsAt0_B m c t h0]
    dsimp only
    exact s_B (G := fun y => St (AA m c) (y 1) (4 * t.val + (y 0).val) (y 2) (y 3)) (hG := piece_s m c t _ (start_prev m c t h0)) (y := y) ..

/-! ## The results -/

/-- The reference's loop, run to its end on the kernel's arguments. -/
abbrev fin32 := Cert.ScanRefIdeal.Val.iter (a0 m c) (a1 m c) (a2 m c) (a3 m c) (a4 m c) (a5 m c) 32

theorem fin_y : (dats m 0 c).arrAt 8 cfg0.N = Cert.ScanRefIdeal.Step.R_main_v24 (fin32 m c) (a6 m c) (a7 m c) := by
  refine (dats m 0 c).arrAt_eq_of_covers 8 _ (by decide +kernel) fun t hf y => ?_
  blk_simp
  rw [after0_8]
  obtain ⟨r, k, rfl⟩ : ∃ (r : Fin 256) (k : Fin 512), y = ix2 r k := ⟨_, _, eq_ix2 y⟩
  refine (y_pt m c t (ix2 r k)).trans ((Cert.ScanRefIdeal.Val.y_at _ _ _ _ _ _ _ _ (trow t r) k).symm.trans ?_)
  exact congrArg _ (Tile.ix2_of _ (trow t r) k (Tile.tile_coord 256 r.val (idx8 t).1) (Tile.whole_coord 512 k.val (idx8 t).2)).symm

theorem fin_o : (dats m 0 c).arrAt 9 cfg0.N = Cert.ScanRefIdeal.Step.R_main_v25 (fin32 m c) := by
  refine (dats m 0 c).arrAt_eq_of_covers 9 _ (by decide +kernel) fun t hf y => ?_
  blk_simp
  rw [after0_9]
  obtain ⟨r, k, rfl⟩ : ∃ (r : Fin 256) (k : Fin 512), y = ix2 r k := ⟨_, _, eq_ix2 y⟩
  refine (o_pt m c t (ix2 r k)).trans ((Cert.ScanRefIdeal.Val.o_at _ _ _ _ _ _ (trow t r) k).symm.trans ?_)
  exact congrArg _ (Tile.ix2_of _ (trow t r) k (Tile.tile_coord 256 r.val (idx9 t).1) (Tile.whole_coord 512 k.val (idx9 t).2)).symm

theorem fin_s : (dats m 0 c).arrAt 10 cfg0.N = Cert.ScanRefIdeal.Step.R_main_v26 (fin32 m c) := by
  refine (dats m 0 c).arrAt_eq_of_covers 10 _ (by decide +kernel) fun t hf y => ?_
  blk_simp
  rw [after0_10]
  obtain ⟨n, h, i, j, rfl⟩ : ∃ (n h : Fin 4) (i j : Fin 128), y = ix4 n h i j := ⟨_, _, _, _, eq_ix4 y⟩
  refine (s_pt m c t (ix4 n h i j)).trans ((Cert.ScanRefIdeal.Val.states_at h _ _ _ _ _ _ (tchunk t n) i j).symm.trans ?_)
  refine congrArg _ ?_
  obtain ⟨e0, e1, e2, e3⟩ := idx10 t
  funext a; apply Fin.ext
  match a with
  | ⟨0, _⟩ => show 4 * t.val + n.val = win0_10.index t 0 * 4 + 1 * n.val; omega
  | ⟨1, _⟩ => show h.val = win0_10.index t 1 * 4 + 1 * h.val; omega
  | ⟨2, _⟩ => show i.val = win0_10.index t 2 * 128 + 1 * i.val; omega
  | ⟨3, _⟩ => show j.val = win0_10.index t 3 * 128 + 1 * j.val; omega

end Cert.ScanIdeal.Val
-- ==== Proof.ScanRun.lean ====
/- The forward scan of the gated delta rule: the reference's run, its results in terms of the state after thirty-two trips.
   Hand-written. -/
module

public import proofs.«01_k».proof.Proof.Gen.ScanRefIdeal.Run
public import proofs.«01_k».proof.Proof.ScanRef

@[expose] public section

set_option maxRecDepth 65536

noncomputable section

namespace Cert.ScanRefIdeal.Val

open Idealize.ShloMosaic Idealize.ShloMosaic.TcCoe Idealize.SL.Sem Idealize.ShloMosaic.StableHlo
open Cert.ScanRefIdeal Cert.ScanRefIdeal.Gen Cert.ScanRefIdeal.Value
open Cert.ScanRefIdeal.Step (State step init)

/-- The state in the arrays a trip finds. -/
def found (X : Valuation τ sig (Elt Ideal)) : State Ideal where
  main_v3_7 := X (Proc.devRef .tc main_v3_7)
  main_v3_8 := X (Proc.devRef .tc main_v3_8)
  main_v3_9 := X (Proc.devRef .tc main_v3_9)
  main_v3_0 := X (Proc.devRef .tc main_v3_0)
  main_v3_1 := X (Proc.devRef .tc main_v3_1)
  main_v3_2 := X (Proc.devRef .tc main_v3_2)
  main_v3_3 := X (Proc.devRef .tc main_v3_3)
  main_v3_4 := X (Proc.devRef .tc main_v3_4)
  main_v3_5 := X (Proc.devRef .tc main_v3_5)

/-- The number of the trip. -/
abbrev trip (X : Valuation τ sig (Elt Ideal)) (j : ℕ) : Prop :=
  X (Proc.devRef .tc main_v3_6) = (constantI S_ 32 (BitVec.ofNat 32 j) : (⟨S_, .i32⟩ : BufTy).Contents (Elt Ideal))

variable (X : Valuation τ sig (Elt Ideal)) (j : ℕ) (hX : trip X j)
include hX

theorem trip_next : trip (STEP X) (j + 1) := by
  refine (STEP_main_v3_6 X).trans ?_
  unfold step_main_v3_6
  rw [hX]
  funext i
  exact (BitVec.ofNat_add ..).symm

theorem next_state : step_main_v3_7 X = Step.b43 j (found X) := by
  unfold step_main_v3_7 res_main_while0b_v34
  rw [hX]
  rfl

theorem next_outs : step_main_v3_8 X = Step.b49 j (found X) := by
  unfold step_main_v3_8 res_main_while0b_v34
  rw [hX]
  rfl

theorem next_states : step_main_v3_9 X = Step.b55 j (found X) := by
  unfold step_main_v3_9
  rw [hX]
  rfl

/-- A trip takes the state it finds to the next. -/
theorem found_next : found (STEP X) = step j (found X) := by
  unfold found
  rw [STEP_main_v3_7, STEP_main_v3_8, STEP_main_v3_9, STEP_main_v3_0, STEP_main_v3_1, STEP_main_v3_2, STEP_main_v3_3, STEP_main_v3_4, STEP_main_v3_5,
    next_state X j hX, next_outs X j hX, next_states X j hX]
  rfl

omit hX

/-! The results, of the state the last trip leaves. -/

theorem found_y : out_main_v24 X = Step.R_main_v24 (found X) (X (Proc.devRef .tc main_arg6)) (X (Proc.devRef .tc main_arg7)) := by
  unfold out_main_v24
  rfl
theorem found_o : out_main_v25 X = Step.R_main_v25 (found X) := by
  unfold out_main_v25
  rfl
theorem found_s : out_main_v26 X = Step.R_main_v26 (found X) := by
  unfold out_main_v26
  rfl

variable (m : (ℓ : Loc nD τ sig) → Buf (Elt Ideal) ℓ) (c : Dev nD)

/-- The loop's states, of the arguments in memory. -/
abbrev loop : ℕ → State Ideal :=
  iter (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem trip_entry : trip (entryContents preI m c) 0 := ctr_entry m c

theorem found_entry : found (entryContents preI m c) = loop m c 0 := by
  unfold found
  simp only [entryContents, afterL_cons, afterL_nil]
  after_reads_simp
  rfl

theorem found_iter : ∀ n, trip (STEP^[n] (entryContents preI m c)) n ∧ found (STEP^[n] (entryContents preI m c)) = loop m c n
  | 0 => ⟨trip_entry m c, found_entry m c⟩
  | n + 1 => by
    obtain ⟨ht, hf⟩ := found_iter n
    rw [Function.iterate_succ_apply']
    refine ⟨trip_next _ n ht, (found_next _ n ht).trans ?_⟩
    rw [hf]
    rfl

theorem out_y : out_main_v24 (STEP^[32] (entryContents preI m c))
    = Step.R_main_v24 (loop m c 32) (m ((c.tc : Thread nD τ).loc main_arg6)) (m ((c.tc : Thread nD τ).loc main_arg7)) := by
  rw [found_y, (found_iter m c 32).2, iter_main_arg6, iter_main_arg7]

theorem out_o : out_main_v25 (STEP^[32] (entryContents preI m c)) = Step.R_main_v25 (loop m c 32) := by
  rw [found_o, (found_iter m c 32).2]

theorem out_s : out_main_v26 (STEP^[32] (entryContents preI m c)) = Step.R_main_v26 (loop m c 32) := by
  rw [found_s, (found_iter m c 32).2]

end Cert.ScanRefIdeal.Val
-- ==== Proof.ConfFwdPt.lean ====
/- The forward call of the convolution block, the kernel's arithmetic on one tile: the mean over groups as a product in three parts,
   the norm and its smooth step, the buffer of gated rows, and the convolution's taps. Hand-written. -/
module

public import proofs.«01_k».proof.Proof.Gen.ConfFwdIdeal.Value
public import proofs.«01_k».proof.Proof.Tile
public import proofs.«01_k».proof.Proof.Group
public import proofs.«01_k».proof.Proof.ConfPt
public import proofs.«01_k».proof.Proof.Bands
public import Idealize.ShloMosaic.Lib.IdealHost

@[expose] public section

set_option maxRecDepth 16384

noncomputable section

namespace Cert.ConfFwdIdeal.Val

open Idealize.ShloMosaic Idealize.ShloMosaic.TcCoe Idealize.SL.Sem Cert.ConfFwdIdeal Cert.ConfFwdIdeal.Gen
open Idealize.ShloMosaic.ValueIdx (ix1 ix2 ix3)
open Cert.Tile (IsReal gm gmat geps gdl grs gun gout)
open Cert.ConfIdeal.Val (sc1 sc3 tapw wf ofBits_64th)

/-! ## The matrix of group means -/

/-- The group a row is in and the group a column is in, as the kernel's integer lines write them. -/
abbrev rowGroup : IVec S512x512 32 := kernelRun0_A.sl.r_11
abbrev colGroup : IVec S512x512 32 := select k0_pay25 k0_pay26 k0_pay24

theorem group_row : ∀ j : Fin 512, rowGroup (ix2 j 0) = BitVec.ofNat 32 (j.val / 64) := by decide +kernel
theorem group_col : ∀ k : Fin 512, colGroup (ix2 0 k) = BitVec.ofNat 32 (k.val / 64) := by decide +kernel

/-- The matrix the products take. -/
abbrev PM : FVec Ideal S512x512 .bf16 :=
  truncf .bf16 (select (cmpi .eq rowGroup colGroup) (broadcast S512x512 (Scalar.ofBits (F := Ideal) .f32 0x3C800000#32))
    (broadcast S512x512 (Scalar.ofBits (F := Ideal) .f32 0x00000000#32))) bitsLt_bf16_f32

theorem pm_at (j k : Fin 512) : PM (ix2 j k) = gmat j k := by
  have e : PM (ix2 j k) = if BitVec.ofBool (rowGroup (ix2 j 0) == colGroup (ix2 0 k)) = 1#1 then Scalar.ofBits (F := Ideal) .f32 0x3C800000#32
      else Scalar.ofBits (F := Ideal) .f32 0x00000000#32 := by sl_kernel_rfl
  rw [e, group_row, group_col, ofBits_64th]
  unfold gmat
  have z : (Scalar.ofBits (F := Ideal) .f32 0x00000000#32 : EReal) = 0 := Ideal.ofBits_zero_f32
  rw [z]
  by_cases h : j.val / 64 = k.val / 64
  · rw [if_pos h, h]; simp
  · rw [if_neg h, if_neg]
    have hb : (BitVec.ofNat 32 (j.val / 64) == BitVec.ofNat 32 (k.val / 64)) = false := by
      refine beq_eq_false_iff_ne.2 fun hh => h ?_
      have h' := congrArg BitVec.toNat hh
      simp only [BitVec.toNat_ofNat] at h'
      omega
    rw [hb]
    decide

/-! ## The norm on a tile -/

/-- What rounding leaves of a tile. -/
abbrev left (X : FVec Ideal S256x512 .f32) : FVec Ideal S256x512 .f32 := subf X (extf .f32 (truncf .bf16 X bitsLt_bf16_f32) bitsLt_bf16_f32)

/-- The product of a tile with the matrix, and the mean over groups: the tile is taken in three parts. -/
abbrev byPM (X : FVec Ideal S256x512 .f32) : FVec Ideal S256x512 .f32 :=
  matmul dot_S256x512_S512x512_S256x512_1_0_0_1_n_n none (truncf .bf16 X bitsLt_bf16_f32) PM (constant S256x512 .f32 0x00000000#32)
abbrev tmean (X : FVec Ideal S256x512 .f32) : FVec Ideal S256x512 .f32 := addf (addf (byPM X) (byPM (left X))) (byPM (left (left X)))

section
variable (Y : FVec Ideal S256x512 .f32) (W B : FVec Ideal S1x512 .f32) (r : Fin 256)

/-- The tile less its groups' means, the reciprocal root, the normed tile under its weight and bias. -/
abbrev tdl : FVec Ideal S256x512 .f32 := subf Y (tmean Y)
abbrev trs : FVec Ideal S256x512 .f32 := rsqrt (addf (tmean (mulf (tdl Y) (tdl Y))) (broadcast S256x512 (Scalar.ofBits (F := Ideal) .f32 0x358637BD#32)))
abbrev tno : FVec Ideal S256x512 .f32 :=
  addf (mulf (mulf (tdl Y) (trs Y)) (broadcastTo S256x512 W broadcasts_S1x512_S256x512)) (broadcastTo S256x512 B broadcasts_S1x512_S256x512)
/-- That times its smooth step. -/
abbrev tout : FVec Ideal S256x512 .f32 := k0_pay27 Y rowGroup k0_pay24 k0_pay25 k0_pay26 W B

/-- Row `r` of the tile, and a single row. -/
abbrev rowOf (j : Fin 512) : EReal := Y (ix2 r j)
abbrev one (X : FVec Ideal S1x512 .f32) (j : Fin 512) : EReal := X (ix2 0 j)

variable (hY : ∀ j, IsReal (Y (ix2 r j)))
include hY

theorem tmean_at (k : Fin 512) : tmean Y (ix2 r k) = gm (rowOf Y r) k := by
  refine Eq.trans ?_ (Tile.gmat_split hY k)
  refine congrArg₂ (· + ·) (congrArg₂ (· + ·) ?_ ?_) ?_
  all_goals exact (Tile.matmul_NN _ rfl none _ _ r k).trans (Finset.sum_congr rfl fun j _ => congrArg₂ (· * ·) rfl (pm_at j k))

theorem tdl_at (k : Fin 512) : tdl Y (ix2 r k) = gdl (rowOf Y r) k := congrArg₂ (· - ·) rfl (tmean_at Y r hY k)

theorem trs_at (k : Fin 512) : trs Y (ix2 r k) = grs (rowOf Y r) k := by
  have h := tdl_at Y r hY
  refine congrArg Ideal.rsqrt (congrArg (· + geps) ?_)
  refine (tmean_at (mulf (tdl Y) (tdl Y)) r (fun j => ?_) k).trans ?_
  · show IsReal (tdl Y (ix2 r j) * tdl Y (ix2 r j))
    rw [h]
    exact (Tile.gdl_real hY j).mul (Tile.gdl_real hY j)
  · exact congrArg (fun z => gm z k) (funext fun j => by show tdl Y (ix2 r j) * tdl Y (ix2 r j) = _; rw [h])

theorem tno_at (k : Fin 512) : tno Y W B (ix2 r k) = gout (rowOf Y r) (one W) (one B) k :=
  congrArg₂ (· + ·) (congrArg₂ (· * ·) (congrArg₂ (· * ·) (tdl_at Y r hY k) (trs_at Y r hY k)) (Tile.brow_apply _ _ (by decide) r k))
    (Tile.brow_apply _ _ (by decide) r k)

theorem tout_at (k : Fin 512) :
    tout Y W B (ix2 r k) = gout (rowOf Y r) (one W) (one B) k * Ideal.logistic (gout (rowOf Y r) (one W) (one B) k) := by
  have e : tout Y W B = mulf (tno Y W B) (logistic (tno Y W B)) := rfl
  rw [e]
  exact congrArg₂ (· * ·) (tno_at Y W B r hY k) (congrArg Ideal.logistic (tno_at Y W B r hY k))

end

/-! ## The taps -/

/-- A first term and the first `n` terms of a sum, added one after another. -/
def cpart (b : EReal) (f : ℕ → EReal) : ℕ → EReal
  | 0 => b
  | n + 1 => cpart b f n + f n

theorem cpart_eq (b : EReal) (f : ℕ → EReal) (n : ℕ) : cpart b f n = (∑ j : Fin n, f j.val) + b := by
  induction n with
  | zero => exact (zero_add b).symm
  | succ n ih =>
    rw [Fin.sum_univ_castSucc, add_right_comm]
    exact congrArg (· + f n) ih

/-- Row `n` of the buffer of the gated value: what thirty-two rows were kept, then the tile's rows. -/
def fb (x0 x1 : FVec Ideal S256x512 .f32) (z : FVec Ideal S288x512 .f32) (n : ℕ) (k : Fin 512) : EReal :=
  if h : n < 32 then z (ix2 ⟨n, by omega⟩ k)
  else if h : n - 32 < 256 then x0 (ix2 ⟨n - 32, h⟩ k) * Ideal.logistic (x1 (ix2 ⟨n - 32, h⟩ k)) else 0

theorem fb_tail (x0 x1 : FVec Ideal S256x512 .f32) (z z' : FVec Ideal S288x512 .f32) (n : ℕ) (h : 32 ≤ n) (k : Fin 512) :
    fb x0 x1 z n k = fb x0 x1 z' n k := by
  unfold fb
  rw [dif_neg (show ¬ n < 32 by omega), dif_neg (show ¬ n < 32 by omega)]

section
variable {r : Fin 256} {k : Fin 512}

/-- One tap more. -/
theorem tap {A P : FVec Ideal S256x512 .f32} {a p : EReal} (hA : A (ix2 r k) = a) (hP : P (ix2 r k) = p) : addf A P (ix2 r k) = a + p :=
  congrArg₂ (· + ·) hA hP

/-- The bias, before any tap. -/
theorem bias {W : FVec Ideal S1x512 .f32} {b : EReal} (hW : W (ix2 0 k) = b) :
    addf (broadcast S256x512 (Scalar.ofBits (F := Ideal) .f32 0x00000000#32)) (broadcastTo S256x512 W broadcasts_S1x512_S256x512) (ix2 r k) = b := by
  refine (congrArg₂ (· + ·) Ideal.ofBits_zero_f32 ((Tile.brow_apply _ _ (by decide) r k).trans hW)).trans ?_
  exact zero_add b
end

theorem prod_at (v w : FVec Ideal S256x512 .f32) (q : Fin 256) (k : Fin 512) :
    k0_pay2 (F := Ideal) v w (ix2 q k) = v (ix2 q k) * Ideal.logistic (w (ix2 q k)) :=
  (congrFun (shapeCast_self (mulf (shapeCast S256x512 v shapeCasts_S256x512_S256x512) (logistic (shapeCast S256x512 w shapeCasts_S256x512_S256x512)))
    shapeCasts_S256x512_S256x512) (ix2 q k)).trans
    (congrArg₂ (· * ·) (congrFun (shapeCast_self v _) _) (congrArg Ideal.logistic (congrFun (shapeCast_self w _) _)))

theorem head_at (v : FVec Ideal S32x512 .f32) (q : Fin 32) (k : Fin 512) : k0_pay21 (F := Ideal) v (ix2 q k) = v (ix2 q k) :=
  congrFun (shapeCast_self v shapeCasts_S32x512_S32x512) _

theorem zero_at (q : Fin 32) (k : Fin 512) : (k0_pay1 : FVec Ideal S32x512 .f32) (ix2 q k) = 0 :=
  (congrFun (shapeCast_self (broadcast S32x512 (Scalar.ofBits (F := Ideal) .f32 0x00000000#32)) shapeCasts_S32x512_S32x512) (ix2 q k)).trans
    Ideal.ofBits_zero_f32

theorem wload {arg3 : Memref sig .tc .vmem S31x512 .f32} (harg3 : arg3.IsWhole) (x2 : Vec Ideal S31x512 .f32) (j : ℕ) (inb) (hj : j < 31) (k : Fin 512) :
    View.readAt (Elt Ideal) arg3.view (Rect.unit (s := S31x512) ![j, 0] S1x512.size inb).toLoadRect (harg3.unread x2) (ix2 (0 : Fin 1) k) = wf x2 j k := by
  refine (Tile.row_load _ _ j _ ⟨j, hj⟩ rfl k).trans ?_
  unfold wf
  rw [dif_pos hj]
  exact congrFun (harg3.read_unread x2) _

theorem bload {arg4 : Memref sig .tc .vmem S1x512 .f32} (harg4 : arg4.IsWhole) (x3 : Vec Ideal S1x512 .f32) (inb) (k : Fin 512) :
    View.readAt (Elt Ideal) arg4.view (Rect.unit (s := S1x512) ![0, 0] S1x512.size inb).toLoadRect (harg4.unread x3) (ix2 (0 : Fin 1) k) = x3 (ix2 0 k) :=
  congrFun (Tile.whole_load harg4 x3 _) _

end Cert.ConfFwdIdeal.Val

end

end
-- ==== Proof.ConfFwdFirst.lean ====
/- The forward call of the convolution block, the first grid point: the buffer of gated rows, the sum the taps add up to, and what the point
   leaves. Hand-written. -/
module

public import proofs.«01_k».proof.Proof.ConfFwdPt
public import proofs.«01_k».proof.Proof.Bands

@[expose] public section

set_option maxRecDepth 16384

noncomputable section

namespace Cert.ConfFwdIdeal.Val.First

open Idealize.ShloMosaic Idealize.ShloMosaic.TcCoe Idealize.SL.Sem Cert.ConfFwdIdeal Cert.ConfFwdIdeal.Gen
open Idealize.ShloMosaic.ValueIdx (ix1 ix2 ix3)
open Cert.ConfIdeal.Val (sc1 sc3 tapw wf)

variable {c : Dev nD} {i : grid0.Coords}
variable {arg1 : Memref sig .tc .vmem S256x512 .f32} {harg1 : arg1.IsWhole}
variable {arg2 : Memref sig .tc .vmem S256x512 .f32} {harg2 : arg2.IsWhole}
variable {arg3 : Memref sig .tc .vmem S31x512 .f32} {harg3 : arg3.IsWhole}
variable {arg4 : Memref sig .tc .vmem S1x512 .f32} {harg4 : arg4.IsWhole}
variable {arg5 : Memref sig .tc .vmem S1x512 .f32} {harg5 : arg5.IsWhole}
variable {arg6 : Memref sig .tc .vmem S1x512 .f32} {harg6 : arg6.IsWhole}
variable {arg7 : Memref sig .tc .vmem S256x512 .f32} {harg7 : arg7.IsWhole}
variable {arg8 : Memref sig .tc .vmem S256x512 .f32} {harg8 : arg8.IsWhole}
variable {arg9 : Memref sig .tc .vmem S288x512 .f32} {harg9 : arg9.IsWhole}
variable {arg10 : Memref sig .tc .vmem S7x280x512 .f32} {harg10 : arg10.IsWhole}
variable {x0 x1 : Vec Ideal S256x512 .f32} {x2 : Vec Ideal S31x512 .f32} {x3 x4 x5 : Vec Ideal S1x512 .f32}

/-! ## The buffer of gated rows -/

theorem u_read (n : Fin 288) (k : Fin 512) :
    arg9.view.read (Elt Ideal) (arg9.view.writes (Elt Ideal) arg9.view.junk (kernelRun0_A.sl.HS0_2 c arg1 harg1 arg2 harg2 x0 x1)) (ix2 n k) = fb x0 x1 (fun _ => 0) n.val k := by
  unfold fb
  by_cases h : n.val < 32
  · rw [dif_pos h]
    refine (Tile.band_miss _ _ 32 256 _ _ _ n (Or.inl h) k).trans ?_
    refine (Tile.band_hit _ _ 0 32 _ _ _ n ⟨n.val, h⟩ (by simp) k).trans ?_
    exact zero_at _ k
  · have h' : n.val - 32 < 256 := by omega
    rw [dif_neg h, dif_pos h']
    refine (Tile.band_hit _ _ 32 256 _ _ _ n ⟨n.val - 32, h'⟩ (by show n.val = 32 + (n.val - 32); omega) k).trans ?_
    refine (prod_at _ _ _ _).trans ?_
    rw [Tile.whole_load harg1 x0, Tile.whole_load harg2 x1]

theorem ucopy (s o : ℕ) (inb) (hs : s < 7) (ho : o + 256 ≤ 280) (r : Fin 256) (k : Fin 512) (n : ℕ) (hn : n = s + 1 + o + r.val) :
    arg10.view.readCov (Val := Elt Ideal) (kernelRun0_A.sl.HS1_7 c arg1 harg1 arg2 harg2 arg9 x0 x1) (Rect.unit (s := S7x280x512) ![s, o, 0] S1x256x512.size inb).toLoadRect (ix3 0 r k) = fb x0 x1 (fun _ => 0) n k := by
  refine Tile.seven (Val := Elt Ideal) arg10.view _ _ _ _ _ _ _ _ _ _ _ _ _ _ (fun (n : Fin 288) k => fb x0 x1 (fun _ => 0) n.val k) (by decide) ?_ ?_ ?_ ?_ ?_ ?_ ?_
    s o 256 inb hs ho r k ⟨n, by omega⟩ hn
  · exact (fun n k => (ValueIdx.shapeCast_ab_1ab_apply _ _ _ _ _).trans ((Tile.band_cov _ _ 1 280 _ n ⟨0 + 1 + n.val, by omega⟩ (by show 0 + 1 + n.val = 1 + n.val; omega) k).trans (u_read _ k)))
  · exact (fun n k => (ValueIdx.shapeCast_ab_1ab_apply _ _ _ _ _).trans ((Tile.band_cov _ _ 2 280 _ n ⟨1 + 1 + n.val, by omega⟩ (by show 1 + 1 + n.val = 2 + n.val; omega) k).trans (u_read _ k)))
  · exact (fun n k => (ValueIdx.shapeCast_ab_1ab_apply _ _ _ _ _).trans ((Tile.band_cov _ _ 3 280 _ n ⟨2 + 1 + n.val, by omega⟩ (by show 2 + 1 + n.val = 3 + n.val; omega) k).trans (u_read _ k)))
  · exact (fun n k => (ValueIdx.shapeCast_ab_1ab_apply _ _ _ _ _).trans ((Tile.band_cov _ _ 4 280 _ n ⟨3 + 1 + n.val, by omega⟩ (by show 3 + 1 + n.val = 4 + n.val; omega) k).trans (u_read _ k)))
  · exact (fun n k => (ValueIdx.shapeCast_ab_1ab_apply _ _ _ _ _).trans ((Tile.band_cov _ _ 5 280 _ n ⟨4 + 1 + n.val, by omega⟩ (by show 4 + 1 + n.val = 5 + n.val; omega) k).trans (u_read _ k)))
  · exact (fun n k => (ValueIdx.shapeCast_ab_1ab_apply _ _ _ _ _).trans ((Tile.band_cov _ _ 6 280 _ n ⟨5 + 1 + n.val, by omega⟩ (by show 5 + 1 + n.val = 6 + n.val; omega) k).trans (u_read _ k)))
  · exact (fun n k => (ValueIdx.shapeCast_ab_1ab_apply _ _ _ _ _).trans ((Tile.band_cov _ _ 7 280 _ n ⟨6 + 1 + n.val, by omega⟩ (by show 6 + 1 + n.val = 7 + n.val; omega) k).trans (u_read _ k)))

theorem urow (a o : ℕ) (inb) (ho : o + a ≤ 288) (r : Fin a) (k : Fin 512) (n : ℕ) (hn : n = o + r.val) :
    arg9.view.readCov (Val := Elt Ideal) (kernelRun0_A.sl.HS0_2 c arg1 harg1 arg2 harg2 x0 x1) (Rect.unit (s := S288x512) ![o, 0] ![a, 512] inb).toLoadRect (ix2 r k) = fb x0 x1 (fun _ => 0) n k :=
  (Tile.band_cov _ _ o a _ r ⟨n, by omega⟩ hn k).trans (u_read _ k)

/-! ## The taps -/

theorem r_at (r : Fin 256) (k : Fin 512) :
    kernelRun0_A.sl.r c arg1 harg1 arg2 harg2 arg3 harg3 arg4 harg4 arg9 arg10 x0 x1 x2 x3 (ix2 r k) = cpart (x3 (ix2 0 k)) (fun j => wf x2 j k * fb x0 x1 (fun _ => 0) (j + 2 + r.val) k) 1 :=
  tap (bias (bload harg4 x3 _ k))
    (tapw (sc1 (wload harg3 x2 0 _ (by decide) k)) (sc3 (ucopy 1 0 _ (by decide) (by decide) r k (0 + 2 + r.val) (by omega))))

theorem r_2_at (r : Fin 256) (k : Fin 512) :
    kernelRun0_A.sl.r_2 c arg1 harg1 arg2 harg2 arg3 harg3 arg4 harg4 arg9 arg10 x0 x1 x2 x3 (ix2 r k) = cpart (x3 (ix2 0 k)) (fun j => wf x2 j k * fb x0 x1 (fun _ => 0) (j + 2 + r.val) k) 6 :=
  tap (tap (tap (tap (tap (r_at r k)
    (tapw (sc1 (wload harg3 x2 1 _ (by decide) k)) (sc3 (ucopy 2 0 _ (by decide) (by decide) r k (1 + 2 + r.val) (by omega)))))
    (tapw (sc1 (wload harg3 x2 2 _ (by decide) k)) (sc3 (ucopy 3 0 _ (by decide) (by decide) r k (2 + 2 + r.val) (by omega)))))
    (tapw (sc1 (wload harg3 x2 3 _ (by decide) k)) (sc3 (ucopy 4 0 _ (by decide) (by decide) r k (3 + 2 + r.val) (by omega)))))
    (tapw (sc1 (wload harg3 x2 4 _ (by decide) k)) (sc3 (ucopy 5 0 _ (by decide) (by decide) r k (4 + 2 + r.val) (by omega)))))
    (tapw (sc1 (wload harg3 x2 5 _ (by decide) k)) (sc3 (ucopy 6 0 _ (by decide) (by decide) r k (5 + 2 + r.val) (by omega))))

theorem r_4_at (r : Fin 256) (k : Fin 512) :
    kernelRun0_A.sl.r_4 c arg1 harg1 arg2 harg2 arg3 harg3 arg4 harg4 arg9 arg10 x0 x1 x2 x3 (ix2 r k) = cpart (x3 (ix2 0 k)) (fun j => wf x2 j k * fb x0 x1 (fun _ => 0) (j + 2 + r.val) k) 11 :=
  tap (tap (tap (tap (tap (r_2_at r k)
    (tapw (sc1 (wload harg3 x2 6 _ (by decide) k)) (urow 256 8 _ (by decide) r k (6 + 2 + r.val) (by omega))))
    (tapw (sc1 (wload harg3 x2 7 _ (by decide) k)) (sc3 (ucopy 0 8 _ (by decide) (by decide) r k (7 + 2 + r.val) (by omega)))))
    (tapw (sc1 (wload harg3 x2 8 _ (by decide) k)) (sc3 (ucopy 1 8 _ (by decide) (by decide) r k (8 + 2 + r.val) (by omega)))))
    (tapw (sc1 (wload harg3 x2 9 _ (by decide) k)) (sc3 (ucopy 2 8 _ (by decide) (by decide) r k (9 + 2 + r.val) (by omega)))))
    (tapw (sc1 (wload harg3 x2 10 _ (by decide) k)) (sc3 (ucopy 3 8 _ (by decide) (by decide) r k (10 + 2 + r.val) (by omega))))

theorem r_7_at (r : Fin 256) (k : Fin 512) :
    kernelRun0_A.sl.r_7 c arg1 harg1 arg2 harg2 arg3 harg3 arg4 harg4 arg9 arg10 x0 x1 x2 x3 (ix2 r k) = cpart (x3 (ix2 0 k)) (fun j => wf x2 j k * fb x0 x1 (fun _ => 0) (j + 2 + r.val) k) 17 :=
  tap (tap (tap (tap (tap (tap (r_4_at r k)
    (tapw (sc1 (wload harg3 x2 11 _ (by decide) k)) (sc3 (ucopy 4 8 _ (by decide) (by decide) r k (11 + 2 + r.val) (by omega)))))
    (tapw (sc1 (wload harg3 x2 12 _ (by decide) k)) (sc3 (ucopy 5 8 _ (by decide) (by decide) r k (12 + 2 + r.val) (by omega)))))
    (tapw (sc1 (wload harg3 x2 13 _ (by decide) k)) (sc3 (ucopy 6 8 _ (by decide) (by decide) r k (13 + 2 + r.val) (by omega)))))
    (tapw (sc1 (wload harg3 x2 14 _ (by decide) k)) (urow 256 16 _ (by decide) r k (14 + 2 + r.val) (by omega))))
    (tapw (sc1 (wload harg3 x2 15 _ (by decide) k)) (sc3 (ucopy 0 16 _ (by decide) (by decide) r k (15 + 2 + r.val) (by omega)))))
    (tapw (sc1 (wload harg3 x2 16 _ (by decide) k)) (sc3 (ucopy 1 16 _ (by decide) (by decide) r k (16 + 2 + r.val) (by omega))))

theorem r_8_at (r : Fin 256) (k : Fin 512) :
    kernelRun0_A.sl.r_8 c arg1 harg1 arg2 harg2 arg3 harg3 arg4 harg4 arg9 arg10 x0 x1 x2 x3 (ix2 r k) = cpart (x3 (ix2 0 k)) (fun j => wf x2 j k * fb x0 x1 (fun _ => 0) (j + 2 + r.val) k) 22 :=
  tap (tap (tap (tap (tap (r_7_at r k)
    (tapw (sc1 (wload harg3 x2 17 _ (by decide) k)) (sc3 (ucopy 2 16 _ (by decide) (by decide) r k (17 + 2 + r.val) (by omega)))))
    (tapw (sc1 (wload harg3 x2 18 _ (by decide) k)) (sc3 (ucopy 3 16 _ (by decide) (by decide) r k (18 + 2 + r.val) (by omega)))))
    (tapw (sc1 (wload harg3 x2 19 _ (by decide) k)) (sc3 (ucopy 4 16 _ (by decide) (by decide) r k (19 + 2 + r.val) (by omega)))))
    (tapw (sc1 (wload harg3 x2 20 _ (by decide) k)) (sc3 (ucopy 5 16 _ (by decide) (by decide) r k (20 + 2 + r.val) (by omega)))))
    (tapw (sc1 (wload harg3 x2 21 _ (by decide) k)) (sc3 (ucopy 6 16 _ (by decide) (by decide) r k (21 + 2 + r.val) (by omega))))

theorem r_9_at (r : Fin 256) (k : Fin 512) :
    kernelRun0_A.sl.r_9 c arg1 harg1 arg2 harg2 arg3 harg3 arg4 harg4 arg9 arg10 x0 x1 x2 x3 (ix2 r k) = cpart (x3 (ix2 0 k)) (fun j => wf x2 j k * fb x0 x1 (fun _ => 0) (j + 2 + r.val) k) 27 :=
  tap (tap (tap (tap (tap (r_8_at r k)
    (tapw (sc1 (wload harg3 x2 22 _ (by decide) k)) (urow 256 24 _ (by decide) r k (22 + 2 + r.val) (by omega))))
    (tapw (sc1 (wload harg3 x2 23 _ (by decide) k)) (sc3 (ucopy 0 24 _ (by decide) (by decide) r k (23 + 2 + r.val) (by omega)))))
    (tapw (sc1 (wload harg3 x2 24 _ (by decide) k)) (sc3 (ucopy 1 24 _ (by decide) (by decide) r k (24 + 2 + r.val) (by omega)))))
    (tapw (sc1 (wload harg3 x2 25 _ (by decide) k)) (sc3 (ucopy 2 24 _ (by decide) (by decide) r k (25 + 2 + r.val) (by omega)))))
    (tapw (sc1 (wload harg3 x2 26 _ (by decide) k)) (sc3 (ucopy 3 24 _ (by decide) (by decide) r k (26 + 2 + r.val) (by omega))))

theorem r_10_at (r : Fin 256) (k : Fin 512) :
    kernelRun0_A.sl.r_10 c arg1 harg1 arg2 harg2 arg3 harg3 arg4 harg4 arg9 arg10 x0 x1 x2 x3 (ix2 r k) = cpart (x3 (ix2 0 k)) (fun j => wf x2 j k * fb x0 x1 (fun _ => 0) (j + 2 + r.val) k) 31 :=
  tap (tap (tap (tap (r_9_at r k)
    (tapw (sc1 (wload harg3 x2 27 _ (by decide) k)) (sc3 (ucopy 4 24 _ (by decide) (by decide) r k (27 + 2 + r.val) (by omega)))))
    (tapw (sc1 (wload harg3 x2 28 _ (by decide) k)) (sc3 (ucopy 5 24 _ (by decide) (by decide) r k (28 + 2 + r.val) (by omega)))))
    (tapw (sc1 (wload harg3 x2 29 _ (by decide) k)) (sc3 (ucopy 6 24 _ (by decide) (by decide) r k (29 + 2 + r.val) (by omega)))))
    (tapw (sc1 (wload harg3 x2 30 _ (by decide) k)) (urow 256 32 _ (by decide) r k (30 + 2 + r.val) (by omega)))

/-! ## What the point leaves -/

theorem y_at {hc0 : cond0_0 i} (r : Fin 256) (k : Fin 512) :
    out0_A_6 c i arg1 harg1 arg2 harg2 arg3 harg3 arg4 harg4 arg5 harg5 arg6 harg6 arg7 harg7 arg8 harg8 arg9 harg9 arg10 harg10 hc0 x0 x1 x2 x3 x4 x5 (ix2 r k) = cpart (x3 (ix2 0 k)) (fun j => wf x2 j k * fb x0 x1 (fun _ => 0) (j + 2 + r.val) k) 31 := by
  unfold out0_A_6 kernelRun0_A
  refine (Tile.whole_hit _ _ _ _ _ r k).trans ?_
  exact r_10_at r k

theorem out_eq {hc0 : cond0_0 i} : out0_A_7 c i arg1 harg1 arg2 harg2 arg3 harg3 arg4 harg4 arg5 harg5 arg6 harg6 arg7 harg7 arg8 harg8 arg9 harg9 arg10 harg10 hc0 x0 x1 x2 x3 x4 x5 = tout (out0_A_6 c i arg1 harg1 arg2 harg2 arg3 harg3 arg4 harg4 arg5 harg5 arg6 harg6 arg7 harg7 arg8 harg8 arg9 harg9 arg10 harg10 hc0 x0 x1 x2 x3 x4 x5) x4 x5 := by
  have e : ∀ a b d : FVec Ideal S256x512 .f32, ∀ v w, (∀ r k, a (ix2 r k) = tout b v w (ix2 r k)) → b = d → v = x4 → w = x5 → a = tout d x4 x5 := by
    rintro a b d v w h rfl rfl rfl
    exact funext fun y => by rw [ValueIdx.eq_ix2 y]; exact h _ _
  refine e _ (kernelRun0_A.sl.r_10 c arg1 harg1 arg2 harg2 arg3 harg3 arg4 harg4 arg9 arg10 x0 x1 x2 x3) _ ?v ?w (fun r k => ?_) ?_ ?_ ?_
  case refine_1 =>
    unfold out0_A_7 kernelRun0_A
    exact (Tile.whole_hit _ _ _ _ _ r k).trans (by unfold kernelRun0_A.sl.r_12; rfl)
  case refine_2 => exact funext fun y => by rw [ValueIdx.eq_ix2 y]; exact (r_10_at _ _).trans (y_at _ _).symm
  case refine_3 => exact Tile.whole_load harg5 x4 _
  case refine_4 => exact Tile.whole_load harg6 x5 _

theorem keep_at {hc0 : cond0_0 i} (q : Fin 32) (k : Fin 512) :
    sout0_A_0 c i arg1 harg1 arg2 harg2 arg3 harg3 arg4 harg4 arg5 harg5 arg6 harg6 arg7 harg7 arg8 harg8 arg9 harg9 arg10 harg10 hc0 x0 x1 x2 x3 x4 x5 (ix2 (⟨q.val, by omega⟩ : Fin 288) k) = fb x0 x1 (fun _ => 0) (256 + q.val) k := by
  unfold sout0_A_0 kernelRun0_A
  refine (Tile.band_hit _ _ 0 32 _ _ _ (⟨q.val, by omega⟩ : Fin 288) q (by simp) k).trans ?_
  refine (head_at _ q k).trans ?_
  exact urow 32 256 _ (by decide) q k (256 + q.val) rfl

end Cert.ConfFwdIdeal.Val.First

end

end
-- ==== Proof.ConfFwdLater.lean ====
/- The forward call of the convolution block, every later grid point: the buffer of gated rows, the sum the taps add up to, and what the point
   leaves. Hand-written. -/
module

public import proofs.«01_k».proof.Proof.ConfFwdPt
public import proofs.«01_k».proof.Proof.Bands

@[expose] public section

set_option maxRecDepth 16384

noncomputable section

namespace Cert.ConfFwdIdeal.Val.Later

open Idealize.ShloMosaic Idealize.ShloMosaic.TcCoe Idealize.SL.Sem Cert.ConfFwdIdeal Cert.ConfFwdIdeal.Gen
open Idealize.ShloMosaic.ValueIdx (ix1 ix2 ix3)
open Cert.ConfIdeal.Val (sc1 sc3 tapw wf)

variable {c : Dev nD} {i : grid0.Coords}
variable {arg1 : Memref sig .tc .vmem S256x512 .f32} {harg1 : arg1.IsWhole}
variable {arg2 : Memref sig .tc .vmem S256x512 .f32} {harg2 : arg2.IsWhole}
variable {arg3 : Memref sig .tc .vmem S31x512 .f32} {harg3 : arg3.IsWhole}
variable {arg4 : Memref sig .tc .vmem S1x512 .f32} {harg4 : arg4.IsWhole}
variable {arg5 : Memref sig .tc .vmem S1x512 .f32} {harg5 : arg5.IsWhole}
variable {arg6 : Memref sig .tc .vmem S1x512 .f32} {harg6 : arg6.IsWhole}
variable {arg7 : Memref sig .tc .vmem S256x512 .f32} {harg7 : arg7.IsWhole}
variable {arg8 : Memref sig .tc .vmem S256x512 .f32} {harg8 : arg8.IsWhole}
variable {arg9 : Memref sig .tc .vmem S288x512 .f32} {harg9 : arg9.IsWhole}
variable {arg10 : Memref sig .tc .vmem S7x280x512 .f32} {harg10 : arg10.IsWhole}
variable {x0 x1 : Vec Ideal S256x512 .f32} {x2 : Vec Ideal S31x512 .f32} {x3 x4 x5 : Vec Ideal S1x512 .f32}
variable {xs0 : Vec Ideal S288x512 .f32}

/-! ## The buffer of gated rows -/

theorem u_read (n : Fin 288) (k : Fin 512) :
    arg9.view.read (Elt Ideal) (arg9.view.writes (Elt Ideal) (harg9.unread xs0) (kernelRun0_B.sl.HS0_1 c arg1 harg1 arg2 harg2 x0 x1)) (ix2 n k) = fb x0 x1 xs0 n.val k := by
  unfold fb
  by_cases h : n.val < 32
  · rw [dif_pos h]
    refine (Tile.band_miss _ _ 32 256 _ _ _ n (Or.inl h) k).trans ?_
    exact congrFun (harg9.read_unread xs0) _
  · have h' : n.val - 32 < 256 := by omega
    rw [dif_neg h, dif_pos h']
    refine (Tile.band_hit _ _ 32 256 _ _ _ n ⟨n.val - 32, h'⟩ (by show n.val = 32 + (n.val - 32); omega) k).trans ?_
    refine (prod_at _ _ _ _).trans ?_
    rw [Tile.whole_load harg1 x0, Tile.whole_load harg2 x1]

theorem u_tail (a : ℕ) (o : ℕ) (inb) (ho : 32 ≤ o) (ha : o + a ≤ 288) (r : Fin a) (k : Fin 512) (n : ℕ) (hn : n = o + r.val) :
    arg9.view.readCov (Val := Elt Ideal) (kernelRun0_B.sl.HS0_1 c arg1 harg1 arg2 harg2 x0 x1) (Rect.unit (s := S288x512) ![o, 0] ![a, 512] inb).toLoadRect (ix2 r k) = fb x0 x1 xs0 n k := by
  subst hn
  refine (Tile.band_cov _ _ o a _ r ⟨o + r.val, by omega⟩ rfl k).trans ?_
  unfold fb
  rw [dif_neg (by omega), dif_pos (by omega)]
  refine (Tile.band_hit _ _ 32 256 _ _ _ _ ⟨o + r.val - 32, by omega⟩ (by show o + r.val = 32 + (o + r.val - 32); omega) k).trans ?_
  refine (prod_at _ _ _ _).trans ?_
  rw [Tile.whole_load harg1 x0, Tile.whole_load harg2 x1]

theorem ucopy (s o : ℕ) (inb) (hs : s < 7) (ho : o + 256 ≤ 280) (r : Fin 256) (k : Fin 512) (n : ℕ) (hn : n = s + 1 + o + r.val) :
    arg10.view.readCov (Val := Elt Ideal) (kernelRun0_B.sl.HS1_7 c arg1 harg1 arg2 harg2 arg9 harg9 x0 x1 xs0) (Rect.unit (s := S7x280x512) ![s, o, 0] S1x256x512.size inb).toLoadRect (ix3 0 r k) = fb x0 x1 xs0 n k := by
  refine Tile.seven (Val := Elt Ideal) arg10.view _ _ _ _ _ _ _ _ _ _ _ _ _ _ (fun (n : Fin 288) k => fb x0 x1 xs0 n.val k) (by decide) ?_ ?_ ?_ ?_ ?_ ?_ ?_
    s o 256 inb hs ho r k ⟨n, by omega⟩ hn
  · exact (fun n k => (ValueIdx.shapeCast_ab_1ab_apply _ _ _ _ _).trans ((Tile.band_load _ _ 1 280 _ n ⟨0 + 1 + n.val, by omega⟩ (by show 0 + 1 + n.val = 1 + n.val; omega) k).trans (u_read _ k)))
  · exact (fun n k => (ValueIdx.shapeCast_ab_1ab_apply _ _ _ _ _).trans ((Tile.band_load _ _ 2 280 _ n ⟨1 + 1 + n.val, by omega⟩ (by show 1 + 1 + n.val = 2 + n.val; omega) k).trans (u_read _ k)))
  · exact (fun n k => (ValueIdx.shapeCast_ab_1ab_apply _ _ _ _ _).trans ((Tile.band_load _ _ 3 280 _ n ⟨2 + 1 + n.val, by omega⟩ (by show 2 + 1 + n.val = 3 + n.val; omega) k).trans (u_read _ k)))
  · exact (fun n k => (ValueIdx.shapeCast_ab_1ab_apply _ _ _ _ _).trans ((Tile.band_load _ _ 4 280 _ n ⟨3 + 1 + n.val, by omega⟩ (by show 3 + 1 + n.val = 4 + n.val; omega) k).trans (u_read _ k)))
  · exact (fun n k => (ValueIdx.shapeCast_ab_1ab_apply _ _ _ _ _).trans ((Tile.band_load _ _ 5 280 _ n ⟨4 + 1 + n.val, by omega⟩ (by show 4 + 1 + n.val = 5 + n.val; omega) k).trans (u_read _ k)))
  · exact (fun n k => (ValueIdx.shapeCast_ab_1ab_apply _ _ _ _ _).trans ((Tile.band_load _ _ 6 280 _ n ⟨5 + 1 + n.val, by omega⟩ (by show 5 + 1 + n.val = 6 + n.val; omega) k).trans (u_read _ k)))
  · exact (fun n k => (ValueIdx.shapeCast_ab_1ab_apply _ _ _ _ _).trans ((Tile.band_load _ _ 7 280 _ n ⟨6 + 1 + n.val, by omega⟩ (by show 6 + 1 + n.val = 7 + n.val; omega) k).trans (u_read _ k)))

theorem urow (a o : ℕ) (inb) (ho : o + a ≤ 288) (r : Fin a) (k : Fin 512) (n : ℕ) (hn : n = o + r.val) :
    arg9.view.readAt (Elt Ideal) (Rect.unit (s := S288x512) ![o, 0] ![a, 512] inb).toLoadRect (arg9.view.writes (Elt Ideal) (harg9.unread xs0) (kernelRun0_B.sl.HS0_1 c arg1 harg1 arg2 harg2 x0 x1)) (ix2 r k) = fb x0 x1 xs0 n k :=
  (Tile.band_load _ _ o a _ r ⟨n, by omega⟩ hn k).trans (u_read _ k)

/-! ## The taps -/

theorem r_1_at (r : Fin 256) (k : Fin 512) :
    kernelRun0_B.sl.r_1 c arg1 harg1 arg2 harg2 arg3 harg3 arg4 harg4 arg9 harg9 arg10 x0 x1 x2 x3 xs0 (ix2 r k) = cpart (x3 (ix2 0 k)) (fun j => wf x2 j k * fb x0 x1 xs0 (j + 2 + r.val) k) 1 :=
  tap (bias (bload harg4 x3 _ k))
    (tapw (sc1 (wload harg3 x2 0 _ (by decide) k)) (sc3 (ucopy 1 0 _ (by decide) (by decide) r k (0 + 2 + r.val) (by omega))))

theorem r_3_at (r : Fin 256) (k : Fin 512) :
    kernelRun0_B.sl.r_3 c arg1 harg1 arg2 harg2 arg3 harg3 arg4 harg4 arg9 harg9 arg10 x0 x1 x2 x3 xs0 (ix2 r k) = cpart (x3 (ix2 0 k)) (fun j => wf x2 j k * fb x0 x1 xs0 (j + 2 + r.val) k) 6 :=
  tap (tap (tap (tap (tap (r_1_at r k)
    (tapw (sc1 (wload harg3 x2 1 _ (by decide) k)) (sc3 (ucopy 2 0 _ (by decide) (by decide) r k (1 + 2 + r.val) (by omega)))))
    (tapw (sc1 (wload harg3 x2 2 _ (by decide) k)) (sc3 (ucopy 3 0 _ (by decide) (by decide) r k (2 + 2 + r.val) (by omega)))))
    (tapw (sc1 (wload harg3 x2 3 _ (by decide) k)) (sc3 (ucopy 4 0 _ (by decide) (by decide) r k (3 + 2 + r.val) (by omega)))))
    (tapw (sc1 (wload harg3 x2 4 _ (by decide) k)) (sc3 (ucopy 5 0 _ (by decide) (by decide) r k (4 + 2 + r.val) (by omega)))))
    (tapw (sc1 (wload harg3 x2 5 _ (by decide) k)) (sc3 (ucopy 6 0 _ (by decide) (by decide) r k (5 + 2 + r.val) (by omega))))

theorem r_6_at (r : Fin 256) (k : Fin 512) :
    kernelRun0_B.sl.r_6 c arg1 harg1 arg2 harg2 arg3 harg3 arg4 harg4 arg9 harg9 arg10 x0 x1 x2 x3 xs0 (ix2 r k) = cpart (x3 (ix2 0 k)) (fun j => wf x2 j k * fb x0 x1 xs0 (j + 2 + r.val) k) 11 :=
  tap (tap (tap (tap (tap (r_3_at r k)
    (tapw (sc1 (wload harg3 x2 6 _ (by decide) k)) (urow 256 8 _ (by decide) r k (6 + 2 + r.val) (by omega))))
    (tapw (sc1 (wload harg3 x2 7 _ (by decide) k)) (sc3 (ucopy 0 8 _ (by decide) (by decide) r k (7 + 2 + r.val) (by omega)))))
    (tapw (sc1 (wload harg3 x2 8 _ (by decide) k)) (sc3 (ucopy 1 8 _ (by decide) (by decide) r k (8 + 2 + r.val) (by omega)))))
    (tapw (sc1 (wload harg3 x2 9 _ (by decide) k)) (sc3 (ucopy 2 8 _ (by decide) (by decide) r k (9 + 2 + r.val) (by omega)))))
    (tapw (sc1 (wload harg3 x2 10 _ (by decide) k)) (sc3 (ucopy 3 8 _ (by decide) (by decide) r k (10 + 2 + r.val) (by omega))))

theorem r_9_at (r : Fin 256) (k : Fin 512) :
    kernelRun0_B.sl.r_9 c arg1 harg1 arg2 harg2 arg3 harg3 arg4 harg4 arg9 harg9 arg10 x0 x1 x2 x3 xs0 (ix2 r k) = cpart (x3 (ix2 0 k)) (fun j => wf x2 j k * fb x0 x1 xs0 (j + 2 + r.val) k) 17 :=
  tap (tap (tap (tap (tap (tap (r_6_at r k)
    (tapw (sc1 (wload harg3 x2 11 _ (by decide) k)) (sc3 (ucopy 4 8 _ (by decide) (by decide) r k (11 + 2 + r.val) (by omega)))))
    (tapw (sc1 (wload harg3 x2 12 _ (by decide) k)) (sc3 (ucopy 5 8 _ (by decide) (by decide) r k (12 + 2 + r.val) (by omega)))))
    (tapw (sc1 (wload harg3 x2 13 _ (by decide) k)) (sc3 (ucopy 6 8 _ (by decide) (by decide) r k (13 + 2 + r.val) (by omega)))))
    (tapw (sc1 (wload harg3 x2 14 _ (by decide) k)) (urow 256 16 _ (by decide) r k (14 + 2 + r.val) (by omega))))
    (tapw (sc1 (wload harg3 x2 15 _ (by decide) k)) (sc3 (ucopy 0 16 _ (by decide) (by decide) r k (15 + 2 + r.val) (by omega)))))
    (tapw (sc1 (wload harg3 x2 16 _ (by decide) k)) (sc3 (ucopy 1 16 _ (by decide) (by decide) r k (16 + 2 + r.val) (by omega))))

theorem r_10_at (r : Fin 256) (k : Fin 512) :
    kernelRun0_B.sl.r_10 c arg1 harg1 arg2 harg2 arg3 harg3 arg4 harg4 arg9 harg9 arg10 x0 x1 x2 x3 xs0 (ix2 r k) = cpart (x3 (ix2 0 k)) (fun j => wf x2 j k * fb x0 x1 xs0 (j + 2 + r.val) k) 22 :=
  tap (tap (tap (tap (tap (r_9_at r k)
    (tapw (sc1 (wload harg3 x2 17 _ (by decide) k)) (sc3 (ucopy 2 16 _ (by decide) (by decide) r k (17 + 2 + r.val) (by omega)))))
    (tapw (sc1 (wload harg3 x2 18 _ (by decide) k)) (sc3 (ucopy 3 16 _ (by decide) (by decide) r k (18 + 2 + r.val) (by omega)))))
    (tapw (sc1 (wload harg3 x2 19 _ (by decide) k)) (sc3 (ucopy 4 16 _ (by decide) (by decide) r k (19 + 2 + r.val) (by omega)))))
    (tapw (sc1 (wload harg3 x2 20 _ (by decide) k)) (sc3 (ucopy 5 16 _ (by decide) (by decide) r k (20 + 2 + r.val) (by omega)))))
    (tapw (sc1 (wload harg3 x2 21 _ (by decide) k)) (sc3 (ucopy 6 16 _ (by decide) (by decide) r k (21 + 2 + r.val) (by omega))))

theorem r_11_at (r : Fin 256) (k : Fin 512) :
    kernelRun0_B.sl.r_11 c arg1 harg1 arg2 harg2 arg3 harg3 arg4 harg4 arg9 harg9 arg10 x0 x1 x2 x3 xs0 (ix2 r k) = cpart (x3 (ix2 0 k)) (fun j => wf x2 j k * fb x0 x1 xs0 (j + 2 + r.val) k) 27 :=
  tap (tap (tap (tap (tap (r_10_at r k)
    (tapw (sc1 (wload harg3 x2 22 _ (by decide) k)) (urow 256 24 _ (by decide) r k (22 + 2 + r.val) (by omega))))
    (tapw (sc1 (wload harg3 x2 23 _ (by decide) k)) (sc3 (ucopy 0 24 _ (by decide) (by decide) r k (23 + 2 + r.val) (by omega)))))
    (tapw (sc1 (wload harg3 x2 24 _ (by decide) k)) (sc3 (ucopy 1 24 _ (by decide) (by decide) r k (24 + 2 + r.val) (by omega)))))
    (tapw (sc1 (wload harg3 x2 25 _ (by decide) k)) (sc3 (ucopy 2 24 _ (by decide) (by decide) r k (25 + 2 + r.val) (by omega)))))
    (tapw (sc1 (wload harg3 x2 26 _ (by decide) k)) (sc3 (ucopy 3 24 _ (by decide) (by decide) r k (26 + 2 + r.val) (by omega))))

theorem r_12_at (r : Fin 256) (k : Fin 512) :
    kernelRun0_B.sl.r_12 c arg1 harg1 arg2 harg2 arg3 harg3 arg4 harg4 arg9 harg9 arg10 x0 x1 x2 x3 xs0 (ix2 r k) = cpart (x3 (ix2 0 k)) (fun j => wf x2 j k * fb x0 x1 xs0 (j + 2 + r.val) k) 31 :=
  tap (tap (tap (tap (r_11_at r k)
    (tapw (sc1 (wload harg3 x2 27 _ (by decide) k)) (sc3 (ucopy 4 24 _ (by decide) (by decide) r k (27 + 2 + r.val) (by omega)))))
    (tapw (sc1 (wload harg3 x2 28 _ (by decide) k)) (sc3 (ucopy 5 24 _ (by decide) (by decide) r k (28 + 2 + r.val) (by omega)))))
    (tapw (sc1 (wload harg3 x2 29 _ (by decide) k)) (sc3 (ucopy 6 24 _ (by decide) (by decide) r k (29 + 2 + r.val) (by omega)))))
    (tapw (sc1 (wload harg3 x2 30 _ (by decide) k)) (u_tail 256 32 _ (by decide) (by decide) r k (30 + 2 + r.val) (by omega)))

/-! ## What the point leaves -/

theorem y_at {hc0 : ¬cond0_0 i} (r : Fin 256) (k : Fin 512) :
    out0_B_6 c i arg1 harg1 arg2 harg2 arg3 harg3 arg4 harg4 arg5 harg5 arg6 harg6 arg7 harg7 arg8 harg8 arg9 harg9 arg10 harg10 hc0 x0 x1 x2 x3 x4 x5 xs0 (ix2 r k) = cpart (x3 (ix2 0 k)) (fun j => wf x2 j k * fb x0 x1 xs0 (j + 2 + r.val) k) 31 := by
  unfold out0_B_6 kernelRun0_B
  refine (Tile.whole_hit _ _ _ _ _ r k).trans ?_
  exact r_12_at r k

theorem out_eq {hc0 : ¬cond0_0 i} : out0_B_7 c i arg1 harg1 arg2 harg2 arg3 harg3 arg4 harg4 arg5 harg5 arg6 harg6 arg7 harg7 arg8 harg8 arg9 harg9 arg10 harg10 hc0 x0 x1 x2 x3 x4 x5 xs0 = tout (out0_B_6 c i arg1 harg1 arg2 harg2 arg3 harg3 arg4 harg4 arg5 harg5 arg6 harg6 arg7 harg7 arg8 harg8 arg9 harg9 arg10 harg10 hc0 x0 x1 x2 x3 x4 x5 xs0) x4 x5 := by
  have e : ∀ a b d : FVec Ideal S256x512 .f32, ∀ v w, (∀ r k, a (ix2 r k) = tout b v w (ix2 r k)) → b = d → v = x4 → w = x5 → a = tout d x4 x5 := by
    rintro a b d v w h rfl rfl rfl
    exact funext fun y => by rw [ValueIdx.eq_ix2 y]; exact h _ _
  refine e _ (kernelRun0_B.sl.r_12 c arg1 harg1 arg2 harg2 arg3 harg3 arg4 harg4 arg9 harg9 arg10 x0 x1 x2 x3 xs0) _ ?v ?w (fun r k => ?_) ?_ ?_ ?_
  case refine_1 =>
    unfold out0_B_7 kernelRun0_B
    exact (Tile.whole_hit _ _ _ _ _ r k).trans (by unfold kernelRun0_B.sl.r_14; rfl)
  case refine_2 => exact funext fun y => by rw [ValueIdx.eq_ix2 y]; exact (r_12_at _ _).trans (y_at _ _).symm
  case refine_3 => exact Tile.whole_load harg5 x4 _
  case refine_4 => exact Tile.whole_load harg6 x5 _

theorem keep_at {hc0 : ¬cond0_0 i} (q : Fin 32) (k : Fin 512) :
    sout0_B_0 c i arg1 harg1 arg2 harg2 arg3 harg3 arg4 harg4 arg5 harg5 arg6 harg6 arg7 harg7 arg8 harg8 arg9 harg9 arg10 harg10 hc0 x0 x1 x2 x3 x4 x5 xs0 (ix2 (⟨q.val, by omega⟩ : Fin 288) k) = fb x0 x1 xs0 (256 + q.val) k := by
  unfold sout0_B_0 kernelRun0_B
  refine (Tile.band_hit _ _ 0 32 _ _ _ (⟨q.val, by omega⟩ : Fin 288) q (by simp) k).trans ?_
  refine (head_at _ q k).trans ?_
  exact u_tail 32 256 _ (by decide) (by decide) q k (256 + q.val) rfl

end Cert.ConfFwdIdeal.Val.Later

end

end
-- ==== Proof.ConfFwdIn.lean ====
/- The forward call of the convolution block, the kernel's inputs: what its host lines put into the arrays the kernel reads, and what
   the kernel's windows show of them at each grid point. Hand-written. -/
module

public import proofs.«01_k».proof.Proof.Gen.ConfFwdIdeal.Value
public import proofs.«01_k».proof.Proof.Tile
public import Idealize.ShloMosaic.Lib.Pointwise
public import Idealize.ShloMosaic.Lib.KernelVsHost
public import Idealize.ShloMosaic.Lib.StableHlo.RunRead

@[expose] public section

set_option maxRecDepth 16384

noncomputable section

namespace Cert.ConfFwdIdeal.Val

open Idealize.ShloMosaic Idealize.ShloMosaic.TcCoe Idealize.SL.Sem Cert.ConfFwdIdeal Cert.ConfFwdIdeal.Gen

variable (m : (ℓ : Loc nD τ sig) → Buf (Elt Ideal) ℓ) (c : Dev nD)

/-! ## The arguments -/

/-- The value and its gate. -/
def a (s : Fin 2048) (k : Fin 512) : EReal := m ((c : Thread nD τ).loc main_arg0) (ix3 (0 : Fin 1) s ⟨k.val, by omega⟩)
def g (s : Fin 2048) (k : Fin 512) : EReal := m ((c : Thread nD τ).loc main_arg0) (ix3 (0 : Fin 1) s ⟨512 + k.val, by omega⟩)
/-- The convolution's weight and bias, and the group norm's. -/
def w (j : Fin 31) (k : Fin 512) : EReal := m ((c : Thread nD τ).loc main_arg1) (ix3 (0 : Fin 1) j k)
def cb (k : Fin 512) : EReal := m ((c : Thread nD τ).loc main_arg2) (ix2 (0 : Fin 1) k)
def gw (k : Fin 512) : EReal := m ((c : Thread nD τ).loc main_arg3) (ix2 (0 : Fin 1) k)
def gb (k : Fin 512) : EReal := m ((c : Thread nD τ).loc main_arg4) (ix2 (0 : Fin 1) k)
/-- The gate's smooth step, the gated value, and the same below thirty rows of zeros. -/
def sg (s : Fin 2048) (k : Fin 512) : EReal := Ideal.logistic (g m c s k)
def u (s : Fin 2048) (k : Fin 512) : EReal := a m c s k * sg m c s k
def up (i : ℕ) (k : Fin 512) : EReal := if h : 30 ≤ i ∧ i - 30 < 2048 then u m c ⟨i - 30, h.2⟩ k else 0
/-- The convolution. -/
def y (s : Fin 2048) (k : Fin 512) : EReal := (∑ j : Fin 31, up m c (j.val + s.val) k * w m c j k) + cb m c k

/-! ## The host lines -/

theorem V_w (j : Fin 31) (k : Fin 512) : V m c main_v2 (ix2 j k) = w m c j k := by
  unfold V hostOps0
  after_reads_simp
  pointwise
  rfl

theorem V_p (s : Fin 2048) (k : Fin 3072) : V m c main_v1 (ix2 s k) = m ((c : Thread nD τ).loc main_arg0) (ix3 (0 : Fin 1) s ⟨k.val, by omega⟩) := by
  unfold V hostOps0
  after_reads_simp
  pointwise

/-! ## The windows -/

theorem lt_rows (t : Fin cfg0.N) (r : Fin 256) : 256 * t.val + r.val < 2048 := by
  have : t.val < 8 := t.isLt
  omega

/-- The row of the array that row `r` of the tile taken at point `t` is. -/
abbrev row (t : Fin cfg0.N) (r : Fin 256) : Fin 2048 := ⟨256 * t.val + r.val, lt_rows t r⟩

theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 1 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = t.val ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)

theorem blk_a (t : Fin cfg0.N) (r : Fin 256) (k : Fin 512) : (iblk m c 0 t : Vec Ideal S256x512 .f32) (ix2 r k) = a m c (row t r) k :=
  (congrArg (V m c main_v1) (Tile.ix2_of _ (row t r) ⟨k.val, by omega⟩ (Tile.tile_coord 256 r.val (idx0 t).1)
    (Tile.whole_coord 512 k.val (idx0 t).2))).trans (V_p m c (row t r) _)

theorem blk_g (t : Fin cfg0.N) (r : Fin 256) (k : Fin 512) : (iblk m c 1 t : Vec Ideal S256x512 .f32) (ix2 r k) = g m c (row t r) k :=
  (congrArg (V m c main_v1) (Tile.ix2_of _ (row t r) ⟨512 + k.val, by omega⟩ (Tile.tile_coord 256 r.val (idx1 t).1)
    (Tile.tile_coord 512 k.val (idx1 t).2))).trans (V_p m c (row t r) _)

theorem blk_w (t : Fin cfg0.N) (j : Fin 31) (k : Fin 512) : (iblk m c 2 t : Vec Ideal S31x512 .f32) (ix2 j k) = w m c j k :=
  (congrArg (V m c main_v2) (Tile.ix2_of _ j k (Tile.whole_coord 31 j.val (idx2 t).1)
    (Tile.whole_coord 512 k.val (idx2 t).2))).trans (V_w m c j k)

theorem blk_cb (t : Fin cfg0.N) (k : Fin 512) : (iblk m c 3 t : Vec Ideal S1x512 .f32) (ix2 0 k) = cb m c k :=
  (congrArg (V m c main_arg2) (Tile.ix2_of _ (0 : Fin 1) k (Tile.whole_coord 1 0 (idx3 t).1)
    (Tile.whole_coord 512 k.val (idx3 t).2))).trans (congrFun (V_main_arg2 m c) _)

theorem blk_gw (t : Fin cfg0.N) (k : Fin 512) : (iblk m c 4 t : Vec Ideal S1x512 .f32) (ix2 0 k) = gw m c k :=
  (congrArg (V m c main_arg3) (Tile.ix2_of _ (0 : Fin 1) k (Tile.whole_coord 1 0 (idx4 t).1)
    (Tile.whole_coord 512 k.val (idx4 t).2))).trans (congrFun (V_main_arg3 m c) _)

theorem blk_gb (t : Fin cfg0.N) (k : Fin 512) : (iblk m c 5 t : Vec Ideal S1x512 .f32) (ix2 0 k) = gb m c k :=
  (congrArg (V m c main_arg4) (Tile.ix2_of _ (0 : Fin 1) k (Tile.whole_coord 1 0 (idx5 t).1)
    (Tile.whole_coord 512 k.val (idx5 t).2))).trans (congrFun (V_main_arg4 m c) _)

end Cert.ConfFwdIdeal.Val

end

end
-- ==== Proof.ConfFwdVal.lean ====
/- The forward call of the convolution block, the kernel's values: what each grid point leaves. The thirty-two rows before a tile are
   those the point before kept. Hand-written. -/
module

public import proofs.«01_k».proof.Proof.ConfFwdFirst
public import proofs.«01_k».proof.Proof.ConfFwdLater
public import proofs.«01_k».proof.Proof.ConfFwdIn

@[expose] public section

set_option maxRecDepth 16384

noncomputable section

namespace Cert.ConfFwdIdeal.Val

open Idealize.ShloMosaic.TcCoe Idealize.SL.Sem Cert.ConfFwdIdeal Cert.ConfFwdIdeal.Gen Cert.Tile
open Idealize.ShloMosaic hiding ix1 ix2 ix3 eq_ix2
open Idealize.ShloMosaic.ValueIdx (ix1 ix2 ix3 eq_ix2)
open Cert.ConfIdeal.Val (wf)

variable (m : (ℓ : Loc nD τ sig) → Buf (Elt Ideal) ℓ) (c : Dev nD)

/-! ## The tile's rows -/

theorem one_gw (t : Fin cfg0.N) : one (iblk m c 4 t) = gw m c := funext fun j => blk_gw m c t j
theorem one_gb (t : Fin cfg0.N) : one (iblk m c 5 t) = gb m c := funext fun j => blk_gb m c t j

theorem up_of (n : ℕ) (s : Fin 2048) (k : Fin 512) (h : n = s.val + 30) : up m c n k = u m c s k := by
  unfold up
  have hs : s.val < 2048 := s.isLt
  rw [dif_pos ⟨by omega, by omega⟩]
  exact congrArg (fun z => u m c z k) (Fin.ext (by show n - 30 = s.val; omega))

theorem tile_wf (t : Fin cfg0.N) (j : Fin 31) (k : Fin 512) : wf (iblk m c 2 t) j.val k = w m c j k := by
  unfold wf
  rw [dif_pos j.isLt]
  exact blk_w m c t j k

/-- Below its first thirty-two rows the buffer holds the tile's rows. -/
theorem tile_own (t : Fin cfg0.N) (z : FVec Ideal S288x512 .f32) (n : ℕ) (hn : 32 ≤ n) (hN : n < 288) (k : Fin 512) :
    fb (iblk m c 0 t) (iblk m c 1 t) z n k = u m c (row t ⟨n - 32, by omega⟩) k := by
  have h' : n - 32 < 256 := by omega
  unfold fb
  rw [dif_neg (show ¬ n < 32 by omega), dif_pos h']
  exact congrArg₂ (· * ·) (blk_a m c t ⟨n - 32, h'⟩ k) (congrArg Ideal.logistic (blk_g m c t ⟨n - 32, h'⟩ k))

/-- The thirty-two rows kept for the next tile are this tile's last. -/
theorem kept (t : Fin cfg0.N) (q : Fin 32) (k : Fin 512) :
    (outsAt0 m c t.val t.isLt).2.2 (ix2 (⟨q.val, by omega⟩ : Fin 288) k) = u m c (row t ⟨224 + q.val, by omega⟩) k := by
  have e : ∀ z, fb (iblk m c 0 t) (iblk m c 1 t) z (256 + q.val) k = u m c (row t ⟨224 + q.val, by omega⟩) k := fun z =>
    (tile_own m c t z _ (by omega) (by omega) k).trans (congrArg (fun s => u m c s k) (Fin.ext (by
      show 256 * t.val + (256 + q.val - 32) = 256 * t.val + (224 + q.val)
      omega)))
  by_cases h0 : t.val % 8 = 0
  · rw [outsAt0_A m c t h0]
    dsimp only
    exact (First.keep_at q k).trans (e _)
  · rw [outsAt0_B m c t h0]
    dsimp only
    exact (Later.keep_at q k).trans (e _)

abbrev prev (t : Fin cfg0.N) := outsAt0 m c (t.val - 1) (Nat.lt_of_le_of_lt (Nat.sub_le _ _) t.isLt)

theorem tile_first (t : Fin cfg0.N) (h0 : t.val % 8 = 0) (n e : ℕ) (hn : 2 ≤ n) (hN : n < 288) (k : Fin 512) (he : e + 2 = 256 * t.val + n) :
    fb (iblk m c 0 t) (iblk m c 1 t) (fun _ => 0) n k = up m c e k := by
  have ht : t.val < 8 := t.isLt
  by_cases h : n < 32
  · unfold fb up
    rw [dif_pos h, dif_neg (by omega)]
  · refine (tile_own m c t _ n (by omega) hN k).trans (up_of m c e _ k ?_).symm
    show e = 256 * t.val + (n - 32) + 30
    omega

theorem tile_later (t : Fin cfg0.N) (h0 : ¬ t.val % 8 = 0) (n e : ℕ) (hn : 2 ≤ n) (hN : n < 288) (k : Fin 512) (he : e + 2 = 256 * t.val + n) :
    fb (iblk m c 0 t) (iblk m c 1 t) (prev m c t).2.2 n k = up m c e k := by
  have ht : t.val < 8 := t.isLt
  by_cases h : n < 32
  · unfold fb
    rw [dif_pos h]
    refine (kept m c ⟨t.val - 1, Nat.lt_of_le_of_lt (Nat.sub_le _ _) t.isLt⟩ ⟨n, h⟩ k).trans (up_of m c e _ k ?_).symm
    show e = 256 * (t.val - 1) + (224 + n) + 30
    omega
  · refine (tile_own m c t _ n (by omega) hN k).trans (up_of m c e _ k ?_).symm
    show e = 256 * t.val + (n - 32) + 30
    omega

/-! ## What the points leave -/

theorem tile_y (t : Fin cfg0.N) (z : FVec Ideal S288x512 .f32) (r : Fin 256) (k : Fin 512)
    (hz : ∀ n e : ℕ, 2 ≤ n → n < 288 → ∀ k, e + 2 = 256 * t.val + n → fb (iblk m c 0 t) (iblk m c 1 t) z n k = up m c e k) :
    cpart ((iblk m c 3 t : Vec Ideal S1x512 .f32) (ix2 0 k)) (fun j => wf (iblk m c 2 t) j k * fb (iblk m c 0 t) (iblk m c 1 t) z (j + 2 + r.val) k) 31
      = y m c (row t r) k := by
  rw [cpart_eq]
  refine congrArg₂ (· + ·) (Finset.sum_congr rfl fun j _ => ?_) (blk_cb m c t k)
  refine (mul_comm _ _).trans (congrArg₂ (· * ·) (hz _ _ (by omega) (by omega) k ?_) (tile_wf m c t j k))
  show j.val + (256 * t.val + r.val) + 2 = 256 * t.val + (j.val + 2 + r.val)
  omega

theorem conv_at (t : Fin cfg0.N) (r : Fin 256) (k : Fin 512) : (outsAt0 m c t.val t.isLt).1 (ix2 r k) = y m c (row t r) k := by
  by_cases h0 : t.val % 8 = 0
  · rw [outsAt0_A m c t h0]
    dsimp only
    exact (First.y_at r k).trans (tile_y m c t _ r k fun n e hn hN k he => tile_first m c t h0 n e hn hN k he)
  · rw [outsAt0_B m c t h0]
    dsimp only
    exact (Later.y_at r k).trans (tile_y m c t _ r k fun n e hn hN k he => tile_later m c t h0 n e hn hN k he)

theorem tout_of (t : Fin cfg0.N) : (outsAt0 m c t.val t.isLt).2.1 = tout (outsAt0 m c t.val t.isLt).1 (iblk m c 4 t) (iblk m c 5 t) := by
  by_cases h0 : t.val % 8 = 0
  · rw [outsAt0_A m c t h0]
    dsimp only
    exact First.out_eq
  · rw [outsAt0_B m c t h0]
    dsimp only
    exact Later.out_eq

theorem out_at (hy : ∀ s k, IsReal (y m c s k)) (t : Fin cfg0.N) (r : Fin 256) (k : Fin 512) :
    (outsAt0 m c t.val t.isLt).2.1 (ix2 r k) = gout (y m c (row t r)) (gw m c) (gb m c) k * Ideal.logistic (gout (y m c (row t r)) (gw m c) (gb m c) k) := by
  rw [tout_of]
  refine (tout_at _ _ _ r (fun j => (conv_at m c t r j).symm ▸ hy _ _) k).trans ?_
  have e : rowOf (outsAt0 m c t.val t.isLt).1 r = y m c (row t r) := funext fun j => conv_at m c t r j
  rw [e, one_gw, one_gb]

end Cert.ConfFwdIdeal.Val

end

end
-- ==== Proof.ConfFwdRef.lean ====
/- The forward call of the convolution block, the reference's values read at an entry, and that the kernel leaves the same.
   Hand-written. -/
module

public import proofs.«01_k».proof.Proof.ConfFwdVal
public import proofs.«01_k».proof.Proof.ConfNorm
public import proofs.«01_k».proof.Proof.RefSums
public import proofs.«01_k».proof.Proof.Gen.ConfFwdRefIdeal.Read
public import proofs.«01_k».proof.Pre_finite_conf_fwd
public import Idealize.ShloMosaic.Lib.IdealHost
public import Idealize.ShloMosaic.Lib.Pipeline.ValueKit

@[expose] public section

set_option maxRecDepth 16384

noncomputable section

namespace Cert.ConfFwdIdeal.Val

open Idealize.ShloMosaic Idealize.ShloMosaic.TcCoe Idealize.SL.Sem Cert.ConfFwdIdeal Cert.ConfFwdIdeal.Gen Cert.Tile
open Cert.ConfFwdRefIdeal.Read
open Cert.ConfIdeal.Val (grs_zero col_of)

variable (m : (ℓ : Loc nD τ sig) → Buf (Elt Ideal) ℓ) (c : Dev nD)

/-- The arguments as the reference is given them. -/
abbrev a0 : FVec Ideal S1x2048x3080 .f32 := m ((c : Thread nD τ).loc main_arg0)
abbrev a1 : FVec Ideal S1x31x512 .f32 := m ((c : Thread nD τ).loc main_arg1)
abbrev a2 : FVec Ideal S1x512 .f32 := m ((c : Thread nD τ).loc main_arg2)
abbrev a3 : FVec Ideal S1x512 .f32 := m ((c : Thread nD τ).loc main_arg3)
abbrev a4 : FVec Ideal S1x512 .f32 := m ((c : Thread nD τ).loc main_arg4)

/-! ## What finite arguments give -/

/-- The value, the convolution's weight and its bias are real, entry by entry. -/
structure Real : Prop where
  a : ∀ s k, IsReal (a m c s k)
  w : ∀ j k, IsReal (w m c j k)
  cb : ∀ k, IsReal (cb m c k)

theorem real_of_pre [hyps : Cert.Pre_finite_conf_fwd.Facts]
    (h : (Cert.Pre_finite_conf_fwd.fn (F := Ideal) (a0 m c) (a1 m c) (a2 m c) (a3 m c) (a4 m c)).1 = (fun _ => 1#1)
      ∧ (Cert.Pre_finite_conf_fwd.fn (F := Ideal) (a0 m c) (a1 m c) (a2 m c) (a3 m c) (a4 m c)).2.1 = (fun _ => 1#1)
      ∧ (Cert.Pre_finite_conf_fwd.fn (F := Ideal) (a0 m c) (a1 m c) (a2 m c) (a3 m c) (a4 m c)).2.2 = (fun _ => 1#1)) :
    Real m c where
  a s k := isReal_of_lt _ (congrFun h.1 (ix3 0 s ⟨k.val, by omega⟩))
  w j k := isReal_of_lt _ (congrFun h.2.1 (ix3 0 j k))
  cb k := isReal_of_lt _ (congrFun h.2.2 (ix2 0 k))

theorem real_up (R : Real m c) (n : ℕ) (k : Fin 512) : IsReal (up m c n k) := by
  unfold up
  split
  · exact (R.a _ k).mul (IsReal.logistic _)
  · exact IsReal.zero

theorem real_y (R : Real m c) (s : Fin 2048) (k : Fin 512) : IsReal (y m c s k) :=
  (IsReal.sum fun j => (real_up m c R _ k).mul (R.w j k)).add (R.cb k)

/-! ## The taps -/

/-- The sum over rows that picks row `j + t - 30` of the gated value. -/
theorem pick (j : Fin 31) (t : Fin 2048) (k : Fin 512) :
    (∑ s : Fin 2048, (if s.val + 30 = t.val + j.val then (1 : EReal) else 0) * u m c s k) = up m c (j.val + t.val) k := by
  unfold up
  split
  · next h =>
    rw [Finset.sum_eq_single ⟨j.val + t.val - 30, h.2⟩]
    · rw [if_pos (by show j.val + t.val - 30 + 30 = _; omega), one_mul]
    · intro s _ hs
      rw [if_neg (fun e => hs (Fin.ext (by show s.val = j.val + t.val - 30; omega))), zero_mul]
    · exact fun h => absurd (Finset.mem_univ _) h
  · next h =>
    refine Finset.sum_eq_zero fun s _ => ?_
    rw [if_neg (by omega), zero_mul]

/-- Whether row `s` is the one that tap `j` takes to row `t`, as the comparison of two words. -/
theorem shift_word (j : Fin 31) (t s : Fin 2048) :
    (if BitVec.ofBool (decide ((BitVec.ofNat 32 s.val + 30#32).toNat = (BitVec.ofNat 32 t.val + BitVec.ofNat 32 j.val).toNat)) = 1#1 then (1 : EReal) else 0)
      = if s.val + 30 = t.val + j.val then (1 : EReal) else 0 := by
  have e1 : (BitVec.ofNat 32 s.val + 30#32).toNat = s.val + 30 := by
    rw [BitVec.toNat_add, BitVec.toNat_ofNat, BitVec.toNat_ofNat]; omega
  have e2 : (BitVec.ofNat 32 t.val + BitVec.ofNat 32 j.val).toNat = t.val + j.val := by
    rw [BitVec.toNat_add, BitVec.toNat_ofNat, BitVec.toNat_ofNat]; omega
  rw [e1, e2]
  by_cases h : s.val + 30 = t.val + j.val <;> simp [h]

/-! ## The convolution, the first result -/

theorem ref_sg (s : Fin 2048) (k : Fin 512) : val_main_v9 (F := Ideal) (a0 m c) (ix3 0 s k) = sg m c s k := by
  unfold val_main_v9 val_main_v8 val_main_v7 val_main_v6 val_main_v5 val_main_v4 val_main_v1
  pointwise [val_main_cst, val_main_cst_0]
  rfl

theorem ref_u (s : Fin 2048) (k : Fin 512) : val_main_v19 (F := Ideal) (a0 m c) (ix2 s k) = u m c s k := by
  unfold val_main_v19 val_main_v10 val_main_v0
  pointwise [ref_sg]
  rfl

theorem ref_shift (j : Fin 31) (t s : Fin 2048) :
    val_main_v18 (F := Ideal) (ix3 j t s) = if s.val + 30 = t.val + j.val then (1 : EReal) else 0 := by
  unfold val_main_v18 val_main_v17 val_main_v16 val_main_v15 val_main_v14 val_main_v13 val_main_v12 val_main_v11
    val_main_call0_v0 val_main_call0_v1
  pointwise [val_main_c, val_main_cst_1, val_main_cst_2]
  rw [WordCmp.cmpi_eq_eq_toNat]
  exact shift_word j t s

theorem ref_taps (j : Fin 31) (t : Fin 2048) (k : Fin 512) :
    val_main_v20 (F := Ideal) (a0 m c) (ix3 j t k) = up m c (j.val + t.val) k := by
  rw [val_main_v20_apply]
  exact (Finset.sum_congr rfl fun s _ => congrArg₂ (fun u v : EReal => u * v)
    ((congrArg _ (Tile.ix3_of _ j t s rfl rfl rfl)).trans (ref_shift j t s))
    ((congrArg _ (Tile.ix2_of _ s k rfl rfl)).trans (ref_u m c s k))).trans (pick m c j t k)

theorem ref_y (s : Fin 2048) (k : Fin 512) :
    val_main_v29 (F := Ideal) (a0 m c) (a1 m c) (a2 m c) (ix2 s k) = y m c s k := by
  unfold val_main_v29 val_main_v28 val_main_v27 val_main_v26 val_main_v25 val_main_v24 val_main_v23 val_main_v22 val_main_v21 val_main_v3 val_main_v2
  pointwise [val_main_cst_3, ref_taps]
  rfl

/-! ## The convolution, computed again -/

theorem ref_sg' (s : Fin 2048) (k : Fin 512) : val_main_v39 (F := Ideal) (a0 m c) (ix3 0 s k) = sg m c s k := by
  unfold val_main_v39 val_main_v38 val_main_v37 val_main_v36 val_main_v35 val_main_v34 val_main_v1
  pointwise [val_main_cst_4, val_main_cst_5]
  rfl

theorem ref_u' (s : Fin 2048) (k : Fin 512) : val_main_v49 (F := Ideal) (a0 m c) (ix2 s k) = u m c s k := by
  unfold val_main_v49 val_main_v40 val_main_v0
  pointwise [ref_sg']
  rfl

theorem ref_shift' (j : Fin 31) (t s : Fin 2048) :
    val_main_v48 (F := Ideal) (ix3 j t s) = if s.val + 30 = t.val + j.val then (1 : EReal) else 0 := by
  unfold val_main_v48 val_main_v47 val_main_v46 val_main_v45 val_main_v44 val_main_v43 val_main_v42 val_main_v41
    val_main_call1_v0 val_main_call1_v1
  pointwise [val_main_c_6, val_main_cst_7, val_main_cst_8]
  rw [WordCmp.cmpi_eq_eq_toNat]
  exact shift_word j t s

theorem ref_taps' (j : Fin 31) (t : Fin 2048) (k : Fin 512) :
    val_main_v50 (F := Ideal) (a0 m c) (ix3 j t k) = up m c (j.val + t.val) k := by
  rw [val_main_v50_apply]
  exact (Finset.sum_congr rfl fun s _ => congrArg₂ (fun u v : EReal => u * v)
    ((congrArg _ (Tile.ix3_of _ j t s rfl rfl rfl)).trans (ref_shift' j t s))
    ((congrArg _ (Tile.ix2_of _ s k rfl rfl)).trans (ref_u' m c s k))).trans (pick m c j t k)

theorem ref_y' (s : Fin 2048) (k : Fin 512) :
    val_main_v58 (F := Ideal) (a0 m c) (a1 m c) (a2 m c) (ix3 0 s k) = y m c s k := by
  unfold val_main_v58 val_main_v57 val_main_v56 val_main_v55 val_main_v54 val_main_v53 val_main_v52 val_main_v51 val_main_v31 val_main_v30
  pointwise [val_main_cst_9, ref_taps']
  rfl

/-! ## The norm over groups -/

theorem ref_y4 (s : Fin 2048) (q : Fin 8) (l : Fin 64) :
    val_main_v59 (F := Ideal) (a0 m c) (a1 m c) (a2 m c) (ix4 0 s q l) = y m c s (col q l) := by
  unfold val_main_v59
  pointwise [ref_y']
  rfl

theorem ref_mean (s : Fin 2048) (q : Fin 8) :
    val_main_v63 (F := Ideal) (a0 m c) (a1 m c) (a2 m c) (ix4 0 s q 0) = gm (y m c s) (col q 0) := by
  unfold val_main_v63 val_main_v62 val_main_v61 val_main_v60
  pointwise [val_main_cst_10, val_main_cst_11, ref_y4]
  rw [gm_col]
  rw [ofBits_64, Ideal.div_coe (by norm_num)]

theorem ref_dl (s : Fin 2048) (q : Fin 8) (l : Fin 64) :
    val_main_v65 (F := Ideal) (a0 m c) (a1 m c) (a2 m c) (ix4 0 s q l) = gdl (y m c s) (col q l) := by
  unfold val_main_v65 val_main_v64
  pointwise [ref_y4, ref_mean]
  rw [← gm_col_zero _ q l]
  rfl

theorem ref_dl' (s : Fin 2048) (q : Fin 8) (l : Fin 64) :
    val_main_v72 (F := Ideal) (a0 m c) (a1 m c) (a2 m c) (ix4 0 s q l) = gdl (y m c s) (col q l) := by
  unfold val_main_v72 val_main_v71
  pointwise [ref_y4, ref_mean]
  rw [← gm_col_zero _ q l]
  rfl

theorem ref_var (s : Fin 2048) (q : Fin 8) :
    val_main_v74 (F := Ideal) (a0 m c) (a1 m c) (a2 m c) (ix4 0 s q 0)
      = gm (fun j => gdl (y m c s) j * gdl (y m c s) j) (col q 0) + geps := by
  unfold val_main_v74 val_main_v73 val_main_v70 val_main_v69 val_main_v68 val_main_v67 val_main_v66
  pointwise [val_main_cst_12, val_main_cst_13, val_main_cst_14, ref_dl]
  rw [gm_col, ofBits_64, Ideal.div_coe (by norm_num)]
  rfl

theorem ref_rs (s : Fin 2048) (q : Fin 8) :
    val_main_v75 (F := Ideal) (a0 m c) (a1 m c) (a2 m c) (ix4 0 s q 0) = grs (y m c s) (col q 0) := by
  unfold val_main_v75
  pointwise [ref_var]
  rfl

theorem ref_un (s : Fin 2048) (q : Fin 8) (l : Fin 64) :
    val_main_v77 (F := Ideal) (a0 m c) (a1 m c) (a2 m c) (ix4 0 s q l) = gun (y m c s) (col q l) := by
  unfold val_main_v77 val_main_v76
  pointwise [ref_dl', ref_rs]
  rw [← grs_zero _ q l]
  rfl

theorem ref_nrm (s : Fin 2048) (k : Fin 512) :
    val_main_v78 (F := Ideal) (a0 m c) (a1 m c) (a2 m c) (ix3 0 s k) = gun (y m c s) k := by
  unfold val_main_v78
  pointwise [ref_un]
  exact congrArg _ (col_of k)

theorem ref_out (s : Fin 2048) (k : Fin 512) :
    val_main_v84 (F := Ideal) (a0 m c) (a1 m c) (a2 m c) (a3 m c) (a4 m c) (ix3 0 s k) = gout (y m c s) (gw m c) (gb m c) k := by
  unfold val_main_v84 val_main_v83 val_main_v82 val_main_v81 val_main_v80 val_main_v79 val_main_v33 val_main_v32
  pointwise [ref_nrm]
  rfl

theorem ref_res (s : Fin 2048) (k : Fin 512) :
    val_main_v86 (F := Ideal) (a0 m c) (a1 m c) (a2 m c) (a3 m c) (a4 m c) (ix2 s k)
      = gout (y m c s) (gw m c) (gb m c) k * Ideal.logistic (gout (y m c s) (gw m c) (gb m c) k) := by
  unfold val_main_v86 val_main_v85 val_main_call2_v5 val_main_call2_v4 val_main_call2_v3 val_main_call2_v2 val_main_call2_v1 val_main_call2_v0
  pointwise [val_main_call2_cst, val_main_call2_cst_0, ref_out]
  rfl

/-! ## The results -/

theorem fin_y : (dats m 0 c).arrAt 6 cfg0.N = val_main_v29 (F := Ideal) (a0 m c) (a1 m c) (a2 m c) := by
  refine (dats m 0 c).arrAt_eq_of_covers 6 _ (by decide +kernel) fun t hf y => ?_
  blk_simp
  rw [after0_6]
  obtain ⟨r, k, rfl⟩ : ∃ (r : Fin 256) (k : Fin 512), y = ix2 r k := ⟨_, _, eq_ix2 y⟩
  refine Eq.trans ?_ (congrArg _ (Tile.ix2_of _ (row t r) k (Tile.tile_coord 256 r.val (idx6 t).1) (Tile.whole_coord 512 k.val (idx6 t).2)).symm)
  exact (conv_at m c t r k).trans (ref_y m c (row t r) k).symm

theorem fin_out (R : Real m c) :
    (dats m 0 c).arrAt 7 cfg0.N = val_main_v86 (F := Ideal) (a0 m c) (a1 m c) (a2 m c) (a3 m c) (a4 m c) := by
  refine (dats m 0 c).arrAt_eq_of_covers 7 _ (by decide +kernel) fun t hf y => ?_
  blk_simp
  rw [after0_7]
  obtain ⟨r, k, rfl⟩ : ∃ (r : Fin 256) (k : Fin 512), y = ix2 r k := ⟨_, _, eq_ix2 y⟩
  refine Eq.trans ?_ (congrArg _ (Tile.ix2_of _ (row t r) k (Tile.tile_coord 256 r.val (idx7 t).1) (Tile.whole_coord 512 k.val (idx7 t).2)).symm)
  exact (out_at m c (real_y m c R) t r k).trans (ref_res m c (row t r) k).symm

end Cert.ConfFwdIdeal.Val

end
-- ==== Proof.ModRef.lean ====
/- The call that makes the modulation vectors: a silu and a product, in one piece, is the reference. Hand-written. -/
module

public import proofs.«01_k».proof.Proof.Gen.ModIdeal.Value
public import proofs.«01_k».proof.Proof.Tile
public import proofs.«01_k».proof.Proof.Gen.ModRefIdeal.Read
public import Idealize.ShloMosaic.Lib.Pipeline.ValueKit
public import Idealize.ShloMosaic.Lib.Pointwise

@[expose] public section

set_option maxRecDepth 16384

noncomputable section

namespace Cert.ModIdeal.Val

open Idealize.ShloMosaic Idealize.ShloMosaic.TcCoe Idealize.SL.Sem Cert.ModIdeal Cert.ModIdeal.Gen Cert.Tile
open Cert.ModRefIdeal.Read

variable (m : (ℓ : Loc nD τ sig) → Buf (Elt Ideal) ℓ) (c : Dev nD)

/-- The conditioning vectors and this device's columns of the weight. -/
abbrev a0 : FVec Ideal S8x1024 .f32 := m ((c : Thread nD τ).loc main_arg0)
abbrev a1 : FVec Ideal S1x1024x768 .f32 := m ((c : Thread nD τ).loc main_arg1)

/-- The silu of a number. -/
def act (v : EReal) : EReal := v * Ideal.logistic v
/-- The result. -/
def res (r : Fin 8) (k : Fin 768) : EReal := ∑ p : Fin 1024, act (a0 m c (ix2 r p)) * a1 m c (ix3 0 p k)

theorem V_w (p : Fin 1024) (k : Fin 768) : V m c main_v0 (ix2 p k) = a1 m c (ix3 0 p k) := by
  unfold V hostOps0
  after_results
  pointwise

theorem idx0 : ∀ t : Fin cfg0.N, win0_0.index t 0 = 0 ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)

theorem blk_c (t : Fin cfg0.N) (r : Fin 8) (p : Fin 1024) : (iblk m c 0 t : Vec Ideal S8x1024 .f32) (ix2 r p) = a0 m c (ix2 r p) :=
  (congrArg (V m c main_arg0) (Tile.ix2_of _ r p (Tile.whole_coord 8 r.val (idx0 t).1) (Tile.whole_coord 1024 p.val (idx0 t).2))).trans
    (congrFun (V_main_arg0 m c) _)

theorem blk_w (t : Fin cfg0.N) (p : Fin 1024) (k : Fin 768) : (iblk m c 1 t : Vec Ideal S1024x768 .f32) (ix2 p k) = a1 m c (ix3 0 p k) :=
  (congrArg (V m c main_v0) (Tile.ix2_of _ p k (Tile.whole_coord 1024 p.val (idx1 t).1) (Tile.whole_coord 768 k.val (idx1 t).2))).trans
    (V_w m c p k)

theorem pay_at (v : Vec Ideal S8x1024 .f32) (w : Vec Ideal S1024x768 .f32) (r : Fin 8) (k : Fin 768) :
    k0_pay1 v w (ix2 r k) = ∑ p : Fin 1024, act (v (ix2 r p)) * w (ix2 p k) := by
  unfold k0_pay1
  refine (matmul_NN _ rfl none _ _ r k).trans (Finset.sum_congr rfl fun p _ => ?_)
  simp only [shapeCast_self, ValueIdx.truncf_apply]
  rfl

theorem out_at (t : Fin cfg0.N) (r : Fin 8) (k : Fin 768) : out0_2 (iblk m c 0 t) (iblk m c 1 t) (ix2 r k) = res m c r k := by
  unfold out0_2
  refine View.canon_apply_of_pieces (Val := Elt Ideal) (fun y : S8x768.Idx => res m c (y 0) (y 1)) _ ?_ _ (cover0_2 _ _)
  intro pc hpc
  obtain rfl := List.mem_singleton.mp hpc
  intro x
  obtain ⟨i, j, rfl⟩ : ∃ (i : Fin 8) (j : Fin 768), x = ix2 i j := ⟨_, _, eq_ix2 x⟩
  have ei : r0_2.idx (ix2 i j) = ix2 i j := Tile.ix2_of _ i j (by show 0 + 1 * i.val = _; omega) (by show 0 + 1 * j.val = _; omega)
  refine Eq.trans ?_ (congrArg (fun y : S8x768.Idx => res m c (y 0) (y 1)) ei.symm)
  refine (pay_at _ _ i j).trans (Finset.sum_congr rfl fun p _ => congrArg₂ (fun u v : EReal => act u * v) ?_ ?_)
  · exact (congrFun (ld_whole _ _) _).trans (blk_c m c t i p)
  · exact (congrFun (ld_whole _ _) _).trans (blk_w m c t p j)

theorem ref_act (r : Fin 8) (p : Fin 1024) : val_main_v0 (F := Ideal) (a0 m c) (ix2 r p) = act (a0 m c (ix2 r p)) := by
  unfold val_main_v0 val_main_call0_v5 val_main_call0_v4 val_main_call0_v3 val_main_call0_v2 val_main_call0_v1 val_main_call0_v0
  pointwise [val_main_call0_cst, val_main_call0_cst_0]
  rfl

theorem ref_at (r : Fin 8) (k : Fin 768) : val_main_v2 (F := Ideal) (a0 m c) (a1 m c) (ix2 r k) = res m c r k := by
  rw [val_main_v2_apply]
  refine Finset.sum_congr rfl fun p _ => congrArg₂ (fun u v : EReal => u * v) ((congrArg _ (Tile.ix2_of _ r p rfl rfl)).trans (ref_act m c r p)) ?_
  refine (congrArg _ (Tile.ix2_of _ p k rfl rfl)).trans ?_
  unfold val_main_v1
  exact ValueIdx.shapeCast_1ab_ab_apply _ _ p k

theorem fin : (dats m 0 c).arrAt 2 cfg0.N = val_main_v2 (F := Ideal) (a0 m c) (a1 m c) := by
  refine (dats m 0 c).arrAt_eq_of_covers 2 _ (by decide +kernel) fun t hf y => ?_
  blk_simp
  rw [after0_2]
  obtain ⟨r, k, rfl⟩ : ∃ (r : Fin 8) (k : Fin 768), y = ix2 r k := ⟨_, _, eq_ix2 y⟩
  refine (out_at m c t r k).trans ((ref_at m c r k).symm.trans ?_)
  exact congrArg _ (Tile.ix2_of _ r k (Tile.whole_coord 8 r.val (idx2 t).1) (Tile.whole_coord 768 k.val (idx2 t).2)).symm

end Cert.ModIdeal.Val

end

end
-- ==== Proof.GradFfnInRef.lean ====
/- The gradient of the feed-forward network's first weight: block by block the kernel's product is the reference's. Hand-written. -/
module

public import proofs.«01_k».proof.Proof.Gen.GradFfnInIdeal.Value
public import proofs.«01_k».proof.Proof.Tile
public import proofs.«01_k».proof.Proof.Gen.GradFfnInRefIdeal.Read
public import Idealize.ShloMosaic.Lib.Pipeline.ValueKit
public import Idealize.ShloMosaic.Lib.Pointwise

@[expose] public section

set_option maxRecDepth 16384

noncomputable section

namespace Cert.GradFfnInIdeal.Val

open Idealize.ShloMosaic Idealize.ShloMosaic.TcCoe Idealize.SL.Sem Cert.GradFfnInIdeal Cert.GradFfnInIdeal.Gen Cert.Tile
open Cert.GradFfnInRefIdeal.Read

variable (m : (ℓ : Loc nD τ sig) → Buf (Elt Ideal) ℓ) (c : Dev nD)

/-- The arguments. -/
abbrev a0 : FVec Ideal S1x2048x1024 .f32 := m ((c : Thread nD τ).loc main_arg0)
abbrev a1 : FVec Ideal S1x6144 .f32 := m ((c : Thread nD τ).loc main_arg1)
abbrev a2 : FVec Ideal S1x6144 .f32 := m ((c : Thread nD τ).loc main_arg2)
abbrev a3 : FVec Ideal S1x1024 .f32 := m ((c : Thread nD τ).loc main_arg3)
abbrev a5 : FVec Ideal S1x2048x5632 .f32 := m ((c : Thread nD τ).loc main_arg5)

/-- The block's input, the norm's weight, the shift and the scale. -/
def x (s : Fin 2048) (k : Fin 1024) : EReal := a0 m c (ix3 0 s k)
def nw (k : Fin 1024) : EReal := a3 m c (ix2 0 k)
def sh (k : Fin 1024) : EReal := a1 m c (ix2 0 ⟨3072 + k.val, by omega⟩) + a2 m c (ix2 0 ⟨3072 + k.val, by omega⟩)
def sc (k : Fin 1024) : EReal := 1 + (a1 m c (ix2 0 ⟨4096 + k.val, by omega⟩) + a2 m c (ix2 0 ⟨4096 + k.val, by omega⟩))
/-- A row's mean square plus the small constant, and the row normalised and modulated. -/
def ms (s : Fin 2048) : EReal := Ideal.div (∑ k : Fin 1024, x m c s k * x m c s k) (Ideal.ofBits .f32 0x44800000#32) + Ideal.ofBits .f32 0x358637BD#32
def h (s : Fin 2048) (k : Fin 1024) : EReal := ((x m c s k * Ideal.rsqrt (ms m c s)) * nw m c k) * sc m c k + sh m c k

/-- The result: column `704 j + q` of the wide array against column `k` of the normalised rows. -/
def res (j : Fin 8) (q : Fin 704) (k : Fin 1024) : EReal :=
  ∑ s : Fin 2048, a5 m c (ix3 0 s ⟨j.val * 704 + q.val, by omega⟩) * h m c s k

/-! ## The host lines and the windows -/

theorem V_wide (j : Fin 8) (s : Fin 2048) (q : Fin 704) : V m c main_v27 (ix3 j s q) = a5 m c (ix3 0 s ⟨j.val * 704 + q.val, by omega⟩) := by
  unfold V hostOps0
  after_results
  pointwise

theorem V_narrow (s : Fin 2048) (k : Fin 1024) : V m c main_v29 (ix2 s k) = h m c s k := by
  unfold V hostOps0
  after_results
  pointwise
  rfl

/-- The block of columns a grid point works on. -/
abbrev blkOf (t : Fin cfg0.N) : Fin 8 := ⟨t.val, lt_of_lt_of_eq t.isLt N_0⟩

theorem idxN : ∀ t : Fin cfg0.N, win0_0.index t 0 = 0 ∧ win0_0.index t 1 = 0 := (by decide +kernel : ∀ t : Fin grid0.N, _)
theorem idxW : ∀ t : Fin cfg0.N, win0_1.index t 0 = t.val ∧ win0_1.index t 1 = 0 ∧ win0_1.index t 2 = 0 := (by decide +kernel : ∀ t : Fin grid0.N, _)
theorem idx2 : ∀ t : Fin cfg0.N, win0_2.index t 0 = t.val ∧ win0_2.index t 1 = 0 ∧ win0_2.index t 2 = 0 := (by decide +kernel : ∀ t : Fin grid0.N, _)

theorem slab_coord {i t : ℕ} (h : i = t) : i * 1 + 1 * 0 = t := by omega

theorem blk_narrow (t : Fin cfg0.N) (s : Fin 2048) (k : Fin 1024) : (iblk m c 0 t : Vec Ideal S2048x1024 .bf16) (ix2 s k) = h m c s k :=
  (congrArg (V m c main_v29) (Tile.ix2_of _ s k (Tile.whole_coord 2048 s.val (idxN t).1) (Tile.whole_coord 1024 k.val (idxN t).2))).trans
    (V_narrow m c s k)

theorem blk_wide (t : Fin cfg0.N) (s : Fin 2048) (q : Fin 704) :
    (iblk m c 1 t : Vec Ideal S1x2048x704 .bf16) (ix3 0 s q) = a5 m c (ix3 0 s ⟨(blkOf t).val * 704 + q.val, by omega⟩) :=
  (congrArg (V m c main_v27) (Tile.ix3_of _ (blkOf t) s q (slab_coord (idxW t).1) (Tile.whole_coord 2048 s.val (idxW t).2.1)
    (Tile.whole_coord 704 q.val (idxW t).2.2))).trans (V_wide m c (blkOf t) s q)

/-! ## One grid point -/

theorem pay_at (v : Vec Ideal S1x2048x704 .bf16) (w : Vec Ideal S2048x1024 .bf16) (q : Fin 704) (k : Fin 1024) :
    k0_pay1 v w (ix3 0 q k) = ∑ s : Fin 2048, v (ix3 0 s q) * w (ix2 s k) := by
  unfold k0_pay1
  refine (ValueIdx.shapeCast_ab_1ab_apply _ _ 0 q k).trans ?_
  simp only [shapeCast_self, ValueIdx.truncf_apply]
  refine (matmul_TN (φ₁ := .bf16) (φ₂ := .bf16) _ rfl none _ _ q k).trans (Finset.sum_congr rfl fun s _ => congrArg (fun z : EReal => z * w (ix2 s k)) ?_)
  exact ValueIdx.shapeCast_1ab_ab_apply _ _ s q

theorem out_at (t : Fin cfg0.N) (q : Fin 704) (k : Fin 1024) : out0_2 (iblk m c 0 t) (iblk m c 1 t) (ix3 0 q k) = res m c (blkOf t) q k := by
  unfold out0_2
  refine View.canon_apply_of_pieces (Val := Elt Ideal) (fun y : S1x704x1024.Idx => res m c (blkOf t) (y 1) (y 2)) _ ?_ _ (cover0_2 _ _)
  intro pc hpc
  obtain rfl := List.mem_singleton.mp hpc
  intro x
  obtain ⟨z, i, j, rfl⟩ : ∃ (z : Fin 1) (i : Fin 704) (j : Fin 1024), x = ix3 z i j := ⟨_, _, _, eq_ix3 x⟩
  obtain rfl : z = 0 := Subsingleton.elim _ _
  have ei : r0_2.idx (ix3 0 i j) = ix3 0 i j := Tile.ix3_of _ 0 i j rfl (by show 0 + 1 * i.val = _; omega) (by show 0 + 1 * j.val = _; omega)
  refine Eq.trans ?_ (congrArg (fun y : S1x704x1024.Idx => res m c (blkOf t) (y 1) (y 2)) ei.symm)
  refine (pay_at _ _ i j).trans (Finset.sum_congr rfl fun s _ => congrArg₂ (fun u v : EReal => u * v) ?_ ?_)
  · exact (ld_slab _ 0 _ 0 rfl s i).trans (blk_wide m c t s i)
  · exact (congrFun (ld_whole _ _) _).trans (blk_narrow m c t s j)

/-! ## The reference -/

theorem ref_ms (s : Fin 2048) (k : Fin 1) : val_main_v16 (F := Ideal) (a0 m c) (ix3 0 s k) = ms m c s := by
  unfold val_main_v16 val_main_v15 val_main_v14 val_main_v13 val_main_v12 val_main_v11
  pointwise [val_main_cst, val_main_cst_0, val_main_cst_1, val_main_v10]
  rfl

theorem ref_sc (k : Fin 1024) : val_main_v25 (F := Ideal) (a1 m c) (a2 m c) (ix3 0 0 k) = sc m c k := by
  unfold val_main_v25 val_main_v24 val_main_v23 val_main_v7 val_main_v2 val_main_v1 val_main_v0
  pointwise [val_main_cst_2]
  rfl

theorem ref_h (s : Fin 2048) (k : Fin 1024) : val_main_v30 (F := Ideal) (a0 m c) (a1 m c) (a2 m c) (a3 m c) (ix3 0 s k) = h m c s k := by
  unfold val_main_v30 val_main_v29 val_main_v28 val_main_v27 val_main_v26 val_main_v22 val_main_v21 val_main_v20 val_main_v19 val_main_v18
    val_main_v17 val_main_v9 val_main_v6 val_main_v2 val_main_v1 val_main_v0
  pointwise [ref_ms, ref_sc]
  rfl

theorem ref_dot (i : Fin 5632) (k : Fin 1024) :
    val_main_v35 (F := Ideal) (a0 m c) (a1 m c) (a2 m c) (a3 m c) (a5 m c) (ix2 i k) = ∑ s : Fin 2048, a5 m c (ix3 0 s i) * h m c s k := by
  rw [val_main_v35_apply]
  refine Finset.sum_congr rfl fun s _ => congrArg₂ (fun u v : EReal => u * v) ((congrArg _ (Tile.ix2_of _ s i rfl rfl)).trans ?_)
    ((congrArg _ (Tile.ix2_of _ s k rfl rfl)).trans ?_)
  · unfold val_main_v34
    exact ValueIdx.shapeCast_1ab_ab_apply _ _ s i
  · unfold val_main_v32
    exact (ValueIdx.shapeCast_1ab_ab_apply _ _ s k).trans (ref_h m c s k)

theorem ref_at (j : Fin 8) (q : Fin 704) (k : Fin 1024) :
    val_main_v39 (F := Ideal) (a0 m c) (a1 m c) (a2 m c) (a3 m c) (a5 m c) (ix3 j q k) = res m c j q k := by
  unfold val_main_v39 val_main_v38 val_main_v37 val_main_v36
  pointwise [ref_dot]
  rfl

theorem fin : (dats m 0 c).arrAt 2 cfg0.N = val_main_v39 (F := Ideal) (a0 m c) (a1 m c) (a2 m c) (a3 m c) (a5 m c) := by
  refine (dats m 0 c).arrAt_eq_of_covers 2 _ (by decide +kernel) fun t hf y => ?_
  blk_simp
  rw [after0_2]
  obtain ⟨z, q, k, rfl⟩ : ∃ (z : Fin 1) (q : Fin 704) (k : Fin 1024), y = ix3 z q k := ⟨_, _, _, eq_ix3 y⟩
  obtain rfl : z = 0 := Subsingleton.elim _ _
  refine (out_at m c t q k).trans ((ref_at m c (blkOf t) q k).symm.trans ?_)
  exact congrArg _ (Tile.ix3_of _ (blkOf t) q k (slab_coord (idx2 t).1) (Tile.whole_coord 704 q.val (idx2 t).2.1)
    (Tile.whole_coord 1024 k.val (idx2 t).2.2)).symm

end Cert.GradFfnInIdeal.Val

end

end
-- ==== Proof.GradFfnOutRef.lean ====
/- The gradient of the feed-forward network's second weight: block by block the kernel's product is the reference's. Hand-written. -/
module

public import proofs.«01_k».proof.Proof.Gen.GradFfnOutIdeal.Value
public import proofs.«01_k».proof.Proof.Tile
public import proofs.«01_k».proof.Proof.Gen.GradFfnOutRefIdeal.Read
public import Idealize.ShloMosaic.Lib.Pipeline.ValueKit
public import Idealize.ShloMosaic.Lib.Pointwise

@[expose] public section

set_option maxRecDepth 16384

noncomputable section

namespace Cert.GradFfnOutIdeal.Val

open Idealize.ShloMosaic Idealize.ShloMosaic.TcCoe Idealize.SL.Sem Cert.GradFfnOutIdeal Cert.GradFfnOutIdeal.Gen Cert.Tile
open Cert.GradFfnOutRefIdeal.Read

variable (m : (ℓ : Loc nD τ sig) → Buf (Elt Ideal) ℓ) (c : Dev nD)

/-- The arguments. -/
abbrev a0 : FVec Ideal S1x2048x1024 .f32 := m ((c : Thread nD τ).loc main_arg0)
abbrev a1 : FVec Ideal S1x6144 .f32 := m ((c : Thread nD τ).loc main_arg1)
abbrev a2 : FVec Ideal S1x6144 .f32 := m ((c : Thread nD τ).loc main_arg2)
abbrev a3 : FVec Ideal S1x1024 .f32 := m ((c : Thread nD τ).loc main_arg3)
abbrev a4 : FVec Ideal S1x1024x5632 .f32 := m ((c : Thread nD τ).loc main_arg4)
abbrev a6 : FVec Ideal S1x2048x1024 .f32 := m ((c : Thread nD τ).loc main_arg6)

/-- The block's input, the norm's weight, the shift and the scale. -/
def x (s : Fin 2048) (k : Fin 1024) : EReal := a0 m c (ix3 0 s k)
def nw (k : Fin 1024) : EReal := a3 m c (ix2 0 k)
def sh (k : Fin 1024) : EReal := a1 m c (ix2 0 ⟨3072 + k.val, by omega⟩) + a2 m c (ix2 0 ⟨3072 + k.val, by omega⟩)
def sc (k : Fin 1024) : EReal := 1 + (a1 m c (ix2 0 ⟨4096 + k.val, by omega⟩) + a2 m c (ix2 0 ⟨4096 + k.val, by omega⟩))
/-- A row's mean square plus the small constant, and the row normalised and modulated. -/
def ms (s : Fin 2048) : EReal := Ideal.div (∑ k : Fin 1024, x m c s k * x m c s k) (Ideal.ofBits .f32 0x44800000#32) + Ideal.ofBits .f32 0x358637BD#32
def h (s : Fin 2048) (k : Fin 1024) : EReal := ((x m c s k * Ideal.rsqrt (ms m c s)) * nw m c k) * sc m c k + sh m c k

/-- Their product with the first weight, and the gated product the second weight takes. -/
def pre (s : Fin 2048) (q : Fin 5632) : EReal := ∑ k : Fin 1024, h m c s k * a4 m c (ix3 0 k q)
def act (s : Fin 2048) (q : Fin 2816) : EReal :=
  (pre m c s ⟨q.val, by omega⟩ * Ideal.logistic (pre m c s ⟨q.val, by omega⟩)) * pre m c s ⟨2816 + q.val, by omega⟩

/-- The result: column `704 j + q` of the gated product against column `k` of the gradient. -/
def res (j : Fin 4) (q : Fin 704) (k : Fin 1024) : EReal :=
  ∑ s : Fin 2048, act m c s ⟨j.val * 704 + q.val, by omega⟩ * a6 m c (ix3 0 s k)

/-! ## The host lines and the windows -/

theorem dot_pre (a : FVec Ideal S2048x1024 .f32) (b : FVec Ideal S1024x5632 .f32) (s : Fin 2048) (q : Fin 5632) :
    Host.dotGeneral (F := Ideal) (φ₁ := .f32) (φ₂ := .f32) dot_S2048x1024_S1024x5632_S2048x5632_1_0_0_1_n_n none a b (ix2 s q) = ∑ k : Fin 1024, a (ix2 s k) * b (ix2 k q) :=
  Tile.host_NN _ rfl _ _ _ _ s q

theorem V_wide (j : Fin 4) (s : Fin 2048) (q : Fin 704) : V m c main_v40 (ix3 j s q) = act m c s ⟨j.val * 704 + q.val, by omega⟩ := by
  unfold V hostOps0
  after_results
  pointwise [dot_pre]
  rfl

theorem V_narrow (s : Fin 2048) (k : Fin 1024) : V m c main_v42 (ix2 s k) = a6 m c (ix3 0 s k) := by
  unfold V hostOps0
  after_results
  pointwise

/-- The block of columns a grid point works on. -/
abbrev blkOf (t : Fin cfg0.N) : Fin 4 := ⟨t.val, lt_of_lt_of_eq t.isLt N_0⟩

theorem idxN : ∀ t : Fin cfg0.N, win0_1.index t 0 = 0 ∧ win0_1.index t 1 = 0 := (by decide +kernel : ∀ t : Fin grid0.N, _)
theorem idxW : ∀ t : Fin cfg0.N, win0_0.index t 0 = t.val ∧ win0_0.index t 1 = 0 ∧ win0_0.index t 2 = 0 := (by decide +kernel : ∀ t : Fin grid0.N, _)
theorem idx2 : ∀ t : Fin cfg0.N, win0_2.index t 0 = t.val ∧ win0_2.index t 1 = 0 ∧ win0_2.index t 2 = 0 := (by decide +kernel : ∀ t : Fin grid0.N, _)

theorem slab_coord {i t : ℕ} (h : i = t) : i * 1 + 1 * 0 = t := by omega

theorem blk_narrow (t : Fin cfg0.N) (s : Fin 2048) (k : Fin 1024) : (iblk m c 1 t : Vec Ideal S2048x1024 .bf16) (ix2 s k) = a6 m c (ix3 0 s k) :=
  (congrArg (V m c main_v42) (Tile.ix2_of _ s k (Tile.whole_coord 2048 s.val (idxN t).1) (Tile.whole_coord 1024 k.val (idxN t).2))).trans
    (V_narrow m c s k)

theorem blk_wide (t : Fin cfg0.N) (s : Fin 2048) (q : Fin 704) :
    (iblk m c 0 t : Vec Ideal S1x2048x704 .bf16) (ix3 0 s q) = act m c s ⟨(blkOf t).val * 704 + q.val, by omega⟩ :=
  (congrArg (V m c main_v40) (Tile.ix3_of _ (blkOf t) s q (slab_coord (idxW t).1) (Tile.whole_coord 2048 s.val (idxW t).2.1)
    (Tile.whole_coord 704 q.val (idxW t).2.2))).trans (V_wide m c (blkOf t) s q)

/-! ## One grid point -/

theorem pay_at (v : Vec Ideal S1x2048x704 .bf16) (w : Vec Ideal S2048x1024 .bf16) (q : Fin 704) (k : Fin 1024) :
    k0_pay1 v w (ix3 0 q k) = ∑ s : Fin 2048, v (ix3 0 s q) * w (ix2 s k) := by
  unfold k0_pay1
  refine (ValueIdx.shapeCast_ab_1ab_apply _ _ 0 q k).trans ?_
  simp only [shapeCast_self, ValueIdx.truncf_apply]
  refine (matmul_TN (φ₁ := .bf16) (φ₂ := .bf16) _ rfl none _ _ q k).trans (Finset.sum_congr rfl fun s _ => congrArg (fun z : EReal => z * w (ix2 s k)) ?_)
  exact ValueIdx.shapeCast_1ab_ab_apply _ _ s q

theorem out_at (t : Fin cfg0.N) (q : Fin 704) (k : Fin 1024) : out0_2 (iblk m c 0 t) (iblk m c 1 t) (ix3 0 q k) = res m c (blkOf t) q k := by
  unfold out0_2
  refine View.canon_apply_of_pieces (Val := Elt Ideal) (fun y : S1x704x1024.Idx => res m c (blkOf t) (y 1) (y 2)) _ ?_ _ (cover0_2 _ _)
  intro pc hpc
  obtain rfl := List.mem_singleton.mp hpc
  intro x
  obtain ⟨z, i, j, rfl⟩ : ∃ (z : Fin 1) (i : Fin 704) (j : Fin 1024), x = ix3 z i j := ⟨_, _, _, eq_ix3 x⟩
  obtain rfl : z = 0 := Subsingleton.elim _ _
  have ei : r0_2.idx (ix3 0 i j) = ix3 0 i j := Tile.ix3_of _ 0 i j rfl (by show 0 + 1 * i.val = _; omega) (by show 0 + 1 * j.val = _; omega)
  refine Eq.trans ?_ (congrArg (fun y : S1x704x1024.Idx => res m c (blkOf t) (y 1) (y 2)) ei.symm)
  refine (pay_at _ _ i j).trans (Finset.sum_congr rfl fun s _ => congrArg₂ (fun u v : EReal => u * v) ?_ ?_)
  · exact (ld_slab _ 0 _ 0 rfl s i).trans (blk_wide m c t s i)
  · exact (congrFun (ld_whole _ _) _).trans (blk_narrow m c t s j)

/-! ## The reference -/

theorem ref_ms (s : Fin 2048) (k : Fin 1) : val_main_v16 (F := Ideal) (a0 m c) (ix3 0 s k) = ms m c s := by
  unfold val_main_v16 val_main_v15 val_main_v14 val_main_v13 val_main_v12 val_main_v11
  pointwise [val_main_cst, val_main_cst_0, val_main_cst_1, val_main_v10]
  rfl

theorem ref_sc (k : Fin 1024) : val_main_v25 (F := Ideal) (a1 m c) (a2 m c) (ix3 0 0 k) = sc m c k := by
  unfold val_main_v25 val_main_v24 val_main_v23 val_main_v7 val_main_v2 val_main_v1 val_main_v0
  pointwise [val_main_cst_2]
  rfl

theorem ref_h (s : Fin 2048) (k : Fin 1024) : val_main_v30 (F := Ideal) (a0 m c) (a1 m c) (a2 m c) (a3 m c) (ix3 0 s k) = h m c s k := by
  unfold val_main_v30 val_main_v29 val_main_v28 val_main_v27 val_main_v26 val_main_v22 val_main_v21 val_main_v20 val_main_v19 val_main_v18
    val_main_v17 val_main_v9 val_main_v6 val_main_v2 val_main_v1 val_main_v0
  pointwise [ref_ms, ref_sc]
  rfl

theorem ref_pre (s : Fin 2048) (q : Fin 5632) :
    val_main_v32 (F := Ideal) (a0 m c) (a1 m c) (a2 m c) (a3 m c) (a4 m c) (ix3 0 s q) = pre m c s q := by
  rw [val_main_v32_apply]
  refine Finset.sum_congr rfl fun k _ => congrArg₂ (fun u v : EReal => u * v)
    ((congrArg _ (Tile.ix3_of _ 0 s k rfl rfl rfl)).trans (ref_h m c s k)) ((congrArg _ (Tile.ix2_of _ k q rfl rfl)).trans ?_)
  unfold val_main_v31
  exact ValueIdx.shapeCast_1ab_ab_apply _ _ k q

theorem ref_act (s : Fin 2048) (q : Fin 2816) :
    val_main_v38 (F := Ideal) (a0 m c) (a1 m c) (a2 m c) (a3 m c) (a4 m c) (ix2 s q) = act m c s q := by
  unfold val_main_v38 val_main_v36 val_main_v35 val_main_v34 val_main_call0_v5 val_main_call0_v4 val_main_call0_v3 val_main_call0_v2
    val_main_call0_v1 val_main_call0_v0 val_main_v33
  pointwise [val_main_call0_cst, val_main_call0_cst_0, ref_pre]
  rfl

theorem ref_dot (k : Fin 1024) (i : Fin 2816) :
    val_main_v41 (F := Ideal) (a0 m c) (a1 m c) (a2 m c) (a3 m c) (a4 m c) (a6 m c) (ix2 k i) = ∑ s : Fin 2048, act m c s i * a6 m c (ix3 0 s k) := by
  rw [val_main_v41_apply]
  refine Finset.sum_congr rfl fun s _ => (congrArg₂ (fun u v : EReal => u * v) ((congrArg _ (Tile.ix2_of _ s k rfl rfl)).trans ?_)
    ((congrArg _ (Tile.ix2_of _ s i rfl rfl)).trans (ref_act m c s i))).trans (mul_comm (a6 m c (ix3 0 s k)) (act m c s i))
  unfold val_main_v40
  exact ValueIdx.shapeCast_1ab_ab_apply _ _ s k

theorem ref_at (j : Fin 4) (q : Fin 704) (k : Fin 1024) :
    val_main_v44 (F := Ideal) (a0 m c) (a1 m c) (a2 m c) (a3 m c) (a4 m c) (a6 m c) (ix3 j q k) = res m c j q k := by
  unfold val_main_v44 val_main_v43 val_main_v42
  pointwise [ref_dot]
  rfl

theorem fin : (dats m 0 c).arrAt 2 cfg0.N = val_main_v44 (F := Ideal) (a0 m c) (a1 m c) (a2 m c) (a3 m c) (a4 m c) (a6 m c) := by
  refine (dats m 0 c).arrAt_eq_of_covers 2 _ (by decide +kernel) fun t hf y => ?_
  blk_simp
  rw [after0_2]
  obtain ⟨z, q, k, rfl⟩ : ∃ (z : Fin 1) (q : Fin 704) (k : Fin 1024), y = ix3 z q k := ⟨_, _, _, eq_ix3 y⟩
  obtain rfl : z = 0 := Subsingleton.elim _ _
  refine (out_at m c t q k).trans ((ref_at m c (blkOf t) q k).symm.trans ?_)
  exact congrArg _ (Tile.ix3_of _ (blkOf t) q k (slab_coord (idx2 t).1) (Tile.whole_coord 704 q.val (idx2 t).2.1)
    (Tile.whole_coord 1024 k.val (idx2 t).2.2)).symm

end Cert.GradFfnOutIdeal.Val

end

end
-- ==== Proof.Adam.lean ====
/- The optimiser's step on one number, and a store of a whole block read back. Hand-written. -/
module

public import proofs.«01_k».proof.Proof.Tile
public import Idealize.ShloMosaic.Lib.Pipeline.ValueKit
public import Idealize.ShloMosaic.Lib.Pointwise

@[expose] public section

noncomputable section

namespace Cert.Adam

open Idealize.ShloMosaic Cert.Tile

/-- The first and second moment after a gradient `g`. -/
def fst (g m : EReal) : EReal := Ideal.ofBits .f32 0x3F666666#32 * m + Ideal.ofBits .f32 0x3DCCCCCD#32 * g
def snd (g v : EReal) : EReal := Ideal.ofBits .f32 0x3F7FBE77#32 * v + Ideal.ofBits .f32 0x3A83126F#32 * (g * g)

/-- The change of the weight `w`. -/
def del (g w m v : EReal) : EReal :=
  Ideal.ofBits .f32 0xBA83126F#32 * (Ideal.div (Ideal.div (fst g m) (Ideal.ofBits .f32 0x3F26BD02#32))
    (Ideal.sqrt (Ideal.div (snd g v) (Ideal.ofBits .f32 0x3C231ACC#32)) + Ideal.ofBits .f32 0x322BCC77#32) + Ideal.ofBits .f32 0x3C23D70A#32 * w)

/-- One store over a whole block leaves the stored value. -/
theorem canon_whole {M N : ℕ} (inb) (p : Vec Ideal ⟨2, ![M, N]⟩ .f32) (i : Fin M) (j : Fin N)
    (hc : ∀ y : (⟨2, ![M, N]⟩ : Shape).Idx, ∃ pc ∈ ([⟨Rect.unit (s := ⟨2, ![M, N]⟩) ![0, 0] ![M, N] inb, p⟩] :
      List (View.Piece (Elt Ideal) ⟨2, ![M, N]⟩ .f32)), y ∈ pc.1.set) :
    View.canon [(⟨Rect.unit (s := ⟨2, ![M, N]⟩) ![0, 0] ![M, N] inb, p⟩ : View.Piece (Elt Ideal) ⟨2, ![M, N]⟩ .f32)] (ix2 i j) = p (ix2 i j) := by
  refine View.canon_apply_of_pieces (Val := Elt Ideal) p _ ?_ _ (hc _)
  intro pc hpc
  obtain rfl := List.mem_singleton.mp hpc
  intro x
  obtain ⟨r, k, rfl⟩ : ∃ (r : Fin M) (k : Fin N), x = ix2 r k := ⟨_, _, eq_ix2 x⟩
  exact congrArg p (Tile.ix2_of _ r k (by show 0 + 1 * r.val = _; omega) (by show 0 + 1 * k.val = _; omega)).symm

end Cert.Adam

end

end
-- ==== Proof.AdaAdamRef.lean ====
/- The modulation weight's gradient and the optimiser's step: block by block the kernel is the reference. Hand-written. -/
module

public import proofs.«01_k».proof.Proof.Gen.AdaAdamIdeal.Value
public import proofs.«01_k».proof.Proof.Adam
public import proofs.«01_k».proof.Proof.Gen.AdaAdamRefIdeal.Read
public import Idealize.ShloMosaic.Lib.Pipeline.ValueKit
public import Idealize.ShloMosaic.Lib.Pointwise

@[expose] public section

set_option maxRecDepth 16384

noncomputable section

namespace Cert.AdaAdamIdeal.Val

open Idealize.ShloMosaic Idealize.ShloMosaic.TcCoe Idealize.SL.Sem Cert.AdaAdamIdeal Cert.AdaAdamIdeal.Gen Cert.Tile
open Cert.AdaAdamRefIdeal.Read

variable (m : (ℓ : Loc nD τ sig) → Buf (Elt Ideal) ℓ) (c : Dev nD)

/-- The conditioning vectors, the gradient of the modulation, the weight and its two moments. -/
abbrev a0 : FVec Ideal S8x1024 .f32 := m ((c : Thread nD τ).loc main_arg0)
abbrev a1 : FVec Ideal S8x768 .f32 := m ((c : Thread nD τ).loc main_arg1)
abbrev a2 : FVec Ideal S1x1024x768 .f32 := m ((c : Thread nD τ).loc main_arg2)
abbrev a3 : FVec Ideal S1x1024x768 .f32 := m ((c : Thread nD τ).loc main_arg3)
abbrev a4 : FVec Ideal S1x1024x768 .f32 := m ((c : Thread nD τ).loc main_arg4)

/-- The silu of a number. -/
def act (v : EReal) : EReal := v * Ideal.logistic v
/-- The gradient and the three results of the step. -/
def g (r : Fin 1024) (k : Fin 768) : EReal := ∑ b : Fin 8, act (a0 m c (ix2 b r)) * a1 m c (ix2 b k)
def fm (r : Fin 1024) (k : Fin 768) : EReal := Adam.fst (g m c r k) (a3 m c (ix3 0 r k))
def fv (r : Fin 1024) (k : Fin 768) : EReal := Adam.snd (g m c r k) (a4 m c (ix3 0 r k))
def fd (r : Fin 1024) (k : Fin 768) : EReal := Adam.del (g m c r k) (a2 m c (ix3 0 r k)) (a3 m c (ix3 0 r k)) (a4 m c (ix3 0 r k))

/-! ## The host lines and the windows -/

theorem V_w (r : Fin 1024) (k : Fin 768) : V m c main_v0 (ix2 r k) = a2 m c (ix3 0 r k) := by
  unfold V hostOps0; after_results; pointwise
theorem V_m (r : Fin 1024) (k : Fin 768) : V m c main_v1 (ix2 r k) = a3 m c (ix3 0 r k) := by
  unfold V hostOps0; after_results; pointwise
theorem V_v (r : Fin 1024) (k : Fin 768) : V m c main_v2 (ix2 r k) = a4 m c (ix3 0 r k) := by
  unfold V hostOps0; after_results; pointwise

theorem lt4 (t : Fin cfg0.N) : t.val < 4 := lt_of_lt_of_eq t.isLt N_0
/-- The row a grid point's row `r` is. -/
abbrev row (t : Fin cfg0.N) (r : Fin 256) : Fin 1024 := ⟨256 * t.val + r.val, by have := lt4 t; omega⟩

theorem idx0 : ∀ t : Fin cfg0.N, win0_0.index t 0 = 0 ∧ win0_0.index t 1 = t.val := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)

/-- The place of a block's entry, the same for the seven windows that go by rows. -/
theorem at_row (t : Fin cfg0.N) (y : S1024x768.Idx) (r : Fin 256) (k : Fin 768) (h0 : (y 0).val = win0_2.index t 0 * 256 + 1 * r.val)
    (h1 : (y 1).val = win0_2.index t 1 * 768 + 1 * k.val) : y = ix2 (row t r) k :=
  Tile.ix2_of y (row t r) k (h0.trans (Tile.tile_coord 256 r.val (idx2 t).1)) (h1.trans (Tile.whole_coord 768 k.val (idx2 t).2))

theorem blk_c (t : Fin cfg0.N) (b : Fin 8) (r : Fin 256) : (iblk m c 0 t : Vec Ideal S8x256 .f32) (ix2 b r) = a0 m c (ix2 b (row t r)) :=
  (congrArg (V m c main_arg0) (Tile.ix2_of _ b (row t r) (Tile.whole_coord 8 b.val (idx0 t).1) (Tile.tile_coord 256 r.val (idx0 t).2))).trans
    (congrFun (V_main_arg0 m c) _)
theorem blk_d (t : Fin cfg0.N) (b : Fin 8) (k : Fin 768) : (iblk m c 1 t : Vec Ideal S8x768 .f32) (ix2 b k) = a1 m c (ix2 b k) :=
  (congrArg (V m c main_arg1) (Tile.ix2_of _ b k (Tile.whole_coord 8 b.val (idx1 t).1) (Tile.whole_coord 768 k.val (idx1 t).2))).trans
    (congrFun (V_main_arg1 m c) _)
theorem blk_w (t : Fin cfg0.N) (r : Fin 256) (k : Fin 768) : (iblk m c 2 t : Vec Ideal S256x768 .f32) (ix2 r k) = a2 m c (ix3 0 (row t r) k) :=
  (congrArg (V m c main_v0) (at_row t _ r k rfl rfl)).trans (V_w m c _ k)
theorem blk_m (t : Fin cfg0.N) (r : Fin 256) (k : Fin 768) : (iblk m c 3 t : Vec Ideal S256x768 .f32) (ix2 r k) = a3 m c (ix3 0 (row t r) k) :=
  (congrArg (V m c main_v1) (at_row t _ r k rfl rfl)).trans (V_m m c _ k)
theorem blk_v (t : Fin cfg0.N) (r : Fin 256) (k : Fin 768) : (iblk m c 4 t : Vec Ideal S256x768 .f32) (ix2 r k) = a4 m c (ix3 0 (row t r) k) :=
  (congrArg (V m c main_v2) (at_row t _ r k rfl rfl)).trans (V_v m c _ k)

/-! ## One grid point -/

theorem pay1_at (t : Fin cfg0.N) (r : Fin 256) (k : Fin 768) :
    k0_pay1 (View.ld (iblk m c 0 t : Vec Ideal S8x256 .f32) r0_0) (View.ld (iblk m c 1 t : Vec Ideal S8x768 .f32) r0_1) (ix2 r k) = g m c (row t r) k := by
  unfold k0_pay1
  refine (matmul_TN (φ₁ := .f32) (φ₂ := .f32) _ rfl (some .fp32) _ _ r k).trans
    (Finset.sum_congr rfl fun b _ => congrArg₂ (fun u v : EReal => act u * v) ?_ ?_)
  · exact (congrFun (ld_whole _ _) _).trans (blk_c m c t b r)
  · exact (congrFun (ld_whole _ _) _).trans (blk_d m c t b k)

theorem pay2_at (v0 : Vec Ideal S8x256 .f32) (v3 : Vec Ideal S8x768 .f32) (x : Vec Ideal S256x768 .f32) (i : S256x768.Idx) :
    k0_pay2 v0 v3 x i = Adam.fst (k0_pay1 v0 v3 i) (x i) := by
  unfold k0_pay2
  simp only [shapeCast_self]
  rfl

theorem pay3_at (v0 : Vec Ideal S8x256 .f32) (v3 : Vec Ideal S8x768 .f32) (x : Vec Ideal S256x768 .f32) (i : S256x768.Idx) :
    k0_pay3 v0 v3 x i = Adam.snd (k0_pay1 v0 v3 i) (x i) := by
  unfold k0_pay3
  simp only [shapeCast_self]
  rfl

theorem pay4_at (v0 : Vec Ideal S8x256 .f32) (v3 : Vec Ideal S8x768 .f32) (w x y : Vec Ideal S256x768 .f32) (i : S256x768.Idx) :
    k0_pay4 v0 v3 w x y i = Adam.del (k0_pay1 v0 v3 i) (w i) (x i) (y i) := by
  unfold k0_pay4 Adam.del
  rw [← pay2_at v0 v3 x i, ← pay3_at v0 v3 y i]
  simp only [shapeCast_self]
  rfl

theorem out5_at (t : Fin cfg0.N) (r : Fin 256) (k : Fin 768) (x2 x3 x4) : out0_5 (iblk m c 0 t) (iblk m c 1 t) x2 x3 x4 (ix2 r k) = g m c (row t r) k := by
  unfold out0_5
  exact (Adam.canon_whole _ _ r k (cover0_5 _)).trans (pay1_at m c t r k)

theorem out6_at (t : Fin cfg0.N) (r : Fin 256) (k : Fin 768) :
    out0_6 (iblk m c 0 t) (iblk m c 1 t) (iblk m c 2 t) (iblk m c 3 t) (iblk m c 4 t) (ix2 r k) = fd m c (row t r) k := by
  unfold out0_6
  refine (Adam.canon_whole _ _ r k (cover0_6 _)).trans ((pay4_at _ _ _ _ _ _).trans ?_)
  refine congr (congr (congr (congrArg Adam.del (pay1_at m c t r k)) ?_) ?_) ?_
  · exact (congrFun (ld_whole _ _) _).trans (blk_w m c t r k)
  · exact (congrFun (ld_whole _ _) _).trans (blk_m m c t r k)
  · exact (congrFun (ld_whole _ _) _).trans (blk_v m c t r k)

theorem out7_at (t : Fin cfg0.N) (r : Fin 256) (k : Fin 768) (x2 x4) :
    out0_7 (iblk m c 0 t) (iblk m c 1 t) x2 (iblk m c 3 t) x4 (ix2 r k) = fm m c (row t r) k := by
  unfold out0_7
  refine (Adam.canon_whole _ _ r k (cover0_7 _)).trans ((pay2_at _ _ _ _).trans (congrArg₂ Adam.fst (pay1_at m c t r k) ?_))
  exact (congrFun (ld_whole _ _) _).trans (blk_m m c t r k)

theorem out8_at (t : Fin cfg0.N) (r : Fin 256) (k : Fin 768) (x2 x3) :
    out0_8 (iblk m c 0 t) (iblk m c 1 t) x2 x3 (iblk m c 4 t) (ix2 r k) = fv m c (row t r) k := by
  unfold out0_8
  refine (Adam.canon_whole _ _ r k (cover0_8 _)).trans ((pay3_at _ _ _ _).trans (congrArg₂ Adam.snd (pay1_at m c t r k) ?_))
  exact (congrFun (ld_whole _ _) _).trans (blk_v m c t r k)

/-! ## The reference -/

theorem ref_act (b : Fin 8) (r : Fin 1024) : val_main_v1 (F := Ideal) (a0 m c) (ix2 b r) = act (a0 m c (ix2 b r)) := by
  unfold val_main_v1 val_main_call0_v5 val_main_call0_v4 val_main_call0_v3 val_main_call0_v2 val_main_call0_v1 val_main_call0_v0
  pointwise [val_main_call0_cst, val_main_call0_cst_0]
  rfl

theorem ref_dot (k : Fin 768) (r : Fin 1024) : val_main_v3 (F := Ideal) (a0 m c) (a1 m c) (ix2 k r) = g m c r k := by
  rw [val_main_v3_apply]
  refine Finset.sum_congr rfl fun b _ => (congrArg₂ (fun u v : EReal => u * v) (congrArg _ (Tile.ix2_of _ b k rfl rfl))
    ((congrArg _ (Tile.ix2_of _ b r rfl rfl)).trans (ref_act m c b r))).trans (mul_comm _ _)

theorem ref_g (r : Fin 1024) (k : Fin 768) : val_main_v4 (F := Ideal) (a0 m c) (a1 m c) (ix2 r k) = g m c r k := by
  unfold val_main_v4
  pointwise [ref_dot]

theorem ref_m (r : Fin 1024) (k : Fin 768) : val_main_v12 (F := Ideal) (a0 m c) (a1 m c) (a3 m c) (ix2 r k) = fm m c r k := by
  unfold val_main_v12 val_main_v11 val_main_v10 val_main_v9 val_main_v8 val_main_v6
  pointwise [val_main_cst, val_main_cst_0, ref_g]
  rfl

theorem ref_v (r : Fin 1024) (k : Fin 768) : val_main_v18 (F := Ideal) (a0 m c) (a1 m c) (a4 m c) (ix2 r k) = fv m c r k := by
  unfold val_main_v18 val_main_v17 val_main_v16 val_main_v15 val_main_v14 val_main_v13 val_main_v7
  pointwise [val_main_cst_1, val_main_cst_2, ref_g]
  rfl

theorem ref_d (r : Fin 1024) (k : Fin 768) : val_main_v31 (F := Ideal) (a0 m c) (a1 m c) (a2 m c) (a3 m c) (a4 m c) (ix2 r k) = fd m c r k := by
  unfold val_main_v31 val_main_v30 val_main_v29 val_main_v28 val_main_v27 val_main_v26 val_main_v25 val_main_v24 val_main_v23 val_main_v22
    val_main_v21 val_main_v20 val_main_v19 val_main_v5
  pointwise [val_main_cst_3, val_main_cst_4, val_main_cst_5, val_main_cst_6, val_main_cst_7, ref_m, ref_v]
  rfl

theorem fin5 : (dats m 0 c).arrAt 5 cfg0.N = val_main_v4 (F := Ideal) (a0 m c) (a1 m c) := by
  refine (dats m 0 c).arrAt_eq_of_covers 5 _ (by decide +kernel) fun t hf y => ?_
  blk_simp
  rw [after0_5]
  obtain ⟨r, k, rfl⟩ : ∃ (r : Fin 256) (k : Fin 768), y = ix2 r k := ⟨_, _, eq_ix2 y⟩
  exact (out5_at m c t r k _ _ _).trans ((ref_g m c _ k).symm.trans (congrArg _ (at_row t _ r k rfl rfl).symm))

theorem fin6 : (dats m 0 c).arrAt 6 cfg0.N = val_main_v31 (F := Ideal) (a0 m c) (a1 m c) (a2 m c) (a3 m c) (a4 m c) := by
  refine (dats m 0 c).arrAt_eq_of_covers 6 _ (by decide +kernel) fun t hf y => ?_
  blk_simp
  rw [after0_6]
  obtain ⟨r, k, rfl⟩ : ∃ (r : Fin 256) (k : Fin 768), y = ix2 r k := ⟨_, _, eq_ix2 y⟩
  exact (out6_at m c t r k).trans ((ref_d m c _ k).symm.trans (congrArg _ (at_row t _ r k rfl rfl).symm))

theorem fin7 : (dats m 0 c).arrAt 7 cfg0.N = val_main_v12 (F := Ideal) (a0 m c) (a1 m c) (a3 m c) := by
  refine (dats m 0 c).arrAt_eq_of_covers 7 _ (by decide +kernel) fun t hf y => ?_
  blk_simp
  rw [after0_7]
  obtain ⟨r, k, rfl⟩ : ∃ (r : Fin 256) (k : Fin 768), y = ix2 r k := ⟨_, _, eq_ix2 y⟩
  exact (out7_at m c t r k _ _).trans ((ref_m m c _ k).symm.trans (congrArg _ (at_row t _ r k rfl rfl).symm))

theorem fin8 : (dats m 0 c).arrAt 8 cfg0.N = val_main_v18 (F := Ideal) (a0 m c) (a1 m c) (a4 m c) := by
  refine (dats m 0 c).arrAt_eq_of_covers 8 _ (by decide +kernel) fun t hf y => ?_
  blk_simp
  rw [after0_8]
  obtain ⟨r, k, rfl⟩ : ∃ (r : Fin 256) (k : Fin 768), y = ix2 r k := ⟨_, _, eq_ix2 y⟩
  exact (out8_at m c t r k _ _).trans ((ref_v m c _ k).symm.trans (congrArg _ (at_row t _ r k rfl rfl).symm))

end Cert.AdaAdamIdeal.Val

end

end
-- ==== Proof.RedAdamRef.lean ====
/- The sum of the eight devices' gradients of a weight, a device's own in its place, and the optimiser's step: block by block the kernel is the reference. Hand-written. -/
module

public import proofs.«01_k».proof.Proof.Gen.RedAdamIdeal.Value
public import proofs.«01_k».proof.Proof.Adam
public import proofs.«01_k».proof.Proof.Gen.RedAdamRefIdeal.Read
public import Idealize.ShloMosaic.Lib.Pipeline.ValueKit
public import Idealize.ShloMosaic.Lib.Pointwise

@[expose] public section

set_option maxRecDepth 16384

noncomputable section

namespace Cert.RedAdamIdeal.Val

open Idealize.ShloMosaic Idealize.ShloMosaic.TcCoe Idealize.SL.Sem Cert.RedAdamIdeal Cert.RedAdamIdeal.Gen Cert.Tile
open Cert.RedAdamRefIdeal.Read

variable (m : (ℓ : Loc nD τ sig) → Buf (Elt Ideal) ℓ) (c : Dev nD)

/-- The received parts of the gradient, the weight, its two moments and the device's own part. -/
abbrev a0 : FVec Ideal S8x352x1024 .bf16 := m ((c : Thread nD τ).loc main_arg0)
abbrev a1 : FVec Ideal S352x1024 .f32 := m ((c : Thread nD τ).loc main_arg1)
abbrev a2 : FVec Ideal S352x1024 .f32 := m ((c : Thread nD τ).loc main_arg2)
abbrev a3 : FVec Ideal S352x1024 .f32 := m ((c : Thread nD τ).loc main_arg3)
abbrev a4 : FVec Ideal S352x1024 .bf16 := m ((c : Thread nD τ).loc main_arg4)

/-- The part of device `d`: the device's own or the received one. -/
def part (d : Fin 8) (r : Fin 352) (k : Fin 1024) : EReal := if c.val = d.val then a4 m c (ix2 r k) else a0 m c (ix3 d r k)
/-- The gradient and the three results of the step. -/
def g (r : Fin 352) (k : Fin 1024) : EReal := ∑ d : Fin 8, part m c d r k
def fm (r : Fin 352) (k : Fin 1024) : EReal := Adam.fst (g m c r k) (a2 m c (ix2 r k))
def fv (r : Fin 352) (k : Fin 1024) : EReal := Adam.snd (g m c r k) (a3 m c (ix2 r k))
def fd (r : Fin 352) (k : Fin 1024) : EReal := Adam.del (g m c r k) (a1 m c (ix2 r k)) (a2 m c (ix2 r k)) (a3 m c (ix2 r k))

/-! ## The windows -/

theorem lt2 (t : Fin cfg0.N) : t.val < 2 := lt_of_lt_of_eq t.isLt N_0
/-- The row a grid point's row `r` is. -/
abbrev row (t : Fin cfg0.N) (r : Fin 176) : Fin 352 := ⟨176 * t.val + r.val, by have := lt2 t; omega⟩

theorem idx0 : ∀ t : Fin cfg0.N, win0_0.index t 0 = 0 ∧ win0_0.index t 1 = t.val ∧ win0_0.index t 2 = 0 := (by decide +kernel : ∀ t : Fin grid0.N, _)
theorem idx1 : ∀ t : Fin cfg0.N, win0_1.index t 0 = t.val ∧ win0_1.index t 1 = 0 := (by decide +kernel : ∀ t : Fin grid0.N, _)

/-- The place of a block's entry, the same for the eight windows that go by rows. -/
theorem at_row (t : Fin cfg0.N) (y : S352x1024.Idx) (r : Fin 176) (k : Fin 1024) (h0 : (y 0).val = win0_1.index t 0 * 176 + 1 * r.val)
    (h1 : (y 1).val = win0_1.index t 1 * 1024 + 1 * k.val) : y = ix2 (row t r) k :=
  Tile.ix2_of y (row t r) k (h0.trans (Tile.tile_coord 176 r.val (idx1 t).1)) (h1.trans (Tile.whole_coord 1024 k.val (idx1 t).2))

theorem blk_p (t : Fin cfg0.N) (d : Fin 8) (r : Fin 176) (k : Fin 1024) :
    (iblk m c 0 t : Vec Ideal S8x176x1024 .bf16) (ix3 d r k) = a0 m c (ix3 d (row t r) k) :=
  congrArg (V m c main_arg0) (Tile.ix3_of _ d (row t r) k (Tile.whole_coord 8 d.val (idx0 t).1) (Tile.tile_coord 176 r.val (idx0 t).2.1)
    (Tile.whole_coord 1024 k.val (idx0 t).2.2))
theorem blk_w (t : Fin cfg0.N) (r : Fin 176) (k : Fin 1024) : (iblk m c 1 t : Vec Ideal S176x1024 .f32) (ix2 r k) = a1 m c (ix2 (row t r) k) :=
  congrArg (V m c main_arg1) (at_row t _ r k rfl rfl)
theorem blk_m (t : Fin cfg0.N) (r : Fin 176) (k : Fin 1024) : (iblk m c 2 t : Vec Ideal S176x1024 .f32) (ix2 r k) = a2 m c (ix2 (row t r) k) :=
  congrArg (V m c main_arg2) (at_row t _ r k rfl rfl)
theorem blk_v (t : Fin cfg0.N) (r : Fin 176) (k : Fin 1024) : (iblk m c 3 t : Vec Ideal S176x1024 .f32) (ix2 r k) = a3 m c (ix2 (row t r) k) :=
  congrArg (V m c main_arg3) (at_row t _ r k rfl rfl)
theorem blk_o (t : Fin cfg0.N) (r : Fin 176) (k : Fin 1024) : (iblk m c 4 t : Vec Ideal S176x1024 .bf16) (ix2 r k) = a4 m c (ix2 (row t r) k) :=
  congrArg (V m c main_arg4) (at_row t _ r k rfl rfl)

/-! ## One grid point -/

/-- The device's number, from its three coordinates in the mesh. -/
def me : BitVec 32 :=
  Scalar.addi (Scalar.addi (Scalar.muli 4#32 (Scalar.remsi (Scalar.divsi (Dev.word c) 4#32) 2#32))
    (Scalar.muli 2#32 (Scalar.remsi (Scalar.divsi (Dev.word c) 2#32) 2#32))) (Scalar.remsi (Scalar.divsi (Dev.word c) 1#32) 2#32)

theorem me_eq : ∀ (c : Dev nD) (d : Fin 8), Scalar.cmpi .eq (me c) (BitVec.ofNat 32 d.val) = if c.val = d.val then 1#1 else 0#1 := by decide +kernel

/-- A choice by a comparison that has been decided. -/
theorem choose {α : Type} (p : Prop) [Decidable p] (x y : α) : Scalar.select (if p then 1#1 else 0#1) x y = if p then x else y := by
  by_cases h : p
  · rw [if_pos h, if_pos h]
    exact if_pos rfl
  · rw [if_neg h, if_neg h]
    exact if_neg (by decide)

/-- The device's own block, and one slab of the received ones. -/
abbrev own (t : Fin cfg0.N) : Vec Ideal S176x1024 .bf16 := View.ld (iblk m c 4 t) (Rect.unit (s := S176x1024) ![0, 0] ![176, 1024] inb_S176x1024_S176x1024_0_0)
abbrev slab (t : Fin cfg0.N) (o : ℕ) (inb : ∀ a : Fin 3, (![o, 0, 0] : Fin 3 → ℕ) a + (![1, 176, 1024] : Fin 3 → ℕ) a ≤ S8x176x1024.size a) :
    Vec Ideal S1x176x1024 .bf16 := View.ld (iblk m c 0 t) (Rect.unit (s := S8x176x1024) ![o, 0, 0] ![1, 176, 1024] inb)

/-- One device's part of the block. -/
theorem part_at (t : Fin cfg0.N) (o : ℕ) (d : Fin 8) (hd : d.val = o) (inb h4 h) (r : Fin 176) (k : Fin 1024) :
    (Scalar.select (Scalar.cmpi .eq (me c) (BitVec.ofNat 32 o)) (shapeCast S176x1024 (own m c t) h4)
      (shapeCast S176x1024 (slab m c t o inb) h) : S176x1024.Idx → EReal) (ix2 r k) = part m c d (row t r) k := by
  subst hd
  rw [me_eq, choose, shapeCast_self]
  unfold part
  by_cases e : c.val = d.val
  · rw [if_pos e, if_pos e]
    exact (congrFun (ld_whole _ _) _).trans (blk_o m c t r k)
  · rw [if_neg e, if_neg e]
    exact (ValueIdx.shapeCast_1ab_ab_apply _ _ r k).trans ((ld_slab _ d.val inb d rfl r k).trans (blk_p m c t d r k))

/-- The first six parts, the seventh, and the sum, as the body has them. -/
def six (t : Fin cfg0.N) : FVec Ideal S176x1024 .f32 :=
  k0_pay4 (me c) (k0_pay2 c (own m c t) (slab m c t 0 inb_S8x176x1024_S1x176x1024_0_0_0) (own m c t) (slab m c t 1 inb_S8x176x1024_S1x176x1024_1_0_0))
    (Scalar.cmpi .eq (me c) 2#32) (k0_pay3 (own m c t)) (slab m c t 2 inb_S8x176x1024_S1x176x1024_2_0_0)
    (own m c t) (slab m c t 3 inb_S8x176x1024_S1x176x1024_3_0_0) (own m c t) (slab m c t 4 inb_S8x176x1024_S1x176x1024_4_0_0)
    (own m c t) (slab m c t 5 inb_S8x176x1024_S1x176x1024_5_0_0)
def seventh (t : Fin cfg0.N) : FVec Ideal S176x1024 .f32 := k0_pay5 (me c) (own m c t) (slab m c t 6 inb_S8x176x1024_S1x176x1024_6_0_0)
def sum (t : Fin cfg0.N) : FVec Ideal S176x1024 .f32 :=
  k0_pay6 (me c) (six m c t) (seventh m c t) (own m c t) (slab m c t 7 inb_S8x176x1024_S1x176x1024_7_0_0)

theorem sum_at (t : Fin cfg0.N) (r : Fin 176) (k : Fin 1024) : sum m c t (ix2 r k) = g m c (row t r) k := by
  unfold sum seventh six k0_pay6 k0_pay5 k0_pay4 k0_pay3 k0_pay2 g
  rw [Fin.sum_univ_eight]
  refine congrArg₂ (fun u v : EReal => u + v) (congrArg₂ (fun u v : EReal => u + v) (congrArg₂ (fun u v : EReal => u + v)
    (congrArg₂ (fun u v : EReal => u + v) (congrArg₂ (fun u v : EReal => u + v) (congrArg₂ (fun u v : EReal => u + v)
      (congrArg₂ (fun u v : EReal => u + v) ?_ ?_) ?_) ?_) ?_) ?_) ?_) ?_
  · exact part_at m c t 0 0 rfl _ _ _ r k
  · exact part_at m c t 1 1 rfl _ _ _ r k
  · exact part_at m c t 2 2 rfl _ _ _ r k
  · exact part_at m c t 3 3 rfl _ _ _ r k
  · exact part_at m c t 4 4 rfl _ _ _ r k
  · exact part_at m c t 5 5 rfl _ _ _ r k
  · exact part_at m c t 6 6 rfl _ _ _ r k
  · exact part_at m c t 7 7 rfl _ _ _ r k

variable (w : BitVec 32) (u s : FVec Ideal S176x1024 .f32) (o : Vec Ideal S176x1024 .bf16) (p : Vec Ideal S1x176x1024 .bf16)

theorem pay7_at (x : Vec Ideal S176x1024 .f32) (i : S176x1024.Idx) : k0_pay7 w u s o p x i = Adam.fst (k0_pay6 w u s o p i) (x i) := by
  unfold k0_pay7
  simp only [shapeCast_self]
  rfl

theorem pay8_at (x : Vec Ideal S176x1024 .f32) (i : S176x1024.Idx) : k0_pay8 w u s o p x i = Adam.snd (k0_pay6 w u s o p i) (x i) := by
  unfold k0_pay8
  simp only [shapeCast_self]
  rfl

theorem pay1_at (z x y : Vec Ideal S176x1024 .f32) (i : S176x1024.Idx) :
    k0_pay1 (k0_pay9 w u s o p x y) (k0_pay10 z) i = Adam.del (k0_pay6 w u s o p i) (z i) (x i) (y i) := by
  unfold k0_pay1 k0_pay9 k0_pay10 Adam.del
  rw [← pay7_at w u s o p x i, ← pay8_at w u s o p y i]
  simp only [shapeCast_self]
  rfl

theorem out5_at (t : Fin cfg0.N) (r : Fin 176) (k : Fin 1024) : (outsAt0 m c t).1 (ix2 r k) = g m c (row t r) k := by
  unfold outsAt0 out0_A_5 kernelRun0_A
  dsimp only
  sl_unfold_words
  simp only [View.readAt_eq_ld, (hs0_0 t).read_unread, (hs0_4 t).read_unread]
  exact (whole_hit _ _ _ _ _ r k).trans (sum_at m c t r k)

theorem out6_at (t : Fin cfg0.N) (r : Fin 176) (k : Fin 1024) : (outsAt0 m c t).2.1 (ix2 r k) = fd m c (row t r) k := by
  unfold outsAt0 out0_A_6 kernelRun0_A
  dsimp only
  sl_unfold_words
  simp only [View.readAt_eq_ld, (hs0_0 t).read_unread, (hs0_1 t).read_unread, (hs0_2 t).read_unread, (hs0_3 t).read_unread, (hs0_4 t).read_unread]
  refine (whole_hit _ _ _ _ _ r k).trans ((pay1_at _ _ _ _ _ _ _ _ _).trans ?_)
  refine congr (congr (congr (congrArg Adam.del (sum_at m c t r k)) ?_) ?_) ?_
  · exact (congrFun (ld_whole _ _) _).trans (blk_w m c t r k)
  · exact (congrFun (ld_whole _ _) _).trans (blk_m m c t r k)
  · exact (congrFun (ld_whole _ _) _).trans (blk_v m c t r k)

theorem out7_at (t : Fin cfg0.N) (r : Fin 176) (k : Fin 1024) : (outsAt0 m c t).2.2.1 (ix2 r k) = fm m c (row t r) k := by
  unfold outsAt0 out0_A_7 kernelRun0_A
  dsimp only
  sl_unfold_words
  simp only [View.readAt_eq_ld, (hs0_0 t).read_unread, (hs0_2 t).read_unread, (hs0_4 t).read_unread]
  refine (whole_hit _ _ _ _ _ r k).trans ((pay7_at _ _ _ _ _ _ _).trans (congrArg₂ Adam.fst (sum_at m c t r k) ?_))
  exact (congrFun (ld_whole _ _) _).trans (blk_m m c t r k)

theorem out8_at (t : Fin cfg0.N) (r : Fin 176) (k : Fin 1024) : (outsAt0 m c t).2.2.2 (ix2 r k) = fv m c (row t r) k := by
  unfold outsAt0 out0_A_8 kernelRun0_A
  dsimp only
  sl_unfold_words
  simp only [View.readAt_eq_ld, (hs0_0 t).read_unread, (hs0_3 t).read_unread, (hs0_4 t).read_unread]
  refine (whole_hit _ _ _ _ _ r k).trans ((pay8_at _ _ _ _ _ _ _).trans (congrArg₂ Adam.snd (sum_at m c t r k) ?_))
  exact (congrFun (ld_whole _ _) _).trans (blk_v m c t r k)

/-! ## The reference -/

theorem ref_me : ∀ (c : Dev nD) (d : Fin 8), val_main_v19 (F := Ideal) c (ix1 d) = if c.val = d.val then 1#1 else 0#1 := by decide +kernel

theorem ref_part (d : Fin 8) (r : Fin 352) (k : Fin 1024) : val_main_v22 (F := Ideal) c (a0 m c) (a4 m c) (ix3 d r k) = part m c d r k := by
  rw [val_main_v22_apply, val_main_call0_v0_apply, val_main_v20_apply, val_main_call0_v1_apply, val_main_v21_apply]
  refine Eq.trans ?_ (choose (c.val = d.val) (a4 m c (ix2 r k)) (a0 m c (ix3 d r k)))
  refine congr (congr (congrArg Scalar.select ?_) (congrArg (a4 m c) (Tile.ix2_of _ r k rfl rfl))) rfl
  exact (congrArg (val_main_v19 (F := Ideal) c) (by funext a; apply Fin.ext; match a with | ⟨0, _⟩ => rfl)).trans (ref_me c d)

theorem ref_g (r : Fin 352) (k : Fin 1024) : val_main_v24 (F := Ideal) c (a0 m c) (a4 m c) (ix2 r k) = g m c r k := by
  rw [val_main_v24_apply]
  refine (congrArg₂ (fun u v : EReal => u + v) (show _ = (0 : EReal) from Ideal.ofBits_zero_f32) (Finset.sum_congr rfl fun d _ => ?_)).trans (zero_add _)
  exact (congrArg (val_main_v22 (F := Ideal) c (a0 m c) (a4 m c)) (Tile.ix3_of _ d r k rfl rfl rfl)).trans (ref_part m c d r k)

theorem ref_m (r : Fin 352) (k : Fin 1024) : val_main_v29 (F := Ideal) c (a0 m c) (a2 m c) (a4 m c) (ix2 r k) = fm m c r k := by
  unfold val_main_v29 val_main_v28 val_main_v27 val_main_v26 val_main_v25
  pointwise [val_main_cst_7, val_main_cst_8, ref_g]
  rfl

theorem ref_v (r : Fin 352) (k : Fin 1024) : val_main_v35 (F := Ideal) c (a0 m c) (a3 m c) (a4 m c) (ix2 r k) = fv m c r k := by
  unfold val_main_v35 val_main_v34 val_main_v33 val_main_v32 val_main_v31 val_main_v30
  pointwise [val_main_cst_9, val_main_cst_10, ref_g]
  rfl

theorem ref_d (r : Fin 352) (k : Fin 1024) :
    val_main_v48 (F := Ideal) c (a0 m c) (a1 m c) (a2 m c) (a3 m c) (a4 m c) (ix2 r k) = fd m c r k := by
  unfold val_main_v48 val_main_v47 val_main_v46 val_main_v45 val_main_v44 val_main_v43 val_main_v42 val_main_v41 val_main_v40 val_main_v39
    val_main_v38 val_main_v37 val_main_v36
  pointwise [val_main_cst_11, val_main_cst_12, val_main_cst_13, val_main_cst_14, val_main_cst_15, ref_m, ref_v]
  rfl

theorem fin5 : (dats m 0 c).arrAt 5 cfg0.N = val_main_v24 (F := Ideal) c (a0 m c) (a4 m c) := by
  refine (dats m 0 c).arrAt_eq_of_covers 5 _ (by decide +kernel) fun t hf y => ?_
  blk_simp
  rw [after0_5]
  obtain ⟨r, k, rfl⟩ : ∃ (r : Fin 176) (k : Fin 1024), y = ix2 r k := ⟨_, _, eq_ix2 y⟩
  exact (out5_at m c t r k).trans ((ref_g m c _ k).symm.trans (congrArg _ (at_row t _ r k rfl rfl).symm))

theorem fin6 : (dats m 0 c).arrAt 6 cfg0.N = val_main_v48 (F := Ideal) c (a0 m c) (a1 m c) (a2 m c) (a3 m c) (a4 m c) := by
  refine (dats m 0 c).arrAt_eq_of_covers 6 _ (by decide +kernel) fun t hf y => ?_
  blk_simp
  rw [after0_6]
  obtain ⟨r, k, rfl⟩ : ∃ (r : Fin 176) (k : Fin 1024), y = ix2 r k := ⟨_, _, eq_ix2 y⟩
  exact (out6_at m c t r k).trans ((ref_d m c _ k).symm.trans (congrArg _ (at_row t _ r k rfl rfl).symm))

theorem fin7 : (dats m 0 c).arrAt 7 cfg0.N = val_main_v29 (F := Ideal) c (a0 m c) (a2 m c) (a4 m c) := by
  refine (dats m 0 c).arrAt_eq_of_covers 7 _ (by decide +kernel) fun t hf y => ?_
  blk_simp
  rw [after0_7]
  obtain ⟨r, k, rfl⟩ : ∃ (r : Fin 176) (k : Fin 1024), y = ix2 r k := ⟨_, _, eq_ix2 y⟩
  exact (out7_at m c t r k).trans ((ref_m m c _ k).symm.trans (congrArg _ (at_row t _ r k rfl rfl).symm))

theorem fin8 : (dats m 0 c).arrAt 8 cfg0.N = val_main_v35 (F := Ideal) c (a0 m c) (a3 m c) (a4 m c) := by
  refine (dats m 0 c).arrAt_eq_of_covers 8 _ (by decide +kernel) fun t hf y => ?_
  blk_simp
  rw [after0_8]
  obtain ⟨r, k, rfl⟩ : ∃ (r : Fin 176) (k : Fin 1024), y = ix2 r k := ⟨_, _, eq_ix2 y⟩
  exact (out8_at m c t r k).trans ((ref_v m c _ k).symm.trans (congrArg _ (at_row t _ r k rfl rfl).symm))

end Cert.RedAdamIdeal.Val

end

end
-- ==== Proof.lean ====
/- The proof of the certificate's claim: the calls' frames and values. Hand-written. -/
module

public import proofs.«01_k».proof.Defs
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.OutRef
public import proofs.«01_k».proof.Proof.Gen.In.Frame
public import proofs.«01_k».proof.Proof.Gen.InIdeal.Value
public import proofs.«01_k».proof.Proof.Gen.InRefIdeal.Run
public import proofs.«01_k».proof.Proof.Gen.InRefIdeal.Read
public import proofs.«01_k».proof.Proof.InRef
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnRef
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import proofs.«01_k».proof.Proof.LossRef
public import proofs.«01_k».proof.Proof.Gen.Conf.Frame
public import proofs.«01_k».proof.Proof.Gen.ConfIdeal.Value
public import proofs.«01_k».proof.Proof.Gen.ConfRefIdeal.Run
public import proofs.«01_k».proof.Proof.Gen.ConfRefIdeal.Read
public import proofs.«01_k».proof.Proof.ConfRef
public import proofs.«01_k».proof.Proof.Gen.FwdOut.Frame
public import proofs.«01_k».proof.Proof.Gen.FwdOutIdeal.Value
public import proofs.«01_k».proof.Proof.Gen.FwdOutRefIdeal.Run
public import proofs.«01_k».proof.Proof.Gen.FwdOutRefIdeal.Read
public import proofs.«01_k».proof.Proof.FwdOutRef
public import proofs.«01_k».proof.Proof.Gen.FwdIn.Frame
public import proofs.«01_k».proof.Proof.Gen.FwdInIdeal.Value
public import proofs.«01_k».proof.Proof.Gen.FwdInRefIdeal.Run
public import proofs.«01_k».proof.Proof.Gen.FwdInRefIdeal.Read
public import proofs.«01_k».proof.Proof.FwdInRef
public import proofs.«01_k».proof.Proof.Gen.Scan.Frame
public import proofs.«01_k».proof.Proof.Gen.ScanIdeal.Value
public import proofs.«01_k».proof.Proof.Gen.ScanRefIdeal.Run
public import proofs.«01_k».proof.Proof.Gen.ScanRefIdeal.Step
public import proofs.«01_k».proof.Proof.ScanVal
public import proofs.«01_k».proof.Proof.ScanRun
public import proofs.«01_k».proof.Proof.Gen.ConfFwd.Frame
public import proofs.«01_k».proof.Proof.Gen.ConfFwdIdeal.Value
public import proofs.«01_k».proof.Proof.Gen.ConfFwdRefIdeal.Run
public import proofs.«01_k».proof.Proof.Gen.ConfFwdRefIdeal.Read
public import proofs.«01_k».proof.Proof.ConfFwdRef
public import proofs.«01_k».proof.Proof.Gen.Mod.Frame
public import proofs.«01_k».proof.Proof.Gen.ModIdeal.Value
public import proofs.«01_k».proof.Proof.Gen.ModRefIdeal.Run
public import proofs.«01_k».proof.Proof.Gen.ModRefIdeal.Read
public import proofs.«01_k».proof.Proof.ModRef
public import proofs.«01_k».proof.Proof.Gen.GradFfnIn.Frame
public import proofs.«01_k».proof.Proof.Gen.GradFfnInIdeal.Value
public import proofs.«01_k».proof.Proof.Gen.GradFfnInRefIdeal.Run
public import proofs.«01_k».proof.Proof.Gen.GradFfnInRefIdeal.Read
public import proofs.«01_k».proof.Proof.GradFfnInRef
public import proofs.«01_k».proof.Proof.Gen.GradFfnOut.Frame
public import proofs.«01_k».proof.Proof.Gen.GradFfnOutIdeal.Value
public import proofs.«01_k».proof.Proof.Gen.GradFfnOutRefIdeal.Run
public import proofs.«01_k».proof.Proof.Gen.GradFfnOutRefIdeal.Read
public import proofs.«01_k».proof.Proof.GradFfnOutRef
public import proofs.«01_k».proof.Proof.Gen.AdaAdam.Frame
public import proofs.«01_k».proof.Proof.Gen.AdaAdamIdeal.Value
public import proofs.«01_k».proof.Proof.Gen.AdaAdamRefIdeal.Run
public import proofs.«01_k».proof.Proof.Gen.AdaAdamRefIdeal.Read
public import proofs.«01_k».proof.Proof.AdaAdamRef
public import proofs.«01_k».proof.Proof.Gen.RedAdam.Frame
public import proofs.«01_k».proof.Proof.Gen.RedAdamIdeal.Value
public import proofs.«01_k».proof.Proof.Gen.RedAdamRefIdeal.Run
public import proofs.«01_k».proof.Proof.Gen.RedAdamRefIdeal.Read
public import proofs.«01_k».proof.Proof.RedAdamRef
public import Idealize.ShloMosaic.Adequacy
public import Idealize.ShloMosaic.Init

@[expose] public section

noncomputable section

namespace Cert.Proof

open Idealize.ShloMosaic Idealize.SL.Sem

/-! ## The backward call of the output projection -/

theorem out_ref_frame : Cert.quiescent_OutRefIdeal (hOutRefIdeal := Cert.OutRefIdeal.Gen.facts) := fun m ρ _ =>
  (θ_run _ _ _).mono (fun r h => ⟨fun c => (h c).2.2.2.2, sem_eq_zero_of_no_sems (by decide) r.2⟩) (Cert.OutRefIdeal.Value.run m ρ)

theorem out_value : Cert.algebraic_OutIdeal_OutRefIdeal (hOutIdeal := Cert.OutIdeal.Gen.facts) (hOutRefIdeal := Cert.OutRefIdeal.Gen.facts) :=
  fun m ρ m' ρ' _ hag => ⟨_, _, _, _, Cert.OutIdeal.Value.run m ρ, (θ_run _ _ _).mono (fun _ h c => by
    obtain ⟨h0, h1, h2, h3, h4⟩ := h c
    obtain ⟨e0, e1, e2, e3, e4, e5, e6⟩ := hag c
    refine ⟨h0.trans ?_, h1.trans ?_, h2.trans ?_, h3.trans ?_, h4⟩
    · rw [e3, e4, e5, e6]; exact (Cert.OutIdeal.Val.G6_eq m c).symm
    · rw [e3, e4, e5, e6]; exact (Cert.OutIdeal.Val.G7_eq m c).symm
    · rw [e0, e1, e5, e6]; exact (Cert.OutIdeal.Val.G8_eq m c).symm
    · rw [e0, e1, e3, e4, e6]; exact (Cert.OutIdeal.Val.G9_eq m c).symm) (Cert.OutRefIdeal.Value.run m' ρ')⟩

/-! ## The backward call of the input projection -/

theorem in_ref_frame : Cert.quiescent_InRefIdeal (hInRefIdeal := Cert.InRefIdeal.Gen.facts) := fun m ρ _ =>
  (θ_run _ _ _).mono (fun r h => ⟨fun c => (h c).2.2, sem_eq_zero_of_no_sems (by decide) r.2⟩) (Cert.InRefIdeal.Value.run m ρ)

theorem in_value : Cert.algebraic_InIdeal_InRefIdeal (hInIdeal := Cert.InIdeal.Gen.facts) (hInRefIdeal := Cert.InRefIdeal.Gen.facts) :=
  fun m ρ m' ρ' _ hag => ⟨_, _, Cert.InIdeal.Value.run_blocks m ρ, (θ_run _ _ _).mono (fun _ h c => by
    obtain ⟨h0, h1, h2⟩ := h c
    obtain ⟨e0, e1, e2, e3, e4, e5, e6⟩ := hag c
    refine ⟨h0.trans ?_, h1.trans ?_, h2⟩
    · refine (Cert.InRefIdeal.Read.val_main_v73_eq m' c).trans ?_
      rw [e0, e1, e2, e3, e4, e5, e6]; exact (Cert.InIdeal.Val.fin_tiled m c).symm
    · refine Eq.trans (b := Cert.InRefIdeal.Read.val_main_v72 (F := Ideal) _ _ _ _ _ _) rfl ?_
      rw [e0, e1, e2, e3, e4, e5]; exact (Cert.InIdeal.Val.fin_st m c).symm) (Cert.InRefIdeal.Value.run m' ρ')⟩

/-! ## The backward call of the feed-forward block -/

theorem ffn_ref_frame : Cert.quiescent_FfnRefIdeal (hFfnRefIdeal := Cert.FfnRefIdeal.Gen.facts) := fun m ρ _ =>
  (θ_run _ _ _).mono (fun r h => ⟨fun c => (h c).2.2.2, sem_eq_zero_of_no_sems (by decide) r.2⟩) (Cert.FfnRefIdeal.Value.run m ρ)

theorem ffn_facts : Cert.Pre_finite_ffn.Facts := ⟨by decide, by decide, by decide, by decide, by decide⟩

theorem ffn_value : Cert.algebraic_FfnIdeal_FfnRefIdeal_pre_finite_ffn (hFfnIdeal := Cert.FfnIdeal.Gen.facts)
    (hFfnRefIdeal := Cert.FfnRefIdeal.Gen.facts) (hPre_finite_ffn := ffn_facts) :=
  fun m ρ m' ρ' hp hag => ⟨_, _, _, Cert.FfnIdeal.Value.run_blocks m ρ, (θ_run _ _ _).mono (fun _ h c => by
    obtain ⟨h0, h1, h2, h3⟩ := h c
    obtain ⟨e0, e1, e2, e3, e4, e5, e6⟩ := hag c
    have R := Cert.FfnIdeal.Val.real_of_pre (hyps := ffn_facts) m c (hp c)
    refine ⟨h0.trans ?_, h1.trans ?_, h2.trans ?_, h3⟩
    · refine (Cert.FfnRefIdeal.Read.val_main_v90_eq m' c).trans ?_
      rw [e0, e1, e2, e3, e4, e5, e6]; exact (Cert.FfnIdeal.Val.fin_df m c R).symm
    · refine (Cert.FfnRefIdeal.Read.val_main_v96_eq m' c).trans ?_
      rw [e0, e1, e2, e3, e4, e5, e6]; exact (Cert.FfnIdeal.Val.fin_gx m c R).symm
    · refine (Cert.FfnRefIdeal.Read.val_main_v94_eq m' c).trans ?_
      rw [e0, e1, e2, e3, e4, e5, e6]; exact (Cert.FfnIdeal.Val.fin_st m c R).symm) (Cert.FfnRefIdeal.Value.run m' ρ')⟩

/-! ## The forward call of the feed-forward block with the loss and its gradient -/

theorem loss_ref_frame : Cert.quiescent_LossRefIdeal (hLossRefIdeal := Cert.LossRefIdeal.Gen.facts) := fun m ρ _ =>
  (θ_run _ _ _).mono (fun r h => ⟨fun c => (h c).2.2.2.2.2.2, sem_eq_zero_of_no_sems (by decide) r.2⟩) (Cert.LossRefIdeal.Value.run m ρ)

theorem loss_value : Cert.algebraic_LossIdeal_LossRefIdeal (hLossIdeal := Cert.LossIdeal.Gen.facts)
    (hLossRefIdeal := Cert.LossRefIdeal.Gen.facts) :=
  fun m ρ m' ρ' _ hag => ⟨_, _, _, _, _, _, Cert.LossIdeal.Value.run_blocks m ρ, (θ_run _ _ _).mono (fun _ h c => by
    obtain ⟨h0, h1, h2, h3, h4, h5, h6⟩ := h c
    obtain ⟨e0, e1, e2, e3, e4, e5, e6, e7⟩ := hag c
    change Idealize.ShloMosaic.StableHlo.launchContents m' c (Proc.devRef .tc Cert.LossRefIdeal.main_arg0) = _ at e0
    change Idealize.ShloMosaic.StableHlo.launchContents m' c (Proc.devRef .tc Cert.LossRefIdeal.main_arg1) = _ at e1
    change Idealize.ShloMosaic.StableHlo.launchContents m' c (Proc.devRef .tc Cert.LossRefIdeal.main_arg2) = _ at e2
    change Idealize.ShloMosaic.StableHlo.launchContents m' c (Proc.devRef .tc Cert.LossRefIdeal.main_arg3) = _ at e3
    change Idealize.ShloMosaic.StableHlo.launchContents m' c (Proc.devRef .tc Cert.LossRefIdeal.main_arg4) = _ at e4
    change Idealize.ShloMosaic.StableHlo.launchContents m' c (Proc.devRef .tc Cert.LossRefIdeal.main_arg5) = _ at e5
    change Idealize.ShloMosaic.StableHlo.launchContents m' c (Proc.devRef .tc Cert.LossRefIdeal.main_arg6) = _ at e6
    change Idealize.ShloMosaic.StableHlo.launchContents m' c (Proc.devRef .tc Cert.LossRefIdeal.main_arg7) = _ at e7
    refine ⟨h0.trans ?_, h1.trans ?_, h2.trans ?_, h3.trans ?_, h4.trans ?_, h5.trans ?_, h6⟩
    · refine (Cert.LossRefIdeal.Read.val_main_v108_eq (Idealize.ShloMosaic.StableHlo.launchContents m' c)).trans ?_
      rw [e0, e2, e3, e4]; exact (Cert.LossIdeal.Val.fin_h m c).symm
    · refine (Cert.LossRefIdeal.Read.val_main_v112_eq (Idealize.ShloMosaic.StableHlo.launchContents m' c)).trans ?_
      rw [e0, e2, e3, e4, e6]; exact (Cert.LossIdeal.Val.fin_act m c).symm
    · refine (Cert.LossRefIdeal.Read.val_main_v116_eq (Idealize.ShloMosaic.StableHlo.launchContents m' c)).trans ?_
      rw [e0, e2, e3, e4, e6]; exact (Cert.LossIdeal.Val.fin_pre m c).symm
    · refine (Cert.LossRefIdeal.Read.val_main_v117_eq (Idealize.ShloMosaic.StableHlo.launchContents m' c)).trans ?_
      rw [e0, e1, e2, e3, e4, e5, e6, e7]; exact (Cert.LossIdeal.Val.fin_dx m c).symm
    · refine (Cert.LossRefIdeal.Read.val_main_v119_eq (Idealize.ShloMosaic.StableHlo.launchContents m' c)).trans ?_
      rw [e0, e1, e2, e3, e4, e5, e6, e7]; exact (Cert.LossIdeal.Val.fin_df m c).symm
    · refine (Cert.LossRefIdeal.Read.val_main_v106_eq (Idealize.ShloMosaic.StableHlo.launchContents m' c)).trans ?_
      rw [e0, e1, e2, e3, e4, e5, e6, e7]; exact (Cert.LossIdeal.Val.fin_st m c).symm) (Cert.LossRefIdeal.Value.run m' ρ')⟩

/-! ## The backward call of the convolution block -/

theorem conf_ref_frame : Cert.quiescent_ConfRefIdeal (hConfRefIdeal := Cert.ConfRefIdeal.Gen.facts) := fun m ρ _ =>
  (θ_run _ _ _).mono (fun r h => ⟨fun c => (h c).2.2, sem_eq_zero_of_no_sems (by decide) r.2⟩) (Cert.ConfRefIdeal.Value.run m ρ)

theorem conf_facts : Cert.Pre_finite_conf.Facts := ⟨by decide, by decide, by decide, by decide⟩

theorem conf_value : Cert.algebraic_ConfIdeal_ConfRefIdeal_pre_finite_conf (hConfIdeal := Cert.ConfIdeal.Gen.facts)
    (hConfRefIdeal := Cert.ConfRefIdeal.Gen.facts) (hPre_finite_conf := conf_facts) :=
  fun m ρ m' ρ' hp hag => ⟨_, _, Cert.ConfIdeal.Value.run_blocks m ρ, (θ_run _ _ _).mono (fun _ h c => by
    obtain ⟨h0, h1, h2⟩ := h c
    obtain ⟨e0, e1, e2, e3, e4, e5⟩ := hag c
    have f0 : StableHlo.launchContents m' c (Proc.devRef .tc Cert.ConfRefIdeal.main_arg0) = _ := e0
    have f1 : StableHlo.launchContents m' c (Proc.devRef .tc Cert.ConfRefIdeal.main_arg1) = _ := e1
    have f2 : StableHlo.launchContents m' c (Proc.devRef .tc Cert.ConfRefIdeal.main_arg2) = _ := e2
    have f3 : StableHlo.launchContents m' c (Proc.devRef .tc Cert.ConfRefIdeal.main_arg3) = _ := e3
    have f4 : StableHlo.launchContents m' c (Proc.devRef .tc Cert.ConfRefIdeal.main_arg4) = _ := e4
    have f5 : StableHlo.launchContents m' c (Proc.devRef .tc Cert.ConfRefIdeal.main_arg5) = _ := e5
    have R := Cert.ConfIdeal.Val.real_of_pre (hyps := conf_facts) m c (hp c)
    refine ⟨h0.trans ?_, h1.trans ?_, h2⟩
    · refine (Cert.ConfRefIdeal.Read.val_main_v128_eq (StableHlo.launchContents m' c)).trans ?_
      rw [f0, f1, f2, f3, f4, f5]; exact (Cert.ConfIdeal.Val.fin_dp m c R).symm
    · refine (Cert.ConfRefIdeal.Read.val_main_v125_eq (StableHlo.launchContents m' c)).trans ?_
      rw [f0, f1, f2, f3, f4, f5]; exact (Cert.ConfIdeal.Val.fin_st m c R).symm) (Cert.ConfRefIdeal.Value.run m' ρ')⟩

/-! ## The forward call of the output projection -/

theorem fwdout_ref_frame : Cert.quiescent_FwdOutRefIdeal (hFwdOutRefIdeal := Cert.FwdOutRefIdeal.Gen.facts) := fun m ρ _ =>
  (θ_run _ _ _).mono (fun r h => ⟨fun c => (h c).2.2.2, sem_eq_zero_of_no_sems (by decide) r.2⟩) (Cert.FwdOutRefIdeal.Value.run m ρ)

theorem fwdout_value : Cert.algebraic_FwdOutIdeal_FwdOutRefIdeal (hFwdOutIdeal := Cert.FwdOutIdeal.Gen.facts)
    (hFwdOutRefIdeal := Cert.FwdOutRefIdeal.Gen.facts) :=
  fun m ρ m' ρ' _ hag => ⟨_, _, _, Cert.FwdOutIdeal.Value.run_blocks m ρ, (θ_run _ _ _).mono (fun _ h c => by
    obtain ⟨h0, h1, h2, h3⟩ := h c
    obtain ⟨e0, e1, e2, e3, e4, e5⟩ := hag c
    refine ⟨h0.trans ?_, h1.trans ?_, h2.trans ?_, h3⟩
    · rw [e0, e1, e2, e3, e4, e5]; exact (Cert.FwdOutIdeal.Val.fin_x1 m c).symm
    · rw [e0, e1, e5]; exact (Cert.FwdOutIdeal.Val.fin_mix m c).symm
    · rw [e0, e1]; exact (Cert.FwdOutIdeal.Val.fin_ab m c).symm) (Cert.FwdOutRefIdeal.Value.run m' ρ')⟩

/-! ## The forward call of the input projection -/

theorem fwdin_ref_frame : Cert.quiescent_FwdInRefIdeal (hFwdInRefIdeal := Cert.FwdInRefIdeal.Gen.facts) := fun m ρ _ =>
  (θ_run _ _ _).mono (fun r h => ⟨fun c => (h c).2.2.2, sem_eq_zero_of_no_sems (by decide) r.2⟩) (Cert.FwdInRefIdeal.Value.run m ρ)

theorem fwdin_value : Cert.algebraic_FwdInIdeal_FwdInRefIdeal (hFwdInIdeal := Cert.FwdInIdeal.Gen.facts)
    (hFwdInRefIdeal := Cert.FwdInRefIdeal.Gen.facts) :=
  fun m ρ m' ρ' _ hag => ⟨_, _, _, Cert.FwdInIdeal.Value.run_blocks m ρ, (θ_run _ _ _).mono (fun _ h c => by
    obtain ⟨h0, h1, h2, h3⟩ := h c
    obtain ⟨e0, e1, e2, e3, e4⟩ := hag c
    refine ⟨h0.trans ?_, h1.trans ?_, h2.trans ?_, h3⟩
    · rw [e0, e1, e2, e3, e4]; exact (Cert.FwdInIdeal.Val.fin_pm m c).symm
    · rw [e0, e1, e2, e3, e4]; exact (Cert.FwdInIdeal.Val.fin_pb m c).symm
    · rw [e0, e1, e2, e3]; exact (Cert.FwdInIdeal.Val.fin_h m c).symm) (Cert.FwdInRefIdeal.Value.run m' ρ')⟩

/-! ## The forward scan of the gated delta rule -/

theorem scan_ref_frame : Cert.quiescent_ScanRefIdeal (hScanRefIdeal := Cert.ScanRefIdeal.Gen.facts) := fun m ρ _ =>
  (θ_run _ _ _).mono (fun r h => ⟨fun c => (h c).2.2.2, sem_eq_zero_of_no_sems (by decide) r.2⟩) (Cert.ScanRefIdeal.Value.run m ρ)

theorem scan_value : Cert.algebraic_ScanIdeal_ScanRefIdeal (hScanIdeal := Cert.ScanIdeal.Gen.facts)
    (hScanRefIdeal := Cert.ScanRefIdeal.Gen.facts) :=
  fun m ρ m' ρ' _ hag => ⟨_, _, _, Cert.ScanIdeal.Value.run_blocks m ρ, (θ_run _ _ _).mono (fun _ h c => by
    obtain ⟨h0, h1, h2, h3⟩ := h c
    obtain ⟨e0, e1, e2, e3, e4, e5, e6, e7⟩ := hag c
    have el : Cert.ScanRefIdeal.Val.loop m' c 32 = Cert.ScanIdeal.Val.fin32 m c := by
      unfold Cert.ScanRefIdeal.Val.loop; rw [e0, e1, e2, e3, e4, e5]
    refine ⟨h0.trans ((Cert.ScanRefIdeal.Val.out_y m' c).trans ?_), h1.trans ((Cert.ScanRefIdeal.Val.out_o m' c).trans ?_),
      h2.trans ((Cert.ScanRefIdeal.Val.out_s m' c).trans ?_), h3⟩
    · rw [el, e6, e7]; exact (Cert.ScanIdeal.Val.fin_y m c).symm
    · rw [el]; exact (Cert.ScanIdeal.Val.fin_o m c).symm
    · rw [el]; exact (Cert.ScanIdeal.Val.fin_s m c).symm) (Cert.ScanRefIdeal.Value.run m' ρ')⟩

/-! ## The forward call of the convolution block -/

theorem conffwd_ref_frame : Cert.quiescent_ConfFwdRefIdeal (hConfFwdRefIdeal := Cert.ConfFwdRefIdeal.Gen.facts) := fun m ρ _ =>
  (θ_run _ _ _).mono (fun r h => ⟨fun c => (h c).2.2, sem_eq_zero_of_no_sems (by decide) r.2⟩) (Cert.ConfFwdRefIdeal.Value.run m ρ)

theorem conffwd_facts : Cert.Pre_finite_conf_fwd.Facts := ⟨by decide, by decide, by decide⟩

theorem conffwd_value : Cert.algebraic_ConfFwdIdeal_ConfFwdRefIdeal_pre_finite_conf_fwd (hConfFwdIdeal := Cert.ConfFwdIdeal.Gen.facts)
    (hConfFwdRefIdeal := Cert.ConfFwdRefIdeal.Gen.facts) (hPre_finite_conf_fwd := conffwd_facts) :=
  fun m ρ m' ρ' hp hag => ⟨_, _, Cert.ConfFwdIdeal.Value.run_blocks m ρ, (θ_run _ _ _).mono (fun _ h c => by
    obtain ⟨h0, h1, h2⟩ := h c
    obtain ⟨e0, e1, e2, e3, e4⟩ := hag c
    have R := Cert.ConfFwdIdeal.Val.real_of_pre (hyps := conffwd_facts) m c (hp c)
    refine ⟨h0.trans ?_, h1.trans ?_, h2⟩
    · refine (Cert.ConfFwdRefIdeal.Read.val_main_v29_eq _ _ _).trans ?_
      rw [e0, e1, e2]; exact (Cert.ConfFwdIdeal.Val.fin_y m c).symm
    · refine (Cert.ConfFwdRefIdeal.Read.val_main_v86_eq m' c).trans ?_
      rw [e0, e1, e2, e3, e4]; exact (Cert.ConfFwdIdeal.Val.fin_out m c R).symm) (Cert.ConfFwdRefIdeal.Value.run m' ρ')⟩

/-! ## The call that makes the modulation vectors -/

theorem mod_ref_frame : Cert.quiescent_ModRefIdeal (hModRefIdeal := Cert.ModRefIdeal.Gen.facts) := fun m ρ _ =>
  (θ_run _ _ _).mono (fun r h => ⟨fun c => (h c).2, sem_eq_zero_of_no_sems (by decide) r.2⟩) (Cert.ModRefIdeal.Value.run m ρ)

theorem mod_value : Cert.algebraic_ModIdeal_ModRefIdeal (hModIdeal := Cert.ModIdeal.Gen.facts)
    (hModRefIdeal := Cert.ModRefIdeal.Gen.facts) :=
  fun m ρ m' ρ' _ hag => ⟨_, Cert.ModIdeal.Value.run_blocks m ρ, (θ_run _ _ _).mono (fun _ h c => by
    obtain ⟨h0, h1⟩ := h c
    obtain ⟨e0, e1⟩ := hag c
    refine ⟨h0.trans ?_, h1⟩
    rw [e0, e1]; exact (Cert.ModIdeal.Val.fin m c).symm) (Cert.ModRefIdeal.Value.run m' ρ')⟩

/-! ## The gradient of the feed-forward network's first weight -/

theorem gradffnin_ref_frame : Cert.quiescent_GradFfnInRefIdeal (hGradFfnInRefIdeal := Cert.GradFfnInRefIdeal.Gen.facts) := fun m ρ _ =>
  (θ_run _ _ _).mono (fun r h => ⟨fun c => (h c).2, sem_eq_zero_of_no_sems (by decide) r.2⟩) (Cert.GradFfnInRefIdeal.Value.run m ρ)

theorem gradffnin_value : Cert.algebraic_GradFfnInIdeal_GradFfnInRefIdeal (hGradFfnInIdeal := Cert.GradFfnInIdeal.Gen.facts)
    (hGradFfnInRefIdeal := Cert.GradFfnInRefIdeal.Gen.facts) :=
  fun m ρ m' ρ' _ hag => ⟨_, Cert.GradFfnInIdeal.Value.run_blocks m ρ, (θ_run _ _ _).mono (fun _ h c => by
    obtain ⟨h0, h1⟩ := h c
    obtain ⟨e0, e1, e2, e3, e4, e5⟩ := hag c
    refine ⟨h0.trans ?_, h1⟩
    rw [e0, e1, e2, e3, e5]; exact (Cert.GradFfnInIdeal.Val.fin m c).symm) (Cert.GradFfnInRefIdeal.Value.run m' ρ')⟩

/-! ## The gradient of the feed-forward network's second weight -/

theorem gradffnout_ref_frame : Cert.quiescent_GradFfnOutRefIdeal (hGradFfnOutRefIdeal := Cert.GradFfnOutRefIdeal.Gen.facts) := fun m ρ _ =>
  (θ_run _ _ _).mono (fun r h => ⟨fun c => (h c).2, sem_eq_zero_of_no_sems (by decide) r.2⟩) (Cert.GradFfnOutRefIdeal.Value.run m ρ)

theorem gradffnout_value : Cert.algebraic_GradFfnOutIdeal_GradFfnOutRefIdeal (hGradFfnOutIdeal := Cert.GradFfnOutIdeal.Gen.facts)
    (hGradFfnOutRefIdeal := Cert.GradFfnOutRefIdeal.Gen.facts) :=
  fun m ρ m' ρ' _ hag => ⟨_, Cert.GradFfnOutIdeal.Value.run_blocks m ρ, (θ_run _ _ _).mono (fun _ h c => by
    obtain ⟨h0, h1⟩ := h c
    obtain ⟨e0, e1, e2, e3, e4, e5, e6⟩ := hag c
    refine ⟨h0.trans ?_, h1⟩
    refine (Cert.GradFfnOutRefIdeal.Read.val_main_v44_eq m' c).trans ?_
    rw [e0, e1, e2, e3, e4, e6]; exact (Cert.GradFfnOutIdeal.Val.fin m c).symm) (Cert.GradFfnOutRefIdeal.Value.run m' ρ')⟩

/-! ## The modulation weight's gradient and its step of the optimiser -/

theorem adaadam_ref_frame : Cert.quiescent_AdaAdamRefIdeal (hAdaAdamRefIdeal := Cert.AdaAdamRefIdeal.Gen.facts) := fun m ρ _ =>
  (θ_run _ _ _).mono (fun r h => ⟨fun c => (h c).2.2.2.2, sem_eq_zero_of_no_sems (by decide) r.2⟩) (Cert.AdaAdamRefIdeal.Value.run m ρ)

theorem adaadam_value : Cert.algebraic_AdaAdamIdeal_AdaAdamRefIdeal (hAdaAdamIdeal := Cert.AdaAdamIdeal.Gen.facts)
    (hAdaAdamRefIdeal := Cert.AdaAdamRefIdeal.Gen.facts) :=
  fun m ρ m' ρ' _ hag => ⟨_, _, _, _, Cert.AdaAdamIdeal.Value.run_blocks m ρ, (θ_run _ _ _).mono (fun _ h c => by
    obtain ⟨h0, h1, h2, h3, h4⟩ := h c
    obtain ⟨e0, e1, e2, e3, e4⟩ := hag c
    refine ⟨h0.trans ?_, h1.trans ?_, h2.trans ?_, h3.trans ?_, h4⟩
    · rw [e0, e1]; exact (Cert.AdaAdamIdeal.Val.fin5 m c).symm
    · rw [e0, e1, e2, e3, e4]; exact (Cert.AdaAdamIdeal.Val.fin6 m c).symm
    · rw [e0, e1, e3]; exact (Cert.AdaAdamIdeal.Val.fin7 m c).symm
    · rw [e0, e1, e4]; exact (Cert.AdaAdamIdeal.Val.fin8 m c).symm) (Cert.AdaAdamRefIdeal.Value.run m' ρ')⟩

/-! ## The sum over the devices and the optimiser's step -/

theorem redadam_ref_frame : Cert.quiescent_RedAdamRefIdeal (hRedAdamRefIdeal := Cert.RedAdamRefIdeal.Gen.facts) := fun m ρ _ =>
  (θ_run _ _ _).mono (fun r h => ⟨fun c => (h c).2.2.2.2, sem_eq_zero_of_no_sems (by decide) r.2⟩) (Cert.RedAdamRefIdeal.Value.run m ρ)

theorem redadam_value : Cert.algebraic_RedAdamIdeal_RedAdamRefIdeal (hRedAdamIdeal := Cert.RedAdamIdeal.Gen.facts)
    (hRedAdamRefIdeal := Cert.RedAdamRefIdeal.Gen.facts) :=
  fun m ρ m' ρ' _ hag => ⟨_, _, _, _, Cert.RedAdamIdeal.Value.run_blocks m ρ, (θ_run _ _ _).mono (fun _ h c => by
    obtain ⟨h0, h1, h2, h3, h4⟩ := h c
    obtain ⟨e0, e1, e2, e3, e4⟩ := hag c
    refine ⟨h0.trans ?_, h1.trans ?_, h2.trans ?_, h3.trans ?_, h4⟩
    · rw [e0, e4]; exact (Cert.RedAdamIdeal.Val.fin5 m c).symm
    · rw [e0, e1, e2, e3, e4]; exact (Cert.RedAdamIdeal.Val.fin6 m c).symm
    · rw [e0, e2, e4]; exact (Cert.RedAdamIdeal.Val.fin7 m c).symm
    · rw [e0, e3, e4]; exact (Cert.RedAdamIdeal.Val.fin8 m c).symm) (Cert.RedAdamRefIdeal.Value.run m' ρ')⟩

theorem claim : Cert.Claim := ⟨Cert.Out.Gen.facts, Cert.OutIdeal.Gen.facts, Cert.OutRefIdeal.Gen.facts, Cert.In.Gen.facts, Cert.InIdeal.Gen.facts, Cert.InRefIdeal.Gen.facts, Cert.Ffn.Gen.facts, Cert.FfnIdeal.Gen.facts, Cert.FfnRefIdeal.Gen.facts, Cert.Loss.Gen.facts, Cert.LossIdeal.Gen.facts, Cert.LossRefIdeal.Gen.facts, Cert.Conf.Gen.facts, Cert.ConfIdeal.Gen.facts, Cert.ConfRefIdeal.Gen.facts, Cert.FwdOut.Gen.facts, Cert.FwdOutIdeal.Gen.facts, Cert.FwdOutRefIdeal.Gen.facts, Cert.FwdIn.Gen.facts, Cert.FwdInIdeal.Gen.facts, Cert.FwdInRefIdeal.Gen.facts, Cert.Scan.Gen.facts, Cert.ScanIdeal.Gen.facts, Cert.ScanRefIdeal.Gen.facts, Cert.ConfFwd.Gen.facts, Cert.ConfFwdIdeal.Gen.facts, Cert.ConfFwdRefIdeal.Gen.facts, Cert.Mod.Gen.facts, Cert.ModIdeal.Gen.facts, Cert.ModRefIdeal.Gen.facts, Cert.GradFfnIn.Gen.facts, Cert.GradFfnInIdeal.Gen.facts, Cert.GradFfnInRefIdeal.Gen.facts, Cert.GradFfnOut.Gen.facts, Cert.GradFfnOutIdeal.Gen.facts, Cert.GradFfnOutRefIdeal.Gen.facts, Cert.AdaAdam.Gen.facts, Cert.AdaAdamIdeal.Gen.facts, Cert.AdaAdamRefIdeal.Gen.facts, Cert.RedAdam.Gen.facts, Cert.RedAdamIdeal.Gen.facts, Cert.RedAdamRefIdeal.Gen.facts, ffn_facts, conf_facts, conffwd_facts,
  fun m ρ _ => Cert.Out.Gen.frame m ρ, fun m ρ _ => Cert.OutIdeal.Gen.frame m ρ, out_ref_frame,
  fun m ρ _ => Cert.In.Gen.frame m ρ, fun m ρ _ => Cert.InIdeal.Gen.frame m ρ, in_ref_frame,
  fun m ρ _ => Cert.Ffn.Gen.frame m ρ, fun m ρ _ => Cert.FfnIdeal.Gen.frame m ρ, fun m ρ _ => Cert.FfnIdeal.Gen.frame m ρ, ffn_ref_frame, fun m ρ _ => ffn_ref_frame m ρ trivial,
  fun m ρ _ => Cert.Loss.Gen.frame m ρ, fun m ρ _ => Cert.LossIdeal.Gen.frame m ρ, loss_ref_frame,
  fun m ρ _ => Cert.Conf.Gen.frame m ρ, fun m ρ _ => Cert.ConfIdeal.Gen.frame m ρ, fun m ρ _ => Cert.ConfIdeal.Gen.frame m ρ, conf_ref_frame, fun m ρ _ => conf_ref_frame m ρ trivial,
  fun m ρ _ => Cert.FwdOut.Gen.frame m ρ, fun m ρ _ => Cert.FwdOutIdeal.Gen.frame m ρ, fwdout_ref_frame,
  fun m ρ _ => Cert.FwdIn.Gen.frame m ρ, fun m ρ _ => Cert.FwdInIdeal.Gen.frame m ρ, fwdin_ref_frame,
  fun m ρ _ => Cert.Scan.Gen.frame m ρ, fun m ρ _ => Cert.ScanIdeal.Gen.frame m ρ, scan_ref_frame,
  fun m ρ _ => Cert.ConfFwd.Gen.frame m ρ, fun m ρ _ => Cert.ConfFwdIdeal.Gen.frame m ρ, fun m ρ _ => Cert.ConfFwdIdeal.Gen.frame m ρ, conffwd_ref_frame, fun m ρ _ => conffwd_ref_frame m ρ trivial,
  fun m ρ _ => Cert.Mod.Gen.frame m ρ, fun m ρ _ => Cert.ModIdeal.Gen.frame m ρ, mod_ref_frame,
  fun m ρ _ => Cert.GradFfnIn.Gen.frame m ρ, fun m ρ _ => Cert.GradFfnInIdeal.Gen.frame m ρ, gradffnin_ref_frame,
  fun m ρ _ => Cert.GradFfnOut.Gen.frame m ρ, fun m ρ _ => Cert.GradFfnOutIdeal.Gen.frame m ρ, gradffnout_ref_frame,
  fun m ρ _ => Cert.AdaAdam.Gen.frame m ρ, fun m ρ _ => Cert.AdaAdamIdeal.Gen.frame m ρ, adaadam_ref_frame,
  fun m ρ _ => Cert.RedAdam.Gen.frame m ρ, fun m ρ _ => Cert.RedAdamIdeal.Gen.frame m ρ, redadam_ref_frame,
  trivial, out_value,
  trivial, in_value,
  trivial, ffn_value,
  trivial, loss_value,
  trivial, conf_value,
  trivial, fwdout_value,
  trivial, fwdin_value,
  trivial, scan_value,
  trivial, conffwd_value,
  trivial, mod_value,
  trivial, gradffnin_value,
  trivial, gradffnout_value,
  trivial, adaadam_value,
  trivial, redadam_value⟩

end Cert.Proof

end
